-- ==== Defs.lean ====
def Pre_GateK (m : (ℓ : Loc Cert.GateK.nD Cert.GateK.τ Cert.GateK.sig) → Buf (Elt Bits) ℓ) : Prop :=
  True

def Pre_GateKIdeal (m : (ℓ : Loc Cert.GateKIdeal.nD Cert.GateKIdeal.τ Cert.GateKIdeal.sig) → Buf (Elt Ideal) ℓ) : Prop :=
  True

def Pre_GateKIdeal_gate_finite [hPre_gate_finite : Cert.Pre_gate_finite.Facts] (m : (ℓ : Loc Cert.GateKIdeal.nD Cert.GateKIdeal.τ Cert.GateKIdeal.sig) → Buf (Elt Ideal) ℓ) : Prop :=
  ∀ c : Dev Cert.GateKIdeal.nD,
    (Cert.Pre_gate_finite.fn (F := Ideal) (m ((c.tc : Thread Cert.GateKIdeal.nD Cert.GateKIdeal.τ).loc Cert.GateKIdeal.main_arg0)) (m ((c.tc : Thread Cert.GateKIdeal.nD Cert.GateKIdeal.τ).loc Cert.GateKIdeal.main_arg1)) (m ((c.tc : Thread Cert.GateKIdeal.nD Cert.GateKIdeal.τ).loc Cert.GateKIdeal.main_arg2)) (m ((c.tc : Thread Cert.GateKIdeal.nD Cert.GateKIdeal.τ).loc Cert.GateKIdeal.main_arg3))) = (fun _ => 1#1)

def Pre_GateRIdeal (m : (ℓ : Loc Cert.GateRIdeal.nD Cert.GateRIdeal.τ Cert.GateRIdeal.sig) → Buf (Elt Ideal) ℓ) : Prop :=
  True

def Pre_GateRIdeal_gate_finite [hPre_gate_finite : Cert.Pre_gate_finite.Facts] (m : (ℓ : Loc Cert.GateRIdeal.nD Cert.GateRIdeal.τ Cert.GateRIdeal.sig) → Buf (Elt Ideal) ℓ) : Prop :=
  ∀ c : Dev Cert.GateRIdeal.nD,
    (Cert.Pre_gate_finite.fn (F := Ideal) (m ((c.tc : Thread Cert.GateRIdeal.nD Cert.GateRIdeal.τ).loc Cert.GateRIdeal.main_arg0)) (m ((c.tc : Thread Cert.GateRIdeal.nD Cert.GateRIdeal.τ).loc Cert.GateRIdeal.main_arg1)) (m ((c.tc : Thread Cert.GateRIdeal.nD Cert.GateRIdeal.τ).loc Cert.GateRIdeal.main_arg2)) (m ((c.tc : Thread Cert.GateRIdeal.nD Cert.GateRIdeal.τ).loc Cert.GateRIdeal.main_arg3))) = (fun _ => 1#1)

def Pre_FlaCK (m : (ℓ : Loc Cert.FlaCK.nD Cert.FlaCK.τ Cert.FlaCK.sig) → Buf (Elt Bits) ℓ) : Prop :=
  True

def Pre_FlaCKIdeal (m : (ℓ : Loc Cert.FlaCKIdeal.nD Cert.FlaCKIdeal.τ Cert.FlaCKIdeal.sig) → Buf (Elt Ideal) ℓ) : Prop :=
  True

def Pre_FlaCKIdeal_flac_finite [hPre_flac_finite : Cert.Pre_flac_finite.Facts] (m : (ℓ : Loc Cert.FlaCKIdeal.nD Cert.FlaCKIdeal.τ Cert.FlaCKIdeal.sig) → Buf (Elt Ideal) ℓ) : Prop :=
  ∀ c : Dev Cert.FlaCKIdeal.nD,
    (Cert.Pre_flac_finite.fn (F := Ideal) (m ((c.tc : Thread Cert.FlaCKIdeal.nD Cert.FlaCKIdeal.τ).loc Cert.FlaCKIdeal.main_arg0)) (m ((c.tc : Thread Cert.FlaCKIdeal.nD Cert.FlaCKIdeal.τ).loc Cert.FlaCKIdeal.main_arg1)) (m ((c.tc : Thread Cert.FlaCKIdeal.nD Cert.FlaCKIdeal.τ).loc Cert.FlaCKIdeal.main_arg2)) (m ((c.tc : Thread Cert.FlaCKIdeal.nD Cert.FlaCKIdeal.τ).loc Cert.FlaCKIdeal.main_arg3))) = (fun _ => 1#1)

def Pre_FlaCRIdeal (m : (ℓ : Loc Cert.FlaCRIdeal.nD Cert.FlaCRIdeal.τ Cert.FlaCRIdeal.sig) → Buf (Elt Ideal) ℓ) : Prop :=
  True

def Pre_FlaCRIdeal_flac_finite [hPre_flac_finite : Cert.Pre_flac_finite.Facts] (m : (ℓ : Loc Cert.FlaCRIdeal.nD Cert.FlaCRIdeal.τ Cert.FlaCRIdeal.sig) → Buf (Elt Ideal) ℓ) : Prop :=
  ∀ c : Dev Cert.FlaCRIdeal.nD,
    (Cert.Pre_flac_finite.fn (F := Ideal) (m ((c.tc : Thread Cert.FlaCRIdeal.nD Cert.FlaCRIdeal.τ).loc Cert.FlaCRIdeal.main_arg0)) (m ((c.tc : Thread Cert.FlaCRIdeal.nD Cert.FlaCRIdeal.τ).loc Cert.FlaCRIdeal.main_arg1)) (m ((c.tc : Thread Cert.FlaCRIdeal.nD Cert.FlaCRIdeal.τ).loc Cert.FlaCRIdeal.main_arg2)) (m ((c.tc : Thread Cert.FlaCRIdeal.nD Cert.FlaCRIdeal.τ).loc Cert.FlaCRIdeal.main_arg3))) = (fun _ => 1#1)

def Pre_FlaAK (m : (ℓ : Loc Cert.FlaAK.nD Cert.FlaAK.τ Cert.FlaAK.sig) → Buf (Elt Bits) ℓ) : Prop :=
  True

def Pre_FlaAKIdeal (m : (ℓ : Loc Cert.FlaAKIdeal.nD Cert.FlaAKIdeal.τ Cert.FlaAKIdeal.sig) → Buf (Elt Ideal) ℓ) : Prop :=
  True

def Pre_FlaAKIdeal_flaa_finite [hPre_flaa_finite : Cert.Pre_flaa_finite.Facts] (m : (ℓ : Loc Cert.FlaAKIdeal.nD Cert.FlaAKIdeal.τ Cert.FlaAKIdeal.sig) → Buf (Elt Ideal) ℓ) : Prop :=
  ∀ c : Dev Cert.FlaAKIdeal.nD,
    (Cert.Pre_flaa_finite.fn (F := Ideal) (m ((c.tc : Thread Cert.FlaAKIdeal.nD Cert.FlaAKIdeal.τ).loc Cert.FlaAKIdeal.main_arg0)) (m ((c.tc : Thread Cert.FlaAKIdeal.nD Cert.FlaAKIdeal.τ).loc Cert.FlaAKIdeal.main_arg1)) (m ((c.tc : Thread Cert.FlaAKIdeal.nD Cert.FlaAKIdeal.τ).loc Cert.FlaAKIdeal.main_arg2)) (m ((c.tc : Thread Cert.FlaAKIdeal.nD Cert.FlaAKIdeal.τ).loc Cert.FlaAKIdeal.main_arg3))) = (fun _ => 1#1)

def Pre_FlaARIdeal (m : (ℓ : Loc Cert.FlaARIdeal.nD Cert.FlaARIdeal.τ Cert.FlaARIdeal.sig) → Buf (Elt Ideal) ℓ) : Prop :=
  True

def Pre_FlaARIdeal_flaa_finite [hPre_flaa_finite : Cert.Pre_flaa_finite.Facts] (m : (ℓ : Loc Cert.FlaARIdeal.nD Cert.FlaARIdeal.τ Cert.FlaARIdeal.sig) → Buf (Elt Ideal) ℓ) : Prop :=
  ∀ c : Dev Cert.FlaARIdeal.nD,
    (Cert.Pre_flaa_finite.fn (F := Ideal) (m ((c.tc : Thread Cert.FlaARIdeal.nD Cert.FlaARIdeal.τ).loc Cert.FlaARIdeal.main_arg0)) (m ((c.tc : Thread Cert.FlaARIdeal.nD Cert.FlaARIdeal.τ).loc Cert.FlaARIdeal.main_arg1)) (m ((c.tc : Thread Cert.FlaARIdeal.nD Cert.FlaARIdeal.τ).loc Cert.FlaARIdeal.main_arg2)) (m ((c.tc : Thread Cert.FlaARIdeal.nD Cert.FlaARIdeal.τ).loc Cert.FlaARIdeal.main_arg3))) = (fun _ => 1#1)

def Pre_NormK (m : (ℓ : Loc Cert.NormK.nD Cert.NormK.τ Cert.NormK.sig) → Buf (Elt Bits) ℓ) : Prop :=
  True

def Pre_NormKIdeal (m : (ℓ : Loc Cert.NormKIdeal.nD Cert.NormKIdeal.τ Cert.NormKIdeal.sig) → Buf (Elt Ideal) ℓ) : Prop :=
  True

def Pre_NormKIdeal_norm_finite [hPre_norm_finite : Cert.Pre_norm_finite.Facts] (m : (ℓ : Loc Cert.NormKIdeal.nD Cert.NormKIdeal.τ Cert.NormKIdeal.sig) → Buf (Elt Ideal) ℓ) : Prop :=
  ∀ c : Dev Cert.NormKIdeal.nD,
    (Cert.Pre_norm_finite.fn (F := Ideal) (m ((c.tc : Thread Cert.NormKIdeal.nD Cert.NormKIdeal.τ).loc Cert.NormKIdeal.main_arg0)) (m ((c.tc : Thread Cert.NormKIdeal.nD Cert.NormKIdeal.τ).loc Cert.NormKIdeal.main_arg1)) (m ((c.tc : Thread Cert.NormKIdeal.nD Cert.NormKIdeal.τ).loc Cert.NormKIdeal.main_arg2)) (m ((c.tc : Thread Cert.NormKIdeal.nD Cert.NormKIdeal.τ).loc Cert.NormKIdeal.main_arg3))) = (fun _ => 1#1)

def Pre_NormRIdeal (m : (ℓ : Loc Cert.NormRIdeal.nD Cert.NormRIdeal.τ Cert.NormRIdeal.sig) → Buf (Elt Ideal) ℓ) : Prop :=
  True

def Pre_NormRIdeal_norm_finite [hPre_norm_finite : Cert.Pre_norm_finite.Facts] (m : (ℓ : Loc Cert.NormRIdeal.nD Cert.NormRIdeal.τ Cert.NormRIdeal.sig) → Buf (Elt Ideal) ℓ) : Prop :=
  ∀ c : Dev Cert.NormRIdeal.nD,
    (Cert.Pre_norm_finite.fn (F := Ideal) (m ((c.tc : Thread Cert.NormRIdeal.nD Cert.NormRIdeal.τ).loc Cert.NormRIdeal.main_arg0)) (m ((c.tc : Thread Cert.NormRIdeal.nD Cert.NormRIdeal.τ).loc Cert.NormRIdeal.main_arg1)) (m ((c.tc : Thread Cert.NormRIdeal.nD Cert.NormRIdeal.τ).loc Cert.NormRIdeal.main_arg2)) (m ((c.tc : Thread Cert.NormRIdeal.nD Cert.NormRIdeal.τ).loc Cert.NormRIdeal.main_arg3))) = (fun _ => 1#1)

def Pre_NormAK (m : (ℓ : Loc Cert.NormAK.nD Cert.NormAK.τ Cert.NormAK.sig) → Buf (Elt Bits) ℓ) : Prop :=
  True

def Pre_NormAKIdeal (m : (ℓ : Loc Cert.NormAKIdeal.nD Cert.NormAKIdeal.τ Cert.NormAKIdeal.sig) → Buf (Elt Ideal) ℓ) : Prop :=
  True

def Pre_NormAKIdeal_norma_finite [hPre_norma_finite : Cert.Pre_norma_finite.Facts] (m : (ℓ : Loc Cert.NormAKIdeal.nD Cert.NormAKIdeal.τ Cert.NormAKIdeal.sig) → Buf (Elt Ideal) ℓ) : Prop :=
  ∀ c : Dev Cert.NormAKIdeal.nD,
    (Cert.Pre_norma_finite.fn (F := Ideal) (m ((c.tc : Thread Cert.NormAKIdeal.nD Cert.NormAKIdeal.τ).loc Cert.NormAKIdeal.main_arg0)) (m ((c.tc : Thread Cert.NormAKIdeal.nD Cert.NormAKIdeal.τ).loc Cert.NormAKIdeal.main_arg1)) (m ((c.tc : Thread Cert.NormAKIdeal.nD Cert.NormAKIdeal.τ).loc Cert.NormAKIdeal.main_arg2))) = (fun _ => 1#1)

def Pre_NormARIdeal (m : (ℓ : Loc Cert.NormARIdeal.nD Cert.NormARIdeal.τ Cert.NormARIdeal.sig) → Buf (Elt Ideal) ℓ) : Prop :=
  True

def Pre_NormARIdeal_norma_finite [hPre_norma_finite : Cert.Pre_norma_finite.Facts] (m : (ℓ : Loc Cert.NormARIdeal.nD Cert.NormARIdeal.τ Cert.NormARIdeal.sig) → Buf (Elt Ideal) ℓ) : Prop :=
  ∀ c : Dev Cert.NormARIdeal.nD,
    (Cert.Pre_norma_finite.fn (F := Ideal) (m ((c.tc : Thread Cert.NormARIdeal.nD Cert.NormARIdeal.τ).loc Cert.NormARIdeal.main_arg0)) (m ((c.tc : Thread Cert.NormARIdeal.nD Cert.NormARIdeal.τ).loc Cert.NormARIdeal.main_arg1)) (m ((c.tc : Thread Cert.NormARIdeal.nD Cert.NormARIdeal.τ).loc Cert.NormARIdeal.main_arg2))) = (fun _ => 1#1)

def Pre_NormBK (m : (ℓ : Loc Cert.NormBK.nD Cert.NormBK.τ Cert.NormBK.sig) → Buf (Elt Bits) ℓ) : Prop :=
  True

def Pre_NormBKIdeal (m : (ℓ : Loc Cert.NormBKIdeal.nD Cert.NormBKIdeal.τ Cert.NormBKIdeal.sig) → Buf (Elt Ideal) ℓ) : Prop :=
  True

def Pre_NormBKIdeal_normb_finite [hPre_normb_finite : Cert.Pre_normb_finite.Facts] (m : (ℓ : Loc Cert.NormBKIdeal.nD Cert.NormBKIdeal.τ Cert.NormBKIdeal.sig) → Buf (Elt Ideal) ℓ) : Prop :=
  ∀ c : Dev Cert.NormBKIdeal.nD,
    (Cert.Pre_normb_finite.fn (F := Ideal) (m ((c.tc : Thread Cert.NormBKIdeal.nD Cert.NormBKIdeal.τ).loc Cert.NormBKIdeal.main_arg0)) (m ((c.tc : Thread Cert.NormBKIdeal.nD Cert.NormBKIdeal.τ).loc Cert.NormBKIdeal.main_arg1)) (m ((c.tc : Thread Cert.NormBKIdeal.nD Cert.NormBKIdeal.τ).loc Cert.NormBKIdeal.main_arg2))) = (fun _ => 1#1)

def Pre_NormBRIdeal (m : (ℓ : Loc Cert.NormBRIdeal.nD Cert.NormBRIdeal.τ Cert.NormBRIdeal.sig) → Buf (Elt Ideal) ℓ) : Prop :=
  True

def Pre_NormBRIdeal_normb_finite [hPre_normb_finite : Cert.Pre_normb_finite.Facts] (m : (ℓ : Loc Cert.NormBRIdeal.nD Cert.NormBRIdeal.τ Cert.NormBRIdeal.sig) → Buf (Elt Ideal) ℓ) : Prop :=
  ∀ c : Dev Cert.NormBRIdeal.nD,
    (Cert.Pre_normb_finite.fn (F := Ideal) (m ((c.tc : Thread Cert.NormBRIdeal.nD Cert.NormBRIdeal.τ).loc Cert.NormBRIdeal.main_arg0)) (m ((c.tc : Thread Cert.NormBRIdeal.nD Cert.NormBRIdeal.τ).loc Cert.NormBRIdeal.main_arg1)) (m ((c.tc : Thread Cert.NormBRIdeal.nD Cert.NormBRIdeal.τ).loc Cert.NormBRIdeal.main_arg2))) = (fun _ => 1#1)

def Pre_NormQK (m : (ℓ : Loc Cert.NormQK.nD Cert.NormQK.τ Cert.NormQK.sig) → Buf (Elt Bits) ℓ) : Prop :=
  True

def Pre_NormQKIdeal (m : (ℓ : Loc Cert.NormQKIdeal.nD Cert.NormQKIdeal.τ Cert.NormQKIdeal.sig) → Buf (Elt Ideal) ℓ) : Prop :=
  True

def Pre_NormQKIdeal_normq_finite [hPre_normq_finite : Cert.Pre_normq_finite.Facts] (m : (ℓ : Loc Cert.NormQKIdeal.nD Cert.NormQKIdeal.τ Cert.NormQKIdeal.sig) → Buf (Elt Ideal) ℓ) : Prop :=
  ∀ c : Dev Cert.NormQKIdeal.nD,
    (Cert.Pre_normq_finite.fn (F := Ideal) (m ((c.tc : Thread Cert.NormQKIdeal.nD Cert.NormQKIdeal.τ).loc Cert.NormQKIdeal.main_arg0)) (m ((c.tc : Thread Cert.NormQKIdeal.nD Cert.NormQKIdeal.τ).loc Cert.NormQKIdeal.main_arg1)) (m ((c.tc : Thread Cert.NormQKIdeal.nD Cert.NormQKIdeal.τ).loc Cert.NormQKIdeal.main_arg2))) = (fun _ => 1#1)

def Pre_NormQRIdeal (m : (ℓ : Loc Cert.NormQRIdeal.nD Cert.NormQRIdeal.τ Cert.NormQRIdeal.sig) → Buf (Elt Ideal) ℓ) : Prop :=
  True

def Pre_NormQRIdeal_normq_finite [hPre_normq_finite : Cert.Pre_normq_finite.Facts] (m : (ℓ : Loc Cert.NormQRIdeal.nD Cert.NormQRIdeal.τ Cert.NormQRIdeal.sig) → Buf (Elt Ideal) ℓ) : Prop :=
  ∀ c : Dev Cert.NormQRIdeal.nD,
    (Cert.Pre_normq_finite.fn (F := Ideal) (m ((c.tc : Thread Cert.NormQRIdeal.nD Cert.NormQRIdeal.τ).loc Cert.NormQRIdeal.main_arg0)) (m ((c.tc : Thread Cert.NormQRIdeal.nD Cert.NormQRIdeal.τ).loc Cert.NormQRIdeal.main_arg1)) (m ((c.tc : Thread Cert.NormQRIdeal.nD Cert.NormQRIdeal.τ).loc Cert.NormQRIdeal.main_arg2))) = (fun _ => 1#1)

def Pre_NormCQK (m : (ℓ : Loc Cert.NormCQK.nD Cert.NormCQK.τ Cert.NormCQK.sig) → Buf (Elt Bits) ℓ) : Prop :=
  True

def Pre_NormCQKIdeal (m : (ℓ : Loc Cert.NormCQKIdeal.nD Cert.NormCQKIdeal.τ Cert.NormCQKIdeal.sig) → Buf (Elt Ideal) ℓ) : Prop :=
  True

def Pre_NormCQKIdeal_normcq_finite [hPre_normcq_finite : Cert.Pre_normcq_finite.Facts] (m : (ℓ : Loc Cert.NormCQKIdeal.nD Cert.NormCQKIdeal.τ Cert.NormCQKIdeal.sig) → Buf (Elt Ideal) ℓ) : Prop :=
  ∀ c : Dev Cert.NormCQKIdeal.nD,
    (Cert.Pre_normcq_finite.fn (F := Ideal) (m ((c.tc : Thread Cert.NormCQKIdeal.nD Cert.NormCQKIdeal.τ).loc Cert.NormCQKIdeal.main_arg0)) (m ((c.tc : Thread Cert.NormCQKIdeal.nD Cert.NormCQKIdeal.τ).loc Cert.NormCQKIdeal.main_arg1)) (m ((c.tc : Thread Cert.NormCQKIdeal.nD Cert.NormCQKIdeal.τ).loc Cert.NormCQKIdeal.main_arg2))) = (fun _ => 1#1)

def Pre_NormCQRIdeal (m : (ℓ : Loc Cert.NormCQRIdeal.nD Cert.NormCQRIdeal.τ Cert.NormCQRIdeal.sig) → Buf (Elt Ideal) ℓ) : Prop :=
  True

def Pre_NormCQRIdeal_normcq_finite [hPre_normcq_finite : Cert.Pre_normcq_finite.Facts] (m : (ℓ : Loc Cert.NormCQRIdeal.nD Cert.NormCQRIdeal.τ Cert.NormCQRIdeal.sig) → Buf (Elt Ideal) ℓ) : Prop :=
  ∀ c : Dev Cert.NormCQRIdeal.nD,
    (Cert.Pre_normcq_finite.fn (F := Ideal) (m ((c.tc : Thread Cert.NormCQRIdeal.nD Cert.NormCQRIdeal.τ).loc Cert.NormCQRIdeal.main_arg0)) (m ((c.tc : Thread Cert.NormCQRIdeal.nD Cert.NormCQRIdeal.τ).loc Cert.NormCQRIdeal.main_arg1)) (m ((c.tc : Thread Cert.NormCQRIdeal.nD Cert.NormCQRIdeal.τ).loc Cert.NormCQRIdeal.main_arg2))) = (fun _ => 1#1)

def Pre_NormCKK (m : (ℓ : Loc Cert.NormCKK.nD Cert.NormCKK.τ Cert.NormCKK.sig) → Buf (Elt Bits) ℓ) : Prop :=
  True

def Pre_NormCKKIdeal (m : (ℓ : Loc Cert.NormCKKIdeal.nD Cert.NormCKKIdeal.τ Cert.NormCKKIdeal.sig) → Buf (Elt Ideal) ℓ) : Prop :=
  True

def Pre_NormCKKIdeal_normck_finite [hPre_normck_finite : Cert.Pre_normck_finite.Facts] (m : (ℓ : Loc Cert.NormCKKIdeal.nD Cert.NormCKKIdeal.τ Cert.NormCKKIdeal.sig) → Buf (Elt Ideal) ℓ) : Prop :=
  ∀ c : Dev Cert.NormCKKIdeal.nD,
    (Cert.Pre_normck_finite.fn (F := Ideal) (m ((c.tc : Thread Cert.NormCKKIdeal.nD Cert.NormCKKIdeal.τ).loc Cert.NormCKKIdeal.main_arg0)) (m ((c.tc : Thread Cert.NormCKKIdeal.nD Cert.NormCKKIdeal.τ).loc Cert.NormCKKIdeal.main_arg1)) (m ((c.tc : Thread Cert.NormCKKIdeal.nD Cert.NormCKKIdeal.τ).loc Cert.NormCKKIdeal.main_arg2))) = (fun _ => 1#1)

def Pre_NormCKRIdeal (m : (ℓ : Loc Cert.NormCKRIdeal.nD Cert.NormCKRIdeal.τ Cert.NormCKRIdeal.sig) → Buf (Elt Ideal) ℓ) : Prop :=
  True

def Pre_NormCKRIdeal_normck_finite [hPre_normck_finite : Cert.Pre_normck_finite.Facts] (m : (ℓ : Loc Cert.NormCKRIdeal.nD Cert.NormCKRIdeal.τ Cert.NormCKRIdeal.sig) → Buf (Elt Ideal) ℓ) : Prop :=
  ∀ c : Dev Cert.NormCKRIdeal.nD,
    (Cert.Pre_normck_finite.fn (F := Ideal) (m ((c.tc : Thread Cert.NormCKRIdeal.nD Cert.NormCKRIdeal.τ).loc Cert.NormCKRIdeal.main_arg0)) (m ((c.tc : Thread Cert.NormCKRIdeal.nD Cert.NormCKRIdeal.τ).loc Cert.NormCKRIdeal.main_arg1)) (m ((c.tc : Thread Cert.NormCKRIdeal.nD Cert.NormCKRIdeal.τ).loc Cert.NormCKRIdeal.main_arg2))) = (fun _ => 1#1)

def Pre_RopeAK (m : (ℓ : Loc Cert.RopeAK.nD Cert.RopeAK.τ Cert.RopeAK.sig) → Buf (Elt Bits) ℓ) : Prop :=
  True

def Pre_RopeAKIdeal (m : (ℓ : Loc Cert.RopeAKIdeal.nD Cert.RopeAKIdeal.τ Cert.RopeAKIdeal.sig) → Buf (Elt Ideal) ℓ) : Prop :=
  True

def Pre_RopeARIdeal (m : (ℓ : Loc Cert.RopeARIdeal.nD Cert.RopeARIdeal.τ Cert.RopeARIdeal.sig) → Buf (Elt Ideal) ℓ) : Prop :=
  True

def Pre_RopeBK (m : (ℓ : Loc Cert.RopeBK.nD Cert.RopeBK.τ Cert.RopeBK.sig) → Buf (Elt Bits) ℓ) : Prop :=
  True

def Pre_RopeBKIdeal (m : (ℓ : Loc Cert.RopeBKIdeal.nD Cert.RopeBKIdeal.τ Cert.RopeBKIdeal.sig) → Buf (Elt Ideal) ℓ) : Prop :=
  True

def Pre_RopeBRIdeal (m : (ℓ : Loc Cert.RopeBRIdeal.nD Cert.RopeBRIdeal.τ Cert.RopeBRIdeal.sig) → Buf (Elt Ideal) ℓ) : Prop :=
  True

def Pre_RopeCK (m : (ℓ : Loc Cert.RopeCK.nD Cert.RopeCK.τ Cert.RopeCK.sig) → Buf (Elt Bits) ℓ) : Prop :=
  True

def Pre_RopeCKIdeal (m : (ℓ : Loc Cert.RopeCKIdeal.nD Cert.RopeCKIdeal.τ Cert.RopeCKIdeal.sig) → Buf (Elt Ideal) ℓ) : Prop :=
  True

def Pre_RopeCRIdeal (m : (ℓ : Loc Cert.RopeCRIdeal.nD Cert.RopeCRIdeal.τ Cert.RopeCRIdeal.sig) → Buf (Elt Ideal) ℓ) : Prop :=
  True

def Pre_RopeCKK (m : (ℓ : Loc Cert.RopeCKK.nD Cert.RopeCKK.τ Cert.RopeCKK.sig) → Buf (Elt Bits) ℓ) : Prop :=
  True

def Pre_RopeCKKIdeal (m : (ℓ : Loc Cert.RopeCKKIdeal.nD Cert.RopeCKKIdeal.τ Cert.RopeCKKIdeal.sig) → Buf (Elt Ideal) ℓ) : Prop :=
  True

def Pre_RopeCKRIdeal (m : (ℓ : Loc Cert.RopeCKRIdeal.nD Cert.RopeCKRIdeal.τ Cert.RopeCKRIdeal.sig) → Buf (Elt Ideal) ℓ) : Prop :=
  True

def Pre_LossK (m : (ℓ : Loc Cert.LossK.nD Cert.LossK.τ Cert.LossK.sig) → Buf (Elt Bits) ℓ) : Prop :=
  True

def Pre_LossKIdeal (m : (ℓ : Loc Cert.LossKIdeal.nD Cert.LossKIdeal.τ Cert.LossKIdeal.sig) → Buf (Elt Ideal) ℓ) : Prop :=
  True

def Pre_LossKIdeal_loss_finite [hPre_loss_finite : Cert.Pre_loss_finite.Facts] (m : (ℓ : Loc Cert.LossKIdeal.nD Cert.LossKIdeal.τ Cert.LossKIdeal.sig) → Buf (Elt Ideal) ℓ) : Prop :=
  ∀ c : Dev Cert.LossKIdeal.nD,
    (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2))) = (fun _ => 1#1)

def Pre_LossRIdeal (m : (ℓ : Loc Cert.LossRIdeal.nD Cert.LossRIdeal.τ Cert.LossRIdeal.sig) → Buf (Elt Ideal) ℓ) : Prop :=
  True

def Pre_LossRIdeal_loss_finite [hPre_loss_finite : Cert.Pre_loss_finite.Facts] (m : (ℓ : Loc Cert.LossRIdeal.nD Cert.LossRIdeal.τ Cert.LossRIdeal.sig) → Buf (Elt Ideal) ℓ) : Prop :=
  ∀ c : Dev Cert.LossRIdeal.nD,
    (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2))) = (fun _ => 1#1)

def Pre_FlfCK (m : (ℓ : Loc Cert.FlfCK.nD Cert.FlfCK.τ Cert.FlfCK.sig) → Buf (Elt Bits) ℓ) : Prop :=
  True

def Pre_FlfCKIdeal (m : (ℓ : Loc Cert.FlfCKIdeal.nD Cert.FlfCKIdeal.τ Cert.FlfCKIdeal.sig) → Buf (Elt Ideal) ℓ) : Prop :=
  True

def Pre_FlfCKIdeal_flfc_finite [hPre_flfc_finite : Cert.Pre_flfc_finite.Facts] (m : (ℓ : Loc Cert.FlfCKIdeal.nD Cert.FlfCKIdeal.τ Cert.FlfCKIdeal.sig) → Buf (Elt Ideal) ℓ) : Prop :=
  ∀ c : Dev Cert.FlfCKIdeal.nD,
    (Cert.Pre_flfc_finite.fn (F := Ideal) (m ((c.tc : Thread Cert.FlfCKIdeal.nD Cert.FlfCKIdeal.τ).loc Cert.FlfCKIdeal.main_arg0)) (m ((c.tc : Thread Cert.FlfCKIdeal.nD Cert.FlfCKIdeal.τ).loc Cert.FlfCKIdeal.main_arg1)) (m ((c.tc : Thread Cert.FlfCKIdeal.nD Cert.FlfCKIdeal.τ).loc Cert.FlfCKIdeal.main_arg2))) = (fun _ => 1#1)

def Pre_FlfCRIdeal (m : (ℓ : Loc Cert.FlfCRIdeal.nD Cert.FlfCRIdeal.τ Cert.FlfCRIdeal.sig) → Buf (Elt Ideal) ℓ) : Prop :=
  True

def Pre_FlfCRIdeal_flfc_finite [hPre_flfc_finite : Cert.Pre_flfc_finite.Facts] (m : (ℓ : Loc Cert.FlfCRIdeal.nD Cert.FlfCRIdeal.τ Cert.FlfCRIdeal.sig) → Buf (Elt Ideal) ℓ) : Prop :=
  ∀ c : Dev Cert.FlfCRIdeal.nD,
    (Cert.Pre_flfc_finite.fn (F := Ideal) (m ((c.tc : Thread Cert.FlfCRIdeal.nD Cert.FlfCRIdeal.τ).loc Cert.FlfCRIdeal.main_arg0)) (m ((c.tc : Thread Cert.FlfCRIdeal.nD Cert.FlfCRIdeal.τ).loc Cert.FlfCRIdeal.main_arg1)) (m ((c.tc : Thread Cert.FlfCRIdeal.nD Cert.FlfCRIdeal.τ).loc Cert.FlfCRIdeal.main_arg2))) = (fun _ => 1#1)

def Pre_FlfAK (m : (ℓ : Loc Cert.FlfAK.nD Cert.FlfAK.τ Cert.FlfAK.sig) → Buf (Elt Bits) ℓ) : Prop :=
  True

def Pre_FlfAKIdeal (m : (ℓ : Loc Cert.FlfAKIdeal.nD Cert.FlfAKIdeal.τ Cert.FlfAKIdeal.sig) → Buf (Elt Ideal) ℓ) : Prop :=
  True

def Pre_FlfAKIdeal_flfa_finite [hPre_flfa_finite : Cert.Pre_flfa_finite.Facts] (m : (ℓ : Loc Cert.FlfAKIdeal.nD Cert.FlfAKIdeal.τ Cert.FlfAKIdeal.sig) → Buf (Elt Ideal) ℓ) : Prop :=
  ∀ c : Dev Cert.FlfAKIdeal.nD,
    (Cert.Pre_flfa_finite.fn (F := Ideal) (m ((c.tc : Thread Cert.FlfAKIdeal.nD Cert.FlfAKIdeal.τ).loc Cert.FlfAKIdeal.main_arg0)) (m ((c.tc : Thread Cert.FlfAKIdeal.nD Cert.FlfAKIdeal.τ).loc Cert.FlfAKIdeal.main_arg1)) (m ((c.tc : Thread Cert.FlfAKIdeal.nD Cert.FlfAKIdeal.τ).loc Cert.FlfAKIdeal.main_arg2))) = (fun _ => 1#1)

def Pre_FlfARIdeal (m : (ℓ : Loc Cert.FlfARIdeal.nD Cert.FlfARIdeal.τ Cert.FlfARIdeal.sig) → Buf (Elt Ideal) ℓ) : Prop :=
  True

def Pre_FlfARIdeal_flfa_finite [hPre_flfa_finite : Cert.Pre_flfa_finite.Facts] (m : (ℓ : Loc Cert.FlfARIdeal.nD Cert.FlfARIdeal.τ Cert.FlfARIdeal.sig) → Buf (Elt Ideal) ℓ) : Prop :=
  ∀ c : Dev Cert.FlfARIdeal.nD,
    (Cert.Pre_flfa_finite.fn (F := Ideal) (m ((c.tc : Thread Cert.FlfARIdeal.nD Cert.FlfARIdeal.τ).loc Cert.FlfARIdeal.main_arg0)) (m ((c.tc : Thread Cert.FlfARIdeal.nD Cert.FlfARIdeal.τ).loc Cert.FlfARIdeal.main_arg1)) (m ((c.tc : Thread Cert.FlfARIdeal.nD Cert.FlfARIdeal.τ).loc Cert.FlfARIdeal.main_arg2))) = (fun _ => 1#1)

def Pre_LatK (m : (ℓ : Loc Cert.LatK.nD Cert.LatK.τ Cert.LatK.sig) → Buf (Elt Bits) ℓ) : Prop :=
  True

def Pre_LatKIdeal (m : (ℓ : Loc Cert.LatKIdeal.nD Cert.LatKIdeal.τ Cert.LatKIdeal.sig) → Buf (Elt Ideal) ℓ) : Prop :=
  True

def Pre_LatKIdeal_lat_finite [hPre_lat_finite : Cert.Pre_lat_finite.Facts] (m : (ℓ : Loc Cert.LatKIdeal.nD Cert.LatKIdeal.τ Cert.LatKIdeal.sig) → Buf (Elt Ideal) ℓ) : Prop :=
  ∀ c : Dev Cert.LatKIdeal.nD,
    (Cert.Pre_lat_finite.fn (F := Ideal) (m ((c.tc : Thread Cert.LatKIdeal.nD Cert.LatKIdeal.τ).loc Cert.LatKIdeal.main_arg0)) (m ((c.tc : Thread Cert.LatKIdeal.nD Cert.LatKIdeal.τ).loc Cert.LatKIdeal.main_arg1))) = (fun _ => 1#1)

def Pre_LatRIdeal (m : (ℓ : Loc Cert.LatRIdeal.nD Cert.LatRIdeal.τ Cert.LatRIdeal.sig) → Buf (Elt Ideal) ℓ) : Prop :=
  True

def Pre_LatRIdeal_lat_finite [hPre_lat_finite : Cert.Pre_lat_finite.Facts] (m : (ℓ : Loc Cert.LatRIdeal.nD Cert.LatRIdeal.τ Cert.LatRIdeal.sig) → Buf (Elt Ideal) ℓ) : Prop :=
  ∀ c : Dev Cert.LatRIdeal.nD,
    (Cert.Pre_lat_finite.fn (F := Ideal) (m ((c.tc : Thread Cert.LatRIdeal.nD Cert.LatRIdeal.τ).loc Cert.LatRIdeal.main_arg0)) (m ((c.tc : Thread Cert.LatRIdeal.nD Cert.LatRIdeal.τ).loc Cert.LatRIdeal.main_arg1))) = (fun _ => 1#1)

def Pre_NfAK (m : (ℓ : Loc Cert.NfAK.nD Cert.NfAK.τ Cert.NfAK.sig) → Buf (Elt Bits) ℓ) : Prop :=
  True

def Pre_NfAKIdeal (m : (ℓ : Loc Cert.NfAKIdeal.nD Cert.NfAKIdeal.τ Cert.NfAKIdeal.sig) → Buf (Elt Ideal) ℓ) : Prop :=
  True

def Pre_NfARIdeal (m : (ℓ : Loc Cert.NfARIdeal.nD Cert.NfARIdeal.τ Cert.NfARIdeal.sig) → Buf (Elt Ideal) ℓ) : Prop :=
  True

def Pre_NfBK (m : (ℓ : Loc Cert.NfBK.nD Cert.NfBK.τ Cert.NfBK.sig) → Buf (Elt Bits) ℓ) : Prop :=
  True

def Pre_NfBKIdeal (m : (ℓ : Loc Cert.NfBKIdeal.nD Cert.NfBKIdeal.τ Cert.NfBKIdeal.sig) → Buf (Elt Ideal) ℓ) : Prop :=
  True

def Pre_NfBRIdeal (m : (ℓ : Loc Cert.NfBRIdeal.nD Cert.NfBRIdeal.τ Cert.NfBRIdeal.sig) → Buf (Elt Ideal) ℓ) : Prop :=
  True

def Pre_NfDK (m : (ℓ : Loc Cert.NfDK.nD Cert.NfDK.τ Cert.NfDK.sig) → Buf (Elt Bits) ℓ) : Prop :=
  True

def Pre_NfDKIdeal (m : (ℓ : Loc Cert.NfDKIdeal.nD Cert.NfDKIdeal.τ Cert.NfDKIdeal.sig) → Buf (Elt Ideal) ℓ) : Prop :=
  True

def Pre_NfDRIdeal (m : (ℓ : Loc Cert.NfDRIdeal.nD Cert.NfDRIdeal.τ Cert.NfDRIdeal.sig) → Buf (Elt Ideal) ℓ) : Prop :=
  True

def Pre_NfLK (m : (ℓ : Loc Cert.NfLK.nD Cert.NfLK.τ Cert.NfLK.sig) → Buf (Elt Bits) ℓ) : Prop :=
  True

def Pre_NfLKIdeal (m : (ℓ : Loc Cert.NfLKIdeal.nD Cert.NfLKIdeal.τ Cert.NfLKIdeal.sig) → Buf (Elt Ideal) ℓ) : Prop :=
  True

def Pre_NfLRIdeal (m : (ℓ : Loc Cert.NfLRIdeal.nD Cert.NfLRIdeal.τ Cert.NfLRIdeal.sig) → Buf (Elt Ideal) ℓ) : Prop :=
  True

def Pre_NfQK (m : (ℓ : Loc Cert.NfQK.nD Cert.NfQK.τ Cert.NfQK.sig) → Buf (Elt Bits) ℓ) : Prop :=
  True

def Pre_NfQKIdeal (m : (ℓ : Loc Cert.NfQKIdeal.nD Cert.NfQKIdeal.τ Cert.NfQKIdeal.sig) → Buf (Elt Ideal) ℓ) : Prop :=
  True

def Pre_NfQRIdeal (m : (ℓ : Loc Cert.NfQRIdeal.nD Cert.NfQRIdeal.τ Cert.NfQRIdeal.sig) → Buf (Elt Ideal) ℓ) : Prop :=
  True

def Pre_NfKK (m : (ℓ : Loc Cert.NfKK.nD Cert.NfKK.τ Cert.NfKK.sig) → Buf (Elt Bits) ℓ) : Prop :=
  True

def Pre_NfKKIdeal (m : (ℓ : Loc Cert.NfKKIdeal.nD Cert.NfKKIdeal.τ Cert.NfKKIdeal.sig) → Buf (Elt Ideal) ℓ) : Prop :=
  True

def Pre_NfKRIdeal (m : (ℓ : Loc Cert.NfKRIdeal.nD Cert.NfKRIdeal.τ Cert.NfKRIdeal.sig) → Buf (Elt Ideal) ℓ) : Prop :=
  True

def Pre_RfAK (m : (ℓ : Loc Cert.RfAK.nD Cert.RfAK.τ Cert.RfAK.sig) → Buf (Elt Bits) ℓ) : Prop :=
  True

def Pre_RfAKIdeal (m : (ℓ : Loc Cert.RfAKIdeal.nD Cert.RfAKIdeal.τ Cert.RfAKIdeal.sig) → Buf (Elt Ideal) ℓ) : Prop :=
  True

def Pre_RfARIdeal (m : (ℓ : Loc Cert.RfARIdeal.nD Cert.RfARIdeal.τ Cert.RfARIdeal.sig) → Buf (Elt Ideal) ℓ) : Prop :=
  True

def Pre_RfBK (m : (ℓ : Loc Cert.RfBK.nD Cert.RfBK.τ Cert.RfBK.sig) → Buf (Elt Bits) ℓ) : Prop :=
  True

def Pre_RfBKIdeal (m : (ℓ : Loc Cert.RfBKIdeal.nD Cert.RfBKIdeal.τ Cert.RfBKIdeal.sig) → Buf (Elt Ideal) ℓ) : Prop :=
  True

def Pre_RfBRIdeal (m : (ℓ : Loc Cert.RfBRIdeal.nD Cert.RfBRIdeal.τ Cert.RfBRIdeal.sig) → Buf (Elt Ideal) ℓ) : Prop :=
  True

def Pre_RfCK (m : (ℓ : Loc Cert.RfCK.nD Cert.RfCK.τ Cert.RfCK.sig) → Buf (Elt Bits) ℓ) : Prop :=
  True

def Pre_RfCKIdeal (m : (ℓ : Loc Cert.RfCKIdeal.nD Cert.RfCKIdeal.τ Cert.RfCKIdeal.sig) → Buf (Elt Ideal) ℓ) : Prop :=
  True

def Pre_RfCRIdeal (m : (ℓ : Loc Cert.RfCRIdeal.nD Cert.RfCRIdeal.τ Cert.RfCRIdeal.sig) → Buf (Elt Ideal) ℓ) : Prop :=
  True

def Pre_RfKK (m : (ℓ : Loc Cert.RfKK.nD Cert.RfKK.τ Cert.RfKK.sig) → Buf (Elt Bits) ℓ) : Prop :=
  True

def Pre_RfKKIdeal (m : (ℓ : Loc Cert.RfKKIdeal.nD Cert.RfKKIdeal.τ Cert.RfKKIdeal.sig) → Buf (Elt Ideal) ℓ) : Prop :=
  True

def Pre_RfKRIdeal (m : (ℓ : Loc Cert.RfKRIdeal.nD Cert.RfKRIdeal.τ Cert.RfKRIdeal.sig) → Buf (Elt Ideal) ℓ) : Prop :=
  True

def Pre_LkFK (m : (ℓ : Loc Cert.LkFK.nD Cert.LkFK.τ Cert.LkFK.sig) → Buf (Elt Bits) ℓ) : Prop :=
  True

def Pre_LkFKIdeal (m : (ℓ : Loc Cert.LkFKIdeal.nD Cert.LkFKIdeal.τ Cert.LkFKIdeal.sig) → Buf (Elt Ideal) ℓ) : Prop :=
  True

def Pre_LkFRIdeal (m : (ℓ : Loc Cert.LkFRIdeal.nD Cert.LkFRIdeal.τ Cert.LkFRIdeal.sig) → Buf (Elt Ideal) ℓ) : Prop :=
  True

def Pre_FfUK (m : (ℓ : Loc Cert.FfUK.nD Cert.FfUK.τ Cert.FfUK.sig) → Buf (Elt Bits) ℓ) : Prop :=
  True

def Pre_FfUKIdeal (m : (ℓ : Loc Cert.FfUKIdeal.nD Cert.FfUKIdeal.τ Cert.FfUKIdeal.sig) → Buf (Elt Ideal) ℓ) : Prop :=
  True

def Pre_FfUKIdeal_ffu_finite [hPre_ffu_finite : Cert.Pre_ffu_finite.Facts] (m : (ℓ : Loc Cert.FfUKIdeal.nD Cert.FfUKIdeal.τ Cert.FfUKIdeal.sig) → Buf (Elt Ideal) ℓ) : Prop :=
  ∀ c : Dev Cert.FfUKIdeal.nD,
    (Cert.Pre_ffu_finite.fn (F := Ideal) (m ((c.tc : Thread Cert.FfUKIdeal.nD Cert.FfUKIdeal.τ).loc Cert.FfUKIdeal.main_arg0)) (m ((c.tc : Thread Cert.FfUKIdeal.nD Cert.FfUKIdeal.τ).loc Cert.FfUKIdeal.main_arg1)) (m ((c.tc : Thread Cert.FfUKIdeal.nD Cert.FfUKIdeal.τ).loc Cert.FfUKIdeal.main_arg2))) = (fun _ => 1#1)

def Pre_FfURIdeal (m : (ℓ : Loc Cert.FfURIdeal.nD Cert.FfURIdeal.τ Cert.FfURIdeal.sig) → Buf (Elt Ideal) ℓ) : Prop :=
  True

def Pre_FfURIdeal_ffu_finite [hPre_ffu_finite : Cert.Pre_ffu_finite.Facts] (m : (ℓ : Loc Cert.FfURIdeal.nD Cert.FfURIdeal.τ Cert.FfURIdeal.sig) → Buf (Elt Ideal) ℓ) : Prop :=
  ∀ c : Dev Cert.FfURIdeal.nD,
    (Cert.Pre_ffu_finite.fn (F := Ideal) (m ((c.tc : Thread Cert.FfURIdeal.nD Cert.FfURIdeal.τ).loc Cert.FfURIdeal.main_arg0)) (m ((c.tc : Thread Cert.FfURIdeal.nD Cert.FfURIdeal.τ).loc Cert.FfURIdeal.main_arg1)) (m ((c.tc : Thread Cert.FfURIdeal.nD Cert.FfURIdeal.τ).loc Cert.FfURIdeal.main_arg2))) = (fun _ => 1#1)

def Pre_CcBK (m : (ℓ : Loc Cert.CcBK.nD Cert.CcBK.τ Cert.CcBK.sig) → Buf (Elt Bits) ℓ) : Prop :=
  True

def Pre_CcBKIdeal (m : (ℓ : Loc Cert.CcBKIdeal.nD Cert.CcBKIdeal.τ Cert.CcBKIdeal.sig) → Buf (Elt Ideal) ℓ) : Prop :=
  True

def Pre_CcBRIdeal (m : (ℓ : Loc Cert.CcBRIdeal.nD Cert.CcBRIdeal.τ Cert.CcBRIdeal.sig) → Buf (Elt Ideal) ℓ) : Prop :=
  True

def Pre_CcBR (m : (ℓ : Loc Cert.CcBR.nD Cert.CcBR.τ Cert.CcBR.sig) → Buf (Elt Bits) ℓ) : Prop :=
  True

def Pre_CcCK (m : (ℓ : Loc Cert.CcCK.nD Cert.CcCK.τ Cert.CcCK.sig) → Buf (Elt Bits) ℓ) : Prop :=
  True

def Pre_CcCKIdeal (m : (ℓ : Loc Cert.CcCKIdeal.nD Cert.CcCKIdeal.τ Cert.CcCKIdeal.sig) → Buf (Elt Ideal) ℓ) : Prop :=
  True

def Pre_CcCRIdeal (m : (ℓ : Loc Cert.CcCRIdeal.nD Cert.CcCRIdeal.τ Cert.CcCRIdeal.sig) → Buf (Elt Ideal) ℓ) : Prop :=
  True

def Pre_CcCR (m : (ℓ : Loc Cert.CcCR.nD Cert.CcCR.τ Cert.CcCR.sig) → Buf (Elt Bits) ℓ) : Prop :=
  True

def Pre_MmK (m : (ℓ : Loc Cert.MmK.nD Cert.MmK.τ Cert.MmK.sig) → Buf (Elt Bits) ℓ) : Prop :=
  True

def Pre_MmKIdeal (m : (ℓ : Loc Cert.MmKIdeal.nD Cert.MmKIdeal.τ Cert.MmKIdeal.sig) → Buf (Elt Ideal) ℓ) : Prop :=
  True

def Pre_MmRIdeal (m : (ℓ : Loc Cert.MmRIdeal.nD Cert.MmRIdeal.τ Cert.MmRIdeal.sig) → Buf (Elt Ideal) ℓ) : Prop :=
  True

def Pre_FudK (m : (ℓ : Loc Cert.FudK.nD Cert.FudK.τ Cert.FudK.sig) → Buf (Elt Bits) ℓ) : Prop :=
  True

def Pre_FudKIdeal (m : (ℓ : Loc Cert.FudKIdeal.nD Cert.FudKIdeal.τ Cert.FudKIdeal.sig) → Buf (Elt Ideal) ℓ) : Prop :=
  True

def Pre_FudRIdeal (m : (ℓ : Loc Cert.FudRIdeal.nD Cert.FudRIdeal.τ Cert.FudRIdeal.sig) → Buf (Elt Ideal) ℓ) : Prop :=
  True

def Pre_AdwK (m : (ℓ : Loc Cert.AdwK.nD Cert.AdwK.τ Cert.AdwK.sig) → Buf (Elt Bits) ℓ) : Prop :=
  True

def Pre_AdwKIdeal (m : (ℓ : Loc Cert.AdwKIdeal.nD Cert.AdwKIdeal.τ Cert.AdwKIdeal.sig) → Buf (Elt Ideal) ℓ) : Prop :=
  True

def Pre_AdwRIdeal (m : (ℓ : Loc Cert.AdwRIdeal.nD Cert.AdwRIdeal.τ Cert.AdwRIdeal.sig) → Buf (Elt Ideal) ℓ) : Prop :=
  True

def Pre_AdwDK (m : (ℓ : Loc Cert.AdwDK.nD Cert.AdwDK.τ Cert.AdwDK.sig) → Buf (Elt Bits) ℓ) : Prop :=
  True

def Pre_AdwDKIdeal (m : (ℓ : Loc Cert.AdwDKIdeal.nD Cert.AdwDKIdeal.τ Cert.AdwDKIdeal.sig) → Buf (Elt Ideal) ℓ) : Prop :=
  True

def Pre_AdwDRIdeal (m : (ℓ : Loc Cert.AdwDRIdeal.nD Cert.AdwDRIdeal.τ Cert.AdwDRIdeal.sig) → Buf (Elt Ideal) ℓ) : Prop :=
  True

def Pre_SadK (m : (ℓ : Loc Cert.SadK.nD Cert.SadK.τ Cert.SadK.sig) → Buf (Elt Bits) ℓ) : Prop :=
  True

def Pre_SadKIdeal (m : (ℓ : Loc Cert.SadKIdeal.nD Cert.SadKIdeal.τ Cert.SadKIdeal.sig) → Buf (Elt Ideal) ℓ) : Prop :=
  True

def Pre_SadRIdeal (m : (ℓ : Loc Cert.SadRIdeal.nD Cert.SadRIdeal.τ Cert.SadRIdeal.sig) → Buf (Elt Ideal) ℓ) : Prop :=
  True

def quiescent_GateK [hGateK : Cert.GateK.Facts] : Prop :=
  ∀ (m : (ℓ : Loc Cert.GateK.nD Cert.GateK.τ Cert.GateK.sig) → Buf (Elt Bits) ℓ) (g : Dev Cert.GateK.nD → PrngReg), Pre_GateK m →
    θ_run (Cert.GateK.defs (F := Bits)) (onTc (τ := Cert.GateK.τ) (Cert.GateK.main (F := Bits))) ⟨m, fun _ => 0, g⟩ (fun r => (∀ c : Dev Cert.GateK.nD,
      r.2.mem ((c.tc : Thread Cert.GateK.nD Cert.GateK.τ).loc Cert.GateK.main_arg0) = m ((c.tc : Thread Cert.GateK.nD Cert.GateK.τ).loc Cert.GateK.main_arg0)
      ∧ r.2.mem ((c.tc : Thread Cert.GateK.nD Cert.GateK.τ).loc Cert.GateK.main_arg1) = m ((c.tc : Thread Cert.GateK.nD Cert.GateK.τ).loc Cert.GateK.main_arg1)
      ∧ r.2.mem ((c.tc : Thread Cert.GateK.nD Cert.GateK.τ).loc Cert.GateK.main_arg2) = m ((c.tc : Thread Cert.GateK.nD Cert.GateK.τ).loc Cert.GateK.main_arg2)
      ∧ r.2.mem ((c.tc : Thread Cert.GateK.nD Cert.GateK.τ).loc Cert.GateK.main_arg3) = m ((c.tc : Thread Cert.GateK.nD Cert.GateK.τ).loc Cert.GateK.main_arg3))
      ∧ r.2.sem = fun _ => 0)

def quiescent_GateKIdeal [hGateKIdeal : Cert.GateKIdeal.Facts] : Prop :=
  ∀ (m : (ℓ : Loc Cert.GateKIdeal.nD Cert.GateKIdeal.τ Cert.GateKIdeal.sig) → Buf (Elt Ideal) ℓ) (g : Dev Cert.GateKIdeal.nD → PrngReg), Pre_GateKIdeal m →
    θ_run (Cert.GateKIdeal.defs (F := Ideal)) (onTc (τ := Cert.GateKIdeal.τ) (Cert.GateKIdeal.main (F := Ideal))) ⟨m, fun _ => 0, g⟩ (fun r => (∀ c : Dev Cert.GateKIdeal.nD,
      r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
      ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
      ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2)
      ∧ r.2.mem ((c.tc : Thread Cert.GateKIdeal.nD Cert.GateKIdeal.τ).loc Cert.GateKIdeal.main_arg3) = m ((c.tc : Thread Cert.GateKIdeal.nD Cert.GateKIdeal.τ).loc Cert.GateKIdeal.main_arg3))
      ∧ r.2.sem = fun _ => 0)

def quiescent_GateKIdeal_pre_gate_finite [hGateKIdeal : Cert.GateKIdeal.Facts] [hPre_gate_finite : Cert.Pre_gate_finite.Facts] : Prop :=
  ∀ (m : (ℓ : Loc Cert.GateKIdeal.nD Cert.GateKIdeal.τ Cert.GateKIdeal.sig) → Buf (Elt Ideal) ℓ) (g : Dev Cert.GateKIdeal.nD → PrngReg), Pre_GateKIdeal_gate_finite m →
    θ_run (Cert.GateKIdeal.defs (F := Ideal)) (onTc (τ := Cert.GateKIdeal.τ) (Cert.GateKIdeal.main (F := Ideal))) ⟨m, fun _ => 0, g⟩ (fun r => (∀ c : Dev Cert.GateKIdeal.nD,
      r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
      ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
      ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2)
      ∧ r.2.mem ((c.tc : Thread Cert.GateKIdeal.nD Cert.GateKIdeal.τ).loc Cert.GateKIdeal.main_arg3) = m ((c.tc : Thread Cert.GateKIdeal.nD Cert.GateKIdeal.τ).loc Cert.GateKIdeal.main_arg3))
      ∧ r.2.sem = fun _ => 0)

def quiescent_GateRIdeal [hGateRIdeal : Cert.GateRIdeal.Facts] : Prop :=
  ∀ (m : (ℓ : Loc Cert.GateRIdeal.nD Cert.GateRIdeal.τ Cert.GateRIdeal.sig) → Buf (Elt Ideal) ℓ) (g : Dev Cert.GateRIdeal.nD → PrngReg), Pre_GateRIdeal m →
    θ_run (Cert.GateRIdeal.defs (F := Ideal)) (onTc (τ := Cert.GateRIdeal.τ) (Cert.GateRIdeal.main (F := Ideal))) ⟨m, fun _ => 0, g⟩ (fun r => (∀ c : Dev Cert.GateRIdeal.nD,
      r.2.mem ((c.tc : Thread Cert.GateRIdeal.nD Cert.GateRIdeal.τ).loc Cert.GateRIdeal.main_arg0) = m ((c.tc : Thread Cert.GateRIdeal.nD Cert.GateRIdeal.τ).loc Cert.GateRIdeal.main_arg0)
      ∧ r.2.mem ((c.tc : Thread Cert.GateRIdeal.nD Cert.GateRIdeal.τ).loc Cert.GateRIdeal.main_arg1) = m ((c.tc : Thread Cert.GateRIdeal.nD Cert.GateRIdeal.τ).loc Cert.GateRIdeal.main_arg1)
      ∧ r.2.mem ((c.tc : Thread Cert.GateRIdeal.nD Cert.GateRIdeal.τ).loc Cert.GateRIdeal.main_arg2) = m ((c.tc : Thread Cert.GateRIdeal.nD Cert.GateRIdeal.τ).loc Cert.GateRIdeal.main_arg2)
      ∧ r.2.mem ((c.tc : Thread Cert.GateRIdeal.nD Cert.GateRIdeal.τ).loc Cert.GateRIdeal.main_arg3) = m ((c.tc : Thread Cert.GateRIdeal.nD Cert.GateRIdeal.τ).loc Cert.GateRIdeal.main_arg3))
      ∧ r.2.sem = fun _ => 0)

def quiescent_GateRIdeal_pre_gate_finite [hGateRIdeal : Cert.GateRIdeal.Facts] [hPre_gate_finite : Cert.Pre_gate_finite.Facts] : Prop :=
  ∀ (m : (ℓ : Loc Cert.GateRIdeal.nD Cert.GateRIdeal.τ Cert.GateRIdeal.sig) → Buf (Elt Ideal) ℓ) (g : Dev Cert.GateRIdeal.nD → PrngReg), Pre_GateRIdeal_gate_finite m →
    θ_run (Cert.GateRIdeal.defs (F := Ideal)) (onTc (τ := Cert.GateRIdeal.τ) (Cert.GateRIdeal.main (F := Ideal))) ⟨m, fun _ => 0, g⟩ (fun r => (∀ c : Dev Cert.GateRIdeal.nD,
      r.2.mem ((c.tc : Thread Cert.GateRIdeal.nD Cert.GateRIdeal.τ).loc Cert.GateRIdeal.main_arg0) = m ((c.tc : Thread Cert.GateRIdeal.nD Cert.GateRIdeal.τ).loc Cert.GateRIdeal.main_arg0)
      ∧ r.2.mem ((c.tc : Thread Cert.GateRIdeal.nD Cert.GateRIdeal.τ).loc Cert.GateRIdeal.main_arg1) = m ((c.tc : Thread Cert.GateRIdeal.nD Cert.GateRIdeal.τ).loc Cert.GateRIdeal.main_arg1)
      ∧ r.2.mem ((c.tc : Thread Cert.GateRIdeal.nD Cert.GateRIdeal.τ).loc Cert.GateRIdeal.main_arg2) = m ((c.tc : Thread Cert.GateRIdeal.nD Cert.GateRIdeal.τ).loc Cert.GateRIdeal.main_arg2)
      ∧ r.2.mem ((c.tc : Thread Cert.GateRIdeal.nD Cert.GateRIdeal.τ).loc Cert.GateRIdeal.main_arg3) = m ((c.tc : Thread Cert.GateRIdeal.nD Cert.GateRIdeal.τ).loc Cert.GateRIdeal.main_arg3))
      ∧ r.2.sem = fun _ => 0)

def quiescent_FlaCK [hFlaCK : Cert.FlaCK.Facts] : Prop :=
  ∀ (m : (ℓ : Loc Cert.FlaCK.nD Cert.FlaCK.τ Cert.FlaCK.sig) → Buf (Elt Bits) ℓ) (g : Dev Cert.FlaCK.nD → PrngReg), Pre_FlaCK m →
    θ_run (Cert.FlaCK.defs (F := Bits)) (onTc (τ := Cert.FlaCK.τ) (Cert.FlaCK.main (F := Bits))) ⟨m, fun _ => 0, g⟩ (fun r => (∀ c : Dev Cert.FlaCK.nD,
      r.2.mem ((c.tc : Thread Cert.FlaCK.nD Cert.FlaCK.τ).loc Cert.FlaCK.main_arg0) = m ((c.tc : Thread Cert.FlaCK.nD Cert.FlaCK.τ).loc Cert.FlaCK.main_arg0)
      ∧ r.2.mem ((c.tc : Thread Cert.FlaCK.nD Cert.FlaCK.τ).loc Cert.FlaCK.main_arg1) = m ((c.tc : Thread Cert.FlaCK.nD Cert.FlaCK.τ).loc Cert.FlaCK.main_arg1)
      ∧ r.2.mem ((c.tc : Thread Cert.FlaCK.nD Cert.FlaCK.τ).loc Cert.FlaCK.main_arg2) = m ((c.tc : Thread Cert.FlaCK.nD Cert.FlaCK.τ).loc Cert.FlaCK.main_arg2)
      ∧ r.2.mem ((c.tc : Thread Cert.FlaCK.nD Cert.FlaCK.τ).loc Cert.FlaCK.main_arg3) = m ((c.tc : Thread Cert.FlaCK.nD Cert.FlaCK.τ).loc Cert.FlaCK.main_arg3))
      ∧ r.2.sem = fun _ => 0)

def quiescent_FlaCKIdeal [hFlaCKIdeal : Cert.FlaCKIdeal.Facts] : Prop :=
  ∀ (m : (ℓ : Loc Cert.FlaCKIdeal.nD Cert.FlaCKIdeal.τ Cert.FlaCKIdeal.sig) → Buf (Elt Ideal) ℓ) (g : Dev Cert.FlaCKIdeal.nD → PrngReg), Pre_FlaCKIdeal m →
    θ_run (Cert.FlaCKIdeal.defs (F := Ideal)) (onTc (τ := Cert.FlaCKIdeal.τ) (Cert.FlaCKIdeal.main (F := Ideal))) ⟨m, fun _ => 0, g⟩ (fun r => (∀ c : Dev Cert.FlaCKIdeal.nD,
      r.2.mem ((c.tc : Thread Cert.FlaCKIdeal.nD Cert.FlaCKIdeal.τ).loc Cert.FlaCKIdeal.main_arg0) = m ((c.tc : Thread Cert.FlaCKIdeal.nD Cert.FlaCKIdeal.τ).loc Cert.FlaCKIdeal.main_arg0)
      ∧ r.2.mem ((c.tc : Thread Cert.FlaCKIdeal.nD Cert.FlaCKIdeal.τ).loc Cert.FlaCKIdeal.main_arg1) = m ((c.tc : Thread Cert.FlaCKIdeal.nD Cert.FlaCKIdeal.τ).loc Cert.FlaCKIdeal.main_arg1)
      ∧ r.2.mem ((c.tc : Thread Cert.FlaCKIdeal.nD Cert.FlaCKIdeal.τ).loc Cert.FlaCKIdeal.main_arg2) = m ((c.tc : Thread Cert.FlaCKIdeal.nD Cert.FlaCKIdeal.τ).loc Cert.FlaCKIdeal.main_arg2)
      ∧ r.2.mem ((c.tc : Thread Cert.FlaCKIdeal.nD Cert.FlaCKIdeal.τ).loc Cert.FlaCKIdeal.main_arg3) = m ((c.tc : Thread Cert.FlaCKIdeal.nD Cert.FlaCKIdeal.τ).loc Cert.FlaCKIdeal.main_arg3))
      ∧ r.2.sem = fun _ => 0)

def quiescent_FlaCKIdeal_pre_flac_finite [hFlaCKIdeal : Cert.FlaCKIdeal.Facts] [hPre_flac_finite : Cert.Pre_flac_finite.Facts] : Prop :=
  ∀ (m : (ℓ : Loc Cert.FlaCKIdeal.nD Cert.FlaCKIdeal.τ Cert.FlaCKIdeal.sig) → Buf (Elt Ideal) ℓ) (g : Dev Cert.FlaCKIdeal.nD → PrngReg), Pre_FlaCKIdeal_flac_finite m →
    θ_run (Cert.FlaCKIdeal.defs (F := Ideal)) (onTc (τ := Cert.FlaCKIdeal.τ) (Cert.FlaCKIdeal.main (F := Ideal))) ⟨m, fun _ => 0, g⟩ (fun r => (∀ c : Dev Cert.FlaCKIdeal.nD,
      r.2.mem ((c.tc : Thread Cert.FlaCKIdeal.nD Cert.FlaCKIdeal.τ).loc Cert.FlaCKIdeal.main_arg0) = m ((c.tc : Thread Cert.FlaCKIdeal.nD Cert.FlaCKIdeal.τ).loc Cert.FlaCKIdeal.main_arg0)
      ∧ r.2.mem ((c.tc : Thread Cert.FlaCKIdeal.nD Cert.FlaCKIdeal.τ).loc Cert.FlaCKIdeal.main_arg1) = m ((c.tc : Thread Cert.FlaCKIdeal.nD Cert.FlaCKIdeal.τ).loc Cert.FlaCKIdeal.main_arg1)
      ∧ r.2.mem ((c.tc : Thread Cert.FlaCKIdeal.nD Cert.FlaCKIdeal.τ).loc Cert.FlaCKIdeal.main_arg2) = m ((c.tc : Thread Cert.FlaCKIdeal.nD Cert.FlaCKIdeal.τ).loc Cert.FlaCKIdeal.main_arg2)
      ∧ r.2.mem ((c.tc : Thread Cert.FlaCKIdeal.nD Cert.FlaCKIdeal.τ).loc Cert.FlaCKIdeal.main_arg3) = m ((c.tc : Thread Cert.FlaCKIdeal.nD Cert.FlaCKIdeal.τ).loc Cert.FlaCKIdeal.main_arg3))
      ∧ r.2.sem = fun _ => 0)

def quiescent_FlaCRIdeal [hFlaCRIdeal : Cert.FlaCRIdeal.Facts] : Prop :=
  ∀ (m : (ℓ : Loc Cert.FlaCRIdeal.nD Cert.FlaCRIdeal.τ Cert.FlaCRIdeal.sig) → Buf (Elt Ideal) ℓ) (g : Dev Cert.FlaCRIdeal.nD → PrngReg), Pre_FlaCRIdeal m →
    θ_run (Cert.FlaCRIdeal.defs (F := Ideal)) (onTc (τ := Cert.FlaCRIdeal.τ) (Cert.FlaCRIdeal.main (F := Ideal))) ⟨m, fun _ => 0, g⟩ (fun r => (∀ c : Dev Cert.FlaCRIdeal.nD,
      r.2.mem ((c.tc : Thread Cert.FlaCRIdeal.nD Cert.FlaCRIdeal.τ).loc Cert.FlaCRIdeal.main_arg0) = m ((c.tc : Thread Cert.FlaCRIdeal.nD Cert.FlaCRIdeal.τ).loc Cert.FlaCRIdeal.main_arg0)
      ∧ r.2.mem ((c.tc : Thread Cert.FlaCRIdeal.nD Cert.FlaCRIdeal.τ).loc Cert.FlaCRIdeal.main_arg1) = m ((c.tc : Thread Cert.FlaCRIdeal.nD Cert.FlaCRIdeal.τ).loc Cert.FlaCRIdeal.main_arg1)
      ∧ r.2.mem ((c.tc : Thread Cert.FlaCRIdeal.nD Cert.FlaCRIdeal.τ).loc Cert.FlaCRIdeal.main_arg2) = m ((c.tc : Thread Cert.FlaCRIdeal.nD Cert.FlaCRIdeal.τ).loc Cert.FlaCRIdeal.main_arg2)
      ∧ r.2.mem ((c.tc : Thread Cert.FlaCRIdeal.nD Cert.FlaCRIdeal.τ).loc Cert.FlaCRIdeal.main_arg3) = m ((c.tc : Thread Cert.FlaCRIdeal.nD Cert.FlaCRIdeal.τ).loc Cert.FlaCRIdeal.main_arg3))
      ∧ r.2.sem = fun _ => 0)

def quiescent_FlaCRIdeal_pre_flac_finite [hFlaCRIdeal : Cert.FlaCRIdeal.Facts] [hPre_flac_finite : Cert.Pre_flac_finite.Facts] : Prop :=
  ∀ (m : (ℓ : Loc Cert.FlaCRIdeal.nD Cert.FlaCRIdeal.τ Cert.FlaCRIdeal.sig) → Buf (Elt Ideal) ℓ) (g : Dev Cert.FlaCRIdeal.nD → PrngReg), Pre_FlaCRIdeal_flac_finite m →
    θ_run (Cert.FlaCRIdeal.defs (F := Ideal)) (onTc (τ := Cert.FlaCRIdeal.τ) (Cert.FlaCRIdeal.main (F := Ideal))) ⟨m, fun _ => 0, g⟩ (fun r => (∀ c : Dev Cert.FlaCRIdeal.nD,
      r.2.mem ((c.tc : Thread Cert.FlaCRIdeal.nD Cert.FlaCRIdeal.τ).loc Cert.FlaCRIdeal.main_arg0) = m ((c.tc : Thread Cert.FlaCRIdeal.nD Cert.FlaCRIdeal.τ).loc Cert.FlaCRIdeal.main_arg0)
      ∧ r.2.mem ((c.tc : Thread Cert.FlaCRIdeal.nD Cert.FlaCRIdeal.τ).loc Cert.FlaCRIdeal.main_arg1) = m ((c.tc : Thread Cert.FlaCRIdeal.nD Cert.FlaCRIdeal.τ).loc Cert.FlaCRIdeal.main_arg1)
      ∧ r.2.mem ((c.tc : Thread Cert.FlaCRIdeal.nD Cert.FlaCRIdeal.τ).loc Cert.FlaCRIdeal.main_arg2) = m ((c.tc : Thread Cert.FlaCRIdeal.nD Cert.FlaCRIdeal.τ).loc Cert.FlaCRIdeal.main_arg2)
      ∧ r.2.mem ((c.tc : Thread Cert.FlaCRIdeal.nD Cert.FlaCRIdeal.τ).loc Cert.FlaCRIdeal.main_arg3) = m ((c.tc : Thread Cert.FlaCRIdeal.nD Cert.FlaCRIdeal.τ).loc Cert.FlaCRIdeal.main_arg3))
      ∧ r.2.sem = fun _ => 0)

def quiescent_FlaAK [hFlaAK : Cert.FlaAK.Facts] : Prop :=
  ∀ (m : (ℓ : Loc Cert.FlaAK.nD Cert.FlaAK.τ Cert.FlaAK.sig) → Buf (Elt Bits) ℓ) (g : Dev Cert.FlaAK.nD → PrngReg), Pre_FlaAK m →
    θ_run (Cert.FlaAK.defs (F := Bits)) (onTc (τ := Cert.FlaAK.τ) (Cert.FlaAK.main (F := Bits))) ⟨m, fun _ => 0, g⟩ (fun r => (∀ c : Dev Cert.FlaAK.nD,
      r.2.mem ((c.tc : Thread Cert.FlaAK.nD Cert.FlaAK.τ).loc Cert.FlaAK.main_arg0) = m ((c.tc : Thread Cert.FlaAK.nD Cert.FlaAK.τ).loc Cert.FlaAK.main_arg0)
      ∧ r.2.mem ((c.tc : Thread Cert.FlaAK.nD Cert.FlaAK.τ).loc Cert.FlaAK.main_arg1) = m ((c.tc : Thread Cert.FlaAK.nD Cert.FlaAK.τ).loc Cert.FlaAK.main_arg1)
      ∧ r.2.mem ((c.tc : Thread Cert.FlaAK.nD Cert.FlaAK.τ).loc Cert.FlaAK.main_arg2) = m ((c.tc : Thread Cert.FlaAK.nD Cert.FlaAK.τ).loc Cert.FlaAK.main_arg2)
      ∧ r.2.mem ((c.tc : Thread Cert.FlaAK.nD Cert.FlaAK.τ).loc Cert.FlaAK.main_arg3) = m ((c.tc : Thread Cert.FlaAK.nD Cert.FlaAK.τ).loc Cert.FlaAK.main_arg3))
      ∧ r.2.sem = fun _ => 0)

def quiescent_FlaAKIdeal [hFlaAKIdeal : Cert.FlaAKIdeal.Facts] : Prop :=
  ∀ (m : (ℓ : Loc Cert.FlaAKIdeal.nD Cert.FlaAKIdeal.τ Cert.FlaAKIdeal.sig) → Buf (Elt Ideal) ℓ) (g : Dev Cert.FlaAKIdeal.nD → PrngReg), Pre_FlaAKIdeal m →
    θ_run (Cert.FlaAKIdeal.defs (F := Ideal)) (onTc (τ := Cert.FlaAKIdeal.τ) (Cert.FlaAKIdeal.main (F := Ideal))) ⟨m, fun _ => 0, g⟩ (fun r => (∀ c : Dev Cert.FlaAKIdeal.nD,
      r.2.mem ((c.tc : Thread Cert.FlaAKIdeal.nD Cert.FlaAKIdeal.τ).loc Cert.FlaAKIdeal.main_arg0) = m ((c.tc : Thread Cert.FlaAKIdeal.nD Cert.FlaAKIdeal.τ).loc Cert.FlaAKIdeal.main_arg0)
      ∧ r.2.mem ((c.tc : Thread Cert.FlaAKIdeal.nD Cert.FlaAKIdeal.τ).loc Cert.FlaAKIdeal.main_arg1) = m ((c.tc : Thread Cert.FlaAKIdeal.nD Cert.FlaAKIdeal.τ).loc Cert.FlaAKIdeal.main_arg1)
      ∧ r.2.mem ((c.tc : Thread Cert.FlaAKIdeal.nD Cert.FlaAKIdeal.τ).loc Cert.FlaAKIdeal.main_arg2) = m ((c.tc : Thread Cert.FlaAKIdeal.nD Cert.FlaAKIdeal.τ).loc Cert.FlaAKIdeal.main_arg2)
      ∧ r.2.mem ((c.tc : Thread Cert.FlaAKIdeal.nD Cert.FlaAKIdeal.τ).loc Cert.FlaAKIdeal.main_arg3) = m ((c.tc : Thread Cert.FlaAKIdeal.nD Cert.FlaAKIdeal.τ).loc Cert.FlaAKIdeal.main_arg3))
      ∧ r.2.sem = fun _ => 0)

def quiescent_FlaAKIdeal_pre_flaa_finite [hFlaAKIdeal : Cert.FlaAKIdeal.Facts] [hPre_flaa_finite : Cert.Pre_flaa_finite.Facts] : Prop :=
  ∀ (m : (ℓ : Loc Cert.FlaAKIdeal.nD Cert.FlaAKIdeal.τ Cert.FlaAKIdeal.sig) → Buf (Elt Ideal) ℓ) (g : Dev Cert.FlaAKIdeal.nD → PrngReg), Pre_FlaAKIdeal_flaa_finite m →
    θ_run (Cert.FlaAKIdeal.defs (F := Ideal)) (onTc (τ := Cert.FlaAKIdeal.τ) (Cert.FlaAKIdeal.main (F := Ideal))) ⟨m, fun _ => 0, g⟩ (fun r => (∀ c : Dev Cert.FlaAKIdeal.nD,
      r.2.mem ((c.tc : Thread Cert.FlaAKIdeal.nD Cert.FlaAKIdeal.τ).loc Cert.FlaAKIdeal.main_arg0) = m ((c.tc : Thread Cert.FlaAKIdeal.nD Cert.FlaAKIdeal.τ).loc Cert.FlaAKIdeal.main_arg0)
      ∧ r.2.mem ((c.tc : Thread Cert.FlaAKIdeal.nD Cert.FlaAKIdeal.τ).loc Cert.FlaAKIdeal.main_arg1) = m ((c.tc : Thread Cert.FlaAKIdeal.nD Cert.FlaAKIdeal.τ).loc Cert.FlaAKIdeal.main_arg1)
      ∧ r.2.mem ((c.tc : Thread Cert.FlaAKIdeal.nD Cert.FlaAKIdeal.τ).loc Cert.FlaAKIdeal.main_arg2) = m ((c.tc : Thread Cert.FlaAKIdeal.nD Cert.FlaAKIdeal.τ).loc Cert.FlaAKIdeal.main_arg2)
      ∧ r.2.mem ((c.tc : Thread Cert.FlaAKIdeal.nD Cert.FlaAKIdeal.τ).loc Cert.FlaAKIdeal.main_arg3) = m ((c.tc : Thread Cert.FlaAKIdeal.nD Cert.FlaAKIdeal.τ).loc Cert.FlaAKIdeal.main_arg3))
      ∧ r.2.sem = fun _ => 0)

def quiescent_FlaARIdeal [hFlaARIdeal : Cert.FlaARIdeal.Facts] : Prop :=
  ∀ (m : (ℓ : Loc Cert.FlaARIdeal.nD Cert.FlaARIdeal.τ Cert.FlaARIdeal.sig) → Buf (Elt Ideal) ℓ) (g : Dev Cert.FlaARIdeal.nD → PrngReg), Pre_FlaARIdeal m →
    θ_run (Cert.FlaARIdeal.defs (F := Ideal)) (onTc (τ := Cert.FlaARIdeal.τ) (Cert.FlaARIdeal.main (F := Ideal))) ⟨m, fun _ => 0, g⟩ (fun r => (∀ c : Dev Cert.FlaARIdeal.nD,
      r.2.mem ((c.tc : Thread Cert.FlaARIdeal.nD Cert.FlaARIdeal.τ).loc Cert.FlaARIdeal.main_arg0) = m ((c.tc : Thread Cert.FlaARIdeal.nD Cert.FlaARIdeal.τ).loc Cert.FlaARIdeal.main_arg0)
      ∧ r.2.mem ((c.tc : Thread Cert.FlaARIdeal.nD Cert.FlaARIdeal.τ).loc Cert.FlaARIdeal.main_arg1) = m ((c.tc : Thread Cert.FlaARIdeal.nD Cert.FlaARIdeal.τ).loc Cert.FlaARIdeal.main_arg1)
      ∧ r.2.mem ((c.tc : Thread Cert.FlaARIdeal.nD Cert.FlaARIdeal.τ).loc Cert.FlaARIdeal.main_arg2) = m ((c.tc : Thread Cert.FlaARIdeal.nD Cert.FlaARIdeal.τ).loc Cert.FlaARIdeal.main_arg2)
      ∧ r.2.mem ((c.tc : Thread Cert.FlaARIdeal.nD Cert.FlaARIdeal.τ).loc Cert.FlaARIdeal.main_arg3) = m ((c.tc : Thread Cert.FlaARIdeal.nD Cert.FlaARIdeal.τ).loc Cert.FlaARIdeal.main_arg3))
      ∧ r.2.sem = fun _ => 0)

def quiescent_FlaARIdeal_pre_flaa_finite [hFlaARIdeal : Cert.FlaARIdeal.Facts] [hPre_flaa_finite : Cert.Pre_flaa_finite.Facts] : Prop :=
  ∀ (m : (ℓ : Loc Cert.FlaARIdeal.nD Cert.FlaARIdeal.τ Cert.FlaARIdeal.sig) → Buf (Elt Ideal) ℓ) (g : Dev Cert.FlaARIdeal.nD → PrngReg), Pre_FlaARIdeal_flaa_finite m →
    θ_run (Cert.FlaARIdeal.defs (F := Ideal)) (onTc (τ := Cert.FlaARIdeal.τ) (Cert.FlaARIdeal.main (F := Ideal))) ⟨m, fun _ => 0, g⟩ (fun r => (∀ c : Dev Cert.FlaARIdeal.nD,
      r.2.mem ((c.tc : Thread Cert.FlaARIdeal.nD Cert.FlaARIdeal.τ).loc Cert.FlaARIdeal.main_arg0) = m ((c.tc : Thread Cert.FlaARIdeal.nD Cert.FlaARIdeal.τ).loc Cert.FlaARIdeal.main_arg0)
      ∧ r.2.mem ((c.tc : Thread Cert.FlaARIdeal.nD Cert.FlaARIdeal.τ).loc Cert.FlaARIdeal.main_arg1) = m ((c.tc : Thread Cert.FlaARIdeal.nD Cert.FlaARIdeal.τ).loc Cert.FlaARIdeal.main_arg1)
      ∧ r.2.mem ((c.tc : Thread Cert.FlaARIdeal.nD Cert.FlaARIdeal.τ).loc Cert.FlaARIdeal.main_arg2) = m ((c.tc : Thread Cert.FlaARIdeal.nD Cert.FlaARIdeal.τ).loc Cert.FlaARIdeal.main_arg2)
      ∧ r.2.mem ((c.tc : Thread Cert.FlaARIdeal.nD Cert.FlaARIdeal.τ).loc Cert.FlaARIdeal.main_arg3) = m ((c.tc : Thread Cert.FlaARIdeal.nD Cert.FlaARIdeal.τ).loc Cert.FlaARIdeal.main_arg3))
      ∧ r.2.sem = fun _ => 0)

def quiescent_NormK [hNormK : Cert.NormK.Facts] : Prop :=
  ∀ (m : (ℓ : Loc Cert.NormK.nD Cert.NormK.τ Cert.NormK.sig) → Buf (Elt Bits) ℓ) (g : Dev Cert.NormK.nD → PrngReg), Pre_NormK m →
    θ_run (Cert.NormK.defs (F := Bits)) (onTc (τ := Cert.NormK.τ) (Cert.NormK.main (F := Bits))) ⟨m, fun _ => 0, g⟩ (fun r => (∀ c : Dev Cert.NormK.nD,
      r.2.mem ((c.tc : Thread Cert.NormK.nD Cert.NormK.τ).loc Cert.NormK.main_arg0) = m ((c.tc : Thread Cert.NormK.nD Cert.NormK.τ).loc Cert.NormK.main_arg0)
      ∧ r.2.mem ((c.tc : Thread Cert.NormK.nD Cert.NormK.τ).loc Cert.NormK.main_arg1) = m ((c.tc : Thread Cert.NormK.nD Cert.NormK.τ).loc Cert.NormK.main_arg1)
      ∧ r.2.mem ((c.tc : Thread Cert.NormK.nD Cert.NormK.τ).loc Cert.NormK.main_arg2) = m ((c.tc : Thread Cert.NormK.nD Cert.NormK.τ).loc Cert.NormK.main_arg2)
      ∧ r.2.mem ((c.tc : Thread Cert.NormK.nD Cert.NormK.τ).loc Cert.NormK.main_arg3) = m ((c.tc : Thread Cert.NormK.nD Cert.NormK.τ).loc Cert.NormK.main_arg3))
      ∧ r.2.sem = fun _ => 0)

def quiescent_NormKIdeal [hNormKIdeal : Cert.NormKIdeal.Facts] : Prop :=
  ∀ (m : (ℓ : Loc Cert.NormKIdeal.nD Cert.NormKIdeal.τ Cert.NormKIdeal.sig) → Buf (Elt Ideal) ℓ) (g : Dev Cert.NormKIdeal.nD → PrngReg), Pre_NormKIdeal m →
    θ_run (Cert.NormKIdeal.defs (F := Ideal)) (onTc (τ := Cert.NormKIdeal.τ) (Cert.NormKIdeal.main (F := Ideal))) ⟨m, fun _ => 0, g⟩ (fun r => (∀ c : Dev Cert.NormKIdeal.nD,
      r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
      ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
      ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2)
      ∧ r.2.mem ((c.tc : Thread Cert.NormKIdeal.nD Cert.NormKIdeal.τ).loc Cert.NormKIdeal.main_arg3) = m ((c.tc : Thread Cert.NormKIdeal.nD Cert.NormKIdeal.τ).loc Cert.NormKIdeal.main_arg3))
      ∧ r.2.sem = fun _ => 0)

def quiescent_NormKIdeal_pre_norm_finite [hNormKIdeal : Cert.NormKIdeal.Facts] [hPre_norm_finite : Cert.Pre_norm_finite.Facts] : Prop :=
  ∀ (m : (ℓ : Loc Cert.NormKIdeal.nD Cert.NormKIdeal.τ Cert.NormKIdeal.sig) → Buf (Elt Ideal) ℓ) (g : Dev Cert.NormKIdeal.nD → PrngReg), Pre_NormKIdeal_norm_finite m →
    θ_run (Cert.NormKIdeal.defs (F := Ideal)) (onTc (τ := Cert.NormKIdeal.τ) (Cert.NormKIdeal.main (F := Ideal))) ⟨m, fun _ => 0, g⟩ (fun r => (∀ c : Dev Cert.NormKIdeal.nD,
      r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
      ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
      ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2)
      ∧ r.2.mem ((c.tc : Thread Cert.NormKIdeal.nD Cert.NormKIdeal.τ).loc Cert.NormKIdeal.main_arg3) = m ((c.tc : Thread Cert.NormKIdeal.nD Cert.NormKIdeal.τ).loc Cert.NormKIdeal.main_arg3))
      ∧ r.2.sem = fun _ => 0)

def quiescent_NormRIdeal [hNormRIdeal : Cert.NormRIdeal.Facts] : Prop :=
  ∀ (m : (ℓ : Loc Cert.NormRIdeal.nD Cert.NormRIdeal.τ Cert.NormRIdeal.sig) → Buf (Elt Ideal) ℓ) (g : Dev Cert.NormRIdeal.nD → PrngReg), Pre_NormRIdeal m →
    θ_run (Cert.NormRIdeal.defs (F := Ideal)) (onTc (τ := Cert.NormRIdeal.τ) (Cert.NormRIdeal.main (F := Ideal))) ⟨m, fun _ => 0, g⟩ (fun r => (∀ c : Dev Cert.NormRIdeal.nD,
      r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
      ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1)
      ∧ r.2.mem ((c.tc : Thread Cert.NormRIdeal.nD Cert.NormRIdeal.τ).loc Cert.NormRIdeal.main_arg2) = m ((c.tc : Thread Cert.NormRIdeal.nD Cert.NormRIdeal.τ).loc Cert.NormRIdeal.main_arg2)
      ∧ r.2.mem ((c.tc : Thread Cert.NormRIdeal.nD Cert.NormRIdeal.τ).loc Cert.NormRIdeal.main_arg3) = m ((c.tc : Thread Cert.NormRIdeal.nD Cert.NormRIdeal.τ).loc Cert.NormRIdeal.main_arg3))
      ∧ r.2.sem = fun _ => 0)

def quiescent_NormRIdeal_pre_norm_finite [hNormRIdeal : Cert.NormRIdeal.Facts] [hPre_norm_finite : Cert.Pre_norm_finite.Facts] : Prop :=
  ∀ (m : (ℓ : Loc Cert.NormRIdeal.nD Cert.NormRIdeal.τ Cert.NormRIdeal.sig) → Buf (Elt Ideal) ℓ) (g : Dev Cert.NormRIdeal.nD → PrngReg), Pre_NormRIdeal_norm_finite m →
    θ_run (Cert.NormRIdeal.defs (F := Ideal)) (onTc (τ := Cert.NormRIdeal.τ) (Cert.NormRIdeal.main (F := Ideal))) ⟨m, fun _ => 0, g⟩ (fun r => (∀ c : Dev Cert.NormRIdeal.nD,
      r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
      ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1)
      ∧ r.2.mem ((c.tc : Thread Cert.NormRIdeal.nD Cert.NormRIdeal.τ).loc Cert.NormRIdeal.main_arg2) = m ((c.tc : Thread Cert.NormRIdeal.nD Cert.NormRIdeal.τ).loc Cert.NormRIdeal.main_arg2)
      ∧ r.2.mem ((c.tc : Thread Cert.NormRIdeal.nD Cert.NormRIdeal.τ).loc Cert.NormRIdeal.main_arg3) = m ((c.tc : Thread Cert.NormRIdeal.nD Cert.NormRIdeal.τ).loc Cert.NormRIdeal.main_arg3))
      ∧ r.2.sem = fun _ => 0)

def quiescent_NormAK [hNormAK : Cert.NormAK.Facts] : Prop :=
  ∀ (m : (ℓ : Loc Cert.NormAK.nD Cert.NormAK.τ Cert.NormAK.sig) → Buf (Elt Bits) ℓ) (g : Dev Cert.NormAK.nD → PrngReg), Pre_NormAK m →
    θ_run (Cert.NormAK.defs (F := Bits)) (onTc (τ := Cert.NormAK.τ) (Cert.NormAK.main (F := Bits))) ⟨m, fun _ => 0, g⟩ (fun r => (∀ c : Dev Cert.NormAK.nD,
      r.2.mem ((c.tc : Thread Cert.NormAK.nD Cert.NormAK.τ).loc Cert.NormAK.main_arg0) = m ((c.tc : Thread Cert.NormAK.nD Cert.NormAK.τ).loc Cert.NormAK.main_arg0)
      ∧ r.2.mem ((c.tc : Thread Cert.NormAK.nD Cert.NormAK.τ).loc Cert.NormAK.main_arg1) = m ((c.tc : Thread Cert.NormAK.nD Cert.NormAK.τ).loc Cert.NormAK.main_arg1)
      ∧ r.2.mem ((c.tc : Thread Cert.NormAK.nD Cert.NormAK.τ).loc Cert.NormAK.main_arg2) = m ((c.tc : Thread Cert.NormAK.nD Cert.NormAK.τ).loc Cert.NormAK.main_arg2))
      ∧ r.2.sem = fun _ => 0)

def quiescent_NormAKIdeal [hNormAKIdeal : Cert.NormAKIdeal.Facts] : Prop :=
  ∀ (m : (ℓ : Loc Cert.NormAKIdeal.nD Cert.NormAKIdeal.τ Cert.NormAKIdeal.sig) → Buf (Elt Ideal) ℓ) (g : Dev Cert.NormAKIdeal.nD → PrngReg), Pre_NormAKIdeal m →
    θ_run (Cert.NormAKIdeal.defs (F := Ideal)) (onTc (τ := Cert.NormAKIdeal.τ) (Cert.NormAKIdeal.main (F := Ideal))) ⟨m, fun _ => 0, g⟩ (fun r => (∀ c : Dev Cert.NormAKIdeal.nD,
      r.2.mem ((c.tc : Thread Cert.NormAKIdeal.nD Cert.NormAKIdeal.τ).loc Cert.NormAKIdeal.main_arg0) = m ((c.tc : Thread Cert.NormAKIdeal.nD Cert.NormAKIdeal.τ).loc Cert.NormAKIdeal.main_arg0)
      ∧ r.2.mem ((c.tc : Thread Cert.NormAKIdeal.nD Cert.NormAKIdeal.τ).loc Cert.NormAKIdeal.main_arg1) = m ((c.tc : Thread Cert.NormAKIdeal.nD Cert.NormAKIdeal.τ).loc Cert.NormAKIdeal.main_arg1)
      ∧ r.2.mem ((c.tc : Thread Cert.NormAKIdeal.nD Cert.NormAKIdeal.τ).loc Cert.NormAKIdeal.main_arg2) = m ((c.tc : Thread Cert.NormAKIdeal.nD Cert.NormAKIdeal.τ).loc Cert.NormAKIdeal.main_arg2))
      ∧ r.2.sem = fun _ => 0)

def quiescent_NormAKIdeal_pre_norma_finite [hNormAKIdeal : Cert.NormAKIdeal.Facts] [hPre_norma_finite : Cert.Pre_norma_finite.Facts] : Prop :=
  ∀ (m : (ℓ : Loc Cert.NormAKIdeal.nD Cert.NormAKIdeal.τ Cert.NormAKIdeal.sig) → Buf (Elt Ideal) ℓ) (g : Dev Cert.NormAKIdeal.nD → PrngReg), Pre_NormAKIdeal_norma_finite m →
    θ_run (Cert.NormAKIdeal.defs (F := Ideal)) (onTc (τ := Cert.NormAKIdeal.τ) (Cert.NormAKIdeal.main (F := Ideal))) ⟨m, fun _ => 0, g⟩ (fun r => (∀ c : Dev Cert.NormAKIdeal.nD,
      r.2.mem ((c.tc : Thread Cert.NormAKIdeal.nD Cert.NormAKIdeal.τ).loc Cert.NormAKIdeal.main_arg0) = m ((c.tc : Thread Cert.NormAKIdeal.nD Cert.NormAKIdeal.τ).loc Cert.NormAKIdeal.main_arg0)
      ∧ r.2.mem ((c.tc : Thread Cert.NormAKIdeal.nD Cert.NormAKIdeal.τ).loc Cert.NormAKIdeal.main_arg1) = m ((c.tc : Thread Cert.NormAKIdeal.nD Cert.NormAKIdeal.τ).loc Cert.NormAKIdeal.main_arg1)
      ∧ r.2.mem ((c.tc : Thread Cert.NormAKIdeal.nD Cert.NormAKIdeal.τ).loc Cert.NormAKIdeal.main_arg2) = m ((c.tc : Thread Cert.NormAKIdeal.nD Cert.NormAKIdeal.τ).loc Cert.NormAKIdeal.main_arg2))
      ∧ r.2.sem = fun _ => 0)

def quiescent_NormARIdeal [hNormARIdeal : Cert.NormARIdeal.Facts] : Prop :=
  ∀ (m : (ℓ : Loc Cert.NormARIdeal.nD Cert.NormARIdeal.τ Cert.NormARIdeal.sig) → Buf (Elt Ideal) ℓ) (g : Dev Cert.NormARIdeal.nD → PrngReg), Pre_NormARIdeal m →
    θ_run (Cert.NormARIdeal.defs (F := Ideal)) (onTc (τ := Cert.NormARIdeal.τ) (Cert.NormARIdeal.main (F := Ideal))) ⟨m, fun _ => 0, g⟩ (fun r => (∀ c : Dev Cert.NormARIdeal.nD,
      r.2.mem ((c.tc : Thread Cert.NormARIdeal.nD Cert.NormARIdeal.τ).loc Cert.NormARIdeal.main_arg0) = m ((c.tc : Thread Cert.NormARIdeal.nD Cert.NormARIdeal.τ).loc Cert.NormARIdeal.main_arg0)
      ∧ r.2.mem ((c.tc : Thread Cert.NormARIdeal.nD Cert.NormARIdeal.τ).loc Cert.NormARIdeal.main_arg1) = m ((c.tc : Thread Cert.NormARIdeal.nD Cert.NormARIdeal.τ).loc Cert.NormARIdeal.main_arg1)
      ∧ r.2.mem ((c.tc : Thread Cert.NormARIdeal.nD Cert.NormARIdeal.τ).loc Cert.NormARIdeal.main_arg2) = m ((c.tc : Thread Cert.NormARIdeal.nD Cert.NormARIdeal.τ).loc Cert.NormARIdeal.main_arg2))
      ∧ r.2.sem = fun _ => 0)

def quiescent_NormARIdeal_pre_norma_finite [hNormARIdeal : Cert.NormARIdeal.Facts] [hPre_norma_finite : Cert.Pre_norma_finite.Facts] : Prop :=
  ∀ (m : (ℓ : Loc Cert.NormARIdeal.nD Cert.NormARIdeal.τ Cert.NormARIdeal.sig) → Buf (Elt Ideal) ℓ) (g : Dev Cert.NormARIdeal.nD → PrngReg), Pre_NormARIdeal_norma_finite m →
    θ_run (Cert.NormARIdeal.defs (F := Ideal)) (onTc (τ := Cert.NormARIdeal.τ) (Cert.NormARIdeal.main (F := Ideal))) ⟨m, fun _ => 0, g⟩ (fun r => (∀ c : Dev Cert.NormARIdeal.nD,
      r.2.mem ((c.tc : Thread Cert.NormARIdeal.nD Cert.NormARIdeal.τ).loc Cert.NormARIdeal.main_arg0) = m ((c.tc : Thread Cert.NormARIdeal.nD Cert.NormARIdeal.τ).loc Cert.NormARIdeal.main_arg0)
      ∧ r.2.mem ((c.tc : Thread Cert.NormARIdeal.nD Cert.NormARIdeal.τ).loc Cert.NormARIdeal.main_arg1) = m ((c.tc : Thread Cert.NormARIdeal.nD Cert.NormARIdeal.τ).loc Cert.NormARIdeal.main_arg1)
      ∧ r.2.mem ((c.tc : Thread Cert.NormARIdeal.nD Cert.NormARIdeal.τ).loc Cert.NormARIdeal.main_arg2) = m ((c.tc : Thread Cert.NormARIdeal.nD Cert.NormARIdeal.τ).loc Cert.NormARIdeal.main_arg2))
      ∧ r.2.sem = fun _ => 0)

def quiescent_NormBK [hNormBK : Cert.NormBK.Facts] : Prop :=
  ∀ (m : (ℓ : Loc Cert.NormBK.nD Cert.NormBK.τ Cert.NormBK.sig) → Buf (Elt Bits) ℓ) (g : Dev Cert.NormBK.nD → PrngReg), Pre_NormBK m →
    θ_run (Cert.NormBK.defs (F := Bits)) (onTc (τ := Cert.NormBK.τ) (Cert.NormBK.main (F := Bits))) ⟨m, fun _ => 0, g⟩ (fun r => (∀ c : Dev Cert.NormBK.nD,
      r.2.mem ((c.tc : Thread Cert.NormBK.nD Cert.NormBK.τ).loc Cert.NormBK.main_arg0) = m ((c.tc : Thread Cert.NormBK.nD Cert.NormBK.τ).loc Cert.NormBK.main_arg0)
      ∧ r.2.mem ((c.tc : Thread Cert.NormBK.nD Cert.NormBK.τ).loc Cert.NormBK.main_arg1) = m ((c.tc : Thread Cert.NormBK.nD Cert.NormBK.τ).loc Cert.NormBK.main_arg1)
      ∧ r.2.mem ((c.tc : Thread Cert.NormBK.nD Cert.NormBK.τ).loc Cert.NormBK.main_arg2) = m ((c.tc : Thread Cert.NormBK.nD Cert.NormBK.τ).loc Cert.NormBK.main_arg2))
      ∧ r.2.sem = fun _ => 0)

def quiescent_NormBKIdeal [hNormBKIdeal : Cert.NormBKIdeal.Facts] : Prop :=
  ∀ (m : (ℓ : Loc Cert.NormBKIdeal.nD Cert.NormBKIdeal.τ Cert.NormBKIdeal.sig) → Buf (Elt Ideal) ℓ) (g : Dev Cert.NormBKIdeal.nD → PrngReg), Pre_NormBKIdeal m →
    θ_run (Cert.NormBKIdeal.defs (F := Ideal)) (onTc (τ := Cert.NormBKIdeal.τ) (Cert.NormBKIdeal.main (F := Ideal))) ⟨m, fun _ => 0, g⟩ (fun r => (∀ c : Dev Cert.NormBKIdeal.nD,
      r.2.mem ((c.tc : Thread Cert.NormBKIdeal.nD Cert.NormBKIdeal.τ).loc Cert.NormBKIdeal.main_arg0) = m ((c.tc : Thread Cert.NormBKIdeal.nD Cert.NormBKIdeal.τ).loc Cert.NormBKIdeal.main_arg0)
      ∧ r.2.mem ((c.tc : Thread Cert.NormBKIdeal.nD Cert.NormBKIdeal.τ).loc Cert.NormBKIdeal.main_arg1) = m ((c.tc : Thread Cert.NormBKIdeal.nD Cert.NormBKIdeal.τ).loc Cert.NormBKIdeal.main_arg1)
      ∧ r.2.mem ((c.tc : Thread Cert.NormBKIdeal.nD Cert.NormBKIdeal.τ).loc Cert.NormBKIdeal.main_arg2) = m ((c.tc : Thread Cert.NormBKIdeal.nD Cert.NormBKIdeal.τ).loc Cert.NormBKIdeal.main_arg2))
      ∧ r.2.sem = fun _ => 0)

def quiescent_NormBKIdeal_pre_normb_finite [hNormBKIdeal : Cert.NormBKIdeal.Facts] [hPre_normb_finite : Cert.Pre_normb_finite.Facts] : Prop :=
  ∀ (m : (ℓ : Loc Cert.NormBKIdeal.nD Cert.NormBKIdeal.τ Cert.NormBKIdeal.sig) → Buf (Elt Ideal) ℓ) (g : Dev Cert.NormBKIdeal.nD → PrngReg), Pre_NormBKIdeal_normb_finite m →
    θ_run (Cert.NormBKIdeal.defs (F := Ideal)) (onTc (τ := Cert.NormBKIdeal.τ) (Cert.NormBKIdeal.main (F := Ideal))) ⟨m, fun _ => 0, g⟩ (fun r => (∀ c : Dev Cert.NormBKIdeal.nD,
      r.2.mem ((c.tc : Thread Cert.NormBKIdeal.nD Cert.NormBKIdeal.τ).loc Cert.NormBKIdeal.main_arg0) = m ((c.tc : Thread Cert.NormBKIdeal.nD Cert.NormBKIdeal.τ).loc Cert.NormBKIdeal.main_arg0)
      ∧ r.2.mem ((c.tc : Thread Cert.NormBKIdeal.nD Cert.NormBKIdeal.τ).loc Cert.NormBKIdeal.main_arg1) = m ((c.tc : Thread Cert.NormBKIdeal.nD Cert.NormBKIdeal.τ).loc Cert.NormBKIdeal.main_arg1)
      ∧ r.2.mem ((c.tc : Thread Cert.NormBKIdeal.nD Cert.NormBKIdeal.τ).loc Cert.NormBKIdeal.main_arg2) = m ((c.tc : Thread Cert.NormBKIdeal.nD Cert.NormBKIdeal.τ).loc Cert.NormBKIdeal.main_arg2))
      ∧ r.2.sem = fun _ => 0)

def quiescent_NormBRIdeal [hNormBRIdeal : Cert.NormBRIdeal.Facts] : Prop :=
  ∀ (m : (ℓ : Loc Cert.NormBRIdeal.nD Cert.NormBRIdeal.τ Cert.NormBRIdeal.sig) → Buf (Elt Ideal) ℓ) (g : Dev Cert.NormBRIdeal.nD → PrngReg), Pre_NormBRIdeal m →
    θ_run (Cert.NormBRIdeal.defs (F := Ideal)) (onTc (τ := Cert.NormBRIdeal.τ) (Cert.NormBRIdeal.main (F := Ideal))) ⟨m, fun _ => 0, g⟩ (fun r => (∀ c : Dev Cert.NormBRIdeal.nD,
      r.2.mem ((c.tc : Thread Cert.NormBRIdeal.nD Cert.NormBRIdeal.τ).loc Cert.NormBRIdeal.main_arg0) = m ((c.tc : Thread Cert.NormBRIdeal.nD Cert.NormBRIdeal.τ).loc Cert.NormBRIdeal.main_arg0)
      ∧ r.2.mem ((c.tc : Thread Cert.NormBRIdeal.nD Cert.NormBRIdeal.τ).loc Cert.NormBRIdeal.main_arg1) = m ((c.tc : Thread Cert.NormBRIdeal.nD Cert.NormBRIdeal.τ).loc Cert.NormBRIdeal.main_arg1)
      ∧ r.2.mem ((c.tc : Thread Cert.NormBRIdeal.nD Cert.NormBRIdeal.τ).loc Cert.NormBRIdeal.main_arg2) = m ((c.tc : Thread Cert.NormBRIdeal.nD Cert.NormBRIdeal.τ).loc Cert.NormBRIdeal.main_arg2))
      ∧ r.2.sem = fun _ => 0)

def quiescent_NormBRIdeal_pre_normb_finite [hNormBRIdeal : Cert.NormBRIdeal.Facts] [hPre_normb_finite : Cert.Pre_normb_finite.Facts] : Prop :=
  ∀ (m : (ℓ : Loc Cert.NormBRIdeal.nD Cert.NormBRIdeal.τ Cert.NormBRIdeal.sig) → Buf (Elt Ideal) ℓ) (g : Dev Cert.NormBRIdeal.nD → PrngReg), Pre_NormBRIdeal_normb_finite m →
    θ_run (Cert.NormBRIdeal.defs (F := Ideal)) (onTc (τ := Cert.NormBRIdeal.τ) (Cert.NormBRIdeal.main (F := Ideal))) ⟨m, fun _ => 0, g⟩ (fun r => (∀ c : Dev Cert.NormBRIdeal.nD,
      r.2.mem ((c.tc : Thread Cert.NormBRIdeal.nD Cert.NormBRIdeal.τ).loc Cert.NormBRIdeal.main_arg0) = m ((c.tc : Thread Cert.NormBRIdeal.nD Cert.NormBRIdeal.τ).loc Cert.NormBRIdeal.main_arg0)
      ∧ r.2.mem ((c.tc : Thread Cert.NormBRIdeal.nD Cert.NormBRIdeal.τ).loc Cert.NormBRIdeal.main_arg1) = m ((c.tc : Thread Cert.NormBRIdeal.nD Cert.NormBRIdeal.τ).loc Cert.NormBRIdeal.main_arg1)
      ∧ r.2.mem ((c.tc : Thread Cert.NormBRIdeal.nD Cert.NormBRIdeal.τ).loc Cert.NormBRIdeal.main_arg2) = m ((c.tc : Thread Cert.NormBRIdeal.nD Cert.NormBRIdeal.τ).loc Cert.NormBRIdeal.main_arg2))
      ∧ r.2.sem = fun _ => 0)

def quiescent_NormQK [hNormQK : Cert.NormQK.Facts] : Prop :=
  ∀ (m : (ℓ : Loc Cert.NormQK.nD Cert.NormQK.τ Cert.NormQK.sig) → Buf (Elt Bits) ℓ) (g : Dev Cert.NormQK.nD → PrngReg), Pre_NormQK m →
    θ_run (Cert.NormQK.defs (F := Bits)) (onTc (τ := Cert.NormQK.τ) (Cert.NormQK.main (F := Bits))) ⟨m, fun _ => 0, g⟩ (fun r => (∀ c : Dev Cert.NormQK.nD,
      r.2.mem ((c.tc : Thread Cert.NormQK.nD Cert.NormQK.τ).loc Cert.NormQK.main_arg0) = m ((c.tc : Thread Cert.NormQK.nD Cert.NormQK.τ).loc Cert.NormQK.main_arg0)
      ∧ r.2.mem ((c.tc : Thread Cert.NormQK.nD Cert.NormQK.τ).loc Cert.NormQK.main_arg1) = m ((c.tc : Thread Cert.NormQK.nD Cert.NormQK.τ).loc Cert.NormQK.main_arg1)
      ∧ r.2.mem ((c.tc : Thread Cert.NormQK.nD Cert.NormQK.τ).loc Cert.NormQK.main_arg2) = m ((c.tc : Thread Cert.NormQK.nD Cert.NormQK.τ).loc Cert.NormQK.main_arg2))
      ∧ r.2.sem = fun _ => 0)

def quiescent_NormQKIdeal [hNormQKIdeal : Cert.NormQKIdeal.Facts] : Prop :=
  ∀ (m : (ℓ : Loc Cert.NormQKIdeal.nD Cert.NormQKIdeal.τ Cert.NormQKIdeal.sig) → Buf (Elt Ideal) ℓ) (g : Dev Cert.NormQKIdeal.nD → PrngReg), Pre_NormQKIdeal m →
    θ_run (Cert.NormQKIdeal.defs (F := Ideal)) (onTc (τ := Cert.NormQKIdeal.τ) (Cert.NormQKIdeal.main (F := Ideal))) ⟨m, fun _ => 0, g⟩ (fun r => (∀ c : Dev Cert.NormQKIdeal.nD,
      r.2.mem ((c.tc : Thread Cert.NormQKIdeal.nD Cert.NormQKIdeal.τ).loc Cert.NormQKIdeal.main_arg0) = m ((c.tc : Thread Cert.NormQKIdeal.nD Cert.NormQKIdeal.τ).loc Cert.NormQKIdeal.main_arg0)
      ∧ r.2.mem ((c.tc : Thread Cert.NormQKIdeal.nD Cert.NormQKIdeal.τ).loc Cert.NormQKIdeal.main_arg1) = m ((c.tc : Thread Cert.NormQKIdeal.nD Cert.NormQKIdeal.τ).loc Cert.NormQKIdeal.main_arg1)
      ∧ r.2.mem ((c.tc : Thread Cert.NormQKIdeal.nD Cert.NormQKIdeal.τ).loc Cert.NormQKIdeal.main_arg2) = m ((c.tc : Thread Cert.NormQKIdeal.nD Cert.NormQKIdeal.τ).loc Cert.NormQKIdeal.main_arg2))
      ∧ r.2.sem = fun _ => 0)

def quiescent_NormQKIdeal_pre_normq_finite [hNormQKIdeal : Cert.NormQKIdeal.Facts] [hPre_normq_finite : Cert.Pre_normq_finite.Facts] : Prop :=
  ∀ (m : (ℓ : Loc Cert.NormQKIdeal.nD Cert.NormQKIdeal.τ Cert.NormQKIdeal.sig) → Buf (Elt Ideal) ℓ) (g : Dev Cert.NormQKIdeal.nD → PrngReg), Pre_NormQKIdeal_normq_finite m →
    θ_run (Cert.NormQKIdeal.defs (F := Ideal)) (onTc (τ := Cert.NormQKIdeal.τ) (Cert.NormQKIdeal.main (F := Ideal))) ⟨m, fun _ => 0, g⟩ (fun r => (∀ c : Dev Cert.NormQKIdeal.nD,
      r.2.mem ((c.tc : Thread Cert.NormQKIdeal.nD Cert.NormQKIdeal.τ).loc Cert.NormQKIdeal.main_arg0) = m ((c.tc : Thread Cert.NormQKIdeal.nD Cert.NormQKIdeal.τ).loc Cert.NormQKIdeal.main_arg0)
      ∧ r.2.mem ((c.tc : Thread Cert.NormQKIdeal.nD Cert.NormQKIdeal.τ).loc Cert.NormQKIdeal.main_arg1) = m ((c.tc : Thread Cert.NormQKIdeal.nD Cert.NormQKIdeal.τ).loc Cert.NormQKIdeal.main_arg1)
      ∧ r.2.mem ((c.tc : Thread Cert.NormQKIdeal.nD Cert.NormQKIdeal.τ).loc Cert.NormQKIdeal.main_arg2) = m ((c.tc : Thread Cert.NormQKIdeal.nD Cert.NormQKIdeal.τ).loc Cert.NormQKIdeal.main_arg2))
      ∧ r.2.sem = fun _ => 0)

def quiescent_NormQRIdeal [hNormQRIdeal : Cert.NormQRIdeal.Facts] : Prop :=
  ∀ (m : (ℓ : Loc Cert.NormQRIdeal.nD Cert.NormQRIdeal.τ Cert.NormQRIdeal.sig) → Buf (Elt Ideal) ℓ) (g : Dev Cert.NormQRIdeal.nD → PrngReg), Pre_NormQRIdeal m →
    θ_run (Cert.NormQRIdeal.defs (F := Ideal)) (onTc (τ := Cert.NormQRIdeal.τ) (Cert.NormQRIdeal.main (F := Ideal))) ⟨m, fun _ => 0, g⟩ (fun r => (∀ c : Dev Cert.NormQRIdeal.nD,
      r.2.mem ((c.tc : Thread Cert.NormQRIdeal.nD Cert.NormQRIdeal.τ).loc Cert.NormQRIdeal.main_arg0) = m ((c.tc : Thread Cert.NormQRIdeal.nD Cert.NormQRIdeal.τ).loc Cert.NormQRIdeal.main_arg0)
      ∧ r.2.mem ((c.tc : Thread Cert.NormQRIdeal.nD Cert.NormQRIdeal.τ).loc Cert.NormQRIdeal.main_arg1) = m ((c.tc : Thread Cert.NormQRIdeal.nD Cert.NormQRIdeal.τ).loc Cert.NormQRIdeal.main_arg1)
      ∧ r.2.mem ((c.tc : Thread Cert.NormQRIdeal.nD Cert.NormQRIdeal.τ).loc Cert.NormQRIdeal.main_arg2) = m ((c.tc : Thread Cert.NormQRIdeal.nD Cert.NormQRIdeal.τ).loc Cert.NormQRIdeal.main_arg2))
      ∧ r.2.sem = fun _ => 0)

def quiescent_NormQRIdeal_pre_normq_finite [hNormQRIdeal : Cert.NormQRIdeal.Facts] [hPre_normq_finite : Cert.Pre_normq_finite.Facts] : Prop :=
  ∀ (m : (ℓ : Loc Cert.NormQRIdeal.nD Cert.NormQRIdeal.τ Cert.NormQRIdeal.sig) → Buf (Elt Ideal) ℓ) (g : Dev Cert.NormQRIdeal.nD → PrngReg), Pre_NormQRIdeal_normq_finite m →
    θ_run (Cert.NormQRIdeal.defs (F := Ideal)) (onTc (τ := Cert.NormQRIdeal.τ) (Cert.NormQRIdeal.main (F := Ideal))) ⟨m, fun _ => 0, g⟩ (fun r => (∀ c : Dev Cert.NormQRIdeal.nD,
      r.2.mem ((c.tc : Thread Cert.NormQRIdeal.nD Cert.NormQRIdeal.τ).loc Cert.NormQRIdeal.main_arg0) = m ((c.tc : Thread Cert.NormQRIdeal.nD Cert.NormQRIdeal.τ).loc Cert.NormQRIdeal.main_arg0)
      ∧ r.2.mem ((c.tc : Thread Cert.NormQRIdeal.nD Cert.NormQRIdeal.τ).loc Cert.NormQRIdeal.main_arg1) = m ((c.tc : Thread Cert.NormQRIdeal.nD Cert.NormQRIdeal.τ).loc Cert.NormQRIdeal.main_arg1)
      ∧ r.2.mem ((c.tc : Thread Cert.NormQRIdeal.nD Cert.NormQRIdeal.τ).loc Cert.NormQRIdeal.main_arg2) = m ((c.tc : Thread Cert.NormQRIdeal.nD Cert.NormQRIdeal.τ).loc Cert.NormQRIdeal.main_arg2))
      ∧ r.2.sem = fun _ => 0)

def quiescent_NormCQK [hNormCQK : Cert.NormCQK.Facts] : Prop :=
  ∀ (m : (ℓ : Loc Cert.NormCQK.nD Cert.NormCQK.τ Cert.NormCQK.sig) → Buf (Elt Bits) ℓ) (g : Dev Cert.NormCQK.nD → PrngReg), Pre_NormCQK m →
    θ_run (Cert.NormCQK.defs (F := Bits)) (onTc (τ := Cert.NormCQK.τ) (Cert.NormCQK.main (F := Bits))) ⟨m, fun _ => 0, g⟩ (fun r => (∀ c : Dev Cert.NormCQK.nD,
      r.2.mem ((c.tc : Thread Cert.NormCQK.nD Cert.NormCQK.τ).loc Cert.NormCQK.main_arg0) = m ((c.tc : Thread Cert.NormCQK.nD Cert.NormCQK.τ).loc Cert.NormCQK.main_arg0)
      ∧ r.2.mem ((c.tc : Thread Cert.NormCQK.nD Cert.NormCQK.τ).loc Cert.NormCQK.main_arg1) = m ((c.tc : Thread Cert.NormCQK.nD Cert.NormCQK.τ).loc Cert.NormCQK.main_arg1)
      ∧ r.2.mem ((c.tc : Thread Cert.NormCQK.nD Cert.NormCQK.τ).loc Cert.NormCQK.main_arg2) = m ((c.tc : Thread Cert.NormCQK.nD Cert.NormCQK.τ).loc Cert.NormCQK.main_arg2))
      ∧ r.2.sem = fun _ => 0)

def quiescent_NormCQKIdeal [hNormCQKIdeal : Cert.NormCQKIdeal.Facts] : Prop :=
  ∀ (m : (ℓ : Loc Cert.NormCQKIdeal.nD Cert.NormCQKIdeal.τ Cert.NormCQKIdeal.sig) → Buf (Elt Ideal) ℓ) (g : Dev Cert.NormCQKIdeal.nD → PrngReg), Pre_NormCQKIdeal m →
    θ_run (Cert.NormCQKIdeal.defs (F := Ideal)) (onTc (τ := Cert.NormCQKIdeal.τ) (Cert.NormCQKIdeal.main (F := Ideal))) ⟨m, fun _ => 0, g⟩ (fun r => (∀ c : Dev Cert.NormCQKIdeal.nD,
      r.2.mem ((c.tc : Thread Cert.NormCQKIdeal.nD Cert.NormCQKIdeal.τ).loc Cert.NormCQKIdeal.main_arg0) = m ((c.tc : Thread Cert.NormCQKIdeal.nD Cert.NormCQKIdeal.τ).loc Cert.NormCQKIdeal.main_arg0)
      ∧ r.2.mem ((c.tc : Thread Cert.NormCQKIdeal.nD Cert.NormCQKIdeal.τ).loc Cert.NormCQKIdeal.main_arg1) = m ((c.tc : Thread Cert.NormCQKIdeal.nD Cert.NormCQKIdeal.τ).loc Cert.NormCQKIdeal.main_arg1)
      ∧ r.2.mem ((c.tc : Thread Cert.NormCQKIdeal.nD Cert.NormCQKIdeal.τ).loc Cert.NormCQKIdeal.main_arg2) = m ((c.tc : Thread Cert.NormCQKIdeal.nD Cert.NormCQKIdeal.τ).loc Cert.NormCQKIdeal.main_arg2))
      ∧ r.2.sem = fun _ => 0)

def quiescent_NormCQKIdeal_pre_normcq_finite [hNormCQKIdeal : Cert.NormCQKIdeal.Facts] [hPre_normcq_finite : Cert.Pre_normcq_finite.Facts] : Prop :=
  ∀ (m : (ℓ : Loc Cert.NormCQKIdeal.nD Cert.NormCQKIdeal.τ Cert.NormCQKIdeal.sig) → Buf (Elt Ideal) ℓ) (g : Dev Cert.NormCQKIdeal.nD → PrngReg), Pre_NormCQKIdeal_normcq_finite m →
    θ_run (Cert.NormCQKIdeal.defs (F := Ideal)) (onTc (τ := Cert.NormCQKIdeal.τ) (Cert.NormCQKIdeal.main (F := Ideal))) ⟨m, fun _ => 0, g⟩ (fun r => (∀ c : Dev Cert.NormCQKIdeal.nD,
      r.2.mem ((c.tc : Thread Cert.NormCQKIdeal.nD Cert.NormCQKIdeal.τ).loc Cert.NormCQKIdeal.main_arg0) = m ((c.tc : Thread Cert.NormCQKIdeal.nD Cert.NormCQKIdeal.τ).loc Cert.NormCQKIdeal.main_arg0)
      ∧ r.2.mem ((c.tc : Thread Cert.NormCQKIdeal.nD Cert.NormCQKIdeal.τ).loc Cert.NormCQKIdeal.main_arg1) = m ((c.tc : Thread Cert.NormCQKIdeal.nD Cert.NormCQKIdeal.τ).loc Cert.NormCQKIdeal.main_arg1)
      ∧ r.2.mem ((c.tc : Thread Cert.NormCQKIdeal.nD Cert.NormCQKIdeal.τ).loc Cert.NormCQKIdeal.main_arg2) = m ((c.tc : Thread Cert.NormCQKIdeal.nD Cert.NormCQKIdeal.τ).loc Cert.NormCQKIdeal.main_arg2))
      ∧ r.2.sem = fun _ => 0)

def quiescent_NormCQRIdeal [hNormCQRIdeal : Cert.NormCQRIdeal.Facts] : Prop :=
  ∀ (m : (ℓ : Loc Cert.NormCQRIdeal.nD Cert.NormCQRIdeal.τ Cert.NormCQRIdeal.sig) → Buf (Elt Ideal) ℓ) (g : Dev Cert.NormCQRIdeal.nD → PrngReg), Pre_NormCQRIdeal m →
    θ_run (Cert.NormCQRIdeal.defs (F := Ideal)) (onTc (τ := Cert.NormCQRIdeal.τ) (Cert.NormCQRIdeal.main (F := Ideal))) ⟨m, fun _ => 0, g⟩ (fun r => (∀ c : Dev Cert.NormCQRIdeal.nD,
      r.2.mem ((c.tc : Thread Cert.NormCQRIdeal.nD Cert.NormCQRIdeal.τ).loc Cert.NormCQRIdeal.main_arg0) = m ((c.tc : Thread Cert.NormCQRIdeal.nD Cert.NormCQRIdeal.τ).loc Cert.NormCQRIdeal.main_arg0)
      ∧ r.2.mem ((c.tc : Thread Cert.NormCQRIdeal.nD Cert.NormCQRIdeal.τ).loc Cert.NormCQRIdeal.main_arg1) = m ((c.tc : Thread Cert.NormCQRIdeal.nD Cert.NormCQRIdeal.τ).loc Cert.NormCQRIdeal.main_arg1)
      ∧ r.2.mem ((c.tc : Thread Cert.NormCQRIdeal.nD Cert.NormCQRIdeal.τ).loc Cert.NormCQRIdeal.main_arg2) = m ((c.tc : Thread Cert.NormCQRIdeal.nD Cert.NormCQRIdeal.τ).loc Cert.NormCQRIdeal.main_arg2))
      ∧ r.2.sem = fun _ => 0)

def quiescent_NormCQRIdeal_pre_normcq_finite [hNormCQRIdeal : Cert.NormCQRIdeal.Facts] [hPre_normcq_finite : Cert.Pre_normcq_finite.Facts] : Prop :=
  ∀ (m : (ℓ : Loc Cert.NormCQRIdeal.nD Cert.NormCQRIdeal.τ Cert.NormCQRIdeal.sig) → Buf (Elt Ideal) ℓ) (g : Dev Cert.NormCQRIdeal.nD → PrngReg), Pre_NormCQRIdeal_normcq_finite m →
    θ_run (Cert.NormCQRIdeal.defs (F := Ideal)) (onTc (τ := Cert.NormCQRIdeal.τ) (Cert.NormCQRIdeal.main (F := Ideal))) ⟨m, fun _ => 0, g⟩ (fun r => (∀ c : Dev Cert.NormCQRIdeal.nD,
      r.2.mem ((c.tc : Thread Cert.NormCQRIdeal.nD Cert.NormCQRIdeal.τ).loc Cert.NormCQRIdeal.main_arg0) = m ((c.tc : Thread Cert.NormCQRIdeal.nD Cert.NormCQRIdeal.τ).loc Cert.NormCQRIdeal.main_arg0)
      ∧ r.2.mem ((c.tc : Thread Cert.NormCQRIdeal.nD Cert.NormCQRIdeal.τ).loc Cert.NormCQRIdeal.main_arg1) = m ((c.tc : Thread Cert.NormCQRIdeal.nD Cert.NormCQRIdeal.τ).loc Cert.NormCQRIdeal.main_arg1)
      ∧ r.2.mem ((c.tc : Thread Cert.NormCQRIdeal.nD Cert.NormCQRIdeal.τ).loc Cert.NormCQRIdeal.main_arg2) = m ((c.tc : Thread Cert.NormCQRIdeal.nD Cert.NormCQRIdeal.τ).loc Cert.NormCQRIdeal.main_arg2))
      ∧ r.2.sem = fun _ => 0)

def quiescent_NormCKK [hNormCKK : Cert.NormCKK.Facts] : Prop :=
  ∀ (m : (ℓ : Loc Cert.NormCKK.nD Cert.NormCKK.τ Cert.NormCKK.sig) → Buf (Elt Bits) ℓ) (g : Dev Cert.NormCKK.nD → PrngReg), Pre_NormCKK m →
    θ_run (Cert.NormCKK.defs (F := Bits)) (onTc (τ := Cert.NormCKK.τ) (Cert.NormCKK.main (F := Bits))) ⟨m, fun _ => 0, g⟩ (fun r => (∀ c : Dev Cert.NormCKK.nD,
      r.2.mem ((c.tc : Thread Cert.NormCKK.nD Cert.NormCKK.τ).loc Cert.NormCKK.main_arg0) = m ((c.tc : Thread Cert.NormCKK.nD Cert.NormCKK.τ).loc Cert.NormCKK.main_arg0)
      ∧ r.2.mem ((c.tc : Thread Cert.NormCKK.nD Cert.NormCKK.τ).loc Cert.NormCKK.main_arg1) = m ((c.tc : Thread Cert.NormCKK.nD Cert.NormCKK.τ).loc Cert.NormCKK.main_arg1)
      ∧ r.2.mem ((c.tc : Thread Cert.NormCKK.nD Cert.NormCKK.τ).loc Cert.NormCKK.main_arg2) = m ((c.tc : Thread Cert.NormCKK.nD Cert.NormCKK.τ).loc Cert.NormCKK.main_arg2))
      ∧ r.2.sem = fun _ => 0)

def quiescent_NormCKKIdeal [hNormCKKIdeal : Cert.NormCKKIdeal.Facts] : Prop :=
  ∀ (m : (ℓ : Loc Cert.NormCKKIdeal.nD Cert.NormCKKIdeal.τ Cert.NormCKKIdeal.sig) → Buf (Elt Ideal) ℓ) (g : Dev Cert.NormCKKIdeal.nD → PrngReg), Pre_NormCKKIdeal m →
    θ_run (Cert.NormCKKIdeal.defs (F := Ideal)) (onTc (τ := Cert.NormCKKIdeal.τ) (Cert.NormCKKIdeal.main (F := Ideal))) ⟨m, fun _ => 0, g⟩ (fun r => (∀ c : Dev Cert.NormCKKIdeal.nD,
      r.2.mem ((c.tc : Thread Cert.NormCKKIdeal.nD Cert.NormCKKIdeal.τ).loc Cert.NormCKKIdeal.main_arg0) = m ((c.tc : Thread Cert.NormCKKIdeal.nD Cert.NormCKKIdeal.τ).loc Cert.NormCKKIdeal.main_arg0)
      ∧ r.2.mem ((c.tc : Thread Cert.NormCKKIdeal.nD Cert.NormCKKIdeal.τ).loc Cert.NormCKKIdeal.main_arg1) = m ((c.tc : Thread Cert.NormCKKIdeal.nD Cert.NormCKKIdeal.τ).loc Cert.NormCKKIdeal.main_arg1)
      ∧ r.2.mem ((c.tc : Thread Cert.NormCKKIdeal.nD Cert.NormCKKIdeal.τ).loc Cert.NormCKKIdeal.main_arg2) = m ((c.tc : Thread Cert.NormCKKIdeal.nD Cert.NormCKKIdeal.τ).loc Cert.NormCKKIdeal.main_arg2))
      ∧ r.2.sem = fun _ => 0)

def quiescent_NormCKKIdeal_pre_normck_finite [hNormCKKIdeal : Cert.NormCKKIdeal.Facts] [hPre_normck_finite : Cert.Pre_normck_finite.Facts] : Prop :=
  ∀ (m : (ℓ : Loc Cert.NormCKKIdeal.nD Cert.NormCKKIdeal.τ Cert.NormCKKIdeal.sig) → Buf (Elt Ideal) ℓ) (g : Dev Cert.NormCKKIdeal.nD → PrngReg), Pre_NormCKKIdeal_normck_finite m →
    θ_run (Cert.NormCKKIdeal.defs (F := Ideal)) (onTc (τ := Cert.NormCKKIdeal.τ) (Cert.NormCKKIdeal.main (F := Ideal))) ⟨m, fun _ => 0, g⟩ (fun r => (∀ c : Dev Cert.NormCKKIdeal.nD,
      r.2.mem ((c.tc : Thread Cert.NormCKKIdeal.nD Cert.NormCKKIdeal.τ).loc Cert.NormCKKIdeal.main_arg0) = m ((c.tc : Thread Cert.NormCKKIdeal.nD Cert.NormCKKIdeal.τ).loc Cert.NormCKKIdeal.main_arg0)
      ∧ r.2.mem ((c.tc : Thread Cert.NormCKKIdeal.nD Cert.NormCKKIdeal.τ).loc Cert.NormCKKIdeal.main_arg1) = m ((c.tc : Thread Cert.NormCKKIdeal.nD Cert.NormCKKIdeal.τ).loc Cert.NormCKKIdeal.main_arg1)
      ∧ r.2.mem ((c.tc : Thread Cert.NormCKKIdeal.nD Cert.NormCKKIdeal.τ).loc Cert.NormCKKIdeal.main_arg2) = m ((c.tc : Thread Cert.NormCKKIdeal.nD Cert.NormCKKIdeal.τ).loc Cert.NormCKKIdeal.main_arg2))
      ∧ r.2.sem = fun _ => 0)

def quiescent_NormCKRIdeal [hNormCKRIdeal : Cert.NormCKRIdeal.Facts] : Prop :=
  ∀ (m : (ℓ : Loc Cert.NormCKRIdeal.nD Cert.NormCKRIdeal.τ Cert.NormCKRIdeal.sig) → Buf (Elt Ideal) ℓ) (g : Dev Cert.NormCKRIdeal.nD → PrngReg), Pre_NormCKRIdeal m →
    θ_run (Cert.NormCKRIdeal.defs (F := Ideal)) (onTc (τ := Cert.NormCKRIdeal.τ) (Cert.NormCKRIdeal.main (F := Ideal))) ⟨m, fun _ => 0, g⟩ (fun r => (∀ c : Dev Cert.NormCKRIdeal.nD,
      r.2.mem ((c.tc : Thread Cert.NormCKRIdeal.nD Cert.NormCKRIdeal.τ).loc Cert.NormCKRIdeal.main_arg0) = m ((c.tc : Thread Cert.NormCKRIdeal.nD Cert.NormCKRIdeal.τ).loc Cert.NormCKRIdeal.main_arg0)
      ∧ r.2.mem ((c.tc : Thread Cert.NormCKRIdeal.nD Cert.NormCKRIdeal.τ).loc Cert.NormCKRIdeal.main_arg1) = m ((c.tc : Thread Cert.NormCKRIdeal.nD Cert.NormCKRIdeal.τ).loc Cert.NormCKRIdeal.main_arg1)
      ∧ r.2.mem ((c.tc : Thread Cert.NormCKRIdeal.nD Cert.NormCKRIdeal.τ).loc Cert.NormCKRIdeal.main_arg2) = m ((c.tc : Thread Cert.NormCKRIdeal.nD Cert.NormCKRIdeal.τ).loc Cert.NormCKRIdeal.main_arg2))
      ∧ r.2.sem = fun _ => 0)

def quiescent_NormCKRIdeal_pre_normck_finite [hNormCKRIdeal : Cert.NormCKRIdeal.Facts] [hPre_normck_finite : Cert.Pre_normck_finite.Facts] : Prop :=
  ∀ (m : (ℓ : Loc Cert.NormCKRIdeal.nD Cert.NormCKRIdeal.τ Cert.NormCKRIdeal.sig) → Buf (Elt Ideal) ℓ) (g : Dev Cert.NormCKRIdeal.nD → PrngReg), Pre_NormCKRIdeal_normck_finite m →
    θ_run (Cert.NormCKRIdeal.defs (F := Ideal)) (onTc (τ := Cert.NormCKRIdeal.τ) (Cert.NormCKRIdeal.main (F := Ideal))) ⟨m, fun _ => 0, g⟩ (fun r => (∀ c : Dev Cert.NormCKRIdeal.nD,
      r.2.mem ((c.tc : Thread Cert.NormCKRIdeal.nD Cert.NormCKRIdeal.τ).loc Cert.NormCKRIdeal.main_arg0) = m ((c.tc : Thread Cert.NormCKRIdeal.nD Cert.NormCKRIdeal.τ).loc Cert.NormCKRIdeal.main_arg0)
      ∧ r.2.mem ((c.tc : Thread Cert.NormCKRIdeal.nD Cert.NormCKRIdeal.τ).loc Cert.NormCKRIdeal.main_arg1) = m ((c.tc : Thread Cert.NormCKRIdeal.nD Cert.NormCKRIdeal.τ).loc Cert.NormCKRIdeal.main_arg1)
      ∧ r.2.mem ((c.tc : Thread Cert.NormCKRIdeal.nD Cert.NormCKRIdeal.τ).loc Cert.NormCKRIdeal.main_arg2) = m ((c.tc : Thread Cert.NormCKRIdeal.nD Cert.NormCKRIdeal.τ).loc Cert.NormCKRIdeal.main_arg2))
      ∧ r.2.sem = fun _ => 0)

def quiescent_RopeAK [hRopeAK : Cert.RopeAK.Facts] : Prop :=
  ∀ (m : (ℓ : Loc Cert.RopeAK.nD Cert.RopeAK.τ Cert.RopeAK.sig) → Buf (Elt Bits) ℓ) (g : Dev Cert.RopeAK.nD → PrngReg), Pre_RopeAK m →
    θ_run (Cert.RopeAK.defs (F := Bits)) (onTc (τ := Cert.RopeAK.τ) (Cert.RopeAK.main (F := Bits))) ⟨m, fun _ => 0, g⟩ (fun r => (∀ c : Dev Cert.RopeAK.nD,
      r.2.mem ((c.tc : Thread Cert.RopeAK.nD Cert.RopeAK.τ).loc Cert.RopeAK.main_arg0) = m ((c.tc : Thread Cert.RopeAK.nD Cert.RopeAK.τ).loc Cert.RopeAK.main_arg0))
      ∧ r.2.sem = fun _ => 0)

def quiescent_RopeAKIdeal [hRopeAKIdeal : Cert.RopeAKIdeal.Facts] : Prop :=
  ∀ (m : (ℓ : Loc Cert.RopeAKIdeal.nD Cert.RopeAKIdeal.τ Cert.RopeAKIdeal.sig) → Buf (Elt Ideal) ℓ) (g : Dev Cert.RopeAKIdeal.nD → PrngReg), Pre_RopeAKIdeal m →
    θ_run (Cert.RopeAKIdeal.defs (F := Ideal)) (onTc (τ := Cert.RopeAKIdeal.τ) (Cert.RopeAKIdeal.main (F := Ideal))) ⟨m, fun _ => 0, g⟩ (fun r => (∀ c : Dev Cert.RopeAKIdeal.nD,
      r.2.mem ((c.tc : Thread Cert.RopeAKIdeal.nD Cert.RopeAKIdeal.τ).loc Cert.RopeAKIdeal.main_arg0) = m ((c.tc : Thread Cert.RopeAKIdeal.nD Cert.RopeAKIdeal.τ).loc Cert.RopeAKIdeal.main_arg0))
      ∧ r.2.sem = fun _ => 0)

def quiescent_RopeARIdeal [hRopeARIdeal : Cert.RopeARIdeal.Facts] : Prop :=
  ∀ (m : (ℓ : Loc Cert.RopeARIdeal.nD Cert.RopeARIdeal.τ Cert.RopeARIdeal.sig) → Buf (Elt Ideal) ℓ) (g : Dev Cert.RopeARIdeal.nD → PrngReg), Pre_RopeARIdeal m →
    θ_run (Cert.RopeARIdeal.defs (F := Ideal)) (onTc (τ := Cert.RopeARIdeal.τ) (Cert.RopeARIdeal.main (F := Ideal))) ⟨m, fun _ => 0, g⟩ (fun r => (∀ c : Dev Cert.RopeARIdeal.nD,
      r.2.mem ((c.tc : Thread Cert.RopeARIdeal.nD Cert.RopeARIdeal.τ).loc Cert.RopeARIdeal.main_arg0) = m ((c.tc : Thread Cert.RopeARIdeal.nD Cert.RopeARIdeal.τ).loc Cert.RopeARIdeal.main_arg0))
      ∧ r.2.sem = fun _ => 0)

def quiescent_RopeBK [hRopeBK : Cert.RopeBK.Facts] : Prop :=
  ∀ (m : (ℓ : Loc Cert.RopeBK.nD Cert.RopeBK.τ Cert.RopeBK.sig) → Buf (Elt Bits) ℓ) (g : Dev Cert.RopeBK.nD → PrngReg), Pre_RopeBK m →
    θ_run (Cert.RopeBK.defs (F := Bits)) (onTc (τ := Cert.RopeBK.τ) (Cert.RopeBK.main (F := Bits))) ⟨m, fun _ => 0, g⟩ (fun r => (∀ c : Dev Cert.RopeBK.nD,
      r.2.mem ((c.tc : Thread Cert.RopeBK.nD Cert.RopeBK.τ).loc Cert.RopeBK.main_arg0) = m ((c.tc : Thread Cert.RopeBK.nD Cert.RopeBK.τ).loc Cert.RopeBK.main_arg0))
      ∧ r.2.sem = fun _ => 0)

def quiescent_RopeBKIdeal [hRopeBKIdeal : Cert.RopeBKIdeal.Facts] : Prop :=
  ∀ (m : (ℓ : Loc Cert.RopeBKIdeal.nD Cert.RopeBKIdeal.τ Cert.RopeBKIdeal.sig) → Buf (Elt Ideal) ℓ) (g : Dev Cert.RopeBKIdeal.nD → PrngReg), Pre_RopeBKIdeal m →
    θ_run (Cert.RopeBKIdeal.defs (F := Ideal)) (onTc (τ := Cert.RopeBKIdeal.τ) (Cert.RopeBKIdeal.main (F := Ideal))) ⟨m, fun _ => 0, g⟩ (fun r => (∀ c : Dev Cert.RopeBKIdeal.nD,
      r.2.mem ((c.tc : Thread Cert.RopeBKIdeal.nD Cert.RopeBKIdeal.τ).loc Cert.RopeBKIdeal.main_arg0) = m ((c.tc : Thread Cert.RopeBKIdeal.nD Cert.RopeBKIdeal.τ).loc Cert.RopeBKIdeal.main_arg0))
      ∧ r.2.sem = fun _ => 0)

def quiescent_RopeBRIdeal [hRopeBRIdeal : Cert.RopeBRIdeal.Facts] : Prop :=
  ∀ (m : (ℓ : Loc Cert.RopeBRIdeal.nD Cert.RopeBRIdeal.τ Cert.RopeBRIdeal.sig) → Buf (Elt Ideal) ℓ) (g : Dev Cert.RopeBRIdeal.nD → PrngReg), Pre_RopeBRIdeal m →
    θ_run (Cert.RopeBRIdeal.defs (F := Ideal)) (onTc (τ := Cert.RopeBRIdeal.τ) (Cert.RopeBRIdeal.main (F := Ideal))) ⟨m, fun _ => 0, g⟩ (fun r => (∀ c : Dev Cert.RopeBRIdeal.nD,
      r.2.mem ((c.tc : Thread Cert.RopeBRIdeal.nD Cert.RopeBRIdeal.τ).loc Cert.RopeBRIdeal.main_arg0) = m ((c.tc : Thread Cert.RopeBRIdeal.nD Cert.RopeBRIdeal.τ).loc Cert.RopeBRIdeal.main_arg0))
      ∧ r.2.sem = fun _ => 0)

def quiescent_RopeCK [hRopeCK : Cert.RopeCK.Facts] : Prop :=
  ∀ (m : (ℓ : Loc Cert.RopeCK.nD Cert.RopeCK.τ Cert.RopeCK.sig) → Buf (Elt Bits) ℓ) (g : Dev Cert.RopeCK.nD → PrngReg), Pre_RopeCK m →
    θ_run (Cert.RopeCK.defs (F := Bits)) (onTc (τ := Cert.RopeCK.τ) (Cert.RopeCK.main (F := Bits))) ⟨m, fun _ => 0, g⟩ (fun r => (∀ c : Dev Cert.RopeCK.nD,
      r.2.mem ((c.tc : Thread Cert.RopeCK.nD Cert.RopeCK.τ).loc Cert.RopeCK.main_arg0) = m ((c.tc : Thread Cert.RopeCK.nD Cert.RopeCK.τ).loc Cert.RopeCK.main_arg0))
      ∧ r.2.sem = fun _ => 0)

def quiescent_RopeCKIdeal [hRopeCKIdeal : Cert.RopeCKIdeal.Facts] : Prop :=
  ∀ (m : (ℓ : Loc Cert.RopeCKIdeal.nD Cert.RopeCKIdeal.τ Cert.RopeCKIdeal.sig) → Buf (Elt Ideal) ℓ) (g : Dev Cert.RopeCKIdeal.nD → PrngReg), Pre_RopeCKIdeal m →
    θ_run (Cert.RopeCKIdeal.defs (F := Ideal)) (onTc (τ := Cert.RopeCKIdeal.τ) (Cert.RopeCKIdeal.main (F := Ideal))) ⟨m, fun _ => 0, g⟩ (fun r => (∀ c : Dev Cert.RopeCKIdeal.nD,
      r.2.mem ((c.tc : Thread Cert.RopeCKIdeal.nD Cert.RopeCKIdeal.τ).loc Cert.RopeCKIdeal.main_arg0) = m ((c.tc : Thread Cert.RopeCKIdeal.nD Cert.RopeCKIdeal.τ).loc Cert.RopeCKIdeal.main_arg0))
      ∧ r.2.sem = fun _ => 0)

def quiescent_RopeCRIdeal [hRopeCRIdeal : Cert.RopeCRIdeal.Facts] : Prop :=
  ∀ (m : (ℓ : Loc Cert.RopeCRIdeal.nD Cert.RopeCRIdeal.τ Cert.RopeCRIdeal.sig) → Buf (Elt Ideal) ℓ) (g : Dev Cert.RopeCRIdeal.nD → PrngReg), Pre_RopeCRIdeal m →
    θ_run (Cert.RopeCRIdeal.defs (F := Ideal)) (onTc (τ := Cert.RopeCRIdeal.τ) (Cert.RopeCRIdeal.main (F := Ideal))) ⟨m, fun _ => 0, g⟩ (fun r => (∀ c : Dev Cert.RopeCRIdeal.nD,
      r.2.mem ((c.tc : Thread Cert.RopeCRIdeal.nD Cert.RopeCRIdeal.τ).loc Cert.RopeCRIdeal.main_arg0) = m ((c.tc : Thread Cert.RopeCRIdeal.nD Cert.RopeCRIdeal.τ).loc Cert.RopeCRIdeal.main_arg0))
      ∧ r.2.sem = fun _ => 0)

def quiescent_RopeCKK [hRopeCKK : Cert.RopeCKK.Facts] : Prop :=
  ∀ (m : (ℓ : Loc Cert.RopeCKK.nD Cert.RopeCKK.τ Cert.RopeCKK.sig) → Buf (Elt Bits) ℓ) (g : Dev Cert.RopeCKK.nD → PrngReg), Pre_RopeCKK m →
    θ_run (Cert.RopeCKK.defs (F := Bits)) (onTc (τ := Cert.RopeCKK.τ) (Cert.RopeCKK.main (F := Bits))) ⟨m, fun _ => 0, g⟩ (fun r => (∀ c : Dev Cert.RopeCKK.nD,
      r.2.mem ((c.tc : Thread Cert.RopeCKK.nD Cert.RopeCKK.τ).loc Cert.RopeCKK.main_arg0) = m ((c.tc : Thread Cert.RopeCKK.nD Cert.RopeCKK.τ).loc Cert.RopeCKK.main_arg0))
      ∧ r.2.sem = fun _ => 0)

def quiescent_RopeCKKIdeal [hRopeCKKIdeal : Cert.RopeCKKIdeal.Facts] : Prop :=
  ∀ (m : (ℓ : Loc Cert.RopeCKKIdeal.nD Cert.RopeCKKIdeal.τ Cert.RopeCKKIdeal.sig) → Buf (Elt Ideal) ℓ) (g : Dev Cert.RopeCKKIdeal.nD → PrngReg), Pre_RopeCKKIdeal m →
    θ_run (Cert.RopeCKKIdeal.defs (F := Ideal)) (onTc (τ := Cert.RopeCKKIdeal.τ) (Cert.RopeCKKIdeal.main (F := Ideal))) ⟨m, fun _ => 0, g⟩ (fun r => (∀ c : Dev Cert.RopeCKKIdeal.nD,
      r.2.mem ((c.tc : Thread Cert.RopeCKKIdeal.nD Cert.RopeCKKIdeal.τ).loc Cert.RopeCKKIdeal.main_arg0) = m ((c.tc : Thread Cert.RopeCKKIdeal.nD Cert.RopeCKKIdeal.τ).loc Cert.RopeCKKIdeal.main_arg0))
      ∧ r.2.sem = fun _ => 0)

def quiescent_RopeCKRIdeal [hRopeCKRIdeal : Cert.RopeCKRIdeal.Facts] : Prop :=
  ∀ (m : (ℓ : Loc Cert.RopeCKRIdeal.nD Cert.RopeCKRIdeal.τ Cert.RopeCKRIdeal.sig) → Buf (Elt Ideal) ℓ) (g : Dev Cert.RopeCKRIdeal.nD → PrngReg), Pre_RopeCKRIdeal m →
    θ_run (Cert.RopeCKRIdeal.defs (F := Ideal)) (onTc (τ := Cert.RopeCKRIdeal.τ) (Cert.RopeCKRIdeal.main (F := Ideal))) ⟨m, fun _ => 0, g⟩ (fun r => (∀ c : Dev Cert.RopeCKRIdeal.nD,
      r.2.mem ((c.tc : Thread Cert.RopeCKRIdeal.nD Cert.RopeCKRIdeal.τ).loc Cert.RopeCKRIdeal.main_arg0) = m ((c.tc : Thread Cert.RopeCKRIdeal.nD Cert.RopeCKRIdeal.τ).loc Cert.RopeCKRIdeal.main_arg0))
      ∧ r.2.sem = fun _ => 0)

def quiescent_LossK [hLossK : Cert.LossK.Facts] : Prop :=
  ∀ (m : (ℓ : Loc Cert.LossK.nD Cert.LossK.τ Cert.LossK.sig) → Buf (Elt Bits) ℓ) (g : Dev Cert.LossK.nD → PrngReg), Pre_LossK m →
    θ_run (Cert.LossK.defs (F := Bits)) (onTc (τ := Cert.LossK.τ) (Cert.LossK.main (F := Bits))) ⟨m, fun _ => 0, g⟩ (fun r => (∀ c : Dev Cert.LossK.nD,
      r.2.mem ((c.tc : Thread Cert.LossK.nD Cert.LossK.τ).loc Cert.LossK.main_arg0) = m ((c.tc : Thread Cert.LossK.nD Cert.LossK.τ).loc Cert.LossK.main_arg0)
      ∧ r.2.mem ((c.tc : Thread Cert.LossK.nD Cert.LossK.τ).loc Cert.LossK.main_arg1) = m ((c.tc : Thread Cert.LossK.nD Cert.LossK.τ).loc Cert.LossK.main_arg1)
      ∧ r.2.mem ((c.tc : Thread Cert.LossK.nD Cert.LossK.τ).loc Cert.LossK.main_arg2) = m ((c.tc : Thread Cert.LossK.nD Cert.LossK.τ).loc Cert.LossK.main_arg2))
      ∧ r.2.sem = fun _ => 0)

def quiescent_LossKIdeal [hLossKIdeal : Cert.LossKIdeal.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ r.2.sem = fun _ => 0)

def quiescent_LossKIdeal_pre_loss_finite [hLossKIdeal : Cert.LossKIdeal.Facts] [hPre_loss_finite : Cert.Pre_loss_finite.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal_loss_finite m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_LossRIdeal_pre_loss_finite [hLossRIdeal : Cert.LossRIdeal.Facts] [hPre_loss_finite : Cert.Pre_loss_finite.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal_loss_finite m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_FlfCK [hFlfCK : Cert.FlfCK.Facts] : Prop :=
  ∀ (m : (ℓ : Loc Cert.FlfCK.nD Cert.FlfCK.τ Cert.FlfCK.sig) → Buf (Elt Bits) ℓ) (g : Dev Cert.FlfCK.nD → PrngReg), Pre_FlfCK m →
    θ_run (Cert.FlfCK.defs (F := Bits)) (onTc (τ := Cert.FlfCK.τ) (Cert.FlfCK.main (F := Bits))) ⟨m, fun _ => 0, g⟩ (fun r => (∀ c : Dev Cert.FlfCK.nD,
      r.2.mem ((c.tc : Thread Cert.FlfCK.nD Cert.FlfCK.τ).loc Cert.FlfCK.main_arg0) = m ((c.tc : Thread Cert.FlfCK.nD Cert.FlfCK.τ).loc Cert.FlfCK.main_arg0)
      ∧ r.2.mem ((c.tc : Thread Cert.FlfCK.nD Cert.FlfCK.τ).loc Cert.FlfCK.main_arg1) = m ((c.tc : Thread Cert.FlfCK.nD Cert.FlfCK.τ).loc Cert.FlfCK.main_arg1)
      ∧ r.2.mem ((c.tc : Thread Cert.FlfCK.nD Cert.FlfCK.τ).loc Cert.FlfCK.main_arg2) = m ((c.tc : Thread Cert.FlfCK.nD Cert.FlfCK.τ).loc Cert.FlfCK.main_arg2))
      ∧ r.2.sem = fun _ => 0)

def quiescent_FlfCKIdeal [hFlfCKIdeal : Cert.FlfCKIdeal.Facts] : Prop :=
  ∀ (m : (ℓ : Loc Cert.FlfCKIdeal.nD Cert.FlfCKIdeal.τ Cert.FlfCKIdeal.sig) → Buf (Elt Ideal) ℓ) (g : Dev Cert.FlfCKIdeal.nD → PrngReg), Pre_FlfCKIdeal m →
    θ_run (Cert.FlfCKIdeal.defs (F := Ideal)) (onTc (τ := Cert.FlfCKIdeal.τ) (Cert.FlfCKIdeal.main (F := Ideal))) ⟨m, fun _ => 0, g⟩ (fun r => (∀ c : Dev Cert.FlfCKIdeal.nD,
      r.2.mem ((c.tc : Thread Cert.FlfCKIdeal.nD Cert.FlfCKIdeal.τ).loc Cert.FlfCKIdeal.main_arg0) = m ((c.tc : Thread Cert.FlfCKIdeal.nD Cert.FlfCKIdeal.τ).loc Cert.FlfCKIdeal.main_arg0)
      ∧ r.2.mem ((c.tc : Thread Cert.FlfCKIdeal.nD Cert.FlfCKIdeal.τ).loc Cert.FlfCKIdeal.main_arg1) = m ((c.tc : Thread Cert.FlfCKIdeal.nD Cert.FlfCKIdeal.τ).loc Cert.FlfCKIdeal.main_arg1)
      ∧ r.2.mem ((c.tc : Thread Cert.FlfCKIdeal.nD Cert.FlfCKIdeal.τ).loc Cert.FlfCKIdeal.main_arg2) = m ((c.tc : Thread Cert.FlfCKIdeal.nD Cert.FlfCKIdeal.τ).loc Cert.FlfCKIdeal.main_arg2))
      ∧ r.2.sem = fun _ => 0)

def quiescent_FlfCKIdeal_pre_flfc_finite [hFlfCKIdeal : Cert.FlfCKIdeal.Facts] [hPre_flfc_finite : Cert.Pre_flfc_finite.Facts] : Prop :=
  ∀ (m : (ℓ : Loc Cert.FlfCKIdeal.nD Cert.FlfCKIdeal.τ Cert.FlfCKIdeal.sig) → Buf (Elt Ideal) ℓ) (g : Dev Cert.FlfCKIdeal.nD → PrngReg), Pre_FlfCKIdeal_flfc_finite m →
    θ_run (Cert.FlfCKIdeal.defs (F := Ideal)) (onTc (τ := Cert.FlfCKIdeal.τ) (Cert.FlfCKIdeal.main (F := Ideal))) ⟨m, fun _ => 0, g⟩ (fun r => (∀ c : Dev Cert.FlfCKIdeal.nD,
      r.2.mem ((c.tc : Thread Cert.FlfCKIdeal.nD Cert.FlfCKIdeal.τ).loc Cert.FlfCKIdeal.main_arg0) = m ((c.tc : Thread Cert.FlfCKIdeal.nD Cert.FlfCKIdeal.τ).loc Cert.FlfCKIdeal.main_arg0)
      ∧ r.2.mem ((c.tc : Thread Cert.FlfCKIdeal.nD Cert.FlfCKIdeal.τ).loc Cert.FlfCKIdeal.main_arg1) = m ((c.tc : Thread Cert.FlfCKIdeal.nD Cert.FlfCKIdeal.τ).loc Cert.FlfCKIdeal.main_arg1)
      ∧ r.2.mem ((c.tc : Thread Cert.FlfCKIdeal.nD Cert.FlfCKIdeal.τ).loc Cert.FlfCKIdeal.main_arg2) = m ((c.tc : Thread Cert.FlfCKIdeal.nD Cert.FlfCKIdeal.τ).loc Cert.FlfCKIdeal.main_arg2))
      ∧ r.2.sem = fun _ => 0)

def quiescent_FlfCRIdeal [hFlfCRIdeal : Cert.FlfCRIdeal.Facts] : Prop :=
  ∀ (m : (ℓ : Loc Cert.FlfCRIdeal.nD Cert.FlfCRIdeal.τ Cert.FlfCRIdeal.sig) → Buf (Elt Ideal) ℓ) (g : Dev Cert.FlfCRIdeal.nD → PrngReg), Pre_FlfCRIdeal m →
    θ_run (Cert.FlfCRIdeal.defs (F := Ideal)) (onTc (τ := Cert.FlfCRIdeal.τ) (Cert.FlfCRIdeal.main (F := Ideal))) ⟨m, fun _ => 0, g⟩ (fun r => (∀ c : Dev Cert.FlfCRIdeal.nD,
      r.2.mem ((c.tc : Thread Cert.FlfCRIdeal.nD Cert.FlfCRIdeal.τ).loc Cert.FlfCRIdeal.main_arg0) = m ((c.tc : Thread Cert.FlfCRIdeal.nD Cert.FlfCRIdeal.τ).loc Cert.FlfCRIdeal.main_arg0)
      ∧ r.2.mem ((c.tc : Thread Cert.FlfCRIdeal.nD Cert.FlfCRIdeal.τ).loc Cert.FlfCRIdeal.main_arg1) = m ((c.tc : Thread Cert.FlfCRIdeal.nD Cert.FlfCRIdeal.τ).loc Cert.FlfCRIdeal.main_arg1)
      ∧ r.2.mem ((c.tc : Thread Cert.FlfCRIdeal.nD Cert.FlfCRIdeal.τ).loc Cert.FlfCRIdeal.main_arg2) = m ((c.tc : Thread Cert.FlfCRIdeal.nD Cert.FlfCRIdeal.τ).loc Cert.FlfCRIdeal.main_arg2))
      ∧ r.2.sem = fun _ => 0)

def quiescent_FlfCRIdeal_pre_flfc_finite [hFlfCRIdeal : Cert.FlfCRIdeal.Facts] [hPre_flfc_finite : Cert.Pre_flfc_finite.Facts] : Prop :=
  ∀ (m : (ℓ : Loc Cert.FlfCRIdeal.nD Cert.FlfCRIdeal.τ Cert.FlfCRIdeal.sig) → Buf (Elt Ideal) ℓ) (g : Dev Cert.FlfCRIdeal.nD → PrngReg), Pre_FlfCRIdeal_flfc_finite m →
    θ_run (Cert.FlfCRIdeal.defs (F := Ideal)) (onTc (τ := Cert.FlfCRIdeal.τ) (Cert.FlfCRIdeal.main (F := Ideal))) ⟨m, fun _ => 0, g⟩ (fun r => (∀ c : Dev Cert.FlfCRIdeal.nD,
      r.2.mem ((c.tc : Thread Cert.FlfCRIdeal.nD Cert.FlfCRIdeal.τ).loc Cert.FlfCRIdeal.main_arg0) = m ((c.tc : Thread Cert.FlfCRIdeal.nD Cert.FlfCRIdeal.τ).loc Cert.FlfCRIdeal.main_arg0)
      ∧ r.2.mem ((c.tc : Thread Cert.FlfCRIdeal.nD Cert.FlfCRIdeal.τ).loc Cert.FlfCRIdeal.main_arg1) = m ((c.tc : Thread Cert.FlfCRIdeal.nD Cert.FlfCRIdeal.τ).loc Cert.FlfCRIdeal.main_arg1)
      ∧ r.2.mem ((c.tc : Thread Cert.FlfCRIdeal.nD Cert.FlfCRIdeal.τ).loc Cert.FlfCRIdeal.main_arg2) = m ((c.tc : Thread Cert.FlfCRIdeal.nD Cert.FlfCRIdeal.τ).loc Cert.FlfCRIdeal.main_arg2))
      ∧ r.2.sem = fun _ => 0)

def quiescent_FlfAK [hFlfAK : Cert.FlfAK.Facts] : Prop :=
  ∀ (m : (ℓ : Loc Cert.FlfAK.nD Cert.FlfAK.τ Cert.FlfAK.sig) → Buf (Elt Bits) ℓ) (g : Dev Cert.FlfAK.nD → PrngReg), Pre_FlfAK m →
    θ_run (Cert.FlfAK.defs (F := Bits)) (onTc (τ := Cert.FlfAK.τ) (Cert.FlfAK.main (F := Bits))) ⟨m, fun _ => 0, g⟩ (fun r => (∀ c : Dev Cert.FlfAK.nD,
      r.2.mem ((c.tc : Thread Cert.FlfAK.nD Cert.FlfAK.τ).loc Cert.FlfAK.main_arg0) = m ((c.tc : Thread Cert.FlfAK.nD Cert.FlfAK.τ).loc Cert.FlfAK.main_arg0)
      ∧ r.2.mem ((c.tc : Thread Cert.FlfAK.nD Cert.FlfAK.τ).loc Cert.FlfAK.main_arg1) = m ((c.tc : Thread Cert.FlfAK.nD Cert.FlfAK.τ).loc Cert.FlfAK.main_arg1)
      ∧ r.2.mem ((c.tc : Thread Cert.FlfAK.nD Cert.FlfAK.τ).loc Cert.FlfAK.main_arg2) = m ((c.tc : Thread Cert.FlfAK.nD Cert.FlfAK.τ).loc Cert.FlfAK.main_arg2))
      ∧ r.2.sem = fun _ => 0)

def quiescent_FlfAKIdeal [hFlfAKIdeal : Cert.FlfAKIdeal.Facts] : Prop :=
  ∀ (m : (ℓ : Loc Cert.FlfAKIdeal.nD Cert.FlfAKIdeal.τ Cert.FlfAKIdeal.sig) → Buf (Elt Ideal) ℓ) (g : Dev Cert.FlfAKIdeal.nD → PrngReg), Pre_FlfAKIdeal m →
    θ_run (Cert.FlfAKIdeal.defs (F := Ideal)) (onTc (τ := Cert.FlfAKIdeal.τ) (Cert.FlfAKIdeal.main (F := Ideal))) ⟨m, fun _ => 0, g⟩ (fun r => (∀ c : Dev Cert.FlfAKIdeal.nD,
      r.2.mem ((c.tc : Thread Cert.FlfAKIdeal.nD Cert.FlfAKIdeal.τ).loc Cert.FlfAKIdeal.main_arg0) = m ((c.tc : Thread Cert.FlfAKIdeal.nD Cert.FlfAKIdeal.τ).loc Cert.FlfAKIdeal.main_arg0)
      ∧ r.2.mem ((c.tc : Thread Cert.FlfAKIdeal.nD Cert.FlfAKIdeal.τ).loc Cert.FlfAKIdeal.main_arg1) = m ((c.tc : Thread Cert.FlfAKIdeal.nD Cert.FlfAKIdeal.τ).loc Cert.FlfAKIdeal.main_arg1)
      ∧ r.2.mem ((c.tc : Thread Cert.FlfAKIdeal.nD Cert.FlfAKIdeal.τ).loc Cert.FlfAKIdeal.main_arg2) = m ((c.tc : Thread Cert.FlfAKIdeal.nD Cert.FlfAKIdeal.τ).loc Cert.FlfAKIdeal.main_arg2))
      ∧ r.2.sem = fun _ => 0)

def quiescent_FlfAKIdeal_pre_flfa_finite [hFlfAKIdeal : Cert.FlfAKIdeal.Facts] [hPre_flfa_finite : Cert.Pre_flfa_finite.Facts] : Prop :=
  ∀ (m : (ℓ : Loc Cert.FlfAKIdeal.nD Cert.FlfAKIdeal.τ Cert.FlfAKIdeal.sig) → Buf (Elt Ideal) ℓ) (g : Dev Cert.FlfAKIdeal.nD → PrngReg), Pre_FlfAKIdeal_flfa_finite m →
    θ_run (Cert.FlfAKIdeal.defs (F := Ideal)) (onTc (τ := Cert.FlfAKIdeal.τ) (Cert.FlfAKIdeal.main (F := Ideal))) ⟨m, fun _ => 0, g⟩ (fun r => (∀ c : Dev Cert.FlfAKIdeal.nD,
      r.2.mem ((c.tc : Thread Cert.FlfAKIdeal.nD Cert.FlfAKIdeal.τ).loc Cert.FlfAKIdeal.main_arg0) = m ((c.tc : Thread Cert.FlfAKIdeal.nD Cert.FlfAKIdeal.τ).loc Cert.FlfAKIdeal.main_arg0)
      ∧ r.2.mem ((c.tc : Thread Cert.FlfAKIdeal.nD Cert.FlfAKIdeal.τ).loc Cert.FlfAKIdeal.main_arg1) = m ((c.tc : Thread Cert.FlfAKIdeal.nD Cert.FlfAKIdeal.τ).loc Cert.FlfAKIdeal.main_arg1)
      ∧ r.2.mem ((c.tc : Thread Cert.FlfAKIdeal.nD Cert.FlfAKIdeal.τ).loc Cert.FlfAKIdeal.main_arg2) = m ((c.tc : Thread Cert.FlfAKIdeal.nD Cert.FlfAKIdeal.τ).loc Cert.FlfAKIdeal.main_arg2))
      ∧ r.2.sem = fun _ => 0)

def quiescent_FlfARIdeal [hFlfARIdeal : Cert.FlfARIdeal.Facts] : Prop :=
  ∀ (m : (ℓ : Loc Cert.FlfARIdeal.nD Cert.FlfARIdeal.τ Cert.FlfARIdeal.sig) → Buf (Elt Ideal) ℓ) (g : Dev Cert.FlfARIdeal.nD → PrngReg), Pre_FlfARIdeal m →
    θ_run (Cert.FlfARIdeal.defs (F := Ideal)) (onTc (τ := Cert.FlfARIdeal.τ) (Cert.FlfARIdeal.main (F := Ideal))) ⟨m, fun _ => 0, g⟩ (fun r => (∀ c : Dev Cert.FlfARIdeal.nD,
      r.2.mem ((c.tc : Thread Cert.FlfARIdeal.nD Cert.FlfARIdeal.τ).loc Cert.FlfARIdeal.main_arg0) = m ((c.tc : Thread Cert.FlfARIdeal.nD Cert.FlfARIdeal.τ).loc Cert.FlfARIdeal.main_arg0)
      ∧ r.2.mem ((c.tc : Thread Cert.FlfARIdeal.nD Cert.FlfARIdeal.τ).loc Cert.FlfARIdeal.main_arg1) = m ((c.tc : Thread Cert.FlfARIdeal.nD Cert.FlfARIdeal.τ).loc Cert.FlfARIdeal.main_arg1)
      ∧ r.2.mem ((c.tc : Thread Cert.FlfARIdeal.nD Cert.FlfARIdeal.τ).loc Cert.FlfARIdeal.main_arg2) = m ((c.tc : Thread Cert.FlfARIdeal.nD Cert.FlfARIdeal.τ).loc Cert.FlfARIdeal.main_arg2))
      ∧ r.2.sem = fun _ => 0)

def quiescent_FlfARIdeal_pre_flfa_finite [hFlfARIdeal : Cert.FlfARIdeal.Facts] [hPre_flfa_finite : Cert.Pre_flfa_finite.Facts] : Prop :=
  ∀ (m : (ℓ : Loc Cert.FlfARIdeal.nD Cert.FlfARIdeal.τ Cert.FlfARIdeal.sig) → Buf (Elt Ideal) ℓ) (g : Dev Cert.FlfARIdeal.nD → PrngReg), Pre_FlfARIdeal_flfa_finite m →
    θ_run (Cert.FlfARIdeal.defs (F := Ideal)) (onTc (τ := Cert.FlfARIdeal.τ) (Cert.FlfARIdeal.main (F := Ideal))) ⟨m, fun _ => 0, g⟩ (fun r => (∀ c : Dev Cert.FlfARIdeal.nD,
      r.2.mem ((c.tc : Thread Cert.FlfARIdeal.nD Cert.FlfARIdeal.τ).loc Cert.FlfARIdeal.main_arg0) = m ((c.tc : Thread Cert.FlfARIdeal.nD Cert.FlfARIdeal.τ).loc Cert.FlfARIdeal.main_arg0)
      ∧ r.2.mem ((c.tc : Thread Cert.FlfARIdeal.nD Cert.FlfARIdeal.τ).loc Cert.FlfARIdeal.main_arg1) = m ((c.tc : Thread Cert.FlfARIdeal.nD Cert.FlfARIdeal.τ).loc Cert.FlfARIdeal.main_arg1)
      ∧ r.2.mem ((c.tc : Thread Cert.FlfARIdeal.nD Cert.FlfARIdeal.τ).loc Cert.FlfARIdeal.main_arg2) = m ((c.tc : Thread Cert.FlfARIdeal.nD Cert.FlfARIdeal.τ).loc Cert.FlfARIdeal.main_arg2))
      ∧ r.2.sem = fun _ => 0)

def quiescent_LatK [hLatK : Cert.LatK.Facts] : Prop :=
  ∀ (m : (ℓ : Loc Cert.LatK.nD Cert.LatK.τ Cert.LatK.sig) → Buf (Elt Bits) ℓ) (g : Dev Cert.LatK.nD → PrngReg), Pre_LatK m →
    θ_run (Cert.LatK.defs (F := Bits)) (onTc (τ := Cert.LatK.τ) (Cert.LatK.main (F := Bits))) ⟨m, fun _ => 0, g⟩ (fun r => (∀ c : Dev Cert.LatK.nD,
      r.2.mem ((c.tc : Thread Cert.LatK.nD Cert.LatK.τ).loc Cert.LatK.main_arg0) = m ((c.tc : Thread Cert.LatK.nD Cert.LatK.τ).loc Cert.LatK.main_arg0)
      ∧ r.2.mem ((c.tc : Thread Cert.LatK.nD Cert.LatK.τ).loc Cert.LatK.main_arg1) = m ((c.tc : Thread Cert.LatK.nD Cert.LatK.τ).loc Cert.LatK.main_arg1))
      ∧ r.2.sem = fun _ => 0)

def quiescent_LatKIdeal [hLatKIdeal : Cert.LatKIdeal.Facts] : Prop :=
  ∀ (m : (ℓ : Loc Cert.LatKIdeal.nD Cert.LatKIdeal.τ Cert.LatKIdeal.sig) → Buf (Elt Ideal) ℓ) (g : Dev Cert.LatKIdeal.nD → PrngReg), Pre_LatKIdeal m →
    θ_run (Cert.LatKIdeal.defs (F := Ideal)) (onTc (τ := Cert.LatKIdeal.τ) (Cert.LatKIdeal.main (F := Ideal))) ⟨m, fun _ => 0, g⟩ (fun r => (∀ c : Dev Cert.LatKIdeal.nD,
      r.2.mem ((c.tc : Thread Cert.LatKIdeal.nD Cert.LatKIdeal.τ).loc Cert.LatKIdeal.main_arg0) = m ((c.tc : Thread Cert.LatKIdeal.nD Cert.LatKIdeal.τ).loc Cert.LatKIdeal.main_arg0)
      ∧ r.2.mem ((c.tc : Thread Cert.LatKIdeal.nD Cert.LatKIdeal.τ).loc Cert.LatKIdeal.main_arg1) = m ((c.tc : Thread Cert.LatKIdeal.nD Cert.LatKIdeal.τ).loc Cert.LatKIdeal.main_arg1))
      ∧ r.2.sem = fun _ => 0)

def quiescent_LatKIdeal_pre_lat_finite [hLatKIdeal : Cert.LatKIdeal.Facts] [hPre_lat_finite : Cert.Pre_lat_finite.Facts] : Prop :=
  ∀ (m : (ℓ : Loc Cert.LatKIdeal.nD Cert.LatKIdeal.τ Cert.LatKIdeal.sig) → Buf (Elt Ideal) ℓ) (g : Dev Cert.LatKIdeal.nD → PrngReg), Pre_LatKIdeal_lat_finite m →
    θ_run (Cert.LatKIdeal.defs (F := Ideal)) (onTc (τ := Cert.LatKIdeal.τ) (Cert.LatKIdeal.main (F := Ideal))) ⟨m, fun _ => 0, g⟩ (fun r => (∀ c : Dev Cert.LatKIdeal.nD,
      r.2.mem ((c.tc : Thread Cert.LatKIdeal.nD Cert.LatKIdeal.τ).loc Cert.LatKIdeal.main_arg0) = m ((c.tc : Thread Cert.LatKIdeal.nD Cert.LatKIdeal.τ).loc Cert.LatKIdeal.main_arg0)
      ∧ r.2.mem ((c.tc : Thread Cert.LatKIdeal.nD Cert.LatKIdeal.τ).loc Cert.LatKIdeal.main_arg1) = m ((c.tc : Thread Cert.LatKIdeal.nD Cert.LatKIdeal.τ).loc Cert.LatKIdeal.main_arg1))
      ∧ r.2.sem = fun _ => 0)

def quiescent_LatRIdeal [hLatRIdeal : Cert.LatRIdeal.Facts] : Prop :=
  ∀ (m : (ℓ : Loc Cert.LatRIdeal.nD Cert.LatRIdeal.τ Cert.LatRIdeal.sig) → Buf (Elt Ideal) ℓ) (g : Dev Cert.LatRIdeal.nD → PrngReg), Pre_LatRIdeal m →
    θ_run (Cert.LatRIdeal.defs (F := Ideal)) (onTc (τ := Cert.LatRIdeal.τ) (Cert.LatRIdeal.main (F := Ideal))) ⟨m, fun _ => 0, g⟩ (fun r => (∀ c : Dev Cert.LatRIdeal.nD,
      r.2.mem ((c.tc : Thread Cert.LatRIdeal.nD Cert.LatRIdeal.τ).loc Cert.LatRIdeal.main_arg0) = m ((c.tc : Thread Cert.LatRIdeal.nD Cert.LatRIdeal.τ).loc Cert.LatRIdeal.main_arg0)
      ∧ r.2.mem ((c.tc : Thread Cert.LatRIdeal.nD Cert.LatRIdeal.τ).loc Cert.LatRIdeal.main_arg1) = m ((c.tc : Thread Cert.LatRIdeal.nD Cert.LatRIdeal.τ).loc Cert.LatRIdeal.main_arg1))
      ∧ r.2.sem = fun _ => 0)

def quiescent_LatRIdeal_pre_lat_finite [hLatRIdeal : Cert.LatRIdeal.Facts] [hPre_lat_finite : Cert.Pre_lat_finite.Facts] : Prop :=
  ∀ (m : (ℓ : Loc Cert.LatRIdeal.nD Cert.LatRIdeal.τ Cert.LatRIdeal.sig) → Buf (Elt Ideal) ℓ) (g : Dev Cert.LatRIdeal.nD → PrngReg), Pre_LatRIdeal_lat_finite m →
    θ_run (Cert.LatRIdeal.defs (F := Ideal)) (onTc (τ := Cert.LatRIdeal.τ) (Cert.LatRIdeal.main (F := Ideal))) ⟨m, fun _ => 0, g⟩ (fun r => (∀ c : Dev Cert.LatRIdeal.nD,
      r.2.mem ((c.tc : Thread Cert.LatRIdeal.nD Cert.LatRIdeal.τ).loc Cert.LatRIdeal.main_arg0) = m ((c.tc : Thread Cert.LatRIdeal.nD Cert.LatRIdeal.τ).loc Cert.LatRIdeal.main_arg0)
      ∧ r.2.mem ((c.tc : Thread Cert.LatRIdeal.nD Cert.LatRIdeal.τ).loc Cert.LatRIdeal.main_arg1) = m ((c.tc : Thread Cert.LatRIdeal.nD Cert.LatRIdeal.τ).loc Cert.LatRIdeal.main_arg1))
      ∧ r.2.sem = fun _ => 0)

def quiescent_NfAK [hNfAK : Cert.NfAK.Facts] : Prop :=
  ∀ (m : (ℓ : Loc Cert.NfAK.nD Cert.NfAK.τ Cert.NfAK.sig) → Buf (Elt Bits) ℓ) (g : Dev Cert.NfAK.nD → PrngReg), Pre_NfAK m →
    θ_run (Cert.NfAK.defs (F := Bits)) (onTc (τ := Cert.NfAK.τ) (Cert.NfAK.main (F := Bits))) ⟨m, fun _ => 0, g⟩ (fun r => (∀ c : Dev Cert.NfAK.nD,
      r.2.mem ((c.tc : Thread Cert.NfAK.nD Cert.NfAK.τ).loc Cert.NfAK.main_arg0) = m ((c.tc : Thread Cert.NfAK.nD Cert.NfAK.τ).loc Cert.NfAK.main_arg0)
      ∧ r.2.mem ((c.tc : Thread Cert.NfAK.nD Cert.NfAK.τ).loc Cert.NfAK.main_arg1) = m ((c.tc : Thread Cert.NfAK.nD Cert.NfAK.τ).loc Cert.NfAK.main_arg1))
      ∧ r.2.sem = fun _ => 0)

def quiescent_NfAKIdeal [hNfAKIdeal : Cert.NfAKIdeal.Facts] : Prop :=
  ∀ (m : (ℓ : Loc Cert.NfAKIdeal.nD Cert.NfAKIdeal.τ Cert.NfAKIdeal.sig) → Buf (Elt Ideal) ℓ) (g : Dev Cert.NfAKIdeal.nD → PrngReg), Pre_NfAKIdeal m →
    θ_run (Cert.NfAKIdeal.defs (F := Ideal)) (onTc (τ := Cert.NfAKIdeal.τ) (Cert.NfAKIdeal.main (F := Ideal))) ⟨m, fun _ => 0, g⟩ (fun r => (∀ c : Dev Cert.NfAKIdeal.nD,
      r.2.mem ((c.tc : Thread Cert.NfAKIdeal.nD Cert.NfAKIdeal.τ).loc Cert.NfAKIdeal.main_arg0) = m ((c.tc : Thread Cert.NfAKIdeal.nD Cert.NfAKIdeal.τ).loc Cert.NfAKIdeal.main_arg0)
      ∧ r.2.mem ((c.tc : Thread Cert.NfAKIdeal.nD Cert.NfAKIdeal.τ).loc Cert.NfAKIdeal.main_arg1) = m ((c.tc : Thread Cert.NfAKIdeal.nD Cert.NfAKIdeal.τ).loc Cert.NfAKIdeal.main_arg1))
      ∧ r.2.sem = fun _ => 0)

def quiescent_NfARIdeal [hNfARIdeal : Cert.NfARIdeal.Facts] : Prop :=
  ∀ (m : (ℓ : Loc Cert.NfARIdeal.nD Cert.NfARIdeal.τ Cert.NfARIdeal.sig) → Buf (Elt Ideal) ℓ) (g : Dev Cert.NfARIdeal.nD → PrngReg), Pre_NfARIdeal m →
    θ_run (Cert.NfARIdeal.defs (F := Ideal)) (onTc (τ := Cert.NfARIdeal.τ) (Cert.NfARIdeal.main (F := Ideal))) ⟨m, fun _ => 0, g⟩ (fun r => (∀ c : Dev Cert.NfARIdeal.nD,
      r.2.mem ((c.tc : Thread Cert.NfARIdeal.nD Cert.NfARIdeal.τ).loc Cert.NfARIdeal.main_arg0) = m ((c.tc : Thread Cert.NfARIdeal.nD Cert.NfARIdeal.τ).loc Cert.NfARIdeal.main_arg0)
      ∧ r.2.mem ((c.tc : Thread Cert.NfARIdeal.nD Cert.NfARIdeal.τ).loc Cert.NfARIdeal.main_arg1) = m ((c.tc : Thread Cert.NfARIdeal.nD Cert.NfARIdeal.τ).loc Cert.NfARIdeal.main_arg1))
      ∧ r.2.sem = fun _ => 0)

def quiescent_NfBK [hNfBK : Cert.NfBK.Facts] : Prop :=
  ∀ (m : (ℓ : Loc Cert.NfBK.nD Cert.NfBK.τ Cert.NfBK.sig) → Buf (Elt Bits) ℓ) (g : Dev Cert.NfBK.nD → PrngReg), Pre_NfBK m →
    θ_run (Cert.NfBK.defs (F := Bits)) (onTc (τ := Cert.NfBK.τ) (Cert.NfBK.main (F := Bits))) ⟨m, fun _ => 0, g⟩ (fun r => (∀ c : Dev Cert.NfBK.nD,
      r.2.mem ((c.tc : Thread Cert.NfBK.nD Cert.NfBK.τ).loc Cert.NfBK.main_arg0) = m ((c.tc : Thread Cert.NfBK.nD Cert.NfBK.τ).loc Cert.NfBK.main_arg0)
      ∧ r.2.mem ((c.tc : Thread Cert.NfBK.nD Cert.NfBK.τ).loc Cert.NfBK.main_arg1) = m ((c.tc : Thread Cert.NfBK.nD Cert.NfBK.τ).loc Cert.NfBK.main_arg1))
      ∧ r.2.sem = fun _ => 0)

def quiescent_NfBKIdeal [hNfBKIdeal : Cert.NfBKIdeal.Facts] : Prop :=
  ∀ (m : (ℓ : Loc Cert.NfBKIdeal.nD Cert.NfBKIdeal.τ Cert.NfBKIdeal.sig) → Buf (Elt Ideal) ℓ) (g : Dev Cert.NfBKIdeal.nD → PrngReg), Pre_NfBKIdeal m →
    θ_run (Cert.NfBKIdeal.defs (F := Ideal)) (onTc (τ := Cert.NfBKIdeal.τ) (Cert.NfBKIdeal.main (F := Ideal))) ⟨m, fun _ => 0, g⟩ (fun r => (∀ c : Dev Cert.NfBKIdeal.nD,
      r.2.mem ((c.tc : Thread Cert.NfBKIdeal.nD Cert.NfBKIdeal.τ).loc Cert.NfBKIdeal.main_arg0) = m ((c.tc : Thread Cert.NfBKIdeal.nD Cert.NfBKIdeal.τ).loc Cert.NfBKIdeal.main_arg0)
      ∧ r.2.mem ((c.tc : Thread Cert.NfBKIdeal.nD Cert.NfBKIdeal.τ).loc Cert.NfBKIdeal.main_arg1) = m ((c.tc : Thread Cert.NfBKIdeal.nD Cert.NfBKIdeal.τ).loc Cert.NfBKIdeal.main_arg1))
      ∧ r.2.sem = fun _ => 0)

def quiescent_NfBRIdeal [hNfBRIdeal : Cert.NfBRIdeal.Facts] : Prop :=
  ∀ (m : (ℓ : Loc Cert.NfBRIdeal.nD Cert.NfBRIdeal.τ Cert.NfBRIdeal.sig) → Buf (Elt Ideal) ℓ) (g : Dev Cert.NfBRIdeal.nD → PrngReg), Pre_NfBRIdeal m →
    θ_run (Cert.NfBRIdeal.defs (F := Ideal)) (onTc (τ := Cert.NfBRIdeal.τ) (Cert.NfBRIdeal.main (F := Ideal))) ⟨m, fun _ => 0, g⟩ (fun r => (∀ c : Dev Cert.NfBRIdeal.nD,
      r.2.mem ((c.tc : Thread Cert.NfBRIdeal.nD Cert.NfBRIdeal.τ).loc Cert.NfBRIdeal.main_arg0) = m ((c.tc : Thread Cert.NfBRIdeal.nD Cert.NfBRIdeal.τ).loc Cert.NfBRIdeal.main_arg0)
      ∧ r.2.mem ((c.tc : Thread Cert.NfBRIdeal.nD Cert.NfBRIdeal.τ).loc Cert.NfBRIdeal.main_arg1) = m ((c.tc : Thread Cert.NfBRIdeal.nD Cert.NfBRIdeal.τ).loc Cert.NfBRIdeal.main_arg1))
      ∧ r.2.sem = fun _ => 0)

def quiescent_NfDK [hNfDK : Cert.NfDK.Facts] : Prop :=
  ∀ (m : (ℓ : Loc Cert.NfDK.nD Cert.NfDK.τ Cert.NfDK.sig) → Buf (Elt Bits) ℓ) (g : Dev Cert.NfDK.nD → PrngReg), Pre_NfDK m →
    θ_run (Cert.NfDK.defs (F := Bits)) (onTc (τ := Cert.NfDK.τ) (Cert.NfDK.main (F := Bits))) ⟨m, fun _ => 0, g⟩ (fun r => (∀ c : Dev Cert.NfDK.nD,
      r.2.mem ((c.tc : Thread Cert.NfDK.nD Cert.NfDK.τ).loc Cert.NfDK.main_arg0) = m ((c.tc : Thread Cert.NfDK.nD Cert.NfDK.τ).loc Cert.NfDK.main_arg0)
      ∧ r.2.mem ((c.tc : Thread Cert.NfDK.nD Cert.NfDK.τ).loc Cert.NfDK.main_arg1) = m ((c.tc : Thread Cert.NfDK.nD Cert.NfDK.τ).loc Cert.NfDK.main_arg1))
      ∧ r.2.sem = fun _ => 0)

def quiescent_NfDKIdeal [hNfDKIdeal : Cert.NfDKIdeal.Facts] : Prop :=
  ∀ (m : (ℓ : Loc Cert.NfDKIdeal.nD Cert.NfDKIdeal.τ Cert.NfDKIdeal.sig) → Buf (Elt Ideal) ℓ) (g : Dev Cert.NfDKIdeal.nD → PrngReg), Pre_NfDKIdeal m →
    θ_run (Cert.NfDKIdeal.defs (F := Ideal)) (onTc (τ := Cert.NfDKIdeal.τ) (Cert.NfDKIdeal.main (F := Ideal))) ⟨m, fun _ => 0, g⟩ (fun r => (∀ c : Dev Cert.NfDKIdeal.nD,
      r.2.mem ((c.tc : Thread Cert.NfDKIdeal.nD Cert.NfDKIdeal.τ).loc Cert.NfDKIdeal.main_arg0) = m ((c.tc : Thread Cert.NfDKIdeal.nD Cert.NfDKIdeal.τ).loc Cert.NfDKIdeal.main_arg0)
      ∧ r.2.mem ((c.tc : Thread Cert.NfDKIdeal.nD Cert.NfDKIdeal.τ).loc Cert.NfDKIdeal.main_arg1) = m ((c.tc : Thread Cert.NfDKIdeal.nD Cert.NfDKIdeal.τ).loc Cert.NfDKIdeal.main_arg1))
      ∧ r.2.sem = fun _ => 0)

def quiescent_NfDRIdeal [hNfDRIdeal : Cert.NfDRIdeal.Facts] : Prop :=
  ∀ (m : (ℓ : Loc Cert.NfDRIdeal.nD Cert.NfDRIdeal.τ Cert.NfDRIdeal.sig) → Buf (Elt Ideal) ℓ) (g : Dev Cert.NfDRIdeal.nD → PrngReg), Pre_NfDRIdeal m →
    θ_run (Cert.NfDRIdeal.defs (F := Ideal)) (onTc (τ := Cert.NfDRIdeal.τ) (Cert.NfDRIdeal.main (F := Ideal))) ⟨m, fun _ => 0, g⟩ (fun r => (∀ c : Dev Cert.NfDRIdeal.nD,
      r.2.mem ((c.tc : Thread Cert.NfDRIdeal.nD Cert.NfDRIdeal.τ).loc Cert.NfDRIdeal.main_arg0) = m ((c.tc : Thread Cert.NfDRIdeal.nD Cert.NfDRIdeal.τ).loc Cert.NfDRIdeal.main_arg0)
      ∧ r.2.mem ((c.tc : Thread Cert.NfDRIdeal.nD Cert.NfDRIdeal.τ).loc Cert.NfDRIdeal.main_arg1) = m ((c.tc : Thread Cert.NfDRIdeal.nD Cert.NfDRIdeal.τ).loc Cert.NfDRIdeal.main_arg1))
      ∧ r.2.sem = fun _ => 0)

def quiescent_NfLK [hNfLK : Cert.NfLK.Facts] : Prop :=
  ∀ (m : (ℓ : Loc Cert.NfLK.nD Cert.NfLK.τ Cert.NfLK.sig) → Buf (Elt Bits) ℓ) (g : Dev Cert.NfLK.nD → PrngReg), Pre_NfLK m →
    θ_run (Cert.NfLK.defs (F := Bits)) (onTc (τ := Cert.NfLK.τ) (Cert.NfLK.main (F := Bits))) ⟨m, fun _ => 0, g⟩ (fun r => (∀ c : Dev Cert.NfLK.nD,
      r.2.mem ((c.tc : Thread Cert.NfLK.nD Cert.NfLK.τ).loc Cert.NfLK.main_arg0) = m ((c.tc : Thread Cert.NfLK.nD Cert.NfLK.τ).loc Cert.NfLK.main_arg0)
      ∧ r.2.mem ((c.tc : Thread Cert.NfLK.nD Cert.NfLK.τ).loc Cert.NfLK.main_arg1) = m ((c.tc : Thread Cert.NfLK.nD Cert.NfLK.τ).loc Cert.NfLK.main_arg1))
      ∧ r.2.sem = fun _ => 0)

def quiescent_NfLKIdeal [hNfLKIdeal : Cert.NfLKIdeal.Facts] : Prop :=
  ∀ (m : (ℓ : Loc Cert.NfLKIdeal.nD Cert.NfLKIdeal.τ Cert.NfLKIdeal.sig) → Buf (Elt Ideal) ℓ) (g : Dev Cert.NfLKIdeal.nD → PrngReg), Pre_NfLKIdeal m →
    θ_run (Cert.NfLKIdeal.defs (F := Ideal)) (onTc (τ := Cert.NfLKIdeal.τ) (Cert.NfLKIdeal.main (F := Ideal))) ⟨m, fun _ => 0, g⟩ (fun r => (∀ c : Dev Cert.NfLKIdeal.nD,
      r.2.mem ((c.tc : Thread Cert.NfLKIdeal.nD Cert.NfLKIdeal.τ).loc Cert.NfLKIdeal.main_arg0) = m ((c.tc : Thread Cert.NfLKIdeal.nD Cert.NfLKIdeal.τ).loc Cert.NfLKIdeal.main_arg0)
      ∧ r.2.mem ((c.tc : Thread Cert.NfLKIdeal.nD Cert.NfLKIdeal.τ).loc Cert.NfLKIdeal.main_arg1) = m ((c.tc : Thread Cert.NfLKIdeal.nD Cert.NfLKIdeal.τ).loc Cert.NfLKIdeal.main_arg1))
      ∧ r.2.sem = fun _ => 0)

def quiescent_NfLRIdeal [hNfLRIdeal : Cert.NfLRIdeal.Facts] : Prop :=
  ∀ (m : (ℓ : Loc Cert.NfLRIdeal.nD Cert.NfLRIdeal.τ Cert.NfLRIdeal.sig) → Buf (Elt Ideal) ℓ) (g : Dev Cert.NfLRIdeal.nD → PrngReg), Pre_NfLRIdeal m →
    θ_run (Cert.NfLRIdeal.defs (F := Ideal)) (onTc (τ := Cert.NfLRIdeal.τ) (Cert.NfLRIdeal.main (F := Ideal))) ⟨m, fun _ => 0, g⟩ (fun r => (∀ c : Dev Cert.NfLRIdeal.nD,
      r.2.mem ((c.tc : Thread Cert.NfLRIdeal.nD Cert.NfLRIdeal.τ).loc Cert.NfLRIdeal.main_arg0) = m ((c.tc : Thread Cert.NfLRIdeal.nD Cert.NfLRIdeal.τ).loc Cert.NfLRIdeal.main_arg0)
      ∧ r.2.mem ((c.tc : Thread Cert.NfLRIdeal.nD Cert.NfLRIdeal.τ).loc Cert.NfLRIdeal.main_arg1) = m ((c.tc : Thread Cert.NfLRIdeal.nD Cert.NfLRIdeal.τ).loc Cert.NfLRIdeal.main_arg1))
      ∧ r.2.sem = fun _ => 0)

def quiescent_NfQK [hNfQK : Cert.NfQK.Facts] : Prop :=
  ∀ (m : (ℓ : Loc Cert.NfQK.nD Cert.NfQK.τ Cert.NfQK.sig) → Buf (Elt Bits) ℓ) (g : Dev Cert.NfQK.nD → PrngReg), Pre_NfQK m →
    θ_run (Cert.NfQK.defs (F := Bits)) (onTc (τ := Cert.NfQK.τ) (Cert.NfQK.main (F := Bits))) ⟨m, fun _ => 0, g⟩ (fun r => (∀ c : Dev Cert.NfQK.nD,
      r.2.mem ((c.tc : Thread Cert.NfQK.nD Cert.NfQK.τ).loc Cert.NfQK.main_arg0) = m ((c.tc : Thread Cert.NfQK.nD Cert.NfQK.τ).loc Cert.NfQK.main_arg0)
      ∧ r.2.mem ((c.tc : Thread Cert.NfQK.nD Cert.NfQK.τ).loc Cert.NfQK.main_arg1) = m ((c.tc : Thread Cert.NfQK.nD Cert.NfQK.τ).loc Cert.NfQK.main_arg1))
      ∧ r.2.sem = fun _ => 0)

def quiescent_NfQKIdeal [hNfQKIdeal : Cert.NfQKIdeal.Facts] : Prop :=
  ∀ (m : (ℓ : Loc Cert.NfQKIdeal.nD Cert.NfQKIdeal.τ Cert.NfQKIdeal.sig) → Buf (Elt Ideal) ℓ) (g : Dev Cert.NfQKIdeal.nD → PrngReg), Pre_NfQKIdeal m →
    θ_run (Cert.NfQKIdeal.defs (F := Ideal)) (onTc (τ := Cert.NfQKIdeal.τ) (Cert.NfQKIdeal.main (F := Ideal))) ⟨m, fun _ => 0, g⟩ (fun r => (∀ c : Dev Cert.NfQKIdeal.nD,
      r.2.mem ((c.tc : Thread Cert.NfQKIdeal.nD Cert.NfQKIdeal.τ).loc Cert.NfQKIdeal.main_arg0) = m ((c.tc : Thread Cert.NfQKIdeal.nD Cert.NfQKIdeal.τ).loc Cert.NfQKIdeal.main_arg0)
      ∧ r.2.mem ((c.tc : Thread Cert.NfQKIdeal.nD Cert.NfQKIdeal.τ).loc Cert.NfQKIdeal.main_arg1) = m ((c.tc : Thread Cert.NfQKIdeal.nD Cert.NfQKIdeal.τ).loc Cert.NfQKIdeal.main_arg1))
      ∧ r.2.sem = fun _ => 0)

def quiescent_NfQRIdeal [hNfQRIdeal : Cert.NfQRIdeal.Facts] : Prop :=
  ∀ (m : (ℓ : Loc Cert.NfQRIdeal.nD Cert.NfQRIdeal.τ Cert.NfQRIdeal.sig) → Buf (Elt Ideal) ℓ) (g : Dev Cert.NfQRIdeal.nD → PrngReg), Pre_NfQRIdeal m →
    θ_run (Cert.NfQRIdeal.defs (F := Ideal)) (onTc (τ := Cert.NfQRIdeal.τ) (Cert.NfQRIdeal.main (F := Ideal))) ⟨m, fun _ => 0, g⟩ (fun r => (∀ c : Dev Cert.NfQRIdeal.nD,
      r.2.mem ((c.tc : Thread Cert.NfQRIdeal.nD Cert.NfQRIdeal.τ).loc Cert.NfQRIdeal.main_arg0) = m ((c.tc : Thread Cert.NfQRIdeal.nD Cert.NfQRIdeal.τ).loc Cert.NfQRIdeal.main_arg0)
      ∧ r.2.mem ((c.tc : Thread Cert.NfQRIdeal.nD Cert.NfQRIdeal.τ).loc Cert.NfQRIdeal.main_arg1) = m ((c.tc : Thread Cert.NfQRIdeal.nD Cert.NfQRIdeal.τ).loc Cert.NfQRIdeal.main_arg1))
      ∧ r.2.sem = fun _ => 0)

def quiescent_NfKK [hNfKK : Cert.NfKK.Facts] : Prop :=
  ∀ (m : (ℓ : Loc Cert.NfKK.nD Cert.NfKK.τ Cert.NfKK.sig) → Buf (Elt Bits) ℓ) (g : Dev Cert.NfKK.nD → PrngReg), Pre_NfKK m →
    θ_run (Cert.NfKK.defs (F := Bits)) (onTc (τ := Cert.NfKK.τ) (Cert.NfKK.main (F := Bits))) ⟨m, fun _ => 0, g⟩ (fun r => (∀ c : Dev Cert.NfKK.nD,
      r.2.mem ((c.tc : Thread Cert.NfKK.nD Cert.NfKK.τ).loc Cert.NfKK.main_arg0) = m ((c.tc : Thread Cert.NfKK.nD Cert.NfKK.τ).loc Cert.NfKK.main_arg0)
      ∧ r.2.mem ((c.tc : Thread Cert.NfKK.nD Cert.NfKK.τ).loc Cert.NfKK.main_arg1) = m ((c.tc : Thread Cert.NfKK.nD Cert.NfKK.τ).loc Cert.NfKK.main_arg1))
      ∧ r.2.sem = fun _ => 0)

def quiescent_NfKKIdeal [hNfKKIdeal : Cert.NfKKIdeal.Facts] : Prop :=
  ∀ (m : (ℓ : Loc Cert.NfKKIdeal.nD Cert.NfKKIdeal.τ Cert.NfKKIdeal.sig) → Buf (Elt Ideal) ℓ) (g : Dev Cert.NfKKIdeal.nD → PrngReg), Pre_NfKKIdeal m →
    θ_run (Cert.NfKKIdeal.defs (F := Ideal)) (onTc (τ := Cert.NfKKIdeal.τ) (Cert.NfKKIdeal.main (F := Ideal))) ⟨m, fun _ => 0, g⟩ (fun r => (∀ c : Dev Cert.NfKKIdeal.nD,
      r.2.mem ((c.tc : Thread Cert.NfKKIdeal.nD Cert.NfKKIdeal.τ).loc Cert.NfKKIdeal.main_arg0) = m ((c.tc : Thread Cert.NfKKIdeal.nD Cert.NfKKIdeal.τ).loc Cert.NfKKIdeal.main_arg0)
      ∧ r.2.mem ((c.tc : Thread Cert.NfKKIdeal.nD Cert.NfKKIdeal.τ).loc Cert.NfKKIdeal.main_arg1) = m ((c.tc : Thread Cert.NfKKIdeal.nD Cert.NfKKIdeal.τ).loc Cert.NfKKIdeal.main_arg1))
      ∧ r.2.sem = fun _ => 0)

def quiescent_NfKRIdeal [hNfKRIdeal : Cert.NfKRIdeal.Facts] : Prop :=
  ∀ (m : (ℓ : Loc Cert.NfKRIdeal.nD Cert.NfKRIdeal.τ Cert.NfKRIdeal.sig) → Buf (Elt Ideal) ℓ) (g : Dev Cert.NfKRIdeal.nD → PrngReg), Pre_NfKRIdeal m →
    θ_run (Cert.NfKRIdeal.defs (F := Ideal)) (onTc (τ := Cert.NfKRIdeal.τ) (Cert.NfKRIdeal.main (F := Ideal))) ⟨m, fun _ => 0, g⟩ (fun r => (∀ c : Dev Cert.NfKRIdeal.nD,
      r.2.mem ((c.tc : Thread Cert.NfKRIdeal.nD Cert.NfKRIdeal.τ).loc Cert.NfKRIdeal.main_arg0) = m ((c.tc : Thread Cert.NfKRIdeal.nD Cert.NfKRIdeal.τ).loc Cert.NfKRIdeal.main_arg0)
      ∧ r.2.mem ((c.tc : Thread Cert.NfKRIdeal.nD Cert.NfKRIdeal.τ).loc Cert.NfKRIdeal.main_arg1) = m ((c.tc : Thread Cert.NfKRIdeal.nD Cert.NfKRIdeal.τ).loc Cert.NfKRIdeal.main_arg1))
      ∧ r.2.sem = fun _ => 0)

def quiescent_RfAK [hRfAK : Cert.RfAK.Facts] : Prop :=
  ∀ (m : (ℓ : Loc Cert.RfAK.nD Cert.RfAK.τ Cert.RfAK.sig) → Buf (Elt Bits) ℓ) (g : Dev Cert.RfAK.nD → PrngReg), Pre_RfAK m →
    θ_run (Cert.RfAK.defs (F := Bits)) (onTc (τ := Cert.RfAK.τ) (Cert.RfAK.main (F := Bits))) ⟨m, fun _ => 0, g⟩ (fun r => (∀ c : Dev Cert.RfAK.nD,
      r.2.mem ((c.tc : Thread Cert.RfAK.nD Cert.RfAK.τ).loc Cert.RfAK.main_arg0) = m ((c.tc : Thread Cert.RfAK.nD Cert.RfAK.τ).loc Cert.RfAK.main_arg0))
      ∧ r.2.sem = fun _ => 0)

def quiescent_RfAKIdeal [hRfAKIdeal : Cert.RfAKIdeal.Facts] : Prop :=
  ∀ (m : (ℓ : Loc Cert.RfAKIdeal.nD Cert.RfAKIdeal.τ Cert.RfAKIdeal.sig) → Buf (Elt Ideal) ℓ) (g : Dev Cert.RfAKIdeal.nD → PrngReg), Pre_RfAKIdeal m →
    θ_run (Cert.RfAKIdeal.defs (F := Ideal)) (onTc (τ := Cert.RfAKIdeal.τ) (Cert.RfAKIdeal.main (F := Ideal))) ⟨m, fun _ => 0, g⟩ (fun r => (∀ c : Dev Cert.RfAKIdeal.nD,
      r.2.mem ((c.tc : Thread Cert.RfAKIdeal.nD Cert.RfAKIdeal.τ).loc Cert.RfAKIdeal.main_arg0) = m ((c.tc : Thread Cert.RfAKIdeal.nD Cert.RfAKIdeal.τ).loc Cert.RfAKIdeal.main_arg0))
      ∧ r.2.sem = fun _ => 0)

def quiescent_RfARIdeal [hRfARIdeal : Cert.RfARIdeal.Facts] : Prop :=
  ∀ (m : (ℓ : Loc Cert.RfARIdeal.nD Cert.RfARIdeal.τ Cert.RfARIdeal.sig) → Buf (Elt Ideal) ℓ) (g : Dev Cert.RfARIdeal.nD → PrngReg), Pre_RfARIdeal m →
    θ_run (Cert.RfARIdeal.defs (F := Ideal)) (onTc (τ := Cert.RfARIdeal.τ) (Cert.RfARIdeal.main (F := Ideal))) ⟨m, fun _ => 0, g⟩ (fun r => (∀ c : Dev Cert.RfARIdeal.nD,
      r.2.mem ((c.tc : Thread Cert.RfARIdeal.nD Cert.RfARIdeal.τ).loc Cert.RfARIdeal.main_arg0) = m ((c.tc : Thread Cert.RfARIdeal.nD Cert.RfARIdeal.τ).loc Cert.RfARIdeal.main_arg0))
      ∧ r.2.sem = fun _ => 0)

def quiescent_RfBK [hRfBK : Cert.RfBK.Facts] : Prop :=
  ∀ (m : (ℓ : Loc Cert.RfBK.nD Cert.RfBK.τ Cert.RfBK.sig) → Buf (Elt Bits) ℓ) (g : Dev Cert.RfBK.nD → PrngReg), Pre_RfBK m →
    θ_run (Cert.RfBK.defs (F := Bits)) (onTc (τ := Cert.RfBK.τ) (Cert.RfBK.main (F := Bits))) ⟨m, fun _ => 0, g⟩ (fun r => (∀ c : Dev Cert.RfBK.nD,
      r.2.mem ((c.tc : Thread Cert.RfBK.nD Cert.RfBK.τ).loc Cert.RfBK.main_arg0) = m ((c.tc : Thread Cert.RfBK.nD Cert.RfBK.τ).loc Cert.RfBK.main_arg0))
      ∧ r.2.sem = fun _ => 0)

def quiescent_RfBKIdeal [hRfBKIdeal : Cert.RfBKIdeal.Facts] : Prop :=
  ∀ (m : (ℓ : Loc Cert.RfBKIdeal.nD Cert.RfBKIdeal.τ Cert.RfBKIdeal.sig) → Buf (Elt Ideal) ℓ) (g : Dev Cert.RfBKIdeal.nD → PrngReg), Pre_RfBKIdeal m →
    θ_run (Cert.RfBKIdeal.defs (F := Ideal)) (onTc (τ := Cert.RfBKIdeal.τ) (Cert.RfBKIdeal.main (F := Ideal))) ⟨m, fun _ => 0, g⟩ (fun r => (∀ c : Dev Cert.RfBKIdeal.nD,
      r.2.mem ((c.tc : Thread Cert.RfBKIdeal.nD Cert.RfBKIdeal.τ).loc Cert.RfBKIdeal.main_arg0) = m ((c.tc : Thread Cert.RfBKIdeal.nD Cert.RfBKIdeal.τ).loc Cert.RfBKIdeal.main_arg0))
      ∧ r.2.sem = fun _ => 0)

def quiescent_RfBRIdeal [hRfBRIdeal : Cert.RfBRIdeal.Facts] : Prop :=
  ∀ (m : (ℓ : Loc Cert.RfBRIdeal.nD Cert.RfBRIdeal.τ Cert.RfBRIdeal.sig) → Buf (Elt Ideal) ℓ) (g : Dev Cert.RfBRIdeal.nD → PrngReg), Pre_RfBRIdeal m →
    θ_run (Cert.RfBRIdeal.defs (F := Ideal)) (onTc (τ := Cert.RfBRIdeal.τ) (Cert.RfBRIdeal.main (F := Ideal))) ⟨m, fun _ => 0, g⟩ (fun r => (∀ c : Dev Cert.RfBRIdeal.nD,
      r.2.mem ((c.tc : Thread Cert.RfBRIdeal.nD Cert.RfBRIdeal.τ).loc Cert.RfBRIdeal.main_arg0) = m ((c.tc : Thread Cert.RfBRIdeal.nD Cert.RfBRIdeal.τ).loc Cert.RfBRIdeal.main_arg0))
      ∧ r.2.sem = fun _ => 0)

def quiescent_RfCK [hRfCK : Cert.RfCK.Facts] : Prop :=
  ∀ (m : (ℓ : Loc Cert.RfCK.nD Cert.RfCK.τ Cert.RfCK.sig) → Buf (Elt Bits) ℓ) (g : Dev Cert.RfCK.nD → PrngReg), Pre_RfCK m →
    θ_run (Cert.RfCK.defs (F := Bits)) (onTc (τ := Cert.RfCK.τ) (Cert.RfCK.main (F := Bits))) ⟨m, fun _ => 0, g⟩ (fun r => (∀ c : Dev Cert.RfCK.nD,
      r.2.mem ((c.tc : Thread Cert.RfCK.nD Cert.RfCK.τ).loc Cert.RfCK.main_arg0) = m ((c.tc : Thread Cert.RfCK.nD Cert.RfCK.τ).loc Cert.RfCK.main_arg0))
      ∧ r.2.sem = fun _ => 0)

def quiescent_RfCKIdeal [hRfCKIdeal : Cert.RfCKIdeal.Facts] : Prop :=
  ∀ (m : (ℓ : Loc Cert.RfCKIdeal.nD Cert.RfCKIdeal.τ Cert.RfCKIdeal.sig) → Buf (Elt Ideal) ℓ) (g : Dev Cert.RfCKIdeal.nD → PrngReg), Pre_RfCKIdeal m →
    θ_run (Cert.RfCKIdeal.defs (F := Ideal)) (onTc (τ := Cert.RfCKIdeal.τ) (Cert.RfCKIdeal.main (F := Ideal))) ⟨m, fun _ => 0, g⟩ (fun r => (∀ c : Dev Cert.RfCKIdeal.nD,
      r.2.mem ((c.tc : Thread Cert.RfCKIdeal.nD Cert.RfCKIdeal.τ).loc Cert.RfCKIdeal.main_arg0) = m ((c.tc : Thread Cert.RfCKIdeal.nD Cert.RfCKIdeal.τ).loc Cert.RfCKIdeal.main_arg0))
      ∧ r.2.sem = fun _ => 0)

def quiescent_RfCRIdeal [hRfCRIdeal : Cert.RfCRIdeal.Facts] : Prop :=
  ∀ (m : (ℓ : Loc Cert.RfCRIdeal.nD Cert.RfCRIdeal.τ Cert.RfCRIdeal.sig) → Buf (Elt Ideal) ℓ) (g : Dev Cert.RfCRIdeal.nD → PrngReg), Pre_RfCRIdeal m →
    θ_run (Cert.RfCRIdeal.defs (F := Ideal)) (onTc (τ := Cert.RfCRIdeal.τ) (Cert.RfCRIdeal.main (F := Ideal))) ⟨m, fun _ => 0, g⟩ (fun r => (∀ c : Dev Cert.RfCRIdeal.nD,
      r.2.mem ((c.tc : Thread Cert.RfCRIdeal.nD Cert.RfCRIdeal.τ).loc Cert.RfCRIdeal.main_arg0) = m ((c.tc : Thread Cert.RfCRIdeal.nD Cert.RfCRIdeal.τ).loc Cert.RfCRIdeal.main_arg0))
      ∧ r.2.sem = fun _ => 0)

def quiescent_RfKK [hRfKK : Cert.RfKK.Facts] : Prop :=
  ∀ (m : (ℓ : Loc Cert.RfKK.nD Cert.RfKK.τ Cert.RfKK.sig) → Buf (Elt Bits) ℓ) (g : Dev Cert.RfKK.nD → PrngReg), Pre_RfKK m →
    θ_run (Cert.RfKK.defs (F := Bits)) (onTc (τ := Cert.RfKK.τ) (Cert.RfKK.main (F := Bits))) ⟨m, fun _ => 0, g⟩ (fun r => (∀ c : Dev Cert.RfKK.nD,
      r.2.mem ((c.tc : Thread Cert.RfKK.nD Cert.RfKK.τ).loc Cert.RfKK.main_arg0) = m ((c.tc : Thread Cert.RfKK.nD Cert.RfKK.τ).loc Cert.RfKK.main_arg0))
      ∧ r.2.sem = fun _ => 0)

def quiescent_RfKKIdeal [hRfKKIdeal : Cert.RfKKIdeal.Facts] : Prop :=
  ∀ (m : (ℓ : Loc Cert.RfKKIdeal.nD Cert.RfKKIdeal.τ Cert.RfKKIdeal.sig) → Buf (Elt Ideal) ℓ) (g : Dev Cert.RfKKIdeal.nD → PrngReg), Pre_RfKKIdeal m →
    θ_run (Cert.RfKKIdeal.defs (F := Ideal)) (onTc (τ := Cert.RfKKIdeal.τ) (Cert.RfKKIdeal.main (F := Ideal))) ⟨m, fun _ => 0, g⟩ (fun r => (∀ c : Dev Cert.RfKKIdeal.nD,
      r.2.mem ((c.tc : Thread Cert.RfKKIdeal.nD Cert.RfKKIdeal.τ).loc Cert.RfKKIdeal.main_arg0) = m ((c.tc : Thread Cert.RfKKIdeal.nD Cert.RfKKIdeal.τ).loc Cert.RfKKIdeal.main_arg0))
      ∧ r.2.sem = fun _ => 0)

def quiescent_RfKRIdeal [hRfKRIdeal : Cert.RfKRIdeal.Facts] : Prop :=
  ∀ (m : (ℓ : Loc Cert.RfKRIdeal.nD Cert.RfKRIdeal.τ Cert.RfKRIdeal.sig) → Buf (Elt Ideal) ℓ) (g : Dev Cert.RfKRIdeal.nD → PrngReg), Pre_RfKRIdeal m →
    θ_run (Cert.RfKRIdeal.defs (F := Ideal)) (onTc (τ := Cert.RfKRIdeal.τ) (Cert.RfKRIdeal.main (F := Ideal))) ⟨m, fun _ => 0, g⟩ (fun r => (∀ c : Dev Cert.RfKRIdeal.nD,
      r.2.mem ((c.tc : Thread Cert.RfKRIdeal.nD Cert.RfKRIdeal.τ).loc Cert.RfKRIdeal.main_arg0) = m ((c.tc : Thread Cert.RfKRIdeal.nD Cert.RfKRIdeal.τ).loc Cert.RfKRIdeal.main_arg0))
      ∧ r.2.sem = fun _ => 0)

def quiescent_LkFK [hLkFK : Cert.LkFK.Facts] : Prop :=
  ∀ (m : (ℓ : Loc Cert.LkFK.nD Cert.LkFK.τ Cert.LkFK.sig) → Buf (Elt Bits) ℓ) (g : Dev Cert.LkFK.nD → PrngReg), Pre_LkFK m →
    θ_run (Cert.LkFK.defs (F := Bits)) (onTc (τ := Cert.LkFK.τ) (Cert.LkFK.main (F := Bits))) ⟨m, fun _ => 0, g⟩ (fun r => (∀ c : Dev Cert.LkFK.nD,
      r.2.mem ((c.tc : Thread Cert.LkFK.nD Cert.LkFK.τ).loc Cert.LkFK.main_arg0) = m ((c.tc : Thread Cert.LkFK.nD Cert.LkFK.τ).loc Cert.LkFK.main_arg0)
      ∧ r.2.mem ((c.tc : Thread Cert.LkFK.nD Cert.LkFK.τ).loc Cert.LkFK.main_arg1) = m ((c.tc : Thread Cert.LkFK.nD Cert.LkFK.τ).loc Cert.LkFK.main_arg1))
      ∧ r.2.sem = fun _ => 0)

def quiescent_LkFKIdeal [hLkFKIdeal : Cert.LkFKIdeal.Facts] : Prop :=
  ∀ (m : (ℓ : Loc Cert.LkFKIdeal.nD Cert.LkFKIdeal.τ Cert.LkFKIdeal.sig) → Buf (Elt Ideal) ℓ) (g : Dev Cert.LkFKIdeal.nD → PrngReg), Pre_LkFKIdeal m →
    θ_run (Cert.LkFKIdeal.defs (F := Ideal)) (onTc (τ := Cert.LkFKIdeal.τ) (Cert.LkFKIdeal.main (F := Ideal))) ⟨m, fun _ => 0, g⟩ (fun r => (∀ c : Dev Cert.LkFKIdeal.nD,
      r.2.mem ((c.tc : Thread Cert.LkFKIdeal.nD Cert.LkFKIdeal.τ).loc Cert.LkFKIdeal.main_arg0) = m ((c.tc : Thread Cert.LkFKIdeal.nD Cert.LkFKIdeal.τ).loc Cert.LkFKIdeal.main_arg0)
      ∧ r.2.mem ((c.tc : Thread Cert.LkFKIdeal.nD Cert.LkFKIdeal.τ).loc Cert.LkFKIdeal.main_arg1) = m ((c.tc : Thread Cert.LkFKIdeal.nD Cert.LkFKIdeal.τ).loc Cert.LkFKIdeal.main_arg1))
      ∧ r.2.sem = fun _ => 0)

def quiescent_LkFRIdeal [hLkFRIdeal : Cert.LkFRIdeal.Facts] : Prop :=
  ∀ (m : (ℓ : Loc Cert.LkFRIdeal.nD Cert.LkFRIdeal.τ Cert.LkFRIdeal.sig) → Buf (Elt Ideal) ℓ) (g : Dev Cert.LkFRIdeal.nD → PrngReg), Pre_LkFRIdeal m →
    θ_run (Cert.LkFRIdeal.defs (F := Ideal)) (onTc (τ := Cert.LkFRIdeal.τ) (Cert.LkFRIdeal.main (F := Ideal))) ⟨m, fun _ => 0, g⟩ (fun r => (∀ c : Dev Cert.LkFRIdeal.nD,
      r.2.mem ((c.tc : Thread Cert.LkFRIdeal.nD Cert.LkFRIdeal.τ).loc Cert.LkFRIdeal.main_arg0) = m ((c.tc : Thread Cert.LkFRIdeal.nD Cert.LkFRIdeal.τ).loc Cert.LkFRIdeal.main_arg0)
      ∧ r.2.mem ((c.tc : Thread Cert.LkFRIdeal.nD Cert.LkFRIdeal.τ).loc Cert.LkFRIdeal.main_arg1) = m ((c.tc : Thread Cert.LkFRIdeal.nD Cert.LkFRIdeal.τ).loc Cert.LkFRIdeal.main_arg1))
      ∧ r.2.sem = fun _ => 0)

def quiescent_FfUK [hFfUK : Cert.FfUK.Facts] : Prop :=
  ∀ (m : (ℓ : Loc Cert.FfUK.nD Cert.FfUK.τ Cert.FfUK.sig) → Buf (Elt Bits) ℓ) (g : Dev Cert.FfUK.nD → PrngReg), Pre_FfUK m →
    θ_run (Cert.FfUK.defs (F := Bits)) (onTc (τ := Cert.FfUK.τ) (Cert.FfUK.main (F := Bits))) ⟨m, fun _ => 0, g⟩ (fun r => (∀ c : Dev Cert.FfUK.nD,
      r.2.mem ((c.tc : Thread Cert.FfUK.nD Cert.FfUK.τ).loc Cert.FfUK.main_arg0) = m ((c.tc : Thread Cert.FfUK.nD Cert.FfUK.τ).loc Cert.FfUK.main_arg0)
      ∧ r.2.mem ((c.tc : Thread Cert.FfUK.nD Cert.FfUK.τ).loc Cert.FfUK.main_arg1) = m ((c.tc : Thread Cert.FfUK.nD Cert.FfUK.τ).loc Cert.FfUK.main_arg1)
      ∧ r.2.mem ((c.tc : Thread Cert.FfUK.nD Cert.FfUK.τ).loc Cert.FfUK.main_arg2) = m ((c.tc : Thread Cert.FfUK.nD Cert.FfUK.τ).loc Cert.FfUK.main_arg2))
      ∧ r.2.sem = fun _ => 0)

def quiescent_FfUKIdeal [hFfUKIdeal : Cert.FfUKIdeal.Facts] : Prop :=
  ∀ (m : (ℓ : Loc Cert.FfUKIdeal.nD Cert.FfUKIdeal.τ Cert.FfUKIdeal.sig) → Buf (Elt Ideal) ℓ) (g : Dev Cert.FfUKIdeal.nD → PrngReg), Pre_FfUKIdeal m →
    θ_run (Cert.FfUKIdeal.defs (F := Ideal)) (onTc (τ := Cert.FfUKIdeal.τ) (Cert.FfUKIdeal.main (F := Ideal))) ⟨m, fun _ => 0, g⟩ (fun r => (∀ c : Dev Cert.FfUKIdeal.nD,
      r.2.mem ((c.tc : Thread Cert.FfUKIdeal.nD Cert.FfUKIdeal.τ).loc Cert.FfUKIdeal.main_arg0) = m ((c.tc : Thread Cert.FfUKIdeal.nD Cert.FfUKIdeal.τ).loc Cert.FfUKIdeal.main_arg0)
      ∧ r.2.mem ((c.tc : Thread Cert.FfUKIdeal.nD Cert.FfUKIdeal.τ).loc Cert.FfUKIdeal.main_arg1) = m ((c.tc : Thread Cert.FfUKIdeal.nD Cert.FfUKIdeal.τ).loc Cert.FfUKIdeal.main_arg1)
      ∧ r.2.mem ((c.tc : Thread Cert.FfUKIdeal.nD Cert.FfUKIdeal.τ).loc Cert.FfUKIdeal.main_arg2) = m ((c.tc : Thread Cert.FfUKIdeal.nD Cert.FfUKIdeal.τ).loc Cert.FfUKIdeal.main_arg2))
      ∧ r.2.sem = fun _ => 0)

def quiescent_FfUKIdeal_pre_ffu_finite [hFfUKIdeal : Cert.FfUKIdeal.Facts] [hPre_ffu_finite : Cert.Pre_ffu_finite.Facts] : Prop :=
  ∀ (m : (ℓ : Loc Cert.FfUKIdeal.nD Cert.FfUKIdeal.τ Cert.FfUKIdeal.sig) → Buf (Elt Ideal) ℓ) (g : Dev Cert.FfUKIdeal.nD → PrngReg), Pre_FfUKIdeal_ffu_finite m →
    θ_run (Cert.FfUKIdeal.defs (F := Ideal)) (onTc (τ := Cert.FfUKIdeal.τ) (Cert.FfUKIdeal.main (F := Ideal))) ⟨m, fun _ => 0, g⟩ (fun r => (∀ c : Dev Cert.FfUKIdeal.nD,
      r.2.mem ((c.tc : Thread Cert.FfUKIdeal.nD Cert.FfUKIdeal.τ).loc Cert.FfUKIdeal.main_arg0) = m ((c.tc : Thread Cert.FfUKIdeal.nD Cert.FfUKIdeal.τ).loc Cert.FfUKIdeal.main_arg0)
      ∧ r.2.mem ((c.tc : Thread Cert.FfUKIdeal.nD Cert.FfUKIdeal.τ).loc Cert.FfUKIdeal.main_arg1) = m ((c.tc : Thread Cert.FfUKIdeal.nD Cert.FfUKIdeal.τ).loc Cert.FfUKIdeal.main_arg1)
      ∧ r.2.mem ((c.tc : Thread Cert.FfUKIdeal.nD Cert.FfUKIdeal.τ).loc Cert.FfUKIdeal.main_arg2) = m ((c.tc : Thread Cert.FfUKIdeal.nD Cert.FfUKIdeal.τ).loc Cert.FfUKIdeal.main_arg2))
      ∧ r.2.sem = fun _ => 0)

def quiescent_FfURIdeal [hFfURIdeal : Cert.FfURIdeal.Facts] : Prop :=
  ∀ (m : (ℓ : Loc Cert.FfURIdeal.nD Cert.FfURIdeal.τ Cert.FfURIdeal.sig) → Buf (Elt Ideal) ℓ) (g : Dev Cert.FfURIdeal.nD → PrngReg), Pre_FfURIdeal m →
    θ_run (Cert.FfURIdeal.defs (F := Ideal)) (onTc (τ := Cert.FfURIdeal.τ) (Cert.FfURIdeal.main (F := Ideal))) ⟨m, fun _ => 0, g⟩ (fun r => (∀ c : Dev Cert.FfURIdeal.nD,
      r.2.mem ((c.tc : Thread Cert.FfURIdeal.nD Cert.FfURIdeal.τ).loc Cert.FfURIdeal.main_arg0) = m ((c.tc : Thread Cert.FfURIdeal.nD Cert.FfURIdeal.τ).loc Cert.FfURIdeal.main_arg0)
      ∧ r.2.mem ((c.tc : Thread Cert.FfURIdeal.nD Cert.FfURIdeal.τ).loc Cert.FfURIdeal.main_arg1) = m ((c.tc : Thread Cert.FfURIdeal.nD Cert.FfURIdeal.τ).loc Cert.FfURIdeal.main_arg1)
      ∧ r.2.mem ((c.tc : Thread Cert.FfURIdeal.nD Cert.FfURIdeal.τ).loc Cert.FfURIdeal.main_arg2) = m ((c.tc : Thread Cert.FfURIdeal.nD Cert.FfURIdeal.τ).loc Cert.FfURIdeal.main_arg2))
      ∧ r.2.sem = fun _ => 0)

def quiescent_FfURIdeal_pre_ffu_finite [hFfURIdeal : Cert.FfURIdeal.Facts] [hPre_ffu_finite : Cert.Pre_ffu_finite.Facts] : Prop :=
  ∀ (m : (ℓ : Loc Cert.FfURIdeal.nD Cert.FfURIdeal.τ Cert.FfURIdeal.sig) → Buf (Elt Ideal) ℓ) (g : Dev Cert.FfURIdeal.nD → PrngReg), Pre_FfURIdeal_ffu_finite m →
    θ_run (Cert.FfURIdeal.defs (F := Ideal)) (onTc (τ := Cert.FfURIdeal.τ) (Cert.FfURIdeal.main (F := Ideal))) ⟨m, fun _ => 0, g⟩ (fun r => (∀ c : Dev Cert.FfURIdeal.nD,
      r.2.mem ((c.tc : Thread Cert.FfURIdeal.nD Cert.FfURIdeal.τ).loc Cert.FfURIdeal.main_arg0) = m ((c.tc : Thread Cert.FfURIdeal.nD Cert.FfURIdeal.τ).loc Cert.FfURIdeal.main_arg0)
      ∧ r.2.mem ((c.tc : Thread Cert.FfURIdeal.nD Cert.FfURIdeal.τ).loc Cert.FfURIdeal.main_arg1) = m ((c.tc : Thread Cert.FfURIdeal.nD Cert.FfURIdeal.τ).loc Cert.FfURIdeal.main_arg1)
      ∧ r.2.mem ((c.tc : Thread Cert.FfURIdeal.nD Cert.FfURIdeal.τ).loc Cert.FfURIdeal.main_arg2) = m ((c.tc : Thread Cert.FfURIdeal.nD Cert.FfURIdeal.τ).loc Cert.FfURIdeal.main_arg2))
      ∧ r.2.sem = fun _ => 0)

def quiescent_CcBK [hCcBK : Cert.CcBK.Facts] : Prop :=
  ∀ (m : (ℓ : Loc Cert.CcBK.nD Cert.CcBK.τ Cert.CcBK.sig) → Buf (Elt Bits) ℓ) (g : Dev Cert.CcBK.nD → PrngReg), Pre_CcBK m →
    θ_run (Cert.CcBK.defs (F := Bits)) (onTc (τ := Cert.CcBK.τ) (Cert.CcBK.main (F := Bits))) ⟨m, fun _ => 0, g⟩ (fun r => (∀ c : Dev Cert.CcBK.nD,
      r.2.mem ((c.tc : Thread Cert.CcBK.nD Cert.CcBK.τ).loc Cert.CcBK.main_arg0) = m ((c.tc : Thread Cert.CcBK.nD Cert.CcBK.τ).loc Cert.CcBK.main_arg0))
      ∧ r.2.sem = fun _ => 0)

def quiescent_CcBKIdeal [hCcBKIdeal : Cert.CcBKIdeal.Facts] : Prop :=
  ∀ (m : (ℓ : Loc Cert.CcBKIdeal.nD Cert.CcBKIdeal.τ Cert.CcBKIdeal.sig) → Buf (Elt Ideal) ℓ) (g : Dev Cert.CcBKIdeal.nD → PrngReg), Pre_CcBKIdeal m →
    θ_run (Cert.CcBKIdeal.defs (F := Ideal)) (onTc (τ := Cert.CcBKIdeal.τ) (Cert.CcBKIdeal.main (F := Ideal))) ⟨m, fun _ => 0, g⟩ (fun r => (∀ c : Dev Cert.CcBKIdeal.nD,
      r.2.mem ((c.tc : Thread Cert.CcBKIdeal.nD Cert.CcBKIdeal.τ).loc Cert.CcBKIdeal.main_arg0) = m ((c.tc : Thread Cert.CcBKIdeal.nD Cert.CcBKIdeal.τ).loc Cert.CcBKIdeal.main_arg0))
      ∧ r.2.sem = fun _ => 0)

def quiescent_CcBRIdeal [hCcBRIdeal : Cert.CcBRIdeal.Facts] : Prop :=
  ∀ (m : (ℓ : Loc Cert.CcBRIdeal.nD Cert.CcBRIdeal.τ Cert.CcBRIdeal.sig) → Buf (Elt Ideal) ℓ) (g : Dev Cert.CcBRIdeal.nD → PrngReg), Pre_CcBRIdeal m →
    θ_run (Cert.CcBRIdeal.defs (F := Ideal)) (onTc (τ := Cert.CcBRIdeal.τ) (Cert.CcBRIdeal.main (F := Ideal))) ⟨m, fun _ => 0, g⟩ (fun r => (∀ c : Dev Cert.CcBRIdeal.nD,
      r.2.mem ((c.tc : Thread Cert.CcBRIdeal.nD Cert.CcBRIdeal.τ).loc Cert.CcBRIdeal.main_arg0) = m ((c.tc : Thread Cert.CcBRIdeal.nD Cert.CcBRIdeal.τ).loc Cert.CcBRIdeal.main_arg0))
      ∧ r.2.sem = fun _ => 0)

def quiescent_CcBR [hCcBR : Cert.CcBR.Facts] : Prop :=
  ∀ (m : (ℓ : Loc Cert.CcBR.nD Cert.CcBR.τ Cert.CcBR.sig) → Buf (Elt Bits) ℓ) (g : Dev Cert.CcBR.nD → PrngReg), Pre_CcBR m →
    θ_run (Cert.CcBR.defs (F := Bits)) (onTc (τ := Cert.CcBR.τ) (Cert.CcBR.main (F := Bits))) ⟨m, fun _ => 0, g⟩ (fun r => (∀ c : Dev Cert.CcBR.nD,
      r.2.mem ((c.tc : Thread Cert.CcBR.nD Cert.CcBR.τ).loc Cert.CcBR.main_arg0) = m ((c.tc : Thread Cert.CcBR.nD Cert.CcBR.τ).loc Cert.CcBR.main_arg0))
      ∧ r.2.sem = fun _ => 0)

def quiescent_CcCK [hCcCK : Cert.CcCK.Facts] : Prop :=
  ∀ (m : (ℓ : Loc Cert.CcCK.nD Cert.CcCK.τ Cert.CcCK.sig) → Buf (Elt Bits) ℓ) (g : Dev Cert.CcCK.nD → PrngReg), Pre_CcCK m →
    θ_run (Cert.CcCK.defs (F := Bits)) (onTc (τ := Cert.CcCK.τ) (Cert.CcCK.main (F := Bits))) ⟨m, fun _ => 0, g⟩ (fun r => (∀ c : Dev Cert.CcCK.nD,
      r.2.mem ((c.tc : Thread Cert.CcCK.nD Cert.CcCK.τ).loc Cert.CcCK.main_arg0) = m ((c.tc : Thread Cert.CcCK.nD Cert.CcCK.τ).loc Cert.CcCK.main_arg0))
      ∧ r.2.sem = fun _ => 0)

def quiescent_CcCKIdeal [hCcCKIdeal : Cert.CcCKIdeal.Facts] : Prop :=
  ∀ (m : (ℓ : Loc Cert.CcCKIdeal.nD Cert.CcCKIdeal.τ Cert.CcCKIdeal.sig) → Buf (Elt Ideal) ℓ) (g : Dev Cert.CcCKIdeal.nD → PrngReg), Pre_CcCKIdeal m →
    θ_run (Cert.CcCKIdeal.defs (F := Ideal)) (onTc (τ := Cert.CcCKIdeal.τ) (Cert.CcCKIdeal.main (F := Ideal))) ⟨m, fun _ => 0, g⟩ (fun r => (∀ c : Dev Cert.CcCKIdeal.nD,
      r.2.mem ((c.tc : Thread Cert.CcCKIdeal.nD Cert.CcCKIdeal.τ).loc Cert.CcCKIdeal.main_arg0) = m ((c.tc : Thread Cert.CcCKIdeal.nD Cert.CcCKIdeal.τ).loc Cert.CcCKIdeal.main_arg0))
      ∧ r.2.sem = fun _ => 0)

def quiescent_CcCRIdeal [hCcCRIdeal : Cert.CcCRIdeal.Facts] : Prop :=
  ∀ (m : (ℓ : Loc Cert.CcCRIdeal.nD Cert.CcCRIdeal.τ Cert.CcCRIdeal.sig) → Buf (Elt Ideal) ℓ) (g : Dev Cert.CcCRIdeal.nD → PrngReg), Pre_CcCRIdeal m →
    θ_run (Cert.CcCRIdeal.defs (F := Ideal)) (onTc (τ := Cert.CcCRIdeal.τ) (Cert.CcCRIdeal.main (F := Ideal))) ⟨m, fun _ => 0, g⟩ (fun r => (∀ c : Dev Cert.CcCRIdeal.nD,
      r.2.mem ((c.tc : Thread Cert.CcCRIdeal.nD Cert.CcCRIdeal.τ).loc Cert.CcCRIdeal.main_arg0) = m ((c.tc : Thread Cert.CcCRIdeal.nD Cert.CcCRIdeal.τ).loc Cert.CcCRIdeal.main_arg0))
      ∧ r.2.sem = fun _ => 0)

def quiescent_CcCR [hCcCR : Cert.CcCR.Facts] : Prop :=
  ∀ (m : (ℓ : Loc Cert.CcCR.nD Cert.CcCR.τ Cert.CcCR.sig) → Buf (Elt Bits) ℓ) (g : Dev Cert.CcCR.nD → PrngReg), Pre_CcCR m →
    θ_run (Cert.CcCR.defs (F := Bits)) (onTc (τ := Cert.CcCR.τ) (Cert.CcCR.main (F := Bits))) ⟨m, fun _ => 0, g⟩ (fun r => (∀ c : Dev Cert.CcCR.nD,
      r.2.mem ((c.tc : Thread Cert.CcCR.nD Cert.CcCR.τ).loc Cert.CcCR.main_arg0) = m ((c.tc : Thread Cert.CcCR.nD Cert.CcCR.τ).loc Cert.CcCR.main_arg0))
      ∧ r.2.sem = fun _ => 0)

def quiescent_MmK [hMmK : Cert.MmK.Facts] : Prop :=
  ∀ (m : (ℓ : Loc Cert.MmK.nD Cert.MmK.τ Cert.MmK.sig) → Buf (Elt Bits) ℓ) (g : Dev Cert.MmK.nD → PrngReg), Pre_MmK m →
    θ_run (Cert.MmK.defs (F := Bits)) (onTc (τ := Cert.MmK.τ) (Cert.MmK.main (F := Bits))) ⟨m, fun _ => 0, g⟩ (fun r => (∀ c : Dev Cert.MmK.nD,
      r.2.mem ((c.tc : Thread Cert.MmK.nD Cert.MmK.τ).loc Cert.MmK.main_arg0) = m ((c.tc : Thread Cert.MmK.nD Cert.MmK.τ).loc Cert.MmK.main_arg0)
      ∧ r.2.mem ((c.tc : Thread Cert.MmK.nD Cert.MmK.τ).loc Cert.MmK.main_arg1) = m ((c.tc : Thread Cert.MmK.nD Cert.MmK.τ).loc Cert.MmK.main_arg1)
      ∧ r.2.mem ((c.tc : Thread Cert.MmK.nD Cert.MmK.τ).loc Cert.MmK.main_arg2) = m ((c.tc : Thread Cert.MmK.nD Cert.MmK.τ).loc Cert.MmK.main_arg2))
      ∧ r.2.sem = fun _ => 0)

def quiescent_MmKIdeal [hMmKIdeal : Cert.MmKIdeal.Facts] : Prop :=
  ∀ (m : (ℓ : Loc Cert.MmKIdeal.nD Cert.MmKIdeal.τ Cert.MmKIdeal.sig) → Buf (Elt Ideal) ℓ) (g : Dev Cert.MmKIdeal.nD → PrngReg), Pre_MmKIdeal m →
    θ_run (Cert.MmKIdeal.defs (F := Ideal)) (onTc (τ := Cert.MmKIdeal.τ) (Cert.MmKIdeal.main (F := Ideal))) ⟨m, fun _ => 0, g⟩ (fun r => (∀ c : Dev Cert.MmKIdeal.nD,
      r.2.mem ((c.tc : Thread Cert.MmKIdeal.nD Cert.MmKIdeal.τ).loc Cert.MmKIdeal.main_arg0) = m ((c.tc : Thread Cert.MmKIdeal.nD Cert.MmKIdeal.τ).loc Cert.MmKIdeal.main_arg0)
      ∧ r.2.mem ((c.tc : Thread Cert.MmKIdeal.nD Cert.MmKIdeal.τ).loc Cert.MmKIdeal.main_arg1) = m ((c.tc : Thread Cert.MmKIdeal.nD Cert.MmKIdeal.τ).loc Cert.MmKIdeal.main_arg1)
      ∧ r.2.mem ((c.tc : Thread Cert.MmKIdeal.nD Cert.MmKIdeal.τ).loc Cert.MmKIdeal.main_arg2) = m ((c.tc : Thread Cert.MmKIdeal.nD Cert.MmKIdeal.τ).loc Cert.MmKIdeal.main_arg2))
      ∧ r.2.sem = fun _ => 0)

def quiescent_MmRIdeal [hMmRIdeal : Cert.MmRIdeal.Facts] : Prop :=
  ∀ (m : (ℓ : Loc Cert.MmRIdeal.nD Cert.MmRIdeal.τ Cert.MmRIdeal.sig) → Buf (Elt Ideal) ℓ) (g : Dev Cert.MmRIdeal.nD → PrngReg), Pre_MmRIdeal m →
    θ_run (Cert.MmRIdeal.defs (F := Ideal)) (onTc (τ := Cert.MmRIdeal.τ) (Cert.MmRIdeal.main (F := Ideal))) ⟨m, fun _ => 0, g⟩ (fun r => (∀ c : Dev Cert.MmRIdeal.nD,
      r.2.mem ((c.tc : Thread Cert.MmRIdeal.nD Cert.MmRIdeal.τ).loc Cert.MmRIdeal.main_arg0) = m ((c.tc : Thread Cert.MmRIdeal.nD Cert.MmRIdeal.τ).loc Cert.MmRIdeal.main_arg0)
      ∧ r.2.mem ((c.tc : Thread Cert.MmRIdeal.nD Cert.MmRIdeal.τ).loc Cert.MmRIdeal.main_arg1) = m ((c.tc : Thread Cert.MmRIdeal.nD Cert.MmRIdeal.τ).loc Cert.MmRIdeal.main_arg1)
      ∧ r.2.mem ((c.tc : Thread Cert.MmRIdeal.nD Cert.MmRIdeal.τ).loc Cert.MmRIdeal.main_arg2) = m ((c.tc : Thread Cert.MmRIdeal.nD Cert.MmRIdeal.τ).loc Cert.MmRIdeal.main_arg2))
      ∧ r.2.sem = fun _ => 0)

def quiescent_FudK [hFudK : Cert.FudK.Facts] : Prop :=
  ∀ (m : (ℓ : Loc Cert.FudK.nD Cert.FudK.τ Cert.FudK.sig) → Buf (Elt Bits) ℓ) (g : Dev Cert.FudK.nD → PrngReg), Pre_FudK m →
    θ_run (Cert.FudK.defs (F := Bits)) (onTc (τ := Cert.FudK.τ) (Cert.FudK.main (F := Bits))) ⟨m, fun _ => 0, g⟩ (fun r => (∀ c : Dev Cert.FudK.nD,
      r.2.mem ((c.tc : Thread Cert.FudK.nD Cert.FudK.τ).loc Cert.FudK.main_arg0) = m ((c.tc : Thread Cert.FudK.nD Cert.FudK.τ).loc Cert.FudK.main_arg0)
      ∧ r.2.mem ((c.tc : Thread Cert.FudK.nD Cert.FudK.τ).loc Cert.FudK.main_arg1) = m ((c.tc : Thread Cert.FudK.nD Cert.FudK.τ).loc Cert.FudK.main_arg1)
      ∧ r.2.mem ((c.tc : Thread Cert.FudK.nD Cert.FudK.τ).loc Cert.FudK.main_arg2) = m ((c.tc : Thread Cert.FudK.nD Cert.FudK.τ).loc Cert.FudK.main_arg2)
      ∧ r.2.mem ((c.tc : Thread Cert.FudK.nD Cert.FudK.τ).loc Cert.FudK.main_arg3) = m ((c.tc : Thread Cert.FudK.nD Cert.FudK.τ).loc Cert.FudK.main_arg3))
      ∧ r.2.sem = fun _ => 0)

def quiescent_FudKIdeal [hFudKIdeal : Cert.FudKIdeal.Facts] : Prop :=
  ∀ (m : (ℓ : Loc Cert.FudKIdeal.nD Cert.FudKIdeal.τ Cert.FudKIdeal.sig) → Buf (Elt Ideal) ℓ) (g : Dev Cert.FudKIdeal.nD → PrngReg), Pre_FudKIdeal m →
    θ_run (Cert.FudKIdeal.defs (F := Ideal)) (onTc (τ := Cert.FudKIdeal.τ) (Cert.FudKIdeal.main (F := Ideal))) ⟨m, fun _ => 0, g⟩ (fun r => (∀ c : Dev Cert.FudKIdeal.nD,
      r.2.mem ((c.tc : Thread Cert.FudKIdeal.nD Cert.FudKIdeal.τ).loc Cert.FudKIdeal.main_arg0) = m ((c.tc : Thread Cert.FudKIdeal.nD Cert.FudKIdeal.τ).loc Cert.FudKIdeal.main_arg0)
      ∧ r.2.mem ((c.tc : Thread Cert.FudKIdeal.nD Cert.FudKIdeal.τ).loc Cert.FudKIdeal.main_arg1) = m ((c.tc : Thread Cert.FudKIdeal.nD Cert.FudKIdeal.τ).loc Cert.FudKIdeal.main_arg1)
      ∧ r.2.mem ((c.tc : Thread Cert.FudKIdeal.nD Cert.FudKIdeal.τ).loc Cert.FudKIdeal.main_arg2) = m ((c.tc : Thread Cert.FudKIdeal.nD Cert.FudKIdeal.τ).loc Cert.FudKIdeal.main_arg2)
      ∧ r.2.mem ((c.tc : Thread Cert.FudKIdeal.nD Cert.FudKIdeal.τ).loc Cert.FudKIdeal.main_arg3) = m ((c.tc : Thread Cert.FudKIdeal.nD Cert.FudKIdeal.τ).loc Cert.FudKIdeal.main_arg3))
      ∧ r.2.sem = fun _ => 0)

def quiescent_FudRIdeal [hFudRIdeal : Cert.FudRIdeal.Facts] : Prop :=
  ∀ (m : (ℓ : Loc Cert.FudRIdeal.nD Cert.FudRIdeal.τ Cert.FudRIdeal.sig) → Buf (Elt Ideal) ℓ) (g : Dev Cert.FudRIdeal.nD → PrngReg), Pre_FudRIdeal m →
    θ_run (Cert.FudRIdeal.defs (F := Ideal)) (onTc (τ := Cert.FudRIdeal.τ) (Cert.FudRIdeal.main (F := Ideal))) ⟨m, fun _ => 0, g⟩ (fun r => (∀ c : Dev Cert.FudRIdeal.nD,
      r.2.mem ((c.tc : Thread Cert.FudRIdeal.nD Cert.FudRIdeal.τ).loc Cert.FudRIdeal.main_arg0) = m ((c.tc : Thread Cert.FudRIdeal.nD Cert.FudRIdeal.τ).loc Cert.FudRIdeal.main_arg0)
      ∧ r.2.mem ((c.tc : Thread Cert.FudRIdeal.nD Cert.FudRIdeal.τ).loc Cert.FudRIdeal.main_arg1) = m ((c.tc : Thread Cert.FudRIdeal.nD Cert.FudRIdeal.τ).loc Cert.FudRIdeal.main_arg1)
      ∧ r.2.mem ((c.tc : Thread Cert.FudRIdeal.nD Cert.FudRIdeal.τ).loc Cert.FudRIdeal.main_arg2) = m ((c.tc : Thread Cert.FudRIdeal.nD Cert.FudRIdeal.τ).loc Cert.FudRIdeal.main_arg2)
      ∧ r.2.mem ((c.tc : Thread Cert.FudRIdeal.nD Cert.FudRIdeal.τ).loc Cert.FudRIdeal.main_arg3) = m ((c.tc : Thread Cert.FudRIdeal.nD Cert.FudRIdeal.τ).loc Cert.FudRIdeal.main_arg3))
      ∧ r.2.sem = fun _ => 0)

def quiescent_AdwK [hAdwK : Cert.AdwK.Facts] : Prop :=
  ∀ (m : (ℓ : Loc Cert.AdwK.nD Cert.AdwK.τ Cert.AdwK.sig) → Buf (Elt Bits) ℓ) (g : Dev Cert.AdwK.nD → PrngReg), Pre_AdwK m →
    θ_run (Cert.AdwK.defs (F := Bits)) (onTc (τ := Cert.AdwK.τ) (Cert.AdwK.main (F := Bits))) ⟨m, fun _ => 0, g⟩ (fun r => (∀ c : Dev Cert.AdwK.nD,
      r.2.mem ((c.tc : Thread Cert.AdwK.nD Cert.AdwK.τ).loc Cert.AdwK.main_arg0) = m ((c.tc : Thread Cert.AdwK.nD Cert.AdwK.τ).loc Cert.AdwK.main_arg0)
      ∧ r.2.mem ((c.tc : Thread Cert.AdwK.nD Cert.AdwK.τ).loc Cert.AdwK.main_arg1) = m ((c.tc : Thread Cert.AdwK.nD Cert.AdwK.τ).loc Cert.AdwK.main_arg1)
      ∧ r.2.mem ((c.tc : Thread Cert.AdwK.nD Cert.AdwK.τ).loc Cert.AdwK.main_arg2) = m ((c.tc : Thread Cert.AdwK.nD Cert.AdwK.τ).loc Cert.AdwK.main_arg2)
      ∧ r.2.mem ((c.tc : Thread Cert.AdwK.nD Cert.AdwK.τ).loc Cert.AdwK.main_arg3) = m ((c.tc : Thread Cert.AdwK.nD Cert.AdwK.τ).loc Cert.AdwK.main_arg3)
      ∧ r.2.mem ((c.tc : Thread Cert.AdwK.nD Cert.AdwK.τ).loc Cert.AdwK.main_arg4) = m ((c.tc : Thread Cert.AdwK.nD Cert.AdwK.τ).loc Cert.AdwK.main_arg4))
      ∧ r.2.sem = fun _ => 0)

def quiescent_AdwKIdeal [hAdwKIdeal : Cert.AdwKIdeal.Facts] : Prop :=
  ∀ (m : (ℓ : Loc Cert.AdwKIdeal.nD Cert.AdwKIdeal.τ Cert.AdwKIdeal.sig) → Buf (Elt Ideal) ℓ) (g : Dev Cert.AdwKIdeal.nD → PrngReg), Pre_AdwKIdeal m →
    θ_run (Cert.AdwKIdeal.defs (F := Ideal)) (onTc (τ := Cert.AdwKIdeal.τ) (Cert.AdwKIdeal.main (F := Ideal))) ⟨m, fun _ => 0, g⟩ (fun r => (∀ c : Dev Cert.AdwKIdeal.nD,
      r.2.mem ((c.tc : Thread Cert.AdwKIdeal.nD Cert.AdwKIdeal.τ).loc Cert.AdwKIdeal.main_arg0) = m ((c.tc : Thread Cert.AdwKIdeal.nD Cert.AdwKIdeal.τ).loc Cert.AdwKIdeal.main_arg0)
      ∧ r.2.mem ((c.tc : Thread Cert.AdwKIdeal.nD Cert.AdwKIdeal.τ).loc Cert.AdwKIdeal.main_arg1) = m ((c.tc : Thread Cert.AdwKIdeal.nD Cert.AdwKIdeal.τ).loc Cert.AdwKIdeal.main_arg1)
      ∧ r.2.mem ((c.tc : Thread Cert.AdwKIdeal.nD Cert.AdwKIdeal.τ).loc Cert.AdwKIdeal.main_arg2) = m ((c.tc : Thread Cert.AdwKIdeal.nD Cert.AdwKIdeal.τ).loc Cert.AdwKIdeal.main_arg2)
      ∧ r.2.mem ((c.tc : Thread Cert.AdwKIdeal.nD Cert.AdwKIdeal.τ).loc Cert.AdwKIdeal.main_arg3) = m ((c.tc : Thread Cert.AdwKIdeal.nD Cert.AdwKIdeal.τ).loc Cert.AdwKIdeal.main_arg3)
      ∧ r.2.mem ((c.tc : Thread Cert.AdwKIdeal.nD Cert.AdwKIdeal.τ).loc Cert.AdwKIdeal.main_arg4) = m ((c.tc : Thread Cert.AdwKIdeal.nD Cert.AdwKIdeal.τ).loc Cert.AdwKIdeal.main_arg4))
      ∧ r.2.sem = fun _ => 0)

def quiescent_AdwRIdeal [hAdwRIdeal : Cert.AdwRIdeal.Facts] : Prop :=
  ∀ (m : (ℓ : Loc Cert.AdwRIdeal.nD Cert.AdwRIdeal.τ Cert.AdwRIdeal.sig) → Buf (Elt Ideal) ℓ) (g : Dev Cert.AdwRIdeal.nD → PrngReg), Pre_AdwRIdeal m →
    θ_run (Cert.AdwRIdeal.defs (F := Ideal)) (onTc (τ := Cert.AdwRIdeal.τ) (Cert.AdwRIdeal.main (F := Ideal))) ⟨m, fun _ => 0, g⟩ (fun r => (∀ c : Dev Cert.AdwRIdeal.nD,
      r.2.mem ((c.tc : Thread Cert.AdwRIdeal.nD Cert.AdwRIdeal.τ).loc Cert.AdwRIdeal.main_arg0) = m ((c.tc : Thread Cert.AdwRIdeal.nD Cert.AdwRIdeal.τ).loc Cert.AdwRIdeal.main_arg0)
      ∧ r.2.mem ((c.tc : Thread Cert.AdwRIdeal.nD Cert.AdwRIdeal.τ).loc Cert.AdwRIdeal.main_arg1) = m ((c.tc : Thread Cert.AdwRIdeal.nD Cert.AdwRIdeal.τ).loc Cert.AdwRIdeal.main_arg1)
      ∧ r.2.mem ((c.tc : Thread Cert.AdwRIdeal.nD Cert.AdwRIdeal.τ).loc Cert.AdwRIdeal.main_arg2) = m ((c.tc : Thread Cert.AdwRIdeal.nD Cert.AdwRIdeal.τ).loc Cert.AdwRIdeal.main_arg2)
      ∧ r.2.mem ((c.tc : Thread Cert.AdwRIdeal.nD Cert.AdwRIdeal.τ).loc Cert.AdwRIdeal.main_arg3) = m ((c.tc : Thread Cert.AdwRIdeal.nD Cert.AdwRIdeal.τ).loc Cert.AdwRIdeal.main_arg3)
      ∧ r.2.mem ((c.tc : Thread Cert.AdwRIdeal.nD Cert.AdwRIdeal.τ).loc Cert.AdwRIdeal.main_arg4) = m ((c.tc : Thread Cert.AdwRIdeal.nD Cert.AdwRIdeal.τ).loc Cert.AdwRIdeal.main_arg4))
      ∧ r.2.sem = fun _ => 0)

def quiescent_AdwDK [hAdwDK : Cert.AdwDK.Facts] : Prop :=
  ∀ (m : (ℓ : Loc Cert.AdwDK.nD Cert.AdwDK.τ Cert.AdwDK.sig) → Buf (Elt Bits) ℓ) (g : Dev Cert.AdwDK.nD → PrngReg), Pre_AdwDK m →
    θ_run (Cert.AdwDK.defs (F := Bits)) (onTc (τ := Cert.AdwDK.τ) (Cert.AdwDK.main (F := Bits))) ⟨m, fun _ => 0, g⟩ (fun r => (∀ c : Dev Cert.AdwDK.nD,
      r.2.mem ((c.tc : Thread Cert.AdwDK.nD Cert.AdwDK.τ).loc Cert.AdwDK.main_arg0) = m ((c.tc : Thread Cert.AdwDK.nD Cert.AdwDK.τ).loc Cert.AdwDK.main_arg0)
      ∧ r.2.mem ((c.tc : Thread Cert.AdwDK.nD Cert.AdwDK.τ).loc Cert.AdwDK.main_arg1) = m ((c.tc : Thread Cert.AdwDK.nD Cert.AdwDK.τ).loc Cert.AdwDK.main_arg1)
      ∧ r.2.mem ((c.tc : Thread Cert.AdwDK.nD Cert.AdwDK.τ).loc Cert.AdwDK.main_arg2) = m ((c.tc : Thread Cert.AdwDK.nD Cert.AdwDK.τ).loc Cert.AdwDK.main_arg2)
      ∧ r.2.mem ((c.tc : Thread Cert.AdwDK.nD Cert.AdwDK.τ).loc Cert.AdwDK.main_arg3) = m ((c.tc : Thread Cert.AdwDK.nD Cert.AdwDK.τ).loc Cert.AdwDK.main_arg3)
      ∧ r.2.mem ((c.tc : Thread Cert.AdwDK.nD Cert.AdwDK.τ).loc Cert.AdwDK.main_arg4) = m ((c.tc : Thread Cert.AdwDK.nD Cert.AdwDK.τ).loc Cert.AdwDK.main_arg4))
      ∧ r.2.sem = fun _ => 0)

def quiescent_AdwDKIdeal [hAdwDKIdeal : Cert.AdwDKIdeal.Facts] : Prop :=
  ∀ (m : (ℓ : Loc Cert.AdwDKIdeal.nD Cert.AdwDKIdeal.τ Cert.AdwDKIdeal.sig) → Buf (Elt Ideal) ℓ) (g : Dev Cert.AdwDKIdeal.nD → PrngReg), Pre_AdwDKIdeal m →
    θ_run (Cert.AdwDKIdeal.defs (F := Ideal)) (onTc (τ := Cert.AdwDKIdeal.τ) (Cert.AdwDKIdeal.main (F := Ideal))) ⟨m, fun _ => 0, g⟩ (fun r => (∀ c : Dev Cert.AdwDKIdeal.nD,
      r.2.mem ((c.tc : Thread Cert.AdwDKIdeal.nD Cert.AdwDKIdeal.τ).loc Cert.AdwDKIdeal.main_arg0) = m ((c.tc : Thread Cert.AdwDKIdeal.nD Cert.AdwDKIdeal.τ).loc Cert.AdwDKIdeal.main_arg0)
      ∧ r.2.mem ((c.tc : Thread Cert.AdwDKIdeal.nD Cert.AdwDKIdeal.τ).loc Cert.AdwDKIdeal.main_arg1) = m ((c.tc : Thread Cert.AdwDKIdeal.nD Cert.AdwDKIdeal.τ).loc Cert.AdwDKIdeal.main_arg1)
      ∧ r.2.mem ((c.tc : Thread Cert.AdwDKIdeal.nD Cert.AdwDKIdeal.τ).loc Cert.AdwDKIdeal.main_arg2) = m ((c.tc : Thread Cert.AdwDKIdeal.nD Cert.AdwDKIdeal.τ).loc Cert.AdwDKIdeal.main_arg2)
      ∧ r.2.mem ((c.tc : Thread Cert.AdwDKIdeal.nD Cert.AdwDKIdeal.τ).loc Cert.AdwDKIdeal.main_arg3) = m ((c.tc : Thread Cert.AdwDKIdeal.nD Cert.AdwDKIdeal.τ).loc Cert.AdwDKIdeal.main_arg3)
      ∧ r.2.mem ((c.tc : Thread Cert.AdwDKIdeal.nD Cert.AdwDKIdeal.τ).loc Cert.AdwDKIdeal.main_arg4) = m ((c.tc : Thread Cert.AdwDKIdeal.nD Cert.AdwDKIdeal.τ).loc Cert.AdwDKIdeal.main_arg4))
      ∧ r.2.sem = fun _ => 0)

def quiescent_AdwDRIdeal [hAdwDRIdeal : Cert.AdwDRIdeal.Facts] : Prop :=
  ∀ (m : (ℓ : Loc Cert.AdwDRIdeal.nD Cert.AdwDRIdeal.τ Cert.AdwDRIdeal.sig) → Buf (Elt Ideal) ℓ) (g : Dev Cert.AdwDRIdeal.nD → PrngReg), Pre_AdwDRIdeal m →
    θ_run (Cert.AdwDRIdeal.defs (F := Ideal)) (onTc (τ := Cert.AdwDRIdeal.τ) (Cert.AdwDRIdeal.main (F := Ideal))) ⟨m, fun _ => 0, g⟩ (fun r => (∀ c : Dev Cert.AdwDRIdeal.nD,
      r.2.mem ((c.tc : Thread Cert.AdwDRIdeal.nD Cert.AdwDRIdeal.τ).loc Cert.AdwDRIdeal.main_arg0) = m ((c.tc : Thread Cert.AdwDRIdeal.nD Cert.AdwDRIdeal.τ).loc Cert.AdwDRIdeal.main_arg0)
      ∧ r.2.mem ((c.tc : Thread Cert.AdwDRIdeal.nD Cert.AdwDRIdeal.τ).loc Cert.AdwDRIdeal.main_arg1) = m ((c.tc : Thread Cert.AdwDRIdeal.nD Cert.AdwDRIdeal.τ).loc Cert.AdwDRIdeal.main_arg1)
      ∧ r.2.mem ((c.tc : Thread Cert.AdwDRIdeal.nD Cert.AdwDRIdeal.τ).loc Cert.AdwDRIdeal.main_arg2) = m ((c.tc : Thread Cert.AdwDRIdeal.nD Cert.AdwDRIdeal.τ).loc Cert.AdwDRIdeal.main_arg2)
      ∧ r.2.mem ((c.tc : Thread Cert.AdwDRIdeal.nD Cert.AdwDRIdeal.τ).loc Cert.AdwDRIdeal.main_arg3) = m ((c.tc : Thread Cert.AdwDRIdeal.nD Cert.AdwDRIdeal.τ).loc Cert.AdwDRIdeal.main_arg3)
      ∧ r.2.mem ((c.tc : Thread Cert.AdwDRIdeal.nD Cert.AdwDRIdeal.τ).loc Cert.AdwDRIdeal.main_arg4) = m ((c.tc : Thread Cert.AdwDRIdeal.nD Cert.AdwDRIdeal.τ).loc Cert.AdwDRIdeal.main_arg4))
      ∧ r.2.sem = fun _ => 0)

def quiescent_SadK [hSadK : Cert.SadK.Facts] : Prop :=
  ∀ (m : (ℓ : Loc Cert.SadK.nD Cert.SadK.τ Cert.SadK.sig) → Buf (Elt Bits) ℓ) (g : Dev Cert.SadK.nD → PrngReg), Pre_SadK m →
    θ_run (Cert.SadK.defs (F := Bits)) (onTc (τ := Cert.SadK.τ) (Cert.SadK.main (F := Bits))) ⟨m, fun _ => 0, g⟩ (fun r => (∀ c : Dev Cert.SadK.nD,
      r.2.mem ((c.tc : Thread Cert.SadK.nD Cert.SadK.τ).loc Cert.SadK.main_arg0) = m ((c.tc : Thread Cert.SadK.nD Cert.SadK.τ).loc Cert.SadK.main_arg0)
      ∧ r.2.mem ((c.tc : Thread Cert.SadK.nD Cert.SadK.τ).loc Cert.SadK.main_arg1) = m ((c.tc : Thread Cert.SadK.nD Cert.SadK.τ).loc Cert.SadK.main_arg1)
      ∧ r.2.mem ((c.tc : Thread Cert.SadK.nD Cert.SadK.τ).loc Cert.SadK.main_arg2) = m ((c.tc : Thread Cert.SadK.nD Cert.SadK.τ).loc Cert.SadK.main_arg2)
      ∧ r.2.mem ((c.tc : Thread Cert.SadK.nD Cert.SadK.τ).loc Cert.SadK.main_arg3) = m ((c.tc : Thread Cert.SadK.nD Cert.SadK.τ).loc Cert.SadK.main_arg3))
      ∧ r.2.sem = fun _ => 0)

def quiescent_SadKIdeal [hSadKIdeal : Cert.SadKIdeal.Facts] : Prop :=
  ∀ (m : (ℓ : Loc Cert.SadKIdeal.nD Cert.SadKIdeal.τ Cert.SadKIdeal.sig) → Buf (Elt Ideal) ℓ) (g : Dev Cert.SadKIdeal.nD → PrngReg), Pre_SadKIdeal m →
    θ_run (Cert.SadKIdeal.defs (F := Ideal)) (onTc (τ := Cert.SadKIdeal.τ) (Cert.SadKIdeal.main (F := Ideal))) ⟨m, fun _ => 0, g⟩ (fun r => (∀ c : Dev Cert.SadKIdeal.nD,
      r.2.mem ((c.tc : Thread Cert.SadKIdeal.nD Cert.SadKIdeal.τ).loc Cert.SadKIdeal.main_arg0) = m ((c.tc : Thread Cert.SadKIdeal.nD Cert.SadKIdeal.τ).loc Cert.SadKIdeal.main_arg0)
      ∧ r.2.mem ((c.tc : Thread Cert.SadKIdeal.nD Cert.SadKIdeal.τ).loc Cert.SadKIdeal.main_arg1) = m ((c.tc : Thread Cert.SadKIdeal.nD Cert.SadKIdeal.τ).loc Cert.SadKIdeal.main_arg1)
      ∧ r.2.mem ((c.tc : Thread Cert.SadKIdeal.nD Cert.SadKIdeal.τ).loc Cert.SadKIdeal.main_arg2) = m ((c.tc : Thread Cert.SadKIdeal.nD Cert.SadKIdeal.τ).loc Cert.SadKIdeal.main_arg2)
      ∧ r.2.mem ((c.tc : Thread Cert.SadKIdeal.nD Cert.SadKIdeal.τ).loc Cert.SadKIdeal.main_arg3) = m ((c.tc : Thread Cert.SadKIdeal.nD Cert.SadKIdeal.τ).loc Cert.SadKIdeal.main_arg3))
      ∧ r.2.sem = fun _ => 0)

def quiescent_SadRIdeal [hSadRIdeal : Cert.SadRIdeal.Facts] : Prop :=
  ∀ (m : (ℓ : Loc Cert.SadRIdeal.nD Cert.SadRIdeal.τ Cert.SadRIdeal.sig) → Buf (Elt Ideal) ℓ) (g : Dev Cert.SadRIdeal.nD → PrngReg), Pre_SadRIdeal m →
    θ_run (Cert.SadRIdeal.defs (F := Ideal)) (onTc (τ := Cert.SadRIdeal.τ) (Cert.SadRIdeal.main (F := Ideal))) ⟨m, fun _ => 0, g⟩ (fun r => (∀ c : Dev Cert.SadRIdeal.nD,
      r.2.mem ((c.tc : Thread Cert.SadRIdeal.nD Cert.SadRIdeal.τ).loc Cert.SadRIdeal.main_arg0) = m ((c.tc : Thread Cert.SadRIdeal.nD Cert.SadRIdeal.τ).loc Cert.SadRIdeal.main_arg0)
      ∧ r.2.mem ((c.tc : Thread Cert.SadRIdeal.nD Cert.SadRIdeal.τ).loc Cert.SadRIdeal.main_arg1) = m ((c.tc : Thread Cert.SadRIdeal.nD Cert.SadRIdeal.τ).loc Cert.SadRIdeal.main_arg1)
      ∧ r.2.mem ((c.tc : Thread Cert.SadRIdeal.nD Cert.SadRIdeal.τ).loc Cert.SadRIdeal.main_arg2) = m ((c.tc : Thread Cert.SadRIdeal.nD Cert.SadRIdeal.τ).loc Cert.SadRIdeal.main_arg2)
      ∧ r.2.mem ((c.tc : Thread Cert.SadRIdeal.nD Cert.SadRIdeal.τ).loc Cert.SadRIdeal.main_arg3) = m ((c.tc : Thread Cert.SadRIdeal.nD Cert.SadRIdeal.τ).loc Cert.SadRIdeal.main_arg3))
      ∧ r.2.sem = fun _ => 0)

def preserves_GateK_GateKIdeal : Prop :=
  True

def algebraic_GateKIdeal_GateRIdeal_pre_gate_finite [hGateKIdeal : Cert.GateKIdeal.Facts] [hGateRIdeal : Cert.GateRIdeal.Facts] [hPre_gate_finite : Cert.Pre_gate_finite.Facts] : Prop :=
  ∀ (m : (ℓ : Loc Cert.GateKIdeal.nD Cert.GateKIdeal.τ Cert.GateKIdeal.sig) → Buf (Elt Ideal) ℓ) (g : Dev Cert.GateKIdeal.nD → PrngReg)
    (m' : (ℓ : Loc Cert.GateRIdeal.nD Cert.GateRIdeal.τ Cert.GateRIdeal.sig) → Buf (Elt Ideal) ℓ) (g' : Dev Cert.GateRIdeal.nD → PrngReg), Pre_GateKIdeal_gate_finite m →
    (∀ c : Dev Cert.GateKIdeal.nD,
      m' ((c.tc : Thread Cert.GateRIdeal.nD Cert.GateRIdeal.τ).loc Cert.GateRIdeal.main_arg0) = m ((c.tc : Thread Cert.GateKIdeal.nD Cert.GateKIdeal.τ).loc Cert.GateKIdeal.main_arg0)
      ∧ m' ((c.tc : Thread Cert.GateRIdeal.nD Cert.GateRIdeal.τ).loc Cert.GateRIdeal.main_arg1) = m ((c.tc : Thread Cert.GateKIdeal.nD Cert.GateKIdeal.τ).loc Cert.GateKIdeal.main_arg1)
      ∧ m' ((c.tc : Thread Cert.GateRIdeal.nD Cert.GateRIdeal.τ).loc Cert.GateRIdeal.main_arg2) = m ((c.tc : Thread Cert.GateKIdeal.nD Cert.GateKIdeal.τ).loc Cert.GateKIdeal.main_arg2)
      ∧ m' ((c.tc : Thread Cert.GateRIdeal.nD Cert.GateRIdeal.τ).loc Cert.GateRIdeal.main_arg3) = m ((c.tc : Thread Cert.GateKIdeal.nD Cert.GateKIdeal.τ).loc Cert.GateKIdeal.main_arg3)) →
    ∃ (v0 : (c : Dev Cert.GateKIdeal.nD) → Buf (Elt Ideal) ((c.tc : Thread Cert.GateKIdeal.nD Cert.GateKIdeal.τ).loc Cert.GateKIdeal.main_v4_0)) (v1 : (c : Dev Cert.GateKIdeal.nD) → Buf (Elt Ideal) ((c.tc : Thread Cert.GateKIdeal.nD Cert.GateKIdeal.τ).loc Cert.GateKIdeal.main_v4_1)),
      θ_run (Cert.GateKIdeal.defs (F := Ideal)) (onTc (τ := Cert.GateKIdeal.τ) (Cert.GateKIdeal.main (F := Ideal))) ⟨m, fun _ => 0, g⟩ (fun r => ∀ c : Dev Cert.GateKIdeal.nD,
          r.2.mem ((c.tc : Thread Cert.GateKIdeal.nD Cert.GateKIdeal.τ).loc Cert.GateKIdeal.main_v4_0) = v0 c
          ∧ r.2.mem ((c.tc : Thread Cert.GateKIdeal.nD Cert.GateKIdeal.τ).loc Cert.GateKIdeal.main_v4_1) = v1 c
          ∧ r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
          ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
          ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2)
          ∧ r.2.mem ((c.tc : Thread Cert.GateKIdeal.nD Cert.GateKIdeal.τ).loc Cert.GateKIdeal.main_arg3) = m ((c.tc : Thread Cert.GateKIdeal.nD Cert.GateKIdeal.τ).loc Cert.GateKIdeal.main_arg3))
      ∧ θ_run (Cert.GateRIdeal.defs (F := Ideal)) (onTc (τ := Cert.GateRIdeal.τ) (Cert.GateRIdeal.main (F := Ideal))) ⟨m', fun _ => 0, g'⟩ (fun r => ∀ c : Dev Cert.GateRIdeal.nD,
          r.2.mem ((c.tc : Thread Cert.GateRIdeal.nD Cert.GateRIdeal.τ).loc Cert.GateRIdeal.main_v7) = v0 c
          ∧ r.2.mem ((c.tc : Thread Cert.GateRIdeal.nD Cert.GateRIdeal.τ).loc Cert.GateRIdeal.main_v8) = v1 c
          ∧ r.2.mem ((c.tc : Thread Cert.GateRIdeal.nD Cert.GateRIdeal.τ).loc Cert.GateRIdeal.main_arg0) = m' ((c.tc : Thread Cert.GateRIdeal.nD Cert.GateRIdeal.τ).loc Cert.GateRIdeal.main_arg0)
          ∧ r.2.mem ((c.tc : Thread Cert.GateRIdeal.nD Cert.GateRIdeal.τ).loc Cert.GateRIdeal.main_arg1) = m' ((c.tc : Thread Cert.GateRIdeal.nD Cert.GateRIdeal.τ).loc Cert.GateRIdeal.main_arg1)
          ∧ r.2.mem ((c.tc : Thread Cert.GateRIdeal.nD Cert.GateRIdeal.τ).loc Cert.GateRIdeal.main_arg2) = m' ((c.tc : Thread Cert.GateRIdeal.nD Cert.GateRIdeal.τ).loc Cert.GateRIdeal.main_arg2)
          ∧ r.2.mem ((c.tc : Thread Cert.GateRIdeal.nD Cert.GateRIdeal.τ).loc Cert.GateRIdeal.main_arg3) = m' ((c.tc : Thread Cert.GateRIdeal.nD Cert.GateRIdeal.τ).loc Cert.GateRIdeal.main_arg3))

def preserves_FlaCK_FlaCKIdeal : Prop :=
  IdealRules.named_const.Statement Cert.FlaCKIdeal.κ "c" .f32 0x3E0293EE#32 (((Real.sqrt 128)⁻¹ * (Real.log 2)⁻¹ : ℝ) : EReal)
  ∧ IdealRules.named_const.Statement Cert.FlaCKIdeal.κ "log2e" .f32 0x3FB8AA3B#32 (((Real.log 2)⁻¹ : ℝ) : EReal)
  ∧ IdealRules.named_const.Statement Cert.FlaCKIdeal.κ "s" .f32 0x3DB504F3#32 (((Real.sqrt 128)⁻¹ : ℝ) : EReal)

def algebraic_FlaCKIdeal_FlaCRIdeal_pre_flac_finite [hFlaCKIdeal : Cert.FlaCKIdeal.Facts] [hFlaCRIdeal : Cert.FlaCRIdeal.Facts] [hPre_flac_finite : Cert.Pre_flac_finite.Facts] : Prop :=
  ∀ (m : (ℓ : Loc Cert.FlaCKIdeal.nD Cert.FlaCKIdeal.τ Cert.FlaCKIdeal.sig) → Buf (Elt Ideal) ℓ) (g : Dev Cert.FlaCKIdeal.nD → PrngReg)
    (m' : (ℓ : Loc Cert.FlaCRIdeal.nD Cert.FlaCRIdeal.τ Cert.FlaCRIdeal.sig) → Buf (Elt Ideal) ℓ) (g' : Dev Cert.FlaCRIdeal.nD → PrngReg), Pre_FlaCKIdeal_flac_finite m →
    (∀ c : Dev Cert.FlaCKIdeal.nD,
      m' ((c.tc : Thread Cert.FlaCRIdeal.nD Cert.FlaCRIdeal.τ).loc Cert.FlaCRIdeal.main_arg0) = m ((c.tc : Thread Cert.FlaCKIdeal.nD Cert.FlaCKIdeal.τ).loc Cert.FlaCKIdeal.main_arg0)
      ∧ m' ((c.tc : Thread Cert.FlaCRIdeal.nD Cert.FlaCRIdeal.τ).loc Cert.FlaCRIdeal.main_arg1) = m ((c.tc : Thread Cert.FlaCKIdeal.nD Cert.FlaCKIdeal.τ).loc Cert.FlaCKIdeal.main_arg1)
      ∧ m' ((c.tc : Thread Cert.FlaCRIdeal.nD Cert.FlaCRIdeal.τ).loc Cert.FlaCRIdeal.main_arg2) = m ((c.tc : Thread Cert.FlaCKIdeal.nD Cert.FlaCKIdeal.τ).loc Cert.FlaCKIdeal.main_arg2)
      ∧ m' ((c.tc : Thread Cert.FlaCRIdeal.nD Cert.FlaCRIdeal.τ).loc Cert.FlaCRIdeal.main_arg3) = m ((c.tc : Thread Cert.FlaCKIdeal.nD Cert.FlaCKIdeal.τ).loc Cert.FlaCKIdeal.main_arg3)) →
    ∃ (v0 : (c : Dev Cert.FlaCKIdeal.nD) → Buf (Elt Ideal) ((c.tc : Thread Cert.FlaCKIdeal.nD Cert.FlaCKIdeal.τ).loc Cert.FlaCKIdeal.main_v8_0)) (v1 : (c : Dev Cert.FlaCKIdeal.nD) → Buf (Elt Ideal) ((c.tc : Thread Cert.FlaCKIdeal.nD Cert.FlaCKIdeal.τ).loc Cert.FlaCKIdeal.main_v8_1)) (v2 : (c : Dev Cert.FlaCKIdeal.nD) → Buf (Elt Ideal) ((c.tc : Thread Cert.FlaCKIdeal.nD Cert.FlaCKIdeal.τ).loc Cert.FlaCKIdeal.main_v8_2)),
      θ_run (Cert.FlaCKIdeal.defs (F := Ideal)) (onTc (τ := Cert.FlaCKIdeal.τ) (Cert.FlaCKIdeal.main (F := Ideal))) ⟨m, fun _ => 0, g⟩ (fun r => ∀ c : Dev Cert.FlaCKIdeal.nD,
          r.2.mem ((c.tc : Thread Cert.FlaCKIdeal.nD Cert.FlaCKIdeal.τ).loc Cert.FlaCKIdeal.main_v8_0) = v0 c
          ∧ r.2.mem ((c.tc : Thread Cert.FlaCKIdeal.nD Cert.FlaCKIdeal.τ).loc Cert.FlaCKIdeal.main_v8_1) = v1 c
          ∧ r.2.mem ((c.tc : Thread Cert.FlaCKIdeal.nD Cert.FlaCKIdeal.τ).loc Cert.FlaCKIdeal.main_v8_2) = v2 c
          ∧ r.2.mem ((c.tc : Thread Cert.FlaCKIdeal.nD Cert.FlaCKIdeal.τ).loc Cert.FlaCKIdeal.main_arg0) = m ((c.tc : Thread Cert.FlaCKIdeal.nD Cert.FlaCKIdeal.τ).loc Cert.FlaCKIdeal.main_arg0)
          ∧ r.2.mem ((c.tc : Thread Cert.FlaCKIdeal.nD Cert.FlaCKIdeal.τ).loc Cert.FlaCKIdeal.main_arg1) = m ((c.tc : Thread Cert.FlaCKIdeal.nD Cert.FlaCKIdeal.τ).loc Cert.FlaCKIdeal.main_arg1)
          ∧ r.2.mem ((c.tc : Thread Cert.FlaCKIdeal.nD Cert.FlaCKIdeal.τ).loc Cert.FlaCKIdeal.main_arg2) = m ((c.tc : Thread Cert.FlaCKIdeal.nD Cert.FlaCKIdeal.τ).loc Cert.FlaCKIdeal.main_arg2)
          ∧ r.2.mem ((c.tc : Thread Cert.FlaCKIdeal.nD Cert.FlaCKIdeal.τ).loc Cert.FlaCKIdeal.main_arg3) = m ((c.tc : Thread Cert.FlaCKIdeal.nD Cert.FlaCKIdeal.τ).loc Cert.FlaCKIdeal.main_arg3))
      ∧ θ_run (Cert.FlaCRIdeal.defs (F := Ideal)) (onTc (τ := Cert.FlaCRIdeal.τ) (Cert.FlaCRIdeal.main (F := Ideal))) ⟨m', fun _ => 0, g'⟩ (fun r => ∀ c : Dev Cert.FlaCRIdeal.nD,
          r.2.mem ((c.tc : Thread Cert.FlaCRIdeal.nD Cert.FlaCRIdeal.τ).loc Cert.FlaCRIdeal.main_v60) = v0 c
          ∧ r.2.mem ((c.tc : Thread Cert.FlaCRIdeal.nD Cert.FlaCRIdeal.τ).loc Cert.FlaCRIdeal.main_v61) = v1 c
          ∧ r.2.mem ((c.tc : Thread Cert.FlaCRIdeal.nD Cert.FlaCRIdeal.τ).loc Cert.FlaCRIdeal.main_v62) = v2 c
          ∧ r.2.mem ((c.tc : Thread Cert.FlaCRIdeal.nD Cert.FlaCRIdeal.τ).loc Cert.FlaCRIdeal.main_arg0) = m' ((c.tc : Thread Cert.FlaCRIdeal.nD Cert.FlaCRIdeal.τ).loc Cert.FlaCRIdeal.main_arg0)
          ∧ r.2.mem ((c.tc : Thread Cert.FlaCRIdeal.nD Cert.FlaCRIdeal.τ).loc Cert.FlaCRIdeal.main_arg1) = m' ((c.tc : Thread Cert.FlaCRIdeal.nD Cert.FlaCRIdeal.τ).loc Cert.FlaCRIdeal.main_arg1)
          ∧ r.2.mem ((c.tc : Thread Cert.FlaCRIdeal.nD Cert.FlaCRIdeal.τ).loc Cert.FlaCRIdeal.main_arg2) = m' ((c.tc : Thread Cert.FlaCRIdeal.nD Cert.FlaCRIdeal.τ).loc Cert.FlaCRIdeal.main_arg2)
          ∧ r.2.mem ((c.tc : Thread Cert.FlaCRIdeal.nD Cert.FlaCRIdeal.τ).loc Cert.FlaCRIdeal.main_arg3) = m' ((c.tc : Thread Cert.FlaCRIdeal.nD Cert.FlaCRIdeal.τ).loc Cert.FlaCRIdeal.main_arg3))

def preserves_FlaAK_FlaAKIdeal : Prop :=
  IdealRules.named_const.Statement Cert.FlaAKIdeal.κ "c" .f32 0x3DD53B95#32 (((Real.sqrt 192)⁻¹ * (Real.log 2)⁻¹ : ℝ) : EReal)
  ∧ IdealRules.named_const.Statement Cert.FlaAKIdeal.κ "log2e" .f32 0x3FB8AA3B#32 (((Real.log 2)⁻¹ : ℝ) : EReal)
  ∧ IdealRules.named_const.Statement Cert.FlaAKIdeal.κ "s" .f32 0x3D93CD3A#32 (((Real.sqrt 192)⁻¹ : ℝ) : EReal)

def algebraic_FlaAKIdeal_FlaARIdeal_pre_flaa_finite [hFlaAKIdeal : Cert.FlaAKIdeal.Facts] [hFlaARIdeal : Cert.FlaARIdeal.Facts] [hPre_flaa_finite : Cert.Pre_flaa_finite.Facts] : Prop :=
  ∀ (m : (ℓ : Loc Cert.FlaAKIdeal.nD Cert.FlaAKIdeal.τ Cert.FlaAKIdeal.sig) → Buf (Elt Ideal) ℓ) (g : Dev Cert.FlaAKIdeal.nD → PrngReg)
    (m' : (ℓ : Loc Cert.FlaARIdeal.nD Cert.FlaARIdeal.τ Cert.FlaARIdeal.sig) → Buf (Elt Ideal) ℓ) (g' : Dev Cert.FlaARIdeal.nD → PrngReg), Pre_FlaAKIdeal_flaa_finite m →
    (∀ c : Dev Cert.FlaAKIdeal.nD,
      m' ((c.tc : Thread Cert.FlaARIdeal.nD Cert.FlaARIdeal.τ).loc Cert.FlaARIdeal.main_arg0) = m ((c.tc : Thread Cert.FlaAKIdeal.nD Cert.FlaAKIdeal.τ).loc Cert.FlaAKIdeal.main_arg0)
      ∧ m' ((c.tc : Thread Cert.FlaARIdeal.nD Cert.FlaARIdeal.τ).loc Cert.FlaARIdeal.main_arg1) = m ((c.tc : Thread Cert.FlaAKIdeal.nD Cert.FlaAKIdeal.τ).loc Cert.FlaAKIdeal.main_arg1)
      ∧ m' ((c.tc : Thread Cert.FlaARIdeal.nD Cert.FlaARIdeal.τ).loc Cert.FlaARIdeal.main_arg2) = m ((c.tc : Thread Cert.FlaAKIdeal.nD Cert.FlaAKIdeal.τ).loc Cert.FlaAKIdeal.main_arg2)
      ∧ m' ((c.tc : Thread Cert.FlaARIdeal.nD Cert.FlaARIdeal.τ).loc Cert.FlaARIdeal.main_arg3) = m ((c.tc : Thread Cert.FlaAKIdeal.nD Cert.FlaAKIdeal.τ).loc Cert.FlaAKIdeal.main_arg3)) →
    ∃ (v0 : (c : Dev Cert.FlaAKIdeal.nD) → Buf (Elt Ideal) ((c.tc : Thread Cert.FlaAKIdeal.nD Cert.FlaAKIdeal.τ).loc Cert.FlaAKIdeal.main_v15_0)) (v1 : (c : Dev Cert.FlaAKIdeal.nD) → Buf (Elt Ideal) ((c.tc : Thread Cert.FlaAKIdeal.nD Cert.FlaAKIdeal.τ).loc Cert.FlaAKIdeal.main_v15_1)) (v2 : (c : Dev Cert.FlaAKIdeal.nD) → Buf (Elt Ideal) ((c.tc : Thread Cert.FlaAKIdeal.nD Cert.FlaAKIdeal.τ).loc Cert.FlaAKIdeal.main_v15_2)),
      θ_run (Cert.FlaAKIdeal.defs (F := Ideal)) (onTc (τ := Cert.FlaAKIdeal.τ) (Cert.FlaAKIdeal.main (F := Ideal))) ⟨m, fun _ => 0, g⟩ (fun r => ∀ c : Dev Cert.FlaAKIdeal.nD,
          r.2.mem ((c.tc : Thread Cert.FlaAKIdeal.nD Cert.FlaAKIdeal.τ).loc Cert.FlaAKIdeal.main_v15_0) = v0 c
          ∧ r.2.mem ((c.tc : Thread Cert.FlaAKIdeal.nD Cert.FlaAKIdeal.τ).loc Cert.FlaAKIdeal.main_v15_1) = v1 c
          ∧ r.2.mem ((c.tc : Thread Cert.FlaAKIdeal.nD Cert.FlaAKIdeal.τ).loc Cert.FlaAKIdeal.main_v15_2) = v2 c
          ∧ r.2.mem ((c.tc : Thread Cert.FlaAKIdeal.nD Cert.FlaAKIdeal.τ).loc Cert.FlaAKIdeal.main_arg0) = m ((c.tc : Thread Cert.FlaAKIdeal.nD Cert.FlaAKIdeal.τ).loc Cert.FlaAKIdeal.main_arg0)
          ∧ r.2.mem ((c.tc : Thread Cert.FlaAKIdeal.nD Cert.FlaAKIdeal.τ).loc Cert.FlaAKIdeal.main_arg1) = m ((c.tc : Thread Cert.FlaAKIdeal.nD Cert.FlaAKIdeal.τ).loc Cert.FlaAKIdeal.main_arg1)
          ∧ r.2.mem ((c.tc : Thread Cert.FlaAKIdeal.nD Cert.FlaAKIdeal.τ).loc Cert.FlaAKIdeal.main_arg2) = m ((c.tc : Thread Cert.FlaAKIdeal.nD Cert.FlaAKIdeal.τ).loc Cert.FlaAKIdeal.main_arg2)
          ∧ r.2.mem ((c.tc : Thread Cert.FlaAKIdeal.nD Cert.FlaAKIdeal.τ).loc Cert.FlaAKIdeal.main_arg3) = m ((c.tc : Thread Cert.FlaAKIdeal.nD Cert.FlaAKIdeal.τ).loc Cert.FlaAKIdeal.main_arg3))
      ∧ θ_run (Cert.FlaARIdeal.defs (F := Ideal)) (onTc (τ := Cert.FlaARIdeal.τ) (Cert.FlaARIdeal.main (F := Ideal))) ⟨m', fun _ => 0, g'⟩ (fun r => ∀ c : Dev Cert.FlaARIdeal.nD,
          r.2.mem ((c.tc : Thread Cert.FlaARIdeal.nD Cert.FlaARIdeal.τ).loc Cert.FlaARIdeal.main_v62) = v0 c
          ∧ r.2.mem ((c.tc : Thread Cert.FlaARIdeal.nD Cert.FlaARIdeal.τ).loc Cert.FlaARIdeal.main_v65) = v1 c
          ∧ r.2.mem ((c.tc : Thread Cert.FlaARIdeal.nD Cert.FlaARIdeal.τ).loc Cert.FlaARIdeal.main_v66) = v2 c
          ∧ r.2.mem ((c.tc : Thread Cert.FlaARIdeal.nD Cert.FlaARIdeal.τ).loc Cert.FlaARIdeal.main_arg0) = m' ((c.tc : Thread Cert.FlaARIdeal.nD Cert.FlaARIdeal.τ).loc Cert.FlaARIdeal.main_arg0)
          ∧ r.2.mem ((c.tc : Thread Cert.FlaARIdeal.nD Cert.FlaARIdeal.τ).loc Cert.FlaARIdeal.main_arg1) = m' ((c.tc : Thread Cert.FlaARIdeal.nD Cert.FlaARIdeal.τ).loc Cert.FlaARIdeal.main_arg1)
          ∧ r.2.mem ((c.tc : Thread Cert.FlaARIdeal.nD Cert.FlaARIdeal.τ).loc Cert.FlaARIdeal.main_arg2) = m' ((c.tc : Thread Cert.FlaARIdeal.nD Cert.FlaARIdeal.τ).loc Cert.FlaARIdeal.main_arg2)
          ∧ r.2.mem ((c.tc : Thread Cert.FlaARIdeal.nD Cert.FlaARIdeal.τ).loc Cert.FlaARIdeal.main_arg3) = m' ((c.tc : Thread Cert.FlaARIdeal.nD Cert.FlaARIdeal.τ).loc Cert.FlaARIdeal.main_arg3))

def preserves_NormK_NormKIdeal : Prop :=
  True

def algebraic_NormKIdeal_NormRIdeal_pre_norm_finite [hNormKIdeal : Cert.NormKIdeal.Facts] [hNormRIdeal : Cert.NormRIdeal.Facts] [hPre_norm_finite : Cert.Pre_norm_finite.Facts] : Prop :=
  ∀ (m : (ℓ : Loc Cert.NormKIdeal.nD Cert.NormKIdeal.τ Cert.NormKIdeal.sig) → Buf (Elt Ideal) ℓ) (g : Dev Cert.NormKIdeal.nD → PrngReg)
    (m' : (ℓ : Loc Cert.NormRIdeal.nD Cert.NormRIdeal.τ Cert.NormRIdeal.sig) → Buf (Elt Ideal) ℓ) (g' : Dev Cert.NormRIdeal.nD → PrngReg), Pre_NormKIdeal_norm_finite m →
    (∀ c : Dev Cert.NormKIdeal.nD,
      m' ((c.tc : Thread Cert.NormRIdeal.nD Cert.NormRIdeal.τ).loc Cert.NormRIdeal.main_arg0) = m ((c.tc : Thread Cert.NormKIdeal.nD Cert.NormKIdeal.τ).loc Cert.NormKIdeal.main_arg0)
      ∧ m' ((c.tc : Thread Cert.NormRIdeal.nD Cert.NormRIdeal.τ).loc Cert.NormRIdeal.main_arg1) = m ((c.tc : Thread Cert.NormKIdeal.nD Cert.NormKIdeal.τ).loc Cert.NormKIdeal.main_arg1)
      ∧ m' ((c.tc : Thread Cert.NormRIdeal.nD Cert.NormRIdeal.τ).loc Cert.NormRIdeal.main_arg2) = m ((c.tc : Thread Cert.NormKIdeal.nD Cert.NormKIdeal.τ).loc Cert.NormKIdeal.main_arg2)
      ∧ m' ((c.tc : Thread Cert.NormRIdeal.nD Cert.NormRIdeal.τ).loc Cert.NormRIdeal.main_arg3) = m ((c.tc : Thread Cert.NormKIdeal.nD Cert.NormKIdeal.τ).loc Cert.NormKIdeal.main_arg3)) →
    ∃ (v0 : (c : Dev Cert.NormKIdeal.nD) → Buf (Elt Ideal) ((c.tc : Thread Cert.NormKIdeal.nD Cert.NormKIdeal.τ).loc Cert.NormKIdeal.main_v1_0)) (v1 : (c : Dev Cert.NormKIdeal.nD) → Buf (Elt Ideal) ((c.tc : Thread Cert.NormKIdeal.nD Cert.NormKIdeal.τ).loc Cert.NormKIdeal.main_v1_1)) (v2 : (c : Dev Cert.NormKIdeal.nD) → Buf (Elt Ideal) ((c.tc : Thread Cert.NormKIdeal.nD Cert.NormKIdeal.τ).loc Cert.NormKIdeal.main_v1_2)),
      θ_run (Cert.NormKIdeal.defs (F := Ideal)) (onTc (τ := Cert.NormKIdeal.τ) (Cert.NormKIdeal.main (F := Ideal))) ⟨m, fun _ => 0, g⟩ (fun r => ∀ c : Dev Cert.NormKIdeal.nD,
          r.2.mem ((c.tc : Thread Cert.NormKIdeal.nD Cert.NormKIdeal.τ).loc Cert.NormKIdeal.main_v1_0) = v0 c
          ∧ r.2.mem ((c.tc : Thread Cert.NormKIdeal.nD Cert.NormKIdeal.τ).loc Cert.NormKIdeal.main_v1_1) = v1 c
          ∧ r.2.mem ((c.tc : Thread Cert.NormKIdeal.nD Cert.NormKIdeal.τ).loc Cert.NormKIdeal.main_v1_2) = v2 c
          ∧ r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
          ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
          ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2)
          ∧ r.2.mem ((c.tc : Thread Cert.NormKIdeal.nD Cert.NormKIdeal.τ).loc Cert.NormKIdeal.main_arg3) = m ((c.tc : Thread Cert.NormKIdeal.nD Cert.NormKIdeal.τ).loc Cert.NormKIdeal.main_arg3))
      ∧ θ_run (Cert.NormRIdeal.defs (F := Ideal)) (onTc (τ := Cert.NormRIdeal.τ) (Cert.NormRIdeal.main (F := Ideal))) ⟨m', fun _ => 0, g'⟩ (fun r => ∀ c : Dev Cert.NormRIdeal.nD,
          r.2.mem ((c.tc : Thread Cert.NormRIdeal.nD Cert.NormRIdeal.τ).loc Cert.NormRIdeal.main_v36) = v0 c
          ∧ r.2.mem ((c.tc : Thread Cert.NormRIdeal.nD Cert.NormRIdeal.τ).loc Cert.NormRIdeal.main_v37) = v1 c
          ∧ r.2.mem ((c.tc : Thread Cert.NormRIdeal.nD Cert.NormRIdeal.τ).loc Cert.NormRIdeal.main_v38) = v2 c
          ∧ r.2.mem ((c.tc : Thread Cert.NormRIdeal.nD Cert.NormRIdeal.τ).loc Cert.NormRIdeal.main_arg0) = m' ((c.tc : Thread Cert.NormRIdeal.nD Cert.NormRIdeal.τ).loc Cert.NormRIdeal.main_arg0)
          ∧ r.2.mem ((c.tc : Thread Cert.NormRIdeal.nD Cert.NormRIdeal.τ).loc Cert.NormRIdeal.main_arg1) = m' ((c.tc : Thread Cert.NormRIdeal.nD Cert.NormRIdeal.τ).loc Cert.NormRIdeal.main_arg1)
          ∧ r.2.mem ((c.tc : Thread Cert.NormRIdeal.nD Cert.NormRIdeal.τ).loc Cert.NormRIdeal.main_arg2) = m' ((c.tc : Thread Cert.NormRIdeal.nD Cert.NormRIdeal.τ).loc Cert.NormRIdeal.main_arg2)
          ∧ r.2.mem ((c.tc : Thread Cert.NormRIdeal.nD Cert.NormRIdeal.τ).loc Cert.NormRIdeal.main_arg3) = m' ((c.tc : Thread Cert.NormRIdeal.nD Cert.NormRIdeal.τ).loc Cert.NormRIdeal.main_arg3))

def preserves_NormAK_NormAKIdeal : Prop :=
  True

def algebraic_NormAKIdeal_NormARIdeal_pre_norma_finite [hNormAKIdeal : Cert.NormAKIdeal.Facts] [hNormARIdeal : Cert.NormARIdeal.Facts] [hPre_norma_finite : Cert.Pre_norma_finite.Facts] : Prop :=
  ∀ (m : (ℓ : Loc Cert.NormAKIdeal.nD Cert.NormAKIdeal.τ Cert.NormAKIdeal.sig) → Buf (Elt Ideal) ℓ) (g : Dev Cert.NormAKIdeal.nD → PrngReg)
    (m' : (ℓ : Loc Cert.NormARIdeal.nD Cert.NormARIdeal.τ Cert.NormARIdeal.sig) → Buf (Elt Ideal) ℓ) (g' : Dev Cert.NormARIdeal.nD → PrngReg), Pre_NormAKIdeal_norma_finite m →
    (∀ c : Dev Cert.NormAKIdeal.nD,
      m' ((c.tc : Thread Cert.NormARIdeal.nD Cert.NormARIdeal.τ).loc Cert.NormARIdeal.main_arg0) = m ((c.tc : Thread Cert.NormAKIdeal.nD Cert.NormAKIdeal.τ).loc Cert.NormAKIdeal.main_arg0)
      ∧ m' ((c.tc : Thread Cert.NormARIdeal.nD Cert.NormARIdeal.τ).loc Cert.NormARIdeal.main_arg1) = m ((c.tc : Thread Cert.NormAKIdeal.nD Cert.NormAKIdeal.τ).loc Cert.NormAKIdeal.main_arg1)
      ∧ m' ((c.tc : Thread Cert.NormARIdeal.nD Cert.NormARIdeal.τ).loc Cert.NormARIdeal.main_arg2) = m ((c.tc : Thread Cert.NormAKIdeal.nD Cert.NormAKIdeal.τ).loc Cert.NormAKIdeal.main_arg2)) →
    ∃ (v0 : (c : Dev Cert.NormAKIdeal.nD) → Buf (Elt Ideal) ((c.tc : Thread Cert.NormAKIdeal.nD Cert.NormAKIdeal.τ).loc Cert.NormAKIdeal.main_v1_0)) (v1 : (c : Dev Cert.NormAKIdeal.nD) → Buf (Elt Ideal) ((c.tc : Thread Cert.NormAKIdeal.nD Cert.NormAKIdeal.τ).loc Cert.NormAKIdeal.main_v1_1)),
      θ_run (Cert.NormAKIdeal.defs (F := Ideal)) (onTc (τ := Cert.NormAKIdeal.τ) (Cert.NormAKIdeal.main (F := Ideal))) ⟨m, fun _ => 0, g⟩ (fun r => ∀ c : Dev Cert.NormAKIdeal.nD,
          r.2.mem ((c.tc : Thread Cert.NormAKIdeal.nD Cert.NormAKIdeal.τ).loc Cert.NormAKIdeal.main_v1_0) = v0 c
          ∧ r.2.mem ((c.tc : Thread Cert.NormAKIdeal.nD Cert.NormAKIdeal.τ).loc Cert.NormAKIdeal.main_v1_1) = v1 c
          ∧ r.2.mem ((c.tc : Thread Cert.NormAKIdeal.nD Cert.NormAKIdeal.τ).loc Cert.NormAKIdeal.main_arg0) = m ((c.tc : Thread Cert.NormAKIdeal.nD Cert.NormAKIdeal.τ).loc Cert.NormAKIdeal.main_arg0)
          ∧ r.2.mem ((c.tc : Thread Cert.NormAKIdeal.nD Cert.NormAKIdeal.τ).loc Cert.NormAKIdeal.main_arg1) = m ((c.tc : Thread Cert.NormAKIdeal.nD Cert.NormAKIdeal.τ).loc Cert.NormAKIdeal.main_arg1)
          ∧ r.2.mem ((c.tc : Thread Cert.NormAKIdeal.nD Cert.NormAKIdeal.τ).loc Cert.NormAKIdeal.main_arg2) = m ((c.tc : Thread Cert.NormAKIdeal.nD Cert.NormAKIdeal.τ).loc Cert.NormAKIdeal.main_arg2))
      ∧ θ_run (Cert.NormARIdeal.defs (F := Ideal)) (onTc (τ := Cert.NormARIdeal.τ) (Cert.NormARIdeal.main (F := Ideal))) ⟨m', fun _ => 0, g'⟩ (fun r => ∀ c : Dev Cert.NormARIdeal.nD,
          r.2.mem ((c.tc : Thread Cert.NormARIdeal.nD Cert.NormARIdeal.τ).loc Cert.NormARIdeal.main_v35) = v0 c
          ∧ r.2.mem ((c.tc : Thread Cert.NormARIdeal.nD Cert.NormARIdeal.τ).loc Cert.NormARIdeal.main_v36) = v1 c
          ∧ r.2.mem ((c.tc : Thread Cert.NormARIdeal.nD Cert.NormARIdeal.τ).loc Cert.NormARIdeal.main_arg0) = m' ((c.tc : Thread Cert.NormARIdeal.nD Cert.NormARIdeal.τ).loc Cert.NormARIdeal.main_arg0)
          ∧ r.2.mem ((c.tc : Thread Cert.NormARIdeal.nD Cert.NormARIdeal.τ).loc Cert.NormARIdeal.main_arg1) = m' ((c.tc : Thread Cert.NormARIdeal.nD Cert.NormARIdeal.τ).loc Cert.NormARIdeal.main_arg1)
          ∧ r.2.mem ((c.tc : Thread Cert.NormARIdeal.nD Cert.NormARIdeal.τ).loc Cert.NormARIdeal.main_arg2) = m' ((c.tc : Thread Cert.NormARIdeal.nD Cert.NormARIdeal.τ).loc Cert.NormARIdeal.main_arg2))

def preserves_NormBK_NormBKIdeal : Prop :=
  True

def algebraic_NormBKIdeal_NormBRIdeal_pre_normb_finite [hNormBKIdeal : Cert.NormBKIdeal.Facts] [hNormBRIdeal : Cert.NormBRIdeal.Facts] [hPre_normb_finite : Cert.Pre_normb_finite.Facts] : Prop :=
  ∀ (m : (ℓ : Loc Cert.NormBKIdeal.nD Cert.NormBKIdeal.τ Cert.NormBKIdeal.sig) → Buf (Elt Ideal) ℓ) (g : Dev Cert.NormBKIdeal.nD → PrngReg)
    (m' : (ℓ : Loc Cert.NormBRIdeal.nD Cert.NormBRIdeal.τ Cert.NormBRIdeal.sig) → Buf (Elt Ideal) ℓ) (g' : Dev Cert.NormBRIdeal.nD → PrngReg), Pre_NormBKIdeal_normb_finite m →
    (∀ c : Dev Cert.NormBKIdeal.nD,
      m' ((c.tc : Thread Cert.NormBRIdeal.nD Cert.NormBRIdeal.τ).loc Cert.NormBRIdeal.main_arg0) = m ((c.tc : Thread Cert.NormBKIdeal.nD Cert.NormBKIdeal.τ).loc Cert.NormBKIdeal.main_arg0)
      ∧ m' ((c.tc : Thread Cert.NormBRIdeal.nD Cert.NormBRIdeal.τ).loc Cert.NormBRIdeal.main_arg1) = m ((c.tc : Thread Cert.NormBKIdeal.nD Cert.NormBKIdeal.τ).loc Cert.NormBKIdeal.main_arg1)
      ∧ m' ((c.tc : Thread Cert.NormBRIdeal.nD Cert.NormBRIdeal.τ).loc Cert.NormBRIdeal.main_arg2) = m ((c.tc : Thread Cert.NormBKIdeal.nD Cert.NormBKIdeal.τ).loc Cert.NormBKIdeal.main_arg2)) →
    ∃ (v0 : (c : Dev Cert.NormBKIdeal.nD) → Buf (Elt Ideal) ((c.tc : Thread Cert.NormBKIdeal.nD Cert.NormBKIdeal.τ).loc Cert.NormBKIdeal.main_v1_0)) (v1 : (c : Dev Cert.NormBKIdeal.nD) → Buf (Elt Ideal) ((c.tc : Thread Cert.NormBKIdeal.nD Cert.NormBKIdeal.τ).loc Cert.NormBKIdeal.main_v1_1)),
      θ_run (Cert.NormBKIdeal.defs (F := Ideal)) (onTc (τ := Cert.NormBKIdeal.τ) (Cert.NormBKIdeal.main (F := Ideal))) ⟨m, fun _ => 0, g⟩ (fun r => ∀ c : Dev Cert.NormBKIdeal.nD,
          r.2.mem ((c.tc : Thread Cert.NormBKIdeal.nD Cert.NormBKIdeal.τ).loc Cert.NormBKIdeal.main_v1_0) = v0 c
          ∧ r.2.mem ((c.tc : Thread Cert.NormBKIdeal.nD Cert.NormBKIdeal.τ).loc Cert.NormBKIdeal.main_v1_1) = v1 c
          ∧ r.2.mem ((c.tc : Thread Cert.NormBKIdeal.nD Cert.NormBKIdeal.τ).loc Cert.NormBKIdeal.main_arg0) = m ((c.tc : Thread Cert.NormBKIdeal.nD Cert.NormBKIdeal.τ).loc Cert.NormBKIdeal.main_arg0)
          ∧ r.2.mem ((c.tc : Thread Cert.NormBKIdeal.nD Cert.NormBKIdeal.τ).loc Cert.NormBKIdeal.main_arg1) = m ((c.tc : Thread Cert.NormBKIdeal.nD Cert.NormBKIdeal.τ).loc Cert.NormBKIdeal.main_arg1)
          ∧ r.2.mem ((c.tc : Thread Cert.NormBKIdeal.nD Cert.NormBKIdeal.τ).loc Cert.NormBKIdeal.main_arg2) = m ((c.tc : Thread Cert.NormBKIdeal.nD Cert.NormBKIdeal.τ).loc Cert.NormBKIdeal.main_arg2))
      ∧ θ_run (Cert.NormBRIdeal.defs (F := Ideal)) (onTc (τ := Cert.NormBRIdeal.τ) (Cert.NormBRIdeal.main (F := Ideal))) ⟨m', fun _ => 0, g'⟩ (fun r => ∀ c : Dev Cert.NormBRIdeal.nD,
          r.2.mem ((c.tc : Thread Cert.NormBRIdeal.nD Cert.NormBRIdeal.τ).loc Cert.NormBRIdeal.main_v35) = v0 c
          ∧ r.2.mem ((c.tc : Thread Cert.NormBRIdeal.nD Cert.NormBRIdeal.τ).loc Cert.NormBRIdeal.main_v36) = v1 c
          ∧ r.2.mem ((c.tc : Thread Cert.NormBRIdeal.nD Cert.NormBRIdeal.τ).loc Cert.NormBRIdeal.main_arg0) = m' ((c.tc : Thread Cert.NormBRIdeal.nD Cert.NormBRIdeal.τ).loc Cert.NormBRIdeal.main_arg0)
          ∧ r.2.mem ((c.tc : Thread Cert.NormBRIdeal.nD Cert.NormBRIdeal.τ).loc Cert.NormBRIdeal.main_arg1) = m' ((c.tc : Thread Cert.NormBRIdeal.nD Cert.NormBRIdeal.τ).loc Cert.NormBRIdeal.main_arg1)
          ∧ r.2.mem ((c.tc : Thread Cert.NormBRIdeal.nD Cert.NormBRIdeal.τ).loc Cert.NormBRIdeal.main_arg2) = m' ((c.tc : Thread Cert.NormBRIdeal.nD Cert.NormBRIdeal.τ).loc Cert.NormBRIdeal.main_arg2))

def preserves_NormQK_NormQKIdeal : Prop :=
  True

def algebraic_NormQKIdeal_NormQRIdeal_pre_normq_finite [hNormQKIdeal : Cert.NormQKIdeal.Facts] [hNormQRIdeal : Cert.NormQRIdeal.Facts] [hPre_normq_finite : Cert.Pre_normq_finite.Facts] : Prop :=
  ∀ (m : (ℓ : Loc Cert.NormQKIdeal.nD Cert.NormQKIdeal.τ Cert.NormQKIdeal.sig) → Buf (Elt Ideal) ℓ) (g : Dev Cert.NormQKIdeal.nD → PrngReg)
    (m' : (ℓ : Loc Cert.NormQRIdeal.nD Cert.NormQRIdeal.τ Cert.NormQRIdeal.sig) → Buf (Elt Ideal) ℓ) (g' : Dev Cert.NormQRIdeal.nD → PrngReg), Pre_NormQKIdeal_normq_finite m →
    (∀ c : Dev Cert.NormQKIdeal.nD,
      m' ((c.tc : Thread Cert.NormQRIdeal.nD Cert.NormQRIdeal.τ).loc Cert.NormQRIdeal.main_arg0) = m ((c.tc : Thread Cert.NormQKIdeal.nD Cert.NormQKIdeal.τ).loc Cert.NormQKIdeal.main_arg0)
      ∧ m' ((c.tc : Thread Cert.NormQRIdeal.nD Cert.NormQRIdeal.τ).loc Cert.NormQRIdeal.main_arg1) = m ((c.tc : Thread Cert.NormQKIdeal.nD Cert.NormQKIdeal.τ).loc Cert.NormQKIdeal.main_arg1)
      ∧ m' ((c.tc : Thread Cert.NormQRIdeal.nD Cert.NormQRIdeal.τ).loc Cert.NormQRIdeal.main_arg2) = m ((c.tc : Thread Cert.NormQKIdeal.nD Cert.NormQKIdeal.τ).loc Cert.NormQKIdeal.main_arg2)) →
    ∃ (v0 : (c : Dev Cert.NormQKIdeal.nD) → Buf (Elt Ideal) ((c.tc : Thread Cert.NormQKIdeal.nD Cert.NormQKIdeal.τ).loc Cert.NormQKIdeal.main_v2_0)) (v1 : (c : Dev Cert.NormQKIdeal.nD) → Buf (Elt Ideal) ((c.tc : Thread Cert.NormQKIdeal.nD Cert.NormQKIdeal.τ).loc Cert.NormQKIdeal.main_v2_1)),
      θ_run (Cert.NormQKIdeal.defs (F := Ideal)) (onTc (τ := Cert.NormQKIdeal.τ) (Cert.NormQKIdeal.main (F := Ideal))) ⟨m, fun _ => 0, g⟩ (fun r => ∀ c : Dev Cert.NormQKIdeal.nD,
          r.2.mem ((c.tc : Thread Cert.NormQKIdeal.nD Cert.NormQKIdeal.τ).loc Cert.NormQKIdeal.main_v2_0) = v0 c
          ∧ r.2.mem ((c.tc : Thread Cert.NormQKIdeal.nD Cert.NormQKIdeal.τ).loc Cert.NormQKIdeal.main_v2_1) = v1 c
          ∧ r.2.mem ((c.tc : Thread Cert.NormQKIdeal.nD Cert.NormQKIdeal.τ).loc Cert.NormQKIdeal.main_arg0) = m ((c.tc : Thread Cert.NormQKIdeal.nD Cert.NormQKIdeal.τ).loc Cert.NormQKIdeal.main_arg0)
          ∧ r.2.mem ((c.tc : Thread Cert.NormQKIdeal.nD Cert.NormQKIdeal.τ).loc Cert.NormQKIdeal.main_arg1) = m ((c.tc : Thread Cert.NormQKIdeal.nD Cert.NormQKIdeal.τ).loc Cert.NormQKIdeal.main_arg1)
          ∧ r.2.mem ((c.tc : Thread Cert.NormQKIdeal.nD Cert.NormQKIdeal.τ).loc Cert.NormQKIdeal.main_arg2) = m ((c.tc : Thread Cert.NormQKIdeal.nD Cert.NormQKIdeal.τ).loc Cert.NormQKIdeal.main_arg2))
      ∧ θ_run (Cert.NormQRIdeal.defs (F := Ideal)) (onTc (τ := Cert.NormQRIdeal.τ) (Cert.NormQRIdeal.main (F := Ideal))) ⟨m', fun _ => 0, g'⟩ (fun r => ∀ c : Dev Cert.NormQRIdeal.nD,
          r.2.mem ((c.tc : Thread Cert.NormQRIdeal.nD Cert.NormQRIdeal.τ).loc Cert.NormQRIdeal.main_v36) = v0 c
          ∧ r.2.mem ((c.tc : Thread Cert.NormQRIdeal.nD Cert.NormQRIdeal.τ).loc Cert.NormQRIdeal.main_v37) = v1 c
          ∧ r.2.mem ((c.tc : Thread Cert.NormQRIdeal.nD Cert.NormQRIdeal.τ).loc Cert.NormQRIdeal.main_arg0) = m' ((c.tc : Thread Cert.NormQRIdeal.nD Cert.NormQRIdeal.τ).loc Cert.NormQRIdeal.main_arg0)
          ∧ r.2.mem ((c.tc : Thread Cert.NormQRIdeal.nD Cert.NormQRIdeal.τ).loc Cert.NormQRIdeal.main_arg1) = m' ((c.tc : Thread Cert.NormQRIdeal.nD Cert.NormQRIdeal.τ).loc Cert.NormQRIdeal.main_arg1)
          ∧ r.2.mem ((c.tc : Thread Cert.NormQRIdeal.nD Cert.NormQRIdeal.τ).loc Cert.NormQRIdeal.main_arg2) = m' ((c.tc : Thread Cert.NormQRIdeal.nD Cert.NormQRIdeal.τ).loc Cert.NormQRIdeal.main_arg2))

def preserves_NormCQK_NormCQKIdeal : Prop :=
  True

def algebraic_NormCQKIdeal_NormCQRIdeal_pre_normcq_finite [hNormCQKIdeal : Cert.NormCQKIdeal.Facts] [hNormCQRIdeal : Cert.NormCQRIdeal.Facts] [hPre_normcq_finite : Cert.Pre_normcq_finite.Facts] : Prop :=
  ∀ (m : (ℓ : Loc Cert.NormCQKIdeal.nD Cert.NormCQKIdeal.τ Cert.NormCQKIdeal.sig) → Buf (Elt Ideal) ℓ) (g : Dev Cert.NormCQKIdeal.nD → PrngReg)
    (m' : (ℓ : Loc Cert.NormCQRIdeal.nD Cert.NormCQRIdeal.τ Cert.NormCQRIdeal.sig) → Buf (Elt Ideal) ℓ) (g' : Dev Cert.NormCQRIdeal.nD → PrngReg), Pre_NormCQKIdeal_normcq_finite m →
    (∀ c : Dev Cert.NormCQKIdeal.nD,
      m' ((c.tc : Thread Cert.NormCQRIdeal.nD Cert.NormCQRIdeal.τ).loc Cert.NormCQRIdeal.main_arg0) = m ((c.tc : Thread Cert.NormCQKIdeal.nD Cert.NormCQKIdeal.τ).loc Cert.NormCQKIdeal.main_arg0)
      ∧ m' ((c.tc : Thread Cert.NormCQRIdeal.nD Cert.NormCQRIdeal.τ).loc Cert.NormCQRIdeal.main_arg1) = m ((c.tc : Thread Cert.NormCQKIdeal.nD Cert.NormCQKIdeal.τ).loc Cert.NormCQKIdeal.main_arg1)
      ∧ m' ((c.tc : Thread Cert.NormCQRIdeal.nD Cert.NormCQRIdeal.τ).loc Cert.NormCQRIdeal.main_arg2) = m ((c.tc : Thread Cert.NormCQKIdeal.nD Cert.NormCQKIdeal.τ).loc Cert.NormCQKIdeal.main_arg2)) →
    ∃ (v0 : (c : Dev Cert.NormCQKIdeal.nD) → Buf (Elt Ideal) ((c.tc : Thread Cert.NormCQKIdeal.nD Cert.NormCQKIdeal.τ).loc Cert.NormCQKIdeal.main_v4_0)) (v1 : (c : Dev Cert.NormCQKIdeal.nD) → Buf (Elt Ideal) ((c.tc : Thread Cert.NormCQKIdeal.nD Cert.NormCQKIdeal.τ).loc Cert.NormCQKIdeal.main_v4_1)),
      θ_run (Cert.NormCQKIdeal.defs (F := Ideal)) (onTc (τ := Cert.NormCQKIdeal.τ) (Cert.NormCQKIdeal.main (F := Ideal))) ⟨m, fun _ => 0, g⟩ (fun r => ∀ c : Dev Cert.NormCQKIdeal.nD,
          r.2.mem ((c.tc : Thread Cert.NormCQKIdeal.nD Cert.NormCQKIdeal.τ).loc Cert.NormCQKIdeal.main_v4_0) = v0 c
          ∧ r.2.mem ((c.tc : Thread Cert.NormCQKIdeal.nD Cert.NormCQKIdeal.τ).loc Cert.NormCQKIdeal.main_v4_1) = v1 c
          ∧ r.2.mem ((c.tc : Thread Cert.NormCQKIdeal.nD Cert.NormCQKIdeal.τ).loc Cert.NormCQKIdeal.main_arg0) = m ((c.tc : Thread Cert.NormCQKIdeal.nD Cert.NormCQKIdeal.τ).loc Cert.NormCQKIdeal.main_arg0)
          ∧ r.2.mem ((c.tc : Thread Cert.NormCQKIdeal.nD Cert.NormCQKIdeal.τ).loc Cert.NormCQKIdeal.main_arg1) = m ((c.tc : Thread Cert.NormCQKIdeal.nD Cert.NormCQKIdeal.τ).loc Cert.NormCQKIdeal.main_arg1)
          ∧ r.2.mem ((c.tc : Thread Cert.NormCQKIdeal.nD Cert.NormCQKIdeal.τ).loc Cert.NormCQKIdeal.main_arg2) = m ((c.tc : Thread Cert.NormCQKIdeal.nD Cert.NormCQKIdeal.τ).loc Cert.NormCQKIdeal.main_arg2))
      ∧ θ_run (Cert.NormCQRIdeal.defs (F := Ideal)) (onTc (τ := Cert.NormCQRIdeal.τ) (Cert.NormCQRIdeal.main (F := Ideal))) ⟨m', fun _ => 0, g'⟩ (fun r => ∀ c : Dev Cert.NormCQRIdeal.nD,
          r.2.mem ((c.tc : Thread Cert.NormCQRIdeal.nD Cert.NormCQRIdeal.τ).loc Cert.NormCQRIdeal.main_v37) = v0 c
          ∧ r.2.mem ((c.tc : Thread Cert.NormCQRIdeal.nD Cert.NormCQRIdeal.τ).loc Cert.NormCQRIdeal.main_v38) = v1 c
          ∧ r.2.mem ((c.tc : Thread Cert.NormCQRIdeal.nD Cert.NormCQRIdeal.τ).loc Cert.NormCQRIdeal.main_arg0) = m' ((c.tc : Thread Cert.NormCQRIdeal.nD Cert.NormCQRIdeal.τ).loc Cert.NormCQRIdeal.main_arg0)
          ∧ r.2.mem ((c.tc : Thread Cert.NormCQRIdeal.nD Cert.NormCQRIdeal.τ).loc Cert.NormCQRIdeal.main_arg1) = m' ((c.tc : Thread Cert.NormCQRIdeal.nD Cert.NormCQRIdeal.τ).loc Cert.NormCQRIdeal.main_arg1)
          ∧ r.2.mem ((c.tc : Thread Cert.NormCQRIdeal.nD Cert.NormCQRIdeal.τ).loc Cert.NormCQRIdeal.main_arg2) = m' ((c.tc : Thread Cert.NormCQRIdeal.nD Cert.NormCQRIdeal.τ).loc Cert.NormCQRIdeal.main_arg2))

def preserves_NormCKK_NormCKKIdeal : Prop :=
  True

def algebraic_NormCKKIdeal_NormCKRIdeal_pre_normck_finite [hNormCKKIdeal : Cert.NormCKKIdeal.Facts] [hNormCKRIdeal : Cert.NormCKRIdeal.Facts] [hPre_normck_finite : Cert.Pre_normck_finite.Facts] : Prop :=
  ∀ (m : (ℓ : Loc Cert.NormCKKIdeal.nD Cert.NormCKKIdeal.τ Cert.NormCKKIdeal.sig) → Buf (Elt Ideal) ℓ) (g : Dev Cert.NormCKKIdeal.nD → PrngReg)
    (m' : (ℓ : Loc Cert.NormCKRIdeal.nD Cert.NormCKRIdeal.τ Cert.NormCKRIdeal.sig) → Buf (Elt Ideal) ℓ) (g' : Dev Cert.NormCKRIdeal.nD → PrngReg), Pre_NormCKKIdeal_normck_finite m →
    (∀ c : Dev Cert.NormCKKIdeal.nD,
      m' ((c.tc : Thread Cert.NormCKRIdeal.nD Cert.NormCKRIdeal.τ).loc Cert.NormCKRIdeal.main_arg0) = m ((c.tc : Thread Cert.NormCKKIdeal.nD Cert.NormCKKIdeal.τ).loc Cert.NormCKKIdeal.main_arg0)
      ∧ m' ((c.tc : Thread Cert.NormCKRIdeal.nD Cert.NormCKRIdeal.τ).loc Cert.NormCKRIdeal.main_arg1) = m ((c.tc : Thread Cert.NormCKKIdeal.nD Cert.NormCKKIdeal.τ).loc Cert.NormCKKIdeal.main_arg1)
      ∧ m' ((c.tc : Thread Cert.NormCKRIdeal.nD Cert.NormCKRIdeal.τ).loc Cert.NormCKRIdeal.main_arg2) = m ((c.tc : Thread Cert.NormCKKIdeal.nD Cert.NormCKKIdeal.τ).loc Cert.NormCKKIdeal.main_arg2)) →
    ∃ (v0 : (c : Dev Cert.NormCKKIdeal.nD) → Buf (Elt Ideal) ((c.tc : Thread Cert.NormCKKIdeal.nD Cert.NormCKKIdeal.τ).loc Cert.NormCKKIdeal.main_v4_0)) (v1 : (c : Dev Cert.NormCKKIdeal.nD) → Buf (Elt Ideal) ((c.tc : Thread Cert.NormCKKIdeal.nD Cert.NormCKKIdeal.τ).loc Cert.NormCKKIdeal.main_v4_1)),
      θ_run (Cert.NormCKKIdeal.defs (F := Ideal)) (onTc (τ := Cert.NormCKKIdeal.τ) (Cert.NormCKKIdeal.main (F := Ideal))) ⟨m, fun _ => 0, g⟩ (fun r => ∀ c : Dev Cert.NormCKKIdeal.nD,
          r.2.mem ((c.tc : Thread Cert.NormCKKIdeal.nD Cert.NormCKKIdeal.τ).loc Cert.NormCKKIdeal.main_v4_0) = v0 c
          ∧ r.2.mem ((c.tc : Thread Cert.NormCKKIdeal.nD Cert.NormCKKIdeal.τ).loc Cert.NormCKKIdeal.main_v4_1) = v1 c
          ∧ r.2.mem ((c.tc : Thread Cert.NormCKKIdeal.nD Cert.NormCKKIdeal.τ).loc Cert.NormCKKIdeal.main_arg0) = m ((c.tc : Thread Cert.NormCKKIdeal.nD Cert.NormCKKIdeal.τ).loc Cert.NormCKKIdeal.main_arg0)
          ∧ r.2.mem ((c.tc : Thread Cert.NormCKKIdeal.nD Cert.NormCKKIdeal.τ).loc Cert.NormCKKIdeal.main_arg1) = m ((c.tc : Thread Cert.NormCKKIdeal.nD Cert.NormCKKIdeal.τ).loc Cert.NormCKKIdeal.main_arg1)
          ∧ r.2.mem ((c.tc : Thread Cert.NormCKKIdeal.nD Cert.NormCKKIdeal.τ).loc Cert.NormCKKIdeal.main_arg2) = m ((c.tc : Thread Cert.NormCKKIdeal.nD Cert.NormCKKIdeal.τ).loc Cert.NormCKKIdeal.main_arg2))
      ∧ θ_run (Cert.NormCKRIdeal.defs (F := Ideal)) (onTc (τ := Cert.NormCKRIdeal.τ) (Cert.NormCKRIdeal.main (F := Ideal))) ⟨m', fun _ => 0, g'⟩ (fun r => ∀ c : Dev Cert.NormCKRIdeal.nD,
          r.2.mem ((c.tc : Thread Cert.NormCKRIdeal.nD Cert.NormCKRIdeal.τ).loc Cert.NormCKRIdeal.main_v37) = v0 c
          ∧ r.2.mem ((c.tc : Thread Cert.NormCKRIdeal.nD Cert.NormCKRIdeal.τ).loc Cert.NormCKRIdeal.main_v38) = v1 c
          ∧ r.2.mem ((c.tc : Thread Cert.NormCKRIdeal.nD Cert.NormCKRIdeal.τ).loc Cert.NormCKRIdeal.main_arg0) = m' ((c.tc : Thread Cert.NormCKRIdeal.nD Cert.NormCKRIdeal.τ).loc Cert.NormCKRIdeal.main_arg0)
          ∧ r.2.mem ((c.tc : Thread Cert.NormCKRIdeal.nD Cert.NormCKRIdeal.τ).loc Cert.NormCKRIdeal.main_arg1) = m' ((c.tc : Thread Cert.NormCKRIdeal.nD Cert.NormCKRIdeal.τ).loc Cert.NormCKRIdeal.main_arg1)
          ∧ r.2.mem ((c.tc : Thread Cert.NormCKRIdeal.nD Cert.NormCKRIdeal.τ).loc Cert.NormCKRIdeal.main_arg2) = m' ((c.tc : Thread Cert.NormCKRIdeal.nD Cert.NormCKRIdeal.τ).loc Cert.NormCKRIdeal.main_arg2))

def preserves_RopeAK_RopeAKIdeal : Prop :=
  True

def algebraic_RopeAKIdeal_RopeARIdeal [hRopeAKIdeal : Cert.RopeAKIdeal.Facts] [hRopeARIdeal : Cert.RopeARIdeal.Facts] : Prop :=
  ∀ (m : (ℓ : Loc Cert.RopeAKIdeal.nD Cert.RopeAKIdeal.τ Cert.RopeAKIdeal.sig) → Buf (Elt Ideal) ℓ) (g : Dev Cert.RopeAKIdeal.nD → PrngReg)
    (m' : (ℓ : Loc Cert.RopeARIdeal.nD Cert.RopeARIdeal.τ Cert.RopeARIdeal.sig) → Buf (Elt Ideal) ℓ) (g' : Dev Cert.RopeARIdeal.nD → PrngReg), Pre_RopeAKIdeal m →
    (∀ c : Dev Cert.RopeAKIdeal.nD,
      m' ((c.tc : Thread Cert.RopeARIdeal.nD Cert.RopeARIdeal.τ).loc Cert.RopeARIdeal.main_arg0) = m ((c.tc : Thread Cert.RopeAKIdeal.nD Cert.RopeAKIdeal.τ).loc Cert.RopeAKIdeal.main_arg0)) →
    ∃ (v0 : (c : Dev Cert.RopeAKIdeal.nD) → Buf (Elt Ideal) ((c.tc : Thread Cert.RopeAKIdeal.nD Cert.RopeAKIdeal.τ).loc Cert.RopeAKIdeal.main_v105)),
      θ_run (Cert.RopeAKIdeal.defs (F := Ideal)) (onTc (τ := Cert.RopeAKIdeal.τ) (Cert.RopeAKIdeal.main (F := Ideal))) ⟨m, fun _ => 0, g⟩ (fun r => ∀ c : Dev Cert.RopeAKIdeal.nD,
          r.2.mem ((c.tc : Thread Cert.RopeAKIdeal.nD Cert.RopeAKIdeal.τ).loc Cert.RopeAKIdeal.main_v105) = v0 c
          ∧ r.2.mem ((c.tc : Thread Cert.RopeAKIdeal.nD Cert.RopeAKIdeal.τ).loc Cert.RopeAKIdeal.main_arg0) = m ((c.tc : Thread Cert.RopeAKIdeal.nD Cert.RopeAKIdeal.τ).loc Cert.RopeAKIdeal.main_arg0))
      ∧ θ_run (Cert.RopeARIdeal.defs (F := Ideal)) (onTc (τ := Cert.RopeARIdeal.τ) (Cert.RopeARIdeal.main (F := Ideal))) ⟨m', fun _ => 0, g'⟩ (fun r => ∀ c : Dev Cert.RopeARIdeal.nD,
          r.2.mem ((c.tc : Thread Cert.RopeARIdeal.nD Cert.RopeARIdeal.τ).loc Cert.RopeARIdeal.main_v61) = v0 c
          ∧ r.2.mem ((c.tc : Thread Cert.RopeARIdeal.nD Cert.RopeARIdeal.τ).loc Cert.RopeARIdeal.main_arg0) = m' ((c.tc : Thread Cert.RopeARIdeal.nD Cert.RopeARIdeal.τ).loc Cert.RopeARIdeal.main_arg0))

def preserves_RopeBK_RopeBKIdeal : Prop :=
  True

def algebraic_RopeBKIdeal_RopeBRIdeal [hRopeBKIdeal : Cert.RopeBKIdeal.Facts] [hRopeBRIdeal : Cert.RopeBRIdeal.Facts] : Prop :=
  ∀ (m : (ℓ : Loc Cert.RopeBKIdeal.nD Cert.RopeBKIdeal.τ Cert.RopeBKIdeal.sig) → Buf (Elt Ideal) ℓ) (g : Dev Cert.RopeBKIdeal.nD → PrngReg)
    (m' : (ℓ : Loc Cert.RopeBRIdeal.nD Cert.RopeBRIdeal.τ Cert.RopeBRIdeal.sig) → Buf (Elt Ideal) ℓ) (g' : Dev Cert.RopeBRIdeal.nD → PrngReg), Pre_RopeBKIdeal m →
    (∀ c : Dev Cert.RopeBKIdeal.nD,
      m' ((c.tc : Thread Cert.RopeBRIdeal.nD Cert.RopeBRIdeal.τ).loc Cert.RopeBRIdeal.main_arg0) = m ((c.tc : Thread Cert.RopeBKIdeal.nD Cert.RopeBKIdeal.τ).loc Cert.RopeBKIdeal.main_arg0)) →
    ∃ (v0 : (c : Dev Cert.RopeBKIdeal.nD) → Buf (Elt Ideal) ((c.tc : Thread Cert.RopeBKIdeal.nD Cert.RopeBKIdeal.τ).loc Cert.RopeBKIdeal.main_v104)),
      θ_run (Cert.RopeBKIdeal.defs (F := Ideal)) (onTc (τ := Cert.RopeBKIdeal.τ) (Cert.RopeBKIdeal.main (F := Ideal))) ⟨m, fun _ => 0, g⟩ (fun r => ∀ c : Dev Cert.RopeBKIdeal.nD,
          r.2.mem ((c.tc : Thread Cert.RopeBKIdeal.nD Cert.RopeBKIdeal.τ).loc Cert.RopeBKIdeal.main_v104) = v0 c
          ∧ r.2.mem ((c.tc : Thread Cert.RopeBKIdeal.nD Cert.RopeBKIdeal.τ).loc Cert.RopeBKIdeal.main_arg0) = m ((c.tc : Thread Cert.RopeBKIdeal.nD Cert.RopeBKIdeal.τ).loc Cert.RopeBKIdeal.main_arg0))
      ∧ θ_run (Cert.RopeBRIdeal.defs (F := Ideal)) (onTc (τ := Cert.RopeBRIdeal.τ) (Cert.RopeBRIdeal.main (F := Ideal))) ⟨m', fun _ => 0, g'⟩ (fun r => ∀ c : Dev Cert.RopeBRIdeal.nD,
          r.2.mem ((c.tc : Thread Cert.RopeBRIdeal.nD Cert.RopeBRIdeal.τ).loc Cert.RopeBRIdeal.main_v54) = v0 c
          ∧ r.2.mem ((c.tc : Thread Cert.RopeBRIdeal.nD Cert.RopeBRIdeal.τ).loc Cert.RopeBRIdeal.main_arg0) = m' ((c.tc : Thread Cert.RopeBRIdeal.nD Cert.RopeBRIdeal.τ).loc Cert.RopeBRIdeal.main_arg0))

def preserves_RopeCK_RopeCKIdeal : Prop :=
  True

def algebraic_RopeCKIdeal_RopeCRIdeal [hRopeCKIdeal : Cert.RopeCKIdeal.Facts] [hRopeCRIdeal : Cert.RopeCRIdeal.Facts] : Prop :=
  ∀ (m : (ℓ : Loc Cert.RopeCKIdeal.nD Cert.RopeCKIdeal.τ Cert.RopeCKIdeal.sig) → Buf (Elt Ideal) ℓ) (g : Dev Cert.RopeCKIdeal.nD → PrngReg)
    (m' : (ℓ : Loc Cert.RopeCRIdeal.nD Cert.RopeCRIdeal.τ Cert.RopeCRIdeal.sig) → Buf (Elt Ideal) ℓ) (g' : Dev Cert.RopeCRIdeal.nD → PrngReg), Pre_RopeCKIdeal m →
    (∀ c : Dev Cert.RopeCKIdeal.nD,
      m' ((c.tc : Thread Cert.RopeCRIdeal.nD Cert.RopeCRIdeal.τ).loc Cert.RopeCRIdeal.main_arg0) = m ((c.tc : Thread Cert.RopeCKIdeal.nD Cert.RopeCKIdeal.τ).loc Cert.RopeCKIdeal.main_arg0)) →
    ∃ (v0 : (c : Dev Cert.RopeCKIdeal.nD) → Buf (Elt Ideal) ((c.tc : Thread Cert.RopeCKIdeal.nD Cert.RopeCKIdeal.τ).loc Cert.RopeCKIdeal.main_v104)),
      θ_run (Cert.RopeCKIdeal.defs (F := Ideal)) (onTc (τ := Cert.RopeCKIdeal.τ) (Cert.RopeCKIdeal.main (F := Ideal))) ⟨m, fun _ => 0, g⟩ (fun r => ∀ c : Dev Cert.RopeCKIdeal.nD,
          r.2.mem ((c.tc : Thread Cert.RopeCKIdeal.nD Cert.RopeCKIdeal.τ).loc Cert.RopeCKIdeal.main_v104) = v0 c
          ∧ r.2.mem ((c.tc : Thread Cert.RopeCKIdeal.nD Cert.RopeCKIdeal.τ).loc Cert.RopeCKIdeal.main_arg0) = m ((c.tc : Thread Cert.RopeCKIdeal.nD Cert.RopeCKIdeal.τ).loc Cert.RopeCKIdeal.main_arg0))
      ∧ θ_run (Cert.RopeCRIdeal.defs (F := Ideal)) (onTc (τ := Cert.RopeCRIdeal.τ) (Cert.RopeCRIdeal.main (F := Ideal))) ⟨m', fun _ => 0, g'⟩ (fun r => ∀ c : Dev Cert.RopeCRIdeal.nD,
          r.2.mem ((c.tc : Thread Cert.RopeCRIdeal.nD Cert.RopeCRIdeal.τ).loc Cert.RopeCRIdeal.main_v118) = v0 c
          ∧ r.2.mem ((c.tc : Thread Cert.RopeCRIdeal.nD Cert.RopeCRIdeal.τ).loc Cert.RopeCRIdeal.main_arg0) = m' ((c.tc : Thread Cert.RopeCRIdeal.nD Cert.RopeCRIdeal.τ).loc Cert.RopeCRIdeal.main_arg0))

def preserves_RopeCKK_RopeCKKIdeal : Prop :=
  True

def algebraic_RopeCKKIdeal_RopeCKRIdeal [hRopeCKKIdeal : Cert.RopeCKKIdeal.Facts] [hRopeCKRIdeal : Cert.RopeCKRIdeal.Facts] : Prop :=
  ∀ (m : (ℓ : Loc Cert.RopeCKKIdeal.nD Cert.RopeCKKIdeal.τ Cert.RopeCKKIdeal.sig) → Buf (Elt Ideal) ℓ) (g : Dev Cert.RopeCKKIdeal.nD → PrngReg)
    (m' : (ℓ : Loc Cert.RopeCKRIdeal.nD Cert.RopeCKRIdeal.τ Cert.RopeCKRIdeal.sig) → Buf (Elt Ideal) ℓ) (g' : Dev Cert.RopeCKRIdeal.nD → PrngReg), Pre_RopeCKKIdeal m →
    (∀ c : Dev Cert.RopeCKKIdeal.nD,
      m' ((c.tc : Thread Cert.RopeCKRIdeal.nD Cert.RopeCKRIdeal.τ).loc Cert.RopeCKRIdeal.main_arg0) = m ((c.tc : Thread Cert.RopeCKKIdeal.nD Cert.RopeCKKIdeal.τ).loc Cert.RopeCKKIdeal.main_arg0)) →
    ∃ (v0 : (c : Dev Cert.RopeCKKIdeal.nD) → Buf (Elt Ideal) ((c.tc : Thread Cert.RopeCKKIdeal.nD Cert.RopeCKKIdeal.τ).loc Cert.RopeCKKIdeal.main_v104)),
      θ_run (Cert.RopeCKKIdeal.defs (F := Ideal)) (onTc (τ := Cert.RopeCKKIdeal.τ) (Cert.RopeCKKIdeal.main (F := Ideal))) ⟨m, fun _ => 0, g⟩ (fun r => ∀ c : Dev Cert.RopeCKKIdeal.nD,
          r.2.mem ((c.tc : Thread Cert.RopeCKKIdeal.nD Cert.RopeCKKIdeal.τ).loc Cert.RopeCKKIdeal.main_v104) = v0 c
          ∧ r.2.mem ((c.tc : Thread Cert.RopeCKKIdeal.nD Cert.RopeCKKIdeal.τ).loc Cert.RopeCKKIdeal.main_arg0) = m ((c.tc : Thread Cert.RopeCKKIdeal.nD Cert.RopeCKKIdeal.τ).loc Cert.RopeCKKIdeal.main_arg0))
      ∧ θ_run (Cert.RopeCKRIdeal.defs (F := Ideal)) (onTc (τ := Cert.RopeCKRIdeal.τ) (Cert.RopeCKRIdeal.main (F := Ideal))) ⟨m', fun _ => 0, g'⟩ (fun r => ∀ c : Dev Cert.RopeCKRIdeal.nD,
          r.2.mem ((c.tc : Thread Cert.RopeCKRIdeal.nD Cert.RopeCKRIdeal.τ).loc Cert.RopeCKRIdeal.main_v118) = v0 c
          ∧ r.2.mem ((c.tc : Thread Cert.RopeCKRIdeal.nD Cert.RopeCKRIdeal.τ).loc Cert.RopeCKRIdeal.main_arg0) = m' ((c.tc : Thread Cert.RopeCKRIdeal.nD Cert.RopeCKRIdeal.τ).loc Cert.RopeCKRIdeal.main_arg0))

def preserves_LossK_LossKIdeal : Prop :=
  True

def algebraic_LossKIdeal_LossRIdeal_pre_loss_finite [hLossKIdeal : Cert.LossKIdeal.Facts] [hLossRIdeal : Cert.LossRIdeal.Facts] [hPre_loss_finite : Cert.Pre_loss_finite.Facts] : Prop :=
  ∀ (m : (ℓ : Loc Cert.LossKIdeal.nD Cert.LossKIdeal.τ Cert.LossKIdeal.sig) → Buf (Elt Ideal) ℓ) (g : Dev Cert.LossKIdeal.nD → PrngReg)
    (m' : (ℓ : Loc Cert.LossRIdeal.nD Cert.LossRIdeal.τ Cert.LossRIdeal.sig) → Buf (Elt Ideal) ℓ) (g' : Dev Cert.LossRIdeal.nD → PrngReg), Pre_LossKIdeal_loss_finite m →
    (∀ c : Dev Cert.LossKIdeal.nD,
      m' ((c.tc : Thread Cert.LossRIdeal.nD Cert.LossRIdeal.τ).loc Cert.LossRIdeal.main_arg0) = m ((c.tc : Thread Cert.LossKIdeal.nD Cert.LossKIdeal.τ).loc Cert.LossKIdeal.main_arg0)
      ∧ m' ((c.tc : Thread Cert.LossRIdeal.nD Cert.LossRIdeal.τ).loc Cert.LossRIdeal.main_arg1) = m ((c.tc : Thread Cert.LossKIdeal.nD Cert.LossKIdeal.τ).loc Cert.LossKIdeal.main_arg1)
      ∧ m' ((c.tc : Thread Cert.LossRIdeal.nD Cert.LossRIdeal.τ).loc Cert.LossRIdeal.main_arg2) = m ((c.tc : Thread Cert.LossKIdeal.nD Cert.LossKIdeal.τ).loc Cert.LossKIdeal.main_arg2)) →
    ∃ (v0 : (c : Dev Cert.LossKIdeal.nD) → Buf (Elt Ideal) ((c.tc : Thread Cert.LossKIdeal.nD Cert.LossKIdeal.τ).loc Cert.LossKIdeal.main_v1_0)) (v1 : (c : Dev Cert.LossKIdeal.nD) → Buf (Elt Ideal) ((c.tc : Thread Cert.LossKIdeal.nD Cert.LossKIdeal.τ).loc Cert.LossKIdeal.main_v1_1)) (v2 : (c : Dev Cert.LossKIdeal.nD) → Buf (Elt Ideal) ((c.tc : Thread Cert.LossKIdeal.nD Cert.LossKIdeal.τ).loc Cert.LossKIdeal.main_v1_2)) (v3 : (c : Dev Cert.LossKIdeal.nD) → Buf (Elt Ideal) ((c.tc : Thread Cert.LossKIdeal.nD Cert.LossKIdeal.τ).loc Cert.LossKIdeal.main_v1_3)),
      θ_run (Cert.LossKIdeal.defs (F := Ideal)) (onTc (τ := Cert.LossKIdeal.τ) (Cert.LossKIdeal.main (F := Ideal))) ⟨m, fun _ => 0, g⟩ (fun r => ∀ c : Dev Cert.LossKIdeal.nD,
          r.2.mem ((c.tc : Thread Cert.LossKIdeal.nD Cert.LossKIdeal.τ).loc Cert.LossKIdeal.main_v1_0) = v0 c
          ∧ r.2.mem ((c.tc : Thread Cert.LossKIdeal.nD Cert.LossKIdeal.τ).loc Cert.LossKIdeal.main_v1_1) = v1 c
          ∧ r.2.mem ((c.tc : Thread Cert.LossKIdeal.nD Cert.LossKIdeal.τ).loc Cert.LossKIdeal.main_v1_2) = v2 c
          ∧ r.2.mem ((c.tc : Thread Cert.LossKIdeal.nD Cert.LossKIdeal.τ).loc Cert.LossKIdeal.main_v1_3) = v3 c
          ∧ r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
          ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
          ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v50) = v0 c
          ∧ r.2.mem ((c.tc : Thread Cert.LossRIdeal.nD Cert.LossRIdeal.τ).loc Cert.LossRIdeal.main_v51) = v1 c
          ∧ r.2.mem ((c.tc : Thread Cert.LossRIdeal.nD Cert.LossRIdeal.τ).loc Cert.LossRIdeal.main_v52) = v2 c
          ∧ r.2.mem ((c.tc : Thread Cert.LossRIdeal.nD Cert.LossRIdeal.τ).loc Cert.LossRIdeal.main_v53) = v3 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2))

def preserves_FlfCK_FlfCKIdeal : Prop :=
  IdealRules.named_const.Statement Cert.FlfCKIdeal.κ "c" .f32 0x3E0293EE#32 (((Real.sqrt 128)⁻¹ * (Real.log 2)⁻¹ : ℝ) : EReal)
  ∧ IdealRules.named_const.Statement Cert.FlfCKIdeal.κ "log2e" .f32 0x3FB8AA3B#32 (((Real.log 2)⁻¹ : ℝ) : EReal)

def algebraic_FlfCKIdeal_FlfCRIdeal_pre_flfc_finite [hFlfCKIdeal : Cert.FlfCKIdeal.Facts] [hFlfCRIdeal : Cert.FlfCRIdeal.Facts] [hPre_flfc_finite : Cert.Pre_flfc_finite.Facts] : Prop :=
  ∀ (m : (ℓ : Loc Cert.FlfCKIdeal.nD Cert.FlfCKIdeal.τ Cert.FlfCKIdeal.sig) → Buf (Elt Ideal) ℓ) (g : Dev Cert.FlfCKIdeal.nD → PrngReg)
    (m' : (ℓ : Loc Cert.FlfCRIdeal.nD Cert.FlfCRIdeal.τ Cert.FlfCRIdeal.sig) → Buf (Elt Ideal) ℓ) (g' : Dev Cert.FlfCRIdeal.nD → PrngReg), Pre_FlfCKIdeal_flfc_finite m →
    (∀ c : Dev Cert.FlfCKIdeal.nD,
      m' ((c.tc : Thread Cert.FlfCRIdeal.nD Cert.FlfCRIdeal.τ).loc Cert.FlfCRIdeal.main_arg0) = m ((c.tc : Thread Cert.FlfCKIdeal.nD Cert.FlfCKIdeal.τ).loc Cert.FlfCKIdeal.main_arg0)
      ∧ m' ((c.tc : Thread Cert.FlfCRIdeal.nD Cert.FlfCRIdeal.τ).loc Cert.FlfCRIdeal.main_arg1) = m ((c.tc : Thread Cert.FlfCKIdeal.nD Cert.FlfCKIdeal.τ).loc Cert.FlfCKIdeal.main_arg1)
      ∧ m' ((c.tc : Thread Cert.FlfCRIdeal.nD Cert.FlfCRIdeal.τ).loc Cert.FlfCRIdeal.main_arg2) = m ((c.tc : Thread Cert.FlfCKIdeal.nD Cert.FlfCKIdeal.τ).loc Cert.FlfCKIdeal.main_arg2)) →
    ∃ (v0 : (c : Dev Cert.FlfCKIdeal.nD) → Buf (Elt Ideal) ((c.tc : Thread Cert.FlfCKIdeal.nD Cert.FlfCKIdeal.τ).loc Cert.FlfCKIdeal.main_v6_0)) (v1 : (c : Dev Cert.FlfCKIdeal.nD) → Buf (Elt Ideal) ((c.tc : Thread Cert.FlfCKIdeal.nD Cert.FlfCKIdeal.τ).loc Cert.FlfCKIdeal.main_v6_1)),
      θ_run (Cert.FlfCKIdeal.defs (F := Ideal)) (onTc (τ := Cert.FlfCKIdeal.τ) (Cert.FlfCKIdeal.main (F := Ideal))) ⟨m, fun _ => 0, g⟩ (fun r => ∀ c : Dev Cert.FlfCKIdeal.nD,
          r.2.mem ((c.tc : Thread Cert.FlfCKIdeal.nD Cert.FlfCKIdeal.τ).loc Cert.FlfCKIdeal.main_v6_0) = v0 c
          ∧ r.2.mem ((c.tc : Thread Cert.FlfCKIdeal.nD Cert.FlfCKIdeal.τ).loc Cert.FlfCKIdeal.main_v6_1) = v1 c
          ∧ r.2.mem ((c.tc : Thread Cert.FlfCKIdeal.nD Cert.FlfCKIdeal.τ).loc Cert.FlfCKIdeal.main_arg0) = m ((c.tc : Thread Cert.FlfCKIdeal.nD Cert.FlfCKIdeal.τ).loc Cert.FlfCKIdeal.main_arg0)
          ∧ r.2.mem ((c.tc : Thread Cert.FlfCKIdeal.nD Cert.FlfCKIdeal.τ).loc Cert.FlfCKIdeal.main_arg1) = m ((c.tc : Thread Cert.FlfCKIdeal.nD Cert.FlfCKIdeal.τ).loc Cert.FlfCKIdeal.main_arg1)
          ∧ r.2.mem ((c.tc : Thread Cert.FlfCKIdeal.nD Cert.FlfCKIdeal.τ).loc Cert.FlfCKIdeal.main_arg2) = m ((c.tc : Thread Cert.FlfCKIdeal.nD Cert.FlfCKIdeal.τ).loc Cert.FlfCKIdeal.main_arg2))
      ∧ θ_run (Cert.FlfCRIdeal.defs (F := Ideal)) (onTc (τ := Cert.FlfCRIdeal.τ) (Cert.FlfCRIdeal.main (F := Ideal))) ⟨m', fun _ => 0, g'⟩ (fun r => ∀ c : Dev Cert.FlfCRIdeal.nD,
          r.2.mem ((c.tc : Thread Cert.FlfCRIdeal.nD Cert.FlfCRIdeal.τ).loc Cert.FlfCRIdeal.main_v19) = v0 c
          ∧ r.2.mem ((c.tc : Thread Cert.FlfCRIdeal.nD Cert.FlfCRIdeal.τ).loc Cert.FlfCRIdeal.main_v31) = v1 c
          ∧ r.2.mem ((c.tc : Thread Cert.FlfCRIdeal.nD Cert.FlfCRIdeal.τ).loc Cert.FlfCRIdeal.main_arg0) = m' ((c.tc : Thread Cert.FlfCRIdeal.nD Cert.FlfCRIdeal.τ).loc Cert.FlfCRIdeal.main_arg0)
          ∧ r.2.mem ((c.tc : Thread Cert.FlfCRIdeal.nD Cert.FlfCRIdeal.τ).loc Cert.FlfCRIdeal.main_arg1) = m' ((c.tc : Thread Cert.FlfCRIdeal.nD Cert.FlfCRIdeal.τ).loc Cert.FlfCRIdeal.main_arg1)
          ∧ r.2.mem ((c.tc : Thread Cert.FlfCRIdeal.nD Cert.FlfCRIdeal.τ).loc Cert.FlfCRIdeal.main_arg2) = m' ((c.tc : Thread Cert.FlfCRIdeal.nD Cert.FlfCRIdeal.τ).loc Cert.FlfCRIdeal.main_arg2))

def preserves_FlfAK_FlfAKIdeal : Prop :=
  IdealRules.named_const.Statement Cert.FlfAKIdeal.κ "c" .f32 0x3DD53B95#32 (((Real.sqrt 192)⁻¹ * (Real.log 2)⁻¹ : ℝ) : EReal)
  ∧ IdealRules.named_const.Statement Cert.FlfAKIdeal.κ "log2e" .f32 0x3FB8AA3B#32 (((Real.log 2)⁻¹ : ℝ) : EReal)

def algebraic_FlfAKIdeal_FlfARIdeal_pre_flfa_finite [hFlfAKIdeal : Cert.FlfAKIdeal.Facts] [hFlfARIdeal : Cert.FlfARIdeal.Facts] [hPre_flfa_finite : Cert.Pre_flfa_finite.Facts] : Prop :=
  ∀ (m : (ℓ : Loc Cert.FlfAKIdeal.nD Cert.FlfAKIdeal.τ Cert.FlfAKIdeal.sig) → Buf (Elt Ideal) ℓ) (g : Dev Cert.FlfAKIdeal.nD → PrngReg)
    (m' : (ℓ : Loc Cert.FlfARIdeal.nD Cert.FlfARIdeal.τ Cert.FlfARIdeal.sig) → Buf (Elt Ideal) ℓ) (g' : Dev Cert.FlfARIdeal.nD → PrngReg), Pre_FlfAKIdeal_flfa_finite m →
    (∀ c : Dev Cert.FlfAKIdeal.nD,
      m' ((c.tc : Thread Cert.FlfARIdeal.nD Cert.FlfARIdeal.τ).loc Cert.FlfARIdeal.main_arg0) = m ((c.tc : Thread Cert.FlfAKIdeal.nD Cert.FlfAKIdeal.τ).loc Cert.FlfAKIdeal.main_arg0)
      ∧ m' ((c.tc : Thread Cert.FlfARIdeal.nD Cert.FlfARIdeal.τ).loc Cert.FlfARIdeal.main_arg1) = m ((c.tc : Thread Cert.FlfAKIdeal.nD Cert.FlfAKIdeal.τ).loc Cert.FlfAKIdeal.main_arg1)
      ∧ m' ((c.tc : Thread Cert.FlfARIdeal.nD Cert.FlfARIdeal.τ).loc Cert.FlfARIdeal.main_arg2) = m ((c.tc : Thread Cert.FlfAKIdeal.nD Cert.FlfAKIdeal.τ).loc Cert.FlfAKIdeal.main_arg2)) →
    ∃ (v0 : (c : Dev Cert.FlfAKIdeal.nD) → Buf (Elt Ideal) ((c.tc : Thread Cert.FlfAKIdeal.nD Cert.FlfAKIdeal.τ).loc Cert.FlfAKIdeal.main_v13_0)) (v1 : (c : Dev Cert.FlfAKIdeal.nD) → Buf (Elt Ideal) ((c.tc : Thread Cert.FlfAKIdeal.nD Cert.FlfAKIdeal.τ).loc Cert.FlfAKIdeal.main_v13_1)),
      θ_run (Cert.FlfAKIdeal.defs (F := Ideal)) (onTc (τ := Cert.FlfAKIdeal.τ) (Cert.FlfAKIdeal.main (F := Ideal))) ⟨m, fun _ => 0, g⟩ (fun r => ∀ c : Dev Cert.FlfAKIdeal.nD,
          r.2.mem ((c.tc : Thread Cert.FlfAKIdeal.nD Cert.FlfAKIdeal.τ).loc Cert.FlfAKIdeal.main_v13_0) = v0 c
          ∧ r.2.mem ((c.tc : Thread Cert.FlfAKIdeal.nD Cert.FlfAKIdeal.τ).loc Cert.FlfAKIdeal.main_v13_1) = v1 c
          ∧ r.2.mem ((c.tc : Thread Cert.FlfAKIdeal.nD Cert.FlfAKIdeal.τ).loc Cert.FlfAKIdeal.main_arg0) = m ((c.tc : Thread Cert.FlfAKIdeal.nD Cert.FlfAKIdeal.τ).loc Cert.FlfAKIdeal.main_arg0)
          ∧ r.2.mem ((c.tc : Thread Cert.FlfAKIdeal.nD Cert.FlfAKIdeal.τ).loc Cert.FlfAKIdeal.main_arg1) = m ((c.tc : Thread Cert.FlfAKIdeal.nD Cert.FlfAKIdeal.τ).loc Cert.FlfAKIdeal.main_arg1)
          ∧ r.2.mem ((c.tc : Thread Cert.FlfAKIdeal.nD Cert.FlfAKIdeal.τ).loc Cert.FlfAKIdeal.main_arg2) = m ((c.tc : Thread Cert.FlfAKIdeal.nD Cert.FlfAKIdeal.τ).loc Cert.FlfAKIdeal.main_arg2))
      ∧ θ_run (Cert.FlfARIdeal.defs (F := Ideal)) (onTc (τ := Cert.FlfARIdeal.τ) (Cert.FlfARIdeal.main (F := Ideal))) ⟨m', fun _ => 0, g'⟩ (fun r => ∀ c : Dev Cert.FlfARIdeal.nD,
          r.2.mem ((c.tc : Thread Cert.FlfARIdeal.nD Cert.FlfARIdeal.τ).loc Cert.FlfARIdeal.main_v19) = v0 c
          ∧ r.2.mem ((c.tc : Thread Cert.FlfARIdeal.nD Cert.FlfARIdeal.τ).loc Cert.FlfARIdeal.main_v31) = v1 c
          ∧ r.2.mem ((c.tc : Thread Cert.FlfARIdeal.nD Cert.FlfARIdeal.τ).loc Cert.FlfARIdeal.main_arg0) = m' ((c.tc : Thread Cert.FlfARIdeal.nD Cert.FlfARIdeal.τ).loc Cert.FlfARIdeal.main_arg0)
          ∧ r.2.mem ((c.tc : Thread Cert.FlfARIdeal.nD Cert.FlfARIdeal.τ).loc Cert.FlfARIdeal.main_arg1) = m' ((c.tc : Thread Cert.FlfARIdeal.nD Cert.FlfARIdeal.τ).loc Cert.FlfARIdeal.main_arg1)
          ∧ r.2.mem ((c.tc : Thread Cert.FlfARIdeal.nD Cert.FlfARIdeal.τ).loc Cert.FlfARIdeal.main_arg2) = m' ((c.tc : Thread Cert.FlfARIdeal.nD Cert.FlfARIdeal.τ).loc Cert.FlfARIdeal.main_arg2))

def preserves_LatK_LatKIdeal : Prop :=
  True

def algebraic_LatKIdeal_LatRIdeal_pre_lat_finite [hLatKIdeal : Cert.LatKIdeal.Facts] [hLatRIdeal : Cert.LatRIdeal.Facts] [hPre_lat_finite : Cert.Pre_lat_finite.Facts] : Prop :=
  ∀ (m : (ℓ : Loc Cert.LatKIdeal.nD Cert.LatKIdeal.τ Cert.LatKIdeal.sig) → Buf (Elt Ideal) ℓ) (g : Dev Cert.LatKIdeal.nD → PrngReg)
    (m' : (ℓ : Loc Cert.LatRIdeal.nD Cert.LatRIdeal.τ Cert.LatRIdeal.sig) → Buf (Elt Ideal) ℓ) (g' : Dev Cert.LatRIdeal.nD → PrngReg), Pre_LatKIdeal_lat_finite m →
    (∀ c : Dev Cert.LatKIdeal.nD,
      m' ((c.tc : Thread Cert.LatRIdeal.nD Cert.LatRIdeal.τ).loc Cert.LatRIdeal.main_arg0) = m ((c.tc : Thread Cert.LatKIdeal.nD Cert.LatKIdeal.τ).loc Cert.LatKIdeal.main_arg0)
      ∧ m' ((c.tc : Thread Cert.LatRIdeal.nD Cert.LatRIdeal.τ).loc Cert.LatRIdeal.main_arg1) = m ((c.tc : Thread Cert.LatKIdeal.nD Cert.LatKIdeal.τ).loc Cert.LatKIdeal.main_arg1)) →
    ∃ (v0 : (c : Dev Cert.LatKIdeal.nD) → Buf (Elt Ideal) ((c.tc : Thread Cert.LatKIdeal.nD Cert.LatKIdeal.τ).loc Cert.LatKIdeal.main_v107_0)) (v1 : (c : Dev Cert.LatKIdeal.nD) → Buf (Elt Ideal) ((c.tc : Thread Cert.LatKIdeal.nD Cert.LatKIdeal.τ).loc Cert.LatKIdeal.main_v107_1)),
      θ_run (Cert.LatKIdeal.defs (F := Ideal)) (onTc (τ := Cert.LatKIdeal.τ) (Cert.LatKIdeal.main (F := Ideal))) ⟨m, fun _ => 0, g⟩ (fun r => ∀ c : Dev Cert.LatKIdeal.nD,
          r.2.mem ((c.tc : Thread Cert.LatKIdeal.nD Cert.LatKIdeal.τ).loc Cert.LatKIdeal.main_v107_0) = v0 c
          ∧ r.2.mem ((c.tc : Thread Cert.LatKIdeal.nD Cert.LatKIdeal.τ).loc Cert.LatKIdeal.main_v107_1) = v1 c
          ∧ r.2.mem ((c.tc : Thread Cert.LatKIdeal.nD Cert.LatKIdeal.τ).loc Cert.LatKIdeal.main_arg0) = m ((c.tc : Thread Cert.LatKIdeal.nD Cert.LatKIdeal.τ).loc Cert.LatKIdeal.main_arg0)
          ∧ r.2.mem ((c.tc : Thread Cert.LatKIdeal.nD Cert.LatKIdeal.τ).loc Cert.LatKIdeal.main_arg1) = m ((c.tc : Thread Cert.LatKIdeal.nD Cert.LatKIdeal.τ).loc Cert.LatKIdeal.main_arg1))
      ∧ θ_run (Cert.LatRIdeal.defs (F := Ideal)) (onTc (τ := Cert.LatRIdeal.τ) (Cert.LatRIdeal.main (F := Ideal))) ⟨m', fun _ => 0, g'⟩ (fun r => ∀ c : Dev Cert.LatRIdeal.nD,
          r.2.mem ((c.tc : Thread Cert.LatRIdeal.nD Cert.LatRIdeal.τ).loc Cert.LatRIdeal.main_v62) = v0 c
          ∧ r.2.mem ((c.tc : Thread Cert.LatRIdeal.nD Cert.LatRIdeal.τ).loc Cert.LatRIdeal.main_v64) = v1 c
          ∧ r.2.mem ((c.tc : Thread Cert.LatRIdeal.nD Cert.LatRIdeal.τ).loc Cert.LatRIdeal.main_arg0) = m' ((c.tc : Thread Cert.LatRIdeal.nD Cert.LatRIdeal.τ).loc Cert.LatRIdeal.main_arg0)
          ∧ r.2.mem ((c.tc : Thread Cert.LatRIdeal.nD Cert.LatRIdeal.τ).loc Cert.LatRIdeal.main_arg1) = m' ((c.tc : Thread Cert.LatRIdeal.nD Cert.LatRIdeal.τ).loc Cert.LatRIdeal.main_arg1))

def preserves_NfAK_NfAKIdeal : Prop :=
  True

def algebraic_NfAKIdeal_NfARIdeal [hNfAKIdeal : Cert.NfAKIdeal.Facts] [hNfARIdeal : Cert.NfARIdeal.Facts] : Prop :=
  ∀ (m : (ℓ : Loc Cert.NfAKIdeal.nD Cert.NfAKIdeal.τ Cert.NfAKIdeal.sig) → Buf (Elt Ideal) ℓ) (g : Dev Cert.NfAKIdeal.nD → PrngReg)
    (m' : (ℓ : Loc Cert.NfARIdeal.nD Cert.NfARIdeal.τ Cert.NfARIdeal.sig) → Buf (Elt Ideal) ℓ) (g' : Dev Cert.NfARIdeal.nD → PrngReg), Pre_NfAKIdeal m →
    (∀ c : Dev Cert.NfAKIdeal.nD,
      m' ((c.tc : Thread Cert.NfARIdeal.nD Cert.NfARIdeal.τ).loc Cert.NfARIdeal.main_arg0) = m ((c.tc : Thread Cert.NfAKIdeal.nD Cert.NfAKIdeal.τ).loc Cert.NfAKIdeal.main_arg0)
      ∧ m' ((c.tc : Thread Cert.NfARIdeal.nD Cert.NfARIdeal.τ).loc Cert.NfARIdeal.main_arg1) = m ((c.tc : Thread Cert.NfAKIdeal.nD Cert.NfAKIdeal.τ).loc Cert.NfAKIdeal.main_arg1)) →
    ∃ (v0 : (c : Dev Cert.NfAKIdeal.nD) → Buf (Elt Ideal) ((c.tc : Thread Cert.NfAKIdeal.nD Cert.NfAKIdeal.τ).loc Cert.NfAKIdeal.main_v1)),
      θ_run (Cert.NfAKIdeal.defs (F := Ideal)) (onTc (τ := Cert.NfAKIdeal.τ) (Cert.NfAKIdeal.main (F := Ideal))) ⟨m, fun _ => 0, g⟩ (fun r => ∀ c : Dev Cert.NfAKIdeal.nD,
          r.2.mem ((c.tc : Thread Cert.NfAKIdeal.nD Cert.NfAKIdeal.τ).loc Cert.NfAKIdeal.main_v1) = v0 c
          ∧ r.2.mem ((c.tc : Thread Cert.NfAKIdeal.nD Cert.NfAKIdeal.τ).loc Cert.NfAKIdeal.main_arg0) = m ((c.tc : Thread Cert.NfAKIdeal.nD Cert.NfAKIdeal.τ).loc Cert.NfAKIdeal.main_arg0)
          ∧ r.2.mem ((c.tc : Thread Cert.NfAKIdeal.nD Cert.NfAKIdeal.τ).loc Cert.NfAKIdeal.main_arg1) = m ((c.tc : Thread Cert.NfAKIdeal.nD Cert.NfAKIdeal.τ).loc Cert.NfAKIdeal.main_arg1))
      ∧ θ_run (Cert.NfARIdeal.defs (F := Ideal)) (onTc (τ := Cert.NfARIdeal.τ) (Cert.NfARIdeal.main (F := Ideal))) ⟨m', fun _ => 0, g'⟩ (fun r => ∀ c : Dev Cert.NfARIdeal.nD,
          r.2.mem ((c.tc : Thread Cert.NfARIdeal.nD Cert.NfARIdeal.τ).loc Cert.NfARIdeal.main_v13) = v0 c
          ∧ r.2.mem ((c.tc : Thread Cert.NfARIdeal.nD Cert.NfARIdeal.τ).loc Cert.NfARIdeal.main_arg0) = m' ((c.tc : Thread Cert.NfARIdeal.nD Cert.NfARIdeal.τ).loc Cert.NfARIdeal.main_arg0)
          ∧ r.2.mem ((c.tc : Thread Cert.NfARIdeal.nD Cert.NfARIdeal.τ).loc Cert.NfARIdeal.main_arg1) = m' ((c.tc : Thread Cert.NfARIdeal.nD Cert.NfARIdeal.τ).loc Cert.NfARIdeal.main_arg1))

def preserves_NfBK_NfBKIdeal : Prop :=
  True

def algebraic_NfBKIdeal_NfBRIdeal [hNfBKIdeal : Cert.NfBKIdeal.Facts] [hNfBRIdeal : Cert.NfBRIdeal.Facts] : Prop :=
  ∀ (m : (ℓ : Loc Cert.NfBKIdeal.nD Cert.NfBKIdeal.τ Cert.NfBKIdeal.sig) → Buf (Elt Ideal) ℓ) (g : Dev Cert.NfBKIdeal.nD → PrngReg)
    (m' : (ℓ : Loc Cert.NfBRIdeal.nD Cert.NfBRIdeal.τ Cert.NfBRIdeal.sig) → Buf (Elt Ideal) ℓ) (g' : Dev Cert.NfBRIdeal.nD → PrngReg), Pre_NfBKIdeal m →
    (∀ c : Dev Cert.NfBKIdeal.nD,
      m' ((c.tc : Thread Cert.NfBRIdeal.nD Cert.NfBRIdeal.τ).loc Cert.NfBRIdeal.main_arg0) = m ((c.tc : Thread Cert.NfBKIdeal.nD Cert.NfBKIdeal.τ).loc Cert.NfBKIdeal.main_arg0)
      ∧ m' ((c.tc : Thread Cert.NfBRIdeal.nD Cert.NfBRIdeal.τ).loc Cert.NfBRIdeal.main_arg1) = m ((c.tc : Thread Cert.NfBKIdeal.nD Cert.NfBKIdeal.τ).loc Cert.NfBKIdeal.main_arg1)) →
    ∃ (v0 : (c : Dev Cert.NfBKIdeal.nD) → Buf (Elt Ideal) ((c.tc : Thread Cert.NfBKIdeal.nD Cert.NfBKIdeal.τ).loc Cert.NfBKIdeal.main_v1)),
      θ_run (Cert.NfBKIdeal.defs (F := Ideal)) (onTc (τ := Cert.NfBKIdeal.τ) (Cert.NfBKIdeal.main (F := Ideal))) ⟨m, fun _ => 0, g⟩ (fun r => ∀ c : Dev Cert.NfBKIdeal.nD,
          r.2.mem ((c.tc : Thread Cert.NfBKIdeal.nD Cert.NfBKIdeal.τ).loc Cert.NfBKIdeal.main_v1) = v0 c
          ∧ r.2.mem ((c.tc : Thread Cert.NfBKIdeal.nD Cert.NfBKIdeal.τ).loc Cert.NfBKIdeal.main_arg0) = m ((c.tc : Thread Cert.NfBKIdeal.nD Cert.NfBKIdeal.τ).loc Cert.NfBKIdeal.main_arg0)
          ∧ r.2.mem ((c.tc : Thread Cert.NfBKIdeal.nD Cert.NfBKIdeal.τ).loc Cert.NfBKIdeal.main_arg1) = m ((c.tc : Thread Cert.NfBKIdeal.nD Cert.NfBKIdeal.τ).loc Cert.NfBKIdeal.main_arg1))
      ∧ θ_run (Cert.NfBRIdeal.defs (F := Ideal)) (onTc (τ := Cert.NfBRIdeal.τ) (Cert.NfBRIdeal.main (F := Ideal))) ⟨m', fun _ => 0, g'⟩ (fun r => ∀ c : Dev Cert.NfBRIdeal.nD,
          r.2.mem ((c.tc : Thread Cert.NfBRIdeal.nD Cert.NfBRIdeal.τ).loc Cert.NfBRIdeal.main_v13) = v0 c
          ∧ r.2.mem ((c.tc : Thread Cert.NfBRIdeal.nD Cert.NfBRIdeal.τ).loc Cert.NfBRIdeal.main_arg0) = m' ((c.tc : Thread Cert.NfBRIdeal.nD Cert.NfBRIdeal.τ).loc Cert.NfBRIdeal.main_arg0)
          ∧ r.2.mem ((c.tc : Thread Cert.NfBRIdeal.nD Cert.NfBRIdeal.τ).loc Cert.NfBRIdeal.main_arg1) = m' ((c.tc : Thread Cert.NfBRIdeal.nD Cert.NfBRIdeal.τ).loc Cert.NfBRIdeal.main_arg1))

def preserves_NfDK_NfDKIdeal : Prop :=
  True

def algebraic_NfDKIdeal_NfDRIdeal [hNfDKIdeal : Cert.NfDKIdeal.Facts] [hNfDRIdeal : Cert.NfDRIdeal.Facts] : Prop :=
  ∀ (m : (ℓ : Loc Cert.NfDKIdeal.nD Cert.NfDKIdeal.τ Cert.NfDKIdeal.sig) → Buf (Elt Ideal) ℓ) (g : Dev Cert.NfDKIdeal.nD → PrngReg)
    (m' : (ℓ : Loc Cert.NfDRIdeal.nD Cert.NfDRIdeal.τ Cert.NfDRIdeal.sig) → Buf (Elt Ideal) ℓ) (g' : Dev Cert.NfDRIdeal.nD → PrngReg), Pre_NfDKIdeal m →
    (∀ c : Dev Cert.NfDKIdeal.nD,
      m' ((c.tc : Thread Cert.NfDRIdeal.nD Cert.NfDRIdeal.τ).loc Cert.NfDRIdeal.main_arg0) = m ((c.tc : Thread Cert.NfDKIdeal.nD Cert.NfDKIdeal.τ).loc Cert.NfDKIdeal.main_arg0)
      ∧ m' ((c.tc : Thread Cert.NfDRIdeal.nD Cert.NfDRIdeal.τ).loc Cert.NfDRIdeal.main_arg1) = m ((c.tc : Thread Cert.NfDKIdeal.nD Cert.NfDKIdeal.τ).loc Cert.NfDKIdeal.main_arg1)) →
    ∃ (v0 : (c : Dev Cert.NfDKIdeal.nD) → Buf (Elt Ideal) ((c.tc : Thread Cert.NfDKIdeal.nD Cert.NfDKIdeal.τ).loc Cert.NfDKIdeal.main_v1)),
      θ_run (Cert.NfDKIdeal.defs (F := Ideal)) (onTc (τ := Cert.NfDKIdeal.τ) (Cert.NfDKIdeal.main (F := Ideal))) ⟨m, fun _ => 0, g⟩ (fun r => ∀ c : Dev Cert.NfDKIdeal.nD,
          r.2.mem ((c.tc : Thread Cert.NfDKIdeal.nD Cert.NfDKIdeal.τ).loc Cert.NfDKIdeal.main_v1) = v0 c
          ∧ r.2.mem ((c.tc : Thread Cert.NfDKIdeal.nD Cert.NfDKIdeal.τ).loc Cert.NfDKIdeal.main_arg0) = m ((c.tc : Thread Cert.NfDKIdeal.nD Cert.NfDKIdeal.τ).loc Cert.NfDKIdeal.main_arg0)
          ∧ r.2.mem ((c.tc : Thread Cert.NfDKIdeal.nD Cert.NfDKIdeal.τ).loc Cert.NfDKIdeal.main_arg1) = m ((c.tc : Thread Cert.NfDKIdeal.nD Cert.NfDKIdeal.τ).loc Cert.NfDKIdeal.main_arg1))
      ∧ θ_run (Cert.NfDRIdeal.defs (F := Ideal)) (onTc (τ := Cert.NfDRIdeal.τ) (Cert.NfDRIdeal.main (F := Ideal))) ⟨m', fun _ => 0, g'⟩ (fun r => ∀ c : Dev Cert.NfDRIdeal.nD,
          r.2.mem ((c.tc : Thread Cert.NfDRIdeal.nD Cert.NfDRIdeal.τ).loc Cert.NfDRIdeal.main_v13) = v0 c
          ∧ r.2.mem ((c.tc : Thread Cert.NfDRIdeal.nD Cert.NfDRIdeal.τ).loc Cert.NfDRIdeal.main_arg0) = m' ((c.tc : Thread Cert.NfDRIdeal.nD Cert.NfDRIdeal.τ).loc Cert.NfDRIdeal.main_arg0)
          ∧ r.2.mem ((c.tc : Thread Cert.NfDRIdeal.nD Cert.NfDRIdeal.τ).loc Cert.NfDRIdeal.main_arg1) = m' ((c.tc : Thread Cert.NfDRIdeal.nD Cert.NfDRIdeal.τ).loc Cert.NfDRIdeal.main_arg1))

def preserves_NfLK_NfLKIdeal : Prop :=
  True

def algebraic_NfLKIdeal_NfLRIdeal [hNfLKIdeal : Cert.NfLKIdeal.Facts] [hNfLRIdeal : Cert.NfLRIdeal.Facts] : Prop :=
  ∀ (m : (ℓ : Loc Cert.NfLKIdeal.nD Cert.NfLKIdeal.τ Cert.NfLKIdeal.sig) → Buf (Elt Ideal) ℓ) (g : Dev Cert.NfLKIdeal.nD → PrngReg)
    (m' : (ℓ : Loc Cert.NfLRIdeal.nD Cert.NfLRIdeal.τ Cert.NfLRIdeal.sig) → Buf (Elt Ideal) ℓ) (g' : Dev Cert.NfLRIdeal.nD → PrngReg), Pre_NfLKIdeal m →
    (∀ c : Dev Cert.NfLKIdeal.nD,
      m' ((c.tc : Thread Cert.NfLRIdeal.nD Cert.NfLRIdeal.τ).loc Cert.NfLRIdeal.main_arg0) = m ((c.tc : Thread Cert.NfLKIdeal.nD Cert.NfLKIdeal.τ).loc Cert.NfLKIdeal.main_arg0)
      ∧ m' ((c.tc : Thread Cert.NfLRIdeal.nD Cert.NfLRIdeal.τ).loc Cert.NfLRIdeal.main_arg1) = m ((c.tc : Thread Cert.NfLKIdeal.nD Cert.NfLKIdeal.τ).loc Cert.NfLKIdeal.main_arg1)) →
    ∃ (v0 : (c : Dev Cert.NfLKIdeal.nD) → Buf (Elt Ideal) ((c.tc : Thread Cert.NfLKIdeal.nD Cert.NfLKIdeal.τ).loc Cert.NfLKIdeal.main_v2)),
      θ_run (Cert.NfLKIdeal.defs (F := Ideal)) (onTc (τ := Cert.NfLKIdeal.τ) (Cert.NfLKIdeal.main (F := Ideal))) ⟨m, fun _ => 0, g⟩ (fun r => ∀ c : Dev Cert.NfLKIdeal.nD,
          r.2.mem ((c.tc : Thread Cert.NfLKIdeal.nD Cert.NfLKIdeal.τ).loc Cert.NfLKIdeal.main_v2) = v0 c
          ∧ r.2.mem ((c.tc : Thread Cert.NfLKIdeal.nD Cert.NfLKIdeal.τ).loc Cert.NfLKIdeal.main_arg0) = m ((c.tc : Thread Cert.NfLKIdeal.nD Cert.NfLKIdeal.τ).loc Cert.NfLKIdeal.main_arg0)
          ∧ r.2.mem ((c.tc : Thread Cert.NfLKIdeal.nD Cert.NfLKIdeal.τ).loc Cert.NfLKIdeal.main_arg1) = m ((c.tc : Thread Cert.NfLKIdeal.nD Cert.NfLKIdeal.τ).loc Cert.NfLKIdeal.main_arg1))
      ∧ θ_run (Cert.NfLRIdeal.defs (F := Ideal)) (onTc (τ := Cert.NfLRIdeal.τ) (Cert.NfLRIdeal.main (F := Ideal))) ⟨m', fun _ => 0, g'⟩ (fun r => ∀ c : Dev Cert.NfLRIdeal.nD,
          r.2.mem ((c.tc : Thread Cert.NfLRIdeal.nD Cert.NfLRIdeal.τ).loc Cert.NfLRIdeal.main_v13) = v0 c
          ∧ r.2.mem ((c.tc : Thread Cert.NfLRIdeal.nD Cert.NfLRIdeal.τ).loc Cert.NfLRIdeal.main_arg0) = m' ((c.tc : Thread Cert.NfLRIdeal.nD Cert.NfLRIdeal.τ).loc Cert.NfLRIdeal.main_arg0)
          ∧ r.2.mem ((c.tc : Thread Cert.NfLRIdeal.nD Cert.NfLRIdeal.τ).loc Cert.NfLRIdeal.main_arg1) = m' ((c.tc : Thread Cert.NfLRIdeal.nD Cert.NfLRIdeal.τ).loc Cert.NfLRIdeal.main_arg1))

def preserves_NfQK_NfQKIdeal : Prop :=
  True

def algebraic_NfQKIdeal_NfQRIdeal [hNfQKIdeal : Cert.NfQKIdeal.Facts] [hNfQRIdeal : Cert.NfQRIdeal.Facts] : Prop :=
  ∀ (m : (ℓ : Loc Cert.NfQKIdeal.nD Cert.NfQKIdeal.τ Cert.NfQKIdeal.sig) → Buf (Elt Ideal) ℓ) (g : Dev Cert.NfQKIdeal.nD → PrngReg)
    (m' : (ℓ : Loc Cert.NfQRIdeal.nD Cert.NfQRIdeal.τ Cert.NfQRIdeal.sig) → Buf (Elt Ideal) ℓ) (g' : Dev Cert.NfQRIdeal.nD → PrngReg), Pre_NfQKIdeal m →
    (∀ c : Dev Cert.NfQKIdeal.nD,
      m' ((c.tc : Thread Cert.NfQRIdeal.nD Cert.NfQRIdeal.τ).loc Cert.NfQRIdeal.main_arg0) = m ((c.tc : Thread Cert.NfQKIdeal.nD Cert.NfQKIdeal.τ).loc Cert.NfQKIdeal.main_arg0)
      ∧ m' ((c.tc : Thread Cert.NfQRIdeal.nD Cert.NfQRIdeal.τ).loc Cert.NfQRIdeal.main_arg1) = m ((c.tc : Thread Cert.NfQKIdeal.nD Cert.NfQKIdeal.τ).loc Cert.NfQKIdeal.main_arg1)) →
    ∃ (v0 : (c : Dev Cert.NfQKIdeal.nD) → Buf (Elt Ideal) ((c.tc : Thread Cert.NfQKIdeal.nD Cert.NfQKIdeal.τ).loc Cert.NfQKIdeal.main_v3)),
      θ_run (Cert.NfQKIdeal.defs (F := Ideal)) (onTc (τ := Cert.NfQKIdeal.τ) (Cert.NfQKIdeal.main (F := Ideal))) ⟨m, fun _ => 0, g⟩ (fun r => ∀ c : Dev Cert.NfQKIdeal.nD,
          r.2.mem ((c.tc : Thread Cert.NfQKIdeal.nD Cert.NfQKIdeal.τ).loc Cert.NfQKIdeal.main_v3) = v0 c
          ∧ r.2.mem ((c.tc : Thread Cert.NfQKIdeal.nD Cert.NfQKIdeal.τ).loc Cert.NfQKIdeal.main_arg0) = m ((c.tc : Thread Cert.NfQKIdeal.nD Cert.NfQKIdeal.τ).loc Cert.NfQKIdeal.main_arg0)
          ∧ r.2.mem ((c.tc : Thread Cert.NfQKIdeal.nD Cert.NfQKIdeal.τ).loc Cert.NfQKIdeal.main_arg1) = m ((c.tc : Thread Cert.NfQKIdeal.nD Cert.NfQKIdeal.τ).loc Cert.NfQKIdeal.main_arg1))
      ∧ θ_run (Cert.NfQRIdeal.defs (F := Ideal)) (onTc (τ := Cert.NfQRIdeal.τ) (Cert.NfQRIdeal.main (F := Ideal))) ⟨m', fun _ => 0, g'⟩ (fun r => ∀ c : Dev Cert.NfQRIdeal.nD,
          r.2.mem ((c.tc : Thread Cert.NfQRIdeal.nD Cert.NfQRIdeal.τ).loc Cert.NfQRIdeal.main_v13) = v0 c
          ∧ r.2.mem ((c.tc : Thread Cert.NfQRIdeal.nD Cert.NfQRIdeal.τ).loc Cert.NfQRIdeal.main_arg0) = m' ((c.tc : Thread Cert.NfQRIdeal.nD Cert.NfQRIdeal.τ).loc Cert.NfQRIdeal.main_arg0)
          ∧ r.2.mem ((c.tc : Thread Cert.NfQRIdeal.nD Cert.NfQRIdeal.τ).loc Cert.NfQRIdeal.main_arg1) = m' ((c.tc : Thread Cert.NfQRIdeal.nD Cert.NfQRIdeal.τ).loc Cert.NfQRIdeal.main_arg1))

def preserves_NfKK_NfKKIdeal : Prop :=
  True

def algebraic_NfKKIdeal_NfKRIdeal [hNfKKIdeal : Cert.NfKKIdeal.Facts] [hNfKRIdeal : Cert.NfKRIdeal.Facts] : Prop :=
  ∀ (m : (ℓ : Loc Cert.NfKKIdeal.nD Cert.NfKKIdeal.τ Cert.NfKKIdeal.sig) → Buf (Elt Ideal) ℓ) (g : Dev Cert.NfKKIdeal.nD → PrngReg)
    (m' : (ℓ : Loc Cert.NfKRIdeal.nD Cert.NfKRIdeal.τ Cert.NfKRIdeal.sig) → Buf (Elt Ideal) ℓ) (g' : Dev Cert.NfKRIdeal.nD → PrngReg), Pre_NfKKIdeal m →
    (∀ c : Dev Cert.NfKKIdeal.nD,
      m' ((c.tc : Thread Cert.NfKRIdeal.nD Cert.NfKRIdeal.τ).loc Cert.NfKRIdeal.main_arg0) = m ((c.tc : Thread Cert.NfKKIdeal.nD Cert.NfKKIdeal.τ).loc Cert.NfKKIdeal.main_arg0)
      ∧ m' ((c.tc : Thread Cert.NfKRIdeal.nD Cert.NfKRIdeal.τ).loc Cert.NfKRIdeal.main_arg1) = m ((c.tc : Thread Cert.NfKKIdeal.nD Cert.NfKKIdeal.τ).loc Cert.NfKKIdeal.main_arg1)) →
    ∃ (v0 : (c : Dev Cert.NfKKIdeal.nD) → Buf (Elt Ideal) ((c.tc : Thread Cert.NfKKIdeal.nD Cert.NfKKIdeal.τ).loc Cert.NfKKIdeal.main_v3)),
      θ_run (Cert.NfKKIdeal.defs (F := Ideal)) (onTc (τ := Cert.NfKKIdeal.τ) (Cert.NfKKIdeal.main (F := Ideal))) ⟨m, fun _ => 0, g⟩ (fun r => ∀ c : Dev Cert.NfKKIdeal.nD,
          r.2.mem ((c.tc : Thread Cert.NfKKIdeal.nD Cert.NfKKIdeal.τ).loc Cert.NfKKIdeal.main_v3) = v0 c
          ∧ r.2.mem ((c.tc : Thread Cert.NfKKIdeal.nD Cert.NfKKIdeal.τ).loc Cert.NfKKIdeal.main_arg0) = m ((c.tc : Thread Cert.NfKKIdeal.nD Cert.NfKKIdeal.τ).loc Cert.NfKKIdeal.main_arg0)
          ∧ r.2.mem ((c.tc : Thread Cert.NfKKIdeal.nD Cert.NfKKIdeal.τ).loc Cert.NfKKIdeal.main_arg1) = m ((c.tc : Thread Cert.NfKKIdeal.nD Cert.NfKKIdeal.τ).loc Cert.NfKKIdeal.main_arg1))
      ∧ θ_run (Cert.NfKRIdeal.defs (F := Ideal)) (onTc (τ := Cert.NfKRIdeal.τ) (Cert.NfKRIdeal.main (F := Ideal))) ⟨m', fun _ => 0, g'⟩ (fun r => ∀ c : Dev Cert.NfKRIdeal.nD,
          r.2.mem ((c.tc : Thread Cert.NfKRIdeal.nD Cert.NfKRIdeal.τ).loc Cert.NfKRIdeal.main_v13) = v0 c
          ∧ r.2.mem ((c.tc : Thread Cert.NfKRIdeal.nD Cert.NfKRIdeal.τ).loc Cert.NfKRIdeal.main_arg0) = m' ((c.tc : Thread Cert.NfKRIdeal.nD Cert.NfKRIdeal.τ).loc Cert.NfKRIdeal.main_arg0)
          ∧ r.2.mem ((c.tc : Thread Cert.NfKRIdeal.nD Cert.NfKRIdeal.τ).loc Cert.NfKRIdeal.main_arg1) = m' ((c.tc : Thread Cert.NfKRIdeal.nD Cert.NfKRIdeal.τ).loc Cert.NfKRIdeal.main_arg1))

def preserves_RfAK_RfAKIdeal : Prop :=
  True

def algebraic_RfAKIdeal_RfARIdeal [hRfAKIdeal : Cert.RfAKIdeal.Facts] [hRfARIdeal : Cert.RfARIdeal.Facts] : Prop :=
  ∀ (m : (ℓ : Loc Cert.RfAKIdeal.nD Cert.RfAKIdeal.τ Cert.RfAKIdeal.sig) → Buf (Elt Ideal) ℓ) (g : Dev Cert.RfAKIdeal.nD → PrngReg)
    (m' : (ℓ : Loc Cert.RfARIdeal.nD Cert.RfARIdeal.τ Cert.RfARIdeal.sig) → Buf (Elt Ideal) ℓ) (g' : Dev Cert.RfARIdeal.nD → PrngReg), Pre_RfAKIdeal m →
    (∀ c : Dev Cert.RfAKIdeal.nD,
      m' ((c.tc : Thread Cert.RfARIdeal.nD Cert.RfARIdeal.τ).loc Cert.RfARIdeal.main_arg0) = m ((c.tc : Thread Cert.RfAKIdeal.nD Cert.RfAKIdeal.τ).loc Cert.RfAKIdeal.main_arg0)) →
    ∃ (v0 : (c : Dev Cert.RfAKIdeal.nD) → Buf (Elt Ideal) ((c.tc : Thread Cert.RfAKIdeal.nD Cert.RfAKIdeal.τ).loc Cert.RfAKIdeal.main_v105)),
      θ_run (Cert.RfAKIdeal.defs (F := Ideal)) (onTc (τ := Cert.RfAKIdeal.τ) (Cert.RfAKIdeal.main (F := Ideal))) ⟨m, fun _ => 0, g⟩ (fun r => ∀ c : Dev Cert.RfAKIdeal.nD,
          r.2.mem ((c.tc : Thread Cert.RfAKIdeal.nD Cert.RfAKIdeal.τ).loc Cert.RfAKIdeal.main_v105) = v0 c
          ∧ r.2.mem ((c.tc : Thread Cert.RfAKIdeal.nD Cert.RfAKIdeal.τ).loc Cert.RfAKIdeal.main_arg0) = m ((c.tc : Thread Cert.RfAKIdeal.nD Cert.RfAKIdeal.τ).loc Cert.RfAKIdeal.main_arg0))
      ∧ θ_run (Cert.RfARIdeal.defs (F := Ideal)) (onTc (τ := Cert.RfARIdeal.τ) (Cert.RfARIdeal.main (F := Ideal))) ⟨m', fun _ => 0, g'⟩ (fun r => ∀ c : Dev Cert.RfARIdeal.nD,
          r.2.mem ((c.tc : Thread Cert.RfARIdeal.nD Cert.RfARIdeal.τ).loc Cert.RfARIdeal.main_v43) = v0 c
          ∧ r.2.mem ((c.tc : Thread Cert.RfARIdeal.nD Cert.RfARIdeal.τ).loc Cert.RfARIdeal.main_arg0) = m' ((c.tc : Thread Cert.RfARIdeal.nD Cert.RfARIdeal.τ).loc Cert.RfARIdeal.main_arg0))

def preserves_RfBK_RfBKIdeal : Prop :=
  True

def algebraic_RfBKIdeal_RfBRIdeal [hRfBKIdeal : Cert.RfBKIdeal.Facts] [hRfBRIdeal : Cert.RfBRIdeal.Facts] : Prop :=
  ∀ (m : (ℓ : Loc Cert.RfBKIdeal.nD Cert.RfBKIdeal.τ Cert.RfBKIdeal.sig) → Buf (Elt Ideal) ℓ) (g : Dev Cert.RfBKIdeal.nD → PrngReg)
    (m' : (ℓ : Loc Cert.RfBRIdeal.nD Cert.RfBRIdeal.τ Cert.RfBRIdeal.sig) → Buf (Elt Ideal) ℓ) (g' : Dev Cert.RfBRIdeal.nD → PrngReg), Pre_RfBKIdeal m →
    (∀ c : Dev Cert.RfBKIdeal.nD,
      m' ((c.tc : Thread Cert.RfBRIdeal.nD Cert.RfBRIdeal.τ).loc Cert.RfBRIdeal.main_arg0) = m ((c.tc : Thread Cert.RfBKIdeal.nD Cert.RfBKIdeal.τ).loc Cert.RfBKIdeal.main_arg0)) →
    ∃ (v0 : (c : Dev Cert.RfBKIdeal.nD) → Buf (Elt Ideal) ((c.tc : Thread Cert.RfBKIdeal.nD Cert.RfBKIdeal.τ).loc Cert.RfBKIdeal.main_v104)),
      θ_run (Cert.RfBKIdeal.defs (F := Ideal)) (onTc (τ := Cert.RfBKIdeal.τ) (Cert.RfBKIdeal.main (F := Ideal))) ⟨m, fun _ => 0, g⟩ (fun r => ∀ c : Dev Cert.RfBKIdeal.nD,
          r.2.mem ((c.tc : Thread Cert.RfBKIdeal.nD Cert.RfBKIdeal.τ).loc Cert.RfBKIdeal.main_v104) = v0 c
          ∧ r.2.mem ((c.tc : Thread Cert.RfBKIdeal.nD Cert.RfBKIdeal.τ).loc Cert.RfBKIdeal.main_arg0) = m ((c.tc : Thread Cert.RfBKIdeal.nD Cert.RfBKIdeal.τ).loc Cert.RfBKIdeal.main_arg0))
      ∧ θ_run (Cert.RfBRIdeal.defs (F := Ideal)) (onTc (τ := Cert.RfBRIdeal.τ) (Cert.RfBRIdeal.main (F := Ideal))) ⟨m', fun _ => 0, g'⟩ (fun r => ∀ c : Dev Cert.RfBRIdeal.nD,
          r.2.mem ((c.tc : Thread Cert.RfBRIdeal.nD Cert.RfBRIdeal.τ).loc Cert.RfBRIdeal.main_v39) = v0 c
          ∧ r.2.mem ((c.tc : Thread Cert.RfBRIdeal.nD Cert.RfBRIdeal.τ).loc Cert.RfBRIdeal.main_arg0) = m' ((c.tc : Thread Cert.RfBRIdeal.nD Cert.RfBRIdeal.τ).loc Cert.RfBRIdeal.main_arg0))

def preserves_RfCK_RfCKIdeal : Prop :=
  True

def algebraic_RfCKIdeal_RfCRIdeal [hRfCKIdeal : Cert.RfCKIdeal.Facts] [hRfCRIdeal : Cert.RfCRIdeal.Facts] : Prop :=
  ∀ (m : (ℓ : Loc Cert.RfCKIdeal.nD Cert.RfCKIdeal.τ Cert.RfCKIdeal.sig) → Buf (Elt Ideal) ℓ) (g : Dev Cert.RfCKIdeal.nD → PrngReg)
    (m' : (ℓ : Loc Cert.RfCRIdeal.nD Cert.RfCRIdeal.τ Cert.RfCRIdeal.sig) → Buf (Elt Ideal) ℓ) (g' : Dev Cert.RfCRIdeal.nD → PrngReg), Pre_RfCKIdeal m →
    (∀ c : Dev Cert.RfCKIdeal.nD,
      m' ((c.tc : Thread Cert.RfCRIdeal.nD Cert.RfCRIdeal.τ).loc Cert.RfCRIdeal.main_arg0) = m ((c.tc : Thread Cert.RfCKIdeal.nD Cert.RfCKIdeal.τ).loc Cert.RfCKIdeal.main_arg0)) →
    ∃ (v0 : (c : Dev Cert.RfCKIdeal.nD) → Buf (Elt Ideal) ((c.tc : Thread Cert.RfCKIdeal.nD Cert.RfCKIdeal.τ).loc Cert.RfCKIdeal.main_v103)),
      θ_run (Cert.RfCKIdeal.defs (F := Ideal)) (onTc (τ := Cert.RfCKIdeal.τ) (Cert.RfCKIdeal.main (F := Ideal))) ⟨m, fun _ => 0, g⟩ (fun r => ∀ c : Dev Cert.RfCKIdeal.nD,
          r.2.mem ((c.tc : Thread Cert.RfCKIdeal.nD Cert.RfCKIdeal.τ).loc Cert.RfCKIdeal.main_v103) = v0 c
          ∧ r.2.mem ((c.tc : Thread Cert.RfCKIdeal.nD Cert.RfCKIdeal.τ).loc Cert.RfCKIdeal.main_arg0) = m ((c.tc : Thread Cert.RfCKIdeal.nD Cert.RfCKIdeal.τ).loc Cert.RfCKIdeal.main_arg0))
      ∧ θ_run (Cert.RfCRIdeal.defs (F := Ideal)) (onTc (τ := Cert.RfCRIdeal.τ) (Cert.RfCRIdeal.main (F := Ideal))) ⟨m', fun _ => 0, g'⟩ (fun r => ∀ c : Dev Cert.RfCRIdeal.nD,
          r.2.mem ((c.tc : Thread Cert.RfCRIdeal.nD Cert.RfCRIdeal.τ).loc Cert.RfCRIdeal.main_v85) = v0 c
          ∧ r.2.mem ((c.tc : Thread Cert.RfCRIdeal.nD Cert.RfCRIdeal.τ).loc Cert.RfCRIdeal.main_arg0) = m' ((c.tc : Thread Cert.RfCRIdeal.nD Cert.RfCRIdeal.τ).loc Cert.RfCRIdeal.main_arg0))

def preserves_RfKK_RfKKIdeal : Prop :=
  True

def algebraic_RfKKIdeal_RfKRIdeal [hRfKKIdeal : Cert.RfKKIdeal.Facts] [hRfKRIdeal : Cert.RfKRIdeal.Facts] : Prop :=
  ∀ (m : (ℓ : Loc Cert.RfKKIdeal.nD Cert.RfKKIdeal.τ Cert.RfKKIdeal.sig) → Buf (Elt Ideal) ℓ) (g : Dev Cert.RfKKIdeal.nD → PrngReg)
    (m' : (ℓ : Loc Cert.RfKRIdeal.nD Cert.RfKRIdeal.τ Cert.RfKRIdeal.sig) → Buf (Elt Ideal) ℓ) (g' : Dev Cert.RfKRIdeal.nD → PrngReg), Pre_RfKKIdeal m →
    (∀ c : Dev Cert.RfKKIdeal.nD,
      m' ((c.tc : Thread Cert.RfKRIdeal.nD Cert.RfKRIdeal.τ).loc Cert.RfKRIdeal.main_arg0) = m ((c.tc : Thread Cert.RfKKIdeal.nD Cert.RfKKIdeal.τ).loc Cert.RfKKIdeal.main_arg0)) →
    ∃ (v0 : (c : Dev Cert.RfKKIdeal.nD) → Buf (Elt Ideal) ((c.tc : Thread Cert.RfKKIdeal.nD Cert.RfKKIdeal.τ).loc Cert.RfKKIdeal.main_v103)),
      θ_run (Cert.RfKKIdeal.defs (F := Ideal)) (onTc (τ := Cert.RfKKIdeal.τ) (Cert.RfKKIdeal.main (F := Ideal))) ⟨m, fun _ => 0, g⟩ (fun r => ∀ c : Dev Cert.RfKKIdeal.nD,
          r.2.mem ((c.tc : Thread Cert.RfKKIdeal.nD Cert.RfKKIdeal.τ).loc Cert.RfKKIdeal.main_v103) = v0 c
          ∧ r.2.mem ((c.tc : Thread Cert.RfKKIdeal.nD Cert.RfKKIdeal.τ).loc Cert.RfKKIdeal.main_arg0) = m ((c.tc : Thread Cert.RfKKIdeal.nD Cert.RfKKIdeal.τ).loc Cert.RfKKIdeal.main_arg0))
      ∧ θ_run (Cert.RfKRIdeal.defs (F := Ideal)) (onTc (τ := Cert.RfKRIdeal.τ) (Cert.RfKRIdeal.main (F := Ideal))) ⟨m', fun _ => 0, g'⟩ (fun r => ∀ c : Dev Cert.RfKRIdeal.nD,
          r.2.mem ((c.tc : Thread Cert.RfKRIdeal.nD Cert.RfKRIdeal.τ).loc Cert.RfKRIdeal.main_v85) = v0 c
          ∧ r.2.mem ((c.tc : Thread Cert.RfKRIdeal.nD Cert.RfKRIdeal.τ).loc Cert.RfKRIdeal.main_arg0) = m' ((c.tc : Thread Cert.RfKRIdeal.nD Cert.RfKRIdeal.τ).loc Cert.RfKRIdeal.main_arg0))

def preserves_LkFK_LkFKIdeal : Prop :=
  True

def algebraic_LkFKIdeal_LkFRIdeal [hLkFKIdeal : Cert.LkFKIdeal.Facts] [hLkFRIdeal : Cert.LkFRIdeal.Facts] : Prop :=
  ∀ (m : (ℓ : Loc Cert.LkFKIdeal.nD Cert.LkFKIdeal.τ Cert.LkFKIdeal.sig) → Buf (Elt Ideal) ℓ) (g : Dev Cert.LkFKIdeal.nD → PrngReg)
    (m' : (ℓ : Loc Cert.LkFRIdeal.nD Cert.LkFRIdeal.τ Cert.LkFRIdeal.sig) → Buf (Elt Ideal) ℓ) (g' : Dev Cert.LkFRIdeal.nD → PrngReg), Pre_LkFKIdeal m →
    (∀ c : Dev Cert.LkFKIdeal.nD,
      m' ((c.tc : Thread Cert.LkFRIdeal.nD Cert.LkFRIdeal.τ).loc Cert.LkFRIdeal.main_arg0) = m ((c.tc : Thread Cert.LkFKIdeal.nD Cert.LkFKIdeal.τ).loc Cert.LkFKIdeal.main_arg0)
      ∧ m' ((c.tc : Thread Cert.LkFRIdeal.nD Cert.LkFRIdeal.τ).loc Cert.LkFRIdeal.main_arg1) = m ((c.tc : Thread Cert.LkFKIdeal.nD Cert.LkFKIdeal.τ).loc Cert.LkFKIdeal.main_arg1)) →
    ∃ (v0 : (c : Dev Cert.LkFKIdeal.nD) → Buf (Elt Ideal) ((c.tc : Thread Cert.LkFKIdeal.nD Cert.LkFKIdeal.τ).loc Cert.LkFKIdeal.main_v106)),
      θ_run (Cert.LkFKIdeal.defs (F := Ideal)) (onTc (τ := Cert.LkFKIdeal.τ) (Cert.LkFKIdeal.main (F := Ideal))) ⟨m, fun _ => 0, g⟩ (fun r => ∀ c : Dev Cert.LkFKIdeal.nD,
          r.2.mem ((c.tc : Thread Cert.LkFKIdeal.nD Cert.LkFKIdeal.τ).loc Cert.LkFKIdeal.main_v106) = v0 c
          ∧ r.2.mem ((c.tc : Thread Cert.LkFKIdeal.nD Cert.LkFKIdeal.τ).loc Cert.LkFKIdeal.main_arg0) = m ((c.tc : Thread Cert.LkFKIdeal.nD Cert.LkFKIdeal.τ).loc Cert.LkFKIdeal.main_arg0)
          ∧ r.2.mem ((c.tc : Thread Cert.LkFKIdeal.nD Cert.LkFKIdeal.τ).loc Cert.LkFKIdeal.main_arg1) = m ((c.tc : Thread Cert.LkFKIdeal.nD Cert.LkFKIdeal.τ).loc Cert.LkFKIdeal.main_arg1))
      ∧ θ_run (Cert.LkFRIdeal.defs (F := Ideal)) (onTc (τ := Cert.LkFRIdeal.τ) (Cert.LkFRIdeal.main (F := Ideal))) ⟨m', fun _ => 0, g'⟩ (fun r => ∀ c : Dev Cert.LkFRIdeal.nD,
          r.2.mem ((c.tc : Thread Cert.LkFRIdeal.nD Cert.LkFRIdeal.τ).loc Cert.LkFRIdeal.main_v42) = v0 c
          ∧ r.2.mem ((c.tc : Thread Cert.LkFRIdeal.nD Cert.LkFRIdeal.τ).loc Cert.LkFRIdeal.main_arg0) = m' ((c.tc : Thread Cert.LkFRIdeal.nD Cert.LkFRIdeal.τ).loc Cert.LkFRIdeal.main_arg0)
          ∧ r.2.mem ((c.tc : Thread Cert.LkFRIdeal.nD Cert.LkFRIdeal.τ).loc Cert.LkFRIdeal.main_arg1) = m' ((c.tc : Thread Cert.LkFRIdeal.nD Cert.LkFRIdeal.τ).loc Cert.LkFRIdeal.main_arg1))

def preserves_FfUK_FfUKIdeal : Prop :=
  True

def algebraic_FfUKIdeal_FfURIdeal_pre_ffu_finite [hFfUKIdeal : Cert.FfUKIdeal.Facts] [hFfURIdeal : Cert.FfURIdeal.Facts] [hPre_ffu_finite : Cert.Pre_ffu_finite.Facts] : Prop :=
  ∀ (m : (ℓ : Loc Cert.FfUKIdeal.nD Cert.FfUKIdeal.τ Cert.FfUKIdeal.sig) → Buf (Elt Ideal) ℓ) (g : Dev Cert.FfUKIdeal.nD → PrngReg)
    (m' : (ℓ : Loc Cert.FfURIdeal.nD Cert.FfURIdeal.τ Cert.FfURIdeal.sig) → Buf (Elt Ideal) ℓ) (g' : Dev Cert.FfURIdeal.nD → PrngReg), Pre_FfUKIdeal_ffu_finite m →
    (∀ c : Dev Cert.FfUKIdeal.nD,
      m' ((c.tc : Thread Cert.FfURIdeal.nD Cert.FfURIdeal.τ).loc Cert.FfURIdeal.main_arg0) = m ((c.tc : Thread Cert.FfUKIdeal.nD Cert.FfUKIdeal.τ).loc Cert.FfUKIdeal.main_arg0)
      ∧ m' ((c.tc : Thread Cert.FfURIdeal.nD Cert.FfURIdeal.τ).loc Cert.FfURIdeal.main_arg1) = m ((c.tc : Thread Cert.FfUKIdeal.nD Cert.FfUKIdeal.τ).loc Cert.FfUKIdeal.main_arg1)
      ∧ m' ((c.tc : Thread Cert.FfURIdeal.nD Cert.FfURIdeal.τ).loc Cert.FfURIdeal.main_arg2) = m ((c.tc : Thread Cert.FfUKIdeal.nD Cert.FfUKIdeal.τ).loc Cert.FfUKIdeal.main_arg2)) →
    ∃ (v0 : (c : Dev Cert.FfUKIdeal.nD) → Buf (Elt Ideal) ((c.tc : Thread Cert.FfUKIdeal.nD Cert.FfUKIdeal.τ).loc Cert.FfUKIdeal.main_v7_0)) (v1 : (c : Dev Cert.FfUKIdeal.nD) → Buf (Elt Ideal) ((c.tc : Thread Cert.FfUKIdeal.nD Cert.FfUKIdeal.τ).loc Cert.FfUKIdeal.main_v7_1)) (v2 : (c : Dev Cert.FfUKIdeal.nD) → Buf (Elt Ideal) ((c.tc : Thread Cert.FfUKIdeal.nD Cert.FfUKIdeal.τ).loc Cert.FfUKIdeal.main_v7_2)),
      θ_run (Cert.FfUKIdeal.defs (F := Ideal)) (onTc (τ := Cert.FfUKIdeal.τ) (Cert.FfUKIdeal.main (F := Ideal))) ⟨m, fun _ => 0, g⟩ (fun r => ∀ c : Dev Cert.FfUKIdeal.nD,
          r.2.mem ((c.tc : Thread Cert.FfUKIdeal.nD Cert.FfUKIdeal.τ).loc Cert.FfUKIdeal.main_v7_0) = v0 c
          ∧ r.2.mem ((c.tc : Thread Cert.FfUKIdeal.nD Cert.FfUKIdeal.τ).loc Cert.FfUKIdeal.main_v7_1) = v1 c
          ∧ r.2.mem ((c.tc : Thread Cert.FfUKIdeal.nD Cert.FfUKIdeal.τ).loc Cert.FfUKIdeal.main_v7_2) = v2 c
          ∧ r.2.mem ((c.tc : Thread Cert.FfUKIdeal.nD Cert.FfUKIdeal.τ).loc Cert.FfUKIdeal.main_arg0) = m ((c.tc : Thread Cert.FfUKIdeal.nD Cert.FfUKIdeal.τ).loc Cert.FfUKIdeal.main_arg0)
          ∧ r.2.mem ((c.tc : Thread Cert.FfUKIdeal.nD Cert.FfUKIdeal.τ).loc Cert.FfUKIdeal.main_arg1) = m ((c.tc : Thread Cert.FfUKIdeal.nD Cert.FfUKIdeal.τ).loc Cert.FfUKIdeal.main_arg1)
          ∧ r.2.mem ((c.tc : Thread Cert.FfUKIdeal.nD Cert.FfUKIdeal.τ).loc Cert.FfUKIdeal.main_arg2) = m ((c.tc : Thread Cert.FfUKIdeal.nD Cert.FfUKIdeal.τ).loc Cert.FfUKIdeal.main_arg2))
      ∧ θ_run (Cert.FfURIdeal.defs (F := Ideal)) (onTc (τ := Cert.FfURIdeal.τ) (Cert.FfURIdeal.main (F := Ideal))) ⟨m', fun _ => 0, g'⟩ (fun r => ∀ c : Dev Cert.FfURIdeal.nD,
          r.2.mem ((c.tc : Thread Cert.FfURIdeal.nD Cert.FfURIdeal.τ).loc Cert.FfURIdeal.main_v2) = v0 c
          ∧ r.2.mem ((c.tc : Thread Cert.FfURIdeal.nD Cert.FfURIdeal.τ).loc Cert.FfURIdeal.main_v3) = v1 c
          ∧ r.2.mem ((c.tc : Thread Cert.FfURIdeal.nD Cert.FfURIdeal.τ).loc Cert.FfURIdeal.main_v6) = v2 c
          ∧ r.2.mem ((c.tc : Thread Cert.FfURIdeal.nD Cert.FfURIdeal.τ).loc Cert.FfURIdeal.main_arg0) = m' ((c.tc : Thread Cert.FfURIdeal.nD Cert.FfURIdeal.τ).loc Cert.FfURIdeal.main_arg0)
          ∧ r.2.mem ((c.tc : Thread Cert.FfURIdeal.nD Cert.FfURIdeal.τ).loc Cert.FfURIdeal.main_arg1) = m' ((c.tc : Thread Cert.FfURIdeal.nD Cert.FfURIdeal.τ).loc Cert.FfURIdeal.main_arg1)
          ∧ r.2.mem ((c.tc : Thread Cert.FfURIdeal.nD Cert.FfURIdeal.τ).loc Cert.FfURIdeal.main_arg2) = m' ((c.tc : Thread Cert.FfURIdeal.nD Cert.FfURIdeal.τ).loc Cert.FfURIdeal.main_arg2))

def preserves_CcBK_CcBKIdeal : Prop :=
  True

def algebraic_CcBKIdeal_CcBRIdeal [hCcBKIdeal : Cert.CcBKIdeal.Facts] [hCcBRIdeal : Cert.CcBRIdeal.Facts] : Prop :=
  ∀ (m : (ℓ : Loc Cert.CcBKIdeal.nD Cert.CcBKIdeal.τ Cert.CcBKIdeal.sig) → Buf (Elt Ideal) ℓ) (g : Dev Cert.CcBKIdeal.nD → PrngReg)
    (m' : (ℓ : Loc Cert.CcBRIdeal.nD Cert.CcBRIdeal.τ Cert.CcBRIdeal.sig) → Buf (Elt Ideal) ℓ) (g' : Dev Cert.CcBRIdeal.nD → PrngReg), Pre_CcBKIdeal m →
    (∀ c : Dev Cert.CcBKIdeal.nD,
      m' ((c.tc : Thread Cert.CcBRIdeal.nD Cert.CcBRIdeal.τ).loc Cert.CcBRIdeal.main_arg0) = m ((c.tc : Thread Cert.CcBKIdeal.nD Cert.CcBKIdeal.τ).loc Cert.CcBKIdeal.main_arg0)) →
    ∃ (v0 : (c : Dev Cert.CcBKIdeal.nD) → Buf (Elt Ideal) ((c.tc : Thread Cert.CcBKIdeal.nD Cert.CcBKIdeal.τ).loc Cert.CcBKIdeal.main_v0)),
      θ_run (Cert.CcBKIdeal.defs (F := Ideal)) (onTc (τ := Cert.CcBKIdeal.τ) (Cert.CcBKIdeal.main (F := Ideal))) ⟨m, fun _ => 0, g⟩ (fun r => ∀ c : Dev Cert.CcBKIdeal.nD,
          r.2.mem ((c.tc : Thread Cert.CcBKIdeal.nD Cert.CcBKIdeal.τ).loc Cert.CcBKIdeal.main_v0) = v0 c
          ∧ r.2.mem ((c.tc : Thread Cert.CcBKIdeal.nD Cert.CcBKIdeal.τ).loc Cert.CcBKIdeal.main_arg0) = m ((c.tc : Thread Cert.CcBKIdeal.nD Cert.CcBKIdeal.τ).loc Cert.CcBKIdeal.main_arg0))
      ∧ θ_run (Cert.CcBRIdeal.defs (F := Ideal)) (onTc (τ := Cert.CcBRIdeal.τ) (Cert.CcBRIdeal.main (F := Ideal))) ⟨m', fun _ => 0, g'⟩ (fun r => ∀ c : Dev Cert.CcBRIdeal.nD,
          r.2.mem ((c.tc : Thread Cert.CcBRIdeal.nD Cert.CcBRIdeal.τ).loc Cert.CcBRIdeal.main_v4) = v0 c
          ∧ r.2.mem ((c.tc : Thread Cert.CcBRIdeal.nD Cert.CcBRIdeal.τ).loc Cert.CcBRIdeal.main_arg0) = m' ((c.tc : Thread Cert.CcBRIdeal.nD Cert.CcBRIdeal.τ).loc Cert.CcBRIdeal.main_arg0))

def bitexact_CcBK_CcBR [hCcBK : Cert.CcBK.Facts] [hCcBR : Cert.CcBR.Facts] : Prop :=
  ∀ (m : (ℓ : Loc Cert.CcBK.nD Cert.CcBK.τ Cert.CcBK.sig) → Buf (Elt Bits) ℓ) (g : Dev Cert.CcBK.nD → PrngReg)
    (m' : (ℓ : Loc Cert.CcBR.nD Cert.CcBR.τ Cert.CcBR.sig) → Buf (Elt Bits) ℓ) (g' : Dev Cert.CcBR.nD → PrngReg), Pre_CcBK m →
    (∀ c : Dev Cert.CcBK.nD,
      m' ((c.tc : Thread Cert.CcBR.nD Cert.CcBR.τ).loc Cert.CcBR.main_arg0) = m ((c.tc : Thread Cert.CcBK.nD Cert.CcBK.τ).loc Cert.CcBK.main_arg0)) →
    ∃ (v0 : (c : Dev Cert.CcBK.nD) → Buf (Elt Bits) ((c.tc : Thread Cert.CcBK.nD Cert.CcBK.τ).loc Cert.CcBK.main_v0)),
      θ_run (Cert.CcBK.defs (F := Bits)) (onTc (τ := Cert.CcBK.τ) (Cert.CcBK.main (F := Bits))) ⟨m, fun _ => 0, g⟩ (fun r => ∀ c : Dev Cert.CcBK.nD,
          r.2.mem ((c.tc : Thread Cert.CcBK.nD Cert.CcBK.τ).loc Cert.CcBK.main_v0) = v0 c
          ∧ r.2.mem ((c.tc : Thread Cert.CcBK.nD Cert.CcBK.τ).loc Cert.CcBK.main_arg0) = m ((c.tc : Thread Cert.CcBK.nD Cert.CcBK.τ).loc Cert.CcBK.main_arg0))
      ∧ θ_run (Cert.CcBR.defs (F := Bits)) (onTc (τ := Cert.CcBR.τ) (Cert.CcBR.main (F := Bits))) ⟨m', fun _ => 0, g'⟩ (fun r => ∀ c : Dev Cert.CcBR.nD,
          r.2.mem ((c.tc : Thread Cert.CcBR.nD Cert.CcBR.τ).loc Cert.CcBR.main_v4) = v0 c
          ∧ r.2.mem ((c.tc : Thread Cert.CcBR.nD Cert.CcBR.τ).loc Cert.CcBR.main_arg0) = m' ((c.tc : Thread Cert.CcBR.nD Cert.CcBR.τ).loc Cert.CcBR.main_arg0))

def preserves_CcCK_CcCKIdeal : Prop :=
  True

def algebraic_CcCKIdeal_CcCRIdeal [hCcCKIdeal : Cert.CcCKIdeal.Facts] [hCcCRIdeal : Cert.CcCRIdeal.Facts] : Prop :=
  ∀ (m : (ℓ : Loc Cert.CcCKIdeal.nD Cert.CcCKIdeal.τ Cert.CcCKIdeal.sig) → Buf (Elt Ideal) ℓ) (g : Dev Cert.CcCKIdeal.nD → PrngReg)
    (m' : (ℓ : Loc Cert.CcCRIdeal.nD Cert.CcCRIdeal.τ Cert.CcCRIdeal.sig) → Buf (Elt Ideal) ℓ) (g' : Dev Cert.CcCRIdeal.nD → PrngReg), Pre_CcCKIdeal m →
    (∀ c : Dev Cert.CcCKIdeal.nD,
      m' ((c.tc : Thread Cert.CcCRIdeal.nD Cert.CcCRIdeal.τ).loc Cert.CcCRIdeal.main_arg0) = m ((c.tc : Thread Cert.CcCKIdeal.nD Cert.CcCKIdeal.τ).loc Cert.CcCKIdeal.main_arg0)) →
    ∃ (v0 : (c : Dev Cert.CcCKIdeal.nD) → Buf (Elt Ideal) ((c.tc : Thread Cert.CcCKIdeal.nD Cert.CcCKIdeal.τ).loc Cert.CcCKIdeal.main_v0)),
      θ_run (Cert.CcCKIdeal.defs (F := Ideal)) (onTc (τ := Cert.CcCKIdeal.τ) (Cert.CcCKIdeal.main (F := Ideal))) ⟨m, fun _ => 0, g⟩ (fun r => ∀ c : Dev Cert.CcCKIdeal.nD,
          r.2.mem ((c.tc : Thread Cert.CcCKIdeal.nD Cert.CcCKIdeal.τ).loc Cert.CcCKIdeal.main_v0) = v0 c
          ∧ r.2.mem ((c.tc : Thread Cert.CcCKIdeal.nD Cert.CcCKIdeal.τ).loc Cert.CcCKIdeal.main_arg0) = m ((c.tc : Thread Cert.CcCKIdeal.nD Cert.CcCKIdeal.τ).loc Cert.CcCKIdeal.main_arg0))
      ∧ θ_run (Cert.CcCRIdeal.defs (F := Ideal)) (onTc (τ := Cert.CcCRIdeal.τ) (Cert.CcCRIdeal.main (F := Ideal))) ⟨m', fun _ => 0, g'⟩ (fun r => ∀ c : Dev Cert.CcCRIdeal.nD,
          r.2.mem ((c.tc : Thread Cert.CcCRIdeal.nD Cert.CcCRIdeal.τ).loc Cert.CcCRIdeal.main_v4) = v0 c
          ∧ r.2.mem ((c.tc : Thread Cert.CcCRIdeal.nD Cert.CcCRIdeal.τ).loc Cert.CcCRIdeal.main_arg0) = m' ((c.tc : Thread Cert.CcCRIdeal.nD Cert.CcCRIdeal.τ).loc Cert.CcCRIdeal.main_arg0))

def bitexact_CcCK_CcCR [hCcCK : Cert.CcCK.Facts] [hCcCR : Cert.CcCR.Facts] : Prop :=
  ∀ (m : (ℓ : Loc Cert.CcCK.nD Cert.CcCK.τ Cert.CcCK.sig) → Buf (Elt Bits) ℓ) (g : Dev Cert.CcCK.nD → PrngReg)
    (m' : (ℓ : Loc Cert.CcCR.nD Cert.CcCR.τ Cert.CcCR.sig) → Buf (Elt Bits) ℓ) (g' : Dev Cert.CcCR.nD → PrngReg), Pre_CcCK m →
    (∀ c : Dev Cert.CcCK.nD,
      m' ((c.tc : Thread Cert.CcCR.nD Cert.CcCR.τ).loc Cert.CcCR.main_arg0) = m ((c.tc : Thread Cert.CcCK.nD Cert.CcCK.τ).loc Cert.CcCK.main_arg0)) →
    ∃ (v0 : (c : Dev Cert.CcCK.nD) → Buf (Elt Bits) ((c.tc : Thread Cert.CcCK.nD Cert.CcCK.τ).loc Cert.CcCK.main_v0)),
      θ_run (Cert.CcCK.defs (F := Bits)) (onTc (τ := Cert.CcCK.τ) (Cert.CcCK.main (F := Bits))) ⟨m, fun _ => 0, g⟩ (fun r => ∀ c : Dev Cert.CcCK.nD,
          r.2.mem ((c.tc : Thread Cert.CcCK.nD Cert.CcCK.τ).loc Cert.CcCK.main_v0) = v0 c
          ∧ r.2.mem ((c.tc : Thread Cert.CcCK.nD Cert.CcCK.τ).loc Cert.CcCK.main_arg0) = m ((c.tc : Thread Cert.CcCK.nD Cert.CcCK.τ).loc Cert.CcCK.main_arg0))
      ∧ θ_run (Cert.CcCR.defs (F := Bits)) (onTc (τ := Cert.CcCR.τ) (Cert.CcCR.main (F := Bits))) ⟨m', fun _ => 0, g'⟩ (fun r => ∀ c : Dev Cert.CcCR.nD,
          r.2.mem ((c.tc : Thread Cert.CcCR.nD Cert.CcCR.τ).loc Cert.CcCR.main_v4) = v0 c
          ∧ r.2.mem ((c.tc : Thread Cert.CcCR.nD Cert.CcCR.τ).loc Cert.CcCR.main_arg0) = m' ((c.tc : Thread Cert.CcCR.nD Cert.CcCR.τ).loc Cert.CcCR.main_arg0))

def preserves_MmK_MmKIdeal : Prop :=
  True

def algebraic_MmKIdeal_MmRIdeal [hMmKIdeal : Cert.MmKIdeal.Facts] [hMmRIdeal : Cert.MmRIdeal.Facts] : Prop :=
  ∀ (m : (ℓ : Loc Cert.MmKIdeal.nD Cert.MmKIdeal.τ Cert.MmKIdeal.sig) → Buf (Elt Ideal) ℓ) (g : Dev Cert.MmKIdeal.nD → PrngReg)
    (m' : (ℓ : Loc Cert.MmRIdeal.nD Cert.MmRIdeal.τ Cert.MmRIdeal.sig) → Buf (Elt Ideal) ℓ) (g' : Dev Cert.MmRIdeal.nD → PrngReg), Pre_MmKIdeal m →
    (∀ c : Dev Cert.MmKIdeal.nD,
      m' ((c.tc : Thread Cert.MmRIdeal.nD Cert.MmRIdeal.τ).loc Cert.MmRIdeal.main_arg0) = m ((c.tc : Thread Cert.MmKIdeal.nD Cert.MmKIdeal.τ).loc Cert.MmKIdeal.main_arg0)
      ∧ m' ((c.tc : Thread Cert.MmRIdeal.nD Cert.MmRIdeal.τ).loc Cert.MmRIdeal.main_arg1) = m ((c.tc : Thread Cert.MmKIdeal.nD Cert.MmKIdeal.τ).loc Cert.MmKIdeal.main_arg1)
      ∧ m' ((c.tc : Thread Cert.MmRIdeal.nD Cert.MmRIdeal.τ).loc Cert.MmRIdeal.main_arg2) = m ((c.tc : Thread Cert.MmKIdeal.nD Cert.MmKIdeal.τ).loc Cert.MmKIdeal.main_arg2)) →
    ∃ (v0 : (c : Dev Cert.MmKIdeal.nD) → Buf (Elt Ideal) ((c.tc : Thread Cert.MmKIdeal.nD Cert.MmKIdeal.τ).loc Cert.MmKIdeal.main_v2)),
      θ_run (Cert.MmKIdeal.defs (F := Ideal)) (onTc (τ := Cert.MmKIdeal.τ) (Cert.MmKIdeal.main (F := Ideal))) ⟨m, fun _ => 0, g⟩ (fun r => ∀ c : Dev Cert.MmKIdeal.nD,
          r.2.mem ((c.tc : Thread Cert.MmKIdeal.nD Cert.MmKIdeal.τ).loc Cert.MmKIdeal.main_v2) = v0 c
          ∧ r.2.mem ((c.tc : Thread Cert.MmKIdeal.nD Cert.MmKIdeal.τ).loc Cert.MmKIdeal.main_arg0) = m ((c.tc : Thread Cert.MmKIdeal.nD Cert.MmKIdeal.τ).loc Cert.MmKIdeal.main_arg0)
          ∧ r.2.mem ((c.tc : Thread Cert.MmKIdeal.nD Cert.MmKIdeal.τ).loc Cert.MmKIdeal.main_arg1) = m ((c.tc : Thread Cert.MmKIdeal.nD Cert.MmKIdeal.τ).loc Cert.MmKIdeal.main_arg1)
          ∧ r.2.mem ((c.tc : Thread Cert.MmKIdeal.nD Cert.MmKIdeal.τ).loc Cert.MmKIdeal.main_arg2) = m ((c.tc : Thread Cert.MmKIdeal.nD Cert.MmKIdeal.τ).loc Cert.MmKIdeal.main_arg2))
      ∧ θ_run (Cert.MmRIdeal.defs (F := Ideal)) (onTc (τ := Cert.MmRIdeal.τ) (Cert.MmRIdeal.main (F := Ideal))) ⟨m', fun _ => 0, g'⟩ (fun r => ∀ c : Dev Cert.MmRIdeal.nD,
          r.2.mem ((c.tc : Thread Cert.MmRIdeal.nD Cert.MmRIdeal.τ).loc Cert.MmRIdeal.main_v1) = v0 c
          ∧ r.2.mem ((c.tc : Thread Cert.MmRIdeal.nD Cert.MmRIdeal.τ).loc Cert.MmRIdeal.main_arg0) = m' ((c.tc : Thread Cert.MmRIdeal.nD Cert.MmRIdeal.τ).loc Cert.MmRIdeal.main_arg0)
          ∧ r.2.mem ((c.tc : Thread Cert.MmRIdeal.nD Cert.MmRIdeal.τ).loc Cert.MmRIdeal.main_arg1) = m' ((c.tc : Thread Cert.MmRIdeal.nD Cert.MmRIdeal.τ).loc Cert.MmRIdeal.main_arg1)
          ∧ r.2.mem ((c.tc : Thread Cert.MmRIdeal.nD Cert.MmRIdeal.τ).loc Cert.MmRIdeal.main_arg2) = m' ((c.tc : Thread Cert.MmRIdeal.nD Cert.MmRIdeal.τ).loc Cert.MmRIdeal.main_arg2))

def preserves_FudK_FudKIdeal : Prop :=
  True

def algebraic_FudKIdeal_FudRIdeal [hFudKIdeal : Cert.FudKIdeal.Facts] [hFudRIdeal : Cert.FudRIdeal.Facts] : Prop :=
  ∀ (m : (ℓ : Loc Cert.FudKIdeal.nD Cert.FudKIdeal.τ Cert.FudKIdeal.sig) → Buf (Elt Ideal) ℓ) (g : Dev Cert.FudKIdeal.nD → PrngReg)
    (m' : (ℓ : Loc Cert.FudRIdeal.nD Cert.FudRIdeal.τ Cert.FudRIdeal.sig) → Buf (Elt Ideal) ℓ) (g' : Dev Cert.FudRIdeal.nD → PrngReg), Pre_FudKIdeal m →
    (∀ c : Dev Cert.FudKIdeal.nD,
      m' ((c.tc : Thread Cert.FudRIdeal.nD Cert.FudRIdeal.τ).loc Cert.FudRIdeal.main_arg0) = m ((c.tc : Thread Cert.FudKIdeal.nD Cert.FudKIdeal.τ).loc Cert.FudKIdeal.main_arg0)
      ∧ m' ((c.tc : Thread Cert.FudRIdeal.nD Cert.FudRIdeal.τ).loc Cert.FudRIdeal.main_arg1) = m ((c.tc : Thread Cert.FudKIdeal.nD Cert.FudKIdeal.τ).loc Cert.FudKIdeal.main_arg1)
      ∧ m' ((c.tc : Thread Cert.FudRIdeal.nD Cert.FudRIdeal.τ).loc Cert.FudRIdeal.main_arg2) = m ((c.tc : Thread Cert.FudKIdeal.nD Cert.FudKIdeal.τ).loc Cert.FudKIdeal.main_arg2)
      ∧ m' ((c.tc : Thread Cert.FudRIdeal.nD Cert.FudRIdeal.τ).loc Cert.FudRIdeal.main_arg3) = m ((c.tc : Thread Cert.FudKIdeal.nD Cert.FudKIdeal.τ).loc Cert.FudKIdeal.main_arg3)) →
    ∃ (v0 : (c : Dev Cert.FudKIdeal.nD) → Buf (Elt Ideal) ((c.tc : Thread Cert.FudKIdeal.nD Cert.FudKIdeal.τ).loc Cert.FudKIdeal.main_v8)),
      θ_run (Cert.FudKIdeal.defs (F := Ideal)) (onTc (τ := Cert.FudKIdeal.τ) (Cert.FudKIdeal.main (F := Ideal))) ⟨m, fun _ => 0, g⟩ (fun r => ∀ c : Dev Cert.FudKIdeal.nD,
          r.2.mem ((c.tc : Thread Cert.FudKIdeal.nD Cert.FudKIdeal.τ).loc Cert.FudKIdeal.main_v8) = v0 c
          ∧ r.2.mem ((c.tc : Thread Cert.FudKIdeal.nD Cert.FudKIdeal.τ).loc Cert.FudKIdeal.main_arg0) = m ((c.tc : Thread Cert.FudKIdeal.nD Cert.FudKIdeal.τ).loc Cert.FudKIdeal.main_arg0)
          ∧ r.2.mem ((c.tc : Thread Cert.FudKIdeal.nD Cert.FudKIdeal.τ).loc Cert.FudKIdeal.main_arg1) = m ((c.tc : Thread Cert.FudKIdeal.nD Cert.FudKIdeal.τ).loc Cert.FudKIdeal.main_arg1)
          ∧ r.2.mem ((c.tc : Thread Cert.FudKIdeal.nD Cert.FudKIdeal.τ).loc Cert.FudKIdeal.main_arg2) = m ((c.tc : Thread Cert.FudKIdeal.nD Cert.FudKIdeal.τ).loc Cert.FudKIdeal.main_arg2)
          ∧ r.2.mem ((c.tc : Thread Cert.FudKIdeal.nD Cert.FudKIdeal.τ).loc Cert.FudKIdeal.main_arg3) = m ((c.tc : Thread Cert.FudKIdeal.nD Cert.FudKIdeal.τ).loc Cert.FudKIdeal.main_arg3))
      ∧ θ_run (Cert.FudRIdeal.defs (F := Ideal)) (onTc (τ := Cert.FudRIdeal.τ) (Cert.FudRIdeal.main (F := Ideal))) ⟨m', fun _ => 0, g'⟩ (fun r => ∀ c : Dev Cert.FudRIdeal.nD,
          r.2.mem ((c.tc : Thread Cert.FudRIdeal.nD Cert.FudRIdeal.τ).loc Cert.FudRIdeal.main_v5) = v0 c
          ∧ r.2.mem ((c.tc : Thread Cert.FudRIdeal.nD Cert.FudRIdeal.τ).loc Cert.FudRIdeal.main_arg0) = m' ((c.tc : Thread Cert.FudRIdeal.nD Cert.FudRIdeal.τ).loc Cert.FudRIdeal.main_arg0)
          ∧ r.2.mem ((c.tc : Thread Cert.FudRIdeal.nD Cert.FudRIdeal.τ).loc Cert.FudRIdeal.main_arg1) = m' ((c.tc : Thread Cert.FudRIdeal.nD Cert.FudRIdeal.τ).loc Cert.FudRIdeal.main_arg1)
          ∧ r.2.mem ((c.tc : Thread Cert.FudRIdeal.nD Cert.FudRIdeal.τ).loc Cert.FudRIdeal.main_arg2) = m' ((c.tc : Thread Cert.FudRIdeal.nD Cert.FudRIdeal.τ).loc Cert.FudRIdeal.main_arg2)
          ∧ r.2.mem ((c.tc : Thread Cert.FudRIdeal.nD Cert.FudRIdeal.τ).loc Cert.FudRIdeal.main_arg3) = m' ((c.tc : Thread Cert.FudRIdeal.nD Cert.FudRIdeal.τ).loc Cert.FudRIdeal.main_arg3))

def preserves_AdwK_AdwKIdeal : Prop :=
  True

def algebraic_AdwKIdeal_AdwRIdeal [hAdwKIdeal : Cert.AdwKIdeal.Facts] [hAdwRIdeal : Cert.AdwRIdeal.Facts] : Prop :=
  ∀ (m : (ℓ : Loc Cert.AdwKIdeal.nD Cert.AdwKIdeal.τ Cert.AdwKIdeal.sig) → Buf (Elt Ideal) ℓ) (g : Dev Cert.AdwKIdeal.nD → PrngReg)
    (m' : (ℓ : Loc Cert.AdwRIdeal.nD Cert.AdwRIdeal.τ Cert.AdwRIdeal.sig) → Buf (Elt Ideal) ℓ) (g' : Dev Cert.AdwRIdeal.nD → PrngReg), Pre_AdwKIdeal m →
    (∀ c : Dev Cert.AdwKIdeal.nD,
      m' ((c.tc : Thread Cert.AdwRIdeal.nD Cert.AdwRIdeal.τ).loc Cert.AdwRIdeal.main_arg0) = m ((c.tc : Thread Cert.AdwKIdeal.nD Cert.AdwKIdeal.τ).loc Cert.AdwKIdeal.main_arg0)
      ∧ m' ((c.tc : Thread Cert.AdwRIdeal.nD Cert.AdwRIdeal.τ).loc Cert.AdwRIdeal.main_arg1) = m ((c.tc : Thread Cert.AdwKIdeal.nD Cert.AdwKIdeal.τ).loc Cert.AdwKIdeal.main_arg1)
      ∧ m' ((c.tc : Thread Cert.AdwRIdeal.nD Cert.AdwRIdeal.τ).loc Cert.AdwRIdeal.main_arg2) = m ((c.tc : Thread Cert.AdwKIdeal.nD Cert.AdwKIdeal.τ).loc Cert.AdwKIdeal.main_arg2)
      ∧ m' ((c.tc : Thread Cert.AdwRIdeal.nD Cert.AdwRIdeal.τ).loc Cert.AdwRIdeal.main_arg3) = m ((c.tc : Thread Cert.AdwKIdeal.nD Cert.AdwKIdeal.τ).loc Cert.AdwKIdeal.main_arg3)
      ∧ m' ((c.tc : Thread Cert.AdwRIdeal.nD Cert.AdwRIdeal.τ).loc Cert.AdwRIdeal.main_arg4) = m ((c.tc : Thread Cert.AdwKIdeal.nD Cert.AdwKIdeal.τ).loc Cert.AdwKIdeal.main_arg4)) →
    ∃ (v0 : (c : Dev Cert.AdwKIdeal.nD) → Buf (Elt Ideal) ((c.tc : Thread Cert.AdwKIdeal.nD Cert.AdwKIdeal.τ).loc Cert.AdwKIdeal.main_v0_0)) (v1 : (c : Dev Cert.AdwKIdeal.nD) → Buf (Elt Ideal) ((c.tc : Thread Cert.AdwKIdeal.nD Cert.AdwKIdeal.τ).loc Cert.AdwKIdeal.main_v0_1)) (v2 : (c : Dev Cert.AdwKIdeal.nD) → Buf (Elt Ideal) ((c.tc : Thread Cert.AdwKIdeal.nD Cert.AdwKIdeal.τ).loc Cert.AdwKIdeal.main_v0_2)) (v3 : (c : Dev Cert.AdwKIdeal.nD) → Buf (Elt Ideal) ((c.tc : Thread Cert.AdwKIdeal.nD Cert.AdwKIdeal.τ).loc Cert.AdwKIdeal.main_v0_3)),
      θ_run (Cert.AdwKIdeal.defs (F := Ideal)) (onTc (τ := Cert.AdwKIdeal.τ) (Cert.AdwKIdeal.main (F := Ideal))) ⟨m, fun _ => 0, g⟩ (fun r => ∀ c : Dev Cert.AdwKIdeal.nD,
          r.2.mem ((c.tc : Thread Cert.AdwKIdeal.nD Cert.AdwKIdeal.τ).loc Cert.AdwKIdeal.main_v0_0) = v0 c
          ∧ r.2.mem ((c.tc : Thread Cert.AdwKIdeal.nD Cert.AdwKIdeal.τ).loc Cert.AdwKIdeal.main_v0_1) = v1 c
          ∧ r.2.mem ((c.tc : Thread Cert.AdwKIdeal.nD Cert.AdwKIdeal.τ).loc Cert.AdwKIdeal.main_v0_2) = v2 c
          ∧ r.2.mem ((c.tc : Thread Cert.AdwKIdeal.nD Cert.AdwKIdeal.τ).loc Cert.AdwKIdeal.main_v0_3) = v3 c
          ∧ r.2.mem ((c.tc : Thread Cert.AdwKIdeal.nD Cert.AdwKIdeal.τ).loc Cert.AdwKIdeal.main_arg0) = m ((c.tc : Thread Cert.AdwKIdeal.nD Cert.AdwKIdeal.τ).loc Cert.AdwKIdeal.main_arg0)
          ∧ r.2.mem ((c.tc : Thread Cert.AdwKIdeal.nD Cert.AdwKIdeal.τ).loc Cert.AdwKIdeal.main_arg1) = m ((c.tc : Thread Cert.AdwKIdeal.nD Cert.AdwKIdeal.τ).loc Cert.AdwKIdeal.main_arg1)
          ∧ r.2.mem ((c.tc : Thread Cert.AdwKIdeal.nD Cert.AdwKIdeal.τ).loc Cert.AdwKIdeal.main_arg2) = m ((c.tc : Thread Cert.AdwKIdeal.nD Cert.AdwKIdeal.τ).loc Cert.AdwKIdeal.main_arg2)
          ∧ r.2.mem ((c.tc : Thread Cert.AdwKIdeal.nD Cert.AdwKIdeal.τ).loc Cert.AdwKIdeal.main_arg3) = m ((c.tc : Thread Cert.AdwKIdeal.nD Cert.AdwKIdeal.τ).loc Cert.AdwKIdeal.main_arg3)
          ∧ r.2.mem ((c.tc : Thread Cert.AdwKIdeal.nD Cert.AdwKIdeal.τ).loc Cert.AdwKIdeal.main_arg4) = m ((c.tc : Thread Cert.AdwKIdeal.nD Cert.AdwKIdeal.τ).loc Cert.AdwKIdeal.main_arg4))
      ∧ θ_run (Cert.AdwRIdeal.defs (F := Ideal)) (onTc (τ := Cert.AdwRIdeal.τ) (Cert.AdwRIdeal.main (F := Ideal))) ⟨m', fun _ => 0, g'⟩ (fun r => ∀ c : Dev Cert.AdwRIdeal.nD,
          r.2.mem ((c.tc : Thread Cert.AdwRIdeal.nD Cert.AdwRIdeal.τ).loc Cert.AdwRIdeal.main_v1) = v0 c
          ∧ r.2.mem ((c.tc : Thread Cert.AdwRIdeal.nD Cert.AdwRIdeal.τ).loc Cert.AdwRIdeal.main_v25) = v1 c
          ∧ r.2.mem ((c.tc : Thread Cert.AdwRIdeal.nD Cert.AdwRIdeal.τ).loc Cert.AdwRIdeal.main_v6) = v2 c
          ∧ r.2.mem ((c.tc : Thread Cert.AdwRIdeal.nD Cert.AdwRIdeal.τ).loc Cert.AdwRIdeal.main_v12) = v3 c
          ∧ r.2.mem ((c.tc : Thread Cert.AdwRIdeal.nD Cert.AdwRIdeal.τ).loc Cert.AdwRIdeal.main_arg0) = m' ((c.tc : Thread Cert.AdwRIdeal.nD Cert.AdwRIdeal.τ).loc Cert.AdwRIdeal.main_arg0)
          ∧ r.2.mem ((c.tc : Thread Cert.AdwRIdeal.nD Cert.AdwRIdeal.τ).loc Cert.AdwRIdeal.main_arg1) = m' ((c.tc : Thread Cert.AdwRIdeal.nD Cert.AdwRIdeal.τ).loc Cert.AdwRIdeal.main_arg1)
          ∧ r.2.mem ((c.tc : Thread Cert.AdwRIdeal.nD Cert.AdwRIdeal.τ).loc Cert.AdwRIdeal.main_arg2) = m' ((c.tc : Thread Cert.AdwRIdeal.nD Cert.AdwRIdeal.τ).loc Cert.AdwRIdeal.main_arg2)
          ∧ r.2.mem ((c.tc : Thread Cert.AdwRIdeal.nD Cert.AdwRIdeal.τ).loc Cert.AdwRIdeal.main_arg3) = m' ((c.tc : Thread Cert.AdwRIdeal.nD Cert.AdwRIdeal.τ).loc Cert.AdwRIdeal.main_arg3)
          ∧ r.2.mem ((c.tc : Thread Cert.AdwRIdeal.nD Cert.AdwRIdeal.τ).loc Cert.AdwRIdeal.main_arg4) = m' ((c.tc : Thread Cert.AdwRIdeal.nD Cert.AdwRIdeal.τ).loc Cert.AdwRIdeal.main_arg4))

def preserves_AdwDK_AdwDKIdeal : Prop :=
  True

def algebraic_AdwDKIdeal_AdwDRIdeal [hAdwDKIdeal : Cert.AdwDKIdeal.Facts] [hAdwDRIdeal : Cert.AdwDRIdeal.Facts] : Prop :=
  ∀ (m : (ℓ : Loc Cert.AdwDKIdeal.nD Cert.AdwDKIdeal.τ Cert.AdwDKIdeal.sig) → Buf (Elt Ideal) ℓ) (g : Dev Cert.AdwDKIdeal.nD → PrngReg)
    (m' : (ℓ : Loc Cert.AdwDRIdeal.nD Cert.AdwDRIdeal.τ Cert.AdwDRIdeal.sig) → Buf (Elt Ideal) ℓ) (g' : Dev Cert.AdwDRIdeal.nD → PrngReg), Pre_AdwDKIdeal m →
    (∀ c : Dev Cert.AdwDKIdeal.nD,
      m' ((c.tc : Thread Cert.AdwDRIdeal.nD Cert.AdwDRIdeal.τ).loc Cert.AdwDRIdeal.main_arg0) = m ((c.tc : Thread Cert.AdwDKIdeal.nD Cert.AdwDKIdeal.τ).loc Cert.AdwDKIdeal.main_arg0)
      ∧ m' ((c.tc : Thread Cert.AdwDRIdeal.nD Cert.AdwDRIdeal.τ).loc Cert.AdwDRIdeal.main_arg1) = m ((c.tc : Thread Cert.AdwDKIdeal.nD Cert.AdwDKIdeal.τ).loc Cert.AdwDKIdeal.main_arg1)
      ∧ m' ((c.tc : Thread Cert.AdwDRIdeal.nD Cert.AdwDRIdeal.τ).loc Cert.AdwDRIdeal.main_arg2) = m ((c.tc : Thread Cert.AdwDKIdeal.nD Cert.AdwDKIdeal.τ).loc Cert.AdwDKIdeal.main_arg2)
      ∧ m' ((c.tc : Thread Cert.AdwDRIdeal.nD Cert.AdwDRIdeal.τ).loc Cert.AdwDRIdeal.main_arg3) = m ((c.tc : Thread Cert.AdwDKIdeal.nD Cert.AdwDKIdeal.τ).loc Cert.AdwDKIdeal.main_arg3)
      ∧ m' ((c.tc : Thread Cert.AdwDRIdeal.nD Cert.AdwDRIdeal.τ).loc Cert.AdwDRIdeal.main_arg4) = m ((c.tc : Thread Cert.AdwDKIdeal.nD Cert.AdwDKIdeal.τ).loc Cert.AdwDKIdeal.main_arg4)) →
    ∃ (v0 : (c : Dev Cert.AdwDKIdeal.nD) → Buf (Elt Ideal) ((c.tc : Thread Cert.AdwDKIdeal.nD Cert.AdwDKIdeal.τ).loc Cert.AdwDKIdeal.main_v0_0)) (v1 : (c : Dev Cert.AdwDKIdeal.nD) → Buf (Elt Ideal) ((c.tc : Thread Cert.AdwDKIdeal.nD Cert.AdwDKIdeal.τ).loc Cert.AdwDKIdeal.main_v0_1)) (v2 : (c : Dev Cert.AdwDKIdeal.nD) → Buf (Elt Ideal) ((c.tc : Thread Cert.AdwDKIdeal.nD Cert.AdwDKIdeal.τ).loc Cert.AdwDKIdeal.main_v0_2)) (v3 : (c : Dev Cert.AdwDKIdeal.nD) → Buf (Elt Ideal) ((c.tc : Thread Cert.AdwDKIdeal.nD Cert.AdwDKIdeal.τ).loc Cert.AdwDKIdeal.main_v0_3)),
      θ_run (Cert.AdwDKIdeal.defs (F := Ideal)) (onTc (τ := Cert.AdwDKIdeal.τ) (Cert.AdwDKIdeal.main (F := Ideal))) ⟨m, fun _ => 0, g⟩ (fun r => ∀ c : Dev Cert.AdwDKIdeal.nD,
          r.2.mem ((c.tc : Thread Cert.AdwDKIdeal.nD Cert.AdwDKIdeal.τ).loc Cert.AdwDKIdeal.main_v0_0) = v0 c
          ∧ r.2.mem ((c.tc : Thread Cert.AdwDKIdeal.nD Cert.AdwDKIdeal.τ).loc Cert.AdwDKIdeal.main_v0_1) = v1 c
          ∧ r.2.mem ((c.tc : Thread Cert.AdwDKIdeal.nD Cert.AdwDKIdeal.τ).loc Cert.AdwDKIdeal.main_v0_2) = v2 c
          ∧ r.2.mem ((c.tc : Thread Cert.AdwDKIdeal.nD Cert.AdwDKIdeal.τ).loc Cert.AdwDKIdeal.main_v0_3) = v3 c
          ∧ r.2.mem ((c.tc : Thread Cert.AdwDKIdeal.nD Cert.AdwDKIdeal.τ).loc Cert.AdwDKIdeal.main_arg0) = m ((c.tc : Thread Cert.AdwDKIdeal.nD Cert.AdwDKIdeal.τ).loc Cert.AdwDKIdeal.main_arg0)
          ∧ r.2.mem ((c.tc : Thread Cert.AdwDKIdeal.nD Cert.AdwDKIdeal.τ).loc Cert.AdwDKIdeal.main_arg1) = m ((c.tc : Thread Cert.AdwDKIdeal.nD Cert.AdwDKIdeal.τ).loc Cert.AdwDKIdeal.main_arg1)
          ∧ r.2.mem ((c.tc : Thread Cert.AdwDKIdeal.nD Cert.AdwDKIdeal.τ).loc Cert.AdwDKIdeal.main_arg2) = m ((c.tc : Thread Cert.AdwDKIdeal.nD Cert.AdwDKIdeal.τ).loc Cert.AdwDKIdeal.main_arg2)
          ∧ r.2.mem ((c.tc : Thread Cert.AdwDKIdeal.nD Cert.AdwDKIdeal.τ).loc Cert.AdwDKIdeal.main_arg3) = m ((c.tc : Thread Cert.AdwDKIdeal.nD Cert.AdwDKIdeal.τ).loc Cert.AdwDKIdeal.main_arg3)
          ∧ r.2.mem ((c.tc : Thread Cert.AdwDKIdeal.nD Cert.AdwDKIdeal.τ).loc Cert.AdwDKIdeal.main_arg4) = m ((c.tc : Thread Cert.AdwDKIdeal.nD Cert.AdwDKIdeal.τ).loc Cert.AdwDKIdeal.main_arg4))
      ∧ θ_run (Cert.AdwDRIdeal.defs (F := Ideal)) (onTc (τ := Cert.AdwDRIdeal.τ) (Cert.AdwDRIdeal.main (F := Ideal))) ⟨m', fun _ => 0, g'⟩ (fun r => ∀ c : Dev Cert.AdwDRIdeal.nD,
          r.2.mem ((c.tc : Thread Cert.AdwDRIdeal.nD Cert.AdwDRIdeal.τ).loc Cert.AdwDRIdeal.main_v1) = v0 c
          ∧ r.2.mem ((c.tc : Thread Cert.AdwDRIdeal.nD Cert.AdwDRIdeal.τ).loc Cert.AdwDRIdeal.main_v25) = v1 c
          ∧ r.2.mem ((c.tc : Thread Cert.AdwDRIdeal.nD Cert.AdwDRIdeal.τ).loc Cert.AdwDRIdeal.main_v6) = v2 c
          ∧ r.2.mem ((c.tc : Thread Cert.AdwDRIdeal.nD Cert.AdwDRIdeal.τ).loc Cert.AdwDRIdeal.main_v12) = v3 c
          ∧ r.2.mem ((c.tc : Thread Cert.AdwDRIdeal.nD Cert.AdwDRIdeal.τ).loc Cert.AdwDRIdeal.main_arg0) = m' ((c.tc : Thread Cert.AdwDRIdeal.nD Cert.AdwDRIdeal.τ).loc Cert.AdwDRIdeal.main_arg0)
          ∧ r.2.mem ((c.tc : Thread Cert.AdwDRIdeal.nD Cert.AdwDRIdeal.τ).loc Cert.AdwDRIdeal.main_arg1) = m' ((c.tc : Thread Cert.AdwDRIdeal.nD Cert.AdwDRIdeal.τ).loc Cert.AdwDRIdeal.main_arg1)
          ∧ r.2.mem ((c.tc : Thread Cert.AdwDRIdeal.nD Cert.AdwDRIdeal.τ).loc Cert.AdwDRIdeal.main_arg2) = m' ((c.tc : Thread Cert.AdwDRIdeal.nD Cert.AdwDRIdeal.τ).loc Cert.AdwDRIdeal.main_arg2)
          ∧ r.2.mem ((c.tc : Thread Cert.AdwDRIdeal.nD Cert.AdwDRIdeal.τ).loc Cert.AdwDRIdeal.main_arg3) = m' ((c.tc : Thread Cert.AdwDRIdeal.nD Cert.AdwDRIdeal.τ).loc Cert.AdwDRIdeal.main_arg3)
          ∧ r.2.mem ((c.tc : Thread Cert.AdwDRIdeal.nD Cert.AdwDRIdeal.τ).loc Cert.AdwDRIdeal.main_arg4) = m' ((c.tc : Thread Cert.AdwDRIdeal.nD Cert.AdwDRIdeal.τ).loc Cert.AdwDRIdeal.main_arg4))

def preserves_SadK_SadKIdeal : Prop :=
  True

def algebraic_SadKIdeal_SadRIdeal [hSadKIdeal : Cert.SadKIdeal.Facts] [hSadRIdeal : Cert.SadRIdeal.Facts] : Prop :=
  ∀ (m : (ℓ : Loc Cert.SadKIdeal.nD Cert.SadKIdeal.τ Cert.SadKIdeal.sig) → Buf (Elt Ideal) ℓ) (g : Dev Cert.SadKIdeal.nD → PrngReg)
    (m' : (ℓ : Loc Cert.SadRIdeal.nD Cert.SadRIdeal.τ Cert.SadRIdeal.sig) → Buf (Elt Ideal) ℓ) (g' : Dev Cert.SadRIdeal.nD → PrngReg), Pre_SadKIdeal m →
    (∀ c : Dev Cert.SadKIdeal.nD,
      m' ((c.tc : Thread Cert.SadRIdeal.nD Cert.SadRIdeal.τ).loc Cert.SadRIdeal.main_arg0) = m ((c.tc : Thread Cert.SadKIdeal.nD Cert.SadKIdeal.τ).loc Cert.SadKIdeal.main_arg0)
      ∧ m' ((c.tc : Thread Cert.SadRIdeal.nD Cert.SadRIdeal.τ).loc Cert.SadRIdeal.main_arg1) = m ((c.tc : Thread Cert.SadKIdeal.nD Cert.SadKIdeal.τ).loc Cert.SadKIdeal.main_arg1)
      ∧ m' ((c.tc : Thread Cert.SadRIdeal.nD Cert.SadRIdeal.τ).loc Cert.SadRIdeal.main_arg2) = m ((c.tc : Thread Cert.SadKIdeal.nD Cert.SadKIdeal.τ).loc Cert.SadKIdeal.main_arg2)
      ∧ m' ((c.tc : Thread Cert.SadRIdeal.nD Cert.SadRIdeal.τ).loc Cert.SadRIdeal.main_arg3) = m ((c.tc : Thread Cert.SadKIdeal.nD Cert.SadKIdeal.τ).loc Cert.SadKIdeal.main_arg3)) →
    ∃ (v0 : (c : Dev Cert.SadKIdeal.nD) → Buf (Elt Ideal) ((c.tc : Thread Cert.SadKIdeal.nD Cert.SadKIdeal.τ).loc Cert.SadKIdeal.main_v0_0)) (v1 : (c : Dev Cert.SadKIdeal.nD) → Buf (Elt Ideal) ((c.tc : Thread Cert.SadKIdeal.nD Cert.SadKIdeal.τ).loc Cert.SadKIdeal.main_v0_1)) (v2 : (c : Dev Cert.SadKIdeal.nD) → Buf (Elt Ideal) ((c.tc : Thread Cert.SadKIdeal.nD Cert.SadKIdeal.τ).loc Cert.SadKIdeal.main_v0_2)) (v3 : (c : Dev Cert.SadKIdeal.nD) → Buf (Elt Ideal) ((c.tc : Thread Cert.SadKIdeal.nD Cert.SadKIdeal.τ).loc Cert.SadKIdeal.main_v0_3)),
      θ_run (Cert.SadKIdeal.defs (F := Ideal)) (onTc (τ := Cert.SadKIdeal.τ) (Cert.SadKIdeal.main (F := Ideal))) ⟨m, fun _ => 0, g⟩ (fun r => ∀ c : Dev Cert.SadKIdeal.nD,
          r.2.mem ((c.tc : Thread Cert.SadKIdeal.nD Cert.SadKIdeal.τ).loc Cert.SadKIdeal.main_v0_0) = v0 c
          ∧ r.2.mem ((c.tc : Thread Cert.SadKIdeal.nD Cert.SadKIdeal.τ).loc Cert.SadKIdeal.main_v0_1) = v1 c
          ∧ r.2.mem ((c.tc : Thread Cert.SadKIdeal.nD Cert.SadKIdeal.τ).loc Cert.SadKIdeal.main_v0_2) = v2 c
          ∧ r.2.mem ((c.tc : Thread Cert.SadKIdeal.nD Cert.SadKIdeal.τ).loc Cert.SadKIdeal.main_v0_3) = v3 c
          ∧ r.2.mem ((c.tc : Thread Cert.SadKIdeal.nD Cert.SadKIdeal.τ).loc Cert.SadKIdeal.main_arg0) = m ((c.tc : Thread Cert.SadKIdeal.nD Cert.SadKIdeal.τ).loc Cert.SadKIdeal.main_arg0)
          ∧ r.2.mem ((c.tc : Thread Cert.SadKIdeal.nD Cert.SadKIdeal.τ).loc Cert.SadKIdeal.main_arg1) = m ((c.tc : Thread Cert.SadKIdeal.nD Cert.SadKIdeal.τ).loc Cert.SadKIdeal.main_arg1)
          ∧ r.2.mem ((c.tc : Thread Cert.SadKIdeal.nD Cert.SadKIdeal.τ).loc Cert.SadKIdeal.main_arg2) = m ((c.tc : Thread Cert.SadKIdeal.nD Cert.SadKIdeal.τ).loc Cert.SadKIdeal.main_arg2)
          ∧ r.2.mem ((c.tc : Thread Cert.SadKIdeal.nD Cert.SadKIdeal.τ).loc Cert.SadKIdeal.main_arg3) = m ((c.tc : Thread Cert.SadKIdeal.nD Cert.SadKIdeal.τ).loc Cert.SadKIdeal.main_arg3))
      ∧ θ_run (Cert.SadRIdeal.defs (F := Ideal)) (onTc (τ := Cert.SadRIdeal.τ) (Cert.SadRIdeal.main (F := Ideal))) ⟨m', fun _ => 0, g'⟩ (fun r => ∀ c : Dev Cert.SadRIdeal.nD,
          r.2.mem ((c.tc : Thread Cert.SadRIdeal.nD Cert.SadRIdeal.τ).loc Cert.SadRIdeal.main_v0) = v0 c
          ∧ r.2.mem ((c.tc : Thread Cert.SadRIdeal.nD Cert.SadRIdeal.τ).loc Cert.SadRIdeal.main_v24) = v1 c
          ∧ r.2.mem ((c.tc : Thread Cert.SadRIdeal.nD Cert.SadRIdeal.τ).loc Cert.SadRIdeal.main_v5) = v2 c
          ∧ r.2.mem ((c.tc : Thread Cert.SadRIdeal.nD Cert.SadRIdeal.τ).loc Cert.SadRIdeal.main_v11) = v3 c
          ∧ r.2.mem ((c.tc : Thread Cert.SadRIdeal.nD Cert.SadRIdeal.τ).loc Cert.SadRIdeal.main_arg0) = m' ((c.tc : Thread Cert.SadRIdeal.nD Cert.SadRIdeal.τ).loc Cert.SadRIdeal.main_arg0)
          ∧ r.2.mem ((c.tc : Thread Cert.SadRIdeal.nD Cert.SadRIdeal.τ).loc Cert.SadRIdeal.main_arg1) = m' ((c.tc : Thread Cert.SadRIdeal.nD Cert.SadRIdeal.τ).loc Cert.SadRIdeal.main_arg1)
          ∧ r.2.mem ((c.tc : Thread Cert.SadRIdeal.nD Cert.SadRIdeal.τ).loc Cert.SadRIdeal.main_arg2) = m' ((c.tc : Thread Cert.SadRIdeal.nD Cert.SadRIdeal.τ).loc Cert.SadRIdeal.main_arg2)
          ∧ r.2.mem ((c.tc : Thread Cert.SadRIdeal.nD Cert.SadRIdeal.τ).loc Cert.SadRIdeal.main_arg3) = m' ((c.tc : Thread Cert.SadRIdeal.nD Cert.SadRIdeal.τ).loc Cert.SadRIdeal.main_arg3))

def Claim : Prop :=
  ∃ (hGateK : Cert.GateK.Facts) (hGateKIdeal : Cert.GateKIdeal.Facts) (hGateRIdeal : Cert.GateRIdeal.Facts) (hFlaCK : Cert.FlaCK.Facts) (hFlaCKIdeal : Cert.FlaCKIdeal.Facts) (hFlaCRIdeal : Cert.FlaCRIdeal.Facts) (hFlaAK : Cert.FlaAK.Facts) (hFlaAKIdeal : Cert.FlaAKIdeal.Facts) (hFlaARIdeal : Cert.FlaARIdeal.Facts) (hNormK : Cert.NormK.Facts) (hNormKIdeal : Cert.NormKIdeal.Facts) (hNormRIdeal : Cert.NormRIdeal.Facts) (hNormAK : Cert.NormAK.Facts) (hNormAKIdeal : Cert.NormAKIdeal.Facts) (hNormARIdeal : Cert.NormARIdeal.Facts) (hNormBK : Cert.NormBK.Facts) (hNormBKIdeal : Cert.NormBKIdeal.Facts) (hNormBRIdeal : Cert.NormBRIdeal.Facts) (hNormQK : Cert.NormQK.Facts) (hNormQKIdeal : Cert.NormQKIdeal.Facts) (hNormQRIdeal : Cert.NormQRIdeal.Facts) (hNormCQK : Cert.NormCQK.Facts) (hNormCQKIdeal : Cert.NormCQKIdeal.Facts) (hNormCQRIdeal : Cert.NormCQRIdeal.Facts) (hNormCKK : Cert.NormCKK.Facts) (hNormCKKIdeal : Cert.NormCKKIdeal.Facts) (hNormCKRIdeal : Cert.NormCKRIdeal.Facts) (hRopeAK : Cert.RopeAK.Facts) (hRopeAKIdeal : Cert.RopeAKIdeal.Facts) (hRopeARIdeal : Cert.RopeARIdeal.Facts) (hRopeBK : Cert.RopeBK.Facts) (hRopeBKIdeal : Cert.RopeBKIdeal.Facts) (hRopeBRIdeal : Cert.RopeBRIdeal.Facts) (hRopeCK : Cert.RopeCK.Facts) (hRopeCKIdeal : Cert.RopeCKIdeal.Facts) (hRopeCRIdeal : Cert.RopeCRIdeal.Facts) (hRopeCKK : Cert.RopeCKK.Facts) (hRopeCKKIdeal : Cert.RopeCKKIdeal.Facts) (hRopeCKRIdeal : Cert.RopeCKRIdeal.Facts) (hLossK : Cert.LossK.Facts) (hLossKIdeal : Cert.LossKIdeal.Facts) (hLossRIdeal : Cert.LossRIdeal.Facts) (hFlfCK : Cert.FlfCK.Facts) (hFlfCKIdeal : Cert.FlfCKIdeal.Facts) (hFlfCRIdeal : Cert.FlfCRIdeal.Facts) (hFlfAK : Cert.FlfAK.Facts) (hFlfAKIdeal : Cert.FlfAKIdeal.Facts) (hFlfARIdeal : Cert.FlfARIdeal.Facts) (hLatK : Cert.LatK.Facts) (hLatKIdeal : Cert.LatKIdeal.Facts) (hLatRIdeal : Cert.LatRIdeal.Facts) (hNfAK : Cert.NfAK.Facts) (hNfAKIdeal : Cert.NfAKIdeal.Facts) (hNfARIdeal : Cert.NfARIdeal.Facts) (hNfBK : Cert.NfBK.Facts) (hNfBKIdeal : Cert.NfBKIdeal.Facts) (hNfBRIdeal : Cert.NfBRIdeal.Facts) (hNfDK : Cert.NfDK.Facts) (hNfDKIdeal : Cert.NfDKIdeal.Facts) (hNfDRIdeal : Cert.NfDRIdeal.Facts) (hNfLK : Cert.NfLK.Facts) (hNfLKIdeal : Cert.NfLKIdeal.Facts) (hNfLRIdeal : Cert.NfLRIdeal.Facts) (hNfQK : Cert.NfQK.Facts) (hNfQKIdeal : Cert.NfQKIdeal.Facts) (hNfQRIdeal : Cert.NfQRIdeal.Facts) (hNfKK : Cert.NfKK.Facts) (hNfKKIdeal : Cert.NfKKIdeal.Facts) (hNfKRIdeal : Cert.NfKRIdeal.Facts) (hRfAK : Cert.RfAK.Facts) (hRfAKIdeal : Cert.RfAKIdeal.Facts) (hRfARIdeal : Cert.RfARIdeal.Facts) (hRfBK : Cert.RfBK.Facts) (hRfBKIdeal : Cert.RfBKIdeal.Facts) (hRfBRIdeal : Cert.RfBRIdeal.Facts) (hRfCK : Cert.RfCK.Facts) (hRfCKIdeal : Cert.RfCKIdeal.Facts) (hRfCRIdeal : Cert.RfCRIdeal.Facts) (hRfKK : Cert.RfKK.Facts) (hRfKKIdeal : Cert.RfKKIdeal.Facts) (hRfKRIdeal : Cert.RfKRIdeal.Facts) (hLkFK : Cert.LkFK.Facts) (hLkFKIdeal : Cert.LkFKIdeal.Facts) (hLkFRIdeal : Cert.LkFRIdeal.Facts) (hFfUK : Cert.FfUK.Facts) (hFfUKIdeal : Cert.FfUKIdeal.Facts) (hFfURIdeal : Cert.FfURIdeal.Facts) (hCcBK : Cert.CcBK.Facts) (hCcBKIdeal : Cert.CcBKIdeal.Facts) (hCcBRIdeal : Cert.CcBRIdeal.Facts) (hCcBR : Cert.CcBR.Facts) (hCcCK : Cert.CcCK.Facts) (hCcCKIdeal : Cert.CcCKIdeal.Facts) (hCcCRIdeal : Cert.CcCRIdeal.Facts) (hCcCR : Cert.CcCR.Facts) (hMmK : Cert.MmK.Facts) (hMmKIdeal : Cert.MmKIdeal.Facts) (hMmRIdeal : Cert.MmRIdeal.Facts) (hFudK : Cert.FudK.Facts) (hFudKIdeal : Cert.FudKIdeal.Facts) (hFudRIdeal : Cert.FudRIdeal.Facts) (hAdwK : Cert.AdwK.Facts) (hAdwKIdeal : Cert.AdwKIdeal.Facts) (hAdwRIdeal : Cert.AdwRIdeal.Facts) (hAdwDK : Cert.AdwDK.Facts) (hAdwDKIdeal : Cert.AdwDKIdeal.Facts) (hAdwDRIdeal : Cert.AdwDRIdeal.Facts) (hSadK : Cert.SadK.Facts) (hSadKIdeal : Cert.SadKIdeal.Facts) (hSadRIdeal : Cert.SadRIdeal.Facts) (hPre_gate_finite : Cert.Pre_gate_finite.Facts) (hPre_flac_finite : Cert.Pre_flac_finite.Facts) (hPre_flaa_finite : Cert.Pre_flaa_finite.Facts) (hPre_norm_finite : Cert.Pre_norm_finite.Facts) (hPre_norma_finite : Cert.Pre_norma_finite.Facts) (hPre_normb_finite : Cert.Pre_normb_finite.Facts) (hPre_normq_finite : Cert.Pre_normq_finite.Facts) (hPre_normcq_finite : Cert.Pre_normcq_finite.Facts) (hPre_normck_finite : Cert.Pre_normck_finite.Facts) (hPre_loss_finite : Cert.Pre_loss_finite.Facts) (hPre_flfc_finite : Cert.Pre_flfc_finite.Facts) (hPre_flfa_finite : Cert.Pre_flfa_finite.Facts) (hPre_lat_finite : Cert.Pre_lat_finite.Facts) (hPre_ffu_finite : Cert.Pre_ffu_finite.Facts),
    quiescent_GateK (hGateK := hGateK)
    ∧ quiescent_GateKIdeal (hGateKIdeal := hGateKIdeal)
    ∧ quiescent_GateKIdeal_pre_gate_finite (hGateKIdeal := hGateKIdeal) (hPre_gate_finite := hPre_gate_finite)
    ∧ quiescent_GateRIdeal (hGateRIdeal := hGateRIdeal)
    ∧ quiescent_GateRIdeal_pre_gate_finite (hGateRIdeal := hGateRIdeal) (hPre_gate_finite := hPre_gate_finite)
    ∧ quiescent_FlaCK (hFlaCK := hFlaCK)
    ∧ quiescent_FlaCKIdeal (hFlaCKIdeal := hFlaCKIdeal)
    ∧ quiescent_FlaCKIdeal_pre_flac_finite (hFlaCKIdeal := hFlaCKIdeal) (hPre_flac_finite := hPre_flac_finite)
    ∧ quiescent_FlaCRIdeal (hFlaCRIdeal := hFlaCRIdeal)
    ∧ quiescent_FlaCRIdeal_pre_flac_finite (hFlaCRIdeal := hFlaCRIdeal) (hPre_flac_finite := hPre_flac_finite)
    ∧ quiescent_FlaAK (hFlaAK := hFlaAK)
    ∧ quiescent_FlaAKIdeal (hFlaAKIdeal := hFlaAKIdeal)
    ∧ quiescent_FlaAKIdeal_pre_flaa_finite (hFlaAKIdeal := hFlaAKIdeal) (hPre_flaa_finite := hPre_flaa_finite)
    ∧ quiescent_FlaARIdeal (hFlaARIdeal := hFlaARIdeal)
    ∧ quiescent_FlaARIdeal_pre_flaa_finite (hFlaARIdeal := hFlaARIdeal) (hPre_flaa_finite := hPre_flaa_finite)
    ∧ quiescent_NormK (hNormK := hNormK)
    ∧ quiescent_NormKIdeal (hNormKIdeal := hNormKIdeal)
    ∧ quiescent_NormKIdeal_pre_norm_finite (hNormKIdeal := hNormKIdeal) (hPre_norm_finite := hPre_norm_finite)
    ∧ quiescent_NormRIdeal (hNormRIdeal := hNormRIdeal)
    ∧ quiescent_NormRIdeal_pre_norm_finite (hNormRIdeal := hNormRIdeal) (hPre_norm_finite := hPre_norm_finite)
    ∧ quiescent_NormAK (hNormAK := hNormAK)
    ∧ quiescent_NormAKIdeal (hNormAKIdeal := hNormAKIdeal)
    ∧ quiescent_NormAKIdeal_pre_norma_finite (hNormAKIdeal := hNormAKIdeal) (hPre_norma_finite := hPre_norma_finite)
    ∧ quiescent_NormARIdeal (hNormARIdeal := hNormARIdeal)
    ∧ quiescent_NormARIdeal_pre_norma_finite (hNormARIdeal := hNormARIdeal) (hPre_norma_finite := hPre_norma_finite)
    ∧ quiescent_NormBK (hNormBK := hNormBK)
    ∧ quiescent_NormBKIdeal (hNormBKIdeal := hNormBKIdeal)
    ∧ quiescent_NormBKIdeal_pre_normb_finite (hNormBKIdeal := hNormBKIdeal) (hPre_normb_finite := hPre_normb_finite)
    ∧ quiescent_NormBRIdeal (hNormBRIdeal := hNormBRIdeal)
    ∧ quiescent_NormBRIdeal_pre_normb_finite (hNormBRIdeal := hNormBRIdeal) (hPre_normb_finite := hPre_normb_finite)
    ∧ quiescent_NormQK (hNormQK := hNormQK)
    ∧ quiescent_NormQKIdeal (hNormQKIdeal := hNormQKIdeal)
    ∧ quiescent_NormQKIdeal_pre_normq_finite (hNormQKIdeal := hNormQKIdeal) (hPre_normq_finite := hPre_normq_finite)
    ∧ quiescent_NormQRIdeal (hNormQRIdeal := hNormQRIdeal)
    ∧ quiescent_NormQRIdeal_pre_normq_finite (hNormQRIdeal := hNormQRIdeal) (hPre_normq_finite := hPre_normq_finite)
    ∧ quiescent_NormCQK (hNormCQK := hNormCQK)
    ∧ quiescent_NormCQKIdeal (hNormCQKIdeal := hNormCQKIdeal)
    ∧ quiescent_NormCQKIdeal_pre_normcq_finite (hNormCQKIdeal := hNormCQKIdeal) (hPre_normcq_finite := hPre_normcq_finite)
    ∧ quiescent_NormCQRIdeal (hNormCQRIdeal := hNormCQRIdeal)
    ∧ quiescent_NormCQRIdeal_pre_normcq_finite (hNormCQRIdeal := hNormCQRIdeal) (hPre_normcq_finite := hPre_normcq_finite)
    ∧ quiescent_NormCKK (hNormCKK := hNormCKK)
    ∧ quiescent_NormCKKIdeal (hNormCKKIdeal := hNormCKKIdeal)
    ∧ quiescent_NormCKKIdeal_pre_normck_finite (hNormCKKIdeal := hNormCKKIdeal) (hPre_normck_finite := hPre_normck_finite)
    ∧ quiescent_NormCKRIdeal (hNormCKRIdeal := hNormCKRIdeal)
    ∧ quiescent_NormCKRIdeal_pre_normck_finite (hNormCKRIdeal := hNormCKRIdeal) (hPre_normck_finite := hPre_normck_finite)
    ∧ quiescent_RopeAK (hRopeAK := hRopeAK)
    ∧ quiescent_RopeAKIdeal (hRopeAKIdeal := hRopeAKIdeal)
    ∧ quiescent_RopeARIdeal (hRopeARIdeal := hRopeARIdeal)
    ∧ quiescent_RopeBK (hRopeBK := hRopeBK)
    ∧ quiescent_RopeBKIdeal (hRopeBKIdeal := hRopeBKIdeal)
    ∧ quiescent_RopeBRIdeal (hRopeBRIdeal := hRopeBRIdeal)
    ∧ quiescent_RopeCK (hRopeCK := hRopeCK)
    ∧ quiescent_RopeCKIdeal (hRopeCKIdeal := hRopeCKIdeal)
    ∧ quiescent_RopeCRIdeal (hRopeCRIdeal := hRopeCRIdeal)
    ∧ quiescent_RopeCKK (hRopeCKK := hRopeCKK)
    ∧ quiescent_RopeCKKIdeal (hRopeCKKIdeal := hRopeCKKIdeal)
    ∧ quiescent_RopeCKRIdeal (hRopeCKRIdeal := hRopeCKRIdeal)
    ∧ quiescent_LossK (hLossK := hLossK)
    ∧ quiescent_LossKIdeal (hLossKIdeal := hLossKIdeal)
    ∧ quiescent_LossKIdeal_pre_loss_finite (hLossKIdeal := hLossKIdeal) (hPre_loss_finite := hPre_loss_finite)
    ∧ quiescent_LossRIdeal (hLossRIdeal := hLossRIdeal)
    ∧ quiescent_LossRIdeal_pre_loss_finite (hLossRIdeal := hLossRIdeal) (hPre_loss_finite := hPre_loss_finite)
    ∧ quiescent_FlfCK (hFlfCK := hFlfCK)
    ∧ quiescent_FlfCKIdeal (hFlfCKIdeal := hFlfCKIdeal)
    ∧ quiescent_FlfCKIdeal_pre_flfc_finite (hFlfCKIdeal := hFlfCKIdeal) (hPre_flfc_finite := hPre_flfc_finite)
    ∧ quiescent_FlfCRIdeal (hFlfCRIdeal := hFlfCRIdeal)
    ∧ quiescent_FlfCRIdeal_pre_flfc_finite (hFlfCRIdeal := hFlfCRIdeal) (hPre_flfc_finite := hPre_flfc_finite)
    ∧ quiescent_FlfAK (hFlfAK := hFlfAK)
    ∧ quiescent_FlfAKIdeal (hFlfAKIdeal := hFlfAKIdeal)
    ∧ quiescent_FlfAKIdeal_pre_flfa_finite (hFlfAKIdeal := hFlfAKIdeal) (hPre_flfa_finite := hPre_flfa_finite)
    ∧ quiescent_FlfARIdeal (hFlfARIdeal := hFlfARIdeal)
    ∧ quiescent_FlfARIdeal_pre_flfa_finite (hFlfARIdeal := hFlfARIdeal) (hPre_flfa_finite := hPre_flfa_finite)
    ∧ quiescent_LatK (hLatK := hLatK)
    ∧ quiescent_LatKIdeal (hLatKIdeal := hLatKIdeal)
    ∧ quiescent_LatKIdeal_pre_lat_finite (hLatKIdeal := hLatKIdeal) (hPre_lat_finite := hPre_lat_finite)
    ∧ quiescent_LatRIdeal (hLatRIdeal := hLatRIdeal)
    ∧ quiescent_LatRIdeal_pre_lat_finite (hLatRIdeal := hLatRIdeal) (hPre_lat_finite := hPre_lat_finite)
    ∧ quiescent_NfAK (hNfAK := hNfAK)
    ∧ quiescent_NfAKIdeal (hNfAKIdeal := hNfAKIdeal)
    ∧ quiescent_NfARIdeal (hNfARIdeal := hNfARIdeal)
    ∧ quiescent_NfBK (hNfBK := hNfBK)
    ∧ quiescent_NfBKIdeal (hNfBKIdeal := hNfBKIdeal)
    ∧ quiescent_NfBRIdeal (hNfBRIdeal := hNfBRIdeal)
    ∧ quiescent_NfDK (hNfDK := hNfDK)
    ∧ quiescent_NfDKIdeal (hNfDKIdeal := hNfDKIdeal)
    ∧ quiescent_NfDRIdeal (hNfDRIdeal := hNfDRIdeal)
    ∧ quiescent_NfLK (hNfLK := hNfLK)
    ∧ quiescent_NfLKIdeal (hNfLKIdeal := hNfLKIdeal)
    ∧ quiescent_NfLRIdeal (hNfLRIdeal := hNfLRIdeal)
    ∧ quiescent_NfQK (hNfQK := hNfQK)
    ∧ quiescent_NfQKIdeal (hNfQKIdeal := hNfQKIdeal)
    ∧ quiescent_NfQRIdeal (hNfQRIdeal := hNfQRIdeal)
    ∧ quiescent_NfKK (hNfKK := hNfKK)
    ∧ quiescent_NfKKIdeal (hNfKKIdeal := hNfKKIdeal)
    ∧ quiescent_NfKRIdeal (hNfKRIdeal := hNfKRIdeal)
    ∧ quiescent_RfAK (hRfAK := hRfAK)
    ∧ quiescent_RfAKIdeal (hRfAKIdeal := hRfAKIdeal)
    ∧ quiescent_RfARIdeal (hRfARIdeal := hRfARIdeal)
    ∧ quiescent_RfBK (hRfBK := hRfBK)
    ∧ quiescent_RfBKIdeal (hRfBKIdeal := hRfBKIdeal)
    ∧ quiescent_RfBRIdeal (hRfBRIdeal := hRfBRIdeal)
    ∧ quiescent_RfCK (hRfCK := hRfCK)
    ∧ quiescent_RfCKIdeal (hRfCKIdeal := hRfCKIdeal)
    ∧ quiescent_RfCRIdeal (hRfCRIdeal := hRfCRIdeal)
    ∧ quiescent_RfKK (hRfKK := hRfKK)
    ∧ quiescent_RfKKIdeal (hRfKKIdeal := hRfKKIdeal)
    ∧ quiescent_RfKRIdeal (hRfKRIdeal := hRfKRIdeal)
    ∧ quiescent_LkFK (hLkFK := hLkFK)
    ∧ quiescent_LkFKIdeal (hLkFKIdeal := hLkFKIdeal)
    ∧ quiescent_LkFRIdeal (hLkFRIdeal := hLkFRIdeal)
    ∧ quiescent_FfUK (hFfUK := hFfUK)
    ∧ quiescent_FfUKIdeal (hFfUKIdeal := hFfUKIdeal)
    ∧ quiescent_FfUKIdeal_pre_ffu_finite (hFfUKIdeal := hFfUKIdeal) (hPre_ffu_finite := hPre_ffu_finite)
    ∧ quiescent_FfURIdeal (hFfURIdeal := hFfURIdeal)
    ∧ quiescent_FfURIdeal_pre_ffu_finite (hFfURIdeal := hFfURIdeal) (hPre_ffu_finite := hPre_ffu_finite)
    ∧ quiescent_CcBK (hCcBK := hCcBK)
    ∧ quiescent_CcBKIdeal (hCcBKIdeal := hCcBKIdeal)
    ∧ quiescent_CcBRIdeal (hCcBRIdeal := hCcBRIdeal)
    ∧ quiescent_CcBR (hCcBR := hCcBR)
    ∧ quiescent_CcCK (hCcCK := hCcCK)
    ∧ quiescent_CcCKIdeal (hCcCKIdeal := hCcCKIdeal)
    ∧ quiescent_CcCRIdeal (hCcCRIdeal := hCcCRIdeal)
    ∧ quiescent_CcCR (hCcCR := hCcCR)
    ∧ quiescent_MmK (hMmK := hMmK)
    ∧ quiescent_MmKIdeal (hMmKIdeal := hMmKIdeal)
    ∧ quiescent_MmRIdeal (hMmRIdeal := hMmRIdeal)
    ∧ quiescent_FudK (hFudK := hFudK)
    ∧ quiescent_FudKIdeal (hFudKIdeal := hFudKIdeal)
    ∧ quiescent_FudRIdeal (hFudRIdeal := hFudRIdeal)
    ∧ quiescent_AdwK (hAdwK := hAdwK)
    ∧ quiescent_AdwKIdeal (hAdwKIdeal := hAdwKIdeal)
    ∧ quiescent_AdwRIdeal (hAdwRIdeal := hAdwRIdeal)
    ∧ quiescent_AdwDK (hAdwDK := hAdwDK)
    ∧ quiescent_AdwDKIdeal (hAdwDKIdeal := hAdwDKIdeal)
    ∧ quiescent_AdwDRIdeal (hAdwDRIdeal := hAdwDRIdeal)
    ∧ quiescent_SadK (hSadK := hSadK)
    ∧ quiescent_SadKIdeal (hSadKIdeal := hSadKIdeal)
    ∧ quiescent_SadRIdeal (hSadRIdeal := hSadRIdeal)
    ∧ preserves_GateK_GateKIdeal
    ∧ algebraic_GateKIdeal_GateRIdeal_pre_gate_finite (hGateKIdeal := hGateKIdeal) (hGateRIdeal := hGateRIdeal) (hPre_gate_finite := hPre_gate_finite)
    ∧ preserves_FlaCK_FlaCKIdeal
    ∧ algebraic_FlaCKIdeal_FlaCRIdeal_pre_flac_finite (hFlaCKIdeal := hFlaCKIdeal) (hFlaCRIdeal := hFlaCRIdeal) (hPre_flac_finite := hPre_flac_finite)
    ∧ preserves_FlaAK_FlaAKIdeal
    ∧ algebraic_FlaAKIdeal_FlaARIdeal_pre_flaa_finite (hFlaAKIdeal := hFlaAKIdeal) (hFlaARIdeal := hFlaARIdeal) (hPre_flaa_finite := hPre_flaa_finite)
    ∧ preserves_NormK_NormKIdeal
    ∧ algebraic_NormKIdeal_NormRIdeal_pre_norm_finite (hNormKIdeal := hNormKIdeal) (hNormRIdeal := hNormRIdeal) (hPre_norm_finite := hPre_norm_finite)
    ∧ preserves_NormAK_NormAKIdeal
    ∧ algebraic_NormAKIdeal_NormARIdeal_pre_norma_finite (hNormAKIdeal := hNormAKIdeal) (hNormARIdeal := hNormARIdeal) (hPre_norma_finite := hPre_norma_finite)
    ∧ preserves_NormBK_NormBKIdeal
    ∧ algebraic_NormBKIdeal_NormBRIdeal_pre_normb_finite (hNormBKIdeal := hNormBKIdeal) (hNormBRIdeal := hNormBRIdeal) (hPre_normb_finite := hPre_normb_finite)
    ∧ preserves_NormQK_NormQKIdeal
    ∧ algebraic_NormQKIdeal_NormQRIdeal_pre_normq_finite (hNormQKIdeal := hNormQKIdeal) (hNormQRIdeal := hNormQRIdeal) (hPre_normq_finite := hPre_normq_finite)
    ∧ preserves_NormCQK_NormCQKIdeal
    ∧ algebraic_NormCQKIdeal_NormCQRIdeal_pre_normcq_finite (hNormCQKIdeal := hNormCQKIdeal) (hNormCQRIdeal := hNormCQRIdeal) (hPre_normcq_finite := hPre_normcq_finite)
    ∧ preserves_NormCKK_NormCKKIdeal
    ∧ algebraic_NormCKKIdeal_NormCKRIdeal_pre_normck_finite (hNormCKKIdeal := hNormCKKIdeal) (hNormCKRIdeal := hNormCKRIdeal) (hPre_normck_finite := hPre_normck_finite)
    ∧ preserves_RopeAK_RopeAKIdeal
    ∧ algebraic_RopeAKIdeal_RopeARIdeal (hRopeAKIdeal := hRopeAKIdeal) (hRopeARIdeal := hRopeARIdeal)
    ∧ preserves_RopeBK_RopeBKIdeal
    ∧ algebraic_RopeBKIdeal_RopeBRIdeal (hRopeBKIdeal := hRopeBKIdeal) (hRopeBRIdeal := hRopeBRIdeal)
    ∧ preserves_RopeCK_RopeCKIdeal
    ∧ algebraic_RopeCKIdeal_RopeCRIdeal (hRopeCKIdeal := hRopeCKIdeal) (hRopeCRIdeal := hRopeCRIdeal)
    ∧ preserves_RopeCKK_RopeCKKIdeal
    ∧ algebraic_RopeCKKIdeal_RopeCKRIdeal (hRopeCKKIdeal := hRopeCKKIdeal) (hRopeCKRIdeal := hRopeCKRIdeal)
    ∧ preserves_LossK_LossKIdeal
    ∧ algebraic_LossKIdeal_LossRIdeal_pre_loss_finite (hLossKIdeal := hLossKIdeal) (hLossRIdeal := hLossRIdeal) (hPre_loss_finite := hPre_loss_finite)
    ∧ preserves_FlfCK_FlfCKIdeal
    ∧ algebraic_FlfCKIdeal_FlfCRIdeal_pre_flfc_finite (hFlfCKIdeal := hFlfCKIdeal) (hFlfCRIdeal := hFlfCRIdeal) (hPre_flfc_finite := hPre_flfc_finite)
    ∧ preserves_FlfAK_FlfAKIdeal
    ∧ algebraic_FlfAKIdeal_FlfARIdeal_pre_flfa_finite (hFlfAKIdeal := hFlfAKIdeal) (hFlfARIdeal := hFlfARIdeal) (hPre_flfa_finite := hPre_flfa_finite)
    ∧ preserves_LatK_LatKIdeal
    ∧ algebraic_LatKIdeal_LatRIdeal_pre_lat_finite (hLatKIdeal := hLatKIdeal) (hLatRIdeal := hLatRIdeal) (hPre_lat_finite := hPre_lat_finite)
    ∧ preserves_NfAK_NfAKIdeal
    ∧ algebraic_NfAKIdeal_NfARIdeal (hNfAKIdeal := hNfAKIdeal) (hNfARIdeal := hNfARIdeal)
    ∧ preserves_NfBK_NfBKIdeal
    ∧ algebraic_NfBKIdeal_NfBRIdeal (hNfBKIdeal := hNfBKIdeal) (hNfBRIdeal := hNfBRIdeal)
    ∧ preserves_NfDK_NfDKIdeal
    ∧ algebraic_NfDKIdeal_NfDRIdeal (hNfDKIdeal := hNfDKIdeal) (hNfDRIdeal := hNfDRIdeal)
    ∧ preserves_NfLK_NfLKIdeal
    ∧ algebraic_NfLKIdeal_NfLRIdeal (hNfLKIdeal := hNfLKIdeal) (hNfLRIdeal := hNfLRIdeal)
    ∧ preserves_NfQK_NfQKIdeal
    ∧ algebraic_NfQKIdeal_NfQRIdeal (hNfQKIdeal := hNfQKIdeal) (hNfQRIdeal := hNfQRIdeal)
    ∧ preserves_NfKK_NfKKIdeal
    ∧ algebraic_NfKKIdeal_NfKRIdeal (hNfKKIdeal := hNfKKIdeal) (hNfKRIdeal := hNfKRIdeal)
    ∧ preserves_RfAK_RfAKIdeal
    ∧ algebraic_RfAKIdeal_RfARIdeal (hRfAKIdeal := hRfAKIdeal) (hRfARIdeal := hRfARIdeal)
    ∧ preserves_RfBK_RfBKIdeal
    ∧ algebraic_RfBKIdeal_RfBRIdeal (hRfBKIdeal := hRfBKIdeal) (hRfBRIdeal := hRfBRIdeal)
    ∧ preserves_RfCK_RfCKIdeal
    ∧ algebraic_RfCKIdeal_RfCRIdeal (hRfCKIdeal := hRfCKIdeal) (hRfCRIdeal := hRfCRIdeal)
    ∧ preserves_RfKK_RfKKIdeal
    ∧ algebraic_RfKKIdeal_RfKRIdeal (hRfKKIdeal := hRfKKIdeal) (hRfKRIdeal := hRfKRIdeal)
    ∧ preserves_LkFK_LkFKIdeal
    ∧ algebraic_LkFKIdeal_LkFRIdeal (hLkFKIdeal := hLkFKIdeal) (hLkFRIdeal := hLkFRIdeal)
    ∧ preserves_FfUK_FfUKIdeal
    ∧ algebraic_FfUKIdeal_FfURIdeal_pre_ffu_finite (hFfUKIdeal := hFfUKIdeal) (hFfURIdeal := hFfURIdeal) (hPre_ffu_finite := hPre_ffu_finite)
    ∧ preserves_CcBK_CcBKIdeal
    ∧ algebraic_CcBKIdeal_CcBRIdeal (hCcBKIdeal := hCcBKIdeal) (hCcBRIdeal := hCcBRIdeal)
    ∧ bitexact_CcBK_CcBR (hCcBK := hCcBK) (hCcBR := hCcBR)
    ∧ preserves_CcCK_CcCKIdeal
    ∧ algebraic_CcCKIdeal_CcCRIdeal (hCcCKIdeal := hCcCKIdeal) (hCcCRIdeal := hCcCRIdeal)
    ∧ bitexact_CcCK_CcCR (hCcCK := hCcCK) (hCcCR := hCcCR)
    ∧ preserves_MmK_MmKIdeal
    ∧ algebraic_MmKIdeal_MmRIdeal (hMmKIdeal := hMmKIdeal) (hMmRIdeal := hMmRIdeal)
    ∧ preserves_FudK_FudKIdeal
    ∧ algebraic_FudKIdeal_FudRIdeal (hFudKIdeal := hFudKIdeal) (hFudRIdeal := hFudRIdeal)
    ∧ preserves_AdwK_AdwKIdeal
    ∧ algebraic_AdwKIdeal_AdwRIdeal (hAdwKIdeal := hAdwKIdeal) (hAdwRIdeal := hAdwRIdeal)
    ∧ preserves_AdwDK_AdwDKIdeal
    ∧ algebraic_AdwDKIdeal_AdwDRIdeal (hAdwDKIdeal := hAdwDKIdeal) (hAdwDRIdeal := hAdwDRIdeal)
    ∧ preserves_SadK_SadKIdeal
    ∧ algebraic_SadKIdeal_SadRIdeal (hSadKIdeal := hSadKIdeal) (hSadRIdeal := hSadRIdeal)
-- ==== Pre_ffu_finite.lean ====
abbrev S4096x2048 : Shape := ⟨2, ![4096, 2048]⟩
abbrev S2048x5632 : Shape := ⟨2, ![2048, 5632]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S4096x2048 .f32) (main_arg1 : FVec F S2048x5632 .f32) (main_arg2 : FVec F S2048x5632 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x5632 .f32 := Host.absf main_arg1
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  main_v13
-- ==== Pre_flaa_finite.lean ====
abbrev S1x4096x4x1x192 : Shape := ⟨5, ![1, 4096, 4, 1, 192]⟩
abbrev S1x4096x4x192 : Shape := ⟨4, ![1, 4096, 4, 192]⟩
abbrev S1x4096x4x128 : Shape := ⟨4, ![1, 4096, 4, 128]⟩
abbrev S1x4096x4x1x128 : Shape := ⟨5, ![1, 4096, 4, 1, 128]⟩
abbrev S_ : Shape := ⟨0, ![]⟩

class Facts : Prop where
  bcast_S_S1x4096x4x1x192 : S_.BroadcastsInDim S1x4096x4x1x192 (![] : Fin 0 → Fin S1x4096x4x1x192.rank)
  reducesTo_S1x4096x4x1x192_S_d0_1_2_3_4 : S1x4096x4x1x192.ReducesTo [0, 1, 2, 3, 4] S_
  h_S_ : 0 < S_.numel
  bcast_S_S1x4096x4x192 : S_.BroadcastsInDim S1x4096x4x192 (![] : Fin 0 → Fin S1x4096x4x192.rank)
  reducesTo_S1x4096x4x192_S_d0_1_2_3 : S1x4096x4x192.ReducesTo [0, 1, 2, 3] S_
  bcast_S_S1x4096x4x128 : S_.BroadcastsInDim S1x4096x4x128 (![] : Fin 0 → Fin S1x4096x4x128.rank)
  reducesTo_S1x4096x4x128_S_d0_1_2_3 : S1x4096x4x128.ReducesTo [0, 1, 2, 3] S_
  bcast_S_S1x4096x4x1x128 : S_.BroadcastsInDim S1x4096x4x1x128 (![] : Fin 0 → Fin S1x4096x4x1x128.rank)
  reducesTo_S1x4096x4x1x128_S_d0_1_2_3_4 : S1x4096x4x1x128.ReducesTo [0, 1, 2, 3, 4] S_

variable [Facts]

def fn_part1 {F : FTy → Type} [FloatOps F] (main_v13 : IVec S_ 1) (main_v16 : IVec S1x4096x4x1x128 1) : IVec S_ 1 :=
  let main_c_5 : IVec S_ 1 := constantI S_ 1 1#1
  let main_v17 : IVec S_ 1 := (fun x v => Host.reduce IntOp.andi x v reducesTo_S1x4096x4x1x128_S_d0_1_2_3_4 h_S_) main_v16 main_c_5
  let main_v18 : IVec S_ 1 := andi main_v13 main_v17
  main_v18

def fn {F : FTy → Type} [FloatOps F] (main_arg0 : FVec F S1x4096x4x1x192 .f32) (main_arg1 : FVec F S1x4096x4x192 .f32) (main_arg2 : FVec F S1x4096x4x128 .f32) (main_arg3 : FVec F S1x4096x4x1x128 .f32) : IVec S_ 1 :=
  let main_v0 : FVec F S1x4096x4x1x192 .f32 := Host.absf main_arg0
  let main_cst : FVec F S_ .f32 := constant S_ .f32 0x7F800000#32
  let main_v1 : FVec F S1x4096x4x1x192 .f32 := broadcastInDim S1x4096x4x1x192 ![] bcast_S_S1x4096x4x1x192 main_cst
  let main_v2 : IVec S1x4096x4x1x192 1 := cmpf .olt main_v0 main_v1
  let main_c : IVec S_ 1 := constantI S_ 1 1#1
  let main_v3 : IVec S_ 1 := (fun x v => Host.reduce IntOp.andi x v reducesTo_S1x4096x4x1x192_S_d0_1_2_3_4 h_S_) main_v2 main_c
  let main_v4 : FVec F S1x4096x4x192 .f32 := Host.absf main_arg1
  let main_cst_0 : FVec F S_ .f32 := constant S_ .f32 0x7F800000#32
  let main_v5 : FVec F S1x4096x4x192 .f32 := broadcastInDim S1x4096x4x192 ![] bcast_S_S1x4096x4x192 main_cst_0
  let main_v6 : IVec S1x4096x4x192 1 := cmpf .olt main_v4 main_v5
  let main_c_1 : IVec S_ 1 := constantI S_ 1 1#1
  let main_v7 : IVec S_ 1 := (fun x v => Host.reduce IntOp.andi x v reducesTo_S1x4096x4x192_S_d0_1_2_3 h_S_) main_v6 main_c_1
  let main_v8 : IVec S_ 1 := andi main_v3 main_v7
  let main_v9 : FVec F S1x4096x4x128 .f32 := Host.absf main_arg2
  let main_cst_2 : FVec F S_ .f32 := constant S_ .f32 0x7F800000#32
  let main_v10 : FVec F S1x4096x4x128 .f32 := broadcastInDim S1x4096x4x128 ![] bcast_S_S1x4096x4x128 main_cst_2
  let main_v11 : IVec S1x4096x4x128 1 := cmpf .olt main_v9 main_v10
  let main_c_3 : IVec S_ 1 := constantI S_ 1 1#1
  let main_v12 : IVec S_ 1 := (fun x v => Host.reduce IntOp.andi x v reducesTo_S1x4096x4x128_S_d0_1_2_3 h_S_) main_v11 main_c_3
  let main_v13 : IVec S_ 1 := andi main_v8 main_v12
  let main_v14 : FVec F S1x4096x4x1x128 .f32 := Host.absf main_arg3
  let main_cst_4 : FVec F S_ .f32 := constant S_ .f32 0x7F800000#32
  let main_v15 : FVec F S1x4096x4x1x128 .f32 := broadcastInDim S1x4096x4x1x128 ![] bcast_S_S1x4096x4x1x128 main_cst_4
  let main_v16 : IVec S1x4096x4x1x128 1 := cmpf .olt main_v14 main_v15
  fn_part1 (F := F) main_v13 main_v16
-- ==== Pre_flac_finite.lean ====
abbrev S1x4096x2x3x128 : Shape := ⟨5, ![1, 4096, 2, 3, 128]⟩
abbrev S1x4096x2x128 : Shape := ⟨4, ![1, 4096, 2, 128]⟩
abbrev S_ : Shape := ⟨0, ![]⟩

class Facts : Prop where
  bcast_S_S1x4096x2x3x128 : S_.BroadcastsInDim S1x4096x2x3x128 (![] : Fin 0 → Fin S1x4096x2x3x128.rank)
  reducesTo_S1x4096x2x3x128_S_d0_1_2_3_4 : S1x4096x2x3x128.ReducesTo [0, 1, 2, 3, 4] S_
  h_S_ : 0 < S_.numel
  bcast_S_S1x4096x2x128 : S_.BroadcastsInDim S1x4096x2x128 (![] : Fin 0 → Fin S1x4096x2x128.rank)
  reducesTo_S1x4096x2x128_S_d0_1_2_3 : S1x4096x2x128.ReducesTo [0, 1, 2, 3] S_

variable [Facts]

def fn_part1 {F : FTy → Type} [FloatOps F] (main_v13 : IVec S_ 1) (main_v16 : IVec S1x4096x2x3x128 1) : IVec S_ 1 :=
  let main_c_5 : IVec S_ 1 := constantI S_ 1 1#1
  let main_v17 : IVec S_ 1 := (fun x v => Host.reduce IntOp.andi x v reducesTo_S1x4096x2x3x128_S_d0_1_2_3_4 h_S_) main_v16 main_c_5
  let main_v18 : IVec S_ 1 := andi main_v13 main_v17
  main_v18

def fn {F : FTy → Type} [FloatOps F] (main_arg0 : FVec F S1x4096x2x3x128 .f32) (main_arg1 : FVec F S1x4096x2x128 .f32) (main_arg2 : FVec F S1x4096x2x128 .f32) (main_arg3 : FVec F S1x4096x2x3x128 .f32) : IVec S_ 1 :=
  let main_v0 : FVec F S1x4096x2x3x128 .f32 := Host.absf main_arg0
  let main_cst : FVec F S_ .f32 := constant S_ .f32 0x7F800000#32
  let main_v1 : FVec F S1x4096x2x3x128 .f32 := broadcastInDim S1x4096x2x3x128 ![] bcast_S_S1x4096x2x3x128 main_cst
  let main_v2 : IVec S1x4096x2x3x128 1 := cmpf .olt main_v0 main_v1
  let main_c : IVec S_ 1 := constantI S_ 1 1#1
  let main_v3 : IVec S_ 1 := (fun x v => Host.reduce IntOp.andi x v reducesTo_S1x4096x2x3x128_S_d0_1_2_3_4 h_S_) main_v2 main_c
  let main_v4 : FVec F S1x4096x2x128 .f32 := Host.absf main_arg1
  let main_cst_0 : FVec F S_ .f32 := constant S_ .f32 0x7F800000#32
  let main_v5 : FVec F S1x4096x2x128 .f32 := broadcastInDim S1x4096x2x128 ![] bcast_S_S1x4096x2x128 main_cst_0
  let main_v6 : IVec S1x4096x2x128 1 := cmpf .olt main_v4 main_v5
  let main_c_1 : IVec S_ 1 := constantI S_ 1 1#1
  let main_v7 : IVec S_ 1 := (fun x v => Host.reduce IntOp.andi x v reducesTo_S1x4096x2x128_S_d0_1_2_3 h_S_) main_v6 main_c_1
  let main_v8 : IVec S_ 1 := andi main_v3 main_v7
  let main_v9 : FVec F S1x4096x2x128 .f32 := Host.absf main_arg2
  let main_cst_2 : FVec F S_ .f32 := constant S_ .f32 0x7F800000#32
  let main_v10 : FVec F S1x4096x2x128 .f32 := broadcastInDim S1x4096x2x128 ![] bcast_S_S1x4096x2x128 main_cst_2
  let main_v11 : IVec S1x4096x2x128 1 := cmpf .olt main_v9 main_v10
  let main_c_3 : IVec S_ 1 := constantI S_ 1 1#1
  let main_v12 : IVec S_ 1 := (fun x v => Host.reduce IntOp.andi x v reducesTo_S1x4096x2x128_S_d0_1_2_3 h_S_) main_v11 main_c_3
  let main_v13 : IVec S_ 1 := andi main_v8 main_v12
  let main_v14 : FVec F S1x4096x2x3x128 .f32 := Host.absf main_arg3
  let main_cst_4 : FVec F S_ .f32 := constant S_ .f32 0x7F800000#32
  let main_v15 : FVec F S1x4096x2x3x128 .f32 := broadcastInDim S1x4096x2x3x128 ![] bcast_S_S1x4096x2x3x128 main_cst_4
  let main_v16 : IVec S1x4096x2x3x128 1 := cmpf .olt main_v14 main_v15
  fn_part1 (F := F) main_v13 main_v16
-- ==== Pre_flfa_finite.lean ====
abbrev S1x4096x4x1x192 : Shape := ⟨5, ![1, 4096, 4, 1, 192]⟩
abbrev S1x4096x4x192 : Shape := ⟨4, ![1, 4096, 4, 192]⟩
abbrev S1x4096x4x128 : Shape := ⟨4, ![1, 4096, 4, 128]⟩
abbrev S_ : Shape := ⟨0, ![]⟩

class Facts : Prop where
  bcast_S_S1x4096x4x1x192 : S_.BroadcastsInDim S1x4096x4x1x192 (![] : Fin 0 → Fin S1x4096x4x1x192.rank)
  reducesTo_S1x4096x4x1x192_S_d0_1_2_3_4 : S1x4096x4x1x192.ReducesTo [0, 1, 2, 3, 4] S_
  h_S_ : 0 < S_.numel
  bcast_S_S1x4096x4x192 : S_.BroadcastsInDim S1x4096x4x192 (![] : Fin 0 → Fin S1x4096x4x192.rank)
  reducesTo_S1x4096x4x192_S_d0_1_2_3 : S1x4096x4x192.ReducesTo [0, 1, 2, 3] S_
  bcast_S_S1x4096x4x128 : S_.BroadcastsInDim S1x4096x4x128 (![] : Fin 0 → Fin S1x4096x4x128.rank)
  reducesTo_S1x4096x4x128_S_d0_1_2_3 : S1x4096x4x128.ReducesTo [0, 1, 2, 3] S_

variable [Facts]

def fn {F : FTy → Type} [FloatOps F] (main_arg0 : FVec F S1x4096x4x1x192 .f32) (main_arg1 : FVec F S1x4096x4x192 .f32) (main_arg2 : FVec F S1x4096x4x128 .f32) : IVec S_ 1 :=
  let main_v0 : FVec F S1x4096x4x1x192 .f32 := Host.absf main_arg0
  let main_cst : FVec F S_ .f32 := constant S_ .f32 0x7F800000#32
  let main_v1 : FVec F S1x4096x4x1x192 .f32 := broadcastInDim S1x4096x4x1x192 ![] bcast_S_S1x4096x4x1x192 main_cst
  let main_v2 : IVec S1x4096x4x1x192 1 := cmpf .olt main_v0 main_v1
  let main_c : IVec S_ 1 := constantI S_ 1 1#1
  let main_v3 : IVec S_ 1 := (fun x v => Host.reduce IntOp.andi x v reducesTo_S1x4096x4x1x192_S_d0_1_2_3_4 h_S_) main_v2 main_c
  let main_v4 : FVec F S1x4096x4x192 .f32 := Host.absf main_arg1
  let main_cst_0 : FVec F S_ .f32 := constant S_ .f32 0x7F800000#32
  let main_v5 : FVec F S1x4096x4x192 .f32 := broadcastInDim S1x4096x4x192 ![] bcast_S_S1x4096x4x192 main_cst_0
  let main_v6 : IVec S1x4096x4x192 1 := cmpf .olt main_v4 main_v5
  let main_c_1 : IVec S_ 1 := constantI S_ 1 1#1
  let main_v7 : IVec S_ 1 := (fun x v => Host.reduce IntOp.andi x v reducesTo_S1x4096x4x192_S_d0_1_2_3 h_S_) main_v6 main_c_1
  let main_v8 : IVec S_ 1 := andi main_v3 main_v7
  let main_v9 : FVec F S1x4096x4x128 .f32 := Host.absf main_arg2
  let main_cst_2 : FVec F S_ .f32 := constant S_ .f32 0x7F800000#32
  let main_v10 : FVec F S1x4096x4x128 .f32 := broadcastInDim S1x4096x4x128 ![] bcast_S_S1x4096x4x128 main_cst_2
  let main_v11 : IVec S1x4096x4x128 1 := cmpf .olt main_v9 main_v10
  let main_c_3 : IVec S_ 1 := constantI S_ 1 1#1
  let main_v12 : IVec S_ 1 := (fun x v => Host.reduce IntOp.andi x v reducesTo_S1x4096x4x128_S_d0_1_2_3 h_S_) main_v11 main_c_3
  let main_v13 : IVec S_ 1 := andi main_v8 main_v12
  main_v13
-- ==== Pre_flfc_finite.lean ====
abbrev S1x4096x2x3x128 : Shape := ⟨5, ![1, 4096, 2, 3, 128]⟩
abbrev S1x4096x2x128 : Shape := ⟨4, ![1, 4096, 2, 128]⟩
abbrev S_ : Shape := ⟨0, ![]⟩

class Facts : Prop where
  bcast_S_S1x4096x2x3x128 : S_.BroadcastsInDim S1x4096x2x3x128 (![] : Fin 0 → Fin S1x4096x2x3x128.rank)
  reducesTo_S1x4096x2x3x128_S_d0_1_2_3_4 : S1x4096x2x3x128.ReducesTo [0, 1, 2, 3, 4] S_
  h_S_ : 0 < S_.numel
  bcast_S_S1x4096x2x128 : S_.BroadcastsInDim S1x4096x2x128 (![] : Fin 0 → Fin S1x4096x2x128.rank)
  reducesTo_S1x4096x2x128_S_d0_1_2_3 : S1x4096x2x128.ReducesTo [0, 1, 2, 3] S_

variable [Facts]

def fn {F : FTy → Type} [FloatOps F] (main_arg0 : FVec F S1x4096x2x3x128 .f32) (main_arg1 : FVec F S1x4096x2x128 .f32) (main_arg2 : FVec F S1x4096x2x128 .f32) : IVec S_ 1 :=
  let main_v0 : FVec F S1x4096x2x3x128 .f32 := Host.absf main_arg0
  let main_cst : FVec F S_ .f32 := constant S_ .f32 0x7F800000#32
  let main_v1 : FVec F S1x4096x2x3x128 .f32 := broadcastInDim S1x4096x2x3x128 ![] bcast_S_S1x4096x2x3x128 main_cst
  let main_v2 : IVec S1x4096x2x3x128 1 := cmpf .olt main_v0 main_v1
  let main_c : IVec S_ 1 := constantI S_ 1 1#1
  let main_v3 : IVec S_ 1 := (fun x v => Host.reduce IntOp.andi x v reducesTo_S1x4096x2x3x128_S_d0_1_2_3_4 h_S_) main_v2 main_c
  let main_v4 : FVec F S1x4096x2x128 .f32 := Host.absf main_arg1
  let main_cst_0 : FVec F S_ .f32 := constant S_ .f32 0x7F800000#32
  let main_v5 : FVec F S1x4096x2x128 .f32 := broadcastInDim S1x4096x2x128 ![] bcast_S_S1x4096x2x128 main_cst_0
  let main_v6 : IVec S1x4096x2x128 1 := cmpf .olt main_v4 main_v5
  let main_c_1 : IVec S_ 1 := constantI S_ 1 1#1
  let main_v7 : IVec S_ 1 := (fun x v => Host.reduce IntOp.andi x v reducesTo_S1x4096x2x128_S_d0_1_2_3 h_S_) main_v6 main_c_1
  let main_v8 : IVec S_ 1 := andi main_v3 main_v7
  let main_v9 : FVec F S1x4096x2x128 .f32 := Host.absf main_arg2
  let main_cst_2 : FVec F S_ .f32 := constant S_ .f32 0x7F800000#32
  let main_v10 : FVec F S1x4096x2x128 .f32 := broadcastInDim S1x4096x2x128 ![] bcast_S_S1x4096x2x128 main_cst_2
  let main_v11 : IVec S1x4096x2x128 1 := cmpf .olt main_v9 main_v10
  let main_c_3 : IVec S_ 1 := constantI S_ 1 1#1
  let main_v12 : IVec S_ 1 := (fun x v => Host.reduce IntOp.andi x v reducesTo_S1x4096x2x128_S_d0_1_2_3 h_S_) main_v11 main_c_3
  let main_v13 : IVec S_ 1 := andi main_v8 main_v12
  main_v13
-- ==== Pre_gate_finite.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x5632 .f32) (main_arg1 : FVec F S4096x5632 .f32) (main_arg2 : FVec F S5632x2048 .f32) (main_arg3 : FVec F S4096x2048 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S4096x5632 .f32 := Host.absf main_arg1
  let main_cst_0 : FVec F S_ .f32 := constant S_ .f32 0x7F800000#32
  let main_v5 : FVec F S4096x5632 .f32 := broadcastInDim S4096x5632 ![] bcast_S_S4096x5632 main_cst_0
  let main_v6 : IVec S4096x5632 1 := cmpf .olt main_v4 main_v5
  let main_c_1 : IVec S_ 1 := constantI S_ 1 1#1
  let main_v7 : IVec S_ 1 := (fun x v => Host.reduce IntOp.andi x v reducesTo_S4096x5632_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Pre_lat_finite.lean ====
abbrev S1x4096x4x192 : Shape := ⟨4, ![1, 4096, 4, 192]⟩
abbrev S1x4096x4x128 : Shape := ⟨4, ![1, 4096, 4, 128]⟩
abbrev S_ : Shape := ⟨0, ![]⟩

class Facts : Prop where
  bcast_S_S1x4096x4x192 : S_.BroadcastsInDim S1x4096x4x192 (![] : Fin 0 → Fin S1x4096x4x192.rank)
  reducesTo_S1x4096x4x192_S_d0_1_2_3 : S1x4096x4x192.ReducesTo [0, 1, 2, 3] S_
  h_S_ : 0 < S_.numel

variable [Facts]

def fn {F : FTy → Type} [FloatOps F] (main_arg0 : FVec F S1x4096x4x192 .f32) (main_arg1 : FVec F S1x4096x4x128 .f32) : IVec S_ 1 :=
  let main_v0 : FVec F S1x4096x4x192 .f32 := Host.absf main_arg0
  let main_cst : FVec F S_ .f32 := constant S_ .f32 0x7F800000#32
  let main_v1 : FVec F S1x4096x4x192 .f32 := broadcastInDim S1x4096x4x192 ![] bcast_S_S1x4096x4x192 main_cst
  let main_v2 : IVec S1x4096x4x192 1 := cmpf .olt main_v0 main_v1
  let main_c : IVec S_ 1 := constantI S_ 1 1#1
  let main_v3 : IVec S_ 1 := (fun x v => Host.reduce IntOp.andi x v reducesTo_S1x4096x4x192_S_d0_1_2_3 h_S_) main_v2 main_c
  main_v3
-- ==== Pre_loss_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048 .f32) (main_arg2 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Pre_norm_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048 .f32) (main_arg2 : FVec F S4096x2048 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Pre_norma_finite.lean ====
abbrev S4096x512 : Shape := ⟨2, ![4096, 512]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S4096x512 .f32) (main_arg1 : FVec F S512 .f32) (main_arg2 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  main_v13
-- ==== Pre_normb_finite.lean ====
abbrev S4096x768 : Shape := ⟨2, ![4096, 768]⟩
abbrev S768 : Shape := ⟨1, ![768]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S768 : S_.BroadcastsInDim S768 (![] : Fin 0 → Fin S768.rank)
  reducesTo_S768_S_d0 : S768.ReducesTo [0] S_

variable [Facts]

def fn {F : FTy → Type} [FloatOps F] (main_arg0 : FVec F S4096x768 .f32) (main_arg1 : FVec F S768 .f32) (main_arg2 : FVec F S4096x768 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S4096x768 .f32 := Host.absf main_arg2
  let main_cst_2 : FVec F S_ .f32 := constant S_ .f32 0x7F800000#32
  let main_v10 : FVec F S4096x768 .f32 := broadcastInDim S4096x768 ![] bcast_S_S4096x768 main_cst_2
  let main_v11 : IVec S4096x768 1 := cmpf .olt main_v9 main_v10
  let main_c_3 : IVec S_ 1 := constantI S_ 1 1#1
  let main_v12 : IVec S_ 1 := (fun x v => Host.reduce IntOp.andi x v reducesTo_S4096x768_S_d0_1 h_S_) main_v11 main_c_3
  let main_v13 : IVec S_ 1 := andi main_v8 main_v12
  main_v13
-- ==== Pre_normck_finite.lean ====
abbrev S4096x2x128 : Shape := ⟨3, ![4096, 2, 128]⟩
abbrev S128 : Shape := ⟨1, ![128]⟩
abbrev S_ : Shape := ⟨0, ![]⟩

class Facts : Prop where
  bcast_S_S4096x2x128 : S_.BroadcastsInDim S4096x2x128 (![] : Fin 0 → Fin S4096x2x128.rank)
  reducesTo_S4096x2x128_S_d0_1_2 : S4096x2x128.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S4096x2x128 .f32) (main_arg1 : FVec F S128 .f32) (main_arg2 : FVec F S4096x2x128 .f32) : IVec S_ 1 :=
  let main_v0 : FVec F S4096x2x128 .f32 := Host.absf main_arg0
  let main_cst : FVec F S_ .f32 := constant S_ .f32 0x7F800000#32
  let main_v1 : FVec F S4096x2x128 .f32 := broadcastInDim S4096x2x128 ![] bcast_S_S4096x2x128 main_cst
  let main_v2 : IVec S4096x2x128 1 := cmpf .olt main_v0 main_v1
  let main_c : IVec S_ 1 := constantI S_ 1 1#1
  let main_v3 : IVec S_ 1 := (fun x v => Host.reduce IntOp.andi x v reducesTo_S4096x2x128_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S4096x2x128 .f32 := Host.absf main_arg2
  let main_cst_2 : FVec F S_ .f32 := constant S_ .f32 0x7F800000#32
  let main_v10 : FVec F S4096x2x128 .f32 := broadcastInDim S4096x2x128 ![] bcast_S_S4096x2x128 main_cst_2
  let main_v11 : IVec S4096x2x128 1 := cmpf .olt main_v9 main_v10
  let main_c_3 : IVec S_ 1 := constantI S_ 1 1#1
  let main_v12 : IVec S_ 1 := (fun x v => Host.reduce IntOp.andi x v reducesTo_S4096x2x128_S_d0_1_2 h_S_) main_v11 main_c_3
  let main_v13 : IVec S_ 1 := andi main_v8 main_v12
  main_v13
-- ==== Pre_normcq_finite.lean ====
abbrev S4096x6x128 : Shape := ⟨3, ![4096, 6, 128]⟩
abbrev S128 : Shape := ⟨1, ![128]⟩
abbrev S_ : Shape := ⟨0, ![]⟩

class Facts : Prop where
  bcast_S_S4096x6x128 : S_.BroadcastsInDim S4096x6x128 (![] : Fin 0 → Fin S4096x6x128.rank)
  reducesTo_S4096x6x128_S_d0_1_2 : S4096x6x128.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S4096x6x128 .f32) (main_arg1 : FVec F S128 .f32) (main_arg2 : FVec F S4096x6x128 .f32) : IVec S_ 1 :=
  let main_v0 : FVec F S4096x6x128 .f32 := Host.absf main_arg0
  let main_cst : FVec F S_ .f32 := constant S_ .f32 0x7F800000#32
  let main_v1 : FVec F S4096x6x128 .f32 := broadcastInDim S4096x6x128 ![] bcast_S_S4096x6x128 main_cst
  let main_v2 : IVec S4096x6x128 1 := cmpf .olt main_v0 main_v1
  let main_c : IVec S_ 1 := constantI S_ 1 1#1
  let main_v3 : IVec S_ 1 := (fun x v => Host.reduce IntOp.andi x v reducesTo_S4096x6x128_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S4096x6x128 .f32 := Host.absf main_arg2
  let main_cst_2 : FVec F S_ .f32 := constant S_ .f32 0x7F800000#32
  let main_v10 : FVec F S4096x6x128 .f32 := broadcastInDim S4096x6x128 ![] bcast_S_S4096x6x128 main_cst_2
  let main_v11 : IVec S4096x6x128 1 := cmpf .olt main_v9 main_v10
  let main_c_3 : IVec S_ 1 := constantI S_ 1 1#1
  let main_v12 : IVec S_ 1 := (fun x v => Host.reduce IntOp.andi x v reducesTo_S4096x6x128_S_d0_1_2 h_S_) main_v11 main_c_3
  let main_v13 : IVec S_ 1 := andi main_v8 main_v12
  main_v13
-- ==== Pre_normq_finite.lean ====
abbrev S4096x512 : Shape := ⟨2, ![4096, 512]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S4096x512 .f32) (main_arg1 : FVec F S512 .f32) (main_arg2 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  main_v13
-- ==== GateK.lean ====
abbrev S4096x5632 : Shape := ⟨2, ![4096, 5632]⟩
abbrev S5632x2048 : Shape := ⟨2, ![5632, 2048]⟩
abbrev S4096x2048 : Shape := ⟨2, ![4096, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S5632x2048, .f32⟩
  | .hbm, ⟨3, _⟩ => ⟨S4096x2048, .f32⟩
  | .hbm, ⟨4, _⟩ => ⟨S4096x2048, .bf16⟩
  | .hbm, ⟨5, _⟩ => ⟨S5632x2048, .bf16⟩
  | .hbm, ⟨6, _⟩ => ⟨S4096x5632, .bf16⟩
  | .hbm, ⟨7, _⟩ => ⟨S4096x5632, .bf16⟩
  | .hbm, ⟨8, _⟩ => ⟨S4096x5632, .bf16⟩
  | .hbm, ⟨9, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S5632x2048, .f32⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x2048, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .bf16⟩
  | .hbm, ⟨27, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== FlaCK.lean ====
abbrev S1x4096x2x3x128 : Shape := ⟨5, ![1, 4096, 2, 3, 128]⟩
abbrev S1x4096x2x128 : Shape := ⟨4, ![1, 4096, 2, 128]⟩
abbrev S4096x768 : Shape := ⟨2, ![4096, 768]⟩
abbrev S4096x256 : Shape := ⟨2, ![4096, 256]⟩
abbrev S6x4096x128 : Shape := ⟨3, ![6, 4096, 128]⟩
abbrev S1024x128 : Shape := ⟨2, ![1024, 128]⟩
abbrev S4096x128 : Shape := ⟨2, ![4096, 128]⟩
abbrev S1x1024x128 : Shape := ⟨3, ![1, 1024, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S1x256x128 : Shape := ⟨3, ![1, 256, 128]⟩
abbrev S1x256x1 : Shape := ⟨3, ![1, 256, 1]⟩

abbrev nBuf : Space → Nat
  | .hbm => 16
  | .vmem => 28
  | .smem => 0
  | _ => 0

abbrev bufTy : (tb : Table) → Fin (tcTables nBuf tb) → BufTy
  | .hbm, ⟨0, _⟩ => ⟨S1x4096x2x3x128, .f32⟩
  | .hbm, ⟨1, _⟩ => ⟨S1x4096x2x128, .f32⟩
  | .hbm, ⟨2, _⟩ => ⟨S1x4096x2x128, .f32⟩
  | .hbm, ⟨3, _⟩ => ⟨S1x4096x2x3x128, .f32⟩
  | .hbm, ⟨4, _⟩ => ⟨S4096x768, .f32⟩
  | .hbm, ⟨5, _⟩ => ⟨S4096x768, .bf16⟩
  | .hbm, ⟨6, _⟩ => ⟨S4096x256, .f32⟩
  | .hbm, ⟨7, _⟩ => ⟨S4096x256, .bf16⟩
  | .hbm, ⟨8, _⟩ => ⟨S4096x256, .f32⟩
  | .hbm, ⟨9, _⟩ => ⟨S4096x256, .bf16⟩
  | .hbm, ⟨10, _⟩ => ⟨S4096x768, .f32⟩
  | .hbm, ⟨11, _⟩ => ⟨S6x4096x128, .f32⟩
  | .hbm, ⟨12, _⟩ => ⟨S4096x768, .f32⟩
  | .hbm, ⟨13, _⟩ => ⟨S4096x768, .f32⟩
  | .hbm, ⟨14, _⟩ => ⟨S4096x256, .f32⟩
  | .hbm, ⟨15, _⟩ => ⟨S4096x256, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x128, .bf16⟩
  | .local _ .vmem, ⟨11, _⟩ => ⟨S1024x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x1024x128, .f32⟩
  | .local _ .vmem, ⟨21, _⟩ => ⟨S1x1024x128, .f32⟩
  | .local _ .vmem, ⟨22, _⟩ => ⟨S1024x128, .f32⟩
  | .local _ .vmem, ⟨23, _⟩ => ⟨S1024x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | _, _ => ⟨S1x4096x2x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  ![c0_i32_5.toNat, v17.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli c1_i32_4 v16
  let c0_i32_5 : BitVec 32 := 0#32
  let v18 : BitVec 32 := Scalar.addi c0_i32_5 v17
  let c0_i32_6 : BitVec 32 := 0#32
  let c0_i32_7 : BitVec 32 := 0#32
  ![c0_i32_6.toNat, v18.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![6, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  ![c0_i32_5.toNat, v17.toNat]

def cc1_transform_2 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli c1_i32_4 v16
  let c0_i32_5 : BitVec 32 := 0#32
  let v18 : BitVec 32 := Scalar.addi c0_i32_5 v17
  let c0_i32_6 : BitVec 32 := 0#32
  let c0_i32_7 : BitVec 32 := 0#32
  ![c0_i32_6.toNat, v18.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc1_transform_8 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== FlaCKIdeal.lean ====
variable {F : FTy → Type} [FloatOps F] [Named F]
def κ : String → Option EReal := fun
  | "c" => some (((Real.sqrt 128)⁻¹ * (Real.log 2)⁻¹ : ℝ) : EReal)
  | "log2e" => some (((Real.log 2)⁻¹ : ℝ) : EReal)
  | "s" => some (((Real.sqrt 128)⁻¹ : ℝ) : EReal)
  | _ => none
-- ==== FlaCRIdeal.lean ====
abbrev S1x4096x2x3x128 : Shape := ⟨5, ![1, 4096, 2, 3, 128]⟩
abbrev S1x4096x2x128 : Shape := ⟨4, ![1, 4096, 2, 128]⟩
abbrev S_ : Shape := ⟨0, ![]⟩
abbrev S1x2x4096x4096x3 : Shape := ⟨5, ![1, 2, 4096, 4096, 3]⟩
abbrev S1x2x3x4096x4096 : Shape := ⟨5, ![1, 2, 3, 4096, 4096]⟩
abbrev S1x2x3x4096 : Shape := ⟨4, ![1, 2, 3, 4096]⟩
abbrev S1x2x3x4096x1 : Shape := ⟨5, ![1, 2, 3, 4096, 1]⟩
abbrev S1x2x128x3x4096 : Shape := ⟨5, ![1, 2, 128, 3, 4096]⟩
abbrev S1x2x128x4096 : Shape := ⟨4, ![1, 2, 128, 4096]⟩
abbrev S2x3x4096 : Shape := ⟨3, ![2, 3, 4096]⟩
abbrev S1x2x4096x3x128 : Shape := ⟨5, ![1, 2, 4096, 3, 128]⟩
abbrev S1x2x4096x128 : Shape := ⟨4, ![1, 2, 4096, 128]⟩
abbrev S4096x768 : Shape := ⟨2, ![4096, 768]⟩
abbrev S4096x256 : Shape := ⟨2, ![4096, 256]⟩

abbrev nBuf : Space → Nat
  | .hbm => 81
  | .vmem => 0
  | .smem => 0
  | _ => 0

abbrev bufTy : (tb : Table) → Fin (tcTables nBuf tb) → BufTy
  | .hbm, ⟨0, _⟩ => ⟨S1x4096x2x3x128, .f32⟩
  | .hbm, ⟨1, _⟩ => ⟨S1x4096x2x128, .f32⟩
  | .hbm, ⟨2, _⟩ => ⟨S1x4096x2x128, .f32⟩
  | .hbm, ⟨3, _⟩ => ⟨S1x4096x2x3x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x2x4096x4096x3, .f32⟩
  | .hbm, ⟨9, _⟩ => ⟨S1x2x3x4096x4096, .f32⟩
  | .hbm, ⟨10, _⟩ => ⟨S1x2x3x4096x4096, .f32⟩
  | .hbm, ⟨11, _⟩ => ⟨S1x2x3x4096x4096, .f32⟩
  | .hbm, ⟨12, _⟩ => ⟨S_, .f32⟩
  | .hbm, ⟨13, _⟩ => ⟨S1x2x3x4096, .f32⟩
  | .hbm, ⟨14, _⟩ => ⟨S1x2x3x4096x1, .f32⟩
  | .hbm, ⟨15, _⟩ => ⟨S1x2x3x4096x4096, .f32⟩
  | .hbm, ⟨16, _⟩ => ⟨S1x2x3x4096x4096, .i1⟩
  | .hbm, ⟨17, _⟩ => ⟨S1x2x3x4096x4096, .f32⟩
  | .hbm, ⟨18, _⟩ => ⟨S_, .f32⟩
  | .hbm, ⟨19, _⟩ => ⟨S1x2x3x4096, .f32⟩
  | .hbm, ⟨20, _⟩ => ⟨S_, .f32⟩
  | .hbm, ⟨21, _⟩ => ⟨S1x2x3x4096, .f32⟩
  | .hbm, ⟨22, _⟩ => ⟨S1x2x3x4096, .f32⟩
  | .hbm, ⟨23, _⟩ => ⟨S_, .f32⟩
  | .hbm, ⟨24, _⟩ => ⟨S1x2x3x4096, .f32⟩
  | .hbm, ⟨25, _⟩ => ⟨S1x2x3x4096, .i1⟩
  | .hbm, ⟨26, _⟩ => ⟨S_, .f32⟩
  | .hbm, ⟨27, _⟩ => ⟨S1x2x3x4096, .f32⟩
  | .hbm, ⟨28, _⟩ => ⟨S1x2x3x4096, .i1⟩
  | .hbm, ⟨29, _⟩ => ⟨S_, .f32⟩
  | .hbm, ⟨30, _⟩ => ⟨S1x2x3x4096, .f32⟩
  | .hbm, ⟨31, _⟩ => ⟨S_, .f32⟩
  | .hbm, ⟨32, _⟩ => ⟨S1x2x3x4096, .f32⟩
  | .hbm, ⟨33, _⟩ => ⟨S_, .f32⟩
  | .hbm, ⟨34, _⟩ => ⟨S1x2x3x4096, .f32⟩
  | .hbm, ⟨35, _⟩ => ⟨S1x2x3x4096, .f32⟩
  | .hbm, ⟨36, _⟩ => ⟨S1x2x3x4096, .f32⟩
  | .hbm, ⟨37, _⟩ => ⟨S1x2x3x4096x1, .f32⟩
  | .hbm, ⟨38, _⟩ => ⟨S1x2x3x4096x4096, .f32⟩
  | .hbm, ⟨39, _⟩ => ⟨S1x2x3x4096x4096, .f32⟩
  | .hbm, ⟨40, _⟩ => ⟨S1x2x3x4096x4096, .f32⟩
  | .hbm, ⟨41, _⟩ => ⟨S_, .f32⟩
  | .hbm, ⟨42, _⟩ => ⟨S1x2x3x4096, .f32⟩
  | .hbm, ⟨43, _⟩ => ⟨S1x2x3x4096x1, .f32⟩
  | .hbm, ⟨44, _⟩ => ⟨S1x2x3x4096x4096, .f32⟩
  | .hbm, ⟨45, _⟩ => ⟨S1x2x3x4096x4096, .f32⟩
  | .hbm, ⟨46, _⟩ => ⟨S1x2x3x4096x1, .f32⟩
  | .hbm, ⟨47, _⟩ => ⟨S_, .f32⟩
  | .hbm, ⟨48, _⟩ => ⟨S1x2x3x4096x1, .f32⟩
  | .hbm, ⟨49, _⟩ => ⟨S1x2x3x4096x1, .f32⟩
  | .hbm, ⟨50, _⟩ => ⟨S1x2x128x3x4096, .f32⟩
  | .hbm, ⟨51, _⟩ => ⟨S1x4096x2x3x128, .f32⟩
  | .hbm, ⟨52, _⟩ => ⟨S1x2x128x3x4096, .f32⟩
  | .hbm, ⟨53, _⟩ => ⟨S1x2x3x4096x4096, .f32⟩
  | .hbm, ⟨54, _⟩ => ⟨S1x2x128x4096, .f32⟩
  | .hbm, ⟨55, _⟩ => ⟨S1x4096x2x128, .f32⟩
  | .hbm, ⟨56, _⟩ => ⟨S1x2x3x4096x4096, .f32⟩
  | .hbm, ⟨57, _⟩ => ⟨S1x2x3x4096x4096, .f32⟩
  | .hbm, ⟨58, _⟩ => ⟨S1x2x3x4096x4096, .f32⟩
  | .hbm, ⟨59, _⟩ => ⟨S_, .f32⟩
  | .hbm, ⟨60, _⟩ => ⟨S1x2x3x4096, .f32⟩
  | .hbm, ⟨61, _⟩ => ⟨S1x2x3x4096x1, .f32⟩
  | .hbm, ⟨62, _⟩ => ⟨S1x2x3x4096x1, .f32⟩
  | .hbm, ⟨63, _⟩ => ⟨S1x2x3x4096x4096, .f32⟩
  | .hbm, ⟨64, _⟩ => ⟨S1x2x3x4096x4096, .f32⟩
  | .hbm, ⟨65, _⟩ => ⟨S_, .f32⟩
  | .hbm, ⟨66, _⟩ => ⟨S2x3x4096, .f32⟩
  | .hbm, ⟨67, _⟩ => ⟨S1x2x3x4096, .f32⟩
  | .hbm, ⟨68, _⟩ => ⟨S1x2x3x4096x4096, .f32⟩
  | .hbm, ⟨69, _⟩ => ⟨S1x2x3x4096x4096, .f32⟩
  | .hbm, ⟨70, _⟩ => ⟨S1x2x3x4096x4096, .f32⟩
  | .hbm, ⟨71, _⟩ => ⟨S1x2x3x4096x4096, .f32⟩
  | .hbm, ⟨72, _⟩ => ⟨S1x2x3x4096x4096, .f32⟩
  | .hbm, ⟨73, _⟩ => ⟨S1x2x4096x4096x3, .f32⟩
  | .hbm, ⟨74, _⟩ => ⟨S1x2x4096x3x128, .f32⟩
  | .hbm, ⟨75, _⟩ => ⟨S1x4096x2x3x128, .f32⟩
  | .hbm, ⟨76, _⟩ => ⟨S1x2x4096x128, .f32⟩
  | .hbm, ⟨77, _⟩ => ⟨S1x4096x2x128, .f32⟩
  | .hbm, ⟨78, _⟩ => ⟨S4096x768, .f32⟩
  | .hbm, ⟨79, _⟩ => ⟨S4096x256, .f32⟩
  | .hbm, ⟨80, _⟩ => ⟨S4096x256, .f32⟩
  | _, _ => ⟨S1x4096x2x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== FlaAK.lean ====
abbrev S1x4096x4x1x192 : Shape := ⟨5, ![1, 4096, 4, 1, 192]⟩
abbrev S1x4096x4x192 : Shape := ⟨4, ![1, 4096, 4, 192]⟩
abbrev S1x4096x4x128 : Shape := ⟨4, ![1, 4096, 4, 128]⟩
abbrev S1x4096x4x1x128 : Shape := ⟨5, ![1, 4096, 4, 1, 128]⟩
abbrev S4096x4x192 : Shape := ⟨3, ![4096, 4, 192]⟩
abbrev S_ : Shape := ⟨0, ![]⟩
abbrev S4096x4x256 : Shape := ⟨3, ![4096, 4, 256]⟩
abbrev S4096x1024 : Shape := ⟨2, ![4096, 1024]⟩
abbrev S4096x4x128 : Shape := ⟨3, ![4096, 4, 128]⟩
abbrev S4096x512 : Shape := ⟨2, ![4096, 512]⟩
abbrev S4x4096x128 : Shape := ⟨3, ![4, 4096, 128]⟩
abbrev S1024x256 : Shape := ⟨2, ![1024, 256]⟩
abbrev S4096x256 : Shape := ⟨2, ![4096, 256]⟩
abbrev S4096x128 : Shape := ⟨2, ![4096, 128]⟩
abbrev S1024x128 : Shape := ⟨2, ![1024, 128]⟩
abbrev S1x1024x128 : Shape := ⟨3, ![1, 1024, 128]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S1x256x1 : Shape := ⟨3, ![1, 256, 1]⟩

abbrev nBuf : Space → Nat
  | .hbm => 28
  | .vmem => 28
  | .smem => 0
  | _ => 0

abbrev bufTy : (tb : Table) → Fin (tcTables nBuf tb) → BufTy
  | .hbm, ⟨0, _⟩ => ⟨S1x4096x4x1x192, .f32⟩
  | .hbm, ⟨1, _⟩ => ⟨S1x4096x4x192, .f32⟩
  | .hbm, ⟨2, _⟩ => ⟨S1x4096x4x128, .f32⟩
  | .hbm, ⟨3, _⟩ => ⟨S1x4096x4x1x128, .f32⟩
  | .hbm, ⟨4, _⟩ => ⟨S4096x4x192, .f32⟩
  | .hbm, ⟨5, _⟩ => ⟨S_, .i32⟩
  | .hbm, ⟨6, _⟩ => ⟨S_, .f32⟩
  | .hbm, ⟨7, _⟩ => ⟨S4096x4x256, .f32⟩
  | .hbm, ⟨8, _⟩ => ⟨S4096x1024, .f32⟩
  | .hbm, ⟨9, _⟩ => ⟨S4096x1024, .bf16⟩
  | .hbm, ⟨10, _⟩ => ⟨S4096x4x192, .f32⟩
  | .hbm, ⟨11, _⟩ => ⟨S_, .i32⟩
  | .hbm, ⟨12, _⟩ => ⟨S_, .f32⟩
  | .hbm, ⟨13, _⟩ => ⟨S4096x4x256, .f32⟩
  | .hbm, ⟨14, _⟩ => ⟨S4096x1024, .f32⟩
  | .hbm, ⟨15, _⟩ => ⟨S4096x1024, .bf16⟩
  | .hbm, ⟨16, _⟩ => ⟨S_, .f32⟩
  | .hbm, ⟨17, _⟩ => ⟨S4096x4x128, .f32⟩
  | .hbm, ⟨18, _⟩ => ⟨S4096x4x128, .f32⟩
  | .hbm, ⟨19, _⟩ => ⟨S4096x4x256, .f32⟩
  | .hbm, ⟨20, _⟩ => ⟨S4096x1024, .f32⟩
  | .hbm, ⟨21, _⟩ => ⟨S4096x1024, .bf16⟩
  | .hbm, ⟨22, _⟩ => ⟨S4096x512, .f32⟩
  | .hbm, ⟨23, _⟩ => ⟨S4x4096x128, .f32⟩
  | .hbm, ⟨24, _⟩ => ⟨S4096x512, .f32⟩
  | .hbm, ⟨25, _⟩ => ⟨S4096x1024, .f32⟩
  | .hbm, ⟨26, _⟩ => ⟨S4096x1024, .f32⟩
  | .hbm, ⟨27, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x256, .bf16⟩
  | .local _ .vmem, ⟨11, _⟩ => ⟨S1024x256, .bf16⟩
  | .local _ .vmem, ⟨12, _⟩ => ⟨S4096x256, .bf16⟩
  | .local _ .vmem, ⟨13, _⟩ => ⟨S4096x256, .bf16⟩
  | .local _ .vmem, ⟨14, _⟩ => ⟨S4096x128, .bf16⟩
  | .local _ .vmem, ⟨15, _⟩ => ⟨S4096x128, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x1024x128, .f32⟩
  | .local _ .vmem, ⟨21, _⟩ => ⟨S1x1024x128, .f32⟩
  | .local _ .vmem, ⟨22, _⟩ => ⟨S1024x256, .f32⟩
  | .local _ .vmem, ⟨23, _⟩ => ⟨S1024x256, .f32⟩
  | .local _ .vmem, ⟨24, _⟩ => ⟨S4096x256, .f32⟩
  | .local _ .vmem, ⟨25, _⟩ => ⟨S4096x256, .f32⟩
  | .local _ .vmem, ⟨26, _⟩ => ⟨S4096x128, .f32⟩
  | .local _ .vmem, ⟨27, _⟩ => ⟨S4096x128, .f32⟩
  | _, _ => ⟨S1x4096x4x1x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c0_i32_6 : BitVec 32 := 0#32
  let c0_i32_7 : BitVec 32 := 0#32
  ![c0_i32_6.toNat, v17.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.addi c1_i32_5 v17
  let c0_i32_6 : BitVec 32 := 0#32
  let c0_i32_7 : BitVec 32 := 0#32
  ![c0_i32_6.toNat, v18.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c0_i32_6 : BitVec 32 := 0#32
  let c0_i32_7 : BitVec 32 := 0#32
  ![c0_i32_6.toNat, v17.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.addi c1_i32_5 v17
  let c0_i32_6 : BitVec 32 := 0#32
  let c0_i32_7 : BitVec 32 := 0#32
  ![c0_i32_6.toNat, v18.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc1_transform_8 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4096x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== FlaAKIdeal.lean ====
variable {F : FTy → Type} [FloatOps F] [Named F]
def κ : String → Option EReal := fun
  | "c" => some (((Real.sqrt 192)⁻¹ * (Real.log 2)⁻¹ : ℝ) : EReal)
  | "log2e" => some (((Real.log 2)⁻¹ : ℝ) : EReal)
  | "s" => some (((Real.sqrt 192)⁻¹ : ℝ) : EReal)
  | _ => none
-- ==== FlaARIdeal.lean ====
abbrev S1x4096x4x1x192 : Shape := ⟨5, ![1, 4096, 4, 1, 192]⟩
abbrev S1x4096x4x192 : Shape := ⟨4, ![1, 4096, 4, 192]⟩
abbrev S1x4096x4x128 : Shape := ⟨4, ![1, 4096, 4, 128]⟩
abbrev S1x4096x4x1x128 : Shape := ⟨5, ![1, 4096, 4, 1, 128]⟩
abbrev S_ : Shape := ⟨0, ![]⟩
abbrev S1x4x4096x4096x1 : Shape := ⟨5, ![1, 4, 4096, 4096, 1]⟩
abbrev S1x4x1x4096x4096 : Shape := ⟨5, ![1, 4, 1, 4096, 4096]⟩
abbrev S1x4x1x4096 : Shape := ⟨4, ![1, 4, 1, 4096]⟩
abbrev S1x4x1x4096x1 : Shape := ⟨5, ![1, 4, 1, 4096, 1]⟩
abbrev S1x4x128x1x4096 : Shape := ⟨5, ![1, 4, 128, 1, 4096]⟩
abbrev S1x4x128x4096 : Shape := ⟨4, ![1, 4, 128, 4096]⟩
abbrev S4x4096 : Shape := ⟨2, ![4, 4096]⟩
abbrev S1x4x4096x1x192 : Shape := ⟨5, ![1, 4, 4096, 1, 192]⟩
abbrev S1x4x4096x192 : Shape := ⟨4, ![1, 4, 4096, 192]⟩
abbrev S4096x4x192 : Shape := ⟨3, ![4096, 4, 192]⟩
abbrev S4096x4x256 : Shape := ⟨3, ![4096, 4, 256]⟩
abbrev S4096x1024 : Shape := ⟨2, ![4096, 1024]⟩
abbrev S4096x512 : Shape := ⟨2, ![4096, 512]⟩

abbrev nBuf : Space → Nat
  | .hbm => 89
  | .vmem => 0
  | .smem => 0
  | _ => 0

abbrev bufTy : (tb : Table) → Fin (tcTables nBuf tb) → BufTy
  | .hbm, ⟨0, _⟩ => ⟨S1x4096x4x1x192, .f32⟩
  | .hbm, ⟨1, _⟩ => ⟨S1x4096x4x192, .f32⟩
  | .hbm, ⟨2, _⟩ => ⟨S1x4096x4x128, .f32⟩
  | .hbm, ⟨3, _⟩ => ⟨S1x4096x4x1x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x4x4096x4096x1, .f32⟩
  | .hbm, ⟨9, _⟩ => ⟨S1x4x1x4096x4096, .f32⟩
  | .hbm, ⟨10, _⟩ => ⟨S1x4x1x4096x4096, .f32⟩
  | .hbm, ⟨11, _⟩ => ⟨S1x4x1x4096x4096, .f32⟩
  | .hbm, ⟨12, _⟩ => ⟨S_, .f32⟩
  | .hbm, ⟨13, _⟩ => ⟨S1x4x1x4096, .f32⟩
  | .hbm, ⟨14, _⟩ => ⟨S1x4x1x4096x1, .f32⟩
  | .hbm, ⟨15, _⟩ => ⟨S1x4x1x4096x4096, .f32⟩
  | .hbm, ⟨16, _⟩ => ⟨S1x4x1x4096x4096, .i1⟩
  | .hbm, ⟨17, _⟩ => ⟨S1x4x1x4096x4096, .f32⟩
  | .hbm, ⟨18, _⟩ => ⟨S_, .f32⟩
  | .hbm, ⟨19, _⟩ => ⟨S1x4x1x4096, .f32⟩
  | .hbm, ⟨20, _⟩ => ⟨S_, .f32⟩
  | .hbm, ⟨21, _⟩ => ⟨S1x4x1x4096, .f32⟩
  | .hbm, ⟨22, _⟩ => ⟨S1x4x1x4096, .f32⟩
  | .hbm, ⟨23, _⟩ => ⟨S_, .f32⟩
  | .hbm, ⟨24, _⟩ => ⟨S1x4x1x4096, .f32⟩
  | .hbm, ⟨25, _⟩ => ⟨S1x4x1x4096, .i1⟩
  | .hbm, ⟨26, _⟩ => ⟨S_, .f32⟩
  | .hbm, ⟨27, _⟩ => ⟨S1x4x1x4096, .f32⟩
  | .hbm, ⟨28, _⟩ => ⟨S1x4x1x4096, .i1⟩
  | .hbm, ⟨29, _⟩ => ⟨S_, .f32⟩
  | .hbm, ⟨30, _⟩ => ⟨S1x4x1x4096, .f32⟩
  | .hbm, ⟨31, _⟩ => ⟨S_, .f32⟩
  | .hbm, ⟨32, _⟩ => ⟨S1x4x1x4096, .f32⟩
  | .hbm, ⟨33, _⟩ => ⟨S_, .f32⟩
  | .hbm, ⟨34, _⟩ => ⟨S1x4x1x4096, .f32⟩
  | .hbm, ⟨35, _⟩ => ⟨S1x4x1x4096, .f32⟩
  | .hbm, ⟨36, _⟩ => ⟨S1x4x1x4096, .f32⟩
  | .hbm, ⟨37, _⟩ => ⟨S1x4x1x4096x1, .f32⟩
  | .hbm, ⟨38, _⟩ => ⟨S1x4x1x4096x4096, .f32⟩
  | .hbm, ⟨39, _⟩ => ⟨S1x4x1x4096x4096, .f32⟩
  | .hbm, ⟨40, _⟩ => ⟨S1x4x1x4096x4096, .f32⟩
  | .hbm, ⟨41, _⟩ => ⟨S_, .f32⟩
  | .hbm, ⟨42, _⟩ => ⟨S1x4x1x4096, .f32⟩
  | .hbm, ⟨43, _⟩ => ⟨S1x4x1x4096x1, .f32⟩
  | .hbm, ⟨44, _⟩ => ⟨S1x4x1x4096x4096, .f32⟩
  | .hbm, ⟨45, _⟩ => ⟨S1x4x1x4096x4096, .f32⟩
  | .hbm, ⟨46, _⟩ => ⟨S1x4x1x4096x1, .f32⟩
  | .hbm, ⟨47, _⟩ => ⟨S_, .f32⟩
  | .hbm, ⟨48, _⟩ => ⟨S1x4x1x4096x1, .f32⟩
  | .hbm, ⟨49, _⟩ => ⟨S1x4x1x4096x1, .f32⟩
  | .hbm, ⟨50, _⟩ => ⟨S1x4x128x1x4096, .f32⟩
  | .hbm, ⟨51, _⟩ => ⟨S1x4096x4x1x128, .f32⟩
  | .hbm, ⟨52, _⟩ => ⟨S1x4x128x1x4096, .f32⟩
  | .hbm, ⟨53, _⟩ => ⟨S1x4x1x4096x4096, .f32⟩
  | .hbm, ⟨54, _⟩ => ⟨S1x4x128x4096, .f32⟩
  | .hbm, ⟨55, _⟩ => ⟨S1x4096x4x128, .f32⟩
  | .hbm, ⟨56, _⟩ => ⟨S1x4x1x4096x4096, .f32⟩
  | .hbm, ⟨57, _⟩ => ⟨S1x4x1x4096x4096, .f32⟩
  | .hbm, ⟨58, _⟩ => ⟨S1x4x1x4096x4096, .f32⟩
  | .hbm, ⟨59, _⟩ => ⟨S_, .f32⟩
  | .hbm, ⟨60, _⟩ => ⟨S1x4x1x4096, .f32⟩
  | .hbm, ⟨61, _⟩ => ⟨S1x4x1x4096x1, .f32⟩
  | .hbm, ⟨62, _⟩ => ⟨S1x4x1x4096x1, .f32⟩
  | .hbm, ⟨63, _⟩ => ⟨S1x4x1x4096x4096, .f32⟩
  | .hbm, ⟨64, _⟩ => ⟨S1x4x1x4096x4096, .f32⟩
  | .hbm, ⟨65, _⟩ => ⟨S_, .f32⟩
  | .hbm, ⟨66, _⟩ => ⟨S4x4096, .f32⟩
  | .hbm, ⟨67, _⟩ => ⟨S1x4x1x4096, .f32⟩
  | .hbm, ⟨68, _⟩ => ⟨S1x4x1x4096x4096, .f32⟩
  | .hbm, ⟨69, _⟩ => ⟨S1x4x1x4096x4096, .f32⟩
  | .hbm, ⟨70, _⟩ => ⟨S1x4x1x4096x4096, .f32⟩
  | .hbm, ⟨71, _⟩ => ⟨S1x4x1x4096x4096, .f32⟩
  | .hbm, ⟨72, _⟩ => ⟨S1x4x1x4096x4096, .f32⟩
  | .hbm, ⟨73, _⟩ => ⟨S1x4x4096x4096x1, .f32⟩
  | .hbm, ⟨74, _⟩ => ⟨S1x4x4096x1x192, .f32⟩
  | .hbm, ⟨75, _⟩ => ⟨S1x4096x4x1x192, .f32⟩
  | .hbm, ⟨76, _⟩ => ⟨S1x4x4096x192, .f32⟩
  | .hbm, ⟨77, _⟩ => ⟨S1x4096x4x192, .f32⟩
  | .hbm, ⟨78, _⟩ => ⟨S4096x4x192, .f32⟩
  | .hbm, ⟨79, _⟩ => ⟨S_, .i32⟩
  | .hbm, ⟨80, _⟩ => ⟨S_, .f32⟩
  | .hbm, ⟨81, _⟩ => ⟨S4096x4x256, .f32⟩
  | .hbm, ⟨82, _⟩ => ⟨S4096x1024, .f32⟩
  | .hbm, ⟨83, _⟩ => ⟨S4096x4x192, .f32⟩
  | .hbm, ⟨84, _⟩ => ⟨S_, .i32⟩
  | .hbm, ⟨85, _⟩ => ⟨S_, .f32⟩
  | .hbm, ⟨86, _⟩ => ⟨S4096x4x256, .f32⟩
  | .hbm, ⟨87, _⟩ => ⟨S4096x1024, .f32⟩
  | .hbm, ⟨88, _⟩ => ⟨S4096x512, .f32⟩
  | _, _ => ⟨S1x4096x4x1x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c : Ref sig .tc := ⟨.hbm, 79, rfl⟩
abbrev main_call0_v0 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_13 : Ref sig .tc := ⟨.hbm, 84, rfl⟩
abbrev main_call1_v0 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== NormK.lean ====
abbrev S4096x2048 : Shape := ⟨2, ![4096, 2048]⟩
abbrev S2048 : Shape := ⟨1, ![2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S4096x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S1x2048, .f32⟩
  | .local _ .vmem, ⟨10, _⟩ => ⟨S128x2048, .bf16⟩
  | .local _ .vmem, ⟨11, _⟩ => ⟨S128x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== NormRIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | .hbm, ⟨51, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormAK.lean ====
abbrev S4096x512 : Shape := ⟨2, ![4096, 512]⟩
abbrev S512 : Shape := ⟨1, ![512]⟩
abbrev S1x512 : Shape := ⟨2, ![1, 512]⟩
abbrev S512x512 : Shape := ⟨2, ![512, 512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S4096x512, .f32⟩
  | .hbm, ⟨3, _⟩ => ⟨S1x512, .f32⟩
  | .hbm, ⟨4, _⟩ => ⟨S4096x512, .f32⟩
  | .hbm, ⟨5, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== NormARIdeal.lean ====
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 49
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S512, .f32⟩
  | .hbm, ⟨31, _⟩ => ⟨S4096x512, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x512, .f32⟩
  | .hbm, ⟨36, _⟩ => ⟨S4096x512, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== NormBK.lean ====
abbrev S4096x768 : Shape := ⟨2, ![4096, 768]⟩
abbrev S768 : Shape := ⟨1, ![768]⟩
abbrev S1x768 : Shape := ⟨2, ![1, 768]⟩
abbrev S256x768 : Shape := ⟨2, ![256, 768]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x768, .f32⟩
  | .hbm, ⟨1, _⟩ => ⟨S768, .f32⟩
  | .hbm, ⟨2, _⟩ => ⟨S4096x768, .f32⟩
  | .hbm, ⟨3, _⟩ => ⟨S1x768, .f32⟩
  | .hbm, ⟨4, _⟩ => ⟨S4096x768, .f32⟩
  | .hbm, ⟨5, _⟩ => ⟨S1x768, .f32⟩
  | .local _ .vmem, ⟨0, _⟩ => ⟨S256x768, .f32⟩
  | .local _ .vmem, ⟨1, _⟩ => ⟨S256x768, .f32⟩
  | .local _ .vmem, ⟨2, _⟩ => ⟨S1x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S1x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== NormBRIdeal.lean ====
abbrev S4096x768 : Shape := ⟨2, ![4096, 768]⟩
abbrev S768 : Shape := ⟨1, ![768]⟩
abbrev S_ : Shape := ⟨0, ![]⟩
abbrev S4096 : Shape := ⟨1, ![4096]⟩
abbrev S4096x1 : Shape := ⟨2, ![4096, 1]⟩
abbrev S1x768 : Shape := ⟨2, ![1, 768]⟩

abbrev nBuf : Space → Nat
  | .hbm => 49
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x768, .f32⟩
  | .hbm, ⟨19, _⟩ => ⟨S4096x768, .f32⟩
  | .hbm, ⟨20, _⟩ => ⟨S1x768, .f32⟩
  | .hbm, ⟨21, _⟩ => ⟨S4096x768, .f32⟩
  | .hbm, ⟨22, _⟩ => ⟨S4096x768, .f32⟩
  | .hbm, ⟨23, _⟩ => ⟨S4096x768, .f32⟩
  | .hbm, ⟨24, _⟩ => ⟨S_, .f32⟩
  | .hbm, ⟨25, _⟩ => ⟨S768, .f32⟩
  | .hbm, ⟨26, _⟩ => ⟨S1x768, .f32⟩
  | .hbm, ⟨27, _⟩ => ⟨S4096x768, .f32⟩
  | .hbm, ⟨28, _⟩ => ⟨S4096x768, .f32⟩
  | .hbm, ⟨29, _⟩ => ⟨S_, .f32⟩
  | .hbm, ⟨30, _⟩ => ⟨S768, .f32⟩
  | .hbm, ⟨31, _⟩ => ⟨S4096x768, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x768, .f32⟩
  | .hbm, ⟨36, _⟩ => ⟨S4096x768, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x768, .f32⟩
  | .hbm, ⟨44, _⟩ => ⟨S4096x768, .f32⟩
  | .hbm, ⟨45, _⟩ => ⟨S4096x768, .f32⟩
  | .hbm, ⟨46, _⟩ => ⟨S4096x768, .f32⟩
  | .hbm, ⟨47, _⟩ => ⟨S4096x768, .f32⟩
  | .hbm, ⟨48, _⟩ => ⟨S1x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== NormQK.lean ====
abbrev S4096x512 : Shape := ⟨2, ![4096, 512]⟩
abbrev S512 : Shape := ⟨1, ![512]⟩
abbrev S_ : Shape := ⟨0, ![]⟩
abbrev S4096x5120 : Shape := ⟨2, ![4096, 5120]⟩
abbrev S1x512 : Shape := ⟨2, ![1, 512]⟩
abbrev S512x512 : Shape := ⟨2, ![512, 512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S4096x512, .f32⟩
  | .hbm, ⟨3, _⟩ => ⟨S_, .i32⟩
  | .hbm, ⟨4, _⟩ => ⟨S_, .f32⟩
  | .hbm, ⟨5, _⟩ => ⟨S4096x5120, .f32⟩
  | .hbm, ⟨6, _⟩ => ⟨S1x512, .f32⟩
  | .hbm, ⟨7, _⟩ => ⟨S4096x512, .bf16⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== NormQRIdeal.lean ====
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 50
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S512, .f32⟩
  | .hbm, ⟨31, _⟩ => ⟨S4096x512, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x512, .f32⟩
  | .hbm, ⟨36, _⟩ => ⟨S4096x512, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .bf16⟩
  | .hbm, ⟨49, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== NormCQK.lean ====
abbrev S4096x6x128 : Shape := ⟨3, ![4096, 6, 128]⟩
abbrev S128 : Shape := ⟨1, ![128]⟩
abbrev S4096x768 : Shape := ⟨2, ![4096, 768]⟩
abbrev S_ : Shape := ⟨0, ![]⟩
abbrev S4096x5120 : Shape := ⟨2, ![4096, 5120]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 11
  | .vmem => 8
  | .smem => 0
  | _ => 0

abbrev bufTy : (tb : Table) → Fin (tcTables nBuf tb) → BufTy
  | .hbm, ⟨0, _⟩ => ⟨S4096x6x128, .f32⟩
  | .hbm, ⟨1, _⟩ => ⟨S128, .f32⟩
  | .hbm, ⟨2, _⟩ => ⟨S4096x6x128, .f32⟩
  | .hbm, ⟨3, _⟩ => ⟨S4096x768, .f32⟩
  | .hbm, ⟨4, _⟩ => ⟨S_, .i32⟩
  | .hbm, ⟨5, _⟩ => ⟨S_, .f32⟩
  | .hbm, ⟨6, _⟩ => ⟨S4096x5120, .f32⟩
  | .hbm, ⟨7, _⟩ => ⟨S1x128, .f32⟩
  | .hbm, ⟨8, _⟩ => ⟨S4096x768, .f32⟩
  | .hbm, ⟨9, _⟩ => ⟨S4096x768, .bf16⟩
  | .hbm, ⟨10, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | .local _ .vmem, ⟨5, _⟩ => ⟨S2048x128, .bf16⟩
  | .local _ .vmem, ⟨6, _⟩ => ⟨S2048x128, .bf16⟩
  | .local _ .vmem, ⟨7, _⟩ => ⟨S1x128, .f32⟩
  | _, _ => ⟨S4096x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![6, 2], ![false, false]⟩

def cc0_transform_0 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== NormCQRIdeal.lean ====
abbrev S4096x6x128 : Shape := ⟨3, ![4096, 6, 128]⟩
abbrev S128 : Shape := ⟨1, ![128]⟩
abbrev S_ : Shape := ⟨0, ![]⟩
abbrev S4096x6 : Shape := ⟨2, ![4096, 6]⟩
abbrev S4096x6x1 : Shape := ⟨3, ![4096, 6, 1]⟩
abbrev S1x1x128 : Shape := ⟨3, ![1, 1, 128]⟩
abbrev S4096x768 : Shape := ⟨2, ![4096, 768]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S4096x6x128, .f32⟩
  | .hbm, ⟨1, _⟩ => ⟨S128, .f32⟩
  | .hbm, ⟨2, _⟩ => ⟨S4096x6x128, .f32⟩
  | .hbm, ⟨3, _⟩ => ⟨S4096x6x128, .f32⟩
  | .hbm, ⟨4, _⟩ => ⟨S_, .f32⟩
  | .hbm, ⟨5, _⟩ => ⟨S4096x6, .f32⟩
  | .hbm, ⟨6, _⟩ => ⟨S4096x6x1, .f32⟩
  | .hbm, ⟨7, _⟩ => ⟨S_, .f32⟩
  | .hbm, ⟨8, _⟩ => ⟨S4096x6x1, .f32⟩
  | .hbm, ⟨9, _⟩ => ⟨S4096x6x1, .f32⟩
  | .hbm, ⟨10, _⟩ => ⟨S_, .f32⟩
  | .hbm, ⟨11, _⟩ => ⟨S4096x6x1, .f32⟩
  | .hbm, ⟨12, _⟩ => ⟨S4096x6x1, .f32⟩
  | .hbm, ⟨13, _⟩ => ⟨S4096x6x1, .f32⟩
  | .hbm, ⟨14, _⟩ => ⟨S4096x6x1, .f32⟩
  | .hbm, ⟨15, _⟩ => ⟨S_, .f32⟩
  | .hbm, ⟨16, _⟩ => ⟨S4096x6x1, .f32⟩
  | .hbm, ⟨17, _⟩ => ⟨S4096x6x1, .f32⟩
  | .hbm, ⟨18, _⟩ => ⟨S4096x6x128, .f32⟩
  | .hbm, ⟨19, _⟩ => ⟨S4096x6x128, .f32⟩
  | .hbm, ⟨20, _⟩ => ⟨S1x1x128, .f32⟩
  | .hbm, ⟨21, _⟩ => ⟨S4096x6x128, .f32⟩
  | .hbm, ⟨22, _⟩ => ⟨S4096x6x128, .f32⟩
  | .hbm, ⟨23, _⟩ => ⟨S4096x6x128, .f32⟩
  | .hbm, ⟨24, _⟩ => ⟨S_, .f32⟩
  | .hbm, ⟨25, _⟩ => ⟨S128, .f32⟩
  | .hbm, ⟨26, _⟩ => ⟨S1x1x128, .f32⟩
  | .hbm, ⟨27, _⟩ => ⟨S4096x6x128, .f32⟩
  | .hbm, ⟨28, _⟩ => ⟨S4096x6x128, .f32⟩
  | .hbm, ⟨29, _⟩ => ⟨S_, .f32⟩
  | .hbm, ⟨30, _⟩ => ⟨S128, .f32⟩
  | .hbm, ⟨31, _⟩ => ⟨S4096x6x128, .f32⟩
  | .hbm, ⟨32, _⟩ => ⟨S_, .f32⟩
  | .hbm, ⟨33, _⟩ => ⟨S4096x6, .f32⟩
  | .hbm, ⟨34, _⟩ => ⟨S4096x6x1, .f32⟩
  | .hbm, ⟨35, _⟩ => ⟨S4096x6x128, .f32⟩
  | .hbm, ⟨36, _⟩ => ⟨S4096x6x128, .f32⟩
  | .hbm, ⟨37, _⟩ => ⟨S4096x6x1, .f32⟩
  | .hbm, ⟨38, _⟩ => ⟨S_, .f32⟩
  | .hbm, ⟨39, _⟩ => ⟨S4096x6x1, .f32⟩
  | .hbm, ⟨40, _⟩ => ⟨S4096x6x1, .f32⟩
  | .hbm, ⟨41, _⟩ => ⟨S_, .f32⟩
  | .hbm, ⟨42, _⟩ => ⟨S4096x6, .f32⟩
  | .hbm, ⟨43, _⟩ => ⟨S4096x6x128, .f32⟩
  | .hbm, ⟨44, _⟩ => ⟨S4096x6x128, .f32⟩
  | .hbm, ⟨45, _⟩ => ⟨S4096x6x128, .f32⟩
  | .hbm, ⟨46, _⟩ => ⟨S4096x6x128, .f32⟩
  | .hbm, ⟨47, _⟩ => ⟨S4096x6x128, .f32⟩
  | .hbm, ⟨48, _⟩ => ⟨S4096x768, .f32⟩
  | .hbm, ⟨49, _⟩ => ⟨S4096x768, .bf16⟩
  | .hbm, ⟨50, _⟩ => ⟨S1x128, .f32⟩
  | _, _ => ⟨S4096x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== NormCKK.lean ====
abbrev S4096x2x128 : Shape := ⟨3, ![4096, 2, 128]⟩
abbrev S128 : Shape := ⟨1, ![128]⟩
abbrev S4096x256 : Shape := ⟨2, ![4096, 256]⟩
abbrev S_ : Shape := ⟨0, ![]⟩
abbrev S4096x5120 : Shape := ⟨2, ![4096, 5120]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 11
  | .vmem => 8
  | .smem => 0
  | _ => 0

abbrev bufTy : (tb : Table) → Fin (tcTables nBuf tb) → BufTy
  | .hbm, ⟨0, _⟩ => ⟨S4096x2x128, .f32⟩
  | .hbm, ⟨1, _⟩ => ⟨S128, .f32⟩
  | .hbm, ⟨2, _⟩ => ⟨S4096x2x128, .f32⟩
  | .hbm, ⟨3, _⟩ => ⟨S4096x256, .f32⟩
  | .hbm, ⟨4, _⟩ => ⟨S_, .i32⟩
  | .hbm, ⟨5, _⟩ => ⟨S_, .f32⟩
  | .hbm, ⟨6, _⟩ => ⟨S4096x5120, .f32⟩
  | .hbm, ⟨7, _⟩ => ⟨S1x128, .f32⟩
  | .hbm, ⟨8, _⟩ => ⟨S4096x256, .f32⟩
  | .hbm, ⟨9, _⟩ => ⟨S4096x256, .bf16⟩
  | .hbm, ⟨10, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | .local _ .vmem, ⟨5, _⟩ => ⟨S2048x128, .bf16⟩
  | .local _ .vmem, ⟨6, _⟩ => ⟨S2048x128, .bf16⟩
  | .local _ .vmem, ⟨7, _⟩ => ⟨S1x128, .f32⟩
  | _, _ => ⟨S4096x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== NormCKRIdeal.lean ====
abbrev S4096x2x128 : Shape := ⟨3, ![4096, 2, 128]⟩
abbrev S128 : Shape := ⟨1, ![128]⟩
abbrev S_ : Shape := ⟨0, ![]⟩
abbrev S4096x2 : Shape := ⟨2, ![4096, 2]⟩
abbrev S4096x2x1 : Shape := ⟨3, ![4096, 2, 1]⟩
abbrev S1x1x128 : Shape := ⟨3, ![1, 1, 128]⟩
abbrev S4096x256 : Shape := ⟨2, ![4096, 256]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S4096x2x128, .f32⟩
  | .hbm, ⟨1, _⟩ => ⟨S128, .f32⟩
  | .hbm, ⟨2, _⟩ => ⟨S4096x2x128, .f32⟩
  | .hbm, ⟨3, _⟩ => ⟨S4096x2x128, .f32⟩
  | .hbm, ⟨4, _⟩ => ⟨S_, .f32⟩
  | .hbm, ⟨5, _⟩ => ⟨S4096x2, .f32⟩
  | .hbm, ⟨6, _⟩ => ⟨S4096x2x1, .f32⟩
  | .hbm, ⟨7, _⟩ => ⟨S_, .f32⟩
  | .hbm, ⟨8, _⟩ => ⟨S4096x2x1, .f32⟩
  | .hbm, ⟨9, _⟩ => ⟨S4096x2x1, .f32⟩
  | .hbm, ⟨10, _⟩ => ⟨S_, .f32⟩
  | .hbm, ⟨11, _⟩ => ⟨S4096x2x1, .f32⟩
  | .hbm, ⟨12, _⟩ => ⟨S4096x2x1, .f32⟩
  | .hbm, ⟨13, _⟩ => ⟨S4096x2x1, .f32⟩
  | .hbm, ⟨14, _⟩ => ⟨S4096x2x1, .f32⟩
  | .hbm, ⟨15, _⟩ => ⟨S_, .f32⟩
  | .hbm, ⟨16, _⟩ => ⟨S4096x2x1, .f32⟩
  | .hbm, ⟨17, _⟩ => ⟨S4096x2x1, .f32⟩
  | .hbm, ⟨18, _⟩ => ⟨S4096x2x128, .f32⟩
  | .hbm, ⟨19, _⟩ => ⟨S4096x2x128, .f32⟩
  | .hbm, ⟨20, _⟩ => ⟨S1x1x128, .f32⟩
  | .hbm, ⟨21, _⟩ => ⟨S4096x2x128, .f32⟩
  | .hbm, ⟨22, _⟩ => ⟨S4096x2x128, .f32⟩
  | .hbm, ⟨23, _⟩ => ⟨S4096x2x128, .f32⟩
  | .hbm, ⟨24, _⟩ => ⟨S_, .f32⟩
  | .hbm, ⟨25, _⟩ => ⟨S128, .f32⟩
  | .hbm, ⟨26, _⟩ => ⟨S1x1x128, .f32⟩
  | .hbm, ⟨27, _⟩ => ⟨S4096x2x128, .f32⟩
  | .hbm, ⟨28, _⟩ => ⟨S4096x2x128, .f32⟩
  | .hbm, ⟨29, _⟩ => ⟨S_, .f32⟩
  | .hbm, ⟨30, _⟩ => ⟨S128, .f32⟩
  | .hbm, ⟨31, _⟩ => ⟨S4096x2x128, .f32⟩
  | .hbm, ⟨32, _⟩ => ⟨S_, .f32⟩
  | .hbm, ⟨33, _⟩ => ⟨S4096x2, .f32⟩
  | .hbm, ⟨34, _⟩ => ⟨S4096x2x1, .f32⟩
  | .hbm, ⟨35, _⟩ => ⟨S4096x2x128, .f32⟩
  | .hbm, ⟨36, _⟩ => ⟨S4096x2x128, .f32⟩
  | .hbm, ⟨37, _⟩ => ⟨S4096x2x1, .f32⟩
  | .hbm, ⟨38, _⟩ => ⟨S_, .f32⟩
  | .hbm, ⟨39, _⟩ => ⟨S4096x2x1, .f32⟩
  | .hbm, ⟨40, _⟩ => ⟨S4096x2x1, .f32⟩
  | .hbm, ⟨41, _⟩ => ⟨S_, .f32⟩
  | .hbm, ⟨42, _⟩ => ⟨S4096x2, .f32⟩
  | .hbm, ⟨43, _⟩ => ⟨S4096x2x128, .f32⟩
  | .hbm, ⟨44, _⟩ => ⟨S4096x2x128, .f32⟩
  | .hbm, ⟨45, _⟩ => ⟨S4096x2x128, .f32⟩
  | .hbm, ⟨46, _⟩ => ⟨S4096x2x128, .f32⟩
  | .hbm, ⟨47, _⟩ => ⟨S4096x2x128, .f32⟩
  | .hbm, ⟨48, _⟩ => ⟨S4096x256, .f32⟩
  | .hbm, ⟨49, _⟩ => ⟨S4096x256, .bf16⟩
  | .hbm, ⟨50, _⟩ => ⟨S1x128, .f32⟩
  | _, _ => ⟨S4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== RopeAK.lean ====
abbrev S1x4096x4x192 : Shape := ⟨4, ![1, 4096, 4, 192]⟩
abbrev S4096 : Shape := ⟨1, ![4096]⟩
abbrev S64 : Shape := ⟨1, ![64]⟩
abbrev S64x64 : Shape := ⟨2, ![64, 64]⟩
abbrev S1x64 : Shape := ⟨2, ![1, 64]⟩
abbrev S_ : Shape := ⟨0, ![]⟩
abbrev S4096x1 : Shape := ⟨2, ![4096, 1]⟩
abbrev S4096x64 : Shape := ⟨2, ![4096, 64]⟩
abbrev S32 : Shape := ⟨1, ![32]⟩
abbrev S1x32 : Shape := ⟨2, ![1, 32]⟩
abbrev S4096x32 : Shape := ⟨2, ![4096, 32]⟩
abbrev S4096x128 : Shape := ⟨2, ![4096, 128]⟩
abbrev S4096x256 : Shape := ⟨2, ![4096, 256]⟩
abbrev S4096x4x192 : Shape := ⟨3, ![4096, 4, 192]⟩
abbrev S4096x4x256 : Shape := ⟨3, ![4096, 4, 256]⟩
abbrev S4096x1024 : Shape := ⟨2, ![4096, 1024]⟩
abbrev S2048x256 : Shape := ⟨2, ![2048, 256]⟩
abbrev S2048x128 : Shape := ⟨2, ![2048, 128]⟩

abbrev nBuf : Space → Nat
  | .hbm => 129
  | .vmem => 8
  | .smem => 0
  | _ => 0

abbrev hbmTy0_0 (i : Nat) : BufTy := match i % 128 with
  | 0 => ⟨S1x4096x4x192, .f32⟩
  | 1 => ⟨S4096, .i32⟩
  | 2 => ⟨S64, .i32⟩
  | 3 => ⟨S64x64, .i32⟩
  | 4 => ⟨S4096, .i32⟩
  | 5 => ⟨S64, .i32⟩
  | 6 => ⟨S1x64, .i32⟩
  | 7 => ⟨S64x64, .i32⟩
  | 8 => ⟨S4096, .i32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S4096, .f32⟩
  | 24 => ⟨S4096x1, .f32⟩
  | 25 => ⟨S1x64, .f32⟩
  | 26 => ⟨S4096x64, .f32⟩
  | 27 => ⟨S4096x64, .f32⟩
  | 28 => ⟨S4096x64, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S4096, .f32⟩
  | 44 => ⟨S4096x1, .f32⟩
  | 45 => ⟨S1x32, .f32⟩
  | 46 => ⟨S4096x32, .f32⟩
  | 47 => ⟨S4096x32, .f32⟩
  | 48 => ⟨S4096x32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S4096, .f32⟩
  | 64 => ⟨S4096x1, .f32⟩
  | 65 => ⟨S1x32, .f32⟩
  | 66 => ⟨S4096x32, .f32⟩
  | 67 => ⟨S4096x32, .f32⟩
  | 68 => ⟨S4096x32, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S4096, .f32⟩
  | 84 => ⟨S4096x1, .f32⟩
  | 85 => ⟨S1x32, .f32⟩
  | 86 => ⟨S4096x32, .f32⟩
  | 87 => ⟨S4096x32, .f32⟩
  | 88 => ⟨S4096x32, .f32⟩
  | 89 => ⟨S_, .f32⟩
  | 90 => ⟨S4096x128, .f32⟩
  | 91 => ⟨S_, .f32⟩
  | 92 => ⟨S4096x128, .f32⟩
  | 93 => ⟨S4096x32, .f32⟩
  | 94 => ⟨S4096x32, .f32⟩
  | 95 => ⟨S_, .f32⟩
  | 96 => ⟨S4096x64, .f32⟩
  | 97 => ⟨S4096x256, .f32⟩
  | 98 => ⟨S4096x32, .f32⟩
  | 99 => ⟨S4096x32, .f32⟩
  | 100 => ⟨S4096x32, .f32⟩
  | 101 => ⟨S_, .f32⟩
  | 102 => ⟨S4096x64, .f32⟩
  | 103 => ⟨S4096x256, .f32⟩
  | 104 => ⟨S4096x64, .f32⟩
  | 105 => ⟨S4096x64, .f32⟩
  | 106 => ⟨S4096x128, .f32⟩
  | 107 => ⟨S4096x64, .f32⟩
  | 108 => ⟨S4096x64, .f32⟩
  | 109 => ⟨S4096x64, .f32⟩
  | 110 => ⟨S4096x128, .f32⟩
  | 111 => ⟨S4096x32, .f32⟩
  | 112 => ⟨S4096x32, .f32⟩
  | 113 => ⟨S4096x32, .f32⟩
  | 114 => ⟨S4096x32, .f32⟩
  | 115 => ⟨S4096x128, .f32⟩
  | 116 => ⟨S4096x32, .f32⟩
  | 117 => ⟨S4096x32, .f32⟩
  | 118 => ⟨S4096x32, .f32⟩
  | 119 => ⟨S4096x32, .f32⟩
  | 120 => ⟨S4096x32, .f32⟩
  | 121 => ⟨S4096x32, .f32⟩
  | 122 => ⟨S4096x128, .f32⟩
  | 123 => ⟨S4096x4x192, .f32⟩
  | 124 => ⟨S_, .i32⟩
  | 125 => ⟨S_, .f32⟩
  | 126 => ⟨S4096x4x256, .f32⟩
  | 127 => ⟨S4096x1024, .f32⟩
  | _ => ⟨S1x4096x4x192, .f32⟩

abbrev hbmTy0_1 (i : Nat) : BufTy := match i % 128 with
  | 0 => ⟨S4096x1024, .bf16⟩
  | _ => ⟨S1x4096x4x192, .f32⟩

abbrev hbmTy (i : Nat) : BufTy := match i / 128 with
  | 0 => hbmTy0_0 i
  | 1 => hbmTy0_1 i
  | _ => ⟨S1x4096x4x192, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .bf16⟩
  | .local _ .vmem, ⟨7, _⟩ => ⟨S2048x256, .bf16⟩
  | _, _ => ⟨S1x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_3 : Ref sig .tc := ⟨.hbm, 30, rfl⟩
abbrev main_v25 : Ref sig .tc := ⟨.hbm, 31, rfl⟩
abbrev main_v26 : Ref sig .tc := ⟨.hbm, 32, rfl⟩
abbrev main_cst_4 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_5 : Ref sig .tc := ⟨.hbm, 37, rfl⟩
abbrev main_v30 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_7 : Ref sig .tc := ⟨.hbm, 50, rfl⟩
abbrev main_v41 : Ref sig .tc := ⟨.hbm, 51, rfl⟩
abbrev main_v42 : Ref sig .tc := ⟨.hbm, 52, rfl⟩
abbrev main_cst_8 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_9 : Ref sig .tc := ⟨.hbm, 57, rfl⟩
abbrev main_v46 : Ref sig .tc := ⟨.hbm, 58, rfl⟩
abbrev main_v47 : Ref sig .tc := ⟨.hbm, 59, rfl⟩
abbrev main_cst_10 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_11 : Ref sig .tc := ⟨.hbm, 70, rfl⟩
abbrev main_v57 : Ref sig .tc := ⟨.hbm, 71, rfl⟩
abbrev main_v58 : Ref sig .tc := ⟨.hbm, 72, rfl⟩
abbrev main_cst_12 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_13 : Ref sig .tc := ⟨.hbm, 77, rfl⟩
abbrev main_v62 : Ref sig .tc := ⟨.hbm, 78, rfl⟩
abbrev main_v63 : Ref sig .tc := ⟨.hbm, 79, rfl⟩
abbrev main_cst_14 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_15 : Ref sig .tc := ⟨.hbm, 89, rfl⟩
abbrev main_v72 : Ref sig .tc := ⟨.hbm, 90, rfl⟩
abbrev main_cst_16 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_17 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_18 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_c : Ref sig .tc := ⟨.hbm, 124, rfl⟩
abbrev main_call0_v0 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RopeARIdeal.lean ====
abbrev S1x4096x4x192 : Shape := ⟨4, ![1, 4096, 4, 192]⟩
abbrev S_ : Shape := ⟨0, ![]⟩
abbrev S1x4096x4x128 : Shape := ⟨4, ![1, 4096, 4, 128]⟩
abbrev S1x4096x4x64 : Shape := ⟨4, ![1, 4096, 4, 64]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S1x4096x4x32 : Shape := ⟨4, ![1, 4096, 4, 32]⟩
abbrev S1x4096x1x32 : Shape := ⟨4, ![1, 4096, 1, 32]⟩
abbrev S1x4096x4x256 : Shape := ⟨4, ![1, 4096, 4, 256]⟩
abbrev S4096x1024 : Shape := ⟨2, ![4096, 1024]⟩

abbrev nBuf : Space → Nat
  | .hbm => 70
  | .vmem => 0
  | .smem => 0
  | _ => 0

abbrev bufTy : (tb : Table) → Fin (tcTables nBuf tb) → BufTy
  | .hbm, ⟨0, _⟩ => ⟨S1x4096x4x192, .f32⟩
  | .hbm, ⟨1, _⟩ => ⟨S_, .f32⟩
  | .hbm, ⟨2, _⟩ => ⟨S1x4096x4x192, .f32⟩
  | .hbm, ⟨3, _⟩ => ⟨S1x4096x4x128, .f32⟩
  | .hbm, ⟨4, _⟩ => ⟨S1x4096x4x64, .f32⟩
  | .hbm, ⟨5, _⟩ => ⟨S4096, .i32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x1x32, .f32⟩
  | .hbm, ⟨28, _⟩ => ⟨S4096x32, .f32⟩
  | .hbm, ⟨29, _⟩ => ⟨S4096x1x32, .f32⟩
  | .hbm, ⟨30, _⟩ => ⟨S1x4096x4x32, .f32⟩
  | .hbm, ⟨31, _⟩ => ⟨S1x4096x4x32, .f32⟩
  | .hbm, ⟨32, _⟩ => ⟨S1x4096x1x32, .f32⟩
  | .hbm, ⟨33, _⟩ => ⟨S1x4096x4x32, .f32⟩
  | .hbm, ⟨34, _⟩ => ⟨S1x4096x4x32, .f32⟩
  | .hbm, ⟨35, _⟩ => ⟨S1x4096x1x32, .f32⟩
  | .hbm, ⟨36, _⟩ => ⟨S1x4096x4x32, .f32⟩
  | .hbm, ⟨37, _⟩ => ⟨S1x4096x4x32, .f32⟩
  | .hbm, ⟨38, _⟩ => ⟨S1x4096x4x32, .f32⟩
  | .hbm, ⟨39, _⟩ => ⟨S1x4096x1x32, .f32⟩
  | .hbm, ⟨40, _⟩ => ⟨S1x4096x4x32, .f32⟩
  | .hbm, ⟨41, _⟩ => ⟨S1x4096x4x32, .f32⟩
  | .hbm, ⟨42, _⟩ => ⟨S1x4096x1x32, .f32⟩
  | .hbm, ⟨43, _⟩ => ⟨S1x4096x4x32, .f32⟩
  | .hbm, ⟨44, _⟩ => ⟨S1x4096x4x32, .f32⟩
  | .hbm, ⟨45, _⟩ => ⟨S1x4096x4x32, .f32⟩
  | .hbm, ⟨46, _⟩ => ⟨S1x4096x4x64, .f32⟩
  | .hbm, ⟨47, _⟩ => ⟨S1x4096x4x192, .f32⟩
  | .hbm, ⟨48, _⟩ => ⟨S1x4096x4x128, .f32⟩
  | .hbm, ⟨49, _⟩ => ⟨S1x4096x4x64, .f32⟩
  | .hbm, ⟨50, _⟩ => ⟨S1x4096x4x32, .f32⟩
  | .hbm, ⟨51, _⟩ => ⟨S1x4096x4x32, .f32⟩
  | .hbm, ⟨52, _⟩ => ⟨S1x4096x4x32, .f32⟩
  | .hbm, ⟨53, _⟩ => ⟨S1x4096x4x32, .f32⟩
  | .hbm, ⟨54, _⟩ => ⟨S1x4096x4x32, .f32⟩
  | .hbm, ⟨55, _⟩ => ⟨S1x4096x4x32, .f32⟩
  | .hbm, ⟨56, _⟩ => ⟨S1x4096x4x32, .f32⟩
  | .hbm, ⟨57, _⟩ => ⟨S1x4096x4x32, .f32⟩
  | .hbm, ⟨58, _⟩ => ⟨S1x4096x4x32, .f32⟩
  | .hbm, ⟨59, _⟩ => ⟨S1x4096x4x32, .f32⟩
  | .hbm, ⟨60, _⟩ => ⟨S1x4096x4x32, .f32⟩
  | .hbm, ⟨61, _⟩ => ⟨S1x4096x4x32, .f32⟩
  | .hbm, ⟨62, _⟩ => ⟨S1x4096x4x32, .f32⟩
  | .hbm, ⟨63, _⟩ => ⟨S1x4096x4x64, .f32⟩
  | .hbm, ⟨64, _⟩ => ⟨S1x4096x4x192, .f32⟩
  | .hbm, ⟨65, _⟩ => ⟨S_, .i32⟩
  | .hbm, ⟨66, _⟩ => ⟨S_, .f32⟩
  | .hbm, ⟨67, _⟩ => ⟨S1x4096x4x256, .f32⟩
  | .hbm, ⟨68, _⟩ => ⟨S4096x1024, .f32⟩
  | .hbm, ⟨69, _⟩ => ⟨S4096x1024, .bf16⟩
  | _, _ => ⟨S1x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_c : Ref sig .tc := ⟨.hbm, 65, rfl⟩
abbrev main_call0_v0 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩

abbrev nD : Nat := 1
abbrev τ : Topo := Topo.v7x

variable {F : FTy → Type} [FloatOps F]
-- ==== RopeBK.lean ====
abbrev S1x4096x6x128 : Shape := ⟨4, ![1, 4096, 6, 128]⟩
abbrev S4096 : Shape := ⟨1, ![4096]⟩
abbrev S64 : Shape := ⟨1, ![64]⟩
abbrev S64x64 : Shape := ⟨2, ![64, 64]⟩
abbrev S1x64 : Shape := ⟨2, ![1, 64]⟩
abbrev S_ : Shape := ⟨0, ![]⟩
abbrev S4096x1 : Shape := ⟨2, ![4096, 1]⟩
abbrev S4096x64 : Shape := ⟨2, ![4096, 64]⟩
abbrev S32 : Shape := ⟨1, ![32]⟩
abbrev S1x32 : Shape := ⟨2, ![1, 32]⟩
abbrev S4096x32 : Shape := ⟨2, ![4096, 32]⟩
abbrev S4096x128 : Shape := ⟨2, ![4096, 128]⟩
abbrev S4096x256 : Shape := ⟨2, ![4096, 256]⟩
abbrev S4096x6x128 : Shape := ⟨3, ![4096, 6, 128]⟩
abbrev S4096x768 : Shape := ⟨2, ![4096, 768]⟩

abbrev nBuf : Space → Nat
  | .hbm => 126
  | .vmem => 6
  | .smem => 0
  | _ => 0

abbrev bufTy : (tb : Table) → Fin (tcTables nBuf tb) → BufTy
  | .hbm, ⟨0, _⟩ => ⟨S1x4096x6x128, .f32⟩
  | .hbm, ⟨1, _⟩ => ⟨S4096, .i32⟩
  | .hbm, ⟨2, _⟩ => ⟨S64, .i32⟩
  | .hbm, ⟨3, _⟩ => ⟨S64x64, .i32⟩
  | .hbm, ⟨4, _⟩ => ⟨S4096, .i32⟩
  | .hbm, ⟨5, _⟩ => ⟨S64, .i32⟩
  | .hbm, ⟨6, _⟩ => ⟨S1x64, .i32⟩
  | .hbm, ⟨7, _⟩ => ⟨S64x64, .i32⟩
  | .hbm, ⟨8, _⟩ => ⟨S4096, .i32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S4096, .f32⟩
  | .hbm, ⟨24, _⟩ => ⟨S4096x1, .f32⟩
  | .hbm, ⟨25, _⟩ => ⟨S1x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S4096, .f32⟩
  | .hbm, ⟨44, _⟩ => ⟨S4096x1, .f32⟩
  | .hbm, ⟨45, _⟩ => ⟨S1x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S4096, .f32⟩
  | .hbm, ⟨64, _⟩ => ⟨S4096x1, .f32⟩
  | .hbm, ⟨65, _⟩ => ⟨S1x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S4096, .f32⟩
  | .hbm, ⟨84, _⟩ => ⟨S4096x1, .f32⟩
  | .hbm, ⟨85, _⟩ => ⟨S1x32, .f32⟩
  | .hbm, ⟨86, _⟩ => ⟨S4096x32, .f32⟩
  | .hbm, ⟨87, _⟩ => ⟨S4096x32, .f32⟩
  | .hbm, ⟨88, _⟩ => ⟨S4096x32, .f32⟩
  | .hbm, ⟨89, _⟩ => ⟨S_, .f32⟩
  | .hbm, ⟨90, _⟩ => ⟨S4096x128, .f32⟩
  | .hbm, ⟨91, _⟩ => ⟨S_, .f32⟩
  | .hbm, ⟨92, _⟩ => ⟨S4096x128, .f32⟩
  | .hbm, ⟨93, _⟩ => ⟨S4096x32, .f32⟩
  | .hbm, ⟨94, _⟩ => ⟨S4096x32, .f32⟩
  | .hbm, ⟨95, _⟩ => ⟨S_, .f32⟩
  | .hbm, ⟨96, _⟩ => ⟨S4096x64, .f32⟩
  | .hbm, ⟨97, _⟩ => ⟨S4096x256, .f32⟩
  | .hbm, ⟨98, _⟩ => ⟨S4096x32, .f32⟩
  | .hbm, ⟨99, _⟩ => ⟨S4096x32, .f32⟩
  | .hbm, ⟨100, _⟩ => ⟨S4096x32, .f32⟩
  | .hbm, ⟨101, _⟩ => ⟨S_, .f32⟩
  | .hbm, ⟨102, _⟩ => ⟨S4096x64, .f32⟩
  | .hbm, ⟨103, _⟩ => ⟨S4096x256, .f32⟩
  | .hbm, ⟨104, _⟩ => ⟨S4096x64, .f32⟩
  | .hbm, ⟨105, _⟩ => ⟨S4096x64, .f32⟩
  | .hbm, ⟨106, _⟩ => ⟨S4096x128, .f32⟩
  | .hbm, ⟨107, _⟩ => ⟨S4096x64, .f32⟩
  | .hbm, ⟨108, _⟩ => ⟨S4096x64, .f32⟩
  | .hbm, ⟨109, _⟩ => ⟨S4096x64, .f32⟩
  | .hbm, ⟨110, _⟩ => ⟨S4096x128, .f32⟩
  | .hbm, ⟨111, _⟩ => ⟨S4096x32, .f32⟩
  | .hbm, ⟨112, _⟩ => ⟨S4096x32, .f32⟩
  | .hbm, ⟨113, _⟩ => ⟨S4096x32, .f32⟩
  | .hbm, ⟨114, _⟩ => ⟨S4096x32, .f32⟩
  | .hbm, ⟨115, _⟩ => ⟨S4096x128, .f32⟩
  | .hbm, ⟨116, _⟩ => ⟨S4096x32, .f32⟩
  | .hbm, ⟨117, _⟩ => ⟨S4096x32, .f32⟩
  | .hbm, ⟨118, _⟩ => ⟨S4096x32, .f32⟩
  | .hbm, ⟨119, _⟩ => ⟨S4096x32, .f32⟩
  | .hbm, ⟨120, _⟩ => ⟨S4096x32, .f32⟩
  | .hbm, ⟨121, _⟩ => ⟨S4096x32, .f32⟩
  | .hbm, ⟨122, _⟩ => ⟨S4096x128, .f32⟩
  | .hbm, ⟨123, _⟩ => ⟨S4096x6x128, .f32⟩
  | .hbm, ⟨124, _⟩ => ⟨S4096x768, .f32⟩
  | .hbm, ⟨125, _⟩ => ⟨S4096x768, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .bf16⟩
  | .local _ .vmem, ⟨5, _⟩ => ⟨S4096x128, .bf16⟩
  | _, _ => ⟨S1x4096x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_3 : Ref sig .tc := ⟨.hbm, 30, rfl⟩
abbrev main_v25 : Ref sig .tc := ⟨.hbm, 31, rfl⟩
abbrev main_v26 : Ref sig .tc := ⟨.hbm, 32, rfl⟩
abbrev main_cst_4 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_5 : Ref sig .tc := ⟨.hbm, 37, rfl⟩
abbrev main_v30 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_7 : Ref sig .tc := ⟨.hbm, 50, rfl⟩
abbrev main_v41 : Ref sig .tc := ⟨.hbm, 51, rfl⟩
abbrev main_v42 : Ref sig .tc := ⟨.hbm, 52, rfl⟩
abbrev main_cst_8 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_9 : Ref sig .tc := ⟨.hbm, 57, rfl⟩
abbrev main_v46 : Ref sig .tc := ⟨.hbm, 58, rfl⟩
abbrev main_v47 : Ref sig .tc := ⟨.hbm, 59, rfl⟩
abbrev main_cst_10 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_11 : Ref sig .tc := ⟨.hbm, 70, rfl⟩
abbrev main_v57 : Ref sig .tc := ⟨.hbm, 71, rfl⟩
abbrev main_v58 : Ref sig .tc := ⟨.hbm, 72, rfl⟩
abbrev main_cst_12 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_13 : Ref sig .tc := ⟨.hbm, 77, rfl⟩
abbrev main_v62 : Ref sig .tc := ⟨.hbm, 78, rfl⟩
abbrev main_v63 : Ref sig .tc := ⟨.hbm, 79, rfl⟩
abbrev main_cst_14 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_15 : Ref sig .tc := ⟨.hbm, 89, rfl⟩
abbrev main_v72 : Ref sig .tc := ⟨.hbm, 90, rfl⟩
abbrev main_cst_16 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_17 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_18 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RopeBRIdeal.lean ====
abbrev S1x4096x6x128 : Shape := ⟨4, ![1, 4096, 6, 128]⟩
abbrev S_ : Shape := ⟨0, ![]⟩
abbrev S4096 : Shape := ⟨1, ![4096]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S1x4096x6x64 : Shape := ⟨4, ![1, 4096, 6, 64]⟩
abbrev S1x4096x1x64 : Shape := ⟨4, ![1, 4096, 1, 64]⟩
abbrev S4096x768 : Shape := ⟨2, ![4096, 768]⟩

abbrev nBuf : Space → Nat
  | .hbm => 61
  | .vmem => 0
  | .smem => 0
  | _ => 0

abbrev bufTy : (tb : Table) → Fin (tcTables nBuf tb) → BufTy
  | .hbm, ⟨0, _⟩ => ⟨S1x4096x6x128, .f32⟩
  | .hbm, ⟨1, _⟩ => ⟨S_, .f32⟩
  | .hbm, ⟨2, _⟩ => ⟨S1x4096x6x128, .f32⟩
  | .hbm, ⟨3, _⟩ => ⟨S4096, .i32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S4096, .f32⟩
  | .hbm, ⟨19, _⟩ => ⟨S4096x1, .f32⟩
  | .hbm, ⟨20, _⟩ => ⟨S1x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x1x64, .f32⟩
  | .hbm, ⟨26, _⟩ => ⟨S4096x64, .f32⟩
  | .hbm, ⟨27, _⟩ => ⟨S4096x1x64, .f32⟩
  | .hbm, ⟨28, _⟩ => ⟨S1x4096x6x64, .f32⟩
  | .hbm, ⟨29, _⟩ => ⟨S1x4096x6x64, .f32⟩
  | .hbm, ⟨30, _⟩ => ⟨S1x4096x1x64, .f32⟩
  | .hbm, ⟨31, _⟩ => ⟨S1x4096x6x64, .f32⟩
  | .hbm, ⟨32, _⟩ => ⟨S1x4096x6x64, .f32⟩
  | .hbm, ⟨33, _⟩ => ⟨S1x4096x1x64, .f32⟩
  | .hbm, ⟨34, _⟩ => ⟨S1x4096x6x64, .f32⟩
  | .hbm, ⟨35, _⟩ => ⟨S1x4096x6x64, .f32⟩
  | .hbm, ⟨36, _⟩ => ⟨S1x4096x6x64, .f32⟩
  | .hbm, ⟨37, _⟩ => ⟨S1x4096x1x64, .f32⟩
  | .hbm, ⟨38, _⟩ => ⟨S1x4096x6x64, .f32⟩
  | .hbm, ⟨39, _⟩ => ⟨S1x4096x6x64, .f32⟩
  | .hbm, ⟨40, _⟩ => ⟨S1x4096x1x64, .f32⟩
  | .hbm, ⟨41, _⟩ => ⟨S1x4096x6x64, .f32⟩
  | .hbm, ⟨42, _⟩ => ⟨S1x4096x6x64, .f32⟩
  | .hbm, ⟨43, _⟩ => ⟨S1x4096x6x64, .f32⟩
  | .hbm, ⟨44, _⟩ => ⟨S1x4096x6x128, .f32⟩
  | .hbm, ⟨45, _⟩ => ⟨S1x4096x6x64, .f32⟩
  | .hbm, ⟨46, _⟩ => ⟨S1x4096x6x64, .f32⟩
  | .hbm, ⟨47, _⟩ => ⟨S1x4096x6x64, .f32⟩
  | .hbm, ⟨48, _⟩ => ⟨S1x4096x6x64, .f32⟩
  | .hbm, ⟨49, _⟩ => ⟨S1x4096x6x64, .f32⟩
  | .hbm, ⟨50, _⟩ => ⟨S1x4096x6x64, .f32⟩
  | .hbm, ⟨51, _⟩ => ⟨S1x4096x6x64, .f32⟩
  | .hbm, ⟨52, _⟩ => ⟨S1x4096x6x64, .f32⟩
  | .hbm, ⟨53, _⟩ => ⟨S1x4096x6x64, .f32⟩
  | .hbm, ⟨54, _⟩ => ⟨S1x4096x6x64, .f32⟩
  | .hbm, ⟨55, _⟩ => ⟨S1x4096x6x64, .f32⟩
  | .hbm, ⟨56, _⟩ => ⟨S1x4096x6x64, .f32⟩
  | .hbm, ⟨57, _⟩ => ⟨S1x4096x6x64, .f32⟩
  | .hbm, ⟨58, _⟩ => ⟨S1x4096x6x128, .f32⟩
  | .hbm, ⟨59, _⟩ => ⟨S4096x768, .f32⟩
  | .hbm, ⟨60, _⟩ => ⟨S4096x768, .bf16⟩
  | _, _ => ⟨S1x4096x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩

abbrev nD : Nat := 1
abbrev τ : Topo := Topo.v7x

variable {F : FTy → Type} [FloatOps F]
-- ==== RopeCK.lean ====
abbrev S1x4096x6x128 : Shape := ⟨4, ![1, 4096, 6, 128]⟩
abbrev S4096 : Shape := ⟨1, ![4096]⟩
abbrev S64 : Shape := ⟨1, ![64]⟩
abbrev S64x64 : Shape := ⟨2, ![64, 64]⟩
abbrev S1x64 : Shape := ⟨2, ![1, 64]⟩
abbrev S_ : Shape := ⟨0, ![]⟩
abbrev S4096x1 : Shape := ⟨2, ![4096, 1]⟩
abbrev S4096x64 : Shape := ⟨2, ![4096, 64]⟩
abbrev S32 : Shape := ⟨1, ![32]⟩
abbrev S1x32 : Shape := ⟨2, ![1, 32]⟩
abbrev S4096x32 : Shape := ⟨2, ![4096, 32]⟩
abbrev S4096x128 : Shape := ⟨2, ![4096, 128]⟩
abbrev S4096x256 : Shape := ⟨2, ![4096, 256]⟩
abbrev S4096x6x128 : Shape := ⟨3, ![4096, 6, 128]⟩
abbrev S4096x768 : Shape := ⟨2, ![4096, 768]⟩

abbrev nBuf : Space → Nat
  | .hbm => 126
  | .vmem => 6
  | .smem => 0
  | _ => 0

abbrev bufTy : (tb : Table) → Fin (tcTables nBuf tb) → BufTy
  | .hbm, ⟨0, _⟩ => ⟨S1x4096x6x128, .f32⟩
  | .hbm, ⟨1, _⟩ => ⟨S4096, .i32⟩
  | .hbm, ⟨2, _⟩ => ⟨S64, .i32⟩
  | .hbm, ⟨3, _⟩ => ⟨S64x64, .i32⟩
  | .hbm, ⟨4, _⟩ => ⟨S4096, .i32⟩
  | .hbm, ⟨5, _⟩ => ⟨S64, .i32⟩
  | .hbm, ⟨6, _⟩ => ⟨S1x64, .i32⟩
  | .hbm, ⟨7, _⟩ => ⟨S64x64, .i32⟩
  | .hbm, ⟨8, _⟩ => ⟨S4096, .i32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S4096, .f32⟩
  | .hbm, ⟨24, _⟩ => ⟨S4096x1, .f32⟩
  | .hbm, ⟨25, _⟩ => ⟨S1x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S4096, .f32⟩
  | .hbm, ⟨44, _⟩ => ⟨S4096x1, .f32⟩
  | .hbm, ⟨45, _⟩ => ⟨S1x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S4096, .f32⟩
  | .hbm, ⟨64, _⟩ => ⟨S4096x1, .f32⟩
  | .hbm, ⟨65, _⟩ => ⟨S1x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S4096, .f32⟩
  | .hbm, ⟨84, _⟩ => ⟨S4096x1, .f32⟩
  | .hbm, ⟨85, _⟩ => ⟨S1x32, .f32⟩
  | .hbm, ⟨86, _⟩ => ⟨S4096x32, .f32⟩
  | .hbm, ⟨87, _⟩ => ⟨S4096x32, .f32⟩
  | .hbm, ⟨88, _⟩ => ⟨S4096x32, .f32⟩
  | .hbm, ⟨89, _⟩ => ⟨S_, .f32⟩
  | .hbm, ⟨90, _⟩ => ⟨S4096x128, .f32⟩
  | .hbm, ⟨91, _⟩ => ⟨S_, .f32⟩
  | .hbm, ⟨92, _⟩ => ⟨S4096x128, .f32⟩
  | .hbm, ⟨93, _⟩ => ⟨S4096x32, .f32⟩
  | .hbm, ⟨94, _⟩ => ⟨S4096x32, .f32⟩
  | .hbm, ⟨95, _⟩ => ⟨S_, .f32⟩
  | .hbm, ⟨96, _⟩ => ⟨S4096x64, .f32⟩
  | .hbm, ⟨97, _⟩ => ⟨S4096x256, .f32⟩
  | .hbm, ⟨98, _⟩ => ⟨S4096x32, .f32⟩
  | .hbm, ⟨99, _⟩ => ⟨S4096x32, .f32⟩
  | .hbm, ⟨100, _⟩ => ⟨S4096x32, .f32⟩
  | .hbm, ⟨101, _⟩ => ⟨S_, .f32⟩
  | .hbm, ⟨102, _⟩ => ⟨S4096x64, .f32⟩
  | .hbm, ⟨103, _⟩ => ⟨S4096x256, .f32⟩
  | .hbm, ⟨104, _⟩ => ⟨S4096x64, .f32⟩
  | .hbm, ⟨105, _⟩ => ⟨S4096x64, .f32⟩
  | .hbm, ⟨106, _⟩ => ⟨S4096x128, .f32⟩
  | .hbm, ⟨107, _⟩ => ⟨S4096x64, .f32⟩
  | .hbm, ⟨108, _⟩ => ⟨S4096x64, .f32⟩
  | .hbm, ⟨109, _⟩ => ⟨S4096x64, .f32⟩
  | .hbm, ⟨110, _⟩ => ⟨S4096x128, .f32⟩
  | .hbm, ⟨111, _⟩ => ⟨S4096x32, .f32⟩
  | .hbm, ⟨112, _⟩ => ⟨S4096x32, .f32⟩
  | .hbm, ⟨113, _⟩ => ⟨S4096x32, .f32⟩
  | .hbm, ⟨114, _⟩ => ⟨S4096x32, .f32⟩
  | .hbm, ⟨115, _⟩ => ⟨S4096x128, .f32⟩
  | .hbm, ⟨116, _⟩ => ⟨S4096x32, .f32⟩
  | .hbm, ⟨117, _⟩ => ⟨S4096x32, .f32⟩
  | .hbm, ⟨118, _⟩ => ⟨S4096x32, .f32⟩
  | .hbm, ⟨119, _⟩ => ⟨S4096x32, .f32⟩
  | .hbm, ⟨120, _⟩ => ⟨S4096x32, .f32⟩
  | .hbm, ⟨121, _⟩ => ⟨S4096x32, .f32⟩
  | .hbm, ⟨122, _⟩ => ⟨S4096x128, .f32⟩
  | .hbm, ⟨123, _⟩ => ⟨S4096x6x128, .f32⟩
  | .hbm, ⟨124, _⟩ => ⟨S4096x768, .f32⟩
  | .hbm, ⟨125, _⟩ => ⟨S4096x768, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | _, _ => ⟨S1x4096x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_3 : Ref sig .tc := ⟨.hbm, 30, rfl⟩
abbrev main_v25 : Ref sig .tc := ⟨.hbm, 31, rfl⟩
abbrev main_v26 : Ref sig .tc := ⟨.hbm, 32, rfl⟩
abbrev main_cst_4 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_5 : Ref sig .tc := ⟨.hbm, 37, rfl⟩
abbrev main_v30 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_7 : Ref sig .tc := ⟨.hbm, 50, rfl⟩
abbrev main_v41 : Ref sig .tc := ⟨.hbm, 51, rfl⟩
abbrev main_v42 : Ref sig .tc := ⟨.hbm, 52, rfl⟩
abbrev main_cst_8 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_9 : Ref sig .tc := ⟨.hbm, 57, rfl⟩
abbrev main_v46 : Ref sig .tc := ⟨.hbm, 58, rfl⟩
abbrev main_v47 : Ref sig .tc := ⟨.hbm, 59, rfl⟩
abbrev main_cst_10 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_11 : Ref sig .tc := ⟨.hbm, 70, rfl⟩
abbrev main_v57 : Ref sig .tc := ⟨.hbm, 71, rfl⟩
abbrev main_v58 : Ref sig .tc := ⟨.hbm, 72, rfl⟩
abbrev main_cst_12 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_13 : Ref sig .tc := ⟨.hbm, 77, rfl⟩
abbrev main_v62 : Ref sig .tc := ⟨.hbm, 78, rfl⟩
abbrev main_v63 : Ref sig .tc := ⟨.hbm, 79, rfl⟩
abbrev main_cst_14 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_15 : Ref sig .tc := ⟨.hbm, 89, rfl⟩
abbrev main_v72 : Ref sig .tc := ⟨.hbm, 90, rfl⟩
abbrev main_cst_16 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_17 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_18 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RopeCRIdeal.lean ====
abbrev S1x4096x6x128 : Shape := ⟨4, ![1, 4096, 6, 128]⟩
abbrev S_ : Shape := ⟨0, ![]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x6x64 : Shape := ⟨4, ![1, 4096, 6, 64]⟩
abbrev S4096x1x32 : Shape := ⟨3, ![4096, 1, 32]⟩
abbrev S1x4096x6x32 : Shape := ⟨4, ![1, 4096, 6, 32]⟩
abbrev S1x4096x1x32 : Shape := ⟨4, ![1, 4096, 1, 32]⟩
abbrev S4096x768 : Shape := ⟨2, ![4096, 768]⟩

abbrev nBuf : Space → Nat
  | .hbm => 131
  | .vmem => 0
  | .smem => 0
  | _ => 0

abbrev hbmTy0_0 (i : Nat) : BufTy := match i % 128 with
  | 0 => ⟨S1x4096x6x128, .f32⟩
  | 1 => ⟨S_, .f32⟩
  | 2 => ⟨S1x4096x6x128, .f32⟩
  | 3 => ⟨S64, .i32⟩
  | 4 => ⟨S64x64, .i32⟩
  | 5 => ⟨S4096, .i32⟩
  | 6 => ⟨S64, .i32⟩
  | 7 => ⟨S1x64, .i32⟩
  | 8 => ⟨S64x64, .i32⟩
  | 9 => ⟨S4096, .i32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S4096, .f32⟩
  | 25 => ⟨S4096x1, .f32⟩
  | 26 => ⟨S1x32, .f32⟩
  | 27 => ⟨S4096x32, .f32⟩
  | 28 => ⟨S4096x32, .f32⟩
  | 29 => ⟨S4096x32, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S4096, .f32⟩
  | 45 => ⟨S4096x1, .f32⟩
  | 46 => ⟨S1x32, .f32⟩
  | 47 => ⟨S4096x32, .f32⟩
  | 48 => ⟨S4096x32, .f32⟩
  | 49 => ⟨S4096x32, .f32⟩
  | 50 => ⟨S1x4096x6x64, .f32⟩
  | 51 => ⟨S4096x32, .f32⟩
  | 52 => ⟨S4096x1x32, .f32⟩
  | 53 => ⟨S4096x32, .f32⟩
  | 54 => ⟨S4096x1x32, .f32⟩
  | 55 => ⟨S1x4096x6x32, .f32⟩
  | 56 => ⟨S1x4096x6x32, .f32⟩
  | 57 => ⟨S1x4096x1x32, .f32⟩
  | 58 => ⟨S1x4096x6x32, .f32⟩
  | 59 => ⟨S1x4096x6x32, .f32⟩
  | 60 => ⟨S1x4096x1x32, .f32⟩
  | 61 => ⟨S1x4096x6x32, .f32⟩
  | 62 => ⟨S1x4096x6x32, .f32⟩
  | 63 => ⟨S1x4096x6x32, .f32⟩
  | 64 => ⟨S1x4096x1x32, .f32⟩
  | 65 => ⟨S1x4096x6x32, .f32⟩
  | 66 => ⟨S1x4096x6x32, .f32⟩
  | 67 => ⟨S1x4096x1x32, .f32⟩
  | 68 => ⟨S1x4096x6x32, .f32⟩
  | 69 => ⟨S1x4096x6x32, .f32⟩
  | 70 => ⟨S1x4096x6x32, .f32⟩
  | 71 => ⟨S1x4096x6x64, .f32⟩
  | 72 => ⟨S1x4096x6x64, .f32⟩
  | 73 => ⟨S4096x32, .f32⟩
  | 74 => ⟨S4096x1x32, .f32⟩
  | 75 => ⟨S4096x32, .f32⟩
  | 76 => ⟨S4096x1x32, .f32⟩
  | 77 => ⟨S1x4096x6x32, .f32⟩
  | 78 => ⟨S1x4096x6x32, .f32⟩
  | 79 => ⟨S1x4096x1x32, .f32⟩
  | 80 => ⟨S1x4096x6x32, .f32⟩
  | 81 => ⟨S1x4096x6x32, .f32⟩
  | 82 => ⟨S1x4096x1x32, .f32⟩
  | 83 => ⟨S1x4096x6x32, .f32⟩
  | 84 => ⟨S1x4096x6x32, .f32⟩
  | 85 => ⟨S1x4096x6x32, .f32⟩
  | 86 => ⟨S1x4096x1x32, .f32⟩
  | 87 => ⟨S1x4096x6x32, .f32⟩
  | 88 => ⟨S1x4096x6x32, .f32⟩
  | 89 => ⟨S1x4096x1x32, .f32⟩
  | 90 => ⟨S1x4096x6x32, .f32⟩
  | 91 => ⟨S1x4096x6x32, .f32⟩
  | 92 => ⟨S1x4096x6x32, .f32⟩
  | 93 => ⟨S1x4096x6x64, .f32⟩
  | 94 => ⟨S1x4096x6x128, .f32⟩
  | 95 => ⟨S1x4096x6x64, .f32⟩
  | 96 => ⟨S1x4096x6x64, .f32⟩
  | 97 => ⟨S1x4096x6x32, .f32⟩
  | 98 => ⟨S1x4096x6x32, .f32⟩
  | 99 => ⟨S1x4096x6x32, .f32⟩
  | 100 => ⟨S1x4096x6x32, .f32⟩
  | 101 => ⟨S1x4096x6x32, .f32⟩
  | 102 => ⟨S1x4096x6x32, .f32⟩
  | 103 => ⟨S1x4096x6x32, .f32⟩
  | 104 => ⟨S1x4096x6x32, .f32⟩
  | 105 => ⟨S1x4096x6x32, .f32⟩
  | 106 => ⟨S1x4096x6x32, .f32⟩
  | 107 => ⟨S1x4096x6x32, .f32⟩
  | 108 => ⟨S1x4096x6x32, .f32⟩
  | 109 => ⟨S1x4096x6x32, .f32⟩
  | 110 => ⟨S1x4096x6x64, .f32⟩
  | 111 => ⟨S_, .f32⟩
  | 112 => ⟨S1x4096x6x128, .f32⟩
  | 113 => ⟨S1x4096x6x32, .f32⟩
  | 114 => ⟨S1x4096x6x32, .f32⟩
  | 115 => ⟨S1x4096x6x32, .f32⟩
  | 116 => ⟨S1x4096x6x32, .f32⟩
  | 117 => ⟨S1x4096x6x32, .f32⟩
  | 118 => ⟨S1x4096x6x32, .f32⟩
  | 119 => ⟨S1x4096x6x32, .f32⟩
  | 120 => ⟨S1x4096x6x32, .f32⟩
  | 121 => ⟨S1x4096x6x32, .f32⟩
  | 122 => ⟨S1x4096x6x32, .f32⟩
  | 123 => ⟨S1x4096x6x32, .f32⟩
  | 124 => ⟨S1x4096x6x32, .f32⟩
  | 125 => ⟨S1x4096x6x32, .f32⟩
  | 126 => ⟨S1x4096x6x64, .f32⟩
  | 127 => ⟨S_, .f32⟩
  | _ => ⟨S1x4096x6x128, .f32⟩

abbrev hbmTy0_1 (i : Nat) : BufTy := match i % 128 with
  | 0 => ⟨S1x4096x6x128, .f32⟩
  | 1 => ⟨S1x4096x6x128, .f32⟩
  | 2 => ⟨S4096x768, .f32⟩
  | _ => ⟨S1x4096x6x128, .f32⟩

abbrev hbmTy (i : Nat) : BufTy := match i / 128 with
  | 0 => hbmTy0_0 i
  | 1 => hbmTy0_1 i
  | _ => ⟨S1x4096x6x128, .f32⟩

abbrev bufTy : (tb : Table) → Fin (tcTables nBuf tb) → BufTy
  | .hbm, ⟨i, _⟩ => hbmTy i
  | _, _ => ⟨S1x4096x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_4 : Ref sig .tc := ⟨.hbm, 31, rfl⟩
abbrev main_v25 : Ref sig .tc := ⟨.hbm, 32, rfl⟩
abbrev main_v26 : Ref sig .tc := ⟨.hbm, 33, rfl⟩
abbrev main_cst_5 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_6 : Ref sig .tc := ⟨.hbm, 38, rfl⟩
abbrev main_v30 : Ref sig .tc := ⟨.hbm, 39, rfl⟩
abbrev main_v31 : Ref sig .tc := ⟨.hbm, 40, rfl⟩
abbrev main_cst_7 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_cst_8 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_cst_9 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩

abbrev nD : Nat := 1
abbrev τ : Topo := Topo.v7x

variable {F : FTy → Type} [FloatOps F]
-- ==== RopeCKK.lean ====
abbrev S1x4096x2x128 : Shape := ⟨4, ![1, 4096, 2, 128]⟩
abbrev S4096 : Shape := ⟨1, ![4096]⟩
abbrev S64 : Shape := ⟨1, ![64]⟩
abbrev S64x64 : Shape := ⟨2, ![64, 64]⟩
abbrev S1x64 : Shape := ⟨2, ![1, 64]⟩
abbrev S_ : Shape := ⟨0, ![]⟩
abbrev S4096x1 : Shape := ⟨2, ![4096, 1]⟩
abbrev S4096x64 : Shape := ⟨2, ![4096, 64]⟩
abbrev S32 : Shape := ⟨1, ![32]⟩
abbrev S1x32 : Shape := ⟨2, ![1, 32]⟩
abbrev S4096x32 : Shape := ⟨2, ![4096, 32]⟩
abbrev S4096x128 : Shape := ⟨2, ![4096, 128]⟩
abbrev S4096x256 : Shape := ⟨2, ![4096, 256]⟩
abbrev S4096x2x128 : Shape := ⟨3, ![4096, 2, 128]⟩

abbrev nBuf : Space → Nat
  | .hbm => 126
  | .vmem => 6
  | .smem => 0
  | _ => 0

abbrev bufTy : (tb : Table) → Fin (tcTables nBuf tb) → BufTy
  | .hbm, ⟨0, _⟩ => ⟨S1x4096x2x128, .f32⟩
  | .hbm, ⟨1, _⟩ => ⟨S4096, .i32⟩
  | .hbm, ⟨2, _⟩ => ⟨S64, .i32⟩
  | .hbm, ⟨3, _⟩ => ⟨S64x64, .i32⟩
  | .hbm, ⟨4, _⟩ => ⟨S4096, .i32⟩
  | .hbm, ⟨5, _⟩ => ⟨S64, .i32⟩
  | .hbm, ⟨6, _⟩ => ⟨S1x64, .i32⟩
  | .hbm, ⟨7, _⟩ => ⟨S64x64, .i32⟩
  | .hbm, ⟨8, _⟩ => ⟨S4096, .i32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S4096, .f32⟩
  | .hbm, ⟨24, _⟩ => ⟨S4096x1, .f32⟩
  | .hbm, ⟨25, _⟩ => ⟨S1x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S4096, .f32⟩
  | .hbm, ⟨44, _⟩ => ⟨S4096x1, .f32⟩
  | .hbm, ⟨45, _⟩ => ⟨S1x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S4096, .f32⟩
  | .hbm, ⟨64, _⟩ => ⟨S4096x1, .f32⟩
  | .hbm, ⟨65, _⟩ => ⟨S1x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S4096, .f32⟩
  | .hbm, ⟨84, _⟩ => ⟨S4096x1, .f32⟩
  | .hbm, ⟨85, _⟩ => ⟨S1x32, .f32⟩
  | .hbm, ⟨86, _⟩ => ⟨S4096x32, .f32⟩
  | .hbm, ⟨87, _⟩ => ⟨S4096x32, .f32⟩
  | .hbm, ⟨88, _⟩ => ⟨S4096x32, .f32⟩
  | .hbm, ⟨89, _⟩ => ⟨S_, .f32⟩
  | .hbm, ⟨90, _⟩ => ⟨S4096x128, .f32⟩
  | .hbm, ⟨91, _⟩ => ⟨S_, .f32⟩
  | .hbm, ⟨92, _⟩ => ⟨S4096x128, .f32⟩
  | .hbm, ⟨93, _⟩ => ⟨S4096x32, .f32⟩
  | .hbm, ⟨94, _⟩ => ⟨S4096x32, .f32⟩
  | .hbm, ⟨95, _⟩ => ⟨S_, .f32⟩
  | .hbm, ⟨96, _⟩ => ⟨S4096x64, .f32⟩
  | .hbm, ⟨97, _⟩ => ⟨S4096x256, .f32⟩
  | .hbm, ⟨98, _⟩ => ⟨S4096x32, .f32⟩
  | .hbm, ⟨99, _⟩ => ⟨S4096x32, .f32⟩
  | .hbm, ⟨100, _⟩ => ⟨S4096x32, .f32⟩
  | .hbm, ⟨101, _⟩ => ⟨S_, .f32⟩
  | .hbm, ⟨102, _⟩ => ⟨S4096x64, .f32⟩
  | .hbm, ⟨103, _⟩ => ⟨S4096x256, .f32⟩
  | .hbm, ⟨104, _⟩ => ⟨S4096x64, .f32⟩
  | .hbm, ⟨105, _⟩ => ⟨S4096x64, .f32⟩
  | .hbm, ⟨106, _⟩ => ⟨S4096x128, .f32⟩
  | .hbm, ⟨107, _⟩ => ⟨S4096x64, .f32⟩
  | .hbm, ⟨108, _⟩ => ⟨S4096x64, .f32⟩
  | .hbm, ⟨109, _⟩ => ⟨S4096x64, .f32⟩
  | .hbm, ⟨110, _⟩ => ⟨S4096x128, .f32⟩
  | .hbm, ⟨111, _⟩ => ⟨S4096x32, .f32⟩
  | .hbm, ⟨112, _⟩ => ⟨S4096x32, .f32⟩
  | .hbm, ⟨113, _⟩ => ⟨S4096x32, .f32⟩
  | .hbm, ⟨114, _⟩ => ⟨S4096x32, .f32⟩
  | .hbm, ⟨115, _⟩ => ⟨S4096x128, .f32⟩
  | .hbm, ⟨116, _⟩ => ⟨S4096x32, .f32⟩
  | .hbm, ⟨117, _⟩ => ⟨S4096x32, .f32⟩
  | .hbm, ⟨118, _⟩ => ⟨S4096x32, .f32⟩
  | .hbm, ⟨119, _⟩ => ⟨S4096x32, .f32⟩
  | .hbm, ⟨120, _⟩ => ⟨S4096x32, .f32⟩
  | .hbm, ⟨121, _⟩ => ⟨S4096x32, .f32⟩
  | .hbm, ⟨122, _⟩ => ⟨S4096x128, .f32⟩
  | .hbm, ⟨123, _⟩ => ⟨S4096x2x128, .f32⟩
  | .hbm, ⟨124, _⟩ => ⟨S4096x256, .f32⟩
  | .hbm, ⟨125, _⟩ => ⟨S4096x256, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | _, _ => ⟨S1x4096x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_3 : Ref sig .tc := ⟨.hbm, 30, rfl⟩
abbrev main_v25 : Ref sig .tc := ⟨.hbm, 31, rfl⟩
abbrev main_v26 : Ref sig .tc := ⟨.hbm, 32, rfl⟩
abbrev main_cst_4 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_5 : Ref sig .tc := ⟨.hbm, 37, rfl⟩
abbrev main_v30 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_7 : Ref sig .tc := ⟨.hbm, 50, rfl⟩
abbrev main_v41 : Ref sig .tc := ⟨.hbm, 51, rfl⟩
abbrev main_v42 : Ref sig .tc := ⟨.hbm, 52, rfl⟩
abbrev main_cst_8 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_9 : Ref sig .tc := ⟨.hbm, 57, rfl⟩
abbrev main_v46 : Ref sig .tc := ⟨.hbm, 58, rfl⟩
abbrev main_v47 : Ref sig .tc := ⟨.hbm, 59, rfl⟩
abbrev main_cst_10 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_11 : Ref sig .tc := ⟨.hbm, 70, rfl⟩
abbrev main_v57 : Ref sig .tc := ⟨.hbm, 71, rfl⟩
abbrev main_v58 : Ref sig .tc := ⟨.hbm, 72, rfl⟩
abbrev main_cst_12 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_13 : Ref sig .tc := ⟨.hbm, 77, rfl⟩
abbrev main_v62 : Ref sig .tc := ⟨.hbm, 78, rfl⟩
abbrev main_v63 : Ref sig .tc := ⟨.hbm, 79, rfl⟩
abbrev main_cst_14 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_15 : Ref sig .tc := ⟨.hbm, 89, rfl⟩
abbrev main_v72 : Ref sig .tc := ⟨.hbm, 90, rfl⟩
abbrev main_cst_16 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_17 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_18 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RopeCKRIdeal.lean ====
abbrev S1x4096x2x128 : Shape := ⟨4, ![1, 4096, 2, 128]⟩
abbrev S_ : Shape := ⟨0, ![]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x2x64 : Shape := ⟨4, ![1, 4096, 2, 64]⟩
abbrev S4096x1x32 : Shape := ⟨3, ![4096, 1, 32]⟩
abbrev S1x4096x2x32 : Shape := ⟨4, ![1, 4096, 2, 32]⟩
abbrev S1x4096x1x32 : Shape := ⟨4, ![1, 4096, 1, 32]⟩
abbrev S4096x256 : Shape := ⟨2, ![4096, 256]⟩

abbrev nBuf : Space → Nat
  | .hbm => 131
  | .vmem => 0
  | .smem => 0
  | _ => 0

abbrev hbmTy0_0 (i : Nat) : BufTy := match i % 128 with
  | 0 => ⟨S1x4096x2x128, .f32⟩
  | 1 => ⟨S_, .f32⟩
  | 2 => ⟨S1x4096x2x128, .f32⟩
  | 3 => ⟨S64, .i32⟩
  | 4 => ⟨S64x64, .i32⟩
  | 5 => ⟨S4096, .i32⟩
  | 6 => ⟨S64, .i32⟩
  | 7 => ⟨S1x64, .i32⟩
  | 8 => ⟨S64x64, .i32⟩
  | 9 => ⟨S4096, .i32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S4096, .f32⟩
  | 25 => ⟨S4096x1, .f32⟩
  | 26 => ⟨S1x32, .f32⟩
  | 27 => ⟨S4096x32, .f32⟩
  | 28 => ⟨S4096x32, .f32⟩
  | 29 => ⟨S4096x32, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S4096, .f32⟩
  | 45 => ⟨S4096x1, .f32⟩
  | 46 => ⟨S1x32, .f32⟩
  | 47 => ⟨S4096x32, .f32⟩
  | 48 => ⟨S4096x32, .f32⟩
  | 49 => ⟨S4096x32, .f32⟩
  | 50 => ⟨S1x4096x2x64, .f32⟩
  | 51 => ⟨S4096x32, .f32⟩
  | 52 => ⟨S4096x1x32, .f32⟩
  | 53 => ⟨S4096x32, .f32⟩
  | 54 => ⟨S4096x1x32, .f32⟩
  | 55 => ⟨S1x4096x2x32, .f32⟩
  | 56 => ⟨S1x4096x2x32, .f32⟩
  | 57 => ⟨S1x4096x1x32, .f32⟩
  | 58 => ⟨S1x4096x2x32, .f32⟩
  | 59 => ⟨S1x4096x2x32, .f32⟩
  | 60 => ⟨S1x4096x1x32, .f32⟩
  | 61 => ⟨S1x4096x2x32, .f32⟩
  | 62 => ⟨S1x4096x2x32, .f32⟩
  | 63 => ⟨S1x4096x2x32, .f32⟩
  | 64 => ⟨S1x4096x1x32, .f32⟩
  | 65 => ⟨S1x4096x2x32, .f32⟩
  | 66 => ⟨S1x4096x2x32, .f32⟩
  | 67 => ⟨S1x4096x1x32, .f32⟩
  | 68 => ⟨S1x4096x2x32, .f32⟩
  | 69 => ⟨S1x4096x2x32, .f32⟩
  | 70 => ⟨S1x4096x2x32, .f32⟩
  | 71 => ⟨S1x4096x2x64, .f32⟩
  | 72 => ⟨S1x4096x2x64, .f32⟩
  | 73 => ⟨S4096x32, .f32⟩
  | 74 => ⟨S4096x1x32, .f32⟩
  | 75 => ⟨S4096x32, .f32⟩
  | 76 => ⟨S4096x1x32, .f32⟩
  | 77 => ⟨S1x4096x2x32, .f32⟩
  | 78 => ⟨S1x4096x2x32, .f32⟩
  | 79 => ⟨S1x4096x1x32, .f32⟩
  | 80 => ⟨S1x4096x2x32, .f32⟩
  | 81 => ⟨S1x4096x2x32, .f32⟩
  | 82 => ⟨S1x4096x1x32, .f32⟩
  | 83 => ⟨S1x4096x2x32, .f32⟩
  | 84 => ⟨S1x4096x2x32, .f32⟩
  | 85 => ⟨S1x4096x2x32, .f32⟩
  | 86 => ⟨S1x4096x1x32, .f32⟩
  | 87 => ⟨S1x4096x2x32, .f32⟩
  | 88 => ⟨S1x4096x2x32, .f32⟩
  | 89 => ⟨S1x4096x1x32, .f32⟩
  | 90 => ⟨S1x4096x2x32, .f32⟩
  | 91 => ⟨S1x4096x2x32, .f32⟩
  | 92 => ⟨S1x4096x2x32, .f32⟩
  | 93 => ⟨S1x4096x2x64, .f32⟩
  | 94 => ⟨S1x4096x2x128, .f32⟩
  | 95 => ⟨S1x4096x2x64, .f32⟩
  | 96 => ⟨S1x4096x2x64, .f32⟩
  | 97 => ⟨S1x4096x2x32, .f32⟩
  | 98 => ⟨S1x4096x2x32, .f32⟩
  | 99 => ⟨S1x4096x2x32, .f32⟩
  | 100 => ⟨S1x4096x2x32, .f32⟩
  | 101 => ⟨S1x4096x2x32, .f32⟩
  | 102 => ⟨S1x4096x2x32, .f32⟩
  | 103 => ⟨S1x4096x2x32, .f32⟩
  | 104 => ⟨S1x4096x2x32, .f32⟩
  | 105 => ⟨S1x4096x2x32, .f32⟩
  | 106 => ⟨S1x4096x2x32, .f32⟩
  | 107 => ⟨S1x4096x2x32, .f32⟩
  | 108 => ⟨S1x4096x2x32, .f32⟩
  | 109 => ⟨S1x4096x2x32, .f32⟩
  | 110 => ⟨S1x4096x2x64, .f32⟩
  | 111 => ⟨S_, .f32⟩
  | 112 => ⟨S1x4096x2x128, .f32⟩
  | 113 => ⟨S1x4096x2x32, .f32⟩
  | 114 => ⟨S1x4096x2x32, .f32⟩
  | 115 => ⟨S1x4096x2x32, .f32⟩
  | 116 => ⟨S1x4096x2x32, .f32⟩
  | 117 => ⟨S1x4096x2x32, .f32⟩
  | 118 => ⟨S1x4096x2x32, .f32⟩
  | 119 => ⟨S1x4096x2x32, .f32⟩
  | 120 => ⟨S1x4096x2x32, .f32⟩
  | 121 => ⟨S1x4096x2x32, .f32⟩
  | 122 => ⟨S1x4096x2x32, .f32⟩
  | 123 => ⟨S1x4096x2x32, .f32⟩
  | 124 => ⟨S1x4096x2x32, .f32⟩
  | 125 => ⟨S1x4096x2x32, .f32⟩
  | 126 => ⟨S1x4096x2x64, .f32⟩
  | 127 => ⟨S_, .f32⟩
  | _ => ⟨S1x4096x2x128, .f32⟩

abbrev hbmTy0_1 (i : Nat) : BufTy := match i % 128 with
  | 0 => ⟨S1x4096x2x128, .f32⟩
  | 1 => ⟨S1x4096x2x128, .f32⟩
  | 2 => ⟨S4096x256, .f32⟩
  | _ => ⟨S1x4096x2x128, .f32⟩

abbrev hbmTy (i : Nat) : BufTy := match i / 128 with
  | 0 => hbmTy0_0 i
  | 1 => hbmTy0_1 i
  | _ => ⟨S1x4096x2x128, .f32⟩

abbrev bufTy : (tb : Table) → Fin (tcTables nBuf tb) → BufTy
  | .hbm, ⟨i, _⟩ => hbmTy i
  | _, _ => ⟨S1x4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_4 : Ref sig .tc := ⟨.hbm, 31, rfl⟩
abbrev main_v25 : Ref sig .tc := ⟨.hbm, 32, rfl⟩
abbrev main_v26 : Ref sig .tc := ⟨.hbm, 33, rfl⟩
abbrev main_cst_5 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_6 : Ref sig .tc := ⟨.hbm, 38, rfl⟩
abbrev main_v30 : Ref sig .tc := ⟨.hbm, 39, rfl⟩
abbrev main_v31 : Ref sig .tc := ⟨.hbm, 40, rfl⟩
abbrev main_cst_7 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_cst_8 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_cst_9 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩

abbrev nD : Nat := 1
abbrev τ : Topo := Topo.v7x

variable {F : FTy → Type} [FloatOps F]
-- ==== LossK.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x2048, .f32⟩
  | .hbm, ⟨6, _⟩ => ⟨S1x128, .f32⟩
  | .hbm, ⟨7, _⟩ => ⟨S4096x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S1x2048, .f32⟩
  | .local _ .vmem, ⟨8, _⟩ => ⟨S1x128, .f32⟩
  | .local _ .vmem, ⟨9, _⟩ => ⟨S128x2048, .bf16⟩
  | .local _ .vmem, ⟨10, _⟩ => ⟨S128x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LossRIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x2048, .f32⟩
  | .hbm, ⟨72, _⟩ => ⟨S1x128, .f32⟩
  | .hbm, ⟨73, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== FlfCK.lean ====
abbrev S1x4096x2x3x128 : Shape := ⟨5, ![1, 4096, 2, 3, 128]⟩
abbrev S1x4096x2x128 : Shape := ⟨4, ![1, 4096, 2, 128]⟩
abbrev S4096x768 : Shape := ⟨2, ![4096, 768]⟩
abbrev S4096x256 : Shape := ⟨2, ![4096, 256]⟩
abbrev S6x4096x128 : Shape := ⟨3, ![6, 4096, 128]⟩
abbrev S1024x128 : Shape := ⟨2, ![1024, 128]⟩
abbrev S4096x128 : Shape := ⟨2, ![4096, 128]⟩
abbrev S1x1024x128 : Shape := ⟨3, ![1, 1024, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S1x256x128 : Shape := ⟨3, ![1, 256, 128]⟩

abbrev nBuf : Space → Nat
  | .hbm => 11
  | .vmem => 10
  | .smem => 0
  | _ => 0

abbrev bufTy : (tb : Table) → Fin (tcTables nBuf tb) → BufTy
  | .hbm, ⟨0, _⟩ => ⟨S1x4096x2x3x128, .f32⟩
  | .hbm, ⟨1, _⟩ => ⟨S1x4096x2x128, .f32⟩
  | .hbm, ⟨2, _⟩ => ⟨S1x4096x2x128, .f32⟩
  | .hbm, ⟨3, _⟩ => ⟨S4096x768, .f32⟩
  | .hbm, ⟨4, _⟩ => ⟨S4096x768, .bf16⟩
  | .hbm, ⟨5, _⟩ => ⟨S4096x256, .f32⟩
  | .hbm, ⟨6, _⟩ => ⟨S4096x256, .bf16⟩
  | .hbm, ⟨7, _⟩ => ⟨S4096x256, .f32⟩
  | .hbm, ⟨8, _⟩ => ⟨S4096x256, .bf16⟩
  | .hbm, ⟨9, _⟩ => ⟨S4096x768, .f32⟩
  | .hbm, ⟨10, _⟩ => ⟨S6x4096x128, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1x1024x128, .f32⟩
  | .local _ .vmem, ⟨9, _⟩ => ⟨S1x1024x128, .f32⟩
  | _, _ => ⟨S1x4096x2x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  ![c0_i32_5.toNat, v17.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli c1_i32_4 v16
  let c0_i32_5 : BitVec 32 := 0#32
  let v18 : BitVec 32 := Scalar.addi c0_i32_5 v17
  let c0_i32_6 : BitVec 32 := 0#32
  let c0_i32_7 : BitVec 32 := 0#32
  ![c0_i32_6.toNat, v18.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlfCKIdeal.lean ====
variable {F : FTy → Type} [FloatOps F] [Named F]
def κ : String → Option EReal := fun
  | "c" => some (((Real.sqrt 128)⁻¹ * (Real.log 2)⁻¹ : ℝ) : EReal)
  | "log2e" => some (((Real.log 2)⁻¹ : ℝ) : EReal)
  | _ => none
-- ==== FlfCRIdeal.lean ====
abbrev S1x4096x2x3x128 : Shape := ⟨5, ![1, 4096, 2, 3, 128]⟩
abbrev S1x4096x2x128 : Shape := ⟨4, ![1, 4096, 2, 128]⟩
abbrev S_ : Shape := ⟨0, ![]⟩
abbrev S1x2x4096x4096x3 : Shape := ⟨5, ![1, 2, 4096, 4096, 3]⟩
abbrev S1x2x3x4096x4096 : Shape := ⟨5, ![1, 2, 3, 4096, 4096]⟩
abbrev S1x2x3x4096 : Shape := ⟨4, ![1, 2, 3, 4096]⟩
abbrev S1x2x3x4096x1 : Shape := ⟨5, ![1, 2, 3, 4096, 1]⟩
abbrev S1x2x128x3x4096 : Shape := ⟨5, ![1, 2, 128, 3, 4096]⟩
abbrev S4096x768 : Shape := ⟨2, ![4096, 768]⟩
abbrev S6x4096x1 : Shape := ⟨3, ![6, 4096, 1]⟩
abbrev S6x4096x128 : Shape := ⟨3, ![6, 4096, 128]⟩

abbrev nBuf : Space → Nat
  | .hbm => 42
  | .vmem => 0
  | .smem => 0
  | _ => 0

abbrev bufTy : (tb : Table) → Fin (tcTables nBuf tb) → BufTy
  | .hbm, ⟨0, _⟩ => ⟨S1x4096x2x3x128, .f32⟩
  | .hbm, ⟨1, _⟩ => ⟨S1x4096x2x128, .f32⟩
  | .hbm, ⟨2, _⟩ => ⟨S1x4096x2x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x2x4096x4096x3, .f32⟩
  | .hbm, ⟨8, _⟩ => ⟨S1x2x3x4096x4096, .f32⟩
  | .hbm, ⟨9, _⟩ => ⟨S1x2x3x4096x4096, .f32⟩
  | .hbm, ⟨10, _⟩ => ⟨S1x2x3x4096x4096, .f32⟩
  | .hbm, ⟨11, _⟩ => ⟨S_, .f32⟩
  | .hbm, ⟨12, _⟩ => ⟨S1x2x3x4096, .f32⟩
  | .hbm, ⟨13, _⟩ => ⟨S_, .f32⟩
  | .hbm, ⟨14, _⟩ => ⟨S1x2x3x4096, .f32⟩
  | .hbm, ⟨15, _⟩ => ⟨S1x2x3x4096, .f32⟩
  | .hbm, ⟨16, _⟩ => ⟨S1x2x3x4096x1, .f32⟩
  | .hbm, ⟨17, _⟩ => ⟨S1x2x3x4096x4096, .f32⟩
  | .hbm, ⟨18, _⟩ => ⟨S1x2x3x4096x4096, .f32⟩
  | .hbm, ⟨19, _⟩ => ⟨S1x2x3x4096x4096, .f32⟩
  | .hbm, ⟨20, _⟩ => ⟨S_, .f32⟩
  | .hbm, ⟨21, _⟩ => ⟨S1x2x3x4096, .f32⟩
  | .hbm, ⟨22, _⟩ => ⟨S1x2x3x4096x1, .f32⟩
  | .hbm, ⟨23, _⟩ => ⟨S1x2x3x4096x4096, .f32⟩
  | .hbm, ⟨24, _⟩ => ⟨S1x2x3x4096x4096, .f32⟩
  | .hbm, ⟨25, _⟩ => ⟨S1x2x128x3x4096, .f32⟩
  | .hbm, ⟨26, _⟩ => ⟨S1x4096x2x3x128, .f32⟩
  | .hbm, ⟨27, _⟩ => ⟨S4096x768, .f32⟩
  | .hbm, ⟨28, _⟩ => ⟨S1x2x4096x4096x3, .f32⟩
  | .hbm, ⟨29, _⟩ => ⟨S1x2x3x4096x4096, .f32⟩
  | .hbm, ⟨30, _⟩ => ⟨S1x2x3x4096x4096, .f32⟩
  | .hbm, ⟨31, _⟩ => ⟨S1x2x3x4096x4096, .f32⟩
  | .hbm, ⟨32, _⟩ => ⟨S1x2x3x4096x4096, .f32⟩
  | .hbm, ⟨33, _⟩ => ⟨S_, .f32⟩
  | .hbm, ⟨34, _⟩ => ⟨S1x2x3x4096, .f32⟩
  | .hbm, ⟨35, _⟩ => ⟨S1x2x3x4096, .f32⟩
  | .hbm, ⟨36, _⟩ => ⟨S_, .f32⟩
  | .hbm, ⟨37, _⟩ => ⟨S_, .f32⟩
  | .hbm, ⟨38, _⟩ => ⟨S1x2x3x4096, .f32⟩
  | .hbm, ⟨39, _⟩ => ⟨S1x2x3x4096, .f32⟩
  | .hbm, ⟨40, _⟩ => ⟨S6x4096x1, .f32⟩
  | .hbm, ⟨41, _⟩ => ⟨S6x4096x128, .f32⟩
  | _, _ => ⟨S1x4096x2x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== FlfAK.lean ====
abbrev S1x4096x4x1x192 : Shape := ⟨5, ![1, 4096, 4, 1, 192]⟩
abbrev S1x4096x4x192 : Shape := ⟨4, ![1, 4096, 4, 192]⟩
abbrev S1x4096x4x128 : Shape := ⟨4, ![1, 4096, 4, 128]⟩
abbrev S4096x4x192 : Shape := ⟨3, ![4096, 4, 192]⟩
abbrev S_ : Shape := ⟨0, ![]⟩
abbrev S4096x4x256 : Shape := ⟨3, ![4096, 4, 256]⟩
abbrev S4096x1024 : Shape := ⟨2, ![4096, 1024]⟩
abbrev S4096x4x128 : Shape := ⟨3, ![4096, 4, 128]⟩
abbrev S4096x512 : Shape := ⟨2, ![4096, 512]⟩
abbrev S4x4096x128 : Shape := ⟨3, ![4, 4096, 128]⟩
abbrev S1024x256 : Shape := ⟨2, ![1024, 256]⟩
abbrev S4096x256 : Shape := ⟨2, ![4096, 256]⟩
abbrev S4096x128 : Shape := ⟨2, ![4096, 128]⟩
abbrev S1024x128 : Shape := ⟨2, ![1024, 128]⟩
abbrev S1x1024x128 : Shape := ⟨3, ![1, 1024, 128]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 23
  | .vmem => 10
  | .smem => 0
  | _ => 0

abbrev bufTy : (tb : Table) → Fin (tcTables nBuf tb) → BufTy
  | .hbm, ⟨0, _⟩ => ⟨S1x4096x4x1x192, .f32⟩
  | .hbm, ⟨1, _⟩ => ⟨S1x4096x4x192, .f32⟩
  | .hbm, ⟨2, _⟩ => ⟨S1x4096x4x128, .f32⟩
  | .hbm, ⟨3, _⟩ => ⟨S4096x4x192, .f32⟩
  | .hbm, ⟨4, _⟩ => ⟨S_, .i32⟩
  | .hbm, ⟨5, _⟩ => ⟨S_, .f32⟩
  | .hbm, ⟨6, _⟩ => ⟨S4096x4x256, .f32⟩
  | .hbm, ⟨7, _⟩ => ⟨S4096x1024, .f32⟩
  | .hbm, ⟨8, _⟩ => ⟨S4096x1024, .bf16⟩
  | .hbm, ⟨9, _⟩ => ⟨S4096x4x192, .f32⟩
  | .hbm, ⟨10, _⟩ => ⟨S_, .i32⟩
  | .hbm, ⟨11, _⟩ => ⟨S_, .f32⟩
  | .hbm, ⟨12, _⟩ => ⟨S4096x4x256, .f32⟩
  | .hbm, ⟨13, _⟩ => ⟨S4096x1024, .f32⟩
  | .hbm, ⟨14, _⟩ => ⟨S4096x1024, .bf16⟩
  | .hbm, ⟨15, _⟩ => ⟨S_, .f32⟩
  | .hbm, ⟨16, _⟩ => ⟨S4096x4x128, .f32⟩
  | .hbm, ⟨17, _⟩ => ⟨S4096x4x128, .f32⟩
  | .hbm, ⟨18, _⟩ => ⟨S4096x4x256, .f32⟩
  | .hbm, ⟨19, _⟩ => ⟨S4096x1024, .f32⟩
  | .hbm, ⟨20, _⟩ => ⟨S4096x1024, .bf16⟩
  | .hbm, ⟨21, _⟩ => ⟨S4096x512, .f32⟩
  | .hbm, ⟨22, _⟩ => ⟨S4x4096x128, .f32⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1x1024x128, .f32⟩
  | .local _ .vmem, ⟨9, _⟩ => ⟨S1x1024x128, .f32⟩
  | _, _ => ⟨S1x4096x4x1x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c0_i32_6 : BitVec 32 := 0#32
  let c0_i32_7 : BitVec 32 := 0#32
  ![c0_i32_6.toNat, v17.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.addi c1_i32_5 v17
  let c0_i32_6 : BitVec 32 := 0#32
  let c0_i32_7 : BitVec 32 := 0#32
  ![c0_i32_6.toNat, v18.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlfAKIdeal.lean ====
variable {F : FTy → Type} [FloatOps F] [Named F]
def κ : String → Option EReal := fun
  | "c" => some (((Real.sqrt 192)⁻¹ * (Real.log 2)⁻¹ : ℝ) : EReal)
  | "log2e" => some (((Real.log 2)⁻¹ : ℝ) : EReal)
  | _ => none
-- ==== FlfARIdeal.lean ====
abbrev S1x4096x4x1x192 : Shape := ⟨5, ![1, 4096, 4, 1, 192]⟩
abbrev S1x4096x4x192 : Shape := ⟨4, ![1, 4096, 4, 192]⟩
abbrev S1x4096x4x128 : Shape := ⟨4, ![1, 4096, 4, 128]⟩
abbrev S_ : Shape := ⟨0, ![]⟩
abbrev S1x4x4096x4096x1 : Shape := ⟨5, ![1, 4, 4096, 4096, 1]⟩
abbrev S1x4x1x4096x4096 : Shape := ⟨5, ![1, 4, 1, 4096, 4096]⟩
abbrev S1x4x1x4096 : Shape := ⟨4, ![1, 4, 1, 4096]⟩
abbrev S1x4x1x4096x1 : Shape := ⟨5, ![1, 4, 1, 4096, 1]⟩
abbrev S1x4x128x1x4096 : Shape := ⟨5, ![1, 4, 128, 1, 4096]⟩
abbrev S1x4096x4x1x128 : Shape := ⟨5, ![1, 4096, 4, 1, 128]⟩
abbrev S4096x512 : Shape := ⟨2, ![4096, 512]⟩
abbrev S4x4096x1 : Shape := ⟨3, ![4, 4096, 1]⟩
abbrev S4x4096x128 : Shape := ⟨3, ![4, 4096, 128]⟩

abbrev nBuf : Space → Nat
  | .hbm => 42
  | .vmem => 0
  | .smem => 0
  | _ => 0

abbrev bufTy : (tb : Table) → Fin (tcTables nBuf tb) → BufTy
  | .hbm, ⟨0, _⟩ => ⟨S1x4096x4x1x192, .f32⟩
  | .hbm, ⟨1, _⟩ => ⟨S1x4096x4x192, .f32⟩
  | .hbm, ⟨2, _⟩ => ⟨S1x4096x4x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x4x4096x4096x1, .f32⟩
  | .hbm, ⟨8, _⟩ => ⟨S1x4x1x4096x4096, .f32⟩
  | .hbm, ⟨9, _⟩ => ⟨S1x4x1x4096x4096, .f32⟩
  | .hbm, ⟨10, _⟩ => ⟨S1x4x1x4096x4096, .f32⟩
  | .hbm, ⟨11, _⟩ => ⟨S_, .f32⟩
  | .hbm, ⟨12, _⟩ => ⟨S1x4x1x4096, .f32⟩
  | .hbm, ⟨13, _⟩ => ⟨S_, .f32⟩
  | .hbm, ⟨14, _⟩ => ⟨S1x4x1x4096, .f32⟩
  | .hbm, ⟨15, _⟩ => ⟨S1x4x1x4096, .f32⟩
  | .hbm, ⟨16, _⟩ => ⟨S1x4x1x4096x1, .f32⟩
  | .hbm, ⟨17, _⟩ => ⟨S1x4x1x4096x4096, .f32⟩
  | .hbm, ⟨18, _⟩ => ⟨S1x4x1x4096x4096, .f32⟩
  | .hbm, ⟨19, _⟩ => ⟨S1x4x1x4096x4096, .f32⟩
  | .hbm, ⟨20, _⟩ => ⟨S_, .f32⟩
  | .hbm, ⟨21, _⟩ => ⟨S1x4x1x4096, .f32⟩
  | .hbm, ⟨22, _⟩ => ⟨S1x4x1x4096x1, .f32⟩
  | .hbm, ⟨23, _⟩ => ⟨S1x4x1x4096x4096, .f32⟩
  | .hbm, ⟨24, _⟩ => ⟨S1x4x1x4096x4096, .f32⟩
  | .hbm, ⟨25, _⟩ => ⟨S1x4x128x1x4096, .f32⟩
  | .hbm, ⟨26, _⟩ => ⟨S1x4096x4x1x128, .f32⟩
  | .hbm, ⟨27, _⟩ => ⟨S4096x512, .f32⟩
  | .hbm, ⟨28, _⟩ => ⟨S1x4x4096x4096x1, .f32⟩
  | .hbm, ⟨29, _⟩ => ⟨S1x4x1x4096x4096, .f32⟩
  | .hbm, ⟨30, _⟩ => ⟨S1x4x1x4096x4096, .f32⟩
  | .hbm, ⟨31, _⟩ => ⟨S1x4x1x4096x4096, .f32⟩
  | .hbm, ⟨32, _⟩ => ⟨S1x4x1x4096x4096, .f32⟩
  | .hbm, ⟨33, _⟩ => ⟨S_, .f32⟩
  | .hbm, ⟨34, _⟩ => ⟨S1x4x1x4096, .f32⟩
  | .hbm, ⟨35, _⟩ => ⟨S1x4x1x4096, .f32⟩
  | .hbm, ⟨36, _⟩ => ⟨S_, .f32⟩
  | .hbm, ⟨37, _⟩ => ⟨S_, .f32⟩
  | .hbm, ⟨38, _⟩ => ⟨S1x4x1x4096, .f32⟩
  | .hbm, ⟨39, _⟩ => ⟨S1x4x1x4096, .f32⟩
  | .hbm, ⟨40, _⟩ => ⟨S4x4096x1, .f32⟩
  | .hbm, ⟨41, _⟩ => ⟨S4x4096x128, .f32⟩
  | _, _ => ⟨S1x4096x4x1x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== LatK.lean ====
abbrev S1x4096x4x192 : Shape := ⟨4, ![1, 4096, 4, 192]⟩
abbrev S1x4096x4x128 : Shape := ⟨4, ![1, 4096, 4, 128]⟩
abbrev S4096 : Shape := ⟨1, ![4096]⟩
abbrev S64 : Shape := ⟨1, ![64]⟩
abbrev S64x64 : Shape := ⟨2, ![64, 64]⟩
abbrev S1x64 : Shape := ⟨2, ![1, 64]⟩
abbrev S_ : Shape := ⟨0, ![]⟩
abbrev S4096x1 : Shape := ⟨2, ![4096, 1]⟩
abbrev S4096x64 : Shape := ⟨2, ![4096, 64]⟩
abbrev S32 : Shape := ⟨1, ![32]⟩
abbrev S1x32 : Shape := ⟨2, ![1, 32]⟩
abbrev S4096x32 : Shape := ⟨2, ![4096, 32]⟩
abbrev S4096x128 : Shape := ⟨2, ![4096, 128]⟩
abbrev S4096x256 : Shape := ⟨2, ![4096, 256]⟩
abbrev S4096x4x192 : Shape := ⟨3, ![4096, 4, 192]⟩
abbrev S4096x4x256 : Shape := ⟨3, ![4096, 4, 256]⟩
abbrev S4096x1024 : Shape := ⟨2, ![4096, 1024]⟩
abbrev S4096x4x128 : Shape := ⟨3, ![4096, 4, 128]⟩
abbrev S4096x512 : Shape := ⟨2, ![4096, 512]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩

abbrev nBuf : Space → Nat
  | .hbm => 133
  | .vmem => 12
  | .smem => 0
  | _ => 0

abbrev hbmTy0_0 (i : Nat) : BufTy := match i % 128 with
  | 0 => ⟨S1x4096x4x192, .f32⟩
  | 1 => ⟨S1x4096x4x128, .f32⟩
  | 2 => ⟨S4096, .i32⟩
  | 3 => ⟨S64, .i32⟩
  | 4 => ⟨S64x64, .i32⟩
  | 5 => ⟨S4096, .i32⟩
  | 6 => ⟨S64, .i32⟩
  | 7 => ⟨S1x64, .i32⟩
  | 8 => ⟨S64x64, .i32⟩
  | 9 => ⟨S4096, .i32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S4096, .f32⟩
  | 25 => ⟨S4096x1, .f32⟩
  | 26 => ⟨S1x64, .f32⟩
  | 27 => ⟨S4096x64, .f32⟩
  | 28 => ⟨S4096x64, .f32⟩
  | 29 => ⟨S4096x64, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S4096, .f32⟩
  | 45 => ⟨S4096x1, .f32⟩
  | 46 => ⟨S1x32, .f32⟩
  | 47 => ⟨S4096x32, .f32⟩
  | 48 => ⟨S4096x32, .f32⟩
  | 49 => ⟨S4096x32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S4096, .f32⟩
  | 65 => ⟨S4096x1, .f32⟩
  | 66 => ⟨S1x32, .f32⟩
  | 67 => ⟨S4096x32, .f32⟩
  | 68 => ⟨S4096x32, .f32⟩
  | 69 => ⟨S4096x32, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S4096, .f32⟩
  | 85 => ⟨S4096x1, .f32⟩
  | 86 => ⟨S1x32, .f32⟩
  | 87 => ⟨S4096x32, .f32⟩
  | 88 => ⟨S4096x32, .f32⟩
  | 89 => ⟨S4096x32, .f32⟩
  | 90 => ⟨S_, .f32⟩
  | 91 => ⟨S4096x128, .f32⟩
  | 92 => ⟨S_, .f32⟩
  | 93 => ⟨S4096x128, .f32⟩
  | 94 => ⟨S4096x32, .f32⟩
  | 95 => ⟨S4096x32, .f32⟩
  | 96 => ⟨S_, .f32⟩
  | 97 => ⟨S4096x64, .f32⟩
  | 98 => ⟨S4096x256, .f32⟩
  | 99 => ⟨S4096x32, .f32⟩
  | 100 => ⟨S4096x32, .f32⟩
  | 101 => ⟨S4096x32, .f32⟩
  | 102 => ⟨S_, .f32⟩
  | 103 => ⟨S4096x64, .f32⟩
  | 104 => ⟨S4096x256, .f32⟩
  | 105 => ⟨S4096x64, .f32⟩
  | 106 => ⟨S4096x64, .f32⟩
  | 107 => ⟨S4096x128, .f32⟩
  | 108 => ⟨S4096x64, .f32⟩
  | 109 => ⟨S4096x64, .f32⟩
  | 110 => ⟨S4096x64, .f32⟩
  | 111 => ⟨S4096x128, .f32⟩
  | 112 => ⟨S4096x32, .f32⟩
  | 113 => ⟨S4096x32, .f32⟩
  | 114 => ⟨S4096x32, .f32⟩
  | 115 => ⟨S4096x32, .f32⟩
  | 116 => ⟨S4096x128, .f32⟩
  | 117 => ⟨S4096x32, .f32⟩
  | 118 => ⟨S4096x32, .f32⟩
  | 119 => ⟨S4096x32, .f32⟩
  | 120 => ⟨S4096x32, .f32⟩
  | 121 => ⟨S4096x32, .f32⟩
  | 122 => ⟨S4096x32, .f32⟩
  | 123 => ⟨S4096x128, .f32⟩
  | 124 => ⟨S4096x4x192, .f32⟩
  | 125 => ⟨S_, .i32⟩
  | 126 => ⟨S_, .f32⟩
  | 127 => ⟨S4096x4x256, .f32⟩
  | _ => ⟨S1x4096x4x192, .f32⟩

abbrev hbmTy0_1 (i : Nat) : BufTy := match i % 128 with
  | 0 => ⟨S4096x1024, .f32⟩
  | 1 => ⟨S4096x4x128, .f32⟩
  | 2 => ⟨S4096x512, .f32⟩
  | 3 => ⟨S4096x1024, .bf16⟩
  | 4 => ⟨S4096x128, .bf16⟩
  | _ => ⟨S1x4096x4x192, .f32⟩

abbrev hbmTy (i : Nat) : BufTy := match i / 128 with
  | 0 => hbmTy0_0 i
  | 1 => hbmTy0_1 i
  | _ => ⟨S1x4096x4x192, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x1024, .bf16⟩
  | .local _ .vmem, ⟨9, _⟩ => ⟨S512x1024, .bf16⟩
  | .local _ .vmem, ⟨10, _⟩ => ⟨S512x128, .bf16⟩
  | .local _ .vmem, ⟨11, _⟩ => ⟨S512x128, .bf16⟩
  | _, _ => ⟨S1x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩
abbrev main_v42 : Ref sig .tc := ⟨.hbm, 53, rfl⟩
abbrev main_cst_8 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_9 : Ref sig .tc := ⟨.hbm, 58, rfl⟩
abbrev main_v46 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_11 : Ref sig .tc := ⟨.hbm, 71, rfl⟩
abbrev main_v57 : Ref sig .tc := ⟨.hbm, 72, rfl⟩
abbrev main_v58 : Ref sig .tc := ⟨.hbm, 73, rfl⟩
abbrev main_cst_12 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_13 : Ref sig .tc := ⟨.hbm, 78, rfl⟩
abbrev main_v62 : Ref sig .tc := ⟨.hbm, 79, rfl⟩
abbrev main_v63 : Ref sig .tc := ⟨.hbm, 80, rfl⟩
abbrev main_cst_14 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_15 : Ref sig .tc := ⟨.hbm, 90, rfl⟩
abbrev main_v72 : Ref sig .tc := ⟨.hbm, 91, rfl⟩
abbrev main_cst_16 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_17 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_18 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_c : Ref sig .tc := ⟨.hbm, 125, rfl⟩
abbrev main_call0_v0 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107_0 : Ref sig .tc := ⟨.hbm, 131, rfl⟩
abbrev main_v107_1 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LatRIdeal.lean ====
abbrev S1x4096x4x192 : Shape := ⟨4, ![1, 4096, 4, 192]⟩
abbrev S1x4096x4x128 : Shape := ⟨4, ![1, 4096, 4, 128]⟩
abbrev S_ : Shape := ⟨0, ![]⟩
abbrev S1x4096x1024 : Shape := ⟨3, ![1, 4096, 1024]⟩
abbrev S1x4096x64 : Shape := ⟨3, ![1, 4096, 64]⟩
abbrev S1x4096x1x64 : Shape := ⟨4, ![1, 4096, 1, 64]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S1x4096x1x32 : Shape := ⟨4, ![1, 4096, 1, 32]⟩
abbrev S1x4096x4x256 : Shape := ⟨4, ![1, 4096, 4, 256]⟩
abbrev S1x4096x4x64 : Shape := ⟨4, ![1, 4096, 4, 64]⟩
abbrev S4096x64 : Shape := ⟨2, ![4096, 64]⟩
abbrev S1x4096x128 : Shape := ⟨3, ![1, 4096, 128]⟩
abbrev S4096x1024 : Shape := ⟨2, ![4096, 1024]⟩
abbrev S4096x128 : Shape := ⟨2, ![4096, 128]⟩

abbrev nBuf : Space → Nat
  | .hbm => 77
  | .vmem => 0
  | .smem => 0
  | _ => 0

abbrev bufTy : (tb : Table) → Fin (tcTables nBuf tb) → BufTy
  | .hbm, ⟨0, _⟩ => ⟨S1x4096x4x192, .f32⟩
  | .hbm, ⟨1, _⟩ => ⟨S1x4096x4x128, .f32⟩
  | .hbm, ⟨2, _⟩ => ⟨S_, .f32⟩
  | .hbm, ⟨3, _⟩ => ⟨S1x4096x1024, .f32⟩
  | .hbm, ⟨4, _⟩ => ⟨S_, .f32⟩
  | .hbm, ⟨5, _⟩ => ⟨S1x4096x64, .f32⟩
  | .hbm, ⟨6, _⟩ => ⟨S1x4096x1x64, .f32⟩
  | .hbm, ⟨7, _⟩ => ⟨S4096, .i32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x1x32, .f32⟩
  | .hbm, ⟨30, _⟩ => ⟨S4096x32, .f32⟩
  | .hbm, ⟨31, _⟩ => ⟨S4096x1x32, .f32⟩
  | .hbm, ⟨32, _⟩ => ⟨S1x4096x1x32, .f32⟩
  | .hbm, ⟨33, _⟩ => ⟨S1x4096x1x32, .f32⟩
  | .hbm, ⟨34, _⟩ => ⟨S1x4096x1x32, .f32⟩
  | .hbm, ⟨35, _⟩ => ⟨S1x4096x1x32, .f32⟩
  | .hbm, ⟨36, _⟩ => ⟨S1x4096x1x32, .f32⟩
  | .hbm, ⟨37, _⟩ => ⟨S1x4096x1x32, .f32⟩
  | .hbm, ⟨38, _⟩ => ⟨S1x4096x1x32, .f32⟩
  | .hbm, ⟨39, _⟩ => ⟨S1x4096x1x32, .f32⟩
  | .hbm, ⟨40, _⟩ => ⟨S1x4096x1x32, .f32⟩
  | .hbm, ⟨41, _⟩ => ⟨S1x4096x1x32, .f32⟩
  | .hbm, ⟨42, _⟩ => ⟨S1x4096x1x32, .f32⟩
  | .hbm, ⟨43, _⟩ => ⟨S1x4096x1x32, .f32⟩
  | .hbm, ⟨44, _⟩ => ⟨S1x4096x1x64, .f32⟩
  | .hbm, ⟨45, _⟩ => ⟨S1x4096x4x256, .f32⟩
  | .hbm, ⟨46, _⟩ => ⟨S1x4096x4x128, .f32⟩
  | .hbm, ⟨47, _⟩ => ⟨S1x4096x4x128, .f32⟩
  | .hbm, ⟨48, _⟩ => ⟨S1x4096x4x64, .f32⟩
  | .hbm, ⟨49, _⟩ => ⟨S1x4096x4x192, .f32⟩
  | .hbm, ⟨50, _⟩ => ⟨S1x4096x4x128, .f32⟩
  | .hbm, ⟨51, _⟩ => ⟨S1x4096x4x64, .f32⟩
  | .hbm, ⟨52, _⟩ => ⟨S_, .f32⟩
  | .hbm, ⟨53, _⟩ => ⟨S4096x64, .f32⟩
  | .hbm, ⟨54, _⟩ => ⟨S1x4096x1x64, .f32⟩
  | .hbm, ⟨55, _⟩ => ⟨S1x4096x4x256, .f32⟩
  | .hbm, ⟨56, _⟩ => ⟨S1x4096x1024, .f32⟩
  | .hbm, ⟨57, _⟩ => ⟨S1x4096x1x32, .f32⟩
  | .hbm, ⟨58, _⟩ => ⟨S1x4096x1x32, .f32⟩
  | .hbm, ⟨59, _⟩ => ⟨S1x4096x1x32, .f32⟩
  | .hbm, ⟨60, _⟩ => ⟨S1x4096x1x32, .f32⟩
  | .hbm, ⟨61, _⟩ => ⟨S1x4096x1x32, .f32⟩
  | .hbm, ⟨62, _⟩ => ⟨S1x4096x1x32, .f32⟩
  | .hbm, ⟨63, _⟩ => ⟨S1x4096x1x32, .f32⟩
  | .hbm, ⟨64, _⟩ => ⟨S1x4096x1x32, .f32⟩
  | .hbm, ⟨65, _⟩ => ⟨S1x4096x1x32, .f32⟩
  | .hbm, ⟨66, _⟩ => ⟨S1x4096x1x64, .f32⟩
  | .hbm, ⟨67, _⟩ => ⟨S_, .f32⟩
  | .hbm, ⟨68, _⟩ => ⟨S4096x64, .f32⟩
  | .hbm, ⟨69, _⟩ => ⟨S1x4096x64, .f32⟩
  | .hbm, ⟨70, _⟩ => ⟨S_, .i32⟩
  | .hbm, ⟨71, _⟩ => ⟨S_, .f32⟩
  | .hbm, ⟨72, _⟩ => ⟨S1x4096x128, .f32⟩
  | .hbm, ⟨73, _⟩ => ⟨S4096x1024, .f32⟩
  | .hbm, ⟨74, _⟩ => ⟨S4096x1024, .bf16⟩
  | .hbm, ⟨75, _⟩ => ⟨S4096x128, .f32⟩
  | .hbm, ⟨76, _⟩ => ⟨S4096x128, .bf16⟩
  | _, _ => ⟨S1x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_6 : Ref sig .tc := ⟨.hbm, 67, rfl⟩
abbrev main_v58 : Ref sig .tc := ⟨.hbm, 68, rfl⟩
abbrev main_v59 : Ref sig .tc := ⟨.hbm, 69, rfl⟩
abbrev main_c : Ref sig .tc := ⟨.hbm, 70, rfl⟩
abbrev main_call0_v0 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== NfAK.lean ====
abbrev S4096x512 : Shape := ⟨2, ![4096, 512]⟩
abbrev S512 : Shape := ⟨1, ![512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S1x512, .f32⟩
  | .hbm, ⟨3, _⟩ => ⟨S4096x512, .bf16⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1024x512, .bf16⟩
  | .local _ .vmem, ⟨4, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NfARIdeal.lean ====
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 19
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x512, .f32⟩
  | .hbm, ⟨14, _⟩ => ⟨S4096x512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NfBK.lean ====
abbrev S4096x768 : Shape := ⟨2, ![4096, 768]⟩
abbrev S768 : Shape := ⟨1, ![768]⟩
abbrev S1x768 : Shape := ⟨2, ![1, 768]⟩
abbrev S512x768 : Shape := ⟨2, ![512, 768]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x768, .f32⟩
  | .hbm, ⟨1, _⟩ => ⟨S768, .f32⟩
  | .hbm, ⟨2, _⟩ => ⟨S1x768, .f32⟩
  | .hbm, ⟨3, _⟩ => ⟨S4096x768, .bf16⟩
  | .local _ .vmem, ⟨0, _⟩ => ⟨S512x768, .f32⟩
  | .local _ .vmem, ⟨1, _⟩ => ⟨S512x768, .f32⟩
  | .local _ .vmem, ⟨2, _⟩ => ⟨S1x768, .f32⟩
  | .local _ .vmem, ⟨3, _⟩ => ⟨S512x768, .bf16⟩
  | .local _ .vmem, ⟨4, _⟩ => ⟨S512x768, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NfBRIdeal.lean ====
abbrev S4096x768 : Shape := ⟨2, ![4096, 768]⟩
abbrev S768 : Shape := ⟨1, ![768]⟩
abbrev S_ : Shape := ⟨0, ![]⟩
abbrev S4096 : Shape := ⟨1, ![4096]⟩
abbrev S4096x1 : Shape := ⟨2, ![4096, 1]⟩
abbrev S1x768 : Shape := ⟨2, ![1, 768]⟩

abbrev nBuf : Space → Nat
  | .hbm => 19
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768, .f32⟩
  | .hbm, ⟨2, _⟩ => ⟨S4096x768, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x768, .f32⟩
  | .hbm, ⟨14, _⟩ => ⟨S4096x768, .f32⟩
  | .hbm, ⟨15, _⟩ => ⟨S1x768, .f32⟩
  | .hbm, ⟨16, _⟩ => ⟨S4096x768, .f32⟩
  | .hbm, ⟨17, _⟩ => ⟨S4096x768, .f32⟩
  | .hbm, ⟨18, _⟩ => ⟨S4096x768, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NfDK.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NfDRIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NfLK.lean ====
abbrev S4096x512 : Shape := ⟨2, ![4096, 512]⟩
abbrev S512 : Shape := ⟨1, ![512]⟩
abbrev S_ : Shape := ⟨0, ![]⟩
abbrev S4096x5120 : Shape := ⟨2, ![4096, 5120]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S_, .i32⟩
  | .hbm, ⟨3, _⟩ => ⟨S_, .f32⟩
  | .hbm, ⟨4, _⟩ => ⟨S4096x5120, .f32⟩
  | .hbm, ⟨5, _⟩ => ⟨S1x512, .f32⟩
  | .hbm, ⟨6, _⟩ => ⟨S4096x512, .bf16⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1024x512, .bf16⟩
  | .local _ .vmem, ⟨4, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NfLRIdeal.lean ====
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 19
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x512, .f32⟩
  | .hbm, ⟨14, _⟩ => ⟨S4096x512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NfQK.lean ====
abbrev S4096x6x128 : Shape := ⟨3, ![4096, 6, 128]⟩
abbrev S128 : Shape := ⟨1, ![128]⟩
abbrev S4096x768 : Shape := ⟨2, ![4096, 768]⟩
abbrev S_ : Shape := ⟨0, ![]⟩
abbrev S4096x5120 : Shape := ⟨2, ![4096, 5120]⟩
abbrev S1x128 : Shape := ⟨2, ![1, 128]⟩
abbrev S4096x128 : Shape := ⟨2, ![4096, 128]⟩
abbrev S4096 : Shape := ⟨1, ![4096]⟩
abbrev S4096x1 : Shape := ⟨2, ![4096, 1]⟩

abbrev nBuf : Space → Nat
  | .hbm => 8
  | .vmem => 5
  | .smem => 0
  | _ => 0

abbrev bufTy : (tb : Table) → Fin (tcTables nBuf tb) → BufTy
  | .hbm, ⟨0, _⟩ => ⟨S4096x6x128, .f32⟩
  | .hbm, ⟨1, _⟩ => ⟨S128, .f32⟩
  | .hbm, ⟨2, _⟩ => ⟨S4096x768, .f32⟩
  | .hbm, ⟨3, _⟩ => ⟨S_, .i32⟩
  | .hbm, ⟨4, _⟩ => ⟨S_, .f32⟩
  | .hbm, ⟨5, _⟩ => ⟨S4096x5120, .f32⟩
  | .hbm, ⟨6, _⟩ => ⟨S1x128, .f32⟩
  | .hbm, ⟨7, _⟩ => ⟨S4096x768, .f32⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S4096x128, .f32⟩
  | .local _ .vmem, ⟨4, _⟩ => ⟨S4096x128, .f32⟩
  | _, _ => ⟨S4096x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NfQRIdeal.lean ====
abbrev S4096x6x128 : Shape := ⟨3, ![4096, 6, 128]⟩
abbrev S128 : Shape := ⟨1, ![128]⟩
abbrev S_ : Shape := ⟨0, ![]⟩
abbrev S4096x6 : Shape := ⟨2, ![4096, 6]⟩
abbrev S4096x6x1 : Shape := ⟨3, ![4096, 6, 1]⟩
abbrev S1x1x128 : Shape := ⟨3, ![1, 1, 128]⟩
abbrev S4096x768 : Shape := ⟨2, ![4096, 768]⟩

abbrev nBuf : Space → Nat
  | .hbm => 19
  | .vmem => 0
  | .smem => 0
  | _ => 0

abbrev bufTy : (tb : Table) → Fin (tcTables nBuf tb) → BufTy
  | .hbm, ⟨0, _⟩ => ⟨S4096x6x128, .f32⟩
  | .hbm, ⟨1, _⟩ => ⟨S128, .f32⟩
  | .hbm, ⟨2, _⟩ => ⟨S4096x6x128, .f32⟩
  | .hbm, ⟨3, _⟩ => ⟨S_, .f32⟩
  | .hbm, ⟨4, _⟩ => ⟨S4096x6, .f32⟩
  | .hbm, ⟨5, _⟩ => ⟨S4096x6x1, .f32⟩
  | .hbm, ⟨6, _⟩ => ⟨S_, .f32⟩
  | .hbm, ⟨7, _⟩ => ⟨S4096x6x1, .f32⟩
  | .hbm, ⟨8, _⟩ => ⟨S4096x6x1, .f32⟩
  | .hbm, ⟨9, _⟩ => ⟨S_, .f32⟩
  | .hbm, ⟨10, _⟩ => ⟨S4096x6x1, .f32⟩
  | .hbm, ⟨11, _⟩ => ⟨S4096x6x1, .f32⟩
  | .hbm, ⟨12, _⟩ => ⟨S4096x6x1, .f32⟩
  | .hbm, ⟨13, _⟩ => ⟨S4096x6x128, .f32⟩
  | .hbm, ⟨14, _⟩ => ⟨S4096x6x128, .f32⟩
  | .hbm, ⟨15, _⟩ => ⟨S1x1x128, .f32⟩
  | .hbm, ⟨16, _⟩ => ⟨S4096x6x128, .f32⟩
  | .hbm, ⟨17, _⟩ => ⟨S4096x6x128, .f32⟩
  | .hbm, ⟨18, _⟩ => ⟨S4096x768, .f32⟩
  | _, _ => ⟨S4096x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NfKK.lean ====
abbrev S4096x2x128 : Shape := ⟨3, ![4096, 2, 128]⟩
abbrev S128 : Shape := ⟨1, ![128]⟩
abbrev S4096x256 : Shape := ⟨2, ![4096, 256]⟩
abbrev S_ : Shape := ⟨0, ![]⟩
abbrev S4096x5120 : Shape := ⟨2, ![4096, 5120]⟩
abbrev S1x128 : Shape := ⟨2, ![1, 128]⟩
abbrev S4096x128 : Shape := ⟨2, ![4096, 128]⟩
abbrev S4096 : Shape := ⟨1, ![4096]⟩
abbrev S4096x1 : Shape := ⟨2, ![4096, 1]⟩

abbrev nBuf : Space → Nat
  | .hbm => 8
  | .vmem => 5
  | .smem => 0
  | _ => 0

abbrev bufTy : (tb : Table) → Fin (tcTables nBuf tb) → BufTy
  | .hbm, ⟨0, _⟩ => ⟨S4096x2x128, .f32⟩
  | .hbm, ⟨1, _⟩ => ⟨S128, .f32⟩
  | .hbm, ⟨2, _⟩ => ⟨S4096x256, .f32⟩
  | .hbm, ⟨3, _⟩ => ⟨S_, .i32⟩
  | .hbm, ⟨4, _⟩ => ⟨S_, .f32⟩
  | .hbm, ⟨5, _⟩ => ⟨S4096x5120, .f32⟩
  | .hbm, ⟨6, _⟩ => ⟨S1x128, .f32⟩
  | .hbm, ⟨7, _⟩ => ⟨S4096x256, .f32⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S4096x128, .f32⟩
  | .local _ .vmem, ⟨4, _⟩ => ⟨S4096x128, .f32⟩
  | _, _ => ⟨S4096x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NfKRIdeal.lean ====
abbrev S4096x2x128 : Shape := ⟨3, ![4096, 2, 128]⟩
abbrev S128 : Shape := ⟨1, ![128]⟩
abbrev S_ : Shape := ⟨0, ![]⟩
abbrev S4096x2 : Shape := ⟨2, ![4096, 2]⟩
abbrev S4096x2x1 : Shape := ⟨3, ![4096, 2, 1]⟩
abbrev S1x1x128 : Shape := ⟨3, ![1, 1, 128]⟩
abbrev S4096x256 : Shape := ⟨2, ![4096, 256]⟩

abbrev nBuf : Space → Nat
  | .hbm => 19
  | .vmem => 0
  | .smem => 0
  | _ => 0

abbrev bufTy : (tb : Table) → Fin (tcTables nBuf tb) → BufTy
  | .hbm, ⟨0, _⟩ => ⟨S4096x2x128, .f32⟩
  | .hbm, ⟨1, _⟩ => ⟨S128, .f32⟩
  | .hbm, ⟨2, _⟩ => ⟨S4096x2x128, .f32⟩
  | .hbm, ⟨3, _⟩ => ⟨S_, .f32⟩
  | .hbm, ⟨4, _⟩ => ⟨S4096x2, .f32⟩
  | .hbm, ⟨5, _⟩ => ⟨S4096x2x1, .f32⟩
  | .hbm, ⟨6, _⟩ => ⟨S_, .f32⟩
  | .hbm, ⟨7, _⟩ => ⟨S4096x2x1, .f32⟩
  | .hbm, ⟨8, _⟩ => ⟨S4096x2x1, .f32⟩
  | .hbm, ⟨9, _⟩ => ⟨S_, .f32⟩
  | .hbm, ⟨10, _⟩ => ⟨S4096x2x1, .f32⟩
  | .hbm, ⟨11, _⟩ => ⟨S4096x2x1, .f32⟩
  | .hbm, ⟨12, _⟩ => ⟨S4096x2x1, .f32⟩
  | .hbm, ⟨13, _⟩ => ⟨S4096x2x128, .f32⟩
  | .hbm, ⟨14, _⟩ => ⟨S4096x2x128, .f32⟩
  | .hbm, ⟨15, _⟩ => ⟨S1x1x128, .f32⟩
  | .hbm, ⟨16, _⟩ => ⟨S4096x2x128, .f32⟩
  | .hbm, ⟨17, _⟩ => ⟨S4096x2x128, .f32⟩
  | .hbm, ⟨18, _⟩ => ⟨S4096x256, .f32⟩
  | _, _ => ⟨S4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== RfAK.lean ====
abbrev S1x4096x4x192 : Shape := ⟨4, ![1, 4096, 4, 192]⟩
abbrev S4096 : Shape := ⟨1, ![4096]⟩
abbrev S64 : Shape := ⟨1, ![64]⟩
abbrev S64x64 : Shape := ⟨2, ![64, 64]⟩
abbrev S1x64 : Shape := ⟨2, ![1, 64]⟩
abbrev S_ : Shape := ⟨0, ![]⟩
abbrev S4096x1 : Shape := ⟨2, ![4096, 1]⟩
abbrev S4096x64 : Shape := ⟨2, ![4096, 64]⟩
abbrev S32 : Shape := ⟨1, ![32]⟩
abbrev S1x32 : Shape := ⟨2, ![1, 32]⟩
abbrev S4096x32 : Shape := ⟨2, ![4096, 32]⟩
abbrev S4096x128 : Shape := ⟨2, ![4096, 128]⟩
abbrev S4096x256 : Shape := ⟨2, ![4096, 256]⟩
abbrev S4096x4x192 : Shape := ⟨3, ![4096, 4, 192]⟩
abbrev S4096x4x256 : Shape := ⟨3, ![4096, 4, 256]⟩
abbrev S4096x1024 : Shape := ⟨2, ![4096, 1024]⟩
abbrev S2048x256 : Shape := ⟨2, ![2048, 256]⟩
abbrev S2048x128 : Shape := ⟨2, ![2048, 128]⟩

abbrev nBuf : Space → Nat
  | .hbm => 129
  | .vmem => 8
  | .smem => 0
  | _ => 0

abbrev hbmTy0_0 (i : Nat) : BufTy := match i % 128 with
  | 0 => ⟨S1x4096x4x192, .f32⟩
  | 1 => ⟨S4096, .i32⟩
  | 2 => ⟨S64, .i32⟩
  | 3 => ⟨S64x64, .i32⟩
  | 4 => ⟨S4096, .i32⟩
  | 5 => ⟨S64, .i32⟩
  | 6 => ⟨S1x64, .i32⟩
  | 7 => ⟨S64x64, .i32⟩
  | 8 => ⟨S4096, .i32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S4096, .f32⟩
  | 24 => ⟨S4096x1, .f32⟩
  | 25 => ⟨S1x64, .f32⟩
  | 26 => ⟨S4096x64, .f32⟩
  | 27 => ⟨S4096x64, .f32⟩
  | 28 => ⟨S4096x64, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S4096, .f32⟩
  | 44 => ⟨S4096x1, .f32⟩
  | 45 => ⟨S1x32, .f32⟩
  | 46 => ⟨S4096x32, .f32⟩
  | 47 => ⟨S4096x32, .f32⟩
  | 48 => ⟨S4096x32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S4096, .f32⟩
  | 64 => ⟨S4096x1, .f32⟩
  | 65 => ⟨S1x32, .f32⟩
  | 66 => ⟨S4096x32, .f32⟩
  | 67 => ⟨S4096x32, .f32⟩
  | 68 => ⟨S4096x32, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S4096, .f32⟩
  | 84 => ⟨S4096x1, .f32⟩
  | 85 => ⟨S1x32, .f32⟩
  | 86 => ⟨S4096x32, .f32⟩
  | 87 => ⟨S4096x32, .f32⟩
  | 88 => ⟨S4096x32, .f32⟩
  | 89 => ⟨S_, .f32⟩
  | 90 => ⟨S4096x128, .f32⟩
  | 91 => ⟨S_, .f32⟩
  | 92 => ⟨S4096x128, .f32⟩
  | 93 => ⟨S4096x32, .f32⟩
  | 94 => ⟨S4096x32, .f32⟩
  | 95 => ⟨S_, .f32⟩
  | 96 => ⟨S4096x64, .f32⟩
  | 97 => ⟨S4096x256, .f32⟩
  | 98 => ⟨S4096x32, .f32⟩
  | 99 => ⟨S4096x32, .f32⟩
  | 100 => ⟨S4096x32, .f32⟩
  | 101 => ⟨S_, .f32⟩
  | 102 => ⟨S4096x64, .f32⟩
  | 103 => ⟨S4096x256, .f32⟩
  | 104 => ⟨S4096x64, .f32⟩
  | 105 => ⟨S4096x64, .f32⟩
  | 106 => ⟨S4096x128, .f32⟩
  | 107 => ⟨S4096x64, .f32⟩
  | 108 => ⟨S4096x64, .f32⟩
  | 109 => ⟨S4096x64, .f32⟩
  | 110 => ⟨S4096x128, .f32⟩
  | 111 => ⟨S4096x32, .f32⟩
  | 112 => ⟨S4096x32, .f32⟩
  | 113 => ⟨S4096x32, .f32⟩
  | 114 => ⟨S4096x32, .f32⟩
  | 115 => ⟨S4096x128, .f32⟩
  | 116 => ⟨S4096x32, .f32⟩
  | 117 => ⟨S4096x32, .f32⟩
  | 118 => ⟨S4096x32, .f32⟩
  | 119 => ⟨S4096x32, .f32⟩
  | 120 => ⟨S4096x32, .f32⟩
  | 121 => ⟨S4096x32, .f32⟩
  | 122 => ⟨S4096x128, .f32⟩
  | 123 => ⟨S4096x4x192, .f32⟩
  | 124 => ⟨S_, .i32⟩
  | 125 => ⟨S_, .f32⟩
  | 126 => ⟨S4096x4x256, .f32⟩
  | 127 => ⟨S4096x1024, .f32⟩
  | _ => ⟨S1x4096x4x192, .f32⟩

abbrev hbmTy0_1 (i : Nat) : BufTy := match i % 128 with
  | 0 => ⟨S4096x1024, .bf16⟩
  | _ => ⟨S1x4096x4x192, .f32⟩

abbrev hbmTy (i : Nat) : BufTy := match i / 128 with
  | 0 => hbmTy0_0 i
  | 1 => hbmTy0_1 i
  | _ => ⟨S1x4096x4x192, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .bf16⟩
  | .local _ .vmem, ⟨7, _⟩ => ⟨S2048x256, .bf16⟩
  | _, _ => ⟨S1x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_3 : Ref sig .tc := ⟨.hbm, 30, rfl⟩
abbrev main_v25 : Ref sig .tc := ⟨.hbm, 31, rfl⟩
abbrev main_v26 : Ref sig .tc := ⟨.hbm, 32, rfl⟩
abbrev main_cst_4 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_5 : Ref sig .tc := ⟨.hbm, 37, rfl⟩
abbrev main_v30 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_7 : Ref sig .tc := ⟨.hbm, 50, rfl⟩
abbrev main_v41 : Ref sig .tc := ⟨.hbm, 51, rfl⟩
abbrev main_v42 : Ref sig .tc := ⟨.hbm, 52, rfl⟩
abbrev main_cst_8 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_9 : Ref sig .tc := ⟨.hbm, 57, rfl⟩
abbrev main_v46 : Ref sig .tc := ⟨.hbm, 58, rfl⟩
abbrev main_v47 : Ref sig .tc := ⟨.hbm, 59, rfl⟩
abbrev main_cst_10 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_11 : Ref sig .tc := ⟨.hbm, 70, rfl⟩
abbrev main_v57 : Ref sig .tc := ⟨.hbm, 71, rfl⟩
abbrev main_v58 : Ref sig .tc := ⟨.hbm, 72, rfl⟩
abbrev main_cst_12 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_13 : Ref sig .tc := ⟨.hbm, 77, rfl⟩
abbrev main_v62 : Ref sig .tc := ⟨.hbm, 78, rfl⟩
abbrev main_v63 : Ref sig .tc := ⟨.hbm, 79, rfl⟩
abbrev main_cst_14 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_15 : Ref sig .tc := ⟨.hbm, 89, rfl⟩
abbrev main_v72 : Ref sig .tc := ⟨.hbm, 90, rfl⟩
abbrev main_cst_16 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_17 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_18 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_c : Ref sig .tc := ⟨.hbm, 124, rfl⟩
abbrev main_call0_v0 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RfARIdeal.lean ====
abbrev S1x4096x4x192 : Shape := ⟨4, ![1, 4096, 4, 192]⟩
abbrev S1x4096x4x128 : Shape := ⟨4, ![1, 4096, 4, 128]⟩
abbrev S1x4096x4x64 : Shape := ⟨4, ![1, 4096, 4, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S1x4096x4x32 : Shape := ⟨4, ![1, 4096, 4, 32]⟩
abbrev S1x4096x1x32 : Shape := ⟨4, ![1, 4096, 1, 32]⟩
abbrev S1x4096x4x256 : Shape := ⟨4, ![1, 4096, 4, 256]⟩
abbrev S4096x1024 : Shape := ⟨2, ![4096, 1024]⟩

abbrev nBuf : Space → Nat
  | .hbm => 51
  | .vmem => 0
  | .smem => 0
  | _ => 0

abbrev bufTy : (tb : Table) → Fin (tcTables nBuf tb) → BufTy
  | .hbm, ⟨0, _⟩ => ⟨S1x4096x4x192, .f32⟩
  | .hbm, ⟨1, _⟩ => ⟨S1x4096x4x128, .f32⟩
  | .hbm, ⟨2, _⟩ => ⟨S1x4096x4x64, .f32⟩
  | .hbm, ⟨3, _⟩ => ⟨S4096, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096, .f32⟩
  | .hbm, ⟨19, _⟩ => ⟨S4096x1, .f32⟩
  | .hbm, ⟨20, _⟩ => ⟨S1x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x1x32, .f32⟩
  | .hbm, ⟨26, _⟩ => ⟨S4096x32, .f32⟩
  | .hbm, ⟨27, _⟩ => ⟨S4096x1x32, .f32⟩
  | .hbm, ⟨28, _⟩ => ⟨S1x4096x4x32, .f32⟩
  | .hbm, ⟨29, _⟩ => ⟨S1x4096x4x32, .f32⟩
  | .hbm, ⟨30, _⟩ => ⟨S1x4096x1x32, .f32⟩
  | .hbm, ⟨31, _⟩ => ⟨S1x4096x4x32, .f32⟩
  | .hbm, ⟨32, _⟩ => ⟨S1x4096x4x32, .f32⟩
  | .hbm, ⟨33, _⟩ => ⟨S1x4096x1x32, .f32⟩
  | .hbm, ⟨34, _⟩ => ⟨S1x4096x4x32, .f32⟩
  | .hbm, ⟨35, _⟩ => ⟨S1x4096x4x32, .f32⟩
  | .hbm, ⟨36, _⟩ => ⟨S1x4096x4x32, .f32⟩
  | .hbm, ⟨37, _⟩ => ⟨S1x4096x1x32, .f32⟩
  | .hbm, ⟨38, _⟩ => ⟨S1x4096x4x32, .f32⟩
  | .hbm, ⟨39, _⟩ => ⟨S1x4096x4x32, .f32⟩
  | .hbm, ⟨40, _⟩ => ⟨S1x4096x1x32, .f32⟩
  | .hbm, ⟨41, _⟩ => ⟨S1x4096x4x32, .f32⟩
  | .hbm, ⟨42, _⟩ => ⟨S1x4096x4x32, .f32⟩
  | .hbm, ⟨43, _⟩ => ⟨S1x4096x4x32, .f32⟩
  | .hbm, ⟨44, _⟩ => ⟨S1x4096x4x64, .f32⟩
  | .hbm, ⟨45, _⟩ => ⟨S1x4096x4x192, .f32⟩
  | .hbm, ⟨46, _⟩ => ⟨S_, .i32⟩
  | .hbm, ⟨47, _⟩ => ⟨S_, .f32⟩
  | .hbm, ⟨48, _⟩ => ⟨S1x4096x4x256, .f32⟩
  | .hbm, ⟨49, _⟩ => ⟨S4096x1024, .f32⟩
  | .hbm, ⟨50, _⟩ => ⟨S4096x1024, .bf16⟩
  | _, _ => ⟨S1x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_c : Ref sig .tc := ⟨.hbm, 46, rfl⟩
abbrev main_call0_v0 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]
-- ==== RfBK.lean ====
abbrev S1x4096x6x128 : Shape := ⟨4, ![1, 4096, 6, 128]⟩
abbrev S4096 : Shape := ⟨1, ![4096]⟩
abbrev S64 : Shape := ⟨1, ![64]⟩
abbrev S64x64 : Shape := ⟨2, ![64, 64]⟩
abbrev S1x64 : Shape := ⟨2, ![1, 64]⟩
abbrev S_ : Shape := ⟨0, ![]⟩
abbrev S4096x1 : Shape := ⟨2, ![4096, 1]⟩
abbrev S4096x64 : Shape := ⟨2, ![4096, 64]⟩
abbrev S32 : Shape := ⟨1, ![32]⟩
abbrev S1x32 : Shape := ⟨2, ![1, 32]⟩
abbrev S4096x32 : Shape := ⟨2, ![4096, 32]⟩
abbrev S4096x128 : Shape := ⟨2, ![4096, 128]⟩
abbrev S4096x256 : Shape := ⟨2, ![4096, 256]⟩
abbrev S4096x768 : Shape := ⟨2, ![4096, 768]⟩
abbrev S4096x5120 : Shape := ⟨2, ![4096, 5120]⟩

abbrev nBuf : Space → Nat
  | .hbm => 128
  | .vmem => 6
  | .smem => 0
  | _ => 0

abbrev bufTy : (tb : Table) → Fin (tcTables nBuf tb) → BufTy
  | .hbm, ⟨0, _⟩ => ⟨S1x4096x6x128, .f32⟩
  | .hbm, ⟨1, _⟩ => ⟨S4096, .i32⟩
  | .hbm, ⟨2, _⟩ => ⟨S64, .i32⟩
  | .hbm, ⟨3, _⟩ => ⟨S64x64, .i32⟩
  | .hbm, ⟨4, _⟩ => ⟨S4096, .i32⟩
  | .hbm, ⟨5, _⟩ => ⟨S64, .i32⟩
  | .hbm, ⟨6, _⟩ => ⟨S1x64, .i32⟩
  | .hbm, ⟨7, _⟩ => ⟨S64x64, .i32⟩
  | .hbm, ⟨8, _⟩ => ⟨S4096, .i32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S4096, .f32⟩
  | .hbm, ⟨24, _⟩ => ⟨S4096x1, .f32⟩
  | .hbm, ⟨25, _⟩ => ⟨S1x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S4096, .f32⟩
  | .hbm, ⟨44, _⟩ => ⟨S4096x1, .f32⟩
  | .hbm, ⟨45, _⟩ => ⟨S1x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S4096, .f32⟩
  | .hbm, ⟨64, _⟩ => ⟨S4096x1, .f32⟩
  | .hbm, ⟨65, _⟩ => ⟨S1x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S4096, .f32⟩
  | .hbm, ⟨84, _⟩ => ⟨S4096x1, .f32⟩
  | .hbm, ⟨85, _⟩ => ⟨S1x32, .f32⟩
  | .hbm, ⟨86, _⟩ => ⟨S4096x32, .f32⟩
  | .hbm, ⟨87, _⟩ => ⟨S4096x32, .f32⟩
  | .hbm, ⟨88, _⟩ => ⟨S4096x32, .f32⟩
  | .hbm, ⟨89, _⟩ => ⟨S_, .f32⟩
  | .hbm, ⟨90, _⟩ => ⟨S4096x128, .f32⟩
  | .hbm, ⟨91, _⟩ => ⟨S_, .f32⟩
  | .hbm, ⟨92, _⟩ => ⟨S4096x128, .f32⟩
  | .hbm, ⟨93, _⟩ => ⟨S4096x32, .f32⟩
  | .hbm, ⟨94, _⟩ => ⟨S4096x32, .f32⟩
  | .hbm, ⟨95, _⟩ => ⟨S_, .f32⟩
  | .hbm, ⟨96, _⟩ => ⟨S4096x64, .f32⟩
  | .hbm, ⟨97, _⟩ => ⟨S4096x256, .f32⟩
  | .hbm, ⟨98, _⟩ => ⟨S4096x32, .f32⟩
  | .hbm, ⟨99, _⟩ => ⟨S4096x32, .f32⟩
  | .hbm, ⟨100, _⟩ => ⟨S4096x32, .f32⟩
  | .hbm, ⟨101, _⟩ => ⟨S_, .f32⟩
  | .hbm, ⟨102, _⟩ => ⟨S4096x64, .f32⟩
  | .hbm, ⟨103, _⟩ => ⟨S4096x256, .f32⟩
  | .hbm, ⟨104, _⟩ => ⟨S4096x64, .f32⟩
  | .hbm, ⟨105, _⟩ => ⟨S4096x64, .f32⟩
  | .hbm, ⟨106, _⟩ => ⟨S4096x128, .f32⟩
  | .hbm, ⟨107, _⟩ => ⟨S4096x64, .f32⟩
  | .hbm, ⟨108, _⟩ => ⟨S4096x64, .f32⟩
  | .hbm, ⟨109, _⟩ => ⟨S4096x64, .f32⟩
  | .hbm, ⟨110, _⟩ => ⟨S4096x128, .f32⟩
  | .hbm, ⟨111, _⟩ => ⟨S4096x32, .f32⟩
  | .hbm, ⟨112, _⟩ => ⟨S4096x32, .f32⟩
  | .hbm, ⟨113, _⟩ => ⟨S4096x32, .f32⟩
  | .hbm, ⟨114, _⟩ => ⟨S4096x32, .f32⟩
  | .hbm, ⟨115, _⟩ => ⟨S4096x128, .f32⟩
  | .hbm, ⟨116, _⟩ => ⟨S4096x32, .f32⟩
  | .hbm, ⟨117, _⟩ => ⟨S4096x32, .f32⟩
  | .hbm, ⟨118, _⟩ => ⟨S4096x32, .f32⟩
  | .hbm, ⟨119, _⟩ => ⟨S4096x32, .f32⟩
  | .hbm, ⟨120, _⟩ => ⟨S4096x32, .f32⟩
  | .hbm, ⟨121, _⟩ => ⟨S4096x32, .f32⟩
  | .hbm, ⟨122, _⟩ => ⟨S4096x128, .f32⟩
  | .hbm, ⟨123, _⟩ => ⟨S4096x768, .f32⟩
  | .hbm, ⟨124, _⟩ => ⟨S_, .i32⟩
  | .hbm, ⟨125, _⟩ => ⟨S_, .f32⟩
  | .hbm, ⟨126, _⟩ => ⟨S4096x5120, .f32⟩
  | .hbm, ⟨127, _⟩ => ⟨S4096x768, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .bf16⟩
  | .local _ .vmem, ⟨5, _⟩ => ⟨S4096x128, .bf16⟩
  | _, _ => ⟨S1x4096x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_3 : Ref sig .tc := ⟨.hbm, 30, rfl⟩
abbrev main_v25 : Ref sig .tc := ⟨.hbm, 31, rfl⟩
abbrev main_v26 : Ref sig .tc := ⟨.hbm, 32, rfl⟩
abbrev main_cst_4 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_5 : Ref sig .tc := ⟨.hbm, 37, rfl⟩
abbrev main_v30 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_7 : Ref sig .tc := ⟨.hbm, 50, rfl⟩
abbrev main_v41 : Ref sig .tc := ⟨.hbm, 51, rfl⟩
abbrev main_v42 : Ref sig .tc := ⟨.hbm, 52, rfl⟩
abbrev main_cst_8 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_9 : Ref sig .tc := ⟨.hbm, 57, rfl⟩
abbrev main_v46 : Ref sig .tc := ⟨.hbm, 58, rfl⟩
abbrev main_v47 : Ref sig .tc := ⟨.hbm, 59, rfl⟩
abbrev main_cst_10 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_11 : Ref sig .tc := ⟨.hbm, 70, rfl⟩
abbrev main_v57 : Ref sig .tc := ⟨.hbm, 71, rfl⟩
abbrev main_v58 : Ref sig .tc := ⟨.hbm, 72, rfl⟩
abbrev main_cst_12 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_13 : Ref sig .tc := ⟨.hbm, 77, rfl⟩
abbrev main_v62 : Ref sig .tc := ⟨.hbm, 78, rfl⟩
abbrev main_v63 : Ref sig .tc := ⟨.hbm, 79, rfl⟩
abbrev main_cst_14 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_15 : Ref sig .tc := ⟨.hbm, 89, rfl⟩
abbrev main_v72 : Ref sig .tc := ⟨.hbm, 90, rfl⟩
abbrev main_cst_16 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_17 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_18 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_c : Ref sig .tc := ⟨.hbm, 124, rfl⟩
abbrev main_call0_v0 : Ref sig .tc := ⟨.hbm, 125, rfl⟩
abbrev main_v103 : Ref sig .tc := ⟨.hbm, 126, rfl⟩
abbrev main_v104 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RfBRIdeal.lean ====
abbrev S1x4096x6x128 : Shape := ⟨4, ![1, 4096, 6, 128]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S1x4096x6x64 : Shape := ⟨4, ![1, 4096, 6, 64]⟩
abbrev S1x4096x1x64 : Shape := ⟨4, ![1, 4096, 1, 64]⟩
abbrev S4096x768 : Shape := ⟨2, ![4096, 768]⟩

abbrev nBuf : Space → Nat
  | .hbm => 45
  | .vmem => 0
  | .smem => 0
  | _ => 0

abbrev bufTy : (tb : Table) → Fin (tcTables nBuf tb) → BufTy
  | .hbm, ⟨0, _⟩ => ⟨S1x4096x6x128, .f32⟩
  | .hbm, ⟨1, _⟩ => ⟨S4096, .i32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S4096, .f32⟩
  | .hbm, ⟨17, _⟩ => ⟨S4096x1, .f32⟩
  | .hbm, ⟨18, _⟩ => ⟨S1x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x1x64, .f32⟩
  | .hbm, ⟨24, _⟩ => ⟨S4096x64, .f32⟩
  | .hbm, ⟨25, _⟩ => ⟨S4096x1x64, .f32⟩
  | .hbm, ⟨26, _⟩ => ⟨S1x4096x6x64, .f32⟩
  | .hbm, ⟨27, _⟩ => ⟨S1x4096x6x64, .f32⟩
  | .hbm, ⟨28, _⟩ => ⟨S1x4096x1x64, .f32⟩
  | .hbm, ⟨29, _⟩ => ⟨S1x4096x6x64, .f32⟩
  | .hbm, ⟨30, _⟩ => ⟨S1x4096x6x64, .f32⟩
  | .hbm, ⟨31, _⟩ => ⟨S1x4096x1x64, .f32⟩
  | .hbm, ⟨32, _⟩ => ⟨S1x4096x6x64, .f32⟩
  | .hbm, ⟨33, _⟩ => ⟨S1x4096x6x64, .f32⟩
  | .hbm, ⟨34, _⟩ => ⟨S1x4096x6x64, .f32⟩
  | .hbm, ⟨35, _⟩ => ⟨S1x4096x1x64, .f32⟩
  | .hbm, ⟨36, _⟩ => ⟨S1x4096x6x64, .f32⟩
  | .hbm, ⟨37, _⟩ => ⟨S1x4096x6x64, .f32⟩
  | .hbm, ⟨38, _⟩ => ⟨S1x4096x1x64, .f32⟩
  | .hbm, ⟨39, _⟩ => ⟨S1x4096x6x64, .f32⟩
  | .hbm, ⟨40, _⟩ => ⟨S1x4096x6x64, .f32⟩
  | .hbm, ⟨41, _⟩ => ⟨S1x4096x6x64, .f32⟩
  | .hbm, ⟨42, _⟩ => ⟨S1x4096x6x128, .f32⟩
  | .hbm, ⟨43, _⟩ => ⟨S4096x768, .f32⟩
  | .hbm, ⟨44, _⟩ => ⟨S4096x768, .bf16⟩
  | _, _ => ⟨S1x4096x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩

abbrev nD : Nat := 1
abbrev τ : Topo := Topo.v7x

variable {F : FTy → Type} [FloatOps F]
-- ==== RfCK.lean ====
abbrev S1x4096x6x128 : Shape := ⟨4, ![1, 4096, 6, 128]⟩
abbrev S4096 : Shape := ⟨1, ![4096]⟩
abbrev S64 : Shape := ⟨1, ![64]⟩
abbrev S64x64 : Shape := ⟨2, ![64, 64]⟩
abbrev S1x64 : Shape := ⟨2, ![1, 64]⟩
abbrev S_ : Shape := ⟨0, ![]⟩
abbrev S4096x1 : Shape := ⟨2, ![4096, 1]⟩
abbrev S4096x64 : Shape := ⟨2, ![4096, 64]⟩
abbrev S32 : Shape := ⟨1, ![32]⟩
abbrev S1x32 : Shape := ⟨2, ![1, 32]⟩
abbrev S4096x32 : Shape := ⟨2, ![4096, 32]⟩
abbrev S4096x128 : Shape := ⟨2, ![4096, 128]⟩
abbrev S4096x256 : Shape := ⟨2, ![4096, 256]⟩
abbrev S4096x768 : Shape := ⟨2, ![4096, 768]⟩

abbrev nBuf : Space → Nat
  | .hbm => 125
  | .vmem => 6
  | .smem => 0
  | _ => 0

abbrev bufTy : (tb : Table) → Fin (tcTables nBuf tb) → BufTy
  | .hbm, ⟨0, _⟩ => ⟨S1x4096x6x128, .f32⟩
  | .hbm, ⟨1, _⟩ => ⟨S4096, .i32⟩
  | .hbm, ⟨2, _⟩ => ⟨S64, .i32⟩
  | .hbm, ⟨3, _⟩ => ⟨S64x64, .i32⟩
  | .hbm, ⟨4, _⟩ => ⟨S4096, .i32⟩
  | .hbm, ⟨5, _⟩ => ⟨S64, .i32⟩
  | .hbm, ⟨6, _⟩ => ⟨S1x64, .i32⟩
  | .hbm, ⟨7, _⟩ => ⟨S64x64, .i32⟩
  | .hbm, ⟨8, _⟩ => ⟨S4096, .i32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S4096, .f32⟩
  | .hbm, ⟨24, _⟩ => ⟨S4096x1, .f32⟩
  | .hbm, ⟨25, _⟩ => ⟨S1x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S4096, .f32⟩
  | .hbm, ⟨44, _⟩ => ⟨S4096x1, .f32⟩
  | .hbm, ⟨45, _⟩ => ⟨S1x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S4096, .f32⟩
  | .hbm, ⟨64, _⟩ => ⟨S4096x1, .f32⟩
  | .hbm, ⟨65, _⟩ => ⟨S1x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S4096, .f32⟩
  | .hbm, ⟨84, _⟩ => ⟨S4096x1, .f32⟩
  | .hbm, ⟨85, _⟩ => ⟨S1x32, .f32⟩
  | .hbm, ⟨86, _⟩ => ⟨S4096x32, .f32⟩
  | .hbm, ⟨87, _⟩ => ⟨S4096x32, .f32⟩
  | .hbm, ⟨88, _⟩ => ⟨S4096x32, .f32⟩
  | .hbm, ⟨89, _⟩ => ⟨S_, .f32⟩
  | .hbm, ⟨90, _⟩ => ⟨S4096x128, .f32⟩
  | .hbm, ⟨91, _⟩ => ⟨S_, .f32⟩
  | .hbm, ⟨92, _⟩ => ⟨S4096x128, .f32⟩
  | .hbm, ⟨93, _⟩ => ⟨S4096x32, .f32⟩
  | .hbm, ⟨94, _⟩ => ⟨S4096x32, .f32⟩
  | .hbm, ⟨95, _⟩ => ⟨S_, .f32⟩
  | .hbm, ⟨96, _⟩ => ⟨S4096x64, .f32⟩
  | .hbm, ⟨97, _⟩ => ⟨S4096x256, .f32⟩
  | .hbm, ⟨98, _⟩ => ⟨S4096x32, .f32⟩
  | .hbm, ⟨99, _⟩ => ⟨S4096x32, .f32⟩
  | .hbm, ⟨100, _⟩ => ⟨S4096x32, .f32⟩
  | .hbm, ⟨101, _⟩ => ⟨S_, .f32⟩
  | .hbm, ⟨102, _⟩ => ⟨S4096x64, .f32⟩
  | .hbm, ⟨103, _⟩ => ⟨S4096x256, .f32⟩
  | .hbm, ⟨104, _⟩ => ⟨S4096x64, .f32⟩
  | .hbm, ⟨105, _⟩ => ⟨S4096x64, .f32⟩
  | .hbm, ⟨106, _⟩ => ⟨S4096x128, .f32⟩
  | .hbm, ⟨107, _⟩ => ⟨S4096x64, .f32⟩
  | .hbm, ⟨108, _⟩ => ⟨S4096x64, .f32⟩
  | .hbm, ⟨109, _⟩ => ⟨S4096x64, .f32⟩
  | .hbm, ⟨110, _⟩ => ⟨S4096x128, .f32⟩
  | .hbm, ⟨111, _⟩ => ⟨S4096x32, .f32⟩
  | .hbm, ⟨112, _⟩ => ⟨S4096x32, .f32⟩
  | .hbm, ⟨113, _⟩ => ⟨S4096x32, .f32⟩
  | .hbm, ⟨114, _⟩ => ⟨S4096x32, .f32⟩
  | .hbm, ⟨115, _⟩ => ⟨S4096x128, .f32⟩
  | .hbm, ⟨116, _⟩ => ⟨S4096x32, .f32⟩
  | .hbm, ⟨117, _⟩ => ⟨S4096x32, .f32⟩
  | .hbm, ⟨118, _⟩ => ⟨S4096x32, .f32⟩
  | .hbm, ⟨119, _⟩ => ⟨S4096x32, .f32⟩
  | .hbm, ⟨120, _⟩ => ⟨S4096x32, .f32⟩
  | .hbm, ⟨121, _⟩ => ⟨S4096x32, .f32⟩
  | .hbm, ⟨122, _⟩ => ⟨S4096x128, .f32⟩
  | .hbm, ⟨123, _⟩ => ⟨S4096x768, .f32⟩
  | .hbm, ⟨124, _⟩ => ⟨S4096x768, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .bf16⟩
  | .local _ .vmem, ⟨5, _⟩ => ⟨S4096x128, .bf16⟩
  | _, _ => ⟨S1x4096x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_3 : Ref sig .tc := ⟨.hbm, 30, rfl⟩
abbrev main_v25 : Ref sig .tc := ⟨.hbm, 31, rfl⟩
abbrev main_v26 : Ref sig .tc := ⟨.hbm, 32, rfl⟩
abbrev main_cst_4 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_5 : Ref sig .tc := ⟨.hbm, 37, rfl⟩
abbrev main_v30 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_7 : Ref sig .tc := ⟨.hbm, 50, rfl⟩
abbrev main_v41 : Ref sig .tc := ⟨.hbm, 51, rfl⟩
abbrev main_v42 : Ref sig .tc := ⟨.hbm, 52, rfl⟩
abbrev main_cst_8 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_9 : Ref sig .tc := ⟨.hbm, 57, rfl⟩
abbrev main_v46 : Ref sig .tc := ⟨.hbm, 58, rfl⟩
abbrev main_v47 : Ref sig .tc := ⟨.hbm, 59, rfl⟩
abbrev main_cst_10 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_11 : Ref sig .tc := ⟨.hbm, 70, rfl⟩
abbrev main_v57 : Ref sig .tc := ⟨.hbm, 71, rfl⟩
abbrev main_v58 : Ref sig .tc := ⟨.hbm, 72, rfl⟩
abbrev main_cst_12 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_13 : Ref sig .tc := ⟨.hbm, 77, rfl⟩
abbrev main_v62 : Ref sig .tc := ⟨.hbm, 78, rfl⟩
abbrev main_v63 : Ref sig .tc := ⟨.hbm, 79, rfl⟩
abbrev main_cst_14 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_15 : Ref sig .tc := ⟨.hbm, 89, rfl⟩
abbrev main_v72 : Ref sig .tc := ⟨.hbm, 90, rfl⟩
abbrev main_cst_16 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_17 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_18 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RfCRIdeal.lean ====
abbrev S1x4096x6x128 : Shape := ⟨4, ![1, 4096, 6, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x6x64 : Shape := ⟨4, ![1, 4096, 6, 64]⟩
abbrev S4096x1x32 : Shape := ⟨3, ![4096, 1, 32]⟩
abbrev S1x4096x6x32 : Shape := ⟨4, ![1, 4096, 6, 32]⟩
abbrev S1x4096x1x32 : Shape := ⟨4, ![1, 4096, 1, 32]⟩
abbrev S4096x768 : Shape := ⟨2, ![4096, 768]⟩

abbrev nBuf : Space → Nat
  | .hbm => 95
  | .vmem => 0
  | .smem => 0
  | _ => 0

abbrev bufTy : (tb : Table) → Fin (tcTables nBuf tb) → BufTy
  | .hbm, ⟨0, _⟩ => ⟨S1x4096x6x128, .f32⟩
  | .hbm, ⟨1, _⟩ => ⟨S64, .i32⟩
  | .hbm, ⟨2, _⟩ => ⟨S64x64, .i32⟩
  | .hbm, ⟨3, _⟩ => ⟨S4096, .i32⟩
  | .hbm, ⟨4, _⟩ => ⟨S64, .i32⟩
  | .hbm, ⟨5, _⟩ => ⟨S1x64, .i32⟩
  | .hbm, ⟨6, _⟩ => ⟨S64x64, .i32⟩
  | .hbm, ⟨7, _⟩ => ⟨S4096, .i32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S4096, .f32⟩
  | .hbm, ⟨43, _⟩ => ⟨S4096x1, .f32⟩
  | .hbm, ⟨44, _⟩ => ⟨S1x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S1x4096x6x64, .f32⟩
  | .hbm, ⟨49, _⟩ => ⟨S4096x32, .f32⟩
  | .hbm, ⟨50, _⟩ => ⟨S4096x1x32, .f32⟩
  | .hbm, ⟨51, _⟩ => ⟨S4096x32, .f32⟩
  | .hbm, ⟨52, _⟩ => ⟨S4096x1x32, .f32⟩
  | .hbm, ⟨53, _⟩ => ⟨S1x4096x6x32, .f32⟩
  | .hbm, ⟨54, _⟩ => ⟨S1x4096x6x32, .f32⟩
  | .hbm, ⟨55, _⟩ => ⟨S1x4096x1x32, .f32⟩
  | .hbm, ⟨56, _⟩ => ⟨S1x4096x6x32, .f32⟩
  | .hbm, ⟨57, _⟩ => ⟨S1x4096x6x32, .f32⟩
  | .hbm, ⟨58, _⟩ => ⟨S1x4096x1x32, .f32⟩
  | .hbm, ⟨59, _⟩ => ⟨S1x4096x6x32, .f32⟩
  | .hbm, ⟨60, _⟩ => ⟨S1x4096x6x32, .f32⟩
  | .hbm, ⟨61, _⟩ => ⟨S1x4096x6x32, .f32⟩
  | .hbm, ⟨62, _⟩ => ⟨S1x4096x1x32, .f32⟩
  | .hbm, ⟨63, _⟩ => ⟨S1x4096x6x32, .f32⟩
  | .hbm, ⟨64, _⟩ => ⟨S1x4096x6x32, .f32⟩
  | .hbm, ⟨65, _⟩ => ⟨S1x4096x1x32, .f32⟩
  | .hbm, ⟨66, _⟩ => ⟨S1x4096x6x32, .f32⟩
  | .hbm, ⟨67, _⟩ => ⟨S1x4096x6x32, .f32⟩
  | .hbm, ⟨68, _⟩ => ⟨S1x4096x6x32, .f32⟩
  | .hbm, ⟨69, _⟩ => ⟨S1x4096x6x64, .f32⟩
  | .hbm, ⟨70, _⟩ => ⟨S1x4096x6x64, .f32⟩
  | .hbm, ⟨71, _⟩ => ⟨S4096x32, .f32⟩
  | .hbm, ⟨72, _⟩ => ⟨S4096x1x32, .f32⟩
  | .hbm, ⟨73, _⟩ => ⟨S4096x32, .f32⟩
  | .hbm, ⟨74, _⟩ => ⟨S4096x1x32, .f32⟩
  | .hbm, ⟨75, _⟩ => ⟨S1x4096x6x32, .f32⟩
  | .hbm, ⟨76, _⟩ => ⟨S1x4096x6x32, .f32⟩
  | .hbm, ⟨77, _⟩ => ⟨S1x4096x1x32, .f32⟩
  | .hbm, ⟨78, _⟩ => ⟨S1x4096x6x32, .f32⟩
  | .hbm, ⟨79, _⟩ => ⟨S1x4096x6x32, .f32⟩
  | .hbm, ⟨80, _⟩ => ⟨S1x4096x1x32, .f32⟩
  | .hbm, ⟨81, _⟩ => ⟨S1x4096x6x32, .f32⟩
  | .hbm, ⟨82, _⟩ => ⟨S1x4096x6x32, .f32⟩
  | .hbm, ⟨83, _⟩ => ⟨S1x4096x6x32, .f32⟩
  | .hbm, ⟨84, _⟩ => ⟨S1x4096x1x32, .f32⟩
  | .hbm, ⟨85, _⟩ => ⟨S1x4096x6x32, .f32⟩
  | .hbm, ⟨86, _⟩ => ⟨S1x4096x6x32, .f32⟩
  | .hbm, ⟨87, _⟩ => ⟨S1x4096x1x32, .f32⟩
  | .hbm, ⟨88, _⟩ => ⟨S1x4096x6x32, .f32⟩
  | .hbm, ⟨89, _⟩ => ⟨S1x4096x6x32, .f32⟩
  | .hbm, ⟨90, _⟩ => ⟨S1x4096x6x32, .f32⟩
  | .hbm, ⟨91, _⟩ => ⟨S1x4096x6x64, .f32⟩
  | .hbm, ⟨92, _⟩ => ⟨S1x4096x6x128, .f32⟩
  | .hbm, ⟨93, _⟩ => ⟨S4096x768, .f32⟩
  | .hbm, ⟨94, _⟩ => ⟨S4096x768, .bf16⟩
  | _, _ => ⟨S1x4096x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_3 : Ref sig .tc := ⟨.hbm, 29, rfl⟩
abbrev main_v24 : Ref sig .tc := ⟨.hbm, 30, rfl⟩
abbrev main_v25 : Ref sig .tc := ⟨.hbm, 31, rfl⟩
abbrev main_cst_4 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_5 : Ref sig .tc := ⟨.hbm, 36, rfl⟩
abbrev main_v29 : Ref sig .tc := ⟨.hbm, 37, rfl⟩
abbrev main_v30 : Ref sig .tc := ⟨.hbm, 38, rfl⟩
abbrev main_cst_6 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩

abbrev nD : Nat := 1
abbrev τ : Topo := Topo.v7x

variable {F : FTy → Type} [FloatOps F]
-- ==== RfKK.lean ====
abbrev S1x4096x2x128 : Shape := ⟨4, ![1, 4096, 2, 128]⟩
abbrev S4096 : Shape := ⟨1, ![4096]⟩
abbrev S64 : Shape := ⟨1, ![64]⟩
abbrev S64x64 : Shape := ⟨2, ![64, 64]⟩
abbrev S1x64 : Shape := ⟨2, ![1, 64]⟩
abbrev S_ : Shape := ⟨0, ![]⟩
abbrev S4096x1 : Shape := ⟨2, ![4096, 1]⟩
abbrev S4096x64 : Shape := ⟨2, ![4096, 64]⟩
abbrev S32 : Shape := ⟨1, ![32]⟩
abbrev S1x32 : Shape := ⟨2, ![1, 32]⟩
abbrev S4096x32 : Shape := ⟨2, ![4096, 32]⟩
abbrev S4096x128 : Shape := ⟨2, ![4096, 128]⟩
abbrev S4096x256 : Shape := ⟨2, ![4096, 256]⟩

abbrev nBuf : Space → Nat
  | .hbm => 125
  | .vmem => 6
  | .smem => 0
  | _ => 0

abbrev bufTy : (tb : Table) → Fin (tcTables nBuf tb) → BufTy
  | .hbm, ⟨0, _⟩ => ⟨S1x4096x2x128, .f32⟩
  | .hbm, ⟨1, _⟩ => ⟨S4096, .i32⟩
  | .hbm, ⟨2, _⟩ => ⟨S64, .i32⟩
  | .hbm, ⟨3, _⟩ => ⟨S64x64, .i32⟩
  | .hbm, ⟨4, _⟩ => ⟨S4096, .i32⟩
  | .hbm, ⟨5, _⟩ => ⟨S64, .i32⟩
  | .hbm, ⟨6, _⟩ => ⟨S1x64, .i32⟩
  | .hbm, ⟨7, _⟩ => ⟨S64x64, .i32⟩
  | .hbm, ⟨8, _⟩ => ⟨S4096, .i32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S4096, .f32⟩
  | .hbm, ⟨24, _⟩ => ⟨S4096x1, .f32⟩
  | .hbm, ⟨25, _⟩ => ⟨S1x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S4096, .f32⟩
  | .hbm, ⟨44, _⟩ => ⟨S4096x1, .f32⟩
  | .hbm, ⟨45, _⟩ => ⟨S1x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S4096, .f32⟩
  | .hbm, ⟨64, _⟩ => ⟨S4096x1, .f32⟩
  | .hbm, ⟨65, _⟩ => ⟨S1x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S4096, .f32⟩
  | .hbm, ⟨84, _⟩ => ⟨S4096x1, .f32⟩
  | .hbm, ⟨85, _⟩ => ⟨S1x32, .f32⟩
  | .hbm, ⟨86, _⟩ => ⟨S4096x32, .f32⟩
  | .hbm, ⟨87, _⟩ => ⟨S4096x32, .f32⟩
  | .hbm, ⟨88, _⟩ => ⟨S4096x32, .f32⟩
  | .hbm, ⟨89, _⟩ => ⟨S_, .f32⟩
  | .hbm, ⟨90, _⟩ => ⟨S4096x128, .f32⟩
  | .hbm, ⟨91, _⟩ => ⟨S_, .f32⟩
  | .hbm, ⟨92, _⟩ => ⟨S4096x128, .f32⟩
  | .hbm, ⟨93, _⟩ => ⟨S4096x32, .f32⟩
  | .hbm, ⟨94, _⟩ => ⟨S4096x32, .f32⟩
  | .hbm, ⟨95, _⟩ => ⟨S_, .f32⟩
  | .hbm, ⟨96, _⟩ => ⟨S4096x64, .f32⟩
  | .hbm, ⟨97, _⟩ => ⟨S4096x256, .f32⟩
  | .hbm, ⟨98, _⟩ => ⟨S4096x32, .f32⟩
  | .hbm, ⟨99, _⟩ => ⟨S4096x32, .f32⟩
  | .hbm, ⟨100, _⟩ => ⟨S4096x32, .f32⟩
  | .hbm, ⟨101, _⟩ => ⟨S_, .f32⟩
  | .hbm, ⟨102, _⟩ => ⟨S4096x64, .f32⟩
  | .hbm, ⟨103, _⟩ => ⟨S4096x256, .f32⟩
  | .hbm, ⟨104, _⟩ => ⟨S4096x64, .f32⟩
  | .hbm, ⟨105, _⟩ => ⟨S4096x64, .f32⟩
  | .hbm, ⟨106, _⟩ => ⟨S4096x128, .f32⟩
  | .hbm, ⟨107, _⟩ => ⟨S4096x64, .f32⟩
  | .hbm, ⟨108, _⟩ => ⟨S4096x64, .f32⟩
  | .hbm, ⟨109, _⟩ => ⟨S4096x64, .f32⟩
  | .hbm, ⟨110, _⟩ => ⟨S4096x128, .f32⟩
  | .hbm, ⟨111, _⟩ => ⟨S4096x32, .f32⟩
  | .hbm, ⟨112, _⟩ => ⟨S4096x32, .f32⟩
  | .hbm, ⟨113, _⟩ => ⟨S4096x32, .f32⟩
  | .hbm, ⟨114, _⟩ => ⟨S4096x32, .f32⟩
  | .hbm, ⟨115, _⟩ => ⟨S4096x128, .f32⟩
  | .hbm, ⟨116, _⟩ => ⟨S4096x32, .f32⟩
  | .hbm, ⟨117, _⟩ => ⟨S4096x32, .f32⟩
  | .hbm, ⟨118, _⟩ => ⟨S4096x32, .f32⟩
  | .hbm, ⟨119, _⟩ => ⟨S4096x32, .f32⟩
  | .hbm, ⟨120, _⟩ => ⟨S4096x32, .f32⟩
  | .hbm, ⟨121, _⟩ => ⟨S4096x32, .f32⟩
  | .hbm, ⟨122, _⟩ => ⟨S4096x128, .f32⟩
  | .hbm, ⟨123, _⟩ => ⟨S4096x256, .f32⟩
  | .hbm, ⟨124, _⟩ => ⟨S4096x256, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .bf16⟩
  | .local _ .vmem, ⟨5, _⟩ => ⟨S4096x128, .bf16⟩
  | _, _ => ⟨S1x4096x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_3 : Ref sig .tc := ⟨.hbm, 30, rfl⟩
abbrev main_v25 : Ref sig .tc := ⟨.hbm, 31, rfl⟩
abbrev main_v26 : Ref sig .tc := ⟨.hbm, 32, rfl⟩
abbrev main_cst_4 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_5 : Ref sig .tc := ⟨.hbm, 37, rfl⟩
abbrev main_v30 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_7 : Ref sig .tc := ⟨.hbm, 50, rfl⟩
abbrev main_v41 : Ref sig .tc := ⟨.hbm, 51, rfl⟩
abbrev main_v42 : Ref sig .tc := ⟨.hbm, 52, rfl⟩
abbrev main_cst_8 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_9 : Ref sig .tc := ⟨.hbm, 57, rfl⟩
abbrev main_v46 : Ref sig .tc := ⟨.hbm, 58, rfl⟩
abbrev main_v47 : Ref sig .tc := ⟨.hbm, 59, rfl⟩
abbrev main_cst_10 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_11 : Ref sig .tc := ⟨.hbm, 70, rfl⟩
abbrev main_v57 : Ref sig .tc := ⟨.hbm, 71, rfl⟩
abbrev main_v58 : Ref sig .tc := ⟨.hbm, 72, rfl⟩
abbrev main_cst_12 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_13 : Ref sig .tc := ⟨.hbm, 77, rfl⟩
abbrev main_v62 : Ref sig .tc := ⟨.hbm, 78, rfl⟩
abbrev main_v63 : Ref sig .tc := ⟨.hbm, 79, rfl⟩
abbrev main_cst_14 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_15 : Ref sig .tc := ⟨.hbm, 89, rfl⟩
abbrev main_v72 : Ref sig .tc := ⟨.hbm, 90, rfl⟩
abbrev main_cst_16 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_17 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_18 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RfKRIdeal.lean ====
abbrev S1x4096x2x128 : Shape := ⟨4, ![1, 4096, 2, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x2x64 : Shape := ⟨4, ![1, 4096, 2, 64]⟩
abbrev S4096x1x32 : Shape := ⟨3, ![4096, 1, 32]⟩
abbrev S1x4096x2x32 : Shape := ⟨4, ![1, 4096, 2, 32]⟩
abbrev S1x4096x1x32 : Shape := ⟨4, ![1, 4096, 1, 32]⟩
abbrev S4096x256 : Shape := ⟨2, ![4096, 256]⟩

abbrev nBuf : Space → Nat
  | .hbm => 95
  | .vmem => 0
  | .smem => 0
  | _ => 0

abbrev bufTy : (tb : Table) → Fin (tcTables nBuf tb) → BufTy
  | .hbm, ⟨0, _⟩ => ⟨S1x4096x2x128, .f32⟩
  | .hbm, ⟨1, _⟩ => ⟨S64, .i32⟩
  | .hbm, ⟨2, _⟩ => ⟨S64x64, .i32⟩
  | .hbm, ⟨3, _⟩ => ⟨S4096, .i32⟩
  | .hbm, ⟨4, _⟩ => ⟨S64, .i32⟩
  | .hbm, ⟨5, _⟩ => ⟨S1x64, .i32⟩
  | .hbm, ⟨6, _⟩ => ⟨S64x64, .i32⟩
  | .hbm, ⟨7, _⟩ => ⟨S4096, .i32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S4096, .f32⟩
  | .hbm, ⟨43, _⟩ => ⟨S4096x1, .f32⟩
  | .hbm, ⟨44, _⟩ => ⟨S1x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S1x4096x2x64, .f32⟩
  | .hbm, ⟨49, _⟩ => ⟨S4096x32, .f32⟩
  | .hbm, ⟨50, _⟩ => ⟨S4096x1x32, .f32⟩
  | .hbm, ⟨51, _⟩ => ⟨S4096x32, .f32⟩
  | .hbm, ⟨52, _⟩ => ⟨S4096x1x32, .f32⟩
  | .hbm, ⟨53, _⟩ => ⟨S1x4096x2x32, .f32⟩
  | .hbm, ⟨54, _⟩ => ⟨S1x4096x2x32, .f32⟩
  | .hbm, ⟨55, _⟩ => ⟨S1x4096x1x32, .f32⟩
  | .hbm, ⟨56, _⟩ => ⟨S1x4096x2x32, .f32⟩
  | .hbm, ⟨57, _⟩ => ⟨S1x4096x2x32, .f32⟩
  | .hbm, ⟨58, _⟩ => ⟨S1x4096x1x32, .f32⟩
  | .hbm, ⟨59, _⟩ => ⟨S1x4096x2x32, .f32⟩
  | .hbm, ⟨60, _⟩ => ⟨S1x4096x2x32, .f32⟩
  | .hbm, ⟨61, _⟩ => ⟨S1x4096x2x32, .f32⟩
  | .hbm, ⟨62, _⟩ => ⟨S1x4096x1x32, .f32⟩
  | .hbm, ⟨63, _⟩ => ⟨S1x4096x2x32, .f32⟩
  | .hbm, ⟨64, _⟩ => ⟨S1x4096x2x32, .f32⟩
  | .hbm, ⟨65, _⟩ => ⟨S1x4096x1x32, .f32⟩
  | .hbm, ⟨66, _⟩ => ⟨S1x4096x2x32, .f32⟩
  | .hbm, ⟨67, _⟩ => ⟨S1x4096x2x32, .f32⟩
  | .hbm, ⟨68, _⟩ => ⟨S1x4096x2x32, .f32⟩
  | .hbm, ⟨69, _⟩ => ⟨S1x4096x2x64, .f32⟩
  | .hbm, ⟨70, _⟩ => ⟨S1x4096x2x64, .f32⟩
  | .hbm, ⟨71, _⟩ => ⟨S4096x32, .f32⟩
  | .hbm, ⟨72, _⟩ => ⟨S4096x1x32, .f32⟩
  | .hbm, ⟨73, _⟩ => ⟨S4096x32, .f32⟩
  | .hbm, ⟨74, _⟩ => ⟨S4096x1x32, .f32⟩
  | .hbm, ⟨75, _⟩ => ⟨S1x4096x2x32, .f32⟩
  | .hbm, ⟨76, _⟩ => ⟨S1x4096x2x32, .f32⟩
  | .hbm, ⟨77, _⟩ => ⟨S1x4096x1x32, .f32⟩
  | .hbm, ⟨78, _⟩ => ⟨S1x4096x2x32, .f32⟩
  | .hbm, ⟨79, _⟩ => ⟨S1x4096x2x32, .f32⟩
  | .hbm, ⟨80, _⟩ => ⟨S1x4096x1x32, .f32⟩
  | .hbm, ⟨81, _⟩ => ⟨S1x4096x2x32, .f32⟩
  | .hbm, ⟨82, _⟩ => ⟨S1x4096x2x32, .f32⟩
  | .hbm, ⟨83, _⟩ => ⟨S1x4096x2x32, .f32⟩
  | .hbm, ⟨84, _⟩ => ⟨S1x4096x1x32, .f32⟩
  | .hbm, ⟨85, _⟩ => ⟨S1x4096x2x32, .f32⟩
  | .hbm, ⟨86, _⟩ => ⟨S1x4096x2x32, .f32⟩
  | .hbm, ⟨87, _⟩ => ⟨S1x4096x1x32, .f32⟩
  | .hbm, ⟨88, _⟩ => ⟨S1x4096x2x32, .f32⟩
  | .hbm, ⟨89, _⟩ => ⟨S1x4096x2x32, .f32⟩
  | .hbm, ⟨90, _⟩ => ⟨S1x4096x2x32, .f32⟩
  | .hbm, ⟨91, _⟩ => ⟨S1x4096x2x64, .f32⟩
  | .hbm, ⟨92, _⟩ => ⟨S1x4096x2x128, .f32⟩
  | .hbm, ⟨93, _⟩ => ⟨S4096x256, .f32⟩
  | .hbm, ⟨94, _⟩ => ⟨S4096x256, .bf16⟩
  | _, _ => ⟨S1x4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_3 : Ref sig .tc := ⟨.hbm, 29, rfl⟩
abbrev main_v24 : Ref sig .tc := ⟨.hbm, 30, rfl⟩
abbrev main_v25 : Ref sig .tc := ⟨.hbm, 31, rfl⟩
abbrev main_cst_4 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_5 : Ref sig .tc := ⟨.hbm, 36, rfl⟩
abbrev main_v29 : Ref sig .tc := ⟨.hbm, 37, rfl⟩
abbrev main_v30 : Ref sig .tc := ⟨.hbm, 38, rfl⟩
abbrev main_cst_6 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩

abbrev nD : Nat := 1
abbrev τ : Topo := Topo.v7x

variable {F : FTy → Type} [FloatOps F]
-- ==== LkFK.lean ====
abbrev S1x4096x1024 : Shape := ⟨3, ![1, 4096, 1024]⟩
abbrev S1x4096x64 : Shape := ⟨3, ![1, 4096, 64]⟩
abbrev S4096 : Shape := ⟨1, ![4096]⟩
abbrev S64 : Shape := ⟨1, ![64]⟩
abbrev S64x64 : Shape := ⟨2, ![64, 64]⟩
abbrev S1x64 : Shape := ⟨2, ![1, 64]⟩
abbrev S_ : Shape := ⟨0, ![]⟩
abbrev S4096x1 : Shape := ⟨2, ![4096, 1]⟩
abbrev S4096x64 : Shape := ⟨2, ![4096, 64]⟩
abbrev S32 : Shape := ⟨1, ![32]⟩
abbrev S1x32 : Shape := ⟨2, ![1, 32]⟩
abbrev S4096x32 : Shape := ⟨2, ![4096, 32]⟩
abbrev S4096x128 : Shape := ⟨2, ![4096, 128]⟩
abbrev S4096x256 : Shape := ⟨2, ![4096, 256]⟩
abbrev S4096x5120 : Shape := ⟨2, ![4096, 5120]⟩
abbrev S4096x1024 : Shape := ⟨2, ![4096, 1024]⟩
abbrev S2048x128 : Shape := ⟨2, ![2048, 128]⟩
abbrev S2048x256 : Shape := ⟨2, ![2048, 256]⟩

abbrev nBuf : Space → Nat
  | .hbm => 131
  | .vmem => 10
  | .smem => 0
  | _ => 0

abbrev hbmTy0_0 (i : Nat) : BufTy := match i % 128 with
  | 0 => ⟨S1x4096x1024, .f32⟩
  | 1 => ⟨S1x4096x64, .f32⟩
  | 2 => ⟨S4096, .i32⟩
  | 3 => ⟨S64, .i32⟩
  | 4 => ⟨S64x64, .i32⟩
  | 5 => ⟨S4096, .i32⟩
  | 6 => ⟨S64, .i32⟩
  | 7 => ⟨S1x64, .i32⟩
  | 8 => ⟨S64x64, .i32⟩
  | 9 => ⟨S4096, .i32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S4096, .f32⟩
  | 25 => ⟨S4096x1, .f32⟩
  | 26 => ⟨S1x64, .f32⟩
  | 27 => ⟨S4096x64, .f32⟩
  | 28 => ⟨S4096x64, .f32⟩
  | 29 => ⟨S4096x64, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S4096, .f32⟩
  | 45 => ⟨S4096x1, .f32⟩
  | 46 => ⟨S1x32, .f32⟩
  | 47 => ⟨S4096x32, .f32⟩
  | 48 => ⟨S4096x32, .f32⟩
  | 49 => ⟨S4096x32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S4096, .f32⟩
  | 65 => ⟨S4096x1, .f32⟩
  | 66 => ⟨S1x32, .f32⟩
  | 67 => ⟨S4096x32, .f32⟩
  | 68 => ⟨S4096x32, .f32⟩
  | 69 => ⟨S4096x32, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S4096, .f32⟩
  | 85 => ⟨S4096x1, .f32⟩
  | 86 => ⟨S1x32, .f32⟩
  | 87 => ⟨S4096x32, .f32⟩
  | 88 => ⟨S4096x32, .f32⟩
  | 89 => ⟨S4096x32, .f32⟩
  | 90 => ⟨S_, .f32⟩
  | 91 => ⟨S4096x128, .f32⟩
  | 92 => ⟨S_, .f32⟩
  | 93 => ⟨S4096x128, .f32⟩
  | 94 => ⟨S4096x32, .f32⟩
  | 95 => ⟨S4096x32, .f32⟩
  | 96 => ⟨S_, .f32⟩
  | 97 => ⟨S4096x64, .f32⟩
  | 98 => ⟨S4096x256, .f32⟩
  | 99 => ⟨S4096x32, .f32⟩
  | 100 => ⟨S4096x32, .f32⟩
  | 101 => ⟨S4096x32, .f32⟩
  | 102 => ⟨S_, .f32⟩
  | 103 => ⟨S4096x64, .f32⟩
  | 104 => ⟨S4096x256, .f32⟩
  | 105 => ⟨S4096x64, .f32⟩
  | 106 => ⟨S4096x64, .f32⟩
  | 107 => ⟨S4096x128, .f32⟩
  | 108 => ⟨S4096x64, .f32⟩
  | 109 => ⟨S4096x64, .f32⟩
  | 110 => ⟨S4096x64, .f32⟩
  | 111 => ⟨S4096x128, .f32⟩
  | 112 => ⟨S4096x32, .f32⟩
  | 113 => ⟨S4096x32, .f32⟩
  | 114 => ⟨S4096x32, .f32⟩
  | 115 => ⟨S4096x32, .f32⟩
  | 116 => ⟨S4096x128, .f32⟩
  | 117 => ⟨S4096x32, .f32⟩
  | 118 => ⟨S4096x32, .f32⟩
  | 119 => ⟨S4096x32, .f32⟩
  | 120 => ⟨S4096x32, .f32⟩
  | 121 => ⟨S4096x32, .f32⟩
  | 122 => ⟨S4096x32, .f32⟩
  | 123 => ⟨S4096x128, .f32⟩
  | 124 => ⟨S4096x64, .f32⟩
  | 125 => ⟨S_, .i32⟩
  | 126 => ⟨S_, .f32⟩
  | 127 => ⟨S4096x5120, .f32⟩
  | _ => ⟨S1x4096x1024, .f32⟩

abbrev hbmTy0_1 (i : Nat) : BufTy := match i % 128 with
  | 0 => ⟨S4096x1024, .f32⟩
  | 1 => ⟨S4096x1024, .bf16⟩
  | 2 => ⟨S4096x1024, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .f32⟩
  | .local _ .vmem, ⟨3, _⟩ => ⟨S2048x128, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩
abbrev main_v42 : Ref sig .tc := ⟨.hbm, 53, rfl⟩
abbrev main_cst_8 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_9 : Ref sig .tc := ⟨.hbm, 58, rfl⟩
abbrev main_v46 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_11 : Ref sig .tc := ⟨.hbm, 71, rfl⟩
abbrev main_v57 : Ref sig .tc := ⟨.hbm, 72, rfl⟩
abbrev main_v58 : Ref sig .tc := ⟨.hbm, 73, rfl⟩
abbrev main_cst_12 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_13 : Ref sig .tc := ⟨.hbm, 78, rfl⟩
abbrev main_v62 : Ref sig .tc := ⟨.hbm, 79, rfl⟩
abbrev main_v63 : Ref sig .tc := ⟨.hbm, 80, rfl⟩
abbrev main_cst_14 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_15 : Ref sig .tc := ⟨.hbm, 90, rfl⟩
abbrev main_v72 : Ref sig .tc := ⟨.hbm, 91, rfl⟩
abbrev main_cst_16 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_17 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_18 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_c : Ref sig .tc := ⟨.hbm, 125, rfl⟩
abbrev main_call0_v0 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg1.toNat, c8_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LkFRIdeal.lean ====
abbrev S1x4096x1024 : Shape := ⟨3, ![1, 4096, 1024]⟩
abbrev S1x4096x64 : Shape := ⟨3, ![1, 4096, 64]⟩
abbrev S1x4096x1x64 : Shape := ⟨4, ![1, 4096, 1, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S1x4096x1x32 : Shape := ⟨4, ![1, 4096, 1, 32]⟩
abbrev S1x4096x4x256 : Shape := ⟨4, ![1, 4096, 4, 256]⟩
abbrev S1x4096x4x128 : Shape := ⟨4, ![1, 4096, 4, 128]⟩
abbrev S1x4096x4x64 : Shape := ⟨4, ![1, 4096, 4, 64]⟩
abbrev S1x4096x4x192 : Shape := ⟨4, ![1, 4096, 4, 192]⟩
abbrev S4096x1024 : Shape := ⟨2, ![4096, 1024]⟩

abbrev nBuf : Space → Nat
  | .hbm => 51
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x64, .f32⟩
  | .hbm, ⟨2, _⟩ => ⟨S1x4096x1x64, .f32⟩
  | .hbm, ⟨3, _⟩ => ⟨S4096, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096, .f32⟩
  | .hbm, ⟨19, _⟩ => ⟨S4096x1, .f32⟩
  | .hbm, ⟨20, _⟩ => ⟨S1x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x1x32, .f32⟩
  | .hbm, ⟨26, _⟩ => ⟨S4096x32, .f32⟩
  | .hbm, ⟨27, _⟩ => ⟨S4096x1x32, .f32⟩
  | .hbm, ⟨28, _⟩ => ⟨S1x4096x1x32, .f32⟩
  | .hbm, ⟨29, _⟩ => ⟨S1x4096x1x32, .f32⟩
  | .hbm, ⟨30, _⟩ => ⟨S1x4096x1x32, .f32⟩
  | .hbm, ⟨31, _⟩ => ⟨S1x4096x1x32, .f32⟩
  | .hbm, ⟨32, _⟩ => ⟨S1x4096x1x32, .f32⟩
  | .hbm, ⟨33, _⟩ => ⟨S1x4096x1x32, .f32⟩
  | .hbm, ⟨34, _⟩ => ⟨S1x4096x1x32, .f32⟩
  | .hbm, ⟨35, _⟩ => ⟨S1x4096x1x32, .f32⟩
  | .hbm, ⟨36, _⟩ => ⟨S1x4096x1x32, .f32⟩
  | .hbm, ⟨37, _⟩ => ⟨S1x4096x1x32, .f32⟩
  | .hbm, ⟨38, _⟩ => ⟨S1x4096x1x32, .f32⟩
  | .hbm, ⟨39, _⟩ => ⟨S1x4096x1x32, .f32⟩
  | .hbm, ⟨40, _⟩ => ⟨S1x4096x1x64, .f32⟩
  | .hbm, ⟨41, _⟩ => ⟨S1x4096x4x256, .f32⟩
  | .hbm, ⟨42, _⟩ => ⟨S1x4096x4x128, .f32⟩
  | .hbm, ⟨43, _⟩ => ⟨S1x4096x4x128, .f32⟩
  | .hbm, ⟨44, _⟩ => ⟨S1x4096x4x64, .f32⟩
  | .hbm, ⟨45, _⟩ => ⟨S1x4096x4x192, .f32⟩
  | .hbm, ⟨46, _⟩ => ⟨S_, .i32⟩
  | .hbm, ⟨47, _⟩ => ⟨S_, .f32⟩
  | .hbm, ⟨48, _⟩ => ⟨S1x4096x4x256, .f32⟩
  | .hbm, ⟨49, _⟩ => ⟨S4096x1024, .f32⟩
  | .hbm, ⟨50, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_c : Ref sig .tc := ⟨.hbm, 46, rfl⟩
abbrev main_call0_v0 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== FfUK.lean ====
abbrev S4096x2048 : Shape := ⟨2, ![4096, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 13
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x2048, .bf16⟩
  | .hbm, ⟨4, _⟩ => ⟨S2048x4x1408, .f32⟩
  | .hbm, ⟨5, _⟩ => ⟨S4x2048x1408, .f32⟩
  | .hbm, ⟨6, _⟩ => ⟨S4x2048x1408, .bf16⟩
  | .hbm, ⟨7, _⟩ => ⟨S2048x4x1408, .f32⟩
  | .hbm, ⟨8, _⟩ => ⟨S4x2048x1408, .f32⟩
  | .hbm, ⟨9, _⟩ => ⟨S4x2048x1408, .bf16⟩
  | .hbm, ⟨10, _⟩ => ⟨S4096x5632, .bf16⟩
  | .hbm, ⟨11, _⟩ => ⟨S4096x5632, .bf16⟩
  | .hbm, ⟨12, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfURIdeal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x5632, .f32⟩
  | .hbm, ⟨4, _⟩ => ⟨S4096x5632, .f32⟩
  | .hbm, ⟨5, _⟩ => ⟨S4096x5632, .bf16⟩
  | .hbm, ⟨6, _⟩ => ⟨S4096x5632, .bf16⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== CcBK.lean ====
abbrev S4096x5120 : Shape := ⟨2, ![4096, 5120]⟩
abbrev S4096x768 : Shape := ⟨2, ![4096, 768]⟩
abbrev S4096x128 : Shape := ⟨2, ![4096, 128]⟩

abbrev nBuf : Space → Nat
  | .hbm => 2
  | .vmem => 4
  | .smem => 0
  | _ => 0

abbrev bufTy : (tb : Table) → Fin (tcTables nBuf tb) → BufTy
  | .hbm, ⟨0, _⟩ => ⟨S4096x5120, .f32⟩
  | .hbm, ⟨1, _⟩ => ⟨S4096x768, .bf16⟩
  | .local _ .vmem, ⟨0, _⟩ => ⟨S4096x128, .f32⟩
  | .local _ .vmem, ⟨1, _⟩ => ⟨S4096x128, .f32⟩
  | .local _ .vmem, ⟨2, _⟩ => ⟨S4096x128, .bf16⟩
  | .local _ .vmem, ⟨3, _⟩ => ⟨S4096x128, .bf16⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CcBR.lean ====
abbrev S4096x5120 : Shape := ⟨2, ![4096, 5120]⟩
abbrev S4096x2304 : Shape := ⟨2, ![4096, 2304]⟩
abbrev S4096x768 : Shape := ⟨2, ![4096, 768]⟩

abbrev nBuf : Space → Nat
  | .hbm => 6
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4096x2304, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .bf16⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== CcCK.lean ====
abbrev S4096x5120 : Shape := ⟨2, ![4096, 5120]⟩
abbrev S4096x256 : Shape := ⟨2, ![4096, 256]⟩
abbrev S4096x128 : Shape := ⟨2, ![4096, 128]⟩

abbrev nBuf : Space → Nat
  | .hbm => 2
  | .vmem => 4
  | .smem => 0
  | _ => 0

abbrev bufTy : (tb : Table) → Fin (tcTables nBuf tb) → BufTy
  | .hbm, ⟨0, _⟩ => ⟨S4096x5120, .f32⟩
  | .hbm, ⟨1, _⟩ => ⟨S4096x256, .bf16⟩
  | .local _ .vmem, ⟨0, _⟩ => ⟨S4096x128, .f32⟩
  | .local _ .vmem, ⟨1, _⟩ => ⟨S4096x128, .f32⟩
  | .local _ .vmem, ⟨2, _⟩ => ⟨S4096x128, .bf16⟩
  | .local _ .vmem, ⟨3, _⟩ => ⟨S4096x128, .bf16⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.addi c38_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CcCR.lean ====
abbrev S4096x5120 : Shape := ⟨2, ![4096, 5120]⟩
abbrev S4096x1280 : Shape := ⟨2, ![4096, 1280]⟩
abbrev S4096x768 : Shape := ⟨2, ![4096, 768]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4096x1280, .f32⟩
  | .hbm, ⟨2, _⟩ => ⟨S4096x768, .f32⟩
  | .hbm, ⟨3, _⟩ => ⟨S4096x256, .f32⟩
  | .hbm, ⟨4, _⟩ => ⟨S4096x256, .f32⟩
  | .hbm, ⟨5, _⟩ => ⟨S4096x256, .bf16⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== MmK.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x5632, .bf16⟩
  | .hbm, ⟨4, _⟩ => ⟨S5632x2048, .bf16⟩
  | .hbm, ⟨5, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MmRIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== FudK.lean ====
abbrev S4096x5632 : Shape := ⟨2, ![4096, 5632]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S4096x2048 : Shape := ⟨2, ![4096, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 13
  | .vmem => 11
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S2048x5632, .f32⟩
  | .hbm, ⟨3, _⟩ => ⟨S2048x5632, .f32⟩
  | .hbm, ⟨4, _⟩ => ⟨S4096x5632, .bf16⟩
  | .hbm, ⟨5, _⟩ => ⟨S4096x5632, .bf16⟩
  | .hbm, ⟨6, _⟩ => ⟨S2048x4x1408, .f32⟩
  | .hbm, ⟨7, _⟩ => ⟨S4x2048x1408, .f32⟩
  | .hbm, ⟨8, _⟩ => ⟨S4x2048x1408, .bf16⟩
  | .hbm, ⟨9, _⟩ => ⟨S2048x4x1408, .f32⟩
  | .hbm, ⟨10, _⟩ => ⟨S4x2048x1408, .f32⟩
  | .hbm, ⟨11, _⟩ => ⟨S4x2048x1408, .bf16⟩
  | .hbm, ⟨12, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 8], ![false, false, false]⟩

def k0_cond4 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c0_i32_0 : BitVec 32 := 0#32
  let c0_i32_1 : BitVec 32 := 0#32
  ![v1.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FudRIdeal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== AdwK.lean ====
abbrev S4096x1408 : Shape := ⟨2, ![4096, 1408]⟩
abbrev S2x2048x1408 : Shape := ⟨3, ![2, 2048, 1408]⟩
abbrev S128x1408 : Shape := ⟨2, ![128, 1408]⟩
abbrev S1x128x1408 : Shape := ⟨3, ![1, 128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdwRIdeal.lean ====
abbrev S4096x1408 : Shape := ⟨2, ![4096, 1408]⟩
abbrev S2x2048x1408 : Shape := ⟨3, ![2, 2048, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S4096x1408, .f32⟩
  | .hbm, ⟨6, _⟩ => ⟨S2x2048x1408, .f32⟩
  | .hbm, ⟨7, _⟩ => ⟨S_, .f32⟩
  | .hbm, ⟨8, _⟩ => ⟨S2x2048x1408, .f32⟩
  | .hbm, ⟨9, _⟩ => ⟨S2x2048x1408, .f32⟩
  | .hbm, ⟨10, _⟩ => ⟨S_, .f32⟩
  | .hbm, ⟨11, _⟩ => ⟨S2x2048x1408, .f32⟩
  | .hbm, ⟨12, _⟩ => ⟨S2x2048x1408, .f32⟩
  | .hbm, ⟨13, _⟩ => ⟨S2x2048x1408, .f32⟩
  | .hbm, ⟨14, _⟩ => ⟨S_, .f32⟩
  | .hbm, ⟨15, _⟩ => ⟨S2x2048x1408, .f32⟩
  | .hbm, ⟨16, _⟩ => ⟨S2x2048x1408, .f32⟩
  | .hbm, ⟨17, _⟩ => ⟨S2x2048x1408, .f32⟩
  | .hbm, ⟨18, _⟩ => ⟨S_, .f32⟩
  | .hbm, ⟨19, _⟩ => ⟨S2x2048x1408, .f32⟩
  | .hbm, ⟨20, _⟩ => ⟨S2x2048x1408, .f32⟩
  | .hbm, ⟨21, _⟩ => ⟨S2x2048x1408, .f32⟩
  | .hbm, ⟨22, _⟩ => ⟨S_, .f32⟩
  | .hbm, ⟨23, _⟩ => ⟨S2x2048x1408, .f32⟩
  | .hbm, ⟨24, _⟩ => ⟨S2x2048x1408, .f32⟩
  | .hbm, ⟨25, _⟩ => ⟨S_, .f32⟩
  | .hbm, ⟨26, _⟩ => ⟨S2x2048x1408, .f32⟩
  | .hbm, ⟨27, _⟩ => ⟨S2x2048x1408, .f32⟩
  | .hbm, ⟨28, _⟩ => ⟨S2x2048x1408, .f32⟩
  | .hbm, ⟨29, _⟩ => ⟨S_, .f32⟩
  | .hbm, ⟨30, _⟩ => ⟨S2x2048x1408, .f32⟩
  | .hbm, ⟨31, _⟩ => ⟨S2x2048x1408, .f32⟩
  | .hbm, ⟨32, _⟩ => ⟨S2x2048x1408, .f32⟩
  | .hbm, ⟨33, _⟩ => ⟨S_, .f32⟩
  | .hbm, ⟨34, _⟩ => ⟨S2x2048x1408, .f32⟩
  | .hbm, ⟨35, _⟩ => ⟨S2x2048x1408, .f32⟩
  | .hbm, ⟨36, _⟩ => ⟨S2x2048x1408, .f32⟩
  | .hbm, ⟨37, _⟩ => ⟨S_, .f32⟩
  | .hbm, ⟨38, _⟩ => ⟨S2x2048x1408, .f32⟩
  | .hbm, ⟨39, _⟩ => ⟨S2x2048x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdwDK.lean ====
abbrev S2816x2048 : Shape := ⟨2, ![2816, 2048]⟩
abbrev S2x1408x2048 : Shape := ⟨3, ![2, 1408, 2048]⟩
abbrev S352x512 : Shape := ⟨2, ![352, 512]⟩
abbrev S1x352x512 : Shape := ⟨3, ![1, 352, 512]⟩

abbrev nBuf : Space → Nat
  | .hbm => 9
  | .vmem => 18
  | .smem => 0
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .local _ .vmem, ⟨0, _⟩ => ⟨S352x512, .f32⟩
  | .local _ .vmem, ⟨1, _⟩ => ⟨S352x512, .f32⟩
  | .local _ .vmem, ⟨2, _⟩ => ⟨S352x512, .f32⟩
  | .local _ .vmem, ⟨3, _⟩ => ⟨S352x512, .f32⟩
  | .local _ .vmem, ⟨4, _⟩ => ⟨S1x352x512, .f32⟩
  | .local _ .vmem, ⟨5, _⟩ => ⟨S1x352x512, .f32⟩
  | .local _ .vmem, ⟨6, _⟩ => ⟨S1x352x512, .f32⟩
  | .local _ .vmem, ⟨7, _⟩ => ⟨S1x352x512, .f32⟩
  | .local _ .vmem, ⟨8, _⟩ => ⟨S1x352x512, .f32⟩
  | .local _ .vmem, ⟨9, _⟩ => ⟨S1x352x512, .f32⟩
  | .local _ .vmem, ⟨10, _⟩ => ⟨S1x352x512, .f32⟩
  | .local _ .vmem, ⟨11, _⟩ => ⟨S1x352x512, .f32⟩
  | .local _ .vmem, ⟨12, _⟩ => ⟨S1x352x512, .f32⟩
  | .local _ .vmem, ⟨13, _⟩ => ⟨S1x352x512, .f32⟩
  | .local _ .vmem, ⟨14, _⟩ => ⟨S1x352x512, .f32⟩
  | .local _ .vmem, ⟨15, _⟩ => ⟨S1x352x512, .f32⟩
  | .local _ .vmem, ⟨16, _⟩ => ⟨S1x352x512, .f32⟩
  | .local _ .vmem, ⟨17, _⟩ => ⟨S1x352x512, .f32⟩
  | _, _ => ⟨S2816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S352x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S352x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x352x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x352x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x352x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x352x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x352x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x352x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x352x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdwDRIdeal.lean ====
abbrev S2816x2048 : Shape := ⟨2, ![2816, 2048]⟩
abbrev S2x1408x2048 : Shape := ⟨3, ![2, 1408, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2816x2048, .f32⟩
  | .hbm, ⟨6, _⟩ => ⟨S2x1408x2048, .f32⟩
  | .hbm, ⟨7, _⟩ => ⟨S_, .f32⟩
  | .hbm, ⟨8, _⟩ => ⟨S2x1408x2048, .f32⟩
  | .hbm, ⟨9, _⟩ => ⟨S2x1408x2048, .f32⟩
  | .hbm, ⟨10, _⟩ => ⟨S_, .f32⟩
  | .hbm, ⟨11, _⟩ => ⟨S2x1408x2048, .f32⟩
  | .hbm, ⟨12, _⟩ => ⟨S2x1408x2048, .f32⟩
  | .hbm, ⟨13, _⟩ => ⟨S2x1408x2048, .f32⟩
  | .hbm, ⟨14, _⟩ => ⟨S_, .f32⟩
  | .hbm, ⟨15, _⟩ => ⟨S2x1408x2048, .f32⟩
  | .hbm, ⟨16, _⟩ => ⟨S2x1408x2048, .f32⟩
  | .hbm, ⟨17, _⟩ => ⟨S2x1408x2048, .f32⟩
  | .hbm, ⟨18, _⟩ => ⟨S_, .f32⟩
  | .hbm, ⟨19, _⟩ => ⟨S2x1408x2048, .f32⟩
  | .hbm, ⟨20, _⟩ => ⟨S2x1408x2048, .f32⟩
  | .hbm, ⟨21, _⟩ => ⟨S2x1408x2048, .f32⟩
  | .hbm, ⟨22, _⟩ => ⟨S_, .f32⟩
  | .hbm, ⟨23, _⟩ => ⟨S2x1408x2048, .f32⟩
  | .hbm, ⟨24, _⟩ => ⟨S2x1408x2048, .f32⟩
  | .hbm, ⟨25, _⟩ => ⟨S_, .f32⟩
  | .hbm, ⟨26, _⟩ => ⟨S2x1408x2048, .f32⟩
  | .hbm, ⟨27, _⟩ => ⟨S2x1408x2048, .f32⟩
  | .hbm, ⟨28, _⟩ => ⟨S2x1408x2048, .f32⟩
  | .hbm, ⟨29, _⟩ => ⟨S_, .f32⟩
  | .hbm, ⟨30, _⟩ => ⟨S2x1408x2048, .f32⟩
  | .hbm, ⟨31, _⟩ => ⟨S2x1408x2048, .f32⟩
  | .hbm, ⟨32, _⟩ => ⟨S2x1408x2048, .f32⟩
  | .hbm, ⟨33, _⟩ => ⟨S_, .f32⟩
  | .hbm, ⟨34, _⟩ => ⟨S2x1408x2048, .f32⟩
  | .hbm, ⟨35, _⟩ => ⟨S2x1408x2048, .f32⟩
  | .hbm, ⟨36, _⟩ => ⟨S2x1408x2048, .f32⟩
  | .hbm, ⟨37, _⟩ => ⟨S_, .f32⟩
  | .hbm, ⟨38, _⟩ => ⟨S2x1408x2048, .f32⟩
  | .hbm, ⟨39, _⟩ => ⟨S2x1408x2048, .f32⟩
  | _, _ => ⟨S2816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== SadK.lean ====
abbrev S8x136x128 : Shape := ⟨3, ![8, 136, 128]⟩
abbrev S136x128 : Shape := ⟨2, ![136, 128]⟩
abbrev S1x136x128 : Shape := ⟨3, ![1, 136, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x136x128, .f32⟩
  | .hbm, ⟨1, _⟩ => ⟨S136x128, .f32⟩
  | .hbm, ⟨2, _⟩ => ⟨S136x128, .f32⟩
  | .hbm, ⟨3, _⟩ => ⟨S136x128, .f32⟩
  | .hbm, ⟨4, _⟩ => ⟨S136x128, .f32⟩
  | .hbm, ⟨5, _⟩ => ⟨S136x128, .f32⟩
  | .hbm, ⟨6, _⟩ => ⟨S136x128, .f32⟩
  | .hbm, ⟨7, _⟩ => ⟨S136x128, .f32⟩
  | .local _ .vmem, ⟨0, _⟩ => ⟨S8x136x128, .f32⟩
  | .local _ .vmem, ⟨1, _⟩ => ⟨S136x128, .f32⟩
  | .local _ .vmem, ⟨2, _⟩ => ⟨S136x128, .f32⟩
  | .local _ .vmem, ⟨3, _⟩ => ⟨S136x128, .f32⟩
  | .local _ .vmem, ⟨4, _⟩ => ⟨S136x128, .f32⟩
  | .local _ .vmem, ⟨5, _⟩ => ⟨S136x128, .f32⟩
  | .local _ .vmem, ⟨6, _⟩ => ⟨S136x128, .f32⟩
  | .local _ .vmem, ⟨7, _⟩ => ⟨S136x128, .f32⟩
  | _, _ => ⟨S8x136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S136x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S136x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S136x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S136x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S136x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S136x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SadRIdeal.lean ====
abbrev S8x136x128 : Shape := ⟨3, ![8, 136, 128]⟩
abbrev S136x128 : Shape := ⟨2, ![136, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x136x128, .f32⟩
  | .hbm, ⟨1, _⟩ => ⟨S136x128, .f32⟩
  | .hbm, ⟨2, _⟩ => ⟨S136x128, .f32⟩
  | .hbm, ⟨3, _⟩ => ⟨S136x128, .f32⟩
  | .hbm, ⟨4, _⟩ => ⟨S_, .f32⟩
  | .hbm, ⟨5, _⟩ => ⟨S136x128, .f32⟩
  | .hbm, ⟨6, _⟩ => ⟨S_, .f32⟩
  | .hbm, ⟨7, _⟩ => ⟨S136x128, .f32⟩
  | .hbm, ⟨8, _⟩ => ⟨S136x128, .f32⟩
  | .hbm, ⟨9, _⟩ => ⟨S_, .f32⟩
  | .hbm, ⟨10, _⟩ => ⟨S136x128, .f32⟩
  | .hbm, ⟨11, _⟩ => ⟨S136x128, .f32⟩
  | .hbm, ⟨12, _⟩ => ⟨S136x128, .f32⟩
  | .hbm, ⟨13, _⟩ => ⟨S_, .f32⟩
  | .hbm, ⟨14, _⟩ => ⟨S136x128, .f32⟩
  | .hbm, ⟨15, _⟩ => ⟨S136x128, .f32⟩
  | .hbm, ⟨16, _⟩ => ⟨S136x128, .f32⟩
  | .hbm, ⟨17, _⟩ => ⟨S_, .f32⟩
  | .hbm, ⟨18, _⟩ => ⟨S136x128, .f32⟩
  | .hbm, ⟨19, _⟩ => ⟨S136x128, .f32⟩
  | .hbm, ⟨20, _⟩ => ⟨S136x128, .f32⟩
  | .hbm, ⟨21, _⟩ => ⟨S_, .f32⟩
  | .hbm, ⟨22, _⟩ => ⟨S136x128, .f32⟩
  | .hbm, ⟨23, _⟩ => ⟨S136x128, .f32⟩
  | .hbm, ⟨24, _⟩ => ⟨S_, .f32⟩
  | .hbm, ⟨25, _⟩ => ⟨S136x128, .f32⟩
  | .hbm, ⟨26, _⟩ => ⟨S136x128, .f32⟩
  | .hbm, ⟨27, _⟩ => ⟨S136x128, .f32⟩
  | .hbm, ⟨28, _⟩ => ⟨S_, .f32⟩
  | .hbm, ⟨29, _⟩ => ⟨S136x128, .f32⟩
  | .hbm, ⟨30, _⟩ => ⟨S136x128, .f32⟩
  | .hbm, ⟨31, _⟩ => ⟨S136x128, .f32⟩
  | .hbm, ⟨32, _⟩ => ⟨S_, .f32⟩
  | .hbm, ⟨33, _⟩ => ⟨S136x128, .f32⟩
  | .hbm, ⟨34, _⟩ => ⟨S136x128, .f32⟩
  | .hbm, ⟨35, _⟩ => ⟨S136x128, .f32⟩
  | .hbm, ⟨36, _⟩ => ⟨S_, .f32⟩
  | .hbm, ⟨37, _⟩ => ⟨S136x128, .f32⟩
  | .hbm, ⟨38, _⟩ => ⟨S136x128, .f32⟩
  | _, _ => ⟨S8x136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Reals.lean ====
/- Extended reals that are real numbers: what the finiteness preconditions say of an array, and the
   operations of the programs on real numbers. Every value module of this proof uses these lemmas. -/
module

public import Idealize.ShloMosaic.Lib.ReduceAll
public import Idealize.ShloMosaic.Lib.IdealHost
public import Idealize.ShloMosaic.PureOps.Ideal.Laws

@[expose] public section

noncomputable section

namespace Cert.Reals

open Idealize.ShloMosaic

/-- `x` is a real number. -/
def IsReal (x : EReal) : Prop := ∃ r : ℝ, x = (r : EReal)

/-- The pattern of the 32-bit infinity denotes `⊤`. -/
theorem ofBits_inf : Ideal.ofBits .f32 0x7F800000#32 = ⊤ := by
  have h1 : (BitVec.extractLsb' 23 8 0x7F800000#32).toNat = 255 := by decide
  have h2 : (BitVec.extractLsb' 0 23 0x7F800000#32).toNat = 0 := by decide
  have h3 : (BitVec.extractLsb' 31 1 0x7F800000#32 == 1#1) = false := by decide
  simp only [Ideal.ofBits, Ideal.ieee, h1, h2, h3]
  norm_num

/-- A magnitude below infinity belongs to a real number. -/
theorem isReal_of_abs_lt {x : EReal} (h : max x (-x) < ⊤) : IsReal x := by
  induction x with
  | bot => simp at h
  | coe r => exact ⟨r, rfl⟩
  | top => simp at h

/-- One array's part of a finiteness precondition: every element is a real number. -/
theorem isReal_of_all {s t u : Shape} {axes : List (Fin s.rank)} [Subsingleton t.Idx] (x : FVec Ideal s .f32)
    (h : s.ReducesTo axes t) (hu : 0 < u.numel) (hb : (⟨0, ![]⟩ : Shape).BroadcastsInDim s ![])
    (init : u.Idx → BitVec 1) (j : t.Idx)
    (e : Host.reduce IntOp.andi (cmpf .olt (Host.absf x)
      (broadcastInDim s ![] hb (constant (F := Ideal) ⟨0, ![]⟩ .f32 0x7F800000#32))) init h hu j = 1#1) (i : s.Idx) :
    IsReal (x i) := by
  have e1 := Host.reduce_andi_all _ init h hu j e i
  have e2 : Ideal.cmp .olt (max (x i) (-(x i))) (Ideal.ofBits .f32 0x7F800000#32) = 1#1 := e1
  rw [ofBits_inf] at e2
  refine isReal_of_abs_lt ?_
  by_contra hc
  simp [Ideal.cmp, hc] at e2

/-- An array of real numbers, as one function to the reals. -/
theorem choose_real {ι : Type} {f : ι → EReal} (h : ∀ i, IsReal (f i)) : ∃ g : ι → ℝ, f = fun i => (g i : EReal) := by
  choose g hg using h
  exact ⟨g, funext hg⟩

/-- The sum of real numbers is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient of real numbers, the divisor not zero. -/
theorem div_real (x : ℝ) {y : ℝ} (h : y ≠ 0) : Ideal.div (x : EReal) (y : EReal) = ((x / y : ℝ) : EReal) := by
  rw [Ideal.div_coe h, ← EReal.coe_mul, mul_one_div]

namespace IsReal

theorem coe (r : ℝ) : IsReal (r : EReal) := ⟨r, rfl⟩

theorem add {x y : EReal} : IsReal x → IsReal y → IsReal (x + y) := by
  rintro ⟨a, rfl⟩ ⟨b, rfl⟩; exact ⟨a + b, by norm_cast⟩

theorem mul {x y : EReal} : IsReal x → IsReal y → IsReal (x * y) := by
  rintro ⟨a, rfl⟩ ⟨b, rfl⟩; exact ⟨a * b, by norm_cast⟩

theorem sum {ι : Type} (s : Finset ι) {f : ι → EReal} (h : ∀ i, IsReal (f i)) : IsReal (∑ i ∈ s, f i) := by
  obtain ⟨g, rfl⟩ := choose_real h
  exact ⟨_, coe_sum s g⟩

end IsReal

end Cert.Reals

end
-- ==== Proof.GateValue.lean ====
/- The gate's backward call: what the kernel writes at each index, beside the reference's stages. -/
module

public import proofs.«01_k».proof.Proof.Reals
public import proofs.«01_k».proof.Proof.Gen.GateKIdeal.Frame
public import proofs.«01_k».proof.Proof.Gen.GateRIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateEq

open Cert.GateKIdeal Cert.GateKIdeal.Gen Cert.Reals

variable (m : (ℓ : Loc nD τ sig) → Buf (Elt Ideal) ℓ)

/-- The block indices of grid point `t = 11 i + j`. -/
theorem idx : ∀ t : Fin cfg0.N, win0_0.index t = ![t.val / 11, 0] ∧ win0_1.index t = ![t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11] :=
  (by decide +kernel : ∀ t : Fin grid0.N, _)

/-- The logistic function of a value: one over one plus the exponential of `z`, the value negated. -/
def lgst (z : EReal) : EReal := Ideal.div 1 (1 + Ideal.exp z)

theorem lgst_real (z : ℝ) : lgst (z : EReal) = ((1 / (1 + Real.exp z) : ℝ) : EReal) := by
  have h : (1 + Real.exp z) ≠ 0 := by positivity
  rw [lgst, Ideal.exp_coe, show (1 : EReal) + ((Real.exp z : ℝ) : EReal) = ((1 + Real.exp z : ℝ) : EReal) by norm_cast]
  exact div_real 1 h

/-- The derivative of `g · σ(g) · u` in `g`, times the cotangent `d`, as the kernel and as the reference write it. -/
theorem dgate_real (d u g : ℝ) :
    (d : EReal) * u * (lgst (-(g : EReal)) * (1 + g * (1 - lgst (-(g : EReal)))))
      = (d : EReal) * u * lgst (-(g : EReal)) + g * ((d : EReal) * u) * (lgst (-(g : EReal)) * (1 - lgst (-(g : EReal)))) := by
  rw [← EReal.coe_neg, lgst_real]
  norm_cast
  ring

/-- The product in the body at a block index, and the two stored values there. -/
theorem pay5 (X0 : FVec Ideal S1024x2048 .bf16) (X1 : FVec Ideal S512x2048 .bf16) (X2 : FVec Ideal S1024x512 .bf16) (y : S1024x512.Idx) :
    k0_pay5 (F := Ideal) X0 X1 X2 y
      = k0_pay1 (F := Ideal) X0 X1 y * (X2 y * lgst (0 - X2 y)) := by
  pointwise [k0_pay5, k0_pay2, k0_pay3, lgst]

theorem pay4 (X0 : FVec Ideal S1024x2048 .bf16) (X1 : FVec Ideal S512x2048 .bf16) (X2 X3 : FVec Ideal S1024x512 .bf16) (y : S1024x512.Idx) :
    k0_pay4 (F := Ideal) X0 X1 X2 X3 y
      = k0_pay1 (F := Ideal) X0 X1 y * X3 y * (lgst (0 - X2 y) * (1 + X2 y * (1 - lgst (0 - X2 y)))) := by
  pointwise [k0_pay4, k0_pay2, k0_pay3, lgst]

open Cert.GateRIdeal.Read in
/-- The reference's results at an index. -/
theorem ref5 (x0 : FVec Ideal S4096x5632 .f32) (x2 : FVec Ideal S5632x2048 .f32) (x3 : FVec Ideal S4096x2048 .f32) (i : S4096x5632.Idx) :
    val_main_v8 (F := Ideal) x0 x2 x3 i = (x0 i * lgst (-(x0 i))) * val_main_v3 (F := Ideal) x2 x3 i := by
  simp only [val_main_v8_apply, val_main_v4_apply, val_main_v0_0_apply, val_main_v0_2_apply, val_main_call0_v3_apply,
    val_main_call0_v4_apply, val_main_call0_v2_apply, val_main_call0_v1_apply, val_main_call0_v0_apply,
    val_main_call0_cst_apply, val_main_call0_cst_0_apply, val_main_call0_cst_1_apply]
  pointwise [lgst]

open Cert.GateRIdeal.Read in
theorem ref4 (x0 x1 : FVec Ideal S4096x5632 .f32) (x2 : FVec Ideal S5632x2048 .f32) (x3 : FVec Ideal S4096x2048 .f32) (i : S4096x5632.Idx) :
    val_main_v7 (F := Ideal) x0 x1 x2 x3 i
      = val_main_v3 (F := Ideal) x2 x3 i * x1 i * lgst (-(x0 i))
        + x0 i * (val_main_v3 (F := Ideal) x2 x3 i * x1 i) * (lgst (-(x0 i)) * (1 - lgst (-(x0 i)))) := by
  simp only [val_main_v7_apply, val_main_v6_apply, val_main_call1_v2_apply, val_main_call1_v1_apply, val_main_call1_v0_apply,
    val_main_v5_apply, val_main_v0_1_apply, val_main_call0_v7_apply, val_main_call0_v6_apply, val_main_v0_2_apply,
    val_main_call0_v3_apply, val_main_call0_v4_apply, val_main_call0_v2_apply, val_main_call0_v1_apply, val_main_call0_v0_apply,
    val_main_call0_cst_apply, val_main_call0_cst_0_apply, val_main_call0_cst_1_apply]
  pointwise [lgst]

open Cert.GateRIdeal.Read in
/-- The product of the body at grid point `t` is the reference's product. -/
theorem prod (c : Dev nD) (t : Fin cfg0.N) (y) :
    k0_pay1 (F := Ideal) (iblk m c 0 t) (iblk m c 1 t) y
      = val_main_v3 (F := Ideal) (m ((c : Thread nD τ).loc main_arg2)) (m ((c : Thread nD τ).loc main_arg3)) (((cfg0.win 5).blk t).view.emb y) := by
  rw [val_main_v3_apply]
  pointwise [k0_pay1]
  blk_point [iblk, V, idx t]

open Cert.GateRIdeal.Read in
theorem prod_real {x2 : FVec Ideal S5632x2048 .f32} {x3 : FVec Ideal S4096x2048 .f32} (h2 : ∀ i, IsReal (x2 i)) (h3 : ∀ i, IsReal (x3 i))
    (i : S4096x5632.Idx) : IsReal (val_main_v3 (F := Ideal) x2 x3 i) := by
  rw [val_main_v3_apply]
  exact IsReal.sum _ fun k => (h3 _).mul (h2 _)

section
variable (c : Dev nD)
  (h0 : ∀ i, IsReal (m ((c : Thread nD τ).loc main_arg0) i)) (h1 : ∀ i, IsReal (m ((c : Thread nD τ).loc main_arg1) i))
  (h2 : ∀ i, IsReal (m ((c : Thread nD τ).loc main_arg2) i)) (h3 : ∀ i, IsReal (m ((c : Thread nD τ).loc main_arg3) i))
include h0 h2 h3

theorem point5 (t : Fin cfg0.N) (y) :
    k0_pay5 (F := Ideal) (iblk m c 0 t) (iblk m c 1 t) (iblk m c 2 t) y
      = Cert.GateRIdeal.Read.val_main_v8 (F := Ideal) (m ((c : Thread nD τ).loc main_arg0)) (m ((c : Thread nD τ).loc main_arg2))
          (m ((c : Thread nD τ).loc main_arg3)) (((cfg0.win 5).blk t).view.emb y) := by
  have e0 : iblk m c 2 t y = m ((c : Thread nD τ).loc main_arg0) (((cfg0.win 5).blk t).view.emb y) := by
    blk_point [iblk, V, idx t]
  rw [pay5, ref5, prod, e0]
  obtain ⟨d, hd⟩ := prod_real h2 h3 (((cfg0.win 5).blk t).view.emb y)
  obtain ⟨g, hg⟩ := h0 (((cfg0.win 5).blk t).view.emb y)
  rw [hd, hg, zero_sub, mul_comm]

include h1

theorem point4 (t : Fin cfg0.N) (y) :
    k0_pay4 (F := Ideal) (iblk m c 0 t) (iblk m c 1 t) (iblk m c 2 t) (iblk m c 3 t) y
      = Cert.GateRIdeal.Read.val_main_v7 (F := Ideal) (m ((c : Thread nD τ).loc main_arg0)) (m ((c : Thread nD τ).loc main_arg1))
          (m ((c : Thread nD τ).loc main_arg2)) (m ((c : Thread nD τ).loc main_arg3)) (((cfg0.win 5).blk t).view.emb y) := by
  have e0 : iblk m c 2 t y = m ((c : Thread nD τ).loc main_arg0) (((cfg0.win 5).blk t).view.emb y) := by
    blk_point [iblk, V, idx t]
  have e1 : iblk m c 3 t y = m ((c : Thread nD τ).loc main_arg1) (((cfg0.win 5).blk t).view.emb y) := by
    blk_point [iblk, V, idx t]
  rw [pay4, ref4, prod, e0, e1]
  obtain ⟨d, hd⟩ := prod_real h2 h3 (((cfg0.win 5).blk t).view.emb y)
  obtain ⟨g, hg⟩ := h0 (((cfg0.win 5).blk t).view.emb y)
  obtain ⟨u, hu⟩ := h1 (((cfg0.win 5).blk t).view.emb y)
  rw [hd, hg, hu, zero_sub]
  exact dgate_real d u g

theorem final4 : (dats m 0 c).arrAt 4 (cfgs 0).N
    = Cert.GateRIdeal.Read.val_main_v7 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]; frame_out
  exact point4 m c h0 h1 h2 h3 t y

omit h1 in
theorem final5 : (dats m 0 c).arrAt 5 (cfgs 0).N
    = Cert.GateRIdeal.Read.val_main_v8 (F := Ideal) (m ((c : Thread nD τ).loc main_arg0)) (m ((c : Thread nD τ).loc main_arg2))
          (m ((c : Thread nD τ).loc main_arg3)) := by
  refine (dats m 0 c).arrAt_eq_of_covers 5 _ (by decide +kernel) fun t _ y => ?_
  blk_simp
  rw [after0_5]; frame_out
  exact point5 m c h0 h2 h3 t y

end

end Cert.GateEq

end
-- ==== Proof.GateClaim.lean ====
/- The claims about the gate's backward call. -/
module

public import proofs.«01_k».proof.Defs
public import proofs.«01_k».proof.Proof.GateValue
public import proofs.«01_k».proof.Proof.Gen.GateKIdeal.Value
public import proofs.«01_k».proof.Proof.Gen.GateK.Frame
public import proofs.«01_k».proof.Proof.Gen.GateRIdeal.Run
public import proofs.«01_k».proof.Proof.Gen.Pre_gate_finite

@[expose] public section

set_option maxRecDepth 16384

noncomputable section

namespace Cert.GateEq

open Idealize.ShloMosaic Idealize.SL.Sem Cert.Reals

/-- The precondition says that the four arrays hold real numbers. -/
theorem reals (x0 x1 : FVec Ideal ⟨2, ![4096, 5632]⟩ .f32) (x2 : FVec Ideal ⟨2, ![5632, 2048]⟩ .f32) (x3 : FVec Ideal ⟨2, ![4096, 2048]⟩ .f32)
    (h : Cert.Pre_gate_finite.fn (F := Ideal) x0 x1 x2 x3 = fun _ => 1#1) :
    (∀ i, IsReal (x0 i)) ∧ (∀ i, IsReal (x1 i)) ∧ (∀ i, IsReal (x2 i)) ∧ ∀ i, IsReal (x3 i) := by
  have e := congrFun h (fun a => a.elim0)
  unfold Cert.Pre_gate_finite.fn Cert.Pre_gate_finite.fn_part1 at e
  obtain ⟨e, e3⟩ := IntOp.andi_eq_one.1 e
  obtain ⟨e, e2⟩ := IntOp.andi_eq_one.1 e
  obtain ⟨e0, e1⟩ := IntOp.andi_eq_one.1 e
  exact ⟨isReal_of_all _ _ _ _ _ _ e0, isReal_of_all _ _ _ _ _ _ e1, isReal_of_all _ _ _ _ _ _ e2, isReal_of_all _ _ _ _ _ _ e3⟩

/-- The reference runs; its arguments stay. -/
theorem frame_ref : Cert.quiescent_GateRIdeal := fun m ρ _ =>
  (θ_run Cert.GateRIdeal.defs _ _).mono (fun r h => ⟨fun c => (h c).2.2, sem_eq_zero_of_no_sems (by decide) r.2⟩)
    (Cert.GateRIdeal.Value.run (F := Ideal) m ρ)

theorem value : Cert.algebraic_GateKIdeal_GateRIdeal_pre_gate_finite := by
  pair_intro
  · run_from Cert.GateKIdeal.Gen.run_main m g
  · run_from Cert.GateRIdeal.Value.run m' g'
    · obtain ⟨h0, h1, h2, h3⟩ := reals _ _ _ _ (hpre c)
      exact (Cert.GateRIdeal.Read.val_main_v7_eq _ _ _ _).trans (final4 m c h0 h1 h2 h3).symm
    · obtain ⟨h0, h1, h2, h3⟩ := reals _ _ _ _ (hpre c)
      exact (Cert.GateRIdeal.Read.val_main_v8_eq _ _ _).trans (final5 m c h0 h2 h3).symm

end Cert.GateEq

end
-- ==== Proof.Attn.lean ====
/- One query row of softmax attention and of its gradient, over the extended reals: what the kernels
   compute of a row, and what that is when the row, the keys, the values and the cotangent are real numbers. -/
module

public import Idealize.ShloMosaic.Lib.Pipeline.ValueKit
public import proofs.«01_k».proof.Proof.Reals

@[expose] public section

noncomputable section

namespace Cert.Attn

open Idealize.ShloMosaic Cert.Reals

variable {n d e : ℕ}

/-! ## The kernels' row, over the extended reals -/

/-- The scaled score of a row against key `j`. -/
def sc (c : EReal) (q : Fin d → EReal) (K : Fin n → Fin d → EReal) (j : Fin n) : EReal := (∑ x, q x * K j x) * c

/-- The greatest score of a row. -/
def mx (c : EReal) (q : Fin d → EReal) (K : Fin n → Fin d → EReal) : EReal :=
  Finset.fold max (Ideal.ofBits .f32 0xFF800000#32) (fun j => sc c q K j) Finset.univ

/-- The weight of key `j`, not yet divided by the row's sum. -/
def wt (c : EReal) (q : Fin d → EReal) (K : Fin n → Fin d → EReal) (j : Fin n) : EReal := Ideal.exp2 (sc c q K j - mx c q K)

/-- The row's sum of weights. -/
def tot (c : EReal) (q : Fin d → EReal) (K : Fin n → Fin d → EReal) : EReal := ∑ j, wt c q K j

/-- The row's output in column `x`. -/
def out (c : EReal) (q : Fin d → EReal) (K : Fin n → Fin d → EReal) (W : Fin n → Fin e → EReal) (x : Fin e) : EReal :=
  Ideal.div (∑ j, wt c q K j * W j x) (tot c q K)

/-- The row's logarithmic sum, in base two (`l` is the factor from the natural logarithm). -/
def lse (c l : EReal) (q : Fin d → EReal) (K : Fin n → Fin d → EReal) : EReal := mx c q K + Ideal.log (tot c q K) * l

/-- The probability of key `j`, from the saved logarithmic sum `z`. -/
def pr (c : EReal) (q : Fin d → EReal) (K : Fin n → Fin d → EReal) (z : EReal) (j : Fin n) : EReal := Ideal.exp2 (sc c q K j - z)

/-- The gradient of the unscaled score against key `j`, from the saved logarithmic sum `z` and the saved output `o`. -/
def ds (c s : EReal) (q : Fin d → EReal) (K : Fin n → Fin d → EReal) (W : Fin n → Fin e → EReal) (g o : Fin e → EReal) (z : EReal)
    (j : Fin n) : EReal := pr c q K z j * ((∑ x, g x * W j x) - ∑ x, g x * o x) * s

/-! ## The same row over the reals -/

/-- The softmax of a row of scores. -/
def prob (x : Fin n → ℝ) (j : Fin n) : ℝ := Real.exp (x j) / ∑ k, Real.exp (x k)

/-- The gradient of the unscaled score, from the scores, the products `p` of cotangent and values, and the scale `s`. -/
def grad (x p : Fin n → ℝ) (s : ℝ) (j : Fin n) : ℝ := prob x j * (p j - ∑ k, prob x k * p k) * s

theorem ofBits_ninf : Ideal.ofBits .f32 0xFF800000#32 = ⊥ := by
  have h1 : (BitVec.extractLsb' 23 8 0xFF800000#32).toNat = 255 := by decide
  have h2 : (BitVec.extractLsb' 0 23 0xFF800000#32).toNat = 0 := by decide
  have h3 : (BitVec.extractLsb' 31 1 0xFF800000#32 == 1#1) = true := by decide
  simp only [Ideal.ofBits, Ideal.ieee, h1, h2, h3]
  norm_num

/-- The maximum of real numbers, at least one, is a real number. -/
theorem fold_max_real [NeZero n] (x : Fin n → ℝ) :
    IsReal (Finset.fold max (Ideal.ofBits .f32 0xFF800000#32) (fun j => (x j : EReal)) Finset.univ) := by
  rw [ofBits_ninf, show Finset.fold max (⊥ : EReal) (fun j => (x j : EReal)) Finset.univ = Finset.univ.sup (fun j => (x j : EReal)) from rfl]
  obtain ⟨j, -, h⟩ := Finset.exists_mem_eq_sup Finset.univ ⟨0, Finset.mem_univ _⟩ (fun j => (x j : EReal))
  exact ⟨x j, h⟩

theorem exp_pos_sum [NeZero n] (x : Fin n → ℝ) : 0 < ∑ k, Real.exp (x k) :=
  Finset.sum_pos (fun _ _ => Real.exp_pos _) ⟨0, Finset.mem_univ _⟩

/-- A row shifted by a constant has the same softmax. -/
theorem prob_shift (x : Fin n → ℝ) (M : ℝ) (j : Fin n) :
    Real.exp (x j - M) / ∑ k, Real.exp (x k - M) = prob x j := by
  simp only [prob, Real.exp_sub, ← Finset.sum_div]
  rw [div_div_div_cancel_right₀ (Real.exp_pos M).ne']

theorem rpow_two (a : ℝ) : Real.rpow 2 a = Real.exp (Real.log 2 * a) := Real.rpow_def_of_pos (by norm_num) a

section
variable [NeZero n] (s : ℝ) (q : Fin d → ℝ) (K : Fin n → Fin d → ℝ) (W : Fin n → Fin e → ℝ) (g : Fin e → ℝ)

/-- The scaled scores of a real row. -/
def scores (j : Fin n) : ℝ := (∑ x, q x * K j x) * s

/-- The products of the cotangent with the values. -/
def prods (j : Fin n) : ℝ := ∑ x, g x * W j x

theorem sc_real (c : ℝ) (j : Fin n) :
    sc (c : EReal) (fun x => (q x : EReal)) (fun j x => (K j x : EReal)) j = (((∑ x, q x * K j x) * c : ℝ) : EReal) := by
  simp only [sc, ← EReal.coe_mul, coe_sum]

variable {c l : ℝ} (hc : c = s * l) (hl : l = (Real.log 2)⁻¹)
include hc hl

theorem log2_mul (a : ℝ) : Real.log 2 * (a * c) = a * s := by
  have h : Real.log 2 ≠ 0 := (Real.log_pos (by norm_num)).ne'
  rw [hc, hl]; field_simp

theorem wt_real {M : ℝ} (hM : mx (c : EReal) (fun x => (q x : EReal)) (fun j x => (K j x : EReal)) = (M : EReal)) (j : Fin n) :
    wt (c : EReal) (fun x => (q x : EReal)) (fun j x => (K j x : EReal)) j
      = ((Real.exp (scores s q K j - Real.log 2 * M) : ℝ) : EReal) := by
  rw [wt, hM, sc_real, ← EReal.coe_sub, Ideal.exp2_coe, rpow_two, mul_sub, log2_mul s hc hl]; rfl

theorem mx_real : IsReal (mx (c : EReal) (fun x => (q x : EReal)) (fun j x => (K j x : EReal))) := by
  simp only [mx, sc_real]
  exact fold_max_real _

/-- The saved output of a real row. -/
theorem out_real (x : Fin e) :
    out (c : EReal) (fun x => (q x : EReal)) (fun j x => (K j x : EReal)) (fun j x => (W j x : EReal)) x
      = ((∑ j, prob (scores s q K) j * W j x : ℝ) : EReal) := by
  obtain ⟨M, hM⟩ := mx_real (n := n) s q K hc hl
  have hp := exp_pos_sum fun j => scores s q K j - Real.log 2 * M
  simp only [out, tot, wt_real s q K hc hl hM, coe_sum, ← EReal.coe_mul]
  rw [div_real _ hp.ne', Finset.sum_div]
  congr 1
  refine Finset.sum_congr rfl fun j _ => ?_
  rw [mul_div_right_comm, prob_shift]

/-- The probability recomputed from the saved logarithmic sum is the softmax. -/
theorem pr_real (j : Fin n) :
    pr (c : EReal) (fun x => (q x : EReal)) (fun j x => (K j x : EReal))
        (lse (c : EReal) (l : EReal) (fun x => (q x : EReal)) (fun j x => (K j x : EReal))) j
      = ((prob (scores s q K) j : ℝ) : EReal) := by
  obtain ⟨M, hM⟩ := mx_real (n := n) s q K hc hl
  have hp := exp_pos_sum fun j => scores s q K j - Real.log 2 * M
  have h2 : Real.log 2 ≠ 0 := (Real.log_pos (by norm_num)).ne'
  simp only [pr, lse, hM, tot, wt_real s q K hc hl hM, coe_sum, sc_real, Ideal.log_coe, if_neg (not_le.mpr hp)]
  rw [← EReal.coe_mul, ← EReal.coe_add, ← EReal.coe_sub, Ideal.exp2_coe, rpow_two, mul_sub, log2_mul s hc hl, mul_add,
    mul_comm _ l, ← mul_assoc, hl, mul_inv_cancel₀ h2, one_mul, ← sub_sub, Real.exp_sub, Real.exp_log hp]
  exact congrArg _ (prob_shift (scores s q K) _ j)

/-- The score's gradient of a real row, from the saved output and logarithmic sum. -/
theorem ds_real (j : Fin n) :
    ds (c : EReal) (s : EReal) (fun x => (q x : EReal)) (fun j x => (K j x : EReal)) (fun j x => (W j x : EReal)) (fun x => (g x : EReal))
        (out (c : EReal) (fun x => (q x : EReal)) (fun j x => (K j x : EReal)) (fun j x => (W j x : EReal)))
        (lse (c : EReal) (l : EReal) (fun x => (q x : EReal)) (fun j x => (K j x : EReal))) j
      = ((grad (scores s q K) (prods W g) s j : ℝ) : EReal) := by
  simp only [ds, pr_real s q K hc hl, out_real s q K W hc hl, ← EReal.coe_mul, coe_sum, ← EReal.coe_sub, grad, prods]
  congr 4
  simp only [Finset.mul_sum]
  rw [Finset.sum_comm]
  exact Finset.sum_congr rfl fun j _ => Finset.sum_congr rfl fun x _ => by ring

end

/-! ## The row as the derivative of a softmax is printed -/

/-- The greatest of the scores, a row of real numbers, as the reference computes it. -/
def rmx (x : Fin n → EReal) : EReal := max (Ideal.ofBits .f32 0xFF800000#32) (Finset.fold max (Ideal.ofBits .f32 0xFF800000#32) x Finset.univ)

/-- The exponential of a score less the greatest. -/
def rw' (x : Fin n → EReal) (j : Fin n) : EReal := Ideal.exp (x j - rmx x)

/-- The softmax of a row. -/
def rp (x : Fin n → EReal) (j : Fin n) : EReal := Ideal.div (rw' x j) (∑ k, rw' x k)

/-- The derivative of the softmax, the cotangents of the probabilities `p`. -/
def rds (x p : Fin n → EReal) (s : EReal) (j : Fin n) : EReal :=
  (Ideal.div (p j) (∑ k, rw' x k) + -(∑ k, p k * Ideal.div 1 ((∑ k, rw' x k) * ∑ k, rw' x k) * rw' x k)) * rw' x j * s

section
variable [NeZero n] (x p : Fin n → ℝ)

theorem rw_real : ∃ M : ℝ, ∀ j, rw' (fun j => (x j : EReal)) j = ((Real.exp (x j - M) : ℝ) : EReal) := by
  obtain ⟨M, hM⟩ := fold_max_real x
  refine ⟨M, fun j => ?_⟩
  rw [rw', rmx, hM, ofBits_ninf, max_eq_right bot_le, ← EReal.coe_sub, Ideal.exp_coe]

theorem rp_real (j : Fin n) : rp (fun j => (x j : EReal)) j = ((prob x j : ℝ) : EReal) := by
  obtain ⟨M, h⟩ := rw_real x
  have hp := exp_pos_sum fun j => x j - M
  simp only [rp, h, coe_sum]
  rw [div_real _ hp.ne', prob_shift]

theorem rds_real (s : ℝ) (j : Fin n) :
    rds (fun j => (x j : EReal)) (fun j => (p j : EReal)) (s : EReal) j = ((grad x p s j : ℝ) : EReal) := by
  obtain ⟨M, h⟩ := rw_real x
  have hp := exp_pos_sum fun j => x j - M
  simp only [rds, h, coe_sum, ← EReal.coe_mul, ← EReal.coe_one]
  rw [div_real _ hp.ne', div_real _ (mul_pos hp hp).ne']
  simp only [← EReal.coe_mul, coe_sum, ← EReal.coe_neg, ← EReal.coe_add]
  congr 1
  simp only [grad, ← prob_shift x M]
  set L := ∑ k, Real.exp (x k - M)
  have e : ∑ k, p k * (1 / (L * L)) * Real.exp (x k - M) = (∑ k, Real.exp (x k - M) / L * p k) / L := by
    rw [Finset.sum_div]
    exact Finset.sum_congr rfl fun k _ => by field_simp
  rw [e]
  field_simp
  ring

end

/-- A sum over 1024 rows in four runs of 256, added up from the first. -/
theorem split4 (f : Fin 1024 → EReal) (a : EReal) :
    a + ∑ r : Fin 1024, f r
      = a + (∑ r : Fin 256, f ⟨0 + r, by omega⟩) + (∑ r : Fin 256, f ⟨256 + r, by omega⟩) + (∑ r : Fin 256, f ⟨512 + r, by omega⟩)
        + ∑ r : Fin 256, f ⟨768 + r, by omega⟩ := by
  rw [Fin.sum_univ_tiles 4 256 rfl f, Fin.sum_univ_four]
  simp only [add_assoc]
  refine congrArg _ (congrArg₂ _ (Finset.sum_congr rfl fun r _ => congrArg f (Fin.ext ?_)) (congrArg₂ _ (Finset.sum_congr rfl fun r _ => congrArg f (Fin.ext ?_)) (congrArg₂ _ (Finset.sum_congr rfl fun r _ => congrArg f (Fin.ext ?_)) (Finset.sum_congr rfl fun r _ => congrArg f (Fin.ext ?_)))))
  all_goals simp <;> omega

theorem add_zero_of {x h : ℕ} {d : Fin 1} (e : x = h + d) : x = h := by
  have := d.isLt; omega

theorem ix4_of {a b c d : ℕ} (f : (⟨4, ![a, b, c, d]⟩ : Shape).Idx) {p : Fin a} {q : Fin b} {r : Fin c} {s : Fin d}
    (h0 : f 0 = p) (h1 : f 1 = q) (h2 : f 2 = r) (h3 : f 3 = s) : f = ix4 p q r s := by
  subst h0 h1 h2 h3
  funext x
  fin_cases x <;> rfl

theorem ix5_of {a b c d e : ℕ} (f : (⟨5, ![a, b, c, d, e]⟩ : Shape).Idx) {p : Fin a} {q : Fin b} {r : Fin c} {s : Fin d} {u : Fin e}
    (h0 : f 0 = p) (h1 : f 1 = q) (h2 : f 2 = r) (h3 : f 3 = s) (h4 : f 4 = u) : f = ix5 p q r s u := by
  subst h0 h1 h2 h3 h4
  funext x
  fin_cases x <;> rfl

end Cert.Attn

end
-- ==== Proof.FlaCFwdPay.lean ====
module

public import proofs.«01_k».proof.Proof.Attn
public import proofs.«01_k».proof.Proof.Gen.FlaCKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FlaCEq

open Cert.FlaCKIdeal Cert.FlaCKIdeal.Gen Cert.Reals Cert.Attn

/-- The three constants of the kernel at the extended reals. -/
abbrev kc : EReal := Named.named (F := Ideal) κ "c" (φ := .f32) 0x3E0293EE#32
abbrev kl : EReal := Named.named (F := Ideal) κ "log2e" (φ := .f32) 0x3FB8AA3B#32
abbrev ks : EReal := Named.named (F := Ideal) κ "s" (φ := .f32) 0x3DB504F3#32

/-- Row `r` of a matrix. -/
abbrev row {a b : ℕ} (X : (⟨2, ![a, b]⟩ : Shape).Idx → EReal) (r : Fin a) (x : Fin b) : EReal := X (ix2 r x)

/-! ## The forward body -/

section
variable (A B : FVec Ideal S4096x128 .bf16) (X : FVec Ideal S256x128 .bf16) (y : S256x1.Idx) (z : S1x256x128.Idx)

theorem pay5 : k0_pay5 (F := Ideal) A X y = mx kc (row X (y 0)) (row A) := by
  pointwise [k0_pay5, k0_pay4, k0_pay2]
  rfl

theorem pay7 : k0_pay7 (F := Ideal) A X y = tot kc (row X (y 0)) (row A) := by
  pointwise [k0_pay7, k0_pay6, k0_pay5, k0_pay4, k0_pay2]
  rfl

theorem pay12 : k0_pay12 (F := Ideal) (k0_pay10 A X) (Named.named κ "c" 0x3E0293EE#32) y = mx kc (row X (y 0)) (row A) := by
  pointwise [k0_pay12, k0_pay11, k0_pay10, k0_pay2]
  rfl

theorem pay14 : k0_pay14 (F := Ideal) (k0_pay10 A X) (Named.named κ "c" 0x3E0293EE#32) y = tot kc (row X (y 0)) (row A) := by
  pointwise [k0_pay14, k0_pay13, k0_pay12, k0_pay11, k0_pay10, k0_pay2]
  rfl

theorem pay18 : k0_pay18 (F := Ideal) (k0_pay2 A) X y = mx kc (row X (y 0)) (row A) := by
  pointwise [k0_pay18, k0_pay17, k0_pay2]
  rfl

theorem pay20 : k0_pay20 (F := Ideal) (k0_pay2 A) X y = tot kc (row X (y 0)) (row A) := by
  pointwise [k0_pay20, k0_pay19, k0_pay18, k0_pay17, k0_pay2]
  rfl

theorem pay25 : k0_pay25 (F := Ideal) (k0_pay2 A) X y = mx kc (row X (y 0)) (row A) := by
  pointwise [k0_pay25, k0_pay24, k0_pay2]
  rfl

theorem pay27 : k0_pay27 (F := Ideal) (k0_pay2 A) X y = tot kc (row X (y 0)) (row A) := by
  pointwise [k0_pay27, k0_pay26, k0_pay25, k0_pay24, k0_pay2]
  rfl

/-- The stored block of log-sums, from the rows' maxima and totals. -/
theorem col (a t : FVec Ideal S256x1 .f32) (z : S1x256x128.Idx) {p q : EReal} (hp : a (ix2 (z 1) 0) = p)
    (hq : t (ix2 (z 1) 0) = q) : k0_pay23 (F := Ideal) a t z = p + Ideal.log q * kl := by
  subst hp hq
  pointwise [k0_pay23]

theorem pay9 : k0_pay9 (F := Ideal) A X z = lse kc kl (row X (z 1)) (row A) :=
  col (k0_pay5 A X) (k0_pay7 A X) z (pay5 A X _) (pay7 A X _)

theorem pay16 : k0_pay16 (F := Ideal) (k0_pay10 A X) (Named.named κ "c" 0x3E0293EE#32) z = lse kc kl (row X (z 1)) (row A) :=
  col (k0_pay12 _ _) (k0_pay14 _ _) z (pay12 A X _) (pay14 A X _)

theorem pay23 : k0_pay23 (F := Ideal) (k0_pay18 (k0_pay2 A) X) (k0_pay20 (k0_pay2 A) X) z = lse kc kl (row X (z 1)) (row A) :=
  col _ _ z (pay18 A X _) (pay20 A X _)

theorem pay1 : k0_pay1 (F := Ideal) (k0_pay29 (k0_pay2 A) X) z = lse kc kl (row X (z 1)) (row A) :=
  col (k0_pay25 _ _) (k0_pay27 _ _) z (pay25 A X _) (pay27 A X _)

end

/-- What a step stores into the output block. -/
theorem out3 (x0 : Vec Ideal S1024x128 .bf16) (x1 x2 : Vec Ideal S4096x128 .bf16) (y : S1024x128.Idx) :
    out0_3 (F := Ideal) x0 x1 x2 y = out kc (row x0 (y 0)) (row x1) (row x2) (y 1) := by
  unfold out0_3
  canon_tiles x h
  all_goals
    have e0 : y 0 = ⟨_, lt_of_eq_of_lt h0.symm (y 0).isLt⟩ := Fin.ext h0
    have e1 : y 1 = x 1 := Fin.ext h1
    open_payloads
    pointwise
    rw [e0, e1]
    rfl

/-- What a step stores into the block of log-sums. -/
theorem out4 (x0 : Vec Ideal S1024x128 .bf16) (x1 x2 : Vec Ideal S4096x128 .bf16) (y : S1x1024x128.Idx) :
    out0_4 (F := Ideal) x0 x1 x2 y = lse kc kl (row x0 (y 1)) (row x1) := by
  unfold out0_4 k0_pay32
  canon_tiles x h
  all_goals
    have e1 : y 1 = ⟨_, lt_of_eq_of_lt h1.symm (y 1).isLt⟩ := Fin.ext h1
  · refine (pay1 _ _ _).trans ?_
    rw [e1]
    exact congrArg₂ (lse kc kl) (funext fun d => by pointwise [row]) (funext fun j => funext fun d => by pointwise [row])
  · refine (pay23 _ _ _).trans ?_
    rw [e1]
    exact congrArg₂ (lse kc kl) (funext fun d => by pointwise [row]) (funext fun j => funext fun d => by pointwise [row])
  · refine (pay16 _ _ _).trans ?_
    rw [e1]
    exact congrArg₂ (lse kc kl) (funext fun d => by pointwise [row]) (funext fun j => funext fun d => by pointwise [row])
  · refine (pay9 _ _ _).trans ?_
    rw [e1]
    exact congrArg₂ (lse kc kl) (funext fun d => by pointwise [row]) (funext fun j => funext fun d => by pointwise [row])

end Cert.FlaCEq

end
-- ==== Proof.FlaCBwdPay.lean ====
module

public import proofs.«01_k».proof.Proof.FlaCFwdPay
public import proofs.«01_k».proof.Proof.Gen.FlaCKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FlaCEq

open Cert.FlaCKIdeal Cert.FlaCKIdeal.Gen Cert.Reals Cert.Attn

/-! ## The backward body: a chunk of 256 query rows `Q`, cotangent rows `G`, output rows `O` and log-sums `Z`
against the keys `A` and values `B` of the group -/

section
variable (A B : FVec Ideal S4096x128 .bf16) (Q : FVec Ideal S256x128 .bf16) (G O : FVec Ideal S256x128 .f32) (Z : FVec Ideal S1x256x1 .f32) (acc : FVec Ideal S4096x128 .f32) (y : S4096x128.Idx) (w : S256x128.Idx)

theorem dv13 : k1_pay13 (F := Ideal) (k1_pay9 G) (k1_pay10 A Q Z) acc y
    = acc y + ∑ r : Fin 256, pr kc (row Q r) (row A) (Z (ix3 0 r 0)) (y 0) * row G r (y 1) := by
  pointwise [k1_pay13, k1_pay7, k1_pay8, k1_pay9, k1_pay10, k1_pay3, k1_pay4]
  rfl

theorem dv22 : k1_pay22 (F := Ideal) (k1_pay18 G) (k1_pay19 (k1_pay3 A) Q) Z acc y
    = acc y + ∑ r : Fin 256, pr kc (row Q r) (row A) (Z (ix3 0 r 0)) (y 0) * row G r (y 1) := by
  pointwise [k1_pay22, k1_pay20, k1_pay17, k1_pay18, k1_pay19, k1_pay16, k1_pay3]
  rfl

theorem dv30 : k1_pay30 (F := Ideal) (k1_pay3 A) Q G Z acc y
    = acc y + ∑ r : Fin 256, pr kc (row Q r) (row A) (Z (ix3 0 r 0)) (y 0) * row G r (y 1) := by
  pointwise [k1_pay30, k1_pay26, k1_pay28, k1_pay27, k1_pay25, k1_pay3]
  rfl

theorem dv38 : k1_pay38 (F := Ideal) (k1_pay3 A) Q G Z acc y
    = acc y + ∑ r : Fin 256, pr kc (row Q r) (row A) (Z (ix3 0 r 0)) (y 0) * row G r (y 1) := by
  pointwise [k1_pay38, k1_pay34, k1_pay36, k1_pay35, k1_pay33, k1_pay3]
  rfl

theorem dk14 : k1_pay14 (F := Ideal) (k1_pay7 Q) (k1_pay8 G) (k1_pay10 A Q Z) (k1_pay11 B G) O acc y
    = acc y + ∑ r : Fin 256, ds kc ks (row Q r) (row A) (row B) (row G r) (row O r) (Z (ix3 0 r 0)) (y 0) * row Q r (y 1) := by
  pointwise [k1_pay14, k1_pay12, k1_pay7, k1_pay8, k1_pay10, k1_pay11, k1_pay9, k1_pay3, k1_pay4]
  rfl

theorem dk23 : k1_pay23 (F := Ideal) (k1_pay4 B) (k1_pay16 Q) (k1_pay17 G) (k1_pay18 G) (k1_pay19 (k1_pay3 A) Q) Z O acc y
    = acc y + ∑ r : Fin 256, ds kc ks (row Q r) (row A) (row B) (row G r) (row O r) (Z (ix3 0 r 0)) (y 0) * row Q r (y 1) := by
  pointwise [k1_pay23, k1_pay21, k1_pay20, k1_pay16, k1_pay17, k1_pay18, k1_pay19, k1_pay3, k1_pay4]
  rfl

theorem dk31 : k1_pay31 (F := Ideal) (k1_pay3 A) (k1_pay4 B) Q G Z O acc y
    = acc y + ∑ r : Fin 256, ds kc ks (row Q r) (row A) (row B) (row G r) (row O r) (Z (ix3 0 r 0)) (y 0) * row Q r (y 1) := by
  pointwise [k1_pay31, k1_pay29, k1_pay28, k1_pay25, k1_pay26, k1_pay27, k1_pay3, k1_pay4]
  rfl

theorem dk1 : k1_pay1 (F := Ideal) (k1_pay33 Q) (k1_pay37 (k1_pay3 A) (k1_pay4 B) Q G Z O) acc y
    = acc y + ∑ r : Fin 256, ds kc ks (row Q r) (row A) (row B) (row G r) (row O r) (Z (ix3 0 r 0)) (y 0) * row Q r (y 1) := by
  pointwise [k1_pay1, k1_pay37, k1_pay36, k1_pay33, k1_pay34, k1_pay35, k1_pay3, k1_pay4]
  rfl

theorem dq15 : k1_pay15 (F := Ideal) (k1_pay3 A) (k1_pay8 G) (k1_pay10 A Q Z) (k1_pay11 B G) O w
    = ∑ j : Fin 4096, ds kc ks (row Q (w 0)) (row A) (row B) (row G (w 0)) (row O (w 0)) (Z (ix3 0 (w 0) 0)) j * row A j (w 1) := by
  pointwise [k1_pay15, k1_pay12, k1_pay7, k1_pay8, k1_pay10, k1_pay11, k1_pay9, k1_pay3, k1_pay4]
  rfl

theorem dq24 : k1_pay24 (F := Ideal) (k1_pay3 A) (k1_pay4 B) (k1_pay17 G) (k1_pay18 G) (k1_pay19 (k1_pay3 A) Q) Z O w
    = ∑ j : Fin 4096, ds kc ks (row Q (w 0)) (row A) (row B) (row G (w 0)) (row O (w 0)) (Z (ix3 0 (w 0) 0)) j * row A j (w 1) := by
  pointwise [k1_pay24, k1_pay21, k1_pay20, k1_pay16, k1_pay17, k1_pay18, k1_pay19, k1_pay3, k1_pay4]
  rfl

theorem dq32 : k1_pay32 (F := Ideal) (k1_pay3 A) (k1_pay29 (k1_pay3 A) (k1_pay4 B) Q G Z O) w
    = ∑ j : Fin 4096, ds kc ks (row Q (w 0)) (row A) (row B) (row G (w 0)) (row O (w 0)) (Z (ix3 0 (w 0) 0)) j * row A j (w 1) := by
  pointwise [k1_pay32, k1_pay29, k1_pay28, k1_pay25, k1_pay26, k1_pay27, k1_pay3, k1_pay4]
  rfl

theorem dq2 : k1_pay2 (F := Ideal) (k1_pay3 A) (k1_pay37 (k1_pay3 A) (k1_pay4 B) Q G Z O) w
    = ∑ j : Fin 4096, ds kc ks (row Q (w 0)) (row A) (row B) (row G (w 0)) (row O (w 0)) (Z (ix3 0 (w 0) 0)) j * row A j (w 1) := by
  pointwise [k1_pay2, k1_pay37, k1_pay36, k1_pay33, k1_pay34, k1_pay35, k1_pay3, k1_pay4]
  rfl

theorem zero5 : k1_pay5 (F := Ideal) y = 0 := by pointwise [k1_pay5]

theorem zero6 : k1_pay6 (F := Ideal) y = 0 := by pointwise [k1_pay6]

end
end Cert.FlaCEq

end
-- ==== Proof.FlaCFwd.lean ====
module

public import proofs.«01_k».proof.Proof.FlaCFwdPay
public import proofs.«01_k».proof.Proof.Gen.FlaCKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FlaCEq

open Cert.FlaCKIdeal Cert.FlaCKIdeal.Gen Cert.Reals Cert.Attn

/-- The row `i` of the queries' head `h`. -/
abbrev qh (Q : S4096x768.Idx → EReal) (h : Fin 6) (i : Fin 4096) (x : Fin 128) : EReal :=
  Q (ix2 i ⟨h * 128 + x, by have := h.isLt; have := x.isLt; omega⟩)

/-- The row `j` of the keys (or values) that the queries' head `h` reads: three heads share one group. -/
abbrev kh (K : S4096x256.Idx → EReal) (h : Fin 6) (j : Fin 4096) (x : Fin 128) : EReal :=
  K (ix2 j ⟨h / 3 * 128 + x, by have := h.isLt; have := x.isLt; omega⟩)

/-- The head of a column, and the column inside it. -/
abbrev hd (x : Fin 768) : Fin 6 := ⟨x / 128, by have := x.isLt; omega⟩
abbrev ln (x : Fin 768) : Fin 128 := ⟨x % 128, by omega⟩

theorem hd_of {x : Fin 768} {h : ℕ} {d : Fin 128} (e : (x : ℕ) = h * 128 + d) : (hd x : ℕ) = h := by
  have := d.isLt; show (x : ℕ) / 128 = h; omega

theorem ln_of {x : Fin 768} {h : ℕ} {d : Fin 128} (e : (x : ℕ) = h * 128 + d) : ln x = d := by
  have := d.isLt; exact Fin.ext (by show (x : ℕ) % 128 = d; omega)

/-- The block indices of the forward call's windows. -/
theorem idx0 : ∀ t : Fin cfg0.N,
    win0_0.index t = ![t.val % 4, t.val / 4] ∧ win0_1.index t = ![0, t.val / 12] ∧ win0_2.index t = ![0, t.val / 12]
      ∧ win0_3.index t = ![t.val % 4, t.val / 4] ∧ win0_4.index t = ![t.val / 4, t.val % 4, 0] :=
  (by decide +kernel : ∀ t : Fin grid0.N, _)

section
variable (V : (c : Dev nD) → (b : Ref sig .tc) → Buf (Elt Ideal) ((c : Thread nD τ).loc b)) (c : Dev nD)
  (Q : S4096x768.Idx → EReal) (K W : S4096x256.Idx → EReal)

theorem blk_q (hQ : V c main_v1 = Q) (t : Fin cfg0.N) (r : Fin 1024) (h : Fin 6) (i : Fin 4096) (eh : (h : ℕ) = t.val / 4)
    (ei : (i : ℕ) = t.val % 4 * 1024 + r) :
    row (iblk0 V c 0 t : Vec Ideal S1024x128 .bf16) r = qh Q h i := by
  funext x
  simp only [row]
  blk_point [iblk0, hQ, idx0 t]

theorem blk_k (hK : V c main_v3 = K) (t : Fin cfg0.N) (h : Fin 6) (eh : (h : ℕ) = t.val / 4) :
    row (iblk0 V c 1 t : Vec Ideal S4096x128 .bf16) = kh K h := by
  funext j x
  simp only [row]
  blk_point [iblk0, hK, idx0 t]

theorem blk_v (hW : V c main_v5 = W) (t : Fin cfg0.N) (h : Fin 6) (eh : (h : ℕ) = t.val / 4) :
    row (iblk0 V c 2 t : Vec Ideal S4096x128 .bf16) = kh W h := by
  funext j x
  simp only [row]
  blk_point [iblk0, hW, idx0 t]

theorem fwd_out (hQ : V c main_v1 = Q) (hK : V c main_v3 = K) (hW : V c main_v5 = W) :
    (dat0 V c).arrAt 3 cfg0.N
      = ((fun i => out kc (qh Q (hd (i 1)) (i 0)) (kh K (hd (i 1))) (kh W (hd (i 1))) (ln (i 1))) : S4096x768.Idx → EReal) := by
  refine (dat0 V c).arrAt_eq_of_covers 3 _ (by decide +kernel) fun t _ y => ?_
  blk_simp
  have e0 : (((win0_3.blk t).view.emb y 0 : Fin 4096) : ℕ) = t.val % 4 * 1024 + (y 0 : Fin 1024) := by blk_simp [idx0 t]
  have e1 : (((win0_3.blk t).view.emb y 1 : Fin 768) : ℕ) = t.val / 4 * 128 + (y 1 : Fin 128) := by blk_simp [idx0 t]
  rw [after0_3, out3, blk_q V c Q hQ t _ _ _ (hd_of e1) e0, blk_k V c K hK t _ (hd_of e1), blk_v V c W hW t _ (hd_of e1), ln_of e1]

theorem fwd_lse (hQ : V c main_v1 = Q) (hK : V c main_v3 = K) :
    (dat0 V c).arrAt 4 cfg0.N
      = ((fun i => lse kc kl (qh Q (i 0) (i 1)) (kh K (i 0))) : S6x4096x128.Idx → EReal) := by
  refine (dat0 V c).arrAt_eq_of_covers 4 _ (by decide +kernel) fun t _ y => ?_
  blk_simp
  have e0 : (((win0_4.blk t).view.emb y 0 : Fin 6) : ℕ) = t.val / 4 + (y 0 : Fin 1) := by blk_simp [idx0 t]
  have e1 : (((win0_4.blk t).view.emb y 1 : Fin 4096) : ℕ) = t.val % 4 * 1024 + (y 1 : Fin 1024) := by blk_simp [idx0 t]
  rw [after0_4, out4, blk_q V c Q hQ t _ _ _ (add_zero_of e0) e1, blk_k V c K hK t _ (add_zero_of e0)]

end
end Cert.FlaCEq

end
-- ==== Proof.FlaCBwd.lean ====
module

public import proofs.«01_k».proof.Proof.FlaCBwdPay
public import proofs.«01_k».proof.Proof.FlaCFwd
public import proofs.«01_k».proof.Proof.Gen.FlaCKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FlaCEq

open Cert.FlaCKIdeal Cert.FlaCKIdeal.Gen Cert.Reals Cert.Attn

section
variable (x0 : Vec Ideal S1024x128 .bf16) (x1 x2 : Vec Ideal S4096x128 .bf16) (x3 x4 : Vec Ideal S1024x128 .f32)
  (x5 : Vec Ideal S1x1024x128 .f32)

/-- The gradient of the scores of a block's row `r` at key `j`, and the probability there. -/
abbrev bds (r : Fin 1024) (j : Fin 4096) : EReal :=
  ds kc ks (row x0 r) (row x1) (row x2) (row x4 r) (row x3 r) (x5 (ix3 0 r 0)) j
abbrev bpr (r : Fin 1024) (j : Fin 4096) : EReal := pr kc (row x0 r) (row x1) (x5 (ix3 0 r 0)) j

/-- What a grid point adds to the gradients of the keys and of the values, and what it stores of the queries'. -/
abbrev kPart (y : S4096x128.Idx) : EReal := ∑ r : Fin 1024, bds x0 x1 x2 x3 x4 x5 r (y 0) * row x0 r (y 1)
abbrev vPart (y : S4096x128.Idx) : EReal := ∑ r : Fin 1024, bpr x0 x1 x5 r (y 0) * row x4 r (y 1)
abbrev qPart (y : S1024x128.Idx) : EReal := ∑ j : Fin 4096, bds x0 x1 x2 x3 x4 x5 (y 0) j * row x1 j (y 1)
end

theorem lt_of_rect {o : ℕ} (h : ∀ a, (![o, 0] : Fin 2 → ℕ) a + (![256, 128] : Fin 2 → ℕ) a ≤ S1024x128.size a) (r : Fin 256) :
    o + r < 1024 := by
  have h0 : o + 256 ≤ 1024 := h 0
  have := r.isLt
  omega

/-- A chunk's rows inside the block, and its log-sums. -/
theorem row_ld_q (x : Vec Ideal S1024x128 .bf16) (o : ℕ) (h : ∀ a, (![o, 0] : Fin 2 → ℕ) a + (![256, 128] : Fin 2 → ℕ) a ≤ S1024x128.size a) (r : Fin 256) :
    row (View.ld x (Rect.unit ![o, 0] ![256, 128] h)) r = row x ⟨o + r, lt_of_rect h r⟩ := by
  funext d
  simp only [row]
  pointwise

theorem row_ld_g (x : Vec Ideal S1024x128 .f32) (o : ℕ) (h : ∀ a, (![o, 0] : Fin 2 → ℕ) a + (![256, 128] : Fin 2 → ℕ) a ≤ S1024x128.size a) (r : Fin 256) :
    row (View.ld x (Rect.unit ![o, 0] ![256, 128] h)) r = row x ⟨o + r, lt_of_rect h r⟩ := by
  funext d
  simp only [row]
  pointwise

theorem lse_ld (x : Vec Ideal S1x1024x128 .f32) (o : ℕ) (h : ∀ a, (![0, o, 0] : Fin 3 → ℕ) a + (![1, 256, 1] : Fin 3 → ℕ) a ≤ S1x1024x128.size a) (r : Fin 256)
    (hr : o + r < 1024) :
    (View.ld x (Rect.unit ![0, o, 0] ![1, 256, 1] h)) (ix3 0 r 0) = x (ix3 0 ⟨o + r, hr⟩ 0) := by
  pointwise

section
variable (x0 : Vec Ideal S1024x128 .bf16) (x1 x2 : Vec Ideal S4096x128 .bf16) (x3 x4 : Vec Ideal S1024x128 .f32)
  (x5 : Vec Ideal S1x1024x128 .f32) {o : ℕ} (h : ∀ a, (![o, 0] : Fin 2 → ℕ) a + (![256, 128] : Fin 2 → ℕ) a ≤ S1024x128.size a)
  (h5 : ∀ a, (![0, o, 0] : Fin 3 → ℕ) a + (![1, 256, 1] : Fin 3 → ℕ) a ≤ S1x1024x128.size a) (j : Fin 4096) (d : Fin 128)

/-- A chunk's part of the three sums, at its rows' places in the block. -/
theorem vChunk :
    (∑ r : Fin 256, pr kc (row (View.ld x0 (Rect.unit ![o, 0] ![256, 128] h)) r) (row x1)
        ((View.ld x5 (Rect.unit ![0, o, 0] ![1, 256, 1] h5)) (ix3 0 r 0)) j * row (View.ld x4 (Rect.unit ![o, 0] ![256, 128] h)) r d)
      = ∑ r : Fin 256, bpr x0 x1 x5 ⟨o + r, lt_of_rect h r⟩ j * row x4 ⟨o + r, lt_of_rect h r⟩ d :=
  Finset.sum_congr rfl fun r _ => by rw [row_ld_q, row_ld_g, lse_ld x5 o h5 r (lt_of_rect h r)]

theorem dsChunk (r : Fin 256) :
    ds kc ks (row (View.ld x0 (Rect.unit ![o, 0] ![256, 128] h)) r) (row x1) (row x2) (row (View.ld x4 (Rect.unit ![o, 0] ![256, 128] h)) r)
        (row (View.ld x3 (Rect.unit ![o, 0] ![256, 128] h)) r) ((View.ld x5 (Rect.unit ![0, o, 0] ![1, 256, 1] h5)) (ix3 0 r 0)) j
      = bds x0 x1 x2 x3 x4 x5 ⟨o + r, lt_of_rect h r⟩ j := by
  rw [row_ld_q, row_ld_g, row_ld_g, lse_ld x5 o h5 r (lt_of_rect h r)]

theorem kChunk :
    (∑ r : Fin 256, ds kc ks (row (View.ld x0 (Rect.unit ![o, 0] ![256, 128] h)) r) (row x1) (row x2) (row (View.ld x4 (Rect.unit ![o, 0] ![256, 128] h)) r)
        (row (View.ld x3 (Rect.unit ![o, 0] ![256, 128] h)) r) ((View.ld x5 (Rect.unit ![0, o, 0] ![1, 256, 1] h5)) (ix3 0 r 0)) j
        * row (View.ld x0 (Rect.unit ![o, 0] ![256, 128] h)) r d)
      = ∑ r : Fin 256, bds x0 x1 x2 x3 x4 x5 ⟨o + r, lt_of_rect h r⟩ j * row x0 ⟨o + r, lt_of_rect h r⟩ d :=
  Finset.sum_congr rfl fun r _ => by rw [dsChunk, row_ld_q]

theorem qChunk (r : Fin 256) :
    (∑ j : Fin 4096, ds kc ks (row (View.ld x0 (Rect.unit ![o, 0] ![256, 128] h)) r) (row x1) (row x2) (row (View.ld x4 (Rect.unit ![o, 0] ![256, 128] h)) r)
        (row (View.ld x3 (Rect.unit ![o, 0] ![256, 128] h)) r) ((View.ld x5 (Rect.unit ![0, o, 0] ![1, 256, 1] h5)) (ix3 0 r 0)) j
        * row x1 j d)
      = ∑ j : Fin 4096, bds x0 x1 x2 x3 x4 x5 ⟨o + r, lt_of_rect h r⟩ j * row x1 j d :=
  Finset.sum_congr rfl fun j _ => by rw [dsChunk]

theorem qPart_at (y : S1024x128.Idx) (x : S256x128.Idx) (e0 : ((y 0 : Fin 1024) : ℕ) = o + (x 0 : Fin 256)) (e1 : ((y 1 : Fin 128) : ℕ) = (x 1 : Fin 128)) :
    (∑ j : Fin 4096, ds kc ks (row (View.ld x0 (Rect.unit ![o, 0] ![256, 128] h)) (x 0)) (row x1) (row x2) (row (View.ld x4 (Rect.unit ![o, 0] ![256, 128] h)) (x 0))
        (row (View.ld x3 (Rect.unit ![o, 0] ![256, 128] h)) (x 0)) ((View.ld x5 (Rect.unit ![0, o, 0] ![1, 256, 1] h5)) (ix3 0 (x 0) 0)) j
        * row x1 j (x 1))
      = qPart x0 x1 x2 x3 x4 x5 y := by
  refine (qChunk x0 x1 x2 x3 x4 x5 h h5 (x 1) (x 0)).trans ?_
  have f0 : y 0 = ⟨o + (x 0 : Fin 256), lt_of_rect h (x 0)⟩ := Fin.ext e0
  have f1 : y 1 = x 1 := Fin.ext e1
  rw [qPart, f0, f1]
  rfl
end

section
variable (V : (c : Dev nD) → (b : Ref sig .tc) → Buf (Elt Ideal) ((c : Thread nD τ).loc b)) (c : Dev nD)

abbrev kPt (t : Fin cfg1.N) : S4096x128.Idx → EReal :=
  kPart (iblk1 V c 0 t) (iblk1 V c 1 t) (iblk1 V c 2 t) (iblk1 V c 3 t) (iblk1 V c 4 t) (iblk1 V c 5 t)
abbrev vPt (t : Fin cfg1.N) : S4096x128.Idx → EReal :=
  vPart (iblk1 V c 0 t) (iblk1 V c 1 t) (iblk1 V c 4 t) (iblk1 V c 5 t)
abbrev qPt (t : Fin cfg1.N) : S1024x128.Idx → EReal :=
  qPart (iblk1 V c 0 t) (iblk1 V c 1 t) (iblk1 V c 2 t) (iblk1 V c 3 t) (iblk1 V c 4 t) (iblk1 V c 5 t)

/-- The values' gradient after a grid point: the point's part added to zero at a group's first point, to what stood
there otherwise. -/
theorem stepA8 (t : Fin cfg1.N) (h : t.val % 12 = 0) (y : S4096x128.Idx) :
    (outsAt1 V c t.val t.isLt).2.2 y = 0 + vPt V c t y := by
  rw [outsAt1_A V c t h]
  frame_out
  rw [dv38, dv30, dv22, dv13, zero6, vPt, vPart, split4]
  exact congrArg₂ _ (congrArg₂ _ (congrArg₂ _ (congrArg _ (vChunk _ _ _ _ _ _ _ _)) (vChunk _ _ _ _ _ _ _ _)) (vChunk _ _ _ _ _ _ _ _)) (vChunk _ _ _ _ _ _ _ _)

theorem stepB8 (t : Fin cfg1.N) (h : ¬t.val % 12 = 0) (y : S4096x128.Idx) :
    (outsAt1 V c t.val t.isLt).2.2 y
      = (outsAt1 V c (t.val - 1) (Nat.lt_of_le_of_lt (Nat.sub_le _ _) t.isLt)).2.2 y + vPt V c t y := by
  rw [outsAt1_B V c t h]
  frame_out
  rw [dv38, dv30, dv22, dv13, vPt, vPart, split4]
  exact congrArg₂ _ (congrArg₂ _ (congrArg₂ _ (congrArg _ (vChunk _ _ _ _ _ _ _ _)) (vChunk _ _ _ _ _ _ _ _)) (vChunk _ _ _ _ _ _ _ _)) (vChunk _ _ _ _ _ _ _ _)

/-- The same for the keys' gradient. -/
theorem stepA7 (t : Fin cfg1.N) (h : t.val % 12 = 0) (y : S4096x128.Idx) :
    (outsAt1 V c t.val t.isLt).2.1 y = 0 + kPt V c t y := by
  rw [outsAt1_A V c t h]
  frame_out
  rw [dk1, dk31, dk23, dk14, zero5, kPt, kPart, split4]
  exact congrArg₂ _ (congrArg₂ _ (congrArg₂ _ (congrArg _ (kChunk _ _ _ _ _ _ _ _ _ _)) (kChunk _ _ _ _ _ _ _ _ _ _)) (kChunk _ _ _ _ _ _ _ _ _ _)) (kChunk _ _ _ _ _ _ _ _ _ _)

theorem stepB7 (t : Fin cfg1.N) (h : ¬t.val % 12 = 0) (y : S4096x128.Idx) :
    (outsAt1 V c t.val t.isLt).2.1 y
      = (outsAt1 V c (t.val - 1) (Nat.lt_of_le_of_lt (Nat.sub_le _ _) t.isLt)).2.1 y + kPt V c t y := by
  rw [outsAt1_B V c t h]
  frame_out
  rw [dk1, dk31, dk23, dk14, kPt, kPart, split4]
  exact congrArg₂ _ (congrArg₂ _ (congrArg₂ _ (congrArg _ (kChunk _ _ _ _ _ _ _ _ _ _)) (kChunk _ _ _ _ _ _ _ _ _ _)) (kChunk _ _ _ _ _ _ _ _ _ _)) (kChunk _ _ _ _ _ _ _ _ _ _)

/-- The queries' gradient that a grid point stores. -/
theorem step6 (t : Fin cfg1.N) (y : S1024x128.Idx) : (outsAt1 V c t.val t.isLt).1 y = qPt V c t y := by
  by_cases h : t.val % 12 = 0
  · rw [outsAt1_A V c t h]
    frame_out
    canon_tiles x e
    · exact (dq2 _ _ _ _ _ _ _).trans (qPart_at _ _ _ _ _ _ _ _ y x e0 e1)
    · exact (dq32 _ _ _ _ _ _ _).trans (qPart_at _ _ _ _ _ _ _ _ y x e0 e1)
    · exact (dq24 _ _ _ _ _ _ _).trans (qPart_at _ _ _ _ _ _ _ _ y x e0 e1)
    · exact (dq15 _ _ _ _ _ _ _).trans (qPart_at _ _ _ _ _ _ _ _ y x (e0.trans (Nat.zero_add _).symm) e1)
  · rw [outsAt1_B V c t h]
    frame_out
    canon_tiles x e
    · exact (dq2 _ _ _ _ _ _ _).trans (qPart_at _ _ _ _ _ _ _ _ y x e0 e1)
    · exact (dq32 _ _ _ _ _ _ _).trans (qPart_at _ _ _ _ _ _ _ _ y x e0 e1)
    · exact (dq24 _ _ _ _ _ _ _).trans (qPart_at _ _ _ _ _ _ _ _ y x e0 e1)
    · exact (dq15 _ _ _ _ _ _ _).trans (qPart_at _ _ _ _ _ _ _ _ y x (e0.trans (Nat.zero_add _).symm) e1)

end
end Cert.FlaCEq
end
-- ==== Proof.FlaCGrads.lean ====
module

public import proofs.«01_k».proof.Proof.FlaCBwd
public import proofs.«01_k».proof.Proof.Gen.FlaCKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FlaCEq

open Cert.FlaCKIdeal Cert.FlaCKIdeal.Gen Cert.Reals Cert.Attn

/-- The block indices of the backward call's windows. -/
theorem idx1 : ∀ t : Fin cfg1.N,
    win1_0.index t = ![t.val % 4, t.val / 4] ∧ win1_1.index t = ![0, t.val / 12] ∧ win1_2.index t = ![0, t.val / 12]
      ∧ win1_3.index t = ![t.val % 4, t.val / 4] ∧ win1_4.index t = ![t.val % 4, t.val / 4] ∧ win1_5.index t = ![t.val / 4, t.val % 4, 0]
      ∧ win1_6.index t = ![t.val % 4, t.val / 4] ∧ win1_7.index t = ![0, t.val / 12] ∧ win1_8.index t = ![0, t.val / 12] :=
  (by decide +kernel : ∀ t : Fin grid1.N, _)

/-- The query head `g` of a key column's group, and the column inside the group. -/
abbrev gh (x : Fin 256) (g : Fin 3) : Fin 6 := ⟨x / 128 * 3 + g, by have := x.isLt; have := g.isLt; omega⟩
abbrev lk (x : Fin 256) : Fin 128 := ⟨x % 128, by omega⟩

/-- Twelve grid points' parts, of 1024 rows each, are the three heads' sums over all rows. -/
theorem run12 (F : Fin 6 → Fin 4096 → EReal) (x : Fin 256) (T : Fin 12 → EReal)
    (hT : ∀ s : Fin 12, T s = ∑ r : Fin 1024, F (gh x ⟨s / 4, by omega⟩) ⟨s % 4 * 1024 + r, by omega⟩) :
    ∑ s, T s = ∑ g : Fin 3, ∑ r : Fin 4096, F (gh x g) r := by
  rw [Fin.sum_univ_tiles 3 4 rfl T]
  refine Finset.sum_congr rfl fun g _ => ?_
  rw [Fin.sum_univ_tiles 4 1024 rfl (fun r => F (gh x g) r)]
  refine Finset.sum_congr rfl fun i _ => (hT _).trans (Finset.sum_congr rfl fun r _ => ?_)
  have hi := i.isLt
  exact congrArg₂ F (Fin.ext (by simp; omega)) (Fin.ext (by simp))

section
variable (V : (c : Dev nD) → (b : Ref sig .tc) → Buf (Elt Ideal) ((c : Thread nD τ).loc b)) (c : Dev nD)
  (Q O G : S4096x768.Idx → EReal) (K W : S4096x256.Idx → EReal) (Z : S6x4096x128.Idx → EReal)

/-- The gradient of the scores, and the probability, of head `h` at query `i` and key `j`. -/
abbrev DS (h : Fin 6) (i j : Fin 4096) : EReal :=
  ds kc ks (qh Q h i) (kh K h) (kh W h) (qh G h i) (qh O h i) (Z (ix3 h i 0)) j
abbrev PR (h : Fin 6) (i j : Fin 4096) : EReal := pr kc (qh Q h i) (kh K h) (Z (ix3 h i 0)) j

section
variable (t : Fin cfg1.N) (r : Fin 1024) (h : Fin 6) (i : Fin 4096)

theorem blk1_q (hQ : V c main_v1 = Q) (eh : (h : ℕ) = t.val / 4) (ei : (i : ℕ) = t.val % 4 * 1024 + r) :
    row (iblk1 V c 0 t : Vec Ideal S1024x128 .bf16) r = qh Q h i := by
  funext x
  simp only [row]
  blk_point [iblk1, hQ, idx1 t]

theorem blk1_k (hK : V c main_v3 = K) (eh : (h : ℕ) = t.val / 4) : row (iblk1 V c 1 t : Vec Ideal S4096x128 .bf16) = kh K h := by
  funext j x
  simp only [row]
  blk_point [iblk1, hK, idx1 t]

theorem blk1_v (hW : V c main_v5 = W) (eh : (h : ℕ) = t.val / 4) : row (iblk1 V c 2 t : Vec Ideal S4096x128 .bf16) = kh W h := by
  funext j x
  simp only [row]
  blk_point [iblk1, hW, idx1 t]

theorem blk1_o (hO : V c main_v6_0 = O) (eh : (h : ℕ) = t.val / 4) (ei : (i : ℕ) = t.val % 4 * 1024 + r) :
    row (iblk1 V c 3 t : Vec Ideal S1024x128 .f32) r = qh O h i := by
  funext x
  simp only [row]
  blk_point [iblk1, hO, idx1 t]

theorem blk1_g (hG : V c main_v7 = G) (eh : (h : ℕ) = t.val / 4) (ei : (i : ℕ) = t.val % 4 * 1024 + r) :
    row (iblk1 V c 4 t : Vec Ideal S1024x128 .f32) r = qh G h i := by
  funext x
  simp only [row]
  blk_point [iblk1, hG, idx1 t]

theorem blk1_z (hZ : V c main_v6_1 = Z) (eh : (h : ℕ) = t.val / 4) (ei : (i : ℕ) = t.val % 4 * 1024 + r) :
    (iblk1 V c 5 t : Vec Ideal S1x1024x128 .f32) (ix3 0 r 0) = Z (ix3 h i 0) := by
  blk_point [iblk1, hZ, idx1 t]

theorem bds_eq (hQ : V c main_v1 = Q) (hK : V c main_v3 = K) (hW : V c main_v5 = W) (hO : V c main_v6_0 = O) (hG : V c main_v7 = G)
    (hZ : V c main_v6_1 = Z) (eh : (h : ℕ) = t.val / 4) (ei : (i : ℕ) = t.val % 4 * 1024 + r) (j : Fin 4096) :
    bds (iblk1 V c 0 t) (iblk1 V c 1 t) (iblk1 V c 2 t) (iblk1 V c 3 t) (iblk1 V c 4 t) (iblk1 V c 5 t) r j = DS Q O G K W Z h i j := by
  rw [bds, blk1_q V c Q t r h i hQ eh ei, blk1_k V c K t h hK eh, blk1_v V c W t h hW eh, blk1_o V c O t r h i hO eh ei,
    blk1_g V c G t r h i hG eh ei, blk1_z V c Z t r h i hZ eh ei]

theorem bpr_eq (hQ : V c main_v1 = Q) (hK : V c main_v3 = K)
    (hZ : V c main_v6_1 = Z) (eh : (h : ℕ) = t.val / 4) (ei : (i : ℕ) = t.val % 4 * 1024 + r) (j : Fin 4096) :
    bpr (iblk1 V c 0 t) (iblk1 V c 1 t) (iblk1 V c 5 t) r j = PR Q K Z h i j := by
  rw [bpr, blk1_q V c Q t r h i hQ eh ei, blk1_k V c K t h hK eh, blk1_z V c Z t r h i hZ eh ei]

end

section
variable (t : Fin cfg1.N) (i0 : Fin 4096) (p : Fin 12 → Fin cfg1.N) (hp : ∀ s, (p s : ℕ) = 12 * (t.val / 12) + s)
  (hQ : V c main_v1 = Q) (hK : V c main_v3 = K) (hW : V c main_v5 = W) (hO : V c main_v6_0 = O) (hG : V c main_v7 = G)
  (hZ : V c main_v6_1 = Z)
include hQ hK hZ

include hW hO hG in
/-- What a point stores of the queries' gradient, at its place in the array. -/
theorem dq_point (x : Fin 768) (y : S1024x128.Idx) (e0 : (i0 : ℕ) = t.val % 4 * 1024 + (y 0 : Fin 1024))
    (e1 : (x : ℕ) = t.val / 4 * 128 + (y 1 : Fin 128)) :
    qPt V c t y = ∑ j : Fin 4096, DS Q O G K W Z (hd x) i0 j * kh K (hd x) j (ln x) := by
  refine Finset.sum_congr rfl fun j _ => ?_
  rw [ln_of e1]
  exact congrArg₂ (fun a b : EReal => a * b) (bds_eq V c Q O G K W Z t _ _ _ hQ hK hW hO hG hZ (hd_of e1) e0 j)
    (congrFun (congrFun (blk1_k V c K t (hd x) hK (hd_of e1)) j) _)

include hp

include hW hO hG in
/-- What a group's twelve points add up to, of the keys' gradient. -/
theorem dk_point (x : Fin 256) (y : S4096x128.Idx) (e0 : (i0 : ℕ) = (y 0 : Fin 4096)) (e1 : (x : ℕ) = t.val / 12 * 128 + (y 1 : Fin 128)) :
    ∑ s, kPt V c (p s) y = ∑ g : Fin 3, ∑ r : Fin 4096, DS Q O G K W Z (gh x g) r i0 * qh Q (gh x g) r (lk x) := by
  refine run12 (fun h r => DS Q O G K W Z h r i0 * qh Q h r (lk x)) x _ fun s => Finset.sum_congr rfl fun r _ => ?_
  have l1 : ((y 1 : Fin 128) : ℕ) < 128 := (y 1 : Fin 128).isLt
  have eh : ((gh x ⟨s / 4, by omega⟩ : Fin 6) : ℕ) = (p s).val / 4 := by
    have hs := hp s
    show (x : ℕ) / 128 * 3 + (s : ℕ) / 4 = (p s).val / 4
    omega
  have er : (s : ℕ) % 4 * 1024 + r = (p s).val % 4 * 1024 + r := by
    have hs := hp s
    omega
  have ed : y 1 = lk x := Fin.ext (by show _ = (x : ℕ) % 128; omega)
  have ej : y 0 = i0 := Fin.ext e0.symm
  exact congrArg₂ (fun a b : EReal => a * b) ((bds_eq V c Q O G K W Z (p s) r _ _ hQ hK hW hO hG hZ eh er (y 0)).trans (by rw [ej]))
    ((congrFun (blk1_q V c Q (p s) r _ _ hQ eh er) (y 1)).trans (by rw [ed]))

include hG in
/-- The same of the values' gradient. -/
theorem dv_point (x : Fin 256) (y : S4096x128.Idx) (e0 : (i0 : ℕ) = (y 0 : Fin 4096)) (e1 : (x : ℕ) = t.val / 12 * 128 + (y 1 : Fin 128)) :
    ∑ s, vPt V c (p s) y = ∑ g : Fin 3, ∑ r : Fin 4096, PR Q K Z (gh x g) r i0 * qh G (gh x g) r (lk x) := by
  refine run12 (fun h r => PR Q K Z h r i0 * qh G h r (lk x)) x _ fun s => Finset.sum_congr rfl fun r _ => ?_
  have l1 : ((y 1 : Fin 128) : ℕ) < 128 := (y 1 : Fin 128).isLt
  have eh : ((gh x ⟨s / 4, by omega⟩ : Fin 6) : ℕ) = (p s).val / 4 := by
    have hs := hp s
    show (x : ℕ) / 128 * 3 + (s : ℕ) / 4 = (p s).val / 4
    omega
  have er : (s : ℕ) % 4 * 1024 + r = (p s).val % 4 * 1024 + r := by
    have hs := hp s
    omega
  have ed : y 1 = lk x := Fin.ext (by show _ = (x : ℕ) % 128; omega)
  have ej : y 0 = i0 := Fin.ext e0.symm
  exact congrArg₂ (fun a b : EReal => a * b) ((bpr_eq V c Q K Z (p s) r _ _ hQ hK hZ eh er (y 0)).trans (by rw [ej]))
    ((congrFun (blk1_g V c G (p s) r _ _ hG eh er) (y 1)).trans (by rw [ed]))

end

variable (hQ : V c main_v1 = Q) (hK : V c main_v3 = K) (hW : V c main_v5 = W) (hO : V c main_v6_0 = O) (hG : V c main_v7 = G)
    (hZ : V c main_v6_1 = Z)
include hQ hK hG hZ

include hW hO in
theorem bwd_dq : (dat1 V c).arrAt 6 cfg1.N
    = ((fun i => ∑ j : Fin 4096, DS Q O G K W Z (hd (i 1)) (i 0) j * kh K (hd (i 1)) j (ln (i 1))) : S4096x768.Idx → EReal) := by
  refine (dat1 V c).arrAt_eq_of_covers 6 _ (by decide +kernel) fun t _ y => ?_
  blk_simp
  have e0 : (((win1_6.blk t).view.emb y 0 : Fin 4096) : ℕ) = t.val % 4 * 1024 + (y 0 : Fin 1024) := by blk_simp [idx1 t]
  have e1 : (((win1_6.blk t).view.emb y 1 : Fin 768) : ℕ) = t.val / 4 * 128 + (y 1 : Fin 128) := by blk_simp [idx1 t]
  rw [after1_6, step6]
  exact dq_point V c Q O G K W Z t _ hQ hK hW hO hG hZ _ y e0 e1

include hW hO in
theorem bwd_dk : (dat1 V c).arrAt 7 cfg1.N
    = ((fun i => ∑ g : Fin 3, ∑ r : Fin 4096, DS Q O G K W Z (gh (i 1) g) r (i 0) * qh Q (gh (i 1) g) r (lk (i 1))) : S4096x256.Idx → EReal) := by
  refine (dat1 V c).arrAt_eq_of_covers 7 _ (by decide +kernel) fun t hf y => ?_
  blk_simp
  have e0 : (((win1_7.blk t).view.emb y 0 : Fin 4096) : ℕ) = (y 0 : Fin 4096) := by blk_simp [idx1 t]
  have e1 : (((win1_7.blk t).view.emb y 1 : Fin 256) : ℕ) = t.val / 12 * 128 + (y 1 : Fin 128) := by blk_simp [idx1 t]
  rw [after1_7, Pipeline.eq_sum_fin_of_reset_step_apply_of_flush (fun n h => (outsAt1 V c n h).2.1) 12 (fun _ => 0) (kPt V c)
    (stepA7 V c) (stepB7 V c) t ((flush1_7 t).mp hf) _, zero_add]
  exact dk_point V c Q O G K W Z t _ _ (fun s => rfl) hQ hK hW hO hG hZ _ y e0 e1

theorem bwd_dv : (dat1 V c).arrAt 8 cfg1.N
    = ((fun i => ∑ g : Fin 3, ∑ r : Fin 4096, PR Q K Z (gh (i 1) g) r (i 0) * qh G (gh (i 1) g) r (lk (i 1))) : S4096x256.Idx → EReal) := by
  refine (dat1 V c).arrAt_eq_of_covers 8 _ (by decide +kernel) fun t hf y => ?_
  blk_simp
  have e0 : (((win1_8.blk t).view.emb y 0 : Fin 4096) : ℕ) = (y 0 : Fin 4096) := by blk_simp [idx1 t]
  have e1 : (((win1_8.blk t).view.emb y 1 : Fin 256) : ℕ) = t.val / 12 * 128 + (y 1 : Fin 128) := by blk_simp [idx1 t]
  rw [after1_8, Pipeline.eq_sum_fin_of_reset_step_apply_of_flush (fun n h => (outsAt1 V c n h).2.2) 12 (fun _ => 0) (vPt V c)
    (stepA8 V c) (stepB8 V c) t ((flush1_8 t).mp hf) _, zero_add]
  exact dv_point V c Q G K Z t _ _ (fun s => rfl) hQ hK hG hZ _ y e0 e1

end
end Cert.FlaCEq
end
-- ==== Proof.FlaCRead.lean ====
module

public import proofs.«01_k».proof.Proof.FlaCGrads
public import proofs.«01_k».proof.Proof.Gen.FlaCKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FlaCEq

open Cert.FlaCKIdeal Cert.FlaCKIdeal.Gen Cert.Reals Cert.Attn

/-- The group of a head and its place in the group. -/
abbrev hq (h : Fin 6) : Fin 2 := ⟨h / 3, by omega⟩
abbrev hr (h : Fin 6) : Fin 3 := ⟨h % 3, by omega⟩

/-- The query array's columns are the heads, group by group. -/
theorem rd_q {α : Type} (a : S1x4096x2x3x128.Idx → α) (hs : S1x4096x2x3x128.ShapeCasts S4096x768) (h : Fin 6) (i : Fin 4096) (x : Fin 128)
    (z : Fin 768) (hz : (z : ℕ) = h * 128 + x) : shapeCast S4096x768 a hs (ix2 i z) = a (ix5 0 i (hq h) (hr h) x) := by
  have hi := i.isLt
  have hh := h.isLt
  have hx := x.isLt
  refine shapeCast_apply a hs _ _ ?_
  rw [Shape.rowMajor_val_five, Shape.rowMajor_val_two]
  show (((0 * 4096 + (i : ℕ)) * 2 + (h : ℕ) / 3) * 3 + (h : ℕ) % 3) * 128 + (x : ℕ) = (i : ℕ) * 768 + (z : ℕ)
  omega

/-- The key array's columns are the groups. -/
theorem rd_k {α : Type} (a : S1x4096x2x128.Idx → α) (hs : S1x4096x2x128.ShapeCasts S4096x256) (h : Fin 6) (j : Fin 4096) (x : Fin 128)
    (z : Fin 256) (hz : (z : ℕ) = (h : ℕ) / 3 * 128 + x) : shapeCast S4096x256 a hs (ix2 j z) = a (ix4 0 j (hq h) x) := by
  have hj := j.isLt
  have hh := h.isLt
  have hx := x.isLt
  refine shapeCast_apply a hs _ _ ?_
  rw [Shape.rowMajor_val_four, Shape.rowMajor_val_two]
  show ((0 * 4096 + (j : ℕ)) * 2 + (h : ℕ) / 3) * 128 + (x : ℕ) = (j : ℕ) * 256 + (z : ℕ)
  omega

variable (m : (ℓ : Loc nD τ sig) → Buf (Elt Ideal) ℓ) (ρ : Dev nD → PrngReg) (c : Dev nD)

abbrev a0 : S1x4096x2x3x128.Idx → EReal := m ((c.tc : Thread nD τ).loc main_arg0)
abbrev a1 : S1x4096x2x128.Idx → EReal := m ((c.tc : Thread nD τ).loc main_arg1)
abbrev a2 : S1x4096x2x128.Idx → EReal := m ((c.tc : Thread nD τ).loc main_arg2)
abbrev a3 : S1x4096x2x3x128.Idx → EReal := m ((c.tc : Thread nD τ).loc main_arg3)

/-- The arrays the two calls read, from the arguments. -/
abbrev QA : S4096x768.Idx → EReal := shapeCast S4096x768 (a0 m c) shapeCasts_S1x4096x2x3x128_S4096x768
abbrev KA : S4096x256.Idx → EReal := shapeCast S4096x256 (a1 m c) shapeCasts_S1x4096x2x128_S4096x256
abbrev WA : S4096x256.Idx → EReal := shapeCast S4096x256 (a2 m c) shapeCasts_S1x4096x2x128_S4096x256
abbrev GA : S4096x768.Idx → EReal := shapeCast S4096x768 (a3 m c) shapeCasts_S1x4096x2x3x128_S4096x768

theorem v1_q : V1 m ρ c main_v1 = QA m c := by
  show StableHlo.after hostOps0 (W0 m ρ c) (Proc.devRef .tc main_v1) = _
  after_results_simp
  rfl
theorem v1_k : V1 m ρ c main_v3 = KA m c := by
  show StableHlo.after hostOps0 (W0 m ρ c) (Proc.devRef .tc main_v3) = _
  after_results_simp
  rfl
theorem v1_w : V1 m ρ c main_v5 = WA m c := by
  show StableHlo.after hostOps0 (W0 m ρ c) (Proc.devRef .tc main_v5) = _
  after_results_simp
  rfl

theorem v3_q : V3 m ρ c main_v1 = QA m c :=
  ((W3_of m ρ c main_v1 (by decide)).trans (W2_of m ρ c main_v1 (by decide))).trans (v1_q m ρ c)
theorem v3_k : V3 m ρ c main_v3 = KA m c :=
  ((W3_of m ρ c main_v3 (by decide)).trans (W2_of m ρ c main_v3 (by decide))).trans (v1_k m ρ c)
theorem v3_w : V3 m ρ c main_v5 = WA m c :=
  ((W3_of m ρ c main_v5 (by decide)).trans (W2_of m ρ c main_v5 (by decide))).trans (v1_w m ρ c)
theorem v3_g : V3 m ρ c main_v7 = GA m c := by
  show StableHlo.after hostOps1 (W2 m ρ c) (Proc.devRef .tc main_v7) = _
  after_results_simp
  exact congrArg (fun z => shapeCast S4096x768 z shapeCasts_S1x4096x2x3x128_S4096x768)
    ((W2_of m ρ c main_arg3 (by decide)).trans (W1_of m ρ c main_arg3 (by decide)))
theorem v3_o : V3 m ρ c main_v6_0 = ((fun i => out kc (qh (QA m c) (hd (i 1)) (i 0)) (kh (KA m c) (hd (i 1))) (kh (WA m c) (hd (i 1))) (ln (i 1))) : S4096x768.Idx → EReal) :=
  ((W3_of m ρ c main_v6_0 (by decide)).trans (W2_arr m ρ c 3)).trans
    (fwd_out (V1 m ρ) c _ _ _ (v1_q m ρ c) (v1_k m ρ c) (v1_w m ρ c))
theorem v3_z : V3 m ρ c main_v6_1 = ((fun i => lse kc kl (qh (QA m c) (i 0) (i 1)) (kh (KA m c) (i 0))) : S6x4096x128.Idx → EReal) :=
  ((W3_of m ρ c main_v6_1 (by decide)).trans (W2_arr m ρ c 4)).trans
    (fwd_lse (V1 m ρ) c _ _ (v1_q m ρ c) (v1_k m ρ c))

theorem kc_eq : kc = (((Real.sqrt 128)⁻¹ * (Real.log 2)⁻¹ : ℝ) : EReal) := rfl
theorem kl_eq : kl = (((Real.log 2)⁻¹ : ℝ) : EReal) := rfl
theorem ks_eq : ks = (((Real.sqrt 128)⁻¹ : ℝ) : EReal) := rfl

/-- One head's queries and keys. -/
abbrev hQ {α : Type} (q : S1x4096x2x3x128.Idx → α) (h : Fin 6) (i : Fin 4096) (x : Fin 128) : α := q (ix5 0 i (hq h) (hr h) x)
abbrev hK {α : Type} (k : S1x4096x2x128.Idx → α) (h : Fin 6) (j : Fin 4096) (x : Fin 128) : α := k (ix4 0 j (hq h) x)

theorem qh_QA (h : Fin 6) (i : Fin 4096) : qh (QA m c) h i = hQ (a0 m c) h i := funext fun x => rd_q _ _ h i x _ rfl
theorem qh_GA (h : Fin 6) (i : Fin 4096) : qh (GA m c) h i = hQ (a3 m c) h i := funext fun x => rd_q _ _ h i x _ rfl
theorem kh_KA (h : Fin 6) : kh (KA m c) h = hK (a1 m c) h := funext fun j => funext fun x => rd_k _ _ h j x _ rfl
theorem kh_WA (h : Fin 6) : kh (WA m c) h = hK (a2 m c) h := funext fun j => funext fun x => rd_k _ _ h j x _ rfl

/-- One entry of the score's gradient, from the arguments. -/
theorem ds_args (h : Fin 6) (i j : Fin 4096) :
    DS (QA m c) (V3 m ρ c main_v6_0) (GA m c) (KA m c) (WA m c) (V3 m ρ c main_v6_1) h i j
      = ds kc ks (hQ (a0 m c) h i) (hK (a1 m c) h) (hK (a2 m c) h) (hQ (a3 m c) h i)
          (out kc (hQ (a0 m c) h i) (hK (a1 m c) h) (hK (a2 m c) h)) (lse kc kl (hQ (a0 m c) h i) (hK (a1 m c) h)) j := by
  have ho : qh (V3 m ρ c main_v6_0) h i = out kc (qh (QA m c) h i) (kh (KA m c) h) (kh (WA m c) h) := by
    rw [v3_o]
    funext x
    have e : ∀ (f : Fin 6) (g : Fin 128), f = h → g = x → out kc (qh (QA m c) f i) (kh (KA m c) f) (kh (WA m c) f) g
        = out kc (qh (QA m c) h i) (kh (KA m c) h) (kh (WA m c) h) x := by rintro f g rfl rfl; rfl
    exact e _ _ (Fin.ext (hd_of (h := (h : ℕ)) (d := x) rfl)) (ln_of (h := (h : ℕ)) (d := x) rfl)
  show ds kc ks (qh (QA m c) h i) (kh (KA m c) h) (kh (WA m c) h) (qh (GA m c) h i) (qh (V3 m ρ c main_v6_0) h i) (V3 m ρ c main_v6_1 (ix3 h i 0)) j = _
  rw [ho, v3_z, qh_QA, qh_GA, kh_KA, kh_WA]
  refine congrArg (fun z => ds kc ks (hQ (a0 m c) h i) (hK (a1 m c) h) (hK (a2 m c) h) (hQ (a3 m c) h i)
    (out kc (hQ (a0 m c) h i) (hK (a1 m c) h) (hK (a2 m c) h)) z j) ?_
  show lse kc kl (qh (QA m c) h i) (kh (KA m c) h) = _
  rw [qh_QA, kh_KA]

/-- One probability, from the arguments. -/
theorem pr_args (h : Fin 6) (i j : Fin 4096) :
    PR (QA m c) (KA m c) (V3 m ρ c main_v6_1) h i j
      = pr kc (hQ (a0 m c) h i) (hK (a1 m c) h) (lse kc kl (hQ (a0 m c) h i) (hK (a1 m c) h)) j := by
  show pr kc (qh (QA m c) h i) (kh (KA m c) h) (V3 m ρ c main_v6_1 (ix3 h i 0)) j = _
  rw [v3_z, qh_QA, kh_KA]
  refine congrArg (fun z => pr kc (hQ (a0 m c) h i) (hK (a1 m c) h) z j) ?_
  show lse kc kl (qh (QA m c) h i) (kh (KA m c) h) = _
  rw [qh_QA, kh_KA]

/-- The three results, from the arguments. -/
theorem arr6 : (dat1 (V3 m ρ) c).arrAt 6 cfg1.N = ((fun i => ∑ j : Fin 4096,
    ds kc ks (hQ (a0 m c) (hd (i 1)) (i 0)) (hK (a1 m c) (hd (i 1))) (hK (a2 m c) (hd (i 1))) (hQ (a3 m c) (hd (i 1)) (i 0))
      (out kc (hQ (a0 m c) (hd (i 1)) (i 0)) (hK (a1 m c) (hd (i 1))) (hK (a2 m c) (hd (i 1))))
      (lse kc kl (hQ (a0 m c) (hd (i 1)) (i 0)) (hK (a1 m c) (hd (i 1)))) j * hK (a1 m c) (hd (i 1)) j (ln (i 1))) : S4096x768.Idx → EReal) := by
  rw [bwd_dq (V3 m ρ) c _ _ _ _ _ _ (v3_q m ρ c) (v3_k m ρ c) (v3_w m ρ c) rfl (v3_g m ρ c) rfl]
  funext y
  exact Finset.sum_congr rfl fun j _ => congrArg₂ (· * ·) (ds_args m ρ c _ _ _) (congrFun (congrFun (kh_KA m c _) _) _)

theorem arr7 : (dat1 (V3 m ρ) c).arrAt 7 cfg1.N = ((fun i => ∑ g : Fin 3, ∑ r : Fin 4096,
    ds kc ks (hQ (a0 m c) (gh (i 1) g) r) (hK (a1 m c) (gh (i 1) g)) (hK (a2 m c) (gh (i 1) g)) (hQ (a3 m c) (gh (i 1) g) r)
      (out kc (hQ (a0 m c) (gh (i 1) g) r) (hK (a1 m c) (gh (i 1) g)) (hK (a2 m c) (gh (i 1) g)))
      (lse kc kl (hQ (a0 m c) (gh (i 1) g) r) (hK (a1 m c) (gh (i 1) g))) (i 0) * hQ (a0 m c) (gh (i 1) g) r (lk (i 1))) : S4096x256.Idx → EReal) := by
  rw [bwd_dk (V3 m ρ) c _ _ _ _ _ _ (v3_q m ρ c) (v3_k m ρ c) (v3_w m ρ c) rfl (v3_g m ρ c) rfl]
  funext y
  exact Finset.sum_congr rfl fun g _ => Finset.sum_congr rfl fun r _ =>
    congrArg₂ (· * ·) (ds_args m ρ c _ _ _) (congrFun (qh_QA m c _ _) _)

theorem arr8 : (dat1 (V3 m ρ) c).arrAt 8 cfg1.N = ((fun i => ∑ g : Fin 3, ∑ r : Fin 4096,
    pr kc (hQ (a0 m c) (gh (i 1) g) r) (hK (a1 m c) (gh (i 1) g)) (lse kc kl (hQ (a0 m c) (gh (i 1) g) r) (hK (a1 m c) (gh (i 1) g))) (i 0)
      * hQ (a3 m c) (gh (i 1) g) r (lk (i 1))) : S4096x256.Idx → EReal) := by
  rw [bwd_dv (V3 m ρ) c _ _ _ _ (v3_q m ρ c) (v3_k m ρ c) (v3_g m ρ c) rfl]
  funext y
  exact Finset.sum_congr rfl fun g _ => Finset.sum_congr rfl fun r _ =>
    congrArg₂ (· * ·) (pr_args m ρ c _ _ _) (congrFun (qh_GA m c _ _) _)

end Cert.FlaCEq
end
-- ==== Proof.FlaCRun.lean ====
module

public import proofs.«01_k».proof.Proof.FlaCFwdPay
public import proofs.«01_k».proof.Proof.Gen.FlaCKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

open Idealize.ShloMosaic Idealize.ShloMosaic.TcCoe Idealize.ShloMosaic.Tactic

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

namespace Cert.FlaCEq

open Cert.FlaCKIdeal Cert.FlaCKIdeal.Gen Cert.Reals Cert.Attn

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of the two calls: the arguments end as launched, each result as what the second pipeline leaves. -/
theorem run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v8_0) = (dat1 (V3 m ρ) c).arrAt 6 cfg1.N
      ∧ r.2.mem ((c.tc : Thread nD τ).loc main_v8_1) = (dat1 (V3 m ρ) c).arrAt 7 cfg1.N
      ∧ r.2.mem ((c.tc : Thread nD τ).loc main_v8_2) = (dat1 (V3 m ρ) c).arrAt 8 cfg1.N)
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_v8_0 (by decide))).trans (W4_arr m ρ c 6),
       (h c _ (mem_uc main_v8_1 (by decide))).trans (W4_arr m ρ c 7),
       (h c _ (mem_uc main_v8_2 (by decide))).trans (W4_arr m ρ c 8)⟩), funext fun g => hz g (.inr (no_unscoped g.2))⟩)

end Cert.FlaCEq
end
-- ==== Proof.FlaCRef.lean ====
module

public import proofs.«01_k».proof.Proof.FlaCGrads
public import proofs.«01_k».proof.Proof.Gen.FlaCRIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FlaCEq.Ref

open Cert.FlaCRIdeal Cert.FlaCRIdeal.Read Cert.Reals Cert.Attn

/-- The reference's scale. -/
def S : EReal := Ideal.div 1 (Ideal.sqrt (Ideal.ofBits .f32 1124073472#32))

variable (x0 : FVec Ideal S1x4096x2x3x128 .f32) (x1 x2 : FVec Ideal S1x4096x2x128 .f32) (x3 : FVec Ideal S1x4096x2x3x128 .f32)
variable (b : Fin 2) (g : Fin 3) (i : Fin 4096)

/-- The scaled scores of query `i`, head `g` of group `b`. -/
def X (j : Fin 4096) : EReal := (∑ d : Fin 128, x1 (ix4 0 j b d) * x0 (ix5 0 i b g d)) * S

/-- The cotangents of the probabilities. -/
def P (j : Fin 4096) : EReal := ∑ d : Fin 128, x3 (ix5 0 i b g d) * x2 (ix4 0 j b d)

theorem v5 (j : Fin 4096) : val_main_v5 (F := Ideal) x0 x1 (ix5 0 b g i j) = X x0 x1 b g i j := by
  simp only [val_main_v5_apply, val_main_v4_apply, val_main_v3_apply, val_main_v2_apply, val_main_v1_apply, val_main_v0_apply,
    val_main_cst_apply, val_main_cst_0_apply]
  pointwise []
  exact congrArg (· * S) (Finset.sum_congr rfl fun d _ => congrArg₂ (· * ·) (congrArg x1 (ix4_of _ rfl rfl rfl rfl))
    (congrArg x0 (ix5_of _ rfl rfl rfl rfl rfl)))

theorem v6 : val_main_v6 (F := Ideal) x0 x1 (ix4 0 b g i)
    = Finset.fold max (Ideal.ofBits .f32 0xFF800000#32) (fun j => val_main_v5 (F := Ideal) x0 x1 (ix5 0 b g i j)) Finset.univ := by
  pointwise [val_main_v6, val_main_cst_1]

theorem v13 : val_main_v13 (F := Ideal) x0 x1 (ix4 0 b g i) = rmx (X x0 x1 b g i) := by
  have h : val_main_v12 (F := Ideal) (ix4 0 b g i) = Ideal.ofBits .f32 0xFF800000#32 := by
    rw [val_main_v12_apply]
    pointwise [val_main_cst_3]
  rw [val_main_v13_apply, h, v6]
  simp only [v5]
  unfold rmx
  generalize Finset.fold (max : EReal → EReal → EReal) _ _ _ = z
  exact congrFun (congrFun Ideal.maximumf_eq_max _) _

theorem v26 (j : Fin 4096) : val_main_v26 (F := Ideal) x0 x1 (ix5 0 b g i j) = rw' (X x0 x1 b g i) j := by
  simp only [val_main_v26_apply, val_main_v25_apply, val_main_v24_apply, val_main_v23_apply, v5]
  rw [show idx_main_v23 (idx_main_v24 (ix5 0 b g i j)) = ix4 0 b g i from ix4_of _ rfl rfl rfl rfl, v13]
  rfl

theorem v27 : val_main_v27 (F := Ideal) x0 x1 (ix4 0 b g i) = ∑ j, rw' (X x0 x1 b g i) j := by
  simp only [val_main_v27_apply, val_main_cst_9_apply]
  pointwise []
  exact Finset.sum_congr rfl fun j _ => (congrArg (val_main_v26 (F := Ideal) x0 x1) (ix5_of _ rfl rfl rfl rfl rfl)).trans (v26 x0 x1 b g i j)

theorem v28 : val_main_v28 (F := Ideal) x0 x1 (ix5 0 b g i 0) = ∑ j, rw' (X x0 x1 b g i) j := by
  rw [val_main_v28_apply, show idx_main_v28 (ix5 0 b g i 0) = ix4 0 b g i from ix4_of _ rfl rfl rfl rfl, v27]

theorem v30 (j : Fin 4096) : val_main_v30 (F := Ideal) x0 x1 (ix5 0 b g i j) = rp (X x0 x1 b g i) j := by
  rw [val_main_v30_apply, val_main_v29_apply, v26,
    show idx_main_v29 (ix5 0 b g i j) = ix5 0 b g i 0 from ix5_of _ rfl rfl rfl rfl rfl, v28]
  rfl

theorem v37 (j : Fin 4096) : val_main_v37 (F := Ideal) x2 x3 (ix5 0 b g i j) = P x2 x3 b g i j := by
  simp only [val_main_v37_apply, val_main_v36_apply]
  exact Finset.sum_congr rfl fun d _ => congrArg₂ (· * ·) (congrArg x3 (ix5_of _ rfl rfl rfl rfl rfl))
    (congrArg x2 (ix4_of _ rfl rfl rfl rfl))

theorem v33 : val_main_v33 (F := Ideal) x0 x1 (ix5 0 b g i 0)
    = Ideal.div 1 ((∑ j, rw' (X x0 x1 b g i) j) * ∑ j, rw' (X x0 x1 b g i) j) := by
  simp only [val_main_v33_apply, val_main_v32_apply, val_main_v31_apply, v28, val_main_cst_10_apply]
  pointwise []

theorem v42 (j : Fin 4096) : val_main_v42 (F := Ideal) x0 x1 x2 x3 (ix5 0 b g i j)
    = P x2 x3 b g i j * Ideal.div 1 ((∑ j, rw' (X x0 x1 b g i) j) * ∑ j, rw' (X x0 x1 b g i) j) * rw' (X x0 x1 b g i) j := by
  rw [val_main_v42_apply, val_main_v41_apply, val_main_v40_apply, v26, v37,
    show idx_main_v40 (ix5 0 b g i j) = ix5 0 b g i 0 from ix5_of _ rfl rfl rfl rfl rfl, v33]
  rfl

theorem e44 : idx_main_v44 (ix5 0 b g i 0) = ix4 0 b g i := by
  have hb := b.isLt
  have hg := g.isLt
  have hi := i.isLt
  refine ix4_of (idx_main_v44 (ix5 0 b g i 0)) rfl ?_ ?_ ?_ <;> refine Fin.ext ?_
  · show ((((0 * 2 + (b : ℕ)) * 3 + (g : ℕ)) * 4096 + (i : ℕ)) * 1 + 0) / 12288 % 2 = (b : ℕ)
    omega
  · show ((((0 * 2 + (b : ℕ)) * 3 + (g : ℕ)) * 4096 + (i : ℕ)) * 1 + 0) / 4096 % 3 = (g : ℕ)
    omega
  · show ((((0 * 2 + (b : ℕ)) * 3 + (g : ℕ)) * 4096 + (i : ℕ)) * 1 + 0) % 4096 = (i : ℕ)
    omega

theorem v45 : val_main_v45 (F := Ideal) x0 x1 x2 x3 (ix5 0 b g i 0) = -∑ j, (P x2 x3 b g i j
    * Ideal.div 1 ((∑ j, rw' (X x0 x1 b g i) j) * ∑ j, rw' (X x0 x1 b g i) j) * rw' (X x0 x1 b g i) j) := by
  rw [val_main_v45_apply, val_main_v44_apply]
  rw [show idx_main_v44 (ix5 0 b g i 0) = ix4 0 b g i from e44 b g i]
  simp only [val_main_v43_apply, val_main_cst_11_apply]
  pointwise []
  exact congrArg Neg.neg (Finset.sum_congr rfl fun j _ => (congrArg (val_main_v42 (F := Ideal) x0 x1 x2 x3)
    (ix5_of _ rfl rfl rfl rfl rfl)).trans (v42 x0 x1 x2 x3 b g i j))

/-- A sum over two axes of size one is the element. -/
theorem sum_unit (h : (⟨5, ![1, 2, 3, 4096, 1]⟩ : Shape).ReducesTo [0, 4] ⟨3, ![2, 3, 4096]⟩) (v : S1x2x3x4096x1.Idx → EReal) (a : EReal) :
    Ideal.hostReduceAdd h v a (ix3 b g i) = a + v (ix5 0 b g i 0) := by
  unfold Ideal.hostReduceAdd
  have : Finset.univ.filter (fun z => h.drop z = ix3 b g i) = {ix5 0 b g i 0} := by
    ext z
    simp only [Finset.mem_filter, Finset.mem_univ, true_and, Finset.mem_singleton]
    constructor
    · intro e
      refine ix5_of z (Subsingleton.elim (α := Fin 1) _ _) ?_ ?_ ?_ (Subsingleton.elim (α := Fin 1) _ _)
      · exact Fin.ext (congrArg Fin.val (congrFun e 0))
      · exact Fin.ext (congrArg Fin.val (congrFun e 1))
      · exact Fin.ext (congrArg Fin.val (congrFun e 2))
    · rintro rfl
      funext x
      fin_cases x <;> rfl
  rw [this, Finset.sum_singleton]

theorem v54 (j : Fin 4096) : val_main_v54 (F := Ideal) x0 x1 x2 x3 (ix5 0 b g i j) = rds (X x0 x1 b g i) (P x2 x3 b g i) S j := by
  have h : val_main_v48 (F := Ideal) x0 x1 x2 x3 (ix3 b g i) = val_main_v45 (F := Ideal) x0 x1 x2 x3 (ix5 0 b g i 0) := by
    pointwise [val_main_v48]
    refine (sum_unit b g i _ _ _).trans ?_
    simp only [val_main_cst_12_apply]
    pointwise []
  have h50 : val_main_v50 (F := Ideal) x0 x1 x2 x3 (ix5 0 b g i j) = val_main_v48 (F := Ideal) x0 x1 x2 x3 (ix3 b g i) := by
    rw [val_main_v50_apply, val_main_v49_apply]
    refine congrArg _ (funext fun x => ?_)
    fin_cases x <;> rfl
  have h53 : val_main_v53 (F := Ideal) (ix5 0 b g i j) = S := by
    simp only [val_main_v53_apply, val_main_v1_apply, val_main_v0_apply, val_main_cst_apply, val_main_cst_0_apply]
    pointwise []
    rfl
  rw [val_main_v54_apply, val_main_v52_apply, val_main_v51_apply, val_main_v47_apply, val_main_v46_apply, v26, v37,
    show idx_main_v46 (ix5 0 b g i j) = ix5 0 b g i 0 from ix5_of _ rfl rfl rfl rfl rfl, v28, h50, h, v45, h53]
  rfl

/-- The gradient of the queries. -/
theorem v57 (d : Fin 128) : val_main_v57 (F := Ideal) x0 x1 x2 x3 (ix5 0 i b g d)
    = ∑ j : Fin 4096, rds (X x0 x1 b g i) (P x2 x3 b g i) S j * x1 (ix4 0 j b d) := by
  simp only [val_main_v57_apply, val_main_v56_apply, val_main_v55_apply]
  exact Finset.sum_congr rfl fun j _ => congrArg₂ (· * ·) ((congrArg (val_main_v54 (F := Ideal) x0 x1 x2 x3)
    (ix5_of _ rfl rfl rfl rfl rfl)).trans (v54 x0 x1 x2 x3 b g i j)) (congrArg x1 (ix4_of _ rfl rfl rfl rfl))

/-- The gradient of the keys. -/
theorem v59 (j : Fin 4096) (d : Fin 128) : val_main_v59 (F := Ideal) x0 x1 x2 x3 (ix4 0 j b d)
    = ∑ g : Fin 3, ∑ i : Fin 4096, rds (X x0 x1 b g i) (P x2 x3 b g i) S j * x0 (ix5 0 i b g d) := by
  have h : val_main_v58 (F := Ideal) x0 x1 x2 x3 (ix4 0 b j d)
      = ∑ i : Fin 4096, ∑ g : Fin 3, val_main_v55 (F := Ideal) x0 x1 x2 x3 (ix5 0 b j i g) * x0 (ix5 0 i b g d) := by
    pointwise [val_main_v58]
  rw [val_main_v59_apply, show idx_main_v59 (ix4 0 j b d) = ix4 0 b j d from ix4_of _ rfl rfl rfl rfl, h, Finset.sum_comm]
  refine Finset.sum_congr rfl fun g _ => Finset.sum_congr rfl fun i _ => ?_
  rw [val_main_v55_apply, show idx_main_v55 (ix5 0 b j i g) = ix5 0 b g i j from ix5_of _ rfl rfl rfl rfl rfl, v54]

/-- The gradient of the values. -/
theorem v39 (j : Fin 4096) (d : Fin 128) : val_main_v39 (F := Ideal) x0 x1 x3 (ix4 0 j b d)
    = ∑ g : Fin 3, ∑ i : Fin 4096, x3 (ix5 0 i b g d) * rp (X x0 x1 b g i) j := by
  have h : val_main_v38 (F := Ideal) x0 x1 x3 (ix4 0 b d j)
      = ∑ g : Fin 3, ∑ i : Fin 4096, val_main_v36 (F := Ideal) x3 (ix5 0 b d g i) * val_main_v30 (F := Ideal) x0 x1 (ix5 0 b g i j) := by
    pointwise [val_main_v38]
  rw [val_main_v39_apply, show idx_main_v39 (ix4 0 j b d) = ix4 0 b d j from ix4_of _ rfl rfl rfl rfl, h]
  refine Finset.sum_congr rfl fun g _ => Finset.sum_congr rfl fun i _ => ?_
  rw [val_main_v36_apply, show idx_main_v36 (ix5 0 b d g i) = ix5 0 i b g d from ix5_of _ rfl rfl rfl rfl rfl, v30]

/-- The group of a head and its place in the group. -/
abbrev hq (h : Fin 6) : Fin 2 := ⟨h / 3, by omega⟩
abbrev hr (h : Fin 6) : Fin 3 := ⟨h % 3, by omega⟩

theorem res_dq (y : S4096x768.Idx) : val_main_v60 (F := Ideal) x0 x1 x2 x3 y
    = ∑ j : Fin 4096, rds (X x0 x1 (hq (hd (y 1))) (hr (hd (y 1))) (y 0)) (P x2 x3 (hq (hd (y 1))) (hr (hd (y 1))) (y 0)) S j
        * x1 (ix4 0 j (hq (hd (y 1))) (ln (y 1))) := by
  have h0 : ((y 0 : Fin 4096) : ℕ) < 4096 := (y 0 : Fin 4096).isLt
  have h1 : ((y 1 : Fin 768) : ℕ) < 768 := (y 1 : Fin 768).isLt
  rw [val_main_v60_apply]
  refine (congrArg (val_main_v57 (F := Ideal) x0 x1 x2 x3) (ix5_of _ rfl ?_ ?_ ?_ ?_)).trans (v57 x0 x1 x2 x3 _ _ _ _)
  · refine Fin.ext ?_
    show (((y 0 : Fin 4096) : ℕ) * 768 + ((y 1 : Fin 768) : ℕ)) / 768 % 4096 = ((y 0 : Fin 4096) : ℕ)
    omega
  · refine Fin.ext ?_
    show (((y 0 : Fin 4096) : ℕ) * 768 + ((y 1 : Fin 768) : ℕ)) / 384 % 2 = ((y 1 : Fin 768) : ℕ) / 128 / 3
    omega
  · refine Fin.ext ?_
    show (((y 0 : Fin 4096) : ℕ) * 768 + ((y 1 : Fin 768) : ℕ)) / 128 % 3 = ((y 1 : Fin 768) : ℕ) / 128 % 3
    omega
  · refine Fin.ext ?_
    show (((y 0 : Fin 4096) : ℕ) * 768 + ((y 1 : Fin 768) : ℕ)) % 128 = ((y 1 : Fin 768) : ℕ) % 128
    omega

/-- The group of a column of the keys. -/
abbrev kq (x : Fin 256) : Fin 2 := ⟨x / 128, by omega⟩

theorem at_k (y : S4096x256.Idx) : idx_main_v61 y = ix4 0 (y 0 : Fin 4096) (kq (y 1)) (lk (y 1)) := by
  have h0 : ((y 0 : Fin 4096) : ℕ) < 4096 := (y 0 : Fin 4096).isLt
  have h1 : ((y 1 : Fin 256) : ℕ) < 256 := (y 1 : Fin 256).isLt
  refine ix4_of (idx_main_v61 y) rfl ?_ ?_ ?_
  · refine Fin.ext ?_
    show (((y 0 : Fin 4096) : ℕ) * 256 + ((y 1 : Fin 256) : ℕ)) / 256 % 4096 = ((y 0 : Fin 4096) : ℕ)
    omega
  · refine Fin.ext ?_
    show (((y 0 : Fin 4096) : ℕ) * 256 + ((y 1 : Fin 256) : ℕ)) / 128 % 2 = ((y 1 : Fin 256) : ℕ) / 128
    omega
  · refine Fin.ext ?_
    show (((y 0 : Fin 4096) : ℕ) * 256 + ((y 1 : Fin 256) : ℕ)) % 128 = ((y 1 : Fin 256) : ℕ) % 128
    omega

theorem gh_q (x : Fin 256) (g : Fin 3) : hq (gh x g) = kq x := Fin.ext (by
  show ((x : ℕ) / 128 * 3 + g) / 3 = (x : ℕ) / 128
  omega)

theorem gh_r (x : Fin 256) (g : Fin 3) : hr (gh x g) = g := Fin.ext (by
  show ((x : ℕ) / 128 * 3 + g) % 3 = (g : ℕ)
  omega)

theorem res_dk (y : S4096x256.Idx) : val_main_v61 (F := Ideal) x0 x1 x2 x3 y
    = ∑ g : Fin 3, ∑ i : Fin 4096, rds (X x0 x1 (kq (y 1)) g i) (P x2 x3 (kq (y 1)) g i) S (y 0)
        * x0 (ix5 0 i (kq (y 1)) g (lk (y 1))) := by
  rw [val_main_v61_apply, at_k]
  exact v59 x0 x1 x2 x3 (kq (y 1)) (y 0) (lk (y 1))

theorem res_dv (y : S4096x256.Idx) : val_main_v62 (F := Ideal) x0 x1 x3 y
    = ∑ g : Fin 3, ∑ i : Fin 4096, x3 (ix5 0 i (kq (y 1)) g (lk (y 1)))
        * rp (X x0 x1 (kq (y 1)) g i) (y 0) := by
  rw [val_main_v62_apply, show idx_main_v62 y = idx_main_v61 y from rfl, at_k]
  exact v39 x0 x1 x3 (kq (y 1)) (y 0) (lk (y 1))

end Cert.FlaCEq.Ref
end
-- ==== Proof.FlaCClaim.lean ====
module

public import proofs.«01_k».proof.Defs
public import proofs.«01_k».proof.Proof.FlaCRead
public import proofs.«01_k».proof.Proof.FlaCRun
public import proofs.«01_k».proof.Proof.FlaCRef
public import proofs.«01_k».proof.Proof.Reals
public import proofs.«01_k».proof.Proof.Gen.FlaCRIdeal.Run
public import proofs.«01_k».proof.Proof.Gen.Pre_flac_finite
public import Idealize.ShloMosaic.Adequacy
public import Idealize.ShloMosaic.Lib.Claim

@[expose] public section

set_option maxRecDepth 16384

noncomputable section

open Idealize.ShloMosaic Idealize.ShloMosaic.TcCoe Idealize.SL.Sem Idealize.ShloMosaic.Tactic

namespace Cert.FlaCEq

open Cert.Reals Cert.Attn Cert.FlaCKIdeal Cert.FlaCKIdeal.Gen

/-- The precondition: every element of the four arrays is a real number. -/
theorem reals (x0 x3 : FVec Ideal Cert.Pre_flac_finite.S1x4096x2x3x128 .f32) (x1 x2 : FVec Ideal Cert.Pre_flac_finite.S1x4096x2x128 .f32)
    [Cert.Pre_flac_finite.Facts] (h : Cert.Pre_flac_finite.fn (F := Ideal) x0 x1 x2 x3 = fun _ => 1#1) :
    (∀ i, IsReal (x0 i)) ∧ (∀ i, IsReal (x1 i)) ∧ (∀ i, IsReal (x2 i)) ∧ ∀ i, IsReal (x3 i) := by
  have e := congrFun h (fun a => a.elim0)
  unfold Cert.Pre_flac_finite.fn Cert.Pre_flac_finite.fn_part1 at e
  obtain ⟨e, e3⟩ := IntOp.andi_eq_one.1 e
  obtain ⟨e, e2⟩ := IntOp.andi_eq_one.1 e
  obtain ⟨e0, e1⟩ := IntOp.andi_eq_one.1 e
  exact ⟨isReal_of_all _ _ _ _ _ _ e0, isReal_of_all _ _ _ _ _ _ e1, isReal_of_all _ _ _ _ _ _ e2, isReal_of_all _ _ _ _ _ _ e3⟩

/-- The reference runs; its arguments stay. -/
theorem frame_ref : Cert.quiescent_FlaCRIdeal := fun m ρ _ =>
  (θ_run Cert.FlaCRIdeal.defs _ _).mono (fun r h => ⟨fun c => (h c).2.2.2, sem_eq_zero_of_no_sems (by decide) r.2⟩)
    (Cert.FlaCRIdeal.Value.run (F := Ideal) m ρ)

/-- The reference's scale is the root's inverse. -/
theorem scale : Ref.S = (((Real.sqrt 128)⁻¹ : ℝ) : EReal) := by
  have h : Ideal.ofBits .f32 1124073472#32 = ((128 : ℝ) : EReal) := by
    simp [Ideal.ofBits, Ideal.ieee, -EReal.coe_mul]
    norm_num
  have hp : Real.sqrt 128 ≠ 0 := (Real.sqrt_pos.2 (by norm_num)).ne'
  rw [Ref.S, h, Ideal.sqrt_coe, if_neg (by norm_num)]
  exact (div_real 1 hp).trans (by rw [one_div])

section
variable (q g : S1x4096x2x3x128.Idx → ℝ) (k w : S1x4096x2x128.Idx → ℝ) (h : Fin 6) (i j : Fin 4096)

/-- The score's gradient of one head, over the reals. -/
def rG : ℝ := grad (scores (Real.sqrt 128)⁻¹ (hQ q h i) (hK k h)) (prods (hK w h) (hQ g h i)) (Real.sqrt 128)⁻¹ j

/-- The probability of one head, over the reals. -/
def rP : ℝ := prob (scores (Real.sqrt 128)⁻¹ (hQ q h i) (hK k h)) j

/-- The arrays of real numbers as the programs hold them. -/
abbrev cq (q : S1x4096x2x3x128.Idx → ℝ) : S1x4096x2x3x128.Idx → EReal := fun i => (q i : EReal)
abbrev ck (k : S1x4096x2x128.Idx → ℝ) : S1x4096x2x128.Idx → EReal := fun i => (k i : EReal)

theorem kernel_ds : ds kc ks (hQ (cq q) h i) (hK (ck k) h) (hK (ck w) h) (hQ (cq g) h i)
      (out kc (hQ (cq q) h i) (hK (ck k) h) (hK (ck w) h)) (lse kc kl (hQ (cq q) h i) (hK (ck k) h)) j = (rG q g k w h i j : EReal) :=
  ds_real (Real.sqrt 128)⁻¹ (hQ q h i) (hK k h) (hK w h) (hQ g h i) rfl rfl j

theorem kernel_pr : pr kc (hQ (cq q) h i) (hK (ck k) h) (lse kc kl (hQ (cq q) h i) (hK (ck k) h)) j = (rP q k h i j : EReal) :=
  pr_real (Real.sqrt 128)⁻¹ (hQ q h i) (hK k h) rfl rfl j

theorem ref_X : Ref.X (cq q) (ck k) (hq h) (hr h) i = fun j => (scores (Real.sqrt 128)⁻¹ (hQ q h i) (hK k h) j : EReal) := by
  funext j
  have e : (∑ d : Fin 128, ((hK k h j d : ℝ) : EReal) * ((hQ q h i d : ℝ) : EReal)) * (((Real.sqrt 128)⁻¹ : ℝ) : EReal)
      = ((scores (Real.sqrt 128)⁻¹ (hQ q h i) (hK k h) j : ℝ) : EReal) := by
    simp only [← EReal.coe_mul, coe_sum, scores]
    simp only [mul_comm]
  rw [Ref.X, scale]
  exact e

theorem ref_P : Ref.P (ck w) (cq g) (hq h) (hr h) i = fun j => (prods (hK w h) (hQ g h i) j : EReal) := by
  funext j
  have e : (∑ d : Fin 128, ((hQ g h i d : ℝ) : EReal) * ((hK w h j d : ℝ) : EReal)) = ((prods (hK w h) (hQ g h i) j : ℝ) : EReal) := by
    simp only [← EReal.coe_mul, coe_sum, prods]
  exact e

theorem ref_ds : rds (Ref.X (cq q) (ck k) (hq h) (hr h) i) (Ref.P (ck w) (cq g) (hq h) (hr h) i) Ref.S j = (rG q g k w h i j : EReal) := by
  rw [ref_X, ref_P, scale]
  exact rds_real _ _ _ _

theorem ref_pr : rp (Ref.X (cq q) (ck k) (hq h) (hr h) i) j = (rP q k h i j : EReal) := by
  rw [ref_X]
  exact rp_real _ _

theorem dk_pt (x : Fin 256) (z : Fin 3) :
    rds (Ref.X (cq q) (ck k) (Ref.kq x) z i) (Ref.P (ck w) (cq g) (Ref.kq x) z i) Ref.S j * cq q (ix5 0 i (Ref.kq x) z (lk x))
      = ds kc ks (hQ (cq q) (gh x z) i) (hK (ck k) (gh x z)) (hK (ck w) (gh x z)) (hQ (cq g) (gh x z) i)
          (out kc (hQ (cq q) (gh x z) i) (hK (ck k) (gh x z)) (hK (ck w) (gh x z))) (lse kc kl (hQ (cq q) (gh x z) i) (hK (ck k) (gh x z))) j
        * hQ (cq q) (gh x z) i (lk x) := by
  rw [kernel_ds, ← ref_ds]
  have e1 : hq (gh x z) = Ref.kq x := Ref.gh_q x z
  have e2 : hr (gh x z) = z := Ref.gh_r x z
  show _ = _ * cq q (ix5 0 i (hq (gh x z)) (hr (gh x z)) (lk x))
  rw [e1, e2]

theorem dv_pt (x : Fin 256) (z : Fin 3) :
    cq g (ix5 0 i (Ref.kq x) z (lk x)) * rp (Ref.X (cq q) (ck k) (Ref.kq x) z i) j
      = pr kc (hQ (cq q) (gh x z) i) (hK (ck k) (gh x z)) (lse kc kl (hQ (cq q) (gh x z) i) (hK (ck k) (gh x z))) j
        * hQ (cq g) (gh x z) i (lk x) := by
  rw [kernel_pr, ← ref_pr, mul_comm]
  have e1 : hq (gh x z) = Ref.kq x := Ref.gh_q x z
  have e2 : hr (gh x z) = z := Ref.gh_r x z
  show _ = _ * cq g (ix5 0 i (hq (gh x z)) (hr (gh x z)) (lk x))
  rw [e1, e2]

end

section
variable (m : (ℓ : Loc nD τ sig) → Buf (Elt Ideal) ℓ) (ρ : Dev nD → PrngReg) (c : Dev nD)
variable (h0 : ∀ i, IsReal (a0 m c i)) (h1 : ∀ i, IsReal (a1 m c i)) (h2 : ∀ i, IsReal (a2 m c i)) (h3 : ∀ i, IsReal (a3 m c i))

include h0 h1 h2 h3 in
theorem final_dq : Cert.FlaCRIdeal.Read.val_main_v60 (F := Ideal) (a0 m c) (a1 m c) (a2 m c) (a3 m c) = (dat1 (V3 m ρ) c).arrAt 6 cfg1.N := by
  obtain ⟨q, hq0⟩ := choose_real h0
  obtain ⟨k, hk0⟩ := choose_real h1
  obtain ⟨w, hw0⟩ := choose_real h2
  obtain ⟨g, hg0⟩ := choose_real h3
  rw [arr6, hq0, hk0, hw0, hg0]
  funext y
  refine (Ref.res_dq _ _ _ _ y).trans (Finset.sum_congr rfl fun j _ => ?_)
  exact congrArg₂ (· * ·) ((ref_ds q g k w _ _ _).trans (kernel_ds q g k w _ _ _).symm) rfl

include h0 h1 h2 h3 in
theorem final_dk : Cert.FlaCRIdeal.Read.val_main_v61 (F := Ideal) (a0 m c) (a1 m c) (a2 m c) (a3 m c) = (dat1 (V3 m ρ) c).arrAt 7 cfg1.N := by
  obtain ⟨q, hq0⟩ := choose_real h0
  obtain ⟨k, hk0⟩ := choose_real h1
  obtain ⟨w, hw0⟩ := choose_real h2
  obtain ⟨g, hg0⟩ := choose_real h3
  rw [arr7, hq0, hk0, hw0, hg0]
  funext y
  refine (Ref.res_dk _ _ _ _ y).trans (Finset.sum_congr rfl fun z _ => Finset.sum_congr rfl fun i _ => ?_)
  exact dk_pt q g k w i _ _ z

include h0 h1 h3 in
theorem final_dv : Cert.FlaCRIdeal.Read.val_main_v62 (F := Ideal) (a0 m c) (a1 m c) (a3 m c) = (dat1 (V3 m ρ) c).arrAt 8 cfg1.N := by
  obtain ⟨q, hq0⟩ := choose_real h0
  obtain ⟨k, hk0⟩ := choose_real h1
  obtain ⟨g, hg0⟩ := choose_real h3
  rw [arr8, hq0, hk0, hg0]
  funext y
  refine (Ref.res_dv _ _ _ y).trans (Finset.sum_congr rfl fun z _ => Finset.sum_congr rfl fun i _ => ?_)
  exact dv_pt q g k i _ _ z

end

theorem value : Cert.algebraic_FlaCKIdeal_FlaCRIdeal_pre_flac_finite := by
  pair_intro
  · run_from (θ_run Cert.FlaCKIdeal.defs _ _).mono (fun r h => h.1) (run m g)
  · run_from Cert.FlaCRIdeal.Value.run m' g'
    · obtain ⟨h0, h1, h2, h3⟩ := reals _ _ _ _ (hpre c)
      obtain ⟨e0, e1, e2, e3⟩ := hagree c
      rw [Cert.FlaCRIdeal.Read.val_main_v60_eq, e0, e1, e2, e3]
      exact final_dq m g c h0 h1 h2 h3
    · obtain ⟨h0, h1, h2, h3⟩ := reals _ _ _ _ (hpre c)
      obtain ⟨e0, e1, e2, e3⟩ := hagree c
      rw [Cert.FlaCRIdeal.Read.val_main_v61_eq, e0, e1, e2, e3]
      exact final_dk m g c h0 h1 h2 h3
    · obtain ⟨h0, h1, h2, h3⟩ := reals _ _ _ _ (hpre c)
      exact (Cert.FlaCRIdeal.Read.val_main_v62_eq _ _ _).trans (final_dv m g c h0 h1 h3)

end Cert.FlaCEq

end
-- ==== Proof.FlaAFwdPay.lean ====
module

public import proofs.«01_k».proof.Proof.Attn
public import proofs.«01_k».proof.Proof.Gen.FlaAKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FlaAEq

open Cert.FlaAKIdeal Cert.FlaAKIdeal.Gen Cert.Reals Cert.Attn

/-- The three constants of the kernel at the extended reals. -/
abbrev kc : EReal := Named.named (F := Ideal) κ "c" (φ := .f32) 0x3DD53B95#32
abbrev kl : EReal := Named.named (F := Ideal) κ "log2e" (φ := .f32) 0x3FB8AA3B#32
abbrev ks : EReal := Named.named (F := Ideal) κ "s" (φ := .f32) 0x3D93CD3A#32

/-- Row `r` of a matrix. -/
abbrev row {a b : ℕ} (X : (⟨2, ![a, b]⟩ : Shape).Idx → EReal) (r : Fin a) (x : Fin b) : EReal := X (ix2 r x)

/-! ## The forward body -/

section
variable (A : FVec Ideal S4096x256 .bf16) (X : FVec Ideal S256x256 .bf16) (y : S256x1.Idx) (z : S1x256x128.Idx)

theorem pay5 : k0_pay5 (F := Ideal) A X y = mx kc (row X (y 0)) (row A) := by
  pointwise [k0_pay5, k0_pay4, k0_pay2]
  rfl

theorem pay7 : k0_pay7 (F := Ideal) A X y = tot kc (row X (y 0)) (row A) := by
  pointwise [k0_pay7, k0_pay6, k0_pay5, k0_pay4, k0_pay2]
  rfl

theorem pay12 : k0_pay12 (F := Ideal) (k0_pay10 A X) (Named.named κ "c" 0x3DD53B95#32) y = mx kc (row X (y 0)) (row A) := by
  pointwise [k0_pay12, k0_pay11, k0_pay10, k0_pay2]
  rfl

theorem pay14 : k0_pay14 (F := Ideal) (k0_pay10 A X) (Named.named κ "c" 0x3DD53B95#32) y = tot kc (row X (y 0)) (row A) := by
  pointwise [k0_pay14, k0_pay13, k0_pay12, k0_pay11, k0_pay10, k0_pay2]
  rfl

theorem pay18 : k0_pay18 (F := Ideal) (k0_pay2 A) X y = mx kc (row X (y 0)) (row A) := by
  pointwise [k0_pay18, k0_pay17, k0_pay2]
  rfl

theorem pay20 : k0_pay20 (F := Ideal) (k0_pay2 A) X y = tot kc (row X (y 0)) (row A) := by
  pointwise [k0_pay20, k0_pay19, k0_pay18, k0_pay17, k0_pay2]
  rfl

theorem pay25 : k0_pay25 (F := Ideal) (k0_pay2 A) X y = mx kc (row X (y 0)) (row A) := by
  pointwise [k0_pay25, k0_pay24, k0_pay2]
  rfl

theorem pay27 : k0_pay27 (F := Ideal) (k0_pay2 A) X y = tot kc (row X (y 0)) (row A) := by
  pointwise [k0_pay27, k0_pay26, k0_pay25, k0_pay24, k0_pay2]
  rfl

/-- The stored block of log-sums, from the rows' maxima and totals. -/
theorem col (a t : FVec Ideal S256x1 .f32) (z : S1x256x128.Idx) {p q : EReal} (hp : a (ix2 (z 1) 0) = p)
    (hq : t (ix2 (z 1) 0) = q) : k0_pay23 (F := Ideal) a t z = p + Ideal.log q * kl := by
  subst hp hq
  pointwise [k0_pay23]

theorem pay9 : k0_pay9 (F := Ideal) A X z = lse kc kl (row X (z 1)) (row A) :=
  col (k0_pay5 A X) (k0_pay7 A X) z (pay5 A X _) (pay7 A X _)

theorem pay16 : k0_pay16 (F := Ideal) (k0_pay10 A X) (Named.named κ "c" 0x3DD53B95#32) z = lse kc kl (row X (z 1)) (row A) :=
  col (k0_pay12 _ _) (k0_pay14 _ _) z (pay12 A X _) (pay14 A X _)

theorem pay23 : k0_pay23 (F := Ideal) (k0_pay18 (k0_pay2 A) X) (k0_pay20 (k0_pay2 A) X) z = lse kc kl (row X (z 1)) (row A) :=
  col _ _ z (pay18 A X _) (pay20 A X _)

theorem pay1 : k0_pay1 (F := Ideal) (k0_pay29 (k0_pay2 A) X) z = lse kc kl (row X (z 1)) (row A) :=
  col (k0_pay25 _ _) (k0_pay27 _ _) z (pay25 A X _) (pay27 A X _)

end

/-- What a step stores into the output block. -/
theorem out3 (x0 : Vec Ideal S1024x256 .bf16) (x1 : Vec Ideal S4096x256 .bf16) (x2 : Vec Ideal S4096x128 .bf16) (y : S1024x128.Idx) :
    out0_3 (F := Ideal) x0 x1 x2 y = out kc (row x0 (y 0)) (row x1) (row x2) (y 1) := by
  unfold out0_3
  canon_tiles x h
  all_goals
    have e0 : y 0 = ⟨_, lt_of_eq_of_lt h0.symm (y 0).isLt⟩ := Fin.ext h0
    have e1 : y 1 = x 1 := Fin.ext h1
    open_payloads
    pointwise
    rw [e0, e1]
    rfl

/-- What a step stores into the block of log-sums. -/
theorem out4 (x0 : Vec Ideal S1024x256 .bf16) (x1 : Vec Ideal S4096x256 .bf16) (x2 : Vec Ideal S4096x128 .bf16) (y : S1x1024x128.Idx) :
    out0_4 (F := Ideal) x0 x1 x2 y = lse kc kl (row x0 (y 1)) (row x1) := by
  unfold out0_4 k0_pay32
  canon_tiles x h
  all_goals
    have e1 : y 1 = ⟨_, lt_of_eq_of_lt h1.symm (y 1).isLt⟩ := Fin.ext h1
  · refine (pay1 _ _ _).trans ?_
    rw [e1]
    exact congrArg₂ (lse kc kl) (funext fun d => by pointwise [row]) (funext fun j => funext fun d => by pointwise [row])
  · refine (pay23 _ _ _).trans ?_
    rw [e1]
    exact congrArg₂ (lse kc kl) (funext fun d => by pointwise [row]) (funext fun j => funext fun d => by pointwise [row])
  · refine (pay16 _ _ _).trans ?_
    rw [e1]
    exact congrArg₂ (lse kc kl) (funext fun d => by pointwise [row]) (funext fun j => funext fun d => by pointwise [row])
  · refine (pay9 _ _ _).trans ?_
    rw [e1]
    exact congrArg₂ (lse kc kl) (funext fun d => by pointwise [row]) (funext fun j => funext fun d => by pointwise [row])

end Cert.FlaAEq

end
-- ==== Proof.FlaABwdPay.lean ====
module

public import proofs.«01_k».proof.Proof.FlaAFwdPay
public import proofs.«01_k».proof.Proof.Gen.FlaAKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FlaAEq

open Cert.FlaAKIdeal Cert.FlaAKIdeal.Gen Cert.Reals Cert.Attn

/-! ## The backward body: a chunk of 256 query rows `Q`, cotangent rows `G`, output rows `O` and log-sums `Z`
against the keys `A` and values `B` of the group -/

section
variable (A : FVec Ideal S4096x256 .bf16) (B : FVec Ideal S4096x128 .bf16) (Q : FVec Ideal S256x256 .bf16) (G O : FVec Ideal S256x128 .f32)
  (Z : FVec Ideal S1x256x1 .f32) (acck : FVec Ideal S4096x256 .f32) (accv : FVec Ideal S4096x128 .f32) (k : S4096x256.Idx) (v : S4096x128.Idx)
  (w : S256x256.Idx)

theorem dv13 : k1_pay13 (F := Ideal) (k1_pay9 G) (k1_pay10 A Q Z) accv v
    = accv v + ∑ r : Fin 256, pr kc (row Q r) (row A) (Z (ix3 0 r 0)) (v 0) * row G r (v 1) := by
  pointwise [k1_pay13, k1_pay7, k1_pay8, k1_pay9, k1_pay10, k1_pay3, k1_pay4]
  rfl

theorem dv22 : k1_pay22 (F := Ideal) (k1_pay18 G) (k1_pay19 (k1_pay3 A) Q) Z accv v
    = accv v + ∑ r : Fin 256, pr kc (row Q r) (row A) (Z (ix3 0 r 0)) (v 0) * row G r (v 1) := by
  pointwise [k1_pay22, k1_pay20, k1_pay17, k1_pay18, k1_pay19, k1_pay16, k1_pay3]
  rfl

theorem dv30 : k1_pay30 (F := Ideal) (k1_pay3 A) Q G Z accv v
    = accv v + ∑ r : Fin 256, pr kc (row Q r) (row A) (Z (ix3 0 r 0)) (v 0) * row G r (v 1) := by
  pointwise [k1_pay30, k1_pay26, k1_pay28, k1_pay27, k1_pay25, k1_pay3]
  rfl

theorem dv38 : k1_pay38 (F := Ideal) (k1_pay3 A) Q G Z accv v
    = accv v + ∑ r : Fin 256, pr kc (row Q r) (row A) (Z (ix3 0 r 0)) (v 0) * row G r (v 1) := by
  pointwise [k1_pay38, k1_pay34, k1_pay36, k1_pay35, k1_pay33, k1_pay3]
  rfl

theorem dk14 : k1_pay14 (F := Ideal) (k1_pay7 Q) (k1_pay8 G) (k1_pay10 A Q Z) (k1_pay11 B G) O acck k
    = acck k + ∑ r : Fin 256, ds kc ks (row Q r) (row A) (row B) (row G r) (row O r) (Z (ix3 0 r 0)) (k 0) * row Q r (k 1) := by
  pointwise [k1_pay14, k1_pay12, k1_pay7, k1_pay8, k1_pay10, k1_pay11, k1_pay9, k1_pay3, k1_pay4]
  rfl

theorem dk23 : k1_pay23 (F := Ideal) (k1_pay4 B) (k1_pay16 Q) (k1_pay17 G) (k1_pay18 G) (k1_pay19 (k1_pay3 A) Q) Z O acck k
    = acck k + ∑ r : Fin 256, ds kc ks (row Q r) (row A) (row B) (row G r) (row O r) (Z (ix3 0 r 0)) (k 0) * row Q r (k 1) := by
  pointwise [k1_pay23, k1_pay21, k1_pay20, k1_pay16, k1_pay17, k1_pay18, k1_pay19, k1_pay3, k1_pay4]
  rfl

theorem dk31 : k1_pay31 (F := Ideal) (k1_pay3 A) (k1_pay4 B) Q G Z O acck k
    = acck k + ∑ r : Fin 256, ds kc ks (row Q r) (row A) (row B) (row G r) (row O r) (Z (ix3 0 r 0)) (k 0) * row Q r (k 1) := by
  pointwise [k1_pay31, k1_pay29, k1_pay28, k1_pay25, k1_pay26, k1_pay27, k1_pay3, k1_pay4]
  rfl

theorem dk1 : k1_pay1 (F := Ideal) (k1_pay33 Q) (k1_pay37 (k1_pay3 A) (k1_pay4 B) Q G Z O) acck k
    = acck k + ∑ r : Fin 256, ds kc ks (row Q r) (row A) (row B) (row G r) (row O r) (Z (ix3 0 r 0)) (k 0) * row Q r (k 1) := by
  pointwise [k1_pay1, k1_pay37, k1_pay36, k1_pay33, k1_pay34, k1_pay35, k1_pay3, k1_pay4]
  rfl

theorem dq15 : k1_pay15 (F := Ideal) (k1_pay3 A) (k1_pay8 G) (k1_pay10 A Q Z) (k1_pay11 B G) O w
    = ∑ j : Fin 4096, ds kc ks (row Q (w 0)) (row A) (row B) (row G (w 0)) (row O (w 0)) (Z (ix3 0 (w 0) 0)) j * row A j (w 1) := by
  pointwise [k1_pay15, k1_pay12, k1_pay7, k1_pay8, k1_pay10, k1_pay11, k1_pay9, k1_pay3, k1_pay4]
  rfl

theorem dq24 : k1_pay24 (F := Ideal) (k1_pay3 A) (k1_pay4 B) (k1_pay17 G) (k1_pay18 G) (k1_pay19 (k1_pay3 A) Q) Z O w
    = ∑ j : Fin 4096, ds kc ks (row Q (w 0)) (row A) (row B) (row G (w 0)) (row O (w 0)) (Z (ix3 0 (w 0) 0)) j * row A j (w 1) := by
  pointwise [k1_pay24, k1_pay21, k1_pay20, k1_pay16, k1_pay17, k1_pay18, k1_pay19, k1_pay3, k1_pay4]
  rfl

theorem dq32 : k1_pay32 (F := Ideal) (k1_pay3 A) (k1_pay29 (k1_pay3 A) (k1_pay4 B) Q G Z O) w
    = ∑ j : Fin 4096, ds kc ks (row Q (w 0)) (row A) (row B) (row G (w 0)) (row O (w 0)) (Z (ix3 0 (w 0) 0)) j * row A j (w 1) := by
  pointwise [k1_pay32, k1_pay29, k1_pay28, k1_pay25, k1_pay26, k1_pay27, k1_pay3, k1_pay4]
  rfl

theorem dq2 : k1_pay2 (F := Ideal) (k1_pay3 A) (k1_pay37 (k1_pay3 A) (k1_pay4 B) Q G Z O) w
    = ∑ j : Fin 4096, ds kc ks (row Q (w 0)) (row A) (row B) (row G (w 0)) (row O (w 0)) (Z (ix3 0 (w 0) 0)) j * row A j (w 1) := by
  pointwise [k1_pay2, k1_pay37, k1_pay36, k1_pay33, k1_pay34, k1_pay35, k1_pay3, k1_pay4]
  rfl

theorem zero5 : k1_pay5 (F := Ideal) k = 0 := by pointwise [k1_pay5]

theorem zero6 : k1_pay6 (F := Ideal) v = 0 := by pointwise [k1_pay6]

end
end Cert.FlaAEq

end
-- ==== Proof.FlaAFwd.lean ====
module

public import proofs.«01_k».proof.Proof.FlaAFwdPay
public import proofs.«01_k».proof.Proof.Gen.FlaAKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FlaAEq

open Cert.FlaAKIdeal Cert.FlaAKIdeal.Gen Cert.Reals Cert.Attn

/-- The row `i` of head `h`, of the queries or of the keys: 256 columns a head. -/
abbrev qh (Q : S4096x1024.Idx → EReal) (h : Fin 4) (i : Fin 4096) (x : Fin 256) : EReal :=
  Q (ix2 i ⟨h * 256 + x, by have := h.isLt; have := x.isLt; omega⟩)

/-- The row `j` of head `h` of the values: the second half of the head's 256 columns. -/
abbrev vh (W : S4096x1024.Idx → EReal) (h : Fin 4) (j : Fin 4096) (x : Fin 128) : EReal :=
  W (ix2 j ⟨(2 * h + 1) * 128 + x, by have := h.isLt; have := x.isLt; omega⟩)

/-- The row `i` of head `h` of the output, or of its cotangent: 128 columns a head. -/
abbrev oh (O : S4096x512.Idx → EReal) (h : Fin 4) (i : Fin 4096) (x : Fin 128) : EReal :=
  O (ix2 i ⟨h * 128 + x, by have := h.isLt; have := x.isLt; omega⟩)

/-- The head of an output's column, and the column inside it. -/
abbrev hd (x : Fin 512) : Fin 4 := ⟨x / 128, by have := x.isLt; omega⟩
abbrev ln (x : Fin 512) : Fin 128 := ⟨x % 128, by omega⟩

theorem hd_of {x : Fin 512} {h : ℕ} {d : Fin 128} (e : (x : ℕ) = h * 128 + d) : (hd x : ℕ) = h := by
  have := d.isLt; show (x : ℕ) / 128 = h; omega

theorem ln_of {x : Fin 512} {h : ℕ} {d : Fin 128} (e : (x : ℕ) = h * 128 + d) : ln x = d := by
  have := d.isLt; exact Fin.ext (by show (x : ℕ) % 128 = d; omega)

/-- The block indices of the forward call's windows. -/
theorem idx0 : ∀ t : Fin cfg0.N,
    win0_0.index t = ![t.val % 4, t.val / 4] ∧ win0_1.index t = ![0, t.val / 4] ∧ win0_2.index t = ![0, 2 * (t.val / 4) + 1]
      ∧ win0_3.index t = ![t.val % 4, t.val / 4] ∧ win0_4.index t = ![t.val / 4, t.val % 4, 0] :=
  (by decide +kernel : ∀ t : Fin grid0.N, _)

section
variable (V : (c : Dev nD) → (b : Ref sig .tc) → Buf (Elt Ideal) ((c : Thread nD τ).loc b)) (c : Dev nD)
  (Q K W : S4096x1024.Idx → EReal)

theorem blk_q (hQ : V c main_v3 = Q) (t : Fin cfg0.N) (r : Fin 1024) (h : Fin 4) (i : Fin 4096) (eh : (h : ℕ) = t.val / 4)
    (ei : (i : ℕ) = t.val % 4 * 1024 + r) :
    row (iblk0 V c 0 t : Vec Ideal S1024x256 .bf16) r = qh Q h i := by
  funext x
  simp only [row]
  blk_point [iblk0, hQ, idx0 t]

theorem blk_k (hK : V c main_v7 = K) (t : Fin cfg0.N) (h : Fin 4) (eh : (h : ℕ) = t.val / 4) :
    row (iblk0 V c 1 t : Vec Ideal S4096x256 .bf16) = qh K h := by
  funext j x
  simp only [row]
  blk_point [iblk0, hK, idx0 t]

theorem blk_v (hW : V c main_v12 = W) (t : Fin cfg0.N) (h : Fin 4) (eh : (h : ℕ) = t.val / 4) :
    row (iblk0 V c 2 t : Vec Ideal S4096x128 .bf16) = vh W h := by
  funext j x
  simp only [row]
  blk_point [iblk0, hW, idx0 t]

theorem fwd_out (hQ : V c main_v3 = Q) (hK : V c main_v7 = K) (hW : V c main_v12 = W) :
    (dat0 V c).arrAt 3 cfg0.N
      = ((fun i => out kc (qh Q (hd (i 1)) (i 0)) (qh K (hd (i 1))) (vh W (hd (i 1))) (ln (i 1))) : S4096x512.Idx → EReal) := by
  refine (dat0 V c).arrAt_eq_of_covers 3 _ (by decide +kernel) fun t _ y => ?_
  blk_simp
  have e0 : (((win0_3.blk t).view.emb y 0 : Fin 4096) : ℕ) = t.val % 4 * 1024 + (y 0 : Fin 1024) := by blk_simp [idx0 t]
  have e1 : (((win0_3.blk t).view.emb y 1 : Fin 512) : ℕ) = t.val / 4 * 128 + (y 1 : Fin 128) := by blk_simp [idx0 t]
  rw [after0_3, out3, blk_q V c Q hQ t _ _ _ (hd_of e1) e0, blk_k V c K hK t _ (hd_of e1), blk_v V c W hW t _ (hd_of e1), ln_of e1]

theorem fwd_lse (hQ : V c main_v3 = Q) (hK : V c main_v7 = K) :
    (dat0 V c).arrAt 4 cfg0.N
      = ((fun i => lse kc kl (qh Q (i 0) (i 1)) (qh K (i 0))) : S4x4096x128.Idx → EReal) := by
  refine (dat0 V c).arrAt_eq_of_covers 4 _ (by decide +kernel) fun t _ y => ?_
  blk_simp
  have e0 : (((win0_4.blk t).view.emb y 0 : Fin 4) : ℕ) = t.val / 4 + (y 0 : Fin 1) := by blk_simp [idx0 t]
  have e1 : (((win0_4.blk t).view.emb y 1 : Fin 4096) : ℕ) = t.val % 4 * 1024 + (y 1 : Fin 1024) := by blk_simp [idx0 t]
  rw [after0_4, out4, blk_q V c Q hQ t _ _ _ (add_zero_of e0) e1, blk_k V c K hK t _ (add_zero_of e0)]

end
end Cert.FlaAEq

end
-- ==== Proof.FlaABwd.lean ====
module

public import proofs.«01_k».proof.Proof.FlaABwdPay
public import proofs.«01_k».proof.Proof.FlaAFwd
public import proofs.«01_k».proof.Proof.Gen.FlaAKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FlaAEq

open Cert.FlaAKIdeal Cert.FlaAKIdeal.Gen Cert.Reals Cert.Attn

section
variable (x0 : Vec Ideal S1024x256 .bf16) (x1 : Vec Ideal S4096x256 .bf16) (x2 : Vec Ideal S4096x128 .bf16) (x3 x4 : Vec Ideal S1024x128 .f32)
  (x5 : Vec Ideal S1x1024x128 .f32)

/-- The gradient of the scores of a block's row `r` at key `j`, and the probability there. -/
abbrev bds (r : Fin 1024) (j : Fin 4096) : EReal :=
  ds kc ks (row x0 r) (row x1) (row x2) (row x4 r) (row x3 r) (x5 (ix3 0 r 0)) j
abbrev bpr (r : Fin 1024) (j : Fin 4096) : EReal := pr kc (row x0 r) (row x1) (x5 (ix3 0 r 0)) j

/-- What a grid point adds to the gradients of the keys and of the values, and what it stores of the queries'. -/
abbrev kPart (y : S4096x256.Idx) : EReal := ∑ r : Fin 1024, bds x0 x1 x2 x3 x4 x5 r (y 0) * row x0 r (y 1)
abbrev vPart (y : S4096x128.Idx) : EReal := ∑ r : Fin 1024, bpr x0 x1 x5 r (y 0) * row x4 r (y 1)
abbrev qPart (y : S1024x256.Idx) : EReal := ∑ j : Fin 4096, bds x0 x1 x2 x3 x4 x5 (y 0) j * row x1 j (y 1)
end

theorem lt_of_rect {o n : ℕ} (h : ∀ a, (![o, 0] : Fin 2 → ℕ) a + (![256, n] : Fin 2 → ℕ) a ≤ (![1024, n] : Fin 2 → ℕ) a) (r : Fin 256) :
    o + r < 1024 := by
  have h0 : o + 256 ≤ 1024 := h 0
  have := r.isLt
  omega

/-- A chunk's rows inside the block, and its log-sums. -/
theorem row_ld_q (x : Vec Ideal S1024x256 .bf16) (o : ℕ) (h : ∀ a, (![o, 0] : Fin 2 → ℕ) a + (![256, 256] : Fin 2 → ℕ) a ≤ S1024x256.size a) (r : Fin 256) :
    row (View.ld x (Rect.unit ![o, 0] ![256, 256] h)) r = row x ⟨o + r, lt_of_rect h r⟩ := by
  funext d
  simp only [row]
  pointwise

theorem row_ld_g (x : Vec Ideal S1024x128 .f32) (o : ℕ) (h : ∀ a, (![o, 0] : Fin 2 → ℕ) a + (![256, 128] : Fin 2 → ℕ) a ≤ S1024x128.size a) (r : Fin 256) :
    row (View.ld x (Rect.unit ![o, 0] ![256, 128] h)) r = row x ⟨o + r, lt_of_rect h r⟩ := by
  funext d
  simp only [row]
  pointwise

theorem lse_ld (x : Vec Ideal S1x1024x128 .f32) (o : ℕ) (h : ∀ a, (![0, o, 0] : Fin 3 → ℕ) a + (![1, 256, 1] : Fin 3 → ℕ) a ≤ S1x1024x128.size a) (r : Fin 256)
    (hr : o + r < 1024) :
    (View.ld x (Rect.unit ![0, o, 0] ![1, 256, 1] h)) (ix3 0 r 0) = x (ix3 0 ⟨o + r, hr⟩ 0) := by
  pointwise

section
variable (x0 : Vec Ideal S1024x256 .bf16) (x1 : Vec Ideal S4096x256 .bf16) (x2 : Vec Ideal S4096x128 .bf16) (x3 x4 : Vec Ideal S1024x128 .f32)
  (x5 : Vec Ideal S1x1024x128 .f32) {o : ℕ} (h0 : ∀ a, (![o, 0] : Fin 2 → ℕ) a + (![256, 256] : Fin 2 → ℕ) a ≤ S1024x256.size a)
  (h : ∀ a, (![o, 0] : Fin 2 → ℕ) a + (![256, 128] : Fin 2 → ℕ) a ≤ S1024x128.size a)
  (h5 : ∀ a, (![0, o, 0] : Fin 3 → ℕ) a + (![1, 256, 1] : Fin 3 → ℕ) a ≤ S1x1024x128.size a) (j : Fin 4096) (d : Fin 256) (dv : Fin 128)

/-- A chunk's part of the three sums, at its rows' places in the block. -/
theorem vChunk :
    (∑ r : Fin 256, pr kc (row (View.ld x0 (Rect.unit ![o, 0] ![256, 256] h0)) r) (row x1)
        ((View.ld x5 (Rect.unit ![0, o, 0] ![1, 256, 1] h5)) (ix3 0 r 0)) j * row (View.ld x4 (Rect.unit ![o, 0] ![256, 128] h)) r dv)
      = ∑ r : Fin 256, bpr x0 x1 x5 ⟨o + r, lt_of_rect h r⟩ j * row x4 ⟨o + r, lt_of_rect h r⟩ dv :=
  Finset.sum_congr rfl fun r _ => by rw [row_ld_q, row_ld_g, lse_ld x5 o h5 r (lt_of_rect h r)]

theorem dsChunk (r : Fin 256) :
    ds kc ks (row (View.ld x0 (Rect.unit ![o, 0] ![256, 256] h0)) r) (row x1) (row x2) (row (View.ld x4 (Rect.unit ![o, 0] ![256, 128] h)) r)
        (row (View.ld x3 (Rect.unit ![o, 0] ![256, 128] h)) r) ((View.ld x5 (Rect.unit ![0, o, 0] ![1, 256, 1] h5)) (ix3 0 r 0)) j
      = bds x0 x1 x2 x3 x4 x5 ⟨o + r, lt_of_rect h r⟩ j := by
  rw [row_ld_q, row_ld_g, row_ld_g, lse_ld x5 o h5 r (lt_of_rect h r)]

theorem kChunk :
    (∑ r : Fin 256, ds kc ks (row (View.ld x0 (Rect.unit ![o, 0] ![256, 256] h0)) r) (row x1) (row x2) (row (View.ld x4 (Rect.unit ![o, 0] ![256, 128] h)) r)
        (row (View.ld x3 (Rect.unit ![o, 0] ![256, 128] h)) r) ((View.ld x5 (Rect.unit ![0, o, 0] ![1, 256, 1] h5)) (ix3 0 r 0)) j
        * row (View.ld x0 (Rect.unit ![o, 0] ![256, 256] h0)) r d)
      = ∑ r : Fin 256, bds x0 x1 x2 x3 x4 x5 ⟨o + r, lt_of_rect h r⟩ j * row x0 ⟨o + r, lt_of_rect h r⟩ d :=
  Finset.sum_congr rfl fun r _ => by rw [dsChunk, row_ld_q]

theorem qChunk (r : Fin 256) :
    (∑ j : Fin 4096, ds kc ks (row (View.ld x0 (Rect.unit ![o, 0] ![256, 256] h0)) r) (row x1) (row x2) (row (View.ld x4 (Rect.unit ![o, 0] ![256, 128] h)) r)
        (row (View.ld x3 (Rect.unit ![o, 0] ![256, 128] h)) r) ((View.ld x5 (Rect.unit ![0, o, 0] ![1, 256, 1] h5)) (ix3 0 r 0)) j
        * row x1 j d)
      = ∑ j : Fin 4096, bds x0 x1 x2 x3 x4 x5 ⟨o + r, lt_of_rect h r⟩ j * row x1 j d :=
  Finset.sum_congr rfl fun j _ => by rw [dsChunk]

theorem qPart_at (y : S1024x256.Idx) (x : S256x256.Idx) (e0 : ((y 0 : Fin 1024) : ℕ) = o + (x 0 : Fin 256)) (e1 : ((y 1 : Fin 256) : ℕ) = (x 1 : Fin 256)) :
    (∑ j : Fin 4096, ds kc ks (row (View.ld x0 (Rect.unit ![o, 0] ![256, 256] h0)) (x 0)) (row x1) (row x2) (row (View.ld x4 (Rect.unit ![o, 0] ![256, 128] h)) (x 0))
        (row (View.ld x3 (Rect.unit ![o, 0] ![256, 128] h)) (x 0)) ((View.ld x5 (Rect.unit ![0, o, 0] ![1, 256, 1] h5)) (ix3 0 (x 0) 0)) j
        * row x1 j (x 1))
      = qPart x0 x1 x2 x3 x4 x5 y := by
  refine (qChunk x0 x1 x2 x3 x4 x5 h0 h h5 (x 1) (x 0)).trans ?_
  have f0 : y 0 = ⟨o + (x 0 : Fin 256), lt_of_rect h (x 0)⟩ := Fin.ext e0
  have f1 : y 1 = x 1 := Fin.ext e1
  rw [qPart, f0, f1]
  rfl
end

section
variable (V : (c : Dev nD) → (b : Ref sig .tc) → Buf (Elt Ideal) ((c : Thread nD τ).loc b)) (c : Dev nD)

abbrev kPt (t : Fin cfg1.N) : S4096x256.Idx → EReal :=
  kPart (iblk1 V c 0 t) (iblk1 V c 1 t) (iblk1 V c 2 t) (iblk1 V c 3 t) (iblk1 V c 4 t) (iblk1 V c 5 t)
abbrev vPt (t : Fin cfg1.N) : S4096x128.Idx → EReal :=
  vPart (iblk1 V c 0 t) (iblk1 V c 1 t) (iblk1 V c 4 t) (iblk1 V c 5 t)
abbrev qPt (t : Fin cfg1.N) : S1024x256.Idx → EReal :=
  qPart (iblk1 V c 0 t) (iblk1 V c 1 t) (iblk1 V c 2 t) (iblk1 V c 3 t) (iblk1 V c 4 t) (iblk1 V c 5 t)

/-- The values' gradient after a grid point: the point's part added to zero at a group's first point, to what stood
there otherwise. -/
theorem stepA8 (t : Fin cfg1.N) (h : t.val % 4 = 0) (y : S4096x128.Idx) :
    (outsAt1 V c t.val t.isLt).2.2 y = 0 + vPt V c t y := by
  rw [outsAt1_A V c t h]
  frame_out
  rw [dv38, dv30, dv22, dv13, zero6, vPt, vPart, split4]
  exact congrArg₂ _ (congrArg₂ _ (congrArg₂ _ (congrArg _ (vChunk _ _ _ _ _ _ _ _ _)) (vChunk _ _ _ _ _ _ _ _ _)) (vChunk _ _ _ _ _ _ _ _ _)) (vChunk _ _ _ _ _ _ _ _ _)

theorem stepB8 (t : Fin cfg1.N) (h : ¬t.val % 4 = 0) (y : S4096x128.Idx) :
    (outsAt1 V c t.val t.isLt).2.2 y
      = (outsAt1 V c (t.val - 1) (Nat.lt_of_le_of_lt (Nat.sub_le _ _) t.isLt)).2.2 y + vPt V c t y := by
  rw [outsAt1_B V c t h]
  frame_out
  rw [dv38, dv30, dv22, dv13, vPt, vPart, split4]
  exact congrArg₂ _ (congrArg₂ _ (congrArg₂ _ (congrArg _ (vChunk _ _ _ _ _ _ _ _ _)) (vChunk _ _ _ _ _ _ _ _ _)) (vChunk _ _ _ _ _ _ _ _ _)) (vChunk _ _ _ _ _ _ _ _ _)

/-- The same for the keys' gradient. -/
theorem stepA7 (t : Fin cfg1.N) (h : t.val % 4 = 0) (y : S4096x256.Idx) :
    (outsAt1 V c t.val t.isLt).2.1 y = 0 + kPt V c t y := by
  rw [outsAt1_A V c t h]
  frame_out
  rw [dk1, dk31, dk23, dk14, zero5, kPt, kPart, split4]
  exact congrArg₂ _ (congrArg₂ _ (congrArg₂ _ (congrArg _ (kChunk _ _ _ _ _ _ _ _ _ _ _)) (kChunk _ _ _ _ _ _ _ _ _ _ _)) (kChunk _ _ _ _ _ _ _ _ _ _ _)) (kChunk _ _ _ _ _ _ _ _ _ _ _)

theorem stepB7 (t : Fin cfg1.N) (h : ¬t.val % 4 = 0) (y : S4096x256.Idx) :
    (outsAt1 V c t.val t.isLt).2.1 y
      = (outsAt1 V c (t.val - 1) (Nat.lt_of_le_of_lt (Nat.sub_le _ _) t.isLt)).2.1 y + kPt V c t y := by
  rw [outsAt1_B V c t h]
  frame_out
  rw [dk1, dk31, dk23, dk14, kPt, kPart, split4]
  exact congrArg₂ _ (congrArg₂ _ (congrArg₂ _ (congrArg _ (kChunk _ _ _ _ _ _ _ _ _ _ _)) (kChunk _ _ _ _ _ _ _ _ _ _ _)) (kChunk _ _ _ _ _ _ _ _ _ _ _)) (kChunk _ _ _ _ _ _ _ _ _ _ _)

/-- The queries' gradient that a grid point stores. -/
theorem step6 (t : Fin cfg1.N) (y : S1024x256.Idx) : (outsAt1 V c t.val t.isLt).1 y = qPt V c t y := by
  by_cases h : t.val % 4 = 0
  · rw [outsAt1_A V c t h]
    frame_out
    canon_tiles x e
    · exact (dq2 _ _ _ _ _ _ _).trans (qPart_at _ _ _ _ _ _ _ _ _ y x e0 e1)
    · exact (dq32 _ _ _ _ _ _ _).trans (qPart_at _ _ _ _ _ _ _ _ _ y x e0 e1)
    · exact (dq24 _ _ _ _ _ _ _).trans (qPart_at _ _ _ _ _ _ _ _ _ y x e0 e1)
    · exact (dq15 _ _ _ _ _ _ _).trans (qPart_at _ _ _ _ _ _ _ _ _ y x (e0.trans (Nat.zero_add _).symm) e1)
  · rw [outsAt1_B V c t h]
    frame_out
    canon_tiles x e
    · exact (dq2 _ _ _ _ _ _ _).trans (qPart_at _ _ _ _ _ _ _ _ _ y x e0 e1)
    · exact (dq32 _ _ _ _ _ _ _).trans (qPart_at _ _ _ _ _ _ _ _ _ y x e0 e1)
    · exact (dq24 _ _ _ _ _ _ _).trans (qPart_at _ _ _ _ _ _ _ _ _ y x e0 e1)
    · exact (dq15 _ _ _ _ _ _ _).trans (qPart_at _ _ _ _ _ _ _ _ _ y x (e0.trans (Nat.zero_add _).symm) e1)

end
end Cert.FlaAEq
end
-- ==== Proof.FlaAGrads.lean ====
module

public import proofs.«01_k».proof.Proof.FlaABwd
public import proofs.«01_k».proof.Proof.Gen.FlaAKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FlaAEq

open Cert.FlaAKIdeal Cert.FlaAKIdeal.Gen Cert.Reals Cert.Attn

/-- The block indices of the backward call's windows. -/
theorem idx1 : ∀ t : Fin cfg1.N,
    win1_0.index t = ![t.val % 4, t.val / 4] ∧ win1_1.index t = ![0, t.val / 4] ∧ win1_2.index t = ![0, 2 * (t.val / 4) + 1]
      ∧ win1_3.index t = ![t.val % 4, t.val / 4] ∧ win1_4.index t = ![t.val % 4, t.val / 4] ∧ win1_5.index t = ![t.val / 4, t.val % 4, 0]
      ∧ win1_6.index t = ![t.val % 4, t.val / 4] ∧ win1_7.index t = ![0, t.val / 4] ∧ win1_8.index t = ![0, t.val / 4] :=
  (by decide +kernel : ∀ t : Fin grid1.N, _)

/-- The head of a key's column, and the column inside it. -/
abbrev hk (x : Fin 1024) : Fin 4 := ⟨x / 256, by have := x.isLt; omega⟩
abbrev lk (x : Fin 1024) : Fin 256 := ⟨x % 256, by omega⟩

theorem hk_of {x : Fin 1024} {h : ℕ} {d : Fin 256} (e : (x : ℕ) = h * 256 + d) : (hk x : ℕ) = h := by
  have := d.isLt; show (x : ℕ) / 256 = h; omega

theorem lk_of {x : Fin 1024} {h : ℕ} {d : Fin 256} (e : (x : ℕ) = h * 256 + d) : lk x = d := by
  have := d.isLt; exact Fin.ext (by show (x : ℕ) % 256 = d; omega)

/-- Four grid points' parts, of 1024 rows each, are the sum over all rows. -/
theorem run4 (F : Fin 4096 → EReal) (T : Fin 4 → EReal)
    (hT : ∀ s : Fin 4, T s = ∑ r : Fin 1024, F ⟨s * 1024 + r, by omega⟩) : ∑ s, T s = ∑ r : Fin 4096, F r := by
  rw [Fin.sum_univ_tiles 4 1024 rfl F]
  exact Finset.sum_congr rfl fun i _ => (hT i).trans (Finset.sum_congr rfl fun r _ => congrArg F (Fin.ext (by simp)))

section
variable (V : (c : Dev nD) → (b : Ref sig .tc) → Buf (Elt Ideal) ((c : Thread nD τ).loc b)) (c : Dev nD)
  (Q K W : S4096x1024.Idx → EReal) (O G : S4096x512.Idx → EReal) (Z : S4x4096x128.Idx → EReal)

/-- The gradient of the scores, and the probability, of head `h` at query `i` and key `j`. -/
abbrev DS (h : Fin 4) (i j : Fin 4096) : EReal :=
  ds kc ks (qh Q h i) (qh K h) (vh W h) (oh G h i) (oh O h i) (Z (ix3 h i 0)) j
abbrev PR (h : Fin 4) (i j : Fin 4096) : EReal := pr kc (qh Q h i) (qh K h) (Z (ix3 h i 0)) j

section
variable (t : Fin cfg1.N) (r : Fin 1024) (h : Fin 4) (i : Fin 4096)

theorem blk1_q (hQ : V c main_v3 = Q) (eh : (h : ℕ) = t.val / 4) (ei : (i : ℕ) = t.val % 4 * 1024 + r) :
    row (iblk1 V c 0 t : Vec Ideal S1024x256 .bf16) r = qh Q h i := by
  funext x
  simp only [row]
  blk_point [iblk1, hQ, idx1 t]

theorem blk1_k (hK : V c main_v7 = K) (eh : (h : ℕ) = t.val / 4) : row (iblk1 V c 1 t : Vec Ideal S4096x256 .bf16) = qh K h := by
  funext j x
  simp only [row]
  blk_point [iblk1, hK, idx1 t]

theorem blk1_v (hW : V c main_v12 = W) (eh : (h : ℕ) = t.val / 4) : row (iblk1 V c 2 t : Vec Ideal S4096x128 .bf16) = vh W h := by
  funext j x
  simp only [row]
  blk_point [iblk1, hW, idx1 t]

theorem blk1_o (hO : V c main_v13_0 = O) (eh : (h : ℕ) = t.val / 4) (ei : (i : ℕ) = t.val % 4 * 1024 + r) :
    row (iblk1 V c 3 t : Vec Ideal S1024x128 .f32) r = oh O h i := by
  funext x
  simp only [row]
  blk_point [iblk1, hO, idx1 t]

theorem blk1_g (hG : V c main_v14 = G) (eh : (h : ℕ) = t.val / 4) (ei : (i : ℕ) = t.val % 4 * 1024 + r) :
    row (iblk1 V c 4 t : Vec Ideal S1024x128 .f32) r = oh G h i := by
  funext x
  simp only [row]
  blk_point [iblk1, hG, idx1 t]

theorem blk1_z (hZ : V c main_v13_1 = Z) (eh : (h : ℕ) = t.val / 4) (ei : (i : ℕ) = t.val % 4 * 1024 + r) :
    (iblk1 V c 5 t : Vec Ideal S1x1024x128 .f32) (ix3 0 r 0) = Z (ix3 h i 0) := by
  blk_point [iblk1, hZ, idx1 t]

theorem bds_eq (hQ : V c main_v3 = Q) (hK : V c main_v7 = K) (hW : V c main_v12 = W) (hO : V c main_v13_0 = O) (hG : V c main_v14 = G)
    (hZ : V c main_v13_1 = Z) (eh : (h : ℕ) = t.val / 4) (ei : (i : ℕ) = t.val % 4 * 1024 + r) (j : Fin 4096) :
    bds (iblk1 V c 0 t) (iblk1 V c 1 t) (iblk1 V c 2 t) (iblk1 V c 3 t) (iblk1 V c 4 t) (iblk1 V c 5 t) r j = DS Q K W O G Z h i j := by
  rw [bds, blk1_q V c Q t r h i hQ eh ei, blk1_k V c K t h hK eh, blk1_v V c W t h hW eh, blk1_o V c O t r h i hO eh ei,
    blk1_g V c G t r h i hG eh ei, blk1_z V c Z t r h i hZ eh ei]

theorem bpr_eq (hQ : V c main_v3 = Q) (hK : V c main_v7 = K)
    (hZ : V c main_v13_1 = Z) (eh : (h : ℕ) = t.val / 4) (ei : (i : ℕ) = t.val % 4 * 1024 + r) (j : Fin 4096) :
    bpr (iblk1 V c 0 t) (iblk1 V c 1 t) (iblk1 V c 5 t) r j = PR Q K Z h i j := by
  rw [bpr, blk1_q V c Q t r h i hQ eh ei, blk1_k V c K t h hK eh, blk1_z V c Z t r h i hZ eh ei]

end

section
variable (t : Fin cfg1.N) (i0 : Fin 4096) (p : Fin 4 → Fin cfg1.N) (hp : ∀ s, (p s : ℕ) = 4 * (t.val / 4) + s)
  (hQ : V c main_v3 = Q) (hK : V c main_v7 = K) (hW : V c main_v12 = W) (hO : V c main_v13_0 = O) (hG : V c main_v14 = G)
  (hZ : V c main_v13_1 = Z)
include hQ hK hZ

include hW hO hG in
/-- What a point stores of the queries' gradient, at its place in the array. -/
theorem dq_point (x : Fin 1024) (y : S1024x256.Idx) (e0 : (i0 : ℕ) = t.val % 4 * 1024 + (y 0 : Fin 1024))
    (e1 : (x : ℕ) = t.val / 4 * 256 + (y 1 : Fin 256)) :
    qPt V c t y = ∑ j : Fin 4096, DS Q K W O G Z (hk x) i0 j * qh K (hk x) j (lk x) := by
  refine Finset.sum_congr rfl fun j _ => ?_
  rw [lk_of e1]
  exact congrArg₂ (fun a b : EReal => a * b) (bds_eq V c Q K W O G Z t _ _ _ hQ hK hW hO hG hZ (hk_of e1) e0 j)
    (congrFun (congrFun (blk1_k V c K t (hk x) hK (hk_of e1)) j) _)

include hp

include hW hO hG in
/-- What a group's twelve points add up to, of the keys' gradient. -/
theorem dk_point (x : Fin 1024) (y : S4096x256.Idx) (e0 : (i0 : ℕ) = (y 0 : Fin 4096)) (e1 : (x : ℕ) = t.val / 4 * 256 + (y 1 : Fin 256)) :
    ∑ s, kPt V c (p s) y = ∑ r : Fin 4096, DS Q K W O G Z (hk x) r i0 * qh Q (hk x) r (lk x) := by
  refine run4 (fun r => DS Q K W O G Z (hk x) r i0 * qh Q (hk x) r (lk x)) _ fun s => Finset.sum_congr rfl fun r _ => ?_
  have hs := hp s
  have eh : (hk x : ℕ) = (p s).val / 4 := (hk_of e1).trans (by omega)
  have er : (s : ℕ) * 1024 + r = (p s).val % 4 * 1024 + r := by omega
  have ed : y 1 = lk x := (lk_of e1).symm
  have ej : y 0 = i0 := Fin.ext e0.symm
  exact congrArg₂ (fun a b : EReal => a * b) ((bds_eq V c Q K W O G Z (p s) r _ _ hQ hK hW hO hG hZ eh er (y 0)).trans (by rw [ej]))
    ((congrFun (blk1_q V c Q (p s) r _ _ hQ eh er) (y 1)).trans (by rw [ed]))

include hG in
/-- The same of the values' gradient. -/
theorem dv_point (x : Fin 512) (y : S4096x128.Idx) (e0 : (i0 : ℕ) = (y 0 : Fin 4096)) (e1 : (x : ℕ) = t.val / 4 * 128 + (y 1 : Fin 128)) :
    ∑ s, vPt V c (p s) y = ∑ r : Fin 4096, PR Q K Z (hd x) r i0 * oh G (hd x) r (ln x) := by
  refine run4 (fun r => PR Q K Z (hd x) r i0 * oh G (hd x) r (ln x)) _ fun s => Finset.sum_congr rfl fun r _ => ?_
  have hs := hp s
  have eh : (hd x : ℕ) = (p s).val / 4 := (hd_of e1).trans (by omega)
  have er : (s : ℕ) * 1024 + r = (p s).val % 4 * 1024 + r := by omega
  have ed : y 1 = ln x := (ln_of e1).symm
  have ej : y 0 = i0 := Fin.ext e0.symm
  exact congrArg₂ (fun a b : EReal => a * b) ((bpr_eq V c Q K Z (p s) r _ _ hQ hK hZ eh er (y 0)).trans (by rw [ej]))
    ((congrFun (blk1_g V c G (p s) r _ _ hG eh er) (y 1)).trans (by rw [ed]))

end

variable (hQ : V c main_v3 = Q) (hK : V c main_v7 = K) (hW : V c main_v12 = W) (hO : V c main_v13_0 = O) (hG : V c main_v14 = G)
    (hZ : V c main_v13_1 = Z)
include hQ hK hG hZ

include hW hO in
theorem bwd_dq : (dat1 V c).arrAt 6 cfg1.N
    = ((fun i => ∑ j : Fin 4096, DS Q K W O G Z (hk (i 1)) (i 0) j * qh K (hk (i 1)) j (lk (i 1))) : S4096x1024.Idx → EReal) := by
  refine (dat1 V c).arrAt_eq_of_covers 6 _ (by decide +kernel) fun t _ y => ?_
  blk_simp
  have e0 : (((win1_6.blk t).view.emb y 0 : Fin 4096) : ℕ) = t.val % 4 * 1024 + (y 0 : Fin 1024) := by blk_simp [idx1 t]
  have e1 : (((win1_6.blk t).view.emb y 1 : Fin 1024) : ℕ) = t.val / 4 * 256 + (y 1 : Fin 256) := by blk_simp [idx1 t]
  rw [after1_6, step6]
  exact dq_point V c Q K W O G Z t _ hQ hK hW hO hG hZ _ y e0 e1

include hW hO in
theorem bwd_dk : (dat1 V c).arrAt 7 cfg1.N
    = ((fun i => ∑ r : Fin 4096, DS Q K W O G Z (hk (i 1)) r (i 0) * qh Q (hk (i 1)) r (lk (i 1))) : S4096x1024.Idx → EReal) := by
  refine (dat1 V c).arrAt_eq_of_covers 7 _ (by decide +kernel) fun t hf y => ?_
  blk_simp
  have e0 : (((win1_7.blk t).view.emb y 0 : Fin 4096) : ℕ) = (y 0 : Fin 4096) := by blk_simp [idx1 t]
  have e1 : (((win1_7.blk t).view.emb y 1 : Fin 1024) : ℕ) = t.val / 4 * 256 + (y 1 : Fin 256) := by blk_simp [idx1 t]
  rw [after1_7, Pipeline.eq_sum_fin_of_reset_step_apply_of_flush (fun n h => (outsAt1 V c n h).2.1) 4 (fun _ => 0) (kPt V c)
    (stepA7 V c) (stepB7 V c) t ((flush1_7 t).mp hf) _, zero_add]
  exact dk_point V c Q K W O G Z t _ _ (fun s => rfl) hQ hK hW hO hG hZ _ y e0 e1

theorem bwd_dv : (dat1 V c).arrAt 8 cfg1.N
    = ((fun i => ∑ r : Fin 4096, PR Q K Z (hd (i 1)) r (i 0) * oh G (hd (i 1)) r (ln (i 1))) : S4096x512.Idx → EReal) := by
  refine (dat1 V c).arrAt_eq_of_covers 8 _ (by decide +kernel) fun t hf y => ?_
  blk_simp
  have e0 : (((win1_8.blk t).view.emb y 0 : Fin 4096) : ℕ) = (y 0 : Fin 4096) := by blk_simp [idx1 t]
  have e1 : (((win1_8.blk t).view.emb y 1 : Fin 512) : ℕ) = t.val / 4 * 128 + (y 1 : Fin 128) := by blk_simp [idx1 t]
  rw [after1_8, Pipeline.eq_sum_fin_of_reset_step_apply_of_flush (fun n h => (outsAt1 V c n h).2.2) 4 (fun _ => 0) (vPt V c)
    (stepA8 V c) (stepB8 V c) t ((flush1_8 t).mp hf) _, zero_add]
  exact dv_point V c Q K G Z t _ _ (fun s => rfl) hQ hK hG hZ _ y e0 e1

end
end Cert.FlaAEq
end
-- ==== Proof.FlaARead.lean ====
module

public import proofs.«01_k».proof.Proof.FlaAGrads
public import proofs.«01_k».proof.Proof.Gen.FlaAKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FlaAEq

open Cert.FlaAKIdeal Cert.FlaAKIdeal.Gen Cert.Reals Cert.Attn

/-- A head's row of 192 entries with 64 zeros behind it. -/
def pd {α : Type} [Zero α] (f : Fin 192 → α) (x : Fin 256) : α := if h : (x : ℕ) < 192 then f ⟨x, h⟩ else 0

/-- The integer zero read as a number is zero. -/
theorem zero_word : (FloatOps.sitofp (F := Ideal) FTy.f32 (0#32 : BitVec 32) : EReal) = 0 := by
  show ((((0#32 : BitVec 32).toInt : ℝ)) : EReal) = 0
  simp

/-- The heads' rows, padded, as columns of a matrix. -/
abbrev padded (x : S4096x4x192.Idx → EReal) (z : IVec S_ 32) : S4096x1024.Idx → EReal :=
  shapeCast S4096x1024 (pad S4096x4x256 ![0, 0, 0] ![0, 0, 64] ![0, 0, 0] x (sitofp (F := Ideal) FTy.f32 z : S_.Idx → EReal)
    pads_S4096x4x192_S4096x4x256_000_000_0640 h_S_) shapeCasts_S4096x4x256_S4096x1024

theorem rd_p (a : S4096x4x192.Idx → EReal) (h : Fin 4) (i : Fin 4096) (x : Fin 256) (z : Fin 1024) (hz : (z : ℕ) = h * 256 + x) :
    padded a (constantI S_ 32 0#32) (ix2 i z) = pd (fun d => a (ix3 i h d)) x := by
  have hi := i.isLt
  have hh := h.isLt
  have hx := x.isLt
  refine (shapeCast_apply _ _ _ (ix3 i h x) ?_).trans ?_
  · rw [Shape.rowMajor_val_three, Shape.rowMajor_val_two]
    show ((i : ℕ) * 4 + (h : ℕ)) * 256 + (x : ℕ) = (i : ℕ) * 1024 + (z : ℕ)
    omega
  · unfold pd
    pointwise []
    split
    · rfl
    · exact zero_word

/-- The values' columns: 128 zeros before each head's row. -/
abbrev behind (a : S1x4096x4x128.Idx → EReal) : S4096x1024.Idx → EReal :=
  shapeCast S4096x1024 (concatenate S4096x4x256 2
    [⟨S4096x4x128, broadcastInDim S4096x4x128 ![] bcast_S_S4096x4x128 (constant (F := Ideal) S_ FTy.f32 0#32)⟩,
     ⟨S4096x4x128, shapeCast S4096x4x128 a shapeCasts_S1x4096x4x128_S4096x4x128⟩]
    concatenates_S4096x4x128_S4096x4x128_S4096x4x256_d2) shapeCasts_S4096x4x256_S4096x1024

theorem rd_w (a : S1x4096x4x128.Idx → EReal) (h : Fin 4) (j : Fin 4096) (x : Fin 128) (z : Fin 1024) (hz : (z : ℕ) = (2 * h + 1) * 128 + x) :
    behind a (ix2 j z) = a (ix4 0 j h x) := by
  have hj := j.isLt
  have hh := h.isLt
  have hx := x.isLt
  refine (shapeCast_apply _ _ _ (ix3 j h (⟨128 + x, by omega⟩ : Fin 256)) ?_).trans ?_
  · rw [Shape.rowMajor_val_three, Shape.rowMajor_val_two]
    show ((j : ℕ) * 4 + (h : ℕ)) * 256 + (128 + (x : ℕ)) = (j : ℕ) * 1024 + (z : ℕ)
    omega
  · refine (concatenate_pair_apply_right (t := S4096x4x256) (s₁ := S4096x4x128) (s₂ := S4096x4x128) 2 _ _ _ _ rfl rfl (ix3 j h x) ?_ ?_).trans ?_
    · intro b hb
      fin_cases b <;> first | rfl | exact absurd rfl hb
    · show (x : ℕ) + 128 = 128 + (x : ℕ)
      omega
    · pointwise []

theorem rd_q (a : S1x4096x4x1x192.Idx → EReal) (i : Fin 4096) (h : Fin 4) (d : Fin 192) :
    shapeCast S4096x4x192 a shapeCasts_S1x4096x4x1x192_S4096x4x192 (ix3 i h d) = a (ix5 0 i h 0 d) := by
  refine shapeCast_apply a _ _ _ ?_
  rw [Shape.rowMajor_val_five, Shape.rowMajor_val_three]
  show (((0 * 4096 + (i : ℕ)) * 4 + (h : ℕ)) * 1 + 0) * 192 + (d : ℕ) = ((i : ℕ) * 4 + (h : ℕ)) * 192 + (d : ℕ)
  omega

theorem rd_k (a : S1x4096x4x192.Idx → EReal) (i : Fin 4096) (h : Fin 4) (d : Fin 192) :
    shapeCast S4096x4x192 a shapeCasts_S1x4096x4x192_S4096x4x192 (ix3 i h d) = a (ix4 0 i h d) := by
  refine shapeCast_apply a _ _ _ ?_
  rw [Shape.rowMajor_val_four, Shape.rowMajor_val_three]
  show ((0 * 4096 + (i : ℕ)) * 4 + (h : ℕ)) * 192 + (d : ℕ) = ((i : ℕ) * 4 + (h : ℕ)) * 192 + (d : ℕ)
  omega

theorem rd_g (a : S1x4096x4x1x128.Idx → EReal) (i : Fin 4096) (h : Fin 4) (x : Fin 128) (z : Fin 512) (hz : (z : ℕ) = h * 128 + x) :
    shapeCast S4096x512 a shapeCasts_S1x4096x4x1x128_S4096x512 (ix2 i z) = a (ix5 0 i h 0 x) := by
  have hh := h.isLt
  have hx := x.isLt
  refine shapeCast_apply a _ _ _ ?_
  rw [Shape.rowMajor_val_five, Shape.rowMajor_val_two]
  show (((0 * 4096 + (i : ℕ)) * 4 + (h : ℕ)) * 1 + 0) * 128 + (x : ℕ) = (i : ℕ) * 512 + (z : ℕ)
  omega

/-! ## What each stretch of host lines writes -/

section
variable (X : Valuation τ sig (Elt Ideal))

theorem s0 : StableHlo.after hostOps0 X (Proc.devRef .tc main_v0)
    = shapeCast S4096x4x192 (X (Proc.devRef .tc main_arg0) : S1x4096x4x1x192.Idx → EReal) shapeCasts_S1x4096x4x1x192_S4096x4x192 := by
  after_results_simp
  rfl
theorem s0c : StableHlo.after hostOps0 X (Proc.devRef .tc main_c) = constantI S_ 32 0#32 := by after_results_simp
theorem s2 : StableHlo.after hostOps0_2 (StableHlo.after hostOps0_1 X) (Proc.devRef .tc main_v3)
    = padded (X (Proc.devRef .tc main_v0)) (X (Proc.devRef .tc main_c)) := by
  after_results_simp
  rfl
theorem s2k : StableHlo.after hostOps0_2 X (Proc.devRef .tc main_v4)
    = shapeCast S4096x4x192 (X (Proc.devRef .tc main_arg1) : S1x4096x4x192.Idx → EReal) shapeCasts_S1x4096x4x192_S4096x4x192 := by
  after_results_simp
  rfl
theorem s2c : StableHlo.after hostOps0_2 X (Proc.devRef .tc main_c_0) = constantI S_ 32 0#32 := by after_results_simp
theorem s4 : StableHlo.after hostOps0_4 (StableHlo.after hostOps0_3 X) (Proc.devRef .tc main_v7)
    = padded (X (Proc.devRef .tc main_v4)) (X (Proc.devRef .tc main_c_0)) := by
  after_results_simp
  rfl
theorem s4w : StableHlo.after hostOps0_4 X (Proc.devRef .tc main_v12) = behind (X (Proc.devRef .tc main_arg2)) := by
  after_results_simp
  rfl
theorem s6 : StableHlo.after hostOps1 X (Proc.devRef .tc main_v14)
    = shapeCast S4096x512 (X (Proc.devRef .tc main_arg3) : S1x4096x4x1x128.Idx → EReal) shapeCasts_S1x4096x4x1x128_S4096x512 := by
  after_results_simp
  rfl
end

variable (m : (ℓ : Loc nD τ sig) → Buf (Elt Ideal) ℓ) (ρ : Dev nD → PrngReg) (c : Dev nD)

abbrev a0 : S1x4096x4x1x192.Idx → EReal := m ((c.tc : Thread nD τ).loc main_arg0)
abbrev a1 : S1x4096x4x192.Idx → EReal := m ((c.tc : Thread nD τ).loc main_arg1)
abbrev a2 : S1x4096x4x128.Idx → EReal := m ((c.tc : Thread nD τ).loc main_arg2)
abbrev a3 : S1x4096x4x1x128.Idx → EReal := m ((c.tc : Thread nD τ).loc main_arg3)

/-- The arrays the two calls read, from the arguments. -/
abbrev QA : S4096x1024.Idx → EReal := padded (shapeCast S4096x4x192 (a0 m c) shapeCasts_S1x4096x4x1x192_S4096x4x192) (constantI S_ 32 0#32)
abbrev KA : S4096x1024.Idx → EReal := padded (shapeCast S4096x4x192 (a1 m c) shapeCasts_S1x4096x4x192_S4096x4x192) (constantI S_ 32 0#32)
abbrev WA : S4096x1024.Idx → EReal := behind (a2 m c)
abbrev GA : S4096x512.Idx → EReal := shapeCast S4096x512 (a3 m c) shapeCasts_S1x4096x4x1x128_S4096x512

theorem v5_q : V5 m ρ c main_v3 = QA m c := by
  refine ((W5_of m ρ c main_v3 (by decide)).trans (W4_of m ρ c main_v3 (by decide))).trans ((s2 (W1 m ρ c)).trans ?_)
  exact congrArg₂ padded (s0 (W0 m ρ c)) (s0c (W0 m ρ c))
theorem v5_k : V5 m ρ c main_v7 = KA m c := by
  refine (s4 (W3 m ρ c)).trans (congrArg₂ padded ((s2k (W2 m ρ c)).trans ?_) (s2c (W2 m ρ c)))
  exact congrArg (fun z => shapeCast S4096x4x192 z shapeCasts_S1x4096x4x192_S4096x4x192) (W2_args m ρ c main_arg1 (by decide))
theorem v5_w : V5 m ρ c main_v12 = WA m c :=
  (s4w (W4 m ρ c)).trans (congrArg behind (W4_args m ρ c main_arg2 (by decide)))

theorem v7_q : V7 m ρ c main_v3 = QA m c :=
  ((W7_of m ρ c main_v3 (by decide)).trans (W6_of m ρ c main_v3 (by decide))).trans (v5_q m ρ c)
theorem v7_k : V7 m ρ c main_v7 = KA m c :=
  ((W7_of m ρ c main_v7 (by decide)).trans (W6_of m ρ c main_v7 (by decide))).trans (v5_k m ρ c)
theorem v7_w : V7 m ρ c main_v12 = WA m c :=
  ((W7_of m ρ c main_v12 (by decide)).trans (W6_of m ρ c main_v12 (by decide))).trans (v5_w m ρ c)
theorem v7_g : V7 m ρ c main_v14 = GA m c :=
  (s6 (W6 m ρ c)).trans (congrArg (fun z => shapeCast S4096x512 z shapeCasts_S1x4096x4x1x128_S4096x512) (W6_args m ρ c main_arg3 (by decide)))
theorem v7_o : V7 m ρ c main_v13_0 = ((fun i => out kc (qh (QA m c) (hd (i 1)) (i 0)) (qh (KA m c) (hd (i 1))) (vh (WA m c) (hd (i 1))) (ln (i 1))) : S4096x512.Idx → EReal) :=
  ((W7_of m ρ c main_v13_0 (by decide)).trans (W6_arr m ρ c 3)).trans
    (fwd_out (V5 m ρ) c _ _ _ (v5_q m ρ c) (v5_k m ρ c) (v5_w m ρ c))
theorem v7_z : V7 m ρ c main_v13_1 = ((fun i => lse kc kl (qh (QA m c) (i 0) (i 1)) (qh (KA m c) (i 0))) : S4x4096x128.Idx → EReal) :=
  ((W7_of m ρ c main_v13_1 (by decide)).trans (W6_arr m ρ c 4)).trans
    (fwd_lse (V5 m ρ) c _ _ (v5_q m ρ c) (v5_k m ρ c))

/-- One head's rows of the four arguments. -/
abbrev hQ {α : Type} [Zero α] (q : S1x4096x4x1x192.Idx → α) (h : Fin 4) (i : Fin 4096) : Fin 256 → α := pd fun x => q (ix5 0 i h 0 x)
abbrev hK {α : Type} [Zero α] (k : S1x4096x4x192.Idx → α) (h : Fin 4) (j : Fin 4096) : Fin 256 → α := pd fun x => k (ix4 0 j h x)
abbrev hW {α : Type} (w : S1x4096x4x128.Idx → α) (h : Fin 4) (j : Fin 4096) (x : Fin 128) : α := w (ix4 0 j h x)
abbrev hG {α : Type} (g : S1x4096x4x1x128.Idx → α) (h : Fin 4) (i : Fin 4096) (x : Fin 128) : α := g (ix5 0 i h 0 x)

theorem qh_QA (h : Fin 4) (i : Fin 4096) : qh (QA m c) h i = hQ (a0 m c) h i := by
  refine funext fun x => (rd_p _ h i x _ rfl).trans (congrArg (fun f => pd f x) (funext fun d => rd_q _ i h d))
theorem qh_KA (h : Fin 4) : qh (KA m c) h = hK (a1 m c) h := by
  refine funext fun j => funext fun x => (rd_p _ h j x _ rfl).trans (congrArg (fun f => pd f x) (funext fun d => rd_k _ j h d))
theorem vh_WA (h : Fin 4) : vh (WA m c) h = hW (a2 m c) h := funext fun j => funext fun x => rd_w _ h j x _ rfl
theorem oh_GA (h : Fin 4) (i : Fin 4096) : oh (GA m c) h i = hG (a3 m c) h i := funext fun x => rd_g _ i h x _ rfl

/-- The gradient of one score and the probability, from the arguments. -/
abbrev kDS (q : S1x4096x4x1x192.Idx → EReal) (k : S1x4096x4x192.Idx → EReal) (w : S1x4096x4x128.Idx → EReal) (g : S1x4096x4x1x128.Idx → EReal)
    (h : Fin 4) (i j : Fin 4096) : EReal :=
  ds kc ks (hQ q h i) (hK k h) (hW w h) (hG g h i) (out kc (hQ q h i) (hK k h) (hW w h)) (lse kc kl (hQ q h i) (hK k h)) j
abbrev kPR (q : S1x4096x4x1x192.Idx → EReal) (k : S1x4096x4x192.Idx → EReal) (h : Fin 4) (i j : Fin 4096) : EReal :=
  pr kc (hQ q h i) (hK k h) (lse kc kl (hQ q h i) (hK k h)) j

theorem z_args (h : Fin 4) (i : Fin 4096) : V7 m ρ c main_v13_1 (ix3 h i 0) = lse kc kl (hQ (a0 m c) h i) (hK (a1 m c) h) := by
  rw [v7_z, ← qh_QA, ← qh_KA]
  rfl

theorem ds_args (h : Fin 4) (i j : Fin 4096) :
    DS (QA m c) (KA m c) (WA m c) (V7 m ρ c main_v13_0) (GA m c) (V7 m ρ c main_v13_1) h i j
      = kDS (a0 m c) (a1 m c) (a2 m c) (a3 m c) h i j := by
  have ho : oh (V7 m ρ c main_v13_0) h i = out kc (qh (QA m c) h i) (qh (KA m c) h) (vh (WA m c) h) := by
    rw [v7_o]
    funext x
    have e : ∀ (f : Fin 4) (g : Fin 128), f = h → g = x → out kc (qh (QA m c) f i) (qh (KA m c) f) (vh (WA m c) f) g
        = out kc (qh (QA m c) h i) (qh (KA m c) h) (vh (WA m c) h) x := by rintro f g rfl rfl; rfl
    exact e _ _ (Fin.ext (hd_of (h := (h : ℕ)) (d := x) rfl)) (ln_of (h := (h : ℕ)) (d := x) rfl)
  show ds kc ks (qh (QA m c) h i) (qh (KA m c) h) (vh (WA m c) h) (oh (GA m c) h i) (oh (V7 m ρ c main_v13_0) h i) (V7 m ρ c main_v13_1 (ix3 h i 0)) j = _
  rw [ho, z_args, qh_QA, oh_GA, qh_KA, vh_WA]

theorem pr_args (h : Fin 4) (i j : Fin 4096) : PR (QA m c) (KA m c) (V7 m ρ c main_v13_1) h i j = kPR (a0 m c) (a1 m c) h i j := by
  show pr kc (qh (QA m c) h i) (qh (KA m c) h) (V7 m ρ c main_v13_1 (ix3 h i 0)) j = _
  rw [z_args, qh_QA, qh_KA]

/-- The three results, from the arguments. -/
theorem arr6 : (dat1 (V7 m ρ) c).arrAt 6 cfg1.N = ((fun i => ∑ j : Fin 4096,
    kDS (a0 m c) (a1 m c) (a2 m c) (a3 m c) (hk (i 1)) (i 0) j * hK (a1 m c) (hk (i 1)) j (lk (i 1))) : S4096x1024.Idx → EReal) := by
  rw [bwd_dq (V7 m ρ) c _ _ _ _ _ _ (v7_q m ρ c) (v7_k m ρ c) (v7_w m ρ c) rfl (v7_g m ρ c) rfl]
  funext y
  exact Finset.sum_congr rfl fun j _ => congrArg₂ (· * ·) (ds_args m ρ c _ _ _) (congrFun (congrFun (qh_KA m c _) _) _)

theorem arr7 : (dat1 (V7 m ρ) c).arrAt 7 cfg1.N = ((fun i => ∑ r : Fin 4096,
    kDS (a0 m c) (a1 m c) (a2 m c) (a3 m c) (hk (i 1)) r (i 0) * hQ (a0 m c) (hk (i 1)) r (lk (i 1))) : S4096x1024.Idx → EReal) := by
  rw [bwd_dk (V7 m ρ) c _ _ _ _ _ _ (v7_q m ρ c) (v7_k m ρ c) (v7_w m ρ c) rfl (v7_g m ρ c) rfl]
  funext y
  exact Finset.sum_congr rfl fun r _ => congrArg₂ (· * ·) (ds_args m ρ c _ _ _) (congrFun (qh_QA m c _ _) _)

theorem arr8 : (dat1 (V7 m ρ) c).arrAt 8 cfg1.N = ((fun i => ∑ r : Fin 4096,
    kPR (a0 m c) (a1 m c) (hd (i 1)) r (i 0) * hG (a3 m c) (hd (i 1)) r (ln (i 1))) : S4096x512.Idx → EReal) := by
  rw [bwd_dv (V7 m ρ) c _ _ _ _ (v7_q m ρ c) (v7_k m ρ c) (v7_g m ρ c) rfl]
  funext y
  exact Finset.sum_congr rfl fun r _ => congrArg₂ (· * ·) (pr_args m ρ c _ _ _) (congrFun (oh_GA m c _ _) _)

end Cert.FlaAEq
end
-- ==== Proof.FlaARun.lean ====
module

public import proofs.«01_k».proof.Proof.FlaAFwdPay
public import proofs.«01_k».proof.Proof.Gen.FlaAKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

open Idealize.ShloMosaic Idealize.ShloMosaic.TcCoe Idealize.ShloMosaic.Tactic

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

namespace Cert.FlaAEq

open Cert.FlaAKIdeal Cert.FlaAKIdeal.Gen Cert.Reals Cert.Attn

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of the two calls: the arguments end as launched, each result as what the second pipeline leaves. -/
theorem run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v15_0) = (dat1 (V7 m ρ) c).arrAt 6 cfg1.N
      ∧ r.2.mem ((c.tc : Thread nD τ).loc main_v15_1) = (dat1 (V7 m ρ) c).arrAt 7 cfg1.N
      ∧ r.2.mem ((c.tc : Thread nD τ).loc main_v15_2) = (dat1 (V7 m ρ) c).arrAt 8 cfg1.N)
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨(h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_v15_0 (by decide))).trans (W8_arr m ρ c 6),
       (h c _ (mem_uc main_v15_1 (by decide))).trans (W8_arr m ρ c 7),
       (h c _ (mem_uc main_v15_2 (by decide))).trans (W8_arr m ρ c 8)⟩), funext fun g => hz g (.inr (no_unscoped g.2))⟩)

end Cert.FlaAEq
end
-- ==== Proof.FlaARef.lean ====
module

public import proofs.«01_k».proof.Proof.FlaARead
public import proofs.«01_k».proof.Proof.Gen.FlaARIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FlaAEq.Ref

open Cert.FlaARIdeal Cert.FlaARIdeal.Gen Cert.FlaARIdeal.Read Cert.Reals Cert.Attn

/-- The reference's scale. -/
def S : EReal := Ideal.div 1 (Ideal.sqrt (Ideal.ofBits .f32 1128267776#32))

variable (x0 : FVec Ideal S1x4096x4x1x192 .f32) (x1 : FVec Ideal S1x4096x4x192 .f32) (x2 : FVec Ideal S1x4096x4x128 .f32) (x3 : FVec Ideal S1x4096x4x1x128 .f32)
variable (b : Fin 4) (i : Fin 4096)

/-- The scaled scores of query `i` of head `b`. -/
def X (j : Fin 4096) : EReal := (∑ d : Fin 192, x1 (ix4 0 j b d) * x0 (ix5 0 i b 0 d)) * S

/-- The cotangents of the probabilities. -/
def P (j : Fin 4096) : EReal := ∑ d : Fin 128, x3 (ix5 0 i b 0 d) * x2 (ix4 0 j b d)

theorem v5 (j : Fin 4096) : val_main_v5 (F := Ideal) x0 x1 (ix5 0 b 0 i j) = X x0 x1 b i j := by
  simp only [val_main_v5_apply, val_main_v4_apply, val_main_v3_apply, val_main_v2_apply, val_main_v1_apply, val_main_v0_apply,
    val_main_cst_apply, val_main_cst_0_apply]
  pointwise []
  exact congrArg (· * S) (Finset.sum_congr rfl fun d _ => congrArg₂ (· * ·) (congrArg x1 (ix4_of _ rfl rfl rfl rfl))
    (congrArg x0 (ix5_of _ rfl rfl rfl rfl rfl)))

theorem v6 : val_main_v6 (F := Ideal) x0 x1 (ix4 0 b 0 i)
    = Finset.fold max (Ideal.ofBits .f32 0xFF800000#32) (fun j => val_main_v5 (F := Ideal) x0 x1 (ix5 0 b 0 i j)) Finset.univ := by
  pointwise [val_main_v6, val_main_cst_1]

theorem v13 : val_main_v13 (F := Ideal) x0 x1 (ix4 0 b 0 i) = rmx (X x0 x1 b i) := by
  have h : val_main_v12 (F := Ideal) (ix4 0 b 0 i) = Ideal.ofBits .f32 0xFF800000#32 := by
    rw [val_main_v12_apply]
    pointwise [val_main_cst_3]
  rw [val_main_v13_apply, h, v6]
  simp only [v5]
  unfold rmx
  generalize Finset.fold (max : EReal → EReal → EReal) _ _ _ = z
  exact congrFun (congrFun Ideal.maximumf_eq_max _) _

theorem v26 (j : Fin 4096) : val_main_v26 (F := Ideal) x0 x1 (ix5 0 b 0 i j) = rw' (X x0 x1 b i) j := by
  simp only [val_main_v26_apply, val_main_v25_apply, val_main_v24_apply, val_main_v23_apply, v5]
  rw [show idx_main_v23 (idx_main_v24 (ix5 0 b 0 i j)) = ix4 0 b 0 i from ix4_of _ rfl rfl rfl rfl, v13]
  rfl

theorem v27 : val_main_v27 (F := Ideal) x0 x1 (ix4 0 b 0 i) = ∑ j, rw' (X x0 x1 b i) j := by
  simp only [val_main_v27_apply, val_main_cst_9_apply]
  pointwise []
  exact Finset.sum_congr rfl fun j _ => (congrArg (val_main_v26 (F := Ideal) x0 x1) (ix5_of _ rfl rfl rfl rfl rfl)).trans (v26 x0 x1 b i j)

theorem v28 : val_main_v28 (F := Ideal) x0 x1 (ix5 0 b 0 i 0) = ∑ j, rw' (X x0 x1 b i) j := by
  rw [val_main_v28_apply, show idx_main_v28 (ix5 0 b 0 i 0) = ix4 0 b 0 i from ix4_of _ rfl rfl rfl rfl, v27]

theorem v30 (j : Fin 4096) : val_main_v30 (F := Ideal) x0 x1 (ix5 0 b 0 i j) = rp (X x0 x1 b i) j := by
  rw [val_main_v30_apply, val_main_v29_apply, v26,
    show idx_main_v29 (ix5 0 b 0 i j) = ix5 0 b 0 i 0 from ix5_of _ rfl rfl rfl rfl rfl, v28]
  rfl

theorem v37 (j : Fin 4096) : val_main_v37 (F := Ideal) x2 x3 (ix5 0 b 0 i j) = P x2 x3 b i j := by
  simp only [val_main_v37_apply, val_main_v36_apply]
  exact Finset.sum_congr rfl fun d _ => congrArg₂ (· * ·) (congrArg x3 (ix5_of _ rfl rfl rfl rfl rfl))
    (congrArg x2 (ix4_of _ rfl rfl rfl rfl))

theorem v33 : val_main_v33 (F := Ideal) x0 x1 (ix5 0 b 0 i 0)
    = Ideal.div 1 ((∑ j, rw' (X x0 x1 b i) j) * ∑ j, rw' (X x0 x1 b i) j) := by
  simp only [val_main_v33_apply, val_main_v32_apply, val_main_v31_apply, v28, val_main_cst_10_apply]
  pointwise []

theorem v42 (j : Fin 4096) : val_main_v42 (F := Ideal) x0 x1 x2 x3 (ix5 0 b 0 i j)
    = P x2 x3 b i j * Ideal.div 1 ((∑ j, rw' (X x0 x1 b i) j) * ∑ j, rw' (X x0 x1 b i) j) * rw' (X x0 x1 b i) j := by
  rw [val_main_v42_apply, val_main_v41_apply, val_main_v40_apply, v26, v37,
    show idx_main_v40 (ix5 0 b 0 i j) = ix5 0 b 0 i 0 from ix5_of _ rfl rfl rfl rfl rfl, v33]
  rfl

theorem e44 : idx_main_v44 (ix5 0 b 0 i 0) = ix4 0 b 0 i := by
  have hb := b.isLt
  have hi := i.isLt
  refine ix4_of (idx_main_v44 (ix5 0 b 0 i 0)) rfl ?_ rfl ?_ <;> refine Fin.ext ?_
  · show ((((0 * 4 + (b : ℕ)) * 1 + 0) * 4096 + (i : ℕ)) * 1 + 0) / 4096 % 4 = (b : ℕ)
    omega
  · show ((((0 * 4 + (b : ℕ)) * 1 + 0) * 4096 + (i : ℕ)) * 1 + 0) % 4096 = (i : ℕ)
    omega

theorem v45 : val_main_v45 (F := Ideal) x0 x1 x2 x3 (ix5 0 b 0 i 0) = -∑ j, (P x2 x3 b i j
    * Ideal.div 1 ((∑ j, rw' (X x0 x1 b i) j) * ∑ j, rw' (X x0 x1 b i) j) * rw' (X x0 x1 b i) j) := by
  rw [val_main_v45_apply, val_main_v44_apply]
  rw [show idx_main_v44 (ix5 0 b 0 i 0) = ix4 0 b 0 i from e44 b i]
  simp only [val_main_v43_apply, val_main_cst_11_apply]
  pointwise []
  exact congrArg Neg.neg (Finset.sum_congr rfl fun j _ => (congrArg (val_main_v42 (F := Ideal) x0 x1 x2 x3)
    (ix5_of _ rfl rfl rfl rfl rfl)).trans (v42 x0 x1 x2 x3 b i j))

/-- A sum over three axes of size one is the element. -/
theorem sum_unit (h : (⟨5, ![1, 4, 1, 4096, 1]⟩ : Shape).ReducesTo [0, 2, 4] ⟨2, ![4, 4096]⟩) (v : S1x4x1x4096x1.Idx → EReal) (a : EReal) :
    Ideal.hostReduceAdd h v a (ix2 b i) = a + v (ix5 0 b 0 i 0) := by
  unfold Ideal.hostReduceAdd
  have : Finset.univ.filter (fun z => h.drop z = ix2 b i) = {ix5 0 b 0 i 0} := by
    ext z
    simp only [Finset.mem_filter, Finset.mem_univ, true_and, Finset.mem_singleton]
    constructor
    · intro e
      refine ix5_of z (Subsingleton.elim (α := Fin 1) _ _) ?_ (Subsingleton.elim (α := Fin 1) _ _) ?_ (Subsingleton.elim (α := Fin 1) _ _)
      · exact Fin.ext (congrArg Fin.val (congrFun e 0))
      · exact Fin.ext (congrArg Fin.val (congrFun e 1))
    · rintro rfl
      funext x
      fin_cases x <;> rfl
  rw [this, Finset.sum_singleton]

theorem v54 (j : Fin 4096) : val_main_v54 (F := Ideal) x0 x1 x2 x3 (ix5 0 b 0 i j) = rds (X x0 x1 b i) (P x2 x3 b i) S j := by
  have h : val_main_v48 (F := Ideal) x0 x1 x2 x3 (ix2 b i) = val_main_v45 (F := Ideal) x0 x1 x2 x3 (ix5 0 b 0 i 0) := by
    pointwise [val_main_v48]
    refine (sum_unit b i _ _ _).trans ?_
    simp only [val_main_cst_12_apply]
    pointwise []
  have h50 : val_main_v50 (F := Ideal) x0 x1 x2 x3 (ix5 0 b 0 i j) = val_main_v48 (F := Ideal) x0 x1 x2 x3 (ix2 b i) := by
    rw [val_main_v50_apply, val_main_v49_apply]
    refine congrArg _ (funext fun x => ?_)
    fin_cases x <;> rfl
  have h53 : val_main_v53 (F := Ideal) (ix5 0 b 0 i j) = S := by
    simp only [val_main_v53_apply, val_main_v1_apply, val_main_v0_apply, val_main_cst_apply, val_main_cst_0_apply]
    pointwise []
    rfl
  rw [val_main_v54_apply, val_main_v52_apply, val_main_v51_apply, val_main_v47_apply, val_main_v46_apply, v26, v37,
    show idx_main_v46 (ix5 0 b 0 i j) = ix5 0 b 0 i 0 from ix5_of _ rfl rfl rfl rfl rfl, v28, h50, h, v45, h53]
  rfl

/-- The gradient of the queries. -/
theorem v57 (d : Fin 192) : val_main_v57 (F := Ideal) x0 x1 x2 x3 (ix5 0 i b 0 d)
    = ∑ j : Fin 4096, rds (X x0 x1 b i) (P x2 x3 b i) S j * x1 (ix4 0 j b d) := by
  simp only [val_main_v57_apply, val_main_v56_apply, val_main_v55_apply]
  exact Finset.sum_congr rfl fun j _ => congrArg₂ (· * ·) ((congrArg (val_main_v54 (F := Ideal) x0 x1 x2 x3)
    (ix5_of _ rfl rfl rfl rfl rfl)).trans (v54 x0 x1 x2 x3 b i j)) (congrArg x1 (ix4_of _ rfl rfl rfl rfl))

/-- The gradient of the keys. -/
theorem v59 (j : Fin 4096) (d : Fin 192) : val_main_v59 (F := Ideal) x0 x1 x2 x3 (ix4 0 j b d)
    = ∑ i : Fin 4096, rds (X x0 x1 b i) (P x2 x3 b i) S j * x0 (ix5 0 i b 0 d) := by
  have h : val_main_v58 (F := Ideal) x0 x1 x2 x3 (ix4 0 b j d)
      = ∑ i : Fin 4096, ∑ g : Fin 1, val_main_v55 (F := Ideal) x0 x1 x2 x3 (ix5 0 b j i g) * x0 (ix5 0 i b g d) := by
    pointwise [val_main_v58]
  rw [val_main_v59_apply, show idx_main_v59 (ix4 0 j b d) = ix4 0 b j d from ix4_of _ rfl rfl rfl rfl, h]
  refine Finset.sum_congr rfl fun i _ => (Fin.sum_univ_one _).trans ?_
  rw [val_main_v55_apply, show idx_main_v55 (ix5 0 b j i 0) = ix5 0 b 0 i j from ix5_of _ rfl rfl rfl rfl rfl, v54]

/-- The gradient of the values. -/
theorem v39 (j : Fin 4096) (d : Fin 128) : val_main_v39 (F := Ideal) x0 x1 x3 (ix4 0 j b d)
    = ∑ i : Fin 4096, x3 (ix5 0 i b 0 d) * rp (X x0 x1 b i) j := by
  have h : val_main_v38 (F := Ideal) x0 x1 x3 (ix4 0 b d j)
      = ∑ g : Fin 1, ∑ i : Fin 4096, val_main_v36 (F := Ideal) x3 (ix5 0 b d g i) * val_main_v30 (F := Ideal) x0 x1 (ix5 0 b g i j) := by
    pointwise [val_main_v38]
  rw [val_main_v39_apply, show idx_main_v39 (ix4 0 j b d) = ix4 0 b d j from ix4_of _ rfl rfl rfl rfl, h]
  refine (Fin.sum_univ_one _).trans (Finset.sum_congr rfl fun i _ => ?_)
  rw [val_main_v36_apply, show idx_main_v36 (ix5 0 b d 0 i) = ix5 0 i b 0 d from ix5_of _ rfl rfl rfl rfl rfl, v30]

/-- The heads' rows, padded, as columns of a matrix. -/
abbrev wide (x : S4096x4x192.Idx → EReal) : S4096x1024.Idx → EReal :=
  shapeCast S4096x1024 (pad S4096x4x256 ![0, 0, 0] ![0, 0, 64] ![0, 0, 0] x (sitofp (F := Ideal) FTy.f32 (constantI S_ 32 0#32) : S_.Idx → EReal)
    pads_S4096x4x192_S4096x4x256_000_000_0640 h_S_) shapeCasts_S4096x4x256_S4096x1024

theorem wide_at (a : S4096x4x192.Idx → EReal) (i : Fin 4096) (z : Fin 1024) :
    wide a (ix2 i z) = pd (fun d => a (ix3 i (hk z) d)) (lk z) := by
  have hi := i.isLt
  have hz := z.isLt
  refine (shapeCast_apply _ _ _ (ix3 i (hk z) (lk z)) ?_).trans ?_
  · rw [Shape.rowMajor_val_three, Shape.rowMajor_val_two]
    show ((i : ℕ) * 4 + (z : ℕ) / 256) * 256 + (z : ℕ) % 256 = (i : ℕ) * 1024 + (z : ℕ)
    omega
  · unfold pd
    generalize hk z = u
    generalize lk z = v
    pointwise []
    split
    · rfl
    · exact zero_word

theorem e60 (d : Fin 192) : idx_main_v60 (ix3 i b d) = ix5 0 i b 0 d := by
  have hb := b.isLt
  have hi := i.isLt
  have hd := d.isLt
  refine ix5_of (idx_main_v60 (ix3 i b d)) rfl ?_ ?_ rfl ?_ <;> refine Fin.ext ?_
  · show (((i : ℕ) * 4 + (b : ℕ)) * 192 + (d : ℕ)) / 768 % 4096 = (i : ℕ)
    omega
  · show (((i : ℕ) * 4 + (b : ℕ)) * 192 + (d : ℕ)) / 192 % 4 = (b : ℕ)
    omega
  · show (((i : ℕ) * 4 + (b : ℕ)) * 192 + (d : ℕ)) % 192 = (d : ℕ)
    omega

theorem e63 (d : Fin 192) : idx_main_v63 (ix3 i b d) = ix4 0 i b d := by
  have hb := b.isLt
  have hi := i.isLt
  have hd := d.isLt
  refine ix4_of (idx_main_v63 (ix3 i b d)) rfl ?_ ?_ ?_ <;> refine Fin.ext ?_
  · show (((i : ℕ) * 4 + (b : ℕ)) * 192 + (d : ℕ)) / 768 % 4096 = (i : ℕ)
    omega
  · show (((i : ℕ) * 4 + (b : ℕ)) * 192 + (d : ℕ)) / 192 % 4 = (b : ℕ)
    omega
  · show (((i : ℕ) * 4 + (b : ℕ)) * 192 + (d : ℕ)) % 192 = (d : ℕ)
    omega

theorem v60 (d : Fin 192) : val_main_v60 (F := Ideal) x0 x1 x2 x3 (ix3 i b d)
    = ∑ j : Fin 4096, rds (X x0 x1 b i) (P x2 x3 b i) S j * x1 (ix4 0 j b d) := by
  rw [val_main_v60_apply, e60, v57]

theorem v63 (d : Fin 192) : val_main_v63 (F := Ideal) x0 x1 x2 x3 (ix3 i b d)
    = ∑ r : Fin 4096, rds (X x0 x1 b r) (P x2 x3 b r) S i * x0 (ix5 0 r b 0 d) := by
  rw [val_main_v63_apply, e63, v59]

theorem dq_pt (z : Fin 1024) : val_main_v62 (F := Ideal) x0 x1 x2 x3 (ix2 i z)
    = pd (fun d => ∑ j : Fin 4096, rds (X x0 x1 (hk z) i) (P x2 x3 (hk z) i) S j * x1 (ix4 0 j (hk z) d)) (lk z) := by
  have e : val_main_v62 (F := Ideal) x0 x1 x2 x3 = wide (val_main_v60 (F := Ideal) x0 x1 x2 x3) := rfl
  rw [e, wide_at]
  simp only [v60]

theorem dk_pt (z : Fin 1024) : val_main_v65 (F := Ideal) x0 x1 x2 x3 (ix2 i z)
    = pd (fun d => ∑ r : Fin 4096, rds (X x0 x1 (hk z) r) (P x2 x3 (hk z) r) S i * x0 (ix5 0 r (hk z) 0 d)) (lk z) := by
  have e : val_main_v65 (F := Ideal) x0 x1 x2 x3 = wide (val_main_v63 (F := Ideal) x0 x1 x2 x3) := rfl
  rw [e, wide_at]
  simp only [v63]

theorem res_dv (y : S4096x512.Idx) : val_main_v66 (F := Ideal) x0 x1 x3 y
    = ∑ i : Fin 4096, x3 (ix5 0 i (hd (y 1)) 0 (ln (y 1))) * rp (X x0 x1 (hd (y 1)) i) (y 0) := by
  have h0 : ((y 0 : Fin 4096) : ℕ) < 4096 := (y 0 : Fin 4096).isLt
  have h1 : ((y 1 : Fin 512) : ℕ) < 512 := (y 1 : Fin 512).isLt
  rw [val_main_v66_apply]
  refine (congrArg (val_main_v39 (F := Ideal) x0 x1 x3) (ix4_of _ rfl ?_ ?_ ?_)).trans (v39 x0 x1 x3 _ _ _)
  · refine Fin.ext ?_
    show (((y 0 : Fin 4096) : ℕ) * 512 + ((y 1 : Fin 512) : ℕ)) / 512 % 4096 = ((y 0 : Fin 4096) : ℕ)
    omega
  · refine Fin.ext ?_
    show (((y 0 : Fin 4096) : ℕ) * 512 + ((y 1 : Fin 512) : ℕ)) / 128 % 4 = ((y 1 : Fin 512) : ℕ) / 128
    omega
  · refine Fin.ext ?_
    show (((y 0 : Fin 4096) : ℕ) * 512 + ((y 1 : Fin 512) : ℕ)) % 128 = ((y 1 : Fin 512) : ℕ) % 128
    omega

end Cert.FlaAEq.Ref
end
-- ==== Proof.FlaAClaim.lean ====
module

public import proofs.«01_k».proof.Defs
public import proofs.«01_k».proof.Proof.FlaARead
public import proofs.«01_k».proof.Proof.FlaARun
public import proofs.«01_k».proof.Proof.FlaARef
public import proofs.«01_k».proof.Proof.Reals
public import proofs.«01_k».proof.Proof.Gen.FlaARIdeal.Run
public import proofs.«01_k».proof.Proof.Gen.Pre_flaa_finite
public import Idealize.ShloMosaic.Adequacy
public import Idealize.ShloMosaic.Lib.Claim

@[expose] public section

set_option maxRecDepth 16384

noncomputable section

open Idealize.ShloMosaic Idealize.ShloMosaic.TcCoe Idealize.SL.Sem Idealize.ShloMosaic.Tactic

namespace Cert.FlaAEq

open Cert.Reals Cert.Attn Cert.FlaAKIdeal Cert.FlaAKIdeal.Gen

/-- The precondition: every element of the four arrays is a real number. -/
theorem reals (x0 : FVec Ideal Cert.Pre_flaa_finite.S1x4096x4x1x192 .f32) (x1 : FVec Ideal Cert.Pre_flaa_finite.S1x4096x4x192 .f32)
    (x2 : FVec Ideal Cert.Pre_flaa_finite.S1x4096x4x128 .f32) (x3 : FVec Ideal Cert.Pre_flaa_finite.S1x4096x4x1x128 .f32)
    [Cert.Pre_flaa_finite.Facts] (h : Cert.Pre_flaa_finite.fn (F := Ideal) x0 x1 x2 x3 = fun _ => 1#1) :
    (∀ i, IsReal (x0 i)) ∧ (∀ i, IsReal (x1 i)) ∧ (∀ i, IsReal (x2 i)) ∧ ∀ i, IsReal (x3 i) := by
  have e := congrFun h (fun a => a.elim0)
  unfold Cert.Pre_flaa_finite.fn Cert.Pre_flaa_finite.fn_part1 at e
  obtain ⟨e, e3⟩ := IntOp.andi_eq_one.1 e
  obtain ⟨e, e2⟩ := IntOp.andi_eq_one.1 e
  obtain ⟨e0, e1⟩ := IntOp.andi_eq_one.1 e
  exact ⟨isReal_of_all _ _ _ _ _ _ e0, isReal_of_all _ _ _ _ _ _ e1, isReal_of_all _ _ _ _ _ _ e2, isReal_of_all _ _ _ _ _ _ e3⟩

/-- The reference runs; its arguments stay. -/
theorem frame_ref : Cert.quiescent_FlaARIdeal := fun m ρ _ =>
  (θ_run Cert.FlaARIdeal.defs _ _).mono (fun r h => ⟨fun c => (h c).2.2.2, sem_eq_zero_of_no_sems (by decide) r.2⟩)
    (Cert.FlaARIdeal.Value.run (F := Ideal) m ρ)

/-- The reference's scale is the root's inverse. -/
theorem scale : Ref.S = (((Real.sqrt 192)⁻¹ : ℝ) : EReal) := by
  have h : Ideal.ofBits .f32 1128267776#32 = ((192 : ℝ) : EReal) := by
    simp [Ideal.ofBits, Ideal.ieee, -EReal.coe_mul]
    norm_num
  have hp : Real.sqrt 192 ≠ 0 := (Real.sqrt_pos.2 (by norm_num)).ne'
  rw [Ref.S, h, Ideal.sqrt_coe, if_neg (by norm_num)]
  exact (div_real 1 hp).trans (by rw [one_div])

/-- The zeros behind a row add nothing to a product of two rows. -/
theorem sum_pd (f g : Fin 192 → ℝ) : ∑ x : Fin 256, pd f x * pd g x = ∑ d : Fin 192, f d * g d := by
  have h := Fin.sum_univ_add (a := 192) (b := 64) (fun x : Fin (192 + 64) => pd f x * pd g x)
  refine h.trans ?_
  have h0 : ∑ i : Fin 64, pd f (Fin.natAdd 192 i) * pd g (Fin.natAdd 192 i) = 0 :=
    Finset.sum_eq_zero fun i _ => by simp [pd]
  rw [h0, add_zero]
  exact Finset.sum_congr rfl fun d _ => by simp [pd]

theorem pd_coe (f : Fin 192 → ℝ) : (pd fun x => (f x : EReal)) = fun x => ((pd f x : ℝ) : EReal) := by
  funext x
  unfold pd
  split <;> simp

/-- A factor and a sum go under the zeros. -/
theorem pd_sum (A : Fin 4096 → EReal) (f : Fin 4096 → Fin 192 → EReal) (x : Fin 256) :
    pd (fun d => ∑ j, A j * f j d) x = ∑ j, A j * pd (f j) x := by
  unfold pd
  split
  · rfl
  · simp

section
variable (q : S1x4096x4x1x192.Idx → ℝ) (k : S1x4096x4x192.Idx → ℝ) (w : S1x4096x4x128.Idx → ℝ) (g : S1x4096x4x1x128.Idx → ℝ)
variable (h : Fin 4) (i j : Fin 4096)

/-- The score's gradient of one head, over the reals. -/
def rG : ℝ := grad (scores (Real.sqrt 192)⁻¹ (hQ q h i) (hK k h)) (prods (hW w h) (hG g h i)) (Real.sqrt 192)⁻¹ j

/-- The probability of one head, over the reals. -/
def rP : ℝ := prob (scores (Real.sqrt 192)⁻¹ (hQ q h i) (hK k h)) j

/-- The arrays of real numbers as the programs hold them. -/
abbrev cq (q : S1x4096x4x1x192.Idx → ℝ) : S1x4096x4x1x192.Idx → EReal := fun i => (q i : EReal)
abbrev ck (k : S1x4096x4x192.Idx → ℝ) : S1x4096x4x192.Idx → EReal := fun i => (k i : EReal)
abbrev cw (w : S1x4096x4x128.Idx → ℝ) : S1x4096x4x128.Idx → EReal := fun i => (w i : EReal)
abbrev cg (g : S1x4096x4x1x128.Idx → ℝ) : S1x4096x4x1x128.Idx → EReal := fun i => (g i : EReal)

theorem hQ_coe : hQ (cq q) h i = fun x => ((hQ q h i x : ℝ) : EReal) := pd_coe _
theorem hK_coe : hK (ck k) h = fun j x => ((hK k h j x : ℝ) : EReal) := funext fun _ => pd_coe _

theorem kernel_ds : kDS (cq q) (ck k) (cw w) (cg g) h i j = (rG q k w g h i j : EReal) := by
  unfold kDS
  rw [hQ_coe, hK_coe]
  exact ds_real (Real.sqrt 192)⁻¹ (hQ q h i) (hK k h) (hW w h) (hG g h i) rfl rfl j

theorem kernel_pr : kPR (cq q) (ck k) h i j = (rP q k h i j : EReal) := by
  unfold kPR
  rw [hQ_coe, hK_coe]
  exact pr_real (Real.sqrt 192)⁻¹ (hQ q h i) (hK k h) rfl rfl j

theorem ref_X : Ref.X (cq q) (ck k) h i = fun j => (scores (Real.sqrt 192)⁻¹ (hQ q h i) (hK k h) j : EReal) := by
  funext j
  have e : (∑ d : Fin 192, ((k (ix4 0 j h d) : ℝ) : EReal) * ((q (ix5 0 i h 0 d) : ℝ) : EReal)) * (((Real.sqrt 192)⁻¹ : ℝ) : EReal)
      = ((scores (Real.sqrt 192)⁻¹ (hQ q h i) (hK k h) j : ℝ) : EReal) := by
    simp only [← EReal.coe_mul, coe_sum, scores, sum_pd]
    simp only [mul_comm]
  rw [Ref.X, scale]
  exact e

theorem ref_P : Ref.P (cw w) (cg g) h i = fun j => (prods (hW w h) (hG g h i) j : EReal) := by
  funext j
  have e : (∑ d : Fin 128, ((hG g h i d : ℝ) : EReal) * ((hW w h j d : ℝ) : EReal)) = ((prods (hW w h) (hG g h i) j : ℝ) : EReal) := by
    simp only [← EReal.coe_mul, coe_sum, prods]
  exact e

theorem ref_ds : rds (Ref.X (cq q) (ck k) h i) (Ref.P (cw w) (cg g) h i) Ref.S j = (rG q k w g h i j : EReal) := by
  rw [ref_X, ref_P, scale]
  exact rds_real _ _ _ _

theorem ref_pr : rp (Ref.X (cq q) (ck k) h i) j = (rP q k h i j : EReal) := by
  rw [ref_X]
  exact rp_real _ _

theorem dq_eq (x : Fin 256) :
    pd (fun d => ∑ j : Fin 4096, rds (Ref.X (cq q) (ck k) h i) (Ref.P (cw w) (cg g) h i) Ref.S j * ck k (ix4 0 j h d)) x
      = ∑ j : Fin 4096, kDS (cq q) (ck k) (cw w) (cg g) h i j * hK (ck k) h j x := by
  rw [pd_sum]
  exact Finset.sum_congr rfl fun j _ => by rw [ref_ds, kernel_ds]

theorem dk_eq (x : Fin 256) :
    pd (fun d => ∑ r : Fin 4096, rds (Ref.X (cq q) (ck k) h r) (Ref.P (cw w) (cg g) h r) Ref.S i * cq q (ix5 0 r h 0 d)) x
      = ∑ r : Fin 4096, kDS (cq q) (ck k) (cw w) (cg g) h r i * hQ (cq q) h r x := by
  rw [pd_sum]
  exact Finset.sum_congr rfl fun r _ => by rw [ref_ds, kernel_ds]

end

section
variable (m : (ℓ : Loc nD τ sig) → Buf (Elt Ideal) ℓ) (ρ : Dev nD → PrngReg) (c : Dev nD)
variable (h0 : ∀ i, IsReal (a0 m c i)) (h1 : ∀ i, IsReal (a1 m c i)) (h2 : ∀ i, IsReal (a2 m c i)) (h3 : ∀ i, IsReal (a3 m c i))

include h0 h1 h2 h3 in
theorem final_dq : Cert.FlaARIdeal.Read.val_main_v62 (F := Ideal) (a0 m c) (a1 m c) (a2 m c) (a3 m c) = (dat1 (V7 m ρ) c).arrAt 6 cfg1.N := by
  obtain ⟨q, hq0⟩ := choose_real h0
  obtain ⟨k, hk0⟩ := choose_real h1
  obtain ⟨w, hw0⟩ := choose_real h2
  obtain ⟨g, hg0⟩ := choose_real h3
  rw [arr6, hq0, hk0, hw0, hg0]
  funext y
  refine (congrArg _ (ix2_eta (n0 := 4096) (n1 := 1024) y).symm).trans ((Ref.dq_pt _ _ _ _ (y 0) (y 1)).trans ?_)
  exact dq_eq q k w g (hk (y 1)) (y 0) (lk (y 1))

include h0 h1 h2 h3 in
theorem final_dk : Cert.FlaARIdeal.Read.val_main_v65 (F := Ideal) (a0 m c) (a1 m c) (a2 m c) (a3 m c) = (dat1 (V7 m ρ) c).arrAt 7 cfg1.N := by
  obtain ⟨q, hq0⟩ := choose_real h0
  obtain ⟨k, hk0⟩ := choose_real h1
  obtain ⟨w, hw0⟩ := choose_real h2
  obtain ⟨g, hg0⟩ := choose_real h3
  rw [arr7, hq0, hk0, hw0, hg0]
  funext y
  refine (congrArg _ (ix2_eta (n0 := 4096) (n1 := 1024) y).symm).trans ((Ref.dk_pt _ _ _ _ (y 0) (y 1)).trans ?_)
  exact dk_eq q k w g (hk (y 1)) (y 0) (lk (y 1))

include h0 h1 h3 in
theorem final_dv : Cert.FlaARIdeal.Read.val_main_v66 (F := Ideal) (a0 m c) (a1 m c) (a3 m c) = (dat1 (V7 m ρ) c).arrAt 8 cfg1.N := by
  obtain ⟨q, hq0⟩ := choose_real h0
  obtain ⟨k, hk0⟩ := choose_real h1
  obtain ⟨g, hg0⟩ := choose_real h3
  rw [arr8, hq0, hk0, hg0]
  funext y
  refine (Ref.res_dv _ _ _ y).trans (Finset.sum_congr rfl fun r _ => (mul_comm _ _).trans ?_)
  exact congrArg₂ (· * ·) ((ref_pr q k _ _ _).trans (kernel_pr q k _ _ _).symm) rfl

end

theorem value : Cert.algebraic_FlaAKIdeal_FlaARIdeal_pre_flaa_finite := by
  pair_intro
  · run_from (θ_run Cert.FlaAKIdeal.defs _ _).mono (fun r h => h.1) (run m g)
  · run_from Cert.FlaARIdeal.Value.run m' g'
    · obtain ⟨h0, h1, h2, h3⟩ := reals _ _ _ _ (hpre c)
      obtain ⟨e0, e1, e2, e3⟩ := hagree c
      rw [Cert.FlaARIdeal.Read.val_main_v62_eq, e0, e1, e2, e3]
      exact final_dq m g c h0 h1 h2 h3
    · obtain ⟨h0, h1, h2, h3⟩ := reals _ _ _ _ (hpre c)
      obtain ⟨e0, e1, e2, e3⟩ := hagree c
      rw [Cert.FlaARIdeal.Read.val_main_v65_eq, e0, e1, e2, e3]
      exact final_dk m g c h0 h1 h2 h3
    · obtain ⟨h0, h1, h2, h3⟩ := reals _ _ _ _ (hpre c)
      exact (Cert.FlaARIdeal.Read.val_main_v66_eq _ _ _).trans (final_dv m g c h0 h1 h3)

end Cert.FlaAEq

end
-- ==== Proof.Norms.lean ====
/- The norm of a row and its gradient: one row of the kernel, one row of the reference, and their equality over the
real numbers. -/
module

public import proofs.«01_k».proof.Proof.Reals
public import Idealize.ShloMosaic.Lib.Pipeline.ValueKit

@[expose] public section

noncomputable section

open Idealize.ShloMosaic

namespace Cert.Norms

open Cert.Reals

variable {n : ℕ}

section
variable (N e : EReal) (x g y : Fin n → EReal) (d : Fin n)

/-- The mean square of a row plus the small constant, and its inverse root. -/
def nu : EReal := Ideal.div (∑ t, x t * x t) N + e
def nr : EReal := Ideal.rsqrt (nu N e x)
/-- The normed row. -/
def nx : EReal := x d * nr N e x
/-- The row's gradient as the kernel writes it. -/
def nd : EReal := nr N e x * (y d * g d - nx N e x d * Ideal.div (∑ t, y t * g t * nx N e x t) N)
/-- The factor of the row in the reference's gradient, `h` standing for minus one half, and the gradient. -/
def nc (h : EReal) : EReal := Ideal.div ((∑ t, x t * (y t * g t)) * (h * Ideal.div (nr N e x) (nu N e x))) N
def rd (h : EReal) : EReal := y d * g d * nr N e x + x d * nc N e x g y h + nc N e x g y h * x d
end

/-- The small constant and minus one half are real numbers. -/
theorem eps : ∃ e : ℝ, 0 < e ∧ Ideal.ofBits .f32 0x358637BD#32 = (e : EReal) := by
  refine ⟨(8388608 + 407485 : ℝ) * 2 ^ (-43 : ℤ), by positivity, ?_⟩
  simp [Ideal.ofBits, Ideal.ieee, -EReal.coe_mul]
  norm_num
theorem half : Ideal.ofBits .f32 0xBF000000#32 = ((-(1 / 2) : ℝ) : EReal) := by
  simp [Ideal.ofBits, Ideal.ieee, -EReal.coe_mul]
  norm_num

/-- The same over the real numbers. -/
def ru (N e : ℝ) (x : Fin n → ℝ) : ℝ := (∑ t, x t * x t) / N + e
def rr (N e : ℝ) (x : Fin n → ℝ) : ℝ := (Real.sqrt (ru N e x))⁻¹

section
variable {N e : ℝ} (hN : 0 < N) (he : 0 < e) (x g y : Fin n → ℝ) (d : Fin n)
include hN he

theorem ru_pos : 0 < ru N e x := by
  have : 0 ≤ ∑ t, x t * x t := Finset.sum_nonneg fun t _ => mul_self_nonneg (x t)
  unfold ru
  positivity

theorem nu_real : nu (N : EReal) e (fun t => (x t : EReal)) = (ru N e x : EReal) := by
  simp only [nu, ru, ← EReal.coe_mul, coe_sum]
  rw [div_real _ hN.ne', ← EReal.coe_add]

theorem nr_real : nr (N : EReal) e (fun t => (x t : EReal)) = (rr N e x : EReal) := by
  have h := ru_pos hN he x
  rw [nr, nu_real hN he, Ideal.rsqrt_coe, if_neg (not_lt.2 h.le), if_neg h.ne']
  rfl

theorem nx_real : nx (N : EReal) e (fun t => (x t : EReal)) d = ((x d * rr N e x : ℝ) : EReal) := by
  rw [nx, nr_real hN he, ← EReal.coe_mul]

theorem nd_real : nd (N : EReal) e (fun t => (x t : EReal)) (fun t => (g t : EReal)) (fun t => (y t : EReal)) d
    = ((rr N e x * (y d * g d - x d * rr N e x * ((∑ t, y t * g t * (x t * rr N e x)) / N)) : ℝ) : EReal) := by
  simp only [nd, nr_real hN he, nx_real hN he, ← EReal.coe_mul, coe_sum]
  rw [div_real _ hN.ne']
  simp only [← EReal.coe_mul, ← EReal.coe_sub]

theorem nc_real : nc (N : EReal) e (fun t => (x t : EReal)) (fun t => (g t : EReal)) (fun t => (y t : EReal)) ((-(1 / 2) : ℝ) : EReal)
    = (((∑ t, x t * (y t * g t)) * (-(1 / 2) * (rr N e x / ru N e x)) / N : ℝ) : EReal) := by
  have h := ru_pos hN he x
  simp only [nc, nr_real hN he, nu_real hN he, ← EReal.coe_mul, coe_sum]
  rw [div_real _ h.ne', ← EReal.coe_mul, ← EReal.coe_mul, div_real _ hN.ne']

theorem rd_real : rd (N : EReal) e (fun t => (x t : EReal)) (fun t => (g t : EReal)) (fun t => (y t : EReal)) d ((-(1 / 2) : ℝ) : EReal)
    = ((rr N e x * (y d * g d - x d * rr N e x * ((∑ t, y t * g t * (x t * rr N e x)) / N)) : ℝ) : EReal) := by
  have h := ru_pos hN he x
  simp only [rd, nr_real hN he, nc_real hN he, ← EReal.coe_mul, ← EReal.coe_add]
  congr 1
  have hs : ∑ t, y t * g t * (x t * rr N e x) = (∑ t, x t * (y t * g t)) * rr N e x := by
    rw [Finset.sum_mul]
    exact Finset.sum_congr rfl fun t _ => by ring
  have hq : rr N e x * rr N e x = (ru N e x)⁻¹ := by
    rw [rr, ← mul_inv, Real.mul_self_sqrt h.le]
  rw [hs, div_eq_mul_inv (rr N e x), ← hq]
  ring
end

/-- A row's gradient is the same in both programs where the row, the gain and the cotangent are real numbers. -/
theorem nd_eq {x g y : Fin n → EReal} {N : EReal} {r : ℝ} (hN : N = (r : EReal)) (hr : 0 < r) (hx : ∀ t, IsReal (x t)) (hg : ∀ t, IsReal (g t))
    (hy : ∀ t, IsReal (y t)) (d : Fin n) :
    rd N (Ideal.ofBits .f32 0x358637BD#32) x g y d (Ideal.ofBits .f32 0xBF000000#32) = nd N (Ideal.ofBits .f32 0x358637BD#32) x g y d := by
  obtain ⟨e, he, hE⟩ := eps
  obtain ⟨x, rfl⟩ := choose_real hx
  obtain ⟨g, rfl⟩ := choose_real hg
  obtain ⟨y, rfl⟩ := choose_real hy
  rw [hN, hE, half, rd_real hr he, nd_real hr he]

/-- A sum over all rows of all heads, taken tile by tile. -/
theorem sum_rows {a J n : ℕ} (T q : ℕ) (hJ : a * T = J) (hn : T * q = n) (P : Fin J → EReal) (F : Fin a → Fin n → EReal)
    (hP : ∀ (s : Fin J) (h : Fin a) (i : Fin q → Fin n), (h : ℕ) = s / T → (∀ r, (i r : ℕ) = s % T * q + r) → P s = ∑ r, F h (i r)) :
    ∑ s, P s = ∑ h, ∑ i, F h i := by
  rw [Fin.sum_univ_tiles a T hJ P]
  refine Finset.sum_congr rfl fun h _ => ?_
  rw [Fin.sum_univ_tiles T q hn (F h)]
  refine Finset.sum_congr rfl fun k _ => hP _ h _ ?_ fun r => ?_
  · have hk := k.isLt
    show (h : ℕ) = ((h : ℕ) * T + k) / T
    rw [Nat.mul_comm, Nat.mul_add_div (by omega), Nat.div_eq_of_lt hk, Nat.add_zero]
  · have hk := k.isLt
    show (k : ℕ) * q + r = ((h : ℕ) * T + k) % T * q + r
    rw [Nat.mul_comm (h : ℕ) T, Nat.mul_add_mod, Nat.mod_eq_of_lt hk]

/-- The host's sum over the first two of three axes. -/
theorem sum_two {A B D : ℕ} (h : (⟨3, ![A, B, D]⟩ : Shape).ReducesTo [0, 1] ⟨1, ![D]⟩) (v : (⟨3, ![A, B, D]⟩ : Shape).Idx → EReal) (a : EReal)
    (d : Fin D) : Ideal.hostReduceAdd h v a (ix1 d) = a + ∑ j : Fin B, ∑ i : Fin A, v (ix3 i j d) := by
  unfold Ideal.hostReduceAdd
  congr 1
  rw [← Finset.sum_product']
  refine (Finset.sum_bij' (fun (p : Fin B × Fin A) _ => ix3 p.2 p.1 d)
    (fun (z : (⟨3, ![A, B, D]⟩ : Shape).Idx) _ => ((z 1 : Fin B), (z 0 : Fin A))) ?_ ?_ ?_ ?_ ?_).symm
  · intro p _
    simp only [Finset.mem_filter, Finset.mem_univ, true_and]
    funext x
    fin_cases x
    rfl
  · intro z _
    simp
  · intro p _
    rfl
  · intro z hz
    have e := congrFun (Finset.mem_filter.1 hz).2 0
    funext x
    fin_cases x
    · rfl
    · rfl
    · exact Fin.ext (congrArg Fin.val e).symm
  · intro p _
    rfl

theorem add_last (a p q r : EReal) : a + p + q + r = p + q + r + a := by
  rw [add_assoc, add_assoc, add_comm, ← add_assoc]

end Cert.Norms
end
-- ==== Proof.NormValue.lean ====
/- The norm's gradient kernel Norm: what one grid point computes, and what its results hold. -/
module

public import proofs.«01_k».proof.Proof.Norms
public import proofs.«01_k».proof.Proof.Attn
public import proofs.«01_k».proof.Proof.Gen.NormKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormEq

open Cert.NormKIdeal Cert.NormKIdeal.Gen Cert.Reals Cert.Norms Cert.Attn

/-- The row's length, and the rows of the arguments. -/
abbrev N : EReal := Ideal.ofBits .f32 0x45000000#32
abbrev E : EReal := Ideal.ofBits .f32 0x358637BD#32
abbrev rw (X : S4096x2048.Idx → EReal) (h : Fin 1) (i : Fin 4096) : Fin 2048 → EReal := fun d => X (ix2 i d)
abbrev gr (G : S2048.Idx → EReal) : Fin 2048 → EReal := fun d => G (ix1 d)
abbrev br (X : S128x2048.Idx → EReal) (r : Fin 128) : Fin 2048 → EReal := fun d => X (ix2 r d)
abbrev b1 (X : S1x2048.Idx → EReal) : Fin 2048 → EReal := fun d => X (ix2 0 d)

variable (m : (ℓ : Loc nD τ sig) → Buf (Elt Ideal) ℓ) (c : Dev nD)

abbrev a0 : S4096x2048.Idx → EReal := m ((c : Thread nD τ).loc main_arg0)
abbrev a1 : S2048.Idx → EReal := m ((c : Thread nD τ).loc main_arg1)
abbrev a2 : S4096x2048.Idx → EReal := m ((c : Thread nD τ).loc main_arg2)
abbrev a3 : S4096x2048.Idx → EReal := m ((c : Thread nD τ).loc main_arg3)

/-- The block indices of a grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![t.val, 0] :=
  (by decide +kernel : ∀ t : Fin grid0.N, _)

/-- The gain's row. -/
theorem vg (d : Fin 2048) : (V m c main_v0 : S1x2048.Idx → EReal) (ix2 0 d) = a1 m c (ix1 d) := by
  show (StableHlo.after hostOps0 (fun b => m (c, b)) (Proc.devRef .tc main_v0) : S1x2048.Idx → EReal) (ix2 0 d) = _
  after_results_simp
  pointwise []

section
variable (t : Fin cfg0.N) (r : Fin 128) (h : Fin 1) (i : Fin 4096) (d : Fin 2048)
  (eh : (h : ℕ) = 0) (ei : (i : ℕ) = t.val * 128 + r)
include eh ei

/-- The blocks of a grid point hold rows of the arguments. -/
theorem bx : br (iblk m c 0 t) r = rw (a0 m c) h i := by
  funext d
  blk_point [br, iblk, V, idx t]

theorem by_ : br (iblk m c 2 t) r = rw (a2 m c) h i := by
  funext d
  blk_point [br, iblk, V, idx t]

theorem ba : br (iblk m c 3 t) r = rw (a3 m c) h i := by
  funext d
  blk_point [br, iblk, V, idx t]

end

theorem bg (t : Fin cfg0.N) : b1 (iblk m c 1 t) = gr (a1 m c) := by
  funext d
  refine Eq.trans ?_ (vg m c d)
  show (iblk m c 1 t : Vec Ideal S1x2048 .f32) (ix2 0 d) = _
  blk_point [iblk, idx t]

/-- What one grid point adds to the gain's gradient. -/
def part (t : Fin cfg0.N) (d : Fin 2048) : EReal := ∑ r : Fin 128, br (iblk m c 2 t) r d * nx N E (br (iblk m c 0 t) r) d

/-- The gain's gradient after a grid point: the part of the first point of a sweep, the sum with the part after that. -/
theorem stepA (t : Fin cfg0.N) (h : t.val % 32 = 0) (y : S1x2048.Idx) : (outsAt0 m c t.val t.isLt).2.1 y = 0 + part m c t (y 1) := by
  rw [outsAt0_A m c t h]
  frame_out
  pointwise [k0_pay2, k0_pay4, k0_pay1, k0_pay3]
  rfl

theorem stepB (t : Fin cfg0.N) (h : ¬ t.val % 32 = 0) (y : S1x2048.Idx) :
    (outsAt0 m c t.val t.isLt).2.1 y = (outsAt0 m c (t.val - 1) (Nat.lt_of_le_of_lt (Nat.sub_le _ _) t.isLt)).2.1 y + part m c t (y 1) := by
  rw [outsAt0_B m c t h]
  frame_out
  pointwise [k0_pay2, k0_pay4, k0_pay1, k0_pay3]
  rfl

/-- The row's gradient a grid point leaves. -/
theorem stepD (t : Fin cfg0.N) (r : Fin 128) (d : Fin 2048) :
    (outsAt0 m c t.val t.isLt).1 (ix2 r d) = nd N E (br (iblk m c 0 t) r) (b1 (iblk m c 1 t)) (br (iblk m c 2 t) r) d + br (iblk m c 3 t) r d := by
  by_cases h : t.val % 32 = 0
  · rw [outsAt0_A m c t h]
    frame_out
    pointwise [k0_pay7, k0_pay6, k0_pay5, k0_pay4, k0_pay3]
    rfl
  · rw [outsAt0_B m c t h]
    frame_out
    pointwise [k0_pay7, k0_pay6, k0_pay5, k0_pay4, k0_pay3]
    rfl

theorem stepF (t : Fin cfg0.N) (r : Fin 128) (d : Fin 2048) :
    (outsAt0 m c t.val t.isLt).2.2 (ix2 r d) = nd N E (br (iblk m c 0 t) r) (b1 (iblk m c 1 t)) (br (iblk m c 2 t) r) d + br (iblk m c 3 t) r d := by
  by_cases h : t.val % 32 = 0
  · rw [outsAt0_A m c t h]
    frame_out
    pointwise [k0_pay7, k0_pay6, k0_pay5, k0_pay4, k0_pay3]
    rfl
  · rw [outsAt0_B m c t h]
    frame_out
    pointwise [k0_pay7, k0_pay6, k0_pay5, k0_pay4, k0_pay3]
    rfl

/-- The head and the place of a column. -/
abbrev hd (z : Fin 2048) : Fin 1 := 0
abbrev ln (z : Fin 2048) : Fin 2048 := z

/-- The row's gradient at a row and a column of the result. -/
def dx (i : Fin 4096) (z : Fin 2048) : EReal :=
  nd N E (rw (a0 m c) (hd z) i) (gr (a1 m c)) (rw (a2 m c) (hd z) i) (ln z) + rw (a3 m c) (hd z) i (ln z)

/-- The gain's gradient. -/
def dg (d : Fin 2048) : EReal := ∑ h : Fin 1, ∑ i : Fin 4096, rw (a2 m c) h i d * nx N E (rw (a0 m c) h i) d

theorem dx_point (t : Fin cfg0.N) (r : Fin 128) (d : Fin 2048) (i : Fin 4096) (z : Fin 2048) (ei : (i : ℕ) = t.val * 128 + r)
    (ez : (z : ℕ) = d) :
    nd N E (br (iblk m c 0 t) r) (b1 (iblk m c 1 t)) (br (iblk m c 2 t) r) d + br (iblk m c 3 t) r d = dx m c i z := by
  have hd' := d.isLt
  have eh : (hd z : ℕ) = 0 := by rfl
  have el : d = ln z := Fin.ext (by exact ez.symm)
  rw [dx, bx m c t r _ _ eh ei, by_ m c t r _ _ eh ei, bg, ba m c t r _ _ eh ei, ← el]

theorem final_dx : (dats m 0 c).arrAt 4 cfg0.N = ((fun y => dx m c (y 0) (y 1)) : S4096x2048.Idx → EReal) := by
  refine (dats m 0 c).arrAt_eq_of_covers 4 _ (by decide +kernel) fun t hf y => ?_
  blk_simp
  have e0 : (((win0_4.blk t).view.emb y 0 : Fin 4096) : ℕ) = t.val * 128 + (y 0 : Fin 128) := by blk_simp [idx t]
  have e1 : (((win0_4.blk t).view.emb y 1 : Fin 2048) : ℕ) = (y 1 : Fin 2048) := by blk_simp [idx t]
  rw [after0_4]
  refine (congrArg _ (ix2_eta (n0 := 128) (n1 := 2048) y).symm).trans ((stepD m c t (y 0) (y 1)).trans ?_)
  exact dx_point m c t (y 0) (y 1) _ _ e0 e1

theorem final_bf : (dats m 0 c).arrAt 6 cfg0.N = ((fun y => dx m c (y 0) (y 1)) : S4096x2048.Idx → EReal) := by
  refine (dats m 0 c).arrAt_eq_of_covers 6 _ (by decide +kernel) fun t hf y => ?_
  blk_simp
  have e0 : (((win0_6.blk t).view.emb y 0 : Fin 4096) : ℕ) = t.val * 128 + (y 0 : Fin 128) := by blk_simp [idx t]
  have e1 : (((win0_6.blk t).view.emb y 1 : Fin 2048) : ℕ) = (y 1 : Fin 2048) := by blk_simp [idx t]
  rw [after0_6]
  refine (congrArg _ (ix2_eta (n0 := 128) (n1 := 2048) y).symm).trans ((stepF m c t (y 0) (y 1)).trans ?_)
  exact dx_point m c t (y 0) (y 1) _ _ e0 e1

/-- The points' parts add up to the sum over all rows. -/
theorem parts (p : Fin 32 → Fin cfg0.N) (hp : ∀ s, (p s).val = s) (d : Fin 2048) : ∑ s, part m c (p s) d = dg m c d := by
  refine sum_rows 32 128 rfl rfl _ (fun h i => rw (a2 m c) h i d * nx N E (rw (a0 m c) h i) d) fun s h i eh ei => ?_
  have hs := hp s
  refine Finset.sum_congr rfl fun r _ => ?_
  have er := ei r
  have eh' : (h : ℕ) = 0 := by omega
  have ei' : (i r : ℕ) = (p s).val * 128 + r := by omega
  rw [bx m c (p s) r _ _ eh' ei', by_ m c (p s) r _ _ eh' ei']

theorem final_dg : (dats m 0 c).arrAt 5 cfg0.N = ((fun y => dg m c (y 1)) : S1x2048.Idx → EReal) := by
  refine (dats m 0 c).arrAt_eq_of_covers 5 _ (by decide +kernel) fun t hf y => ?_
  blk_simp
  have hf' := (flush0_5 t).mp hf
  have e1 : ((win0_5.blk t).view.emb y 1 : Fin 2048) = (y 1 : Fin 2048) := Fin.ext (by blk_simp [idx t])
  rw [after0_5, Pipeline.eq_sum_fin_of_reset_step_apply_of_flush (fun n h => (outsAt0 m c n h).2.1) 32 (fun _ => 0) (fun t y => part m c t (y 1))
    (stepA m c) (stepB m c) t hf' _, zero_add]
  refine (parts m c _ (fun s => ?_) _).trans (congrArg (dg m c) e1.symm)
  have hN : t.val < 32 := t.isLt
  show 32 * (t.val / 32) + (s : ℕ) = s
  omega

end Cert.NormEq
end
-- ==== Proof.NormClaim.lean ====
/- The norm's gradient Norm: the reference at an index, and the claims. -/
module

public import proofs.«01_k».proof.Defs
public import proofs.«01_k».proof.Proof.NormValue
public import proofs.«01_k».proof.Proof.Gen.NormKIdeal.Value
public import proofs.«01_k».proof.Proof.Gen.NormRIdeal.Read
public import proofs.«01_k».proof.Proof.Gen.NormRIdeal.Run
public import proofs.«01_k».proof.Proof.Gen.Pre_norm_finite

@[expose] public section

set_option maxRecDepth 16384

noncomputable section

namespace Cert.NormEq

open Idealize.ShloMosaic Idealize.ShloMosaic.TcCoe Idealize.SL.Sem
open Cert.NormKIdeal Cert.NormKIdeal.Gen Cert.Reals Cert.Norms Cert.Attn

/-- The length is a positive real number. -/
theorem len : N = ((2048 : ℝ) : EReal) := by
  simp [N, Ideal.ofBits, Ideal.ieee, -EReal.coe_mul]
  norm_num

section
open Cert.NormRIdeal.Read
variable (x0 x2 x3 : S4096x2048.Idx → EReal) (x1 : S2048.Idx → EReal) (i : Fin 4096) (z : Fin 2048)

/-- The reference's gradient of a row. -/
theorem ref_dx : val_main_v36 (F := Ideal) x0 x1 x2 x3 (ix2 i z) = rw x3 (hd z) i (ln z) + rw x2 (hd z) i (ln z) * gr x1 (ln z) * nr N E (rw x0 (hd z) i) + rw x0 (hd z) i (ln z) * nc N E (rw x0 (hd z) i) (gr x1) (rw x2 (hd z) i) (Ideal.ofBits .f32 0xBF000000#32) + nc N E (rw x0 (hd z) i) (gr x1) (rw x2 (hd z) i) (Ideal.ofBits .f32 0xBF000000#32) * rw x0 (hd z) i (ln z) := by
  pointwise [val_main_v0, val_main_cst, val_main_v1, val_main_v2, val_main_cst_0, val_main_v3, val_main_v4, val_main_cst_1, val_main_v5,
    val_main_v6, val_main_v7, val_main_v8, val_main_cst_2, val_main_v9, val_main_v10, val_main_v13, val_main_v19, val_main_v20,
    val_main_v22, val_main_cst_5, val_main_v23, val_main_v24, val_main_v25, val_main_v26, val_main_v27, val_main_v28,
    val_main_cst_6, val_main_v29, val_main_v30, val_main_cst_7, val_main_v31, val_main_v32, val_main_v33, val_main_v34,
    val_main_v35, val_main_v36]
  simp only [Fin.sum_univ_one]
  rfl

/-- The reference's gradient of a row. -/
theorem ref_bf : val_main_v38 (F := Ideal) x0 x1 x2 x3 (ix2 i z) = rw x3 (hd z) i (ln z) + rw x2 (hd z) i (ln z) * gr x1 (ln z) * nr N E (rw x0 (hd z) i) + rw x0 (hd z) i (ln z) * nc N E (rw x0 (hd z) i) (gr x1) (rw x2 (hd z) i) (Ideal.ofBits .f32 0xBF000000#32) + nc N E (rw x0 (hd z) i) (gr x1) (rw x2 (hd z) i) (Ideal.ofBits .f32 0xBF000000#32) * rw x0 (hd z) i (ln z) := by
  rw [val_main_v38_apply, ref_dx]
  rfl

/-- The reference's gradient of the gain. -/
theorem ref_dg (d : Fin 2048) : val_main_v37 (F := Ideal) x0 x2 (ix2 0 d) = ∑ h : Fin 1, ∑ i : Fin 4096, nx N E (rw x0 h i) d * rw x2 h i d := by
  pointwise [val_main_v0, val_main_cst, val_main_v1, val_main_v2, val_main_cst_0, val_main_v3, val_main_v4, val_main_cst_1, val_main_v5,
    val_main_v6, val_main_v7, val_main_v11, val_main_v12, val_main_v16, val_main_cst_3, val_main_v17, val_main_v18,
    val_main_cst_4, val_main_v21, val_main_v37]
  simp only [Fin.sum_univ_one]
  rfl

end

section
variable (m : (ℓ : Loc nD τ sig) → Buf (Elt Ideal) ℓ) (c : Dev nD)
  (h0 : ∀ i, IsReal (a0 m c i)) (h1 : ∀ i, IsReal (a1 m c i)) (h2 : ∀ i, IsReal (a2 m c i))
include h0 h1 h2

theorem dx_eq (i : Fin 4096) (z : Fin 2048) : Cert.NormRIdeal.Read.val_main_v36 (F := Ideal) (a0 m c) (a1 m c) (a2 m c) (a3 m c) (ix2 i z) = dx m c i z := by
  have e := nd_eq len (by norm_num) (x := rw (a0 m c) (hd z) i) (fun t => h0 _) (g := gr (a1 m c)) (fun t => h1 _) (y := rw (a2 m c) (hd z) i) (fun t => h2 _) (ln z)
  refine (ref_dx (a0 m c) (a2 m c) (a3 m c) (a1 m c) i z).trans ?_
  rw [dx, ← e]
  exact add_last _ _ _ _

theorem eq_dx : Cert.NormRIdeal.Read.val_main_v36 (F := Ideal) (a0 m c) (a1 m c) (a2 m c) (a3 m c) = (dats m 0 c).arrAt 4 cfg0.N := by
  rw [final_dx]
  funext y
  exact (congrArg _ (ix2_eta (n0 := 4096) (n1 := 2048) y).symm).trans (dx_eq m c h0 h1 h2 (y 0) (y 1))

theorem eq_bf : Cert.NormRIdeal.Read.val_main_v38 (F := Ideal) (a0 m c) (a1 m c) (a2 m c) (a3 m c) = (dats m 0 c).arrAt 6 cfg0.N := by
  rw [final_bf]
  funext y
  refine (congrArg _ (ix2_eta (n0 := 4096) (n1 := 2048) y).symm).trans (Eq.trans ?_ (dx_eq m c h0 h1 h2 (y 0) (y 1)))
  rw [Cert.NormRIdeal.Read.val_main_v38_apply]
  rfl

omit h0 h1 h2 in
theorem eq_dg : Cert.NormRIdeal.Read.val_main_v37 (F := Ideal) (a0 m c) (a2 m c) = (dats m 0 c).arrAt 5 cfg0.N := by
  rw [final_dg]
  funext y
  have hy : y = ix2 0 (y 1) := by
    funext a
    fin_cases a
    · exact Subsingleton.elim (α := Fin 1) _ _
    · rfl
  exact (congrArg _ hy).trans <| (ref_dg (a0 m c) (a2 m c) (y 1)).trans (Finset.sum_congr rfl fun h _ => Finset.sum_congr rfl fun i _ => mul_comm _ _)

end

/-- The precondition says that the three arrays hold real numbers. -/
theorem reals (x0 : FVec Ideal ⟨2, ![4096, 2048]⟩ .f32) (x1 : FVec Ideal ⟨1, ![2048]⟩ .f32) (x2 x3 : FVec Ideal ⟨2, ![4096, 2048]⟩ .f32)
    (h : Cert.Pre_norm_finite.fn (F := Ideal) x0 x1 x2 x3 = fun _ => 1#1) : (∀ i, IsReal (x0 i)) ∧ (∀ i, IsReal (x1 i)) ∧ ∀ i, IsReal (x2 i) := by
  have e := congrFun h (fun a => a.elim0)
  unfold Cert.Pre_norm_finite.fn at e
  obtain ⟨e, e2⟩ := IntOp.andi_eq_one.1 e
  obtain ⟨e0, e1⟩ := IntOp.andi_eq_one.1 e
  exact ⟨isReal_of_all _ _ _ _ _ _ e0, isReal_of_all _ _ _ _ _ _ e1, isReal_of_all _ _ _ _ _ _ e2⟩

/-- The reference runs; its arguments stay. -/
theorem frame_ref : Cert.quiescent_NormRIdeal := fun m ρ _ =>
  (θ_run Cert.NormRIdeal.defs _ _).mono (fun r h => ⟨fun c => (h c).2.2.2, sem_eq_zero_of_no_sems (by decide) r.2⟩)
    (Cert.NormRIdeal.Value.run (F := Ideal) m ρ)

theorem value : Cert.algebraic_NormKIdeal_NormRIdeal_pre_norm_finite := by
  pair_intro
  · run_from Cert.NormKIdeal.Gen.run_main m g
  · run_from Cert.NormRIdeal.Value.run m' g'
    · obtain ⟨h0, h1, h2⟩ := reals _ _ _ _ (hpre c)
      exact (Cert.NormRIdeal.Read.val_main_v36_eq _ _ _ _).trans (eq_dx m c h0 h1 h2)
    · exact (Cert.NormRIdeal.Read.val_main_v37_eq _ _).trans (eq_dg m c)
    · obtain ⟨h0, h1, h2⟩ := reals _ _ _ _ (hpre c)
      exact (Cert.NormRIdeal.Read.val_main_v38_eq _ _ _ _).trans (eq_bf m c h0 h1 h2)

end Cert.NormEq

end
-- ==== Proof.NormAValue.lean ====
/- The norm's gradient kernel NormA: what one grid point computes, and what its results hold. -/
module

public import proofs.«01_k».proof.Proof.Norms
public import proofs.«01_k».proof.Proof.Attn
public import proofs.«01_k».proof.Proof.Gen.NormAKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormAEq

open Cert.NormAKIdeal Cert.NormAKIdeal.Gen Cert.Reals Cert.Norms Cert.Attn

/-- The row's length, and the rows of the arguments. -/
abbrev N : EReal := Ideal.ofBits .f32 0x44000000#32
abbrev E : EReal := Ideal.ofBits .f32 0x358637BD#32
abbrev rw (X : S4096x512.Idx → EReal) (h : Fin 1) (i : Fin 4096) : Fin 512 → EReal := fun d => X (ix2 i d)
abbrev gr (G : S512.Idx → EReal) : Fin 512 → EReal := fun d => G (ix1 d)
abbrev br (X : S512x512.Idx → EReal) (r : Fin 512) : Fin 512 → EReal := fun d => X (ix2 r d)
abbrev b1 (X : S1x512.Idx → EReal) : Fin 512 → EReal := fun d => X (ix2 0 d)

variable (m : (ℓ : Loc nD τ sig) → Buf (Elt Ideal) ℓ) (c : Dev nD)

abbrev a0 : S4096x512.Idx → EReal := m ((c : Thread nD τ).loc main_arg0)
abbrev a1 : S512.Idx → EReal := m ((c : Thread nD τ).loc main_arg1)
abbrev a2 : S4096x512.Idx → EReal := m ((c : Thread nD τ).loc main_arg2)

/-- The block indices of a grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0] :=
  (by decide +kernel : ∀ t : Fin grid0.N, _)

/-- The gain's row. -/
theorem vg (d : Fin 512) : (V m c main_v0 : S1x512.Idx → EReal) (ix2 0 d) = a1 m c (ix1 d) := by
  show (StableHlo.after hostOps0 (fun b => m (c, b)) (Proc.devRef .tc main_v0) : S1x512.Idx → EReal) (ix2 0 d) = _
  after_results_simp
  pointwise []

section
variable (t : Fin cfg0.N) (r : Fin 512) (h : Fin 1) (i : Fin 4096) (d : Fin 512)
  (eh : (h : ℕ) = 0) (ei : (i : ℕ) = t.val * 512 + r)
include eh ei

/-- The blocks of a grid point hold rows of the arguments. -/
theorem bx : br (iblk m c 0 t) r = rw (a0 m c) h i := by
  funext d
  blk_point [br, iblk, V, idx t]

theorem by_ : br (iblk m c 2 t) r = rw (a2 m c) h i := by
  funext d
  blk_point [br, iblk, V, idx t]

end

theorem bg (t : Fin cfg0.N) : b1 (iblk m c 1 t) = gr (a1 m c) := by
  funext d
  refine Eq.trans ?_ (vg m c d)
  show (iblk m c 1 t : Vec Ideal S1x512 .f32) (ix2 0 d) = _
  blk_point [iblk, idx t]

/-- What one grid point adds to the gain's gradient. -/
def part (t : Fin cfg0.N) (d : Fin 512) : EReal := ∑ r : Fin 512, br (iblk m c 2 t) r d * nx N E (br (iblk m c 0 t) r) d

/-- The gain's gradient after a grid point: the part of the first point of a sweep, the sum with the part after that. -/
theorem stepA (t : Fin cfg0.N) (h : t.val % 8 = 0) (y : S1x512.Idx) : (outsAt0 m c t.val t.isLt).2 y = 0 + part m c t (y 1) := by
  rw [outsAt0_A m c t h]
  frame_out
  pointwise [k0_pay1, k0_pay6, k0_pay7, k0_pay5, k0_pay3, k0_pay2]
  rfl

theorem stepB (t : Fin cfg0.N) (h : ¬ t.val % 8 = 0) (y : S1x512.Idx) :
    (outsAt0 m c t.val t.isLt).2 y = (outsAt0 m c (t.val - 1) (Nat.lt_of_le_of_lt (Nat.sub_le _ _) t.isLt)).2 y + part m c t (y 1) := by
  rw [outsAt0_B m c t h]
  frame_out
  pointwise [k0_pay1, k0_pay6, k0_pay7, k0_pay5, k0_pay3, k0_pay2]
  rfl

/-- The row's gradient a grid point leaves. -/
theorem stepD (t : Fin cfg0.N) (r : Fin 512) (d : Fin 512) :
    (outsAt0 m c t.val t.isLt).1 (ix2 r d) = nd N E (br (iblk m c 0 t) r) (b1 (iblk m c 1 t)) (br (iblk m c 2 t) r) d := by
  by_cases h : t.val % 8 = 0
  · rw [outsAt0_A m c t h]
    frame_out
    pointwise [k0_pay4, k0_pay3, k0_pay2]
    rfl
  · rw [outsAt0_B m c t h]
    frame_out
    pointwise [k0_pay4, k0_pay3, k0_pay2]
    rfl

/-- The head and the place of a column. -/
abbrev hd (z : Fin 512) : Fin 1 := 0
abbrev ln (z : Fin 512) : Fin 512 := z

/-- The row's gradient at a row and a column of the result. -/
def dx (i : Fin 4096) (z : Fin 512) : EReal :=
  nd N E (rw (a0 m c) (hd z) i) (gr (a1 m c)) (rw (a2 m c) (hd z) i) (ln z)

/-- The gain's gradient. -/
def dg (d : Fin 512) : EReal := ∑ h : Fin 1, ∑ i : Fin 4096, rw (a2 m c) h i d * nx N E (rw (a0 m c) h i) d

theorem dx_point (t : Fin cfg0.N) (r : Fin 512) (d : Fin 512) (i : Fin 4096) (z : Fin 512) (ei : (i : ℕ) = t.val * 512 + r)
    (ez : (z : ℕ) = d) :
    nd N E (br (iblk m c 0 t) r) (b1 (iblk m c 1 t)) (br (iblk m c 2 t) r) d = dx m c i z := by
  have hd' := d.isLt
  have eh : (hd z : ℕ) = 0 := by rfl
  have el : d = ln z := Fin.ext (by exact ez.symm)
  rw [dx, bx m c t r _ _ eh ei, by_ m c t r _ _ eh ei, bg, ← el]

theorem final_dx : (dats m 0 c).arrAt 3 cfg0.N = ((fun y => dx m c (y 0) (y 1)) : S4096x512.Idx → EReal) := by
  refine (dats m 0 c).arrAt_eq_of_covers 3 _ (by decide +kernel) fun t hf y => ?_
  blk_simp
  have e0 : (((win0_3.blk t).view.emb y 0 : Fin 4096) : ℕ) = t.val * 512 + (y 0 : Fin 512) := by blk_simp [idx t]
  have e1 : (((win0_3.blk t).view.emb y 1 : Fin 512) : ℕ) = (y 1 : Fin 512) := by blk_simp [idx t]
  rw [after0_3]
  refine (congrArg _ (ix2_eta (n0 := 512) (n1 := 512) y).symm).trans ((stepD m c t (y 0) (y 1)).trans ?_)
  exact dx_point m c t (y 0) (y 1) _ _ e0 e1

/-- The points' parts add up to the sum over all rows. -/
theorem parts (p : Fin 8 → Fin cfg0.N) (hp : ∀ s, (p s).val = s) (d : Fin 512) : ∑ s, part m c (p s) d = dg m c d := by
  refine sum_rows 8 512 rfl rfl _ (fun h i => rw (a2 m c) h i d * nx N E (rw (a0 m c) h i) d) fun s h i eh ei => ?_
  have hs := hp s
  refine Finset.sum_congr rfl fun r _ => ?_
  have er := ei r
  have eh' : (h : ℕ) = 0 := by omega
  have ei' : (i r : ℕ) = (p s).val * 512 + r := by omega
  rw [bx m c (p s) r _ _ eh' ei', by_ m c (p s) r _ _ eh' ei']

theorem final_dg : (dats m 0 c).arrAt 4 cfg0.N = ((fun y => dg m c (y 1)) : S1x512.Idx → EReal) := by
  refine (dats m 0 c).arrAt_eq_of_covers 4 _ (by decide +kernel) fun t hf y => ?_
  blk_simp
  have hf' := (flush0_4 t).mp hf
  have e1 : ((win0_4.blk t).view.emb y 1 : Fin 512) = (y 1 : Fin 512) := Fin.ext (by blk_simp [idx t])
  rw [after0_4, Pipeline.eq_sum_fin_of_reset_step_apply_of_flush (fun n h => (outsAt0 m c n h).2) 8 (fun _ => 0) (fun t y => part m c t (y 1))
    (stepA m c) (stepB m c) t hf' _, zero_add]
  refine (parts m c _ (fun s => ?_) _).trans (congrArg (dg m c) e1.symm)
  have hN : t.val < 8 := t.isLt
  show 8 * (t.val / 8) + (s : ℕ) = s
  omega

end Cert.NormAEq
end
-- ==== Proof.NormAClaim.lean ====
/- The norm's gradient NormA: the reference at an index, and the claims. -/
module

public import proofs.«01_k».proof.Defs
public import proofs.«01_k».proof.Proof.NormAValue
public import proofs.«01_k».proof.Proof.Gen.NormAKIdeal.Value
public import proofs.«01_k».proof.Proof.Gen.NormARIdeal.Read
public import proofs.«01_k».proof.Proof.Gen.NormARIdeal.Run
public import proofs.«01_k».proof.Proof.Gen.Pre_norma_finite

@[expose] public section

set_option maxRecDepth 16384

noncomputable section

namespace Cert.NormAEq

open Idealize.ShloMosaic Idealize.ShloMosaic.TcCoe Idealize.SL.Sem
open Cert.NormAKIdeal Cert.NormAKIdeal.Gen Cert.Reals Cert.Norms Cert.Attn

/-- The length is a positive real number. -/
theorem len : N = ((512 : ℝ) : EReal) := by
  simp [N, Ideal.ofBits, Ideal.ieee, -EReal.coe_mul]
  norm_num

section
open Cert.NormARIdeal.Read
variable (x0 x2 : S4096x512.Idx → EReal) (x1 : S512.Idx → EReal) (i : Fin 4096) (z : Fin 512)

/-- The reference's gradient of a row. -/
theorem ref_dx : val_main_v35 (F := Ideal) x0 x1 x2 (ix2 i z) = rd N E (rw x0 (hd z) i) (gr x1) (rw x2 (hd z) i) (ln z) (Ideal.ofBits .f32 0xBF000000#32) := by
  pointwise [val_main_v0, val_main_cst, val_main_v1, val_main_v2, val_main_cst_0, val_main_v3, val_main_v4, val_main_cst_1, val_main_v5,
    val_main_v6, val_main_v7, val_main_v8, val_main_cst_2, val_main_v9, val_main_v10, val_main_v13, val_main_v19, val_main_v20,
    val_main_v22, val_main_cst_5, val_main_v23, val_main_v24, val_main_v25, val_main_v26, val_main_v27, val_main_cst_6,
    val_main_v28, val_main_v29, val_main_cst_7, val_main_v30, val_main_v31, val_main_v32, val_main_v33, val_main_v34,
    val_main_v35]
  simp only [Fin.sum_univ_one]
  rfl

/-- The reference's gradient of the gain. -/
theorem ref_dg (d : Fin 512) : val_main_v36 (F := Ideal) x0 x2 (ix2 0 d) = ∑ h : Fin 1, ∑ i : Fin 4096, nx N E (rw x0 h i) d * rw x2 h i d := by
  pointwise [val_main_v0, val_main_cst, val_main_v1, val_main_v2, val_main_cst_0, val_main_v3, val_main_v4, val_main_cst_1, val_main_v5,
    val_main_v6, val_main_v7, val_main_v11, val_main_v12, val_main_v16, val_main_cst_3, val_main_v17, val_main_v18,
    val_main_cst_4, val_main_v21, val_main_v36]
  simp only [Fin.sum_univ_one]
  rfl

end

section
variable (m : (ℓ : Loc nD τ sig) → Buf (Elt Ideal) ℓ) (c : Dev nD)
  (h0 : ∀ i, IsReal (a0 m c i)) (h1 : ∀ i, IsReal (a1 m c i)) (h2 : ∀ i, IsReal (a2 m c i))
include h0 h1 h2

theorem dx_eq (i : Fin 4096) (z : Fin 512) : Cert.NormARIdeal.Read.val_main_v35 (F := Ideal) (a0 m c) (a1 m c) (a2 m c) (ix2 i z) = dx m c i z :=
  (ref_dx (a0 m c) (a2 m c) (a1 m c) i z).trans (nd_eq len (by norm_num) (fun t => h0 _) (fun t => h1 _) (fun t => h2 _) _)

theorem eq_dx : Cert.NormARIdeal.Read.val_main_v35 (F := Ideal) (a0 m c) (a1 m c) (a2 m c) = (dats m 0 c).arrAt 3 cfg0.N := by
  rw [final_dx]
  funext y
  exact (congrArg _ (ix2_eta (n0 := 4096) (n1 := 512) y).symm).trans (dx_eq m c h0 h1 h2 (y 0) (y 1))

omit h0 h1 h2 in
theorem eq_dg : Cert.NormARIdeal.Read.val_main_v36 (F := Ideal) (a0 m c) (a2 m c) = (dats m 0 c).arrAt 4 cfg0.N := by
  rw [final_dg]
  funext y
  have hy : y = ix2 0 (y 1) := by
    funext a
    fin_cases a
    · exact Subsingleton.elim (α := Fin 1) _ _
    · rfl
  exact (congrArg _ hy).trans <| (ref_dg (a0 m c) (a2 m c) (y 1)).trans (Finset.sum_congr rfl fun h _ => Finset.sum_congr rfl fun i _ => mul_comm _ _)

end

/-- The precondition says that the three arrays hold real numbers. -/
theorem reals (x0 : FVec Ideal ⟨2, ![4096, 512]⟩ .f32) (x1 : FVec Ideal ⟨1, ![512]⟩ .f32) (x2 : FVec Ideal ⟨2, ![4096, 512]⟩ .f32)
    (h : Cert.Pre_norma_finite.fn (F := Ideal) x0 x1 x2 = fun _ => 1#1) : (∀ i, IsReal (x0 i)) ∧ (∀ i, IsReal (x1 i)) ∧ ∀ i, IsReal (x2 i) := by
  have e := congrFun h (fun a => a.elim0)
  unfold Cert.Pre_norma_finite.fn at e
  obtain ⟨e, e2⟩ := IntOp.andi_eq_one.1 e
  obtain ⟨e0, e1⟩ := IntOp.andi_eq_one.1 e
  exact ⟨isReal_of_all _ _ _ _ _ _ e0, isReal_of_all _ _ _ _ _ _ e1, isReal_of_all _ _ _ _ _ _ e2⟩

/-- The reference runs; its arguments stay. -/
theorem frame_ref : Cert.quiescent_NormARIdeal := fun m ρ _ =>
  (θ_run Cert.NormARIdeal.defs _ _).mono (fun r h => ⟨fun c => (h c).2.2, sem_eq_zero_of_no_sems (by decide) r.2⟩)
    (Cert.NormARIdeal.Value.run (F := Ideal) m ρ)

theorem value : Cert.algebraic_NormAKIdeal_NormARIdeal_pre_norma_finite := by
  pair_intro
  · run_from Cert.NormAKIdeal.Gen.run_main m g
  · run_from Cert.NormARIdeal.Value.run m' g'
    · obtain ⟨h0, h1, h2⟩ := reals _ _ _ (hpre c)
      exact (Cert.NormARIdeal.Read.val_main_v35_eq _ _ _).trans (eq_dx m c h0 h1 h2)
    · exact (Cert.NormARIdeal.Read.val_main_v36_eq _ _).trans (eq_dg m c)

end Cert.NormAEq

end
-- ==== Proof.NormBValue.lean ====
/- The norm's gradient kernel NormB: what one grid point computes, and what its results hold. -/
module

public import proofs.«01_k».proof.Proof.Norms
public import proofs.«01_k».proof.Proof.Attn
public import proofs.«01_k».proof.Proof.Gen.NormBKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormBEq

open Cert.NormBKIdeal Cert.NormBKIdeal.Gen Cert.Reals Cert.Norms Cert.Attn

/-- The row's length, and the rows of the arguments. -/
abbrev N : EReal := Ideal.ofBits .f32 0x44400000#32
abbrev E : EReal := Ideal.ofBits .f32 0x358637BD#32
abbrev rw (X : S4096x768.Idx → EReal) (h : Fin 1) (i : Fin 4096) : Fin 768 → EReal := fun d => X (ix2 i d)
abbrev gr (G : S768.Idx → EReal) : Fin 768 → EReal := fun d => G (ix1 d)
abbrev br (X : S256x768.Idx → EReal) (r : Fin 256) : Fin 768 → EReal := fun d => X (ix2 r d)
abbrev b1 (X : S1x768.Idx → EReal) : Fin 768 → EReal := fun d => X (ix2 0 d)

variable (m : (ℓ : Loc nD τ sig) → Buf (Elt Ideal) ℓ) (c : Dev nD)

abbrev a0 : S4096x768.Idx → EReal := m ((c : Thread nD τ).loc main_arg0)
abbrev a1 : S768.Idx → EReal := m ((c : Thread nD τ).loc main_arg1)
abbrev a2 : S4096x768.Idx → EReal := m ((c : Thread nD τ).loc main_arg2)

/-- The block indices of a grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0] :=
  (by decide +kernel : ∀ t : Fin grid0.N, _)

/-- The gain's row. -/
theorem vg (d : Fin 768) : (V m c main_v0 : S1x768.Idx → EReal) (ix2 0 d) = a1 m c (ix1 d) := by
  show (StableHlo.after hostOps0 (fun b => m (c, b)) (Proc.devRef .tc main_v0) : S1x768.Idx → EReal) (ix2 0 d) = _
  after_results_simp
  pointwise []

section
variable (t : Fin cfg0.N) (r : Fin 256) (h : Fin 1) (i : Fin 4096) (d : Fin 768)
  (eh : (h : ℕ) = 0) (ei : (i : ℕ) = t.val * 256 + r)
include eh ei

/-- The blocks of a grid point hold rows of the arguments. -/
theorem bx : br (iblk m c 0 t) r = rw (a0 m c) h i := by
  funext d
  blk_point [br, iblk, V, idx t]

theorem by_ : br (iblk m c 2 t) r = rw (a2 m c) h i := by
  funext d
  blk_point [br, iblk, V, idx t]

end

theorem bg (t : Fin cfg0.N) : b1 (iblk m c 1 t) = gr (a1 m c) := by
  funext d
  refine Eq.trans ?_ (vg m c d)
  show (iblk m c 1 t : Vec Ideal S1x768 .f32) (ix2 0 d) = _
  blk_point [iblk, idx t]

/-- What one grid point adds to the gain's gradient. -/
def part (t : Fin cfg0.N) (d : Fin 768) : EReal := ∑ r : Fin 256, br (iblk m c 2 t) r d * nx N E (br (iblk m c 0 t) r) d

/-- The gain's gradient after a grid point: the part of the first point of a sweep, the sum with the part after that. -/
theorem stepA (t : Fin cfg0.N) (h : t.val % 16 = 0) (y : S1x768.Idx) : (outsAt0 m c t.val t.isLt).2 y = 0 + part m c t (y 1) := by
  rw [outsAt0_A m c t h]
  frame_out
  pointwise [k0_pay1, k0_pay6, k0_pay7, k0_pay5, k0_pay3, k0_pay2]
  rfl

theorem stepB (t : Fin cfg0.N) (h : ¬ t.val % 16 = 0) (y : S1x768.Idx) :
    (outsAt0 m c t.val t.isLt).2 y = (outsAt0 m c (t.val - 1) (Nat.lt_of_le_of_lt (Nat.sub_le _ _) t.isLt)).2 y + part m c t (y 1) := by
  rw [outsAt0_B m c t h]
  frame_out
  pointwise [k0_pay1, k0_pay6, k0_pay7, k0_pay5, k0_pay3, k0_pay2]
  rfl

/-- The row's gradient a grid point leaves. -/
theorem stepD (t : Fin cfg0.N) (r : Fin 256) (d : Fin 768) :
    (outsAt0 m c t.val t.isLt).1 (ix2 r d) = nd N E (br (iblk m c 0 t) r) (b1 (iblk m c 1 t)) (br (iblk m c 2 t) r) d := by
  by_cases h : t.val % 16 = 0
  · rw [outsAt0_A m c t h]
    frame_out
    pointwise [k0_pay4, k0_pay3, k0_pay2]
    rfl
  · rw [outsAt0_B m c t h]
    frame_out
    pointwise [k0_pay4, k0_pay3, k0_pay2]
    rfl

/-- The head and the place of a column. -/
abbrev hd (z : Fin 768) : Fin 1 := 0
abbrev ln (z : Fin 768) : Fin 768 := z

/-- The row's gradient at a row and a column of the result. -/
def dx (i : Fin 4096) (z : Fin 768) : EReal :=
  nd N E (rw (a0 m c) (hd z) i) (gr (a1 m c)) (rw (a2 m c) (hd z) i) (ln z)

/-- The gain's gradient. -/
def dg (d : Fin 768) : EReal := ∑ h : Fin 1, ∑ i : Fin 4096, rw (a2 m c) h i d * nx N E (rw (a0 m c) h i) d

theorem dx_point (t : Fin cfg0.N) (r : Fin 256) (d : Fin 768) (i : Fin 4096) (z : Fin 768) (ei : (i : ℕ) = t.val * 256 + r)
    (ez : (z : ℕ) = d) :
    nd N E (br (iblk m c 0 t) r) (b1 (iblk m c 1 t)) (br (iblk m c 2 t) r) d = dx m c i z := by
  have hd' := d.isLt
  have eh : (hd z : ℕ) = 0 := by rfl
  have el : d = ln z := Fin.ext (by exact ez.symm)
  rw [dx, bx m c t r _ _ eh ei, by_ m c t r _ _ eh ei, bg, ← el]

theorem final_dx : (dats m 0 c).arrAt 3 cfg0.N = ((fun y => dx m c (y 0) (y 1)) : S4096x768.Idx → EReal) := by
  refine (dats m 0 c).arrAt_eq_of_covers 3 _ (by decide +kernel) fun t hf y => ?_
  blk_simp
  have e0 : (((win0_3.blk t).view.emb y 0 : Fin 4096) : ℕ) = t.val * 256 + (y 0 : Fin 256) := by blk_simp [idx t]
  have e1 : (((win0_3.blk t).view.emb y 1 : Fin 768) : ℕ) = (y 1 : Fin 768) := by blk_simp [idx t]
  rw [after0_3]
  refine (congrArg _ (ix2_eta (n0 := 256) (n1 := 768) y).symm).trans ((stepD m c t (y 0) (y 1)).trans ?_)
  exact dx_point m c t (y 0) (y 1) _ _ e0 e1

/-- The points' parts add up to the sum over all rows. -/
theorem parts (p : Fin 16 → Fin cfg0.N) (hp : ∀ s, (p s).val = s) (d : Fin 768) : ∑ s, part m c (p s) d = dg m c d := by
  refine sum_rows 16 256 rfl rfl _ (fun h i => rw (a2 m c) h i d * nx N E (rw (a0 m c) h i) d) fun s h i eh ei => ?_
  have hs := hp s
  refine Finset.sum_congr rfl fun r _ => ?_
  have er := ei r
  have eh' : (h : ℕ) = 0 := by omega
  have ei' : (i r : ℕ) = (p s).val * 256 + r := by omega
  rw [bx m c (p s) r _ _ eh' ei', by_ m c (p s) r _ _ eh' ei']

theorem final_dg : (dats m 0 c).arrAt 4 cfg0.N = ((fun y => dg m c (y 1)) : S1x768.Idx → EReal) := by
  refine (dats m 0 c).arrAt_eq_of_covers 4 _ (by decide +kernel) fun t hf y => ?_
  blk_simp
  have hf' := (flush0_4 t).mp hf
  have e1 : ((win0_4.blk t).view.emb y 1 : Fin 768) = (y 1 : Fin 768) := Fin.ext (by blk_simp [idx t])
  rw [after0_4, Pipeline.eq_sum_fin_of_reset_step_apply_of_flush (fun n h => (outsAt0 m c n h).2) 16 (fun _ => 0) (fun t y => part m c t (y 1))
    (stepA m c) (stepB m c) t hf' _, zero_add]
  refine (parts m c _ (fun s => ?_) _).trans (congrArg (dg m c) e1.symm)
  have hN : t.val < 16 := t.isLt
  show 16 * (t.val / 16) + (s : ℕ) = s
  omega

end Cert.NormBEq
end
-- ==== Proof.NormBClaim.lean ====
/- The norm's gradient NormB: the reference at an index, and the claims. -/
module

public import proofs.«01_k».proof.Defs
public import proofs.«01_k».proof.Proof.NormBValue
public import proofs.«01_k».proof.Proof.Gen.NormBKIdeal.Value
public import proofs.«01_k».proof.Proof.Gen.NormBRIdeal.Read
public import proofs.«01_k».proof.Proof.Gen.NormBRIdeal.Run
public import proofs.«01_k».proof.Proof.Gen.Pre_normb_finite

@[expose] public section

set_option maxRecDepth 16384

noncomputable section

namespace Cert.NormBEq

open Idealize.ShloMosaic Idealize.ShloMosaic.TcCoe Idealize.SL.Sem
open Cert.NormBKIdeal Cert.NormBKIdeal.Gen Cert.Reals Cert.Norms Cert.Attn

/-- The length is a positive real number. -/
theorem len : N = ((768 : ℝ) : EReal) := by
  simp [N, Ideal.ofBits, Ideal.ieee, -EReal.coe_mul]
  norm_num

section
open Cert.NormBRIdeal.Read
variable (x0 x2 : S4096x768.Idx → EReal) (x1 : S768.Idx → EReal) (i : Fin 4096) (z : Fin 768)

/-- The reference's gradient of a row. -/
theorem ref_dx : val_main_v35 (F := Ideal) x0 x1 x2 (ix2 i z) = rd N E (rw x0 (hd z) i) (gr x1) (rw x2 (hd z) i) (ln z) (Ideal.ofBits .f32 0xBF000000#32) := by
  pointwise [val_main_v0, val_main_cst, val_main_v1, val_main_v2, val_main_cst_0, val_main_v3, val_main_v4, val_main_cst_1, val_main_v5,
    val_main_v6, val_main_v7, val_main_v8, val_main_cst_2, val_main_v9, val_main_v10, val_main_v13, val_main_v19, val_main_v20,
    val_main_v22, val_main_cst_5, val_main_v23, val_main_v24, val_main_v25, val_main_v26, val_main_v27, val_main_cst_6,
    val_main_v28, val_main_v29, val_main_cst_7, val_main_v30, val_main_v31, val_main_v32, val_main_v33, val_main_v34,
    val_main_v35]
  simp only [Fin.sum_univ_one]
  rfl

/-- The reference's gradient of the gain. -/
theorem ref_dg (d : Fin 768) : val_main_v36 (F := Ideal) x0 x2 (ix2 0 d) = ∑ h : Fin 1, ∑ i : Fin 4096, nx N E (rw x0 h i) d * rw x2 h i d := by
  pointwise [val_main_v0, val_main_cst, val_main_v1, val_main_v2, val_main_cst_0, val_main_v3, val_main_v4, val_main_cst_1, val_main_v5,
    val_main_v6, val_main_v7, val_main_v11, val_main_v12, val_main_v16, val_main_cst_3, val_main_v17, val_main_v18,
    val_main_cst_4, val_main_v21, val_main_v36]
  simp only [Fin.sum_univ_one]
  rfl

end

section
variable (m : (ℓ : Loc nD τ sig) → Buf (Elt Ideal) ℓ) (c : Dev nD)
  (h0 : ∀ i, IsReal (a0 m c i)) (h1 : ∀ i, IsReal (a1 m c i)) (h2 : ∀ i, IsReal (a2 m c i))
include h0 h1 h2

theorem dx_eq (i : Fin 4096) (z : Fin 768) : Cert.NormBRIdeal.Read.val_main_v35 (F := Ideal) (a0 m c) (a1 m c) (a2 m c) (ix2 i z) = dx m c i z :=
  (ref_dx (a0 m c) (a2 m c) (a1 m c) i z).trans (nd_eq len (by norm_num) (fun t => h0 _) (fun t => h1 _) (fun t => h2 _) _)

theorem eq_dx : Cert.NormBRIdeal.Read.val_main_v35 (F := Ideal) (a0 m c) (a1 m c) (a2 m c) = (dats m 0 c).arrAt 3 cfg0.N := by
  rw [final_dx]
  funext y
  exact (congrArg _ (ix2_eta (n0 := 4096) (n1 := 768) y).symm).trans (dx_eq m c h0 h1 h2 (y 0) (y 1))

omit h0 h1 h2 in
theorem eq_dg : Cert.NormBRIdeal.Read.val_main_v36 (F := Ideal) (a0 m c) (a2 m c) = (dats m 0 c).arrAt 4 cfg0.N := by
  rw [final_dg]
  funext y
  have hy : y = ix2 0 (y 1) := by
    funext a
    fin_cases a
    · exact Subsingleton.elim (α := Fin 1) _ _
    · rfl
  exact (congrArg _ hy).trans <| (ref_dg (a0 m c) (a2 m c) (y 1)).trans (Finset.sum_congr rfl fun h _ => Finset.sum_congr rfl fun i _ => mul_comm _ _)

end

/-- The precondition says that the three arrays hold real numbers. -/
theorem reals (x0 : FVec Ideal ⟨2, ![4096, 768]⟩ .f32) (x1 : FVec Ideal ⟨1, ![768]⟩ .f32) (x2 : FVec Ideal ⟨2, ![4096, 768]⟩ .f32)
    (h : Cert.Pre_normb_finite.fn (F := Ideal) x0 x1 x2 = fun _ => 1#1) : (∀ i, IsReal (x0 i)) ∧ (∀ i, IsReal (x1 i)) ∧ ∀ i, IsReal (x2 i) := by
  have e := congrFun h (fun a => a.elim0)
  unfold Cert.Pre_normb_finite.fn at e
  obtain ⟨e, e2⟩ := IntOp.andi_eq_one.1 e
  obtain ⟨e0, e1⟩ := IntOp.andi_eq_one.1 e
  exact ⟨isReal_of_all _ _ _ _ _ _ e0, isReal_of_all _ _ _ _ _ _ e1, isReal_of_all _ _ _ _ _ _ e2⟩

/-- The reference runs; its arguments stay. -/
theorem frame_ref : Cert.quiescent_NormBRIdeal := fun m ρ _ =>
  (θ_run Cert.NormBRIdeal.defs _ _).mono (fun r h => ⟨fun c => (h c).2.2, sem_eq_zero_of_no_sems (by decide) r.2⟩)
    (Cert.NormBRIdeal.Value.run (F := Ideal) m ρ)

theorem value : Cert.algebraic_NormBKIdeal_NormBRIdeal_pre_normb_finite := by
  pair_intro
  · run_from Cert.NormBKIdeal.Gen.run_main m g
  · run_from Cert.NormBRIdeal.Value.run m' g'
    · obtain ⟨h0, h1, h2⟩ := reals _ _ _ (hpre c)
      exact (Cert.NormBRIdeal.Read.val_main_v35_eq _ _ _).trans (eq_dx m c h0 h1 h2)
    · exact (Cert.NormBRIdeal.Read.val_main_v36_eq _ _).trans (eq_dg m c)

end Cert.NormBEq

end
-- ==== Proof.NormQValue.lean ====
/- The norm's gradient kernel NormQ: what one grid point computes, and what its results hold. -/
module

public import proofs.«01_k».proof.Proof.Norms
public import proofs.«01_k».proof.Proof.Attn
public import proofs.«01_k».proof.Proof.Gen.NormQKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormQEq

open Cert.NormQKIdeal Cert.NormQKIdeal.Gen Cert.Reals Cert.Norms Cert.Attn

/-- The row's length, and the rows of the arguments. -/
abbrev N : EReal := Ideal.ofBits .f32 0x44000000#32
abbrev E : EReal := Ideal.ofBits .f32 0x358637BD#32
abbrev rw (X : S4096x512.Idx → EReal) (h : Fin 1) (i : Fin 4096) : Fin 512 → EReal := fun d => X (ix2 i d)
abbrev gr (G : S512.Idx → EReal) : Fin 512 → EReal := fun d => G (ix1 d)
abbrev br (X : S512x512.Idx → EReal) (r : Fin 512) : Fin 512 → EReal := fun d => X (ix2 r d)
abbrev b1 (X : S1x512.Idx → EReal) : Fin 512 → EReal := fun d => X (ix2 0 d)

variable (m : (ℓ : Loc nD τ sig) → Buf (Elt Ideal) ℓ) (c : Dev nD)

abbrev a0 : S4096x512.Idx → EReal := m ((c : Thread nD τ).loc main_arg0)
abbrev a1 : S512.Idx → EReal := m ((c : Thread nD τ).loc main_arg1)
abbrev a2 : S4096x512.Idx → EReal := m ((c : Thread nD τ).loc main_arg2)

/-- The block indices of a grid point. -/
theorem idx : ∀ t : Fin cfg0.N, win0_0.index t = ![t.val, 1]
    ∧ win0_1.index t = ![0, 0]
    ∧ win0_2.index t = ![t.val, 0]
    ∧ win0_3.index t = ![t.val, 0]
    ∧ win0_4.index t = ![0, 0] :=
  (by decide +kernel : ∀ t : Fin grid0.N, _)

/-- The gain's row. -/
theorem vg (d : Fin 512) : (V m c main_v1 : S1x512.Idx → EReal) (ix2 0 d) = a1 m c (ix1 d) := by
  show (StableHlo.after hostOps0_2 (StableHlo.after hostOps0_1 (StableHlo.after hostOps0 fun b => m (c, b))) (Proc.devRef .tc main_v1) : S1x512.Idx → EReal) (ix2 0 d) = _
  after_results_simp
  pointwise []

/-- The row's columns in the packed array. -/
theorem vx (i : Fin 4096) (h : Fin 1) (d : Fin 512) (z : Fin 5120) (hz : (z : ℕ) = 512 + d) : (V m c main_v0 : S4096x5120.Idx → EReal) (ix2 i z) = a0 m c (ix2 i d) := by
  show (StableHlo.after hostOps0_2 (StableHlo.after hostOps0_1 (StableHlo.after hostOps0 fun b => m (c, b))) (Proc.devRef .tc main_v0) : S4096x5120.Idx → EReal) (ix2 i z) = _
  after_results_simp
  have hd := d.isLt
  show pad S4096x5120 ![0, 512] ![0, 4096] ![0, 0] (a0 m c) (sitofp (F := Ideal) .f32 (constantI S_ 32 0#32)) pads_S4096x512_S4096x5120_000_51240960 h_S_ (ix2 i z) = _
  pointwise []
  rw [dif_pos (by omega)]
  exact congrArg (fun q => a0 m c (ix2 i q)) (Fin.ext (by show (z : ℕ) - 512 = d; omega))

section
variable (t : Fin cfg0.N) (r : Fin 512) (h : Fin 1) (i : Fin 4096) (d : Fin 512)
  (eh : (h : ℕ) = 0) (ei : (i : ℕ) = t.val * 512 + r)
include eh ei

/-- The blocks of a grid point hold rows of the arguments. -/
theorem bx : br (iblk m c 0 t) r = rw (a0 m c) h i := by
  funext d
  refine Eq.trans ?_ (vx m c i h d ⟨512 + d, by omega⟩ rfl)
  obtain ⟨X, hV⟩ : ∃ X, V m c main_v0 = X := ⟨_, rfl⟩
  rw [hV]
  show (iblk m c 0 t : Vec Ideal S512x512 .f32) (ix2 r d) = _
  blk_point [iblk, hV, idx t]

theorem by_ : br (iblk m c 2 t) r = rw (a2 m c) h i := by
  funext d
  blk_point [br, iblk, V, idx t]

end

theorem bg (t : Fin cfg0.N) : b1 (iblk m c 1 t) = gr (a1 m c) := by
  funext d
  refine Eq.trans ?_ (vg m c d)
  show (iblk m c 1 t : Vec Ideal S1x512 .f32) (ix2 0 d) = _
  blk_point [iblk, idx t]

/-- What one grid point adds to the gain's gradient. -/
def part (t : Fin cfg0.N) (d : Fin 512) : EReal := ∑ r : Fin 512, br (iblk m c 2 t) r d * nx N E (br (iblk m c 0 t) r) d

/-- The gain's gradient after a grid point: the part of the first point of a sweep, the sum with the part after that. -/
theorem stepA (t : Fin cfg0.N) (h : t.val % 8 = 0) (y : S1x512.Idx) : (outsAt0 m c t.val t.isLt).2 y = 0 + part m c t (y 1) := by
  rw [outsAt0_A m c t h]
  frame_out
  pointwise [k0_pay1, k0_pay7, k0_pay6, k0_pay4, k0_pay3, k0_pay2]
  rfl

theorem stepB (t : Fin cfg0.N) (h : ¬ t.val % 8 = 0) (y : S1x512.Idx) :
    (outsAt0 m c t.val t.isLt).2 y = (outsAt0 m c (t.val - 1) (Nat.lt_of_le_of_lt (Nat.sub_le _ _) t.isLt)).2 y + part m c t (y 1) := by
  rw [outsAt0_B m c t h]
  frame_out
  pointwise [k0_pay1, k0_pay7, k0_pay6, k0_pay4, k0_pay3, k0_pay2]
  rfl

/-- The row's gradient a grid point leaves. -/
theorem stepD (t : Fin cfg0.N) (r : Fin 512) (d : Fin 512) :
    (outsAt0 m c t.val t.isLt).1 (ix2 r d) = nd N E (br (iblk m c 0 t) r) (b1 (iblk m c 1 t)) (br (iblk m c 2 t) r) d := by
  by_cases h : t.val % 8 = 0
  · rw [outsAt0_A m c t h]
    frame_out
    pointwise [k0_pay5, k0_pay4, k0_pay3, k0_pay2]
    rfl
  · rw [outsAt0_B m c t h]
    frame_out
    pointwise [k0_pay5, k0_pay4, k0_pay3, k0_pay2]
    rfl

/-- The head and the place of a column. -/
abbrev hd (z : Fin 512) : Fin 1 := 0
abbrev ln (z : Fin 512) : Fin 512 := z

/-- The row's gradient at a row and a column of the result. -/
def dx (i : Fin 4096) (z : Fin 512) : EReal :=
  nd N E (rw (a0 m c) (hd z) i) (gr (a1 m c)) (rw (a2 m c) (hd z) i) (ln z)

/-- The gain's gradient. -/
def dg (d : Fin 512) : EReal := ∑ h : Fin 1, ∑ i : Fin 4096, rw (a2 m c) h i d * nx N E (rw (a0 m c) h i) d

theorem dx_point (t : Fin cfg0.N) (r : Fin 512) (d : Fin 512) (i : Fin 4096) (z : Fin 512) (ei : (i : ℕ) = t.val * 512 + r)
    (ez : (z : ℕ) = d) :
    nd N E (br (iblk m c 0 t) r) (b1 (iblk m c 1 t)) (br (iblk m c 2 t) r) d = dx m c i z := by
  have hd' := d.isLt
  have eh : (hd z : ℕ) = 0 := by rfl
  have el : d = ln z := Fin.ext (by exact ez.symm)
  rw [dx, bx m c t r _ _ eh ei, by_ m c t r _ _ eh ei, bg, ← el]

theorem final_dx : (dats m 0 c).arrAt 3 cfg0.N = ((fun y => dx m c (y 0) (y 1)) : S4096x512.Idx → EReal) := by
  refine (dats m 0 c).arrAt_eq_of_covers 3 _ (by decide +kernel) fun t hf y => ?_
  blk_simp
  have e0 : (((win0_3.blk t).view.emb y 0 : Fin 4096) : ℕ) = t.val * 512 + (y 0 : Fin 512) := by blk_simp [idx t]
  have e1 : (((win0_3.blk t).view.emb y 1 : Fin 512) : ℕ) = (y 1 : Fin 512) := by blk_simp [idx t]
  rw [after0_3]
  refine (congrArg _ (ix2_eta (n0 := 512) (n1 := 512) y).symm).trans ((stepD m c t (y 0) (y 1)).trans ?_)
  exact dx_point m c t (y 0) (y 1) _ _ e0 e1

/-- The points' parts add up to the sum over all rows. -/
theorem parts (p : Fin 8 → Fin cfg0.N) (hp : ∀ s, (p s).val = s) (d : Fin 512) : ∑ s, part m c (p s) d = dg m c d := by
  refine sum_rows 8 512 rfl rfl _ (fun h i => rw (a2 m c) h i d * nx N E (rw (a0 m c) h i) d) fun s h i eh ei => ?_
  have hs := hp s
  refine Finset.sum_congr rfl fun r _ => ?_
  have er := ei r
  have eh' : (h : ℕ) = 0 := by omega
  have ei' : (i r : ℕ) = (p s).val * 512 + r := by omega
  rw [bx m c (p s) r _ _ eh' ei', by_ m c (p s) r _ _ eh' ei']

theorem final_dg : (dats m 0 c).arrAt 4 cfg0.N = ((fun y => dg m c (y 1)) : S1x512.Idx → EReal) := by
  refine (dats m 0 c).arrAt_eq_of_covers 4 _ (by decide +kernel) fun t hf y => ?_
  blk_simp
  have hf' := (flush0_4 t).mp hf
  have e1 : ((win0_4.blk t).view.emb y 1 : Fin 512) = (y 1 : Fin 512) := Fin.ext (by blk_simp [idx t])
  rw [after0_4, Pipeline.eq_sum_fin_of_reset_step_apply_of_flush (fun n h => (outsAt0 m c n h).2) 8 (fun _ => 0) (fun t y => part m c t (y 1))
    (stepA m c) (stepB m c) t hf' _, zero_add]
  refine (parts m c _ (fun s => ?_) _).trans (congrArg (dg m c) e1.symm)
  have hN : t.val < 8 := t.isLt
  show 8 * (t.val / 8) + (s : ℕ) = s
  omega

end Cert.NormQEq
end
-- ==== Proof.NormQClaim.lean ====
/- The norm's gradient NormQ: the reference at an index, and the claims. -/
module

public import proofs.«01_k».proof.Defs
public import proofs.«01_k».proof.Proof.NormQValue
public import proofs.«01_k».proof.Proof.Gen.NormQKIdeal.Value
public import proofs.«01_k».proof.Proof.Gen.NormQRIdeal.Read
public import proofs.«01_k».proof.Proof.Gen.NormQRIdeal.Run
public import proofs.«01_k».proof.Proof.Gen.Pre_normq_finite

@[expose] public section

set_option maxRecDepth 16384

noncomputable section

namespace Cert.NormQEq

open Idealize.ShloMosaic Idealize.ShloMosaic.TcCoe Idealize.SL.Sem
open Cert.NormQKIdeal Cert.NormQKIdeal.Gen Cert.Reals Cert.Norms Cert.Attn

/-- The length is a positive real number. -/
theorem len : N = ((512 : ℝ) : EReal) := by
  simp [N, Ideal.ofBits, Ideal.ieee, -EReal.coe_mul]
  norm_num

section
open Cert.NormQRIdeal.Read
variable (x0 x2 : S4096x512.Idx → EReal) (x1 : S512.Idx → EReal) (i : Fin 4096) (z : Fin 512)

/-- The reference's gradient of a row. -/
theorem ref_dx : val_main_v36 (F := Ideal) x0 x1 x2 (ix2 i z) = rd N E (rw x0 (hd z) i) (gr x1) (rw x2 (hd z) i) (ln z) (Ideal.ofBits .f32 0xBF000000#32) := by
  pointwise [val_main_v0, val_main_cst, val_main_v1, val_main_v2, val_main_cst_0, val_main_v3, val_main_v4, val_main_cst_1, val_main_v5,
    val_main_v6, val_main_v7, val_main_v8, val_main_cst_2, val_main_v9, val_main_v10, val_main_v13, val_main_v19, val_main_v20,
    val_main_v22, val_main_cst_5, val_main_v23, val_main_v24, val_main_v25, val_main_v26, val_main_v27, val_main_cst_6,
    val_main_v28, val_main_v29, val_main_cst_7, val_main_v30, val_main_v31, val_main_v32, val_main_v33, val_main_v34,
    val_main_v35, val_main_v36]
  simp only [Fin.sum_univ_one]
  rfl

/-- The reference's gradient of the gain. -/
theorem ref_dg (d : Fin 512) : val_main_v37 (F := Ideal) x0 x2 (ix2 0 d) = ∑ h : Fin 1, ∑ i : Fin 4096, nx N E (rw x0 h i) d * rw x2 h i d := by
  pointwise [val_main_v0, val_main_cst, val_main_v1, val_main_v2, val_main_cst_0, val_main_v3, val_main_v4, val_main_cst_1, val_main_v5,
    val_main_v6, val_main_v7, val_main_v11, val_main_v12, val_main_v16, val_main_cst_3, val_main_v17, val_main_v18,
    val_main_cst_4, val_main_v21, val_main_v37]
  simp only [Fin.sum_univ_one]
  rfl

end

section
variable (m : (ℓ : Loc nD τ sig) → Buf (Elt Ideal) ℓ) (c : Dev nD)
  (h0 : ∀ i, IsReal (a0 m c i)) (h1 : ∀ i, IsReal (a1 m c i)) (h2 : ∀ i, IsReal (a2 m c i))
include h0 h1 h2

theorem dx_eq (i : Fin 4096) (z : Fin 512) : Cert.NormQRIdeal.Read.val_main_v36 (F := Ideal) (a0 m c) (a1 m c) (a2 m c) (ix2 i z) = dx m c i z :=
  (ref_dx (a0 m c) (a2 m c) (a1 m c) i z).trans (nd_eq len (by norm_num) (fun t => h0 _) (fun t => h1 _) (fun t => h2 _) _)

theorem eq_dx : Cert.NormQRIdeal.Read.val_main_v36 (F := Ideal) (a0 m c) (a1 m c) (a2 m c) = (dats m 0 c).arrAt 3 cfg0.N := by
  rw [final_dx]
  funext y
  exact (congrArg _ (ix2_eta (n0 := 4096) (n1 := 512) y).symm).trans (dx_eq m c h0 h1 h2 (y 0) (y 1))

omit h0 h1 h2 in
theorem eq_dg : Cert.NormQRIdeal.Read.val_main_v37 (F := Ideal) (a0 m c) (a2 m c) = (dats m 0 c).arrAt 4 cfg0.N := by
  rw [final_dg]
  funext y
  have hy : y = ix2 0 (y 1) := by
    funext a
    fin_cases a
    · exact Subsingleton.elim (α := Fin 1) _ _
    · rfl
  exact (congrArg _ hy).trans <| (ref_dg (a0 m c) (a2 m c) (y 1)).trans (Finset.sum_congr rfl fun h _ => Finset.sum_congr rfl fun i _ => mul_comm _ _)

end

/-- The precondition says that the three arrays hold real numbers. -/
theorem reals (x0 : FVec Ideal ⟨2, ![4096, 512]⟩ .f32) (x1 : FVec Ideal ⟨1, ![512]⟩ .f32) (x2 : FVec Ideal ⟨2, ![4096, 512]⟩ .f32)
    (h : Cert.Pre_normq_finite.fn (F := Ideal) x0 x1 x2 = fun _ => 1#1) : (∀ i, IsReal (x0 i)) ∧ (∀ i, IsReal (x1 i)) ∧ ∀ i, IsReal (x2 i) := by
  have e := congrFun h (fun a => a.elim0)
  unfold Cert.Pre_normq_finite.fn at e
  obtain ⟨e, e2⟩ := IntOp.andi_eq_one.1 e
  obtain ⟨e0, e1⟩ := IntOp.andi_eq_one.1 e
  exact ⟨isReal_of_all _ _ _ _ _ _ e0, isReal_of_all _ _ _ _ _ _ e1, isReal_of_all _ _ _ _ _ _ e2⟩

/-- The reference runs; its arguments stay. -/
theorem frame_ref : Cert.quiescent_NormQRIdeal := fun m ρ _ =>
  (θ_run Cert.NormQRIdeal.defs _ _).mono (fun r h => ⟨fun c => (h c).2.2, sem_eq_zero_of_no_sems (by decide) r.2⟩)
    (Cert.NormQRIdeal.Value.run (F := Ideal) m ρ)

theorem value : Cert.algebraic_NormQKIdeal_NormQRIdeal_pre_normq_finite := by
  pair_intro
  · run_from Cert.NormQKIdeal.Gen.run_main m g
    all_goals first | exact V_main_arg0 m c | exact V_main_arg1 m c | exact V_main_arg2 m c
  · run_from Cert.NormQRIdeal.Value.run m' g'
    · obtain ⟨h0, h1, h2⟩ := reals _ _ _ (hpre c)
      exact (Cert.NormQRIdeal.Read.val_main_v36_eq _ _ _).trans (eq_dx m c h0 h1 h2)
    · exact (Cert.NormQRIdeal.Read.val_main_v37_eq _ _).trans (eq_dg m c)

end Cert.NormQEq

end
-- ==== Proof.NormCQValue.lean ====
/- The norm's gradient kernel NormCQ: what one grid point computes, and what its results hold. -/
module

public import proofs.«01_k».proof.Proof.Norms
public import proofs.«01_k».proof.Proof.Attn
public import proofs.«01_k».proof.Proof.Gen.NormCQKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormCQEq

open Cert.NormCQKIdeal Cert.NormCQKIdeal.Gen Cert.Reals Cert.Norms Cert.Attn

/-- The row's length, and the rows of the arguments. -/
abbrev N : EReal := Ideal.ofBits .f32 0x43000000#32
abbrev E : EReal := Ideal.ofBits .f32 0x358637BD#32
abbrev rw (X : S4096x6x128.Idx → EReal) (h : Fin 6) (i : Fin 4096) : Fin 128 → EReal := fun d => X (ix3 i h d)
abbrev gr (G : S128.Idx → EReal) : Fin 128 → EReal := fun d => G (ix1 d)
abbrev br (X : S2048x128.Idx → EReal) (r : Fin 2048) : Fin 128 → EReal := fun d => X (ix2 r d)
abbrev b1 (X : S1x128.Idx → EReal) : Fin 128 → EReal := fun d => X (ix2 0 d)

variable (m : (ℓ : Loc nD τ sig) → Buf (Elt Ideal) ℓ) (c : Dev nD)

abbrev a0 : S4096x6x128.Idx → EReal := m ((c : Thread nD τ).loc main_arg0)
abbrev a1 : S128.Idx → EReal := m ((c : Thread nD τ).loc main_arg1)
abbrev a2 : S4096x6x128.Idx → EReal := m ((c : Thread nD τ).loc main_arg2)

/-- The block indices of a grid point. -/
theorem idx : ∀ t : Fin cfg0.N, win0_0.index t = ![t.val % 2, 30 + t.val / 2]
    ∧ win0_1.index t = ![0, 0]
    ∧ win0_2.index t = ![t.val % 2, t.val / 2]
    ∧ win0_3.index t = ![t.val % 2, t.val / 2]
    ∧ win0_4.index t = ![0, 0] :=
  (by decide +kernel : ∀ t : Fin grid0.N, _)

/-- The gain's row. -/
theorem vg (d : Fin 128) : (V m c main_v2 : S1x128.Idx → EReal) (ix2 0 d) = a1 m c (ix1 d) := by
  show (StableHlo.after hostOps0_2 (StableHlo.after hostOps0_1 (StableHlo.after hostOps0 fun b => m (c, b))) (Proc.devRef .tc main_v2) : S1x128.Idx → EReal) (ix2 0 d) = _
  after_results_simp
  pointwise []

/-- The head's columns in the packed array, and of the cotangent. -/
theorem rdh (a : S4096x6x128.Idx → EReal) (hs : S4096x6x128.ShapeCasts S4096x768) (i : Fin 4096) (h : Fin 6) (d : Fin 128) (z : Fin 768) (hz : (z : ℕ) = h * 128 + d) :
    shapeCast S4096x768 a hs (ix2 i z) = a (ix3 i h d) := by
  refine shapeCast_apply _ _ _ (ix3 i h d) ?_
  rw [Shape.rowMajor_val_three, Shape.rowMajor_val_two]
  show ((i : ℕ) * 6 + (h : ℕ)) * 128 + (d : ℕ) = (i : ℕ) * 768 + (z : ℕ)
  omega

theorem vx (i : Fin 4096) (h : Fin 6) (d : Fin 128) (z : Fin 5120) (hz : (z : ℕ) = (30 + h) * 128 + d) :
    (V m c main_v1 : S4096x5120.Idx → EReal) (ix2 i z) = a0 m c (ix3 i h d) := by
  show (StableHlo.after hostOps0_2 (StableHlo.after hostOps0_1 (StableHlo.after hostOps0 fun b => m (c, b))) (Proc.devRef .tc main_v1) : S4096x5120.Idx → EReal) (ix2 i z) = _
  after_results_simp
  have hh := h.isLt
  have hd := d.isLt
  show pad S4096x5120 ![0, 3840] ![0, 512] ![0, 0] (shapeCast S4096x768 (a0 m c) shapeCasts_S4096x6x128_S4096x768)
    (sitofp (F := Ideal) .f32 (constantI S_ 32 0#32)) pads_S4096x768_S4096x5120_000_38405120 h_S_ (ix2 i z) = _
  pointwise []
  rw [dif_pos (by omega)]
  exact congrArg₂ (fun p q => a0 m c (ix3 i p q)) (Fin.ext (by show ((z : ℕ) - 3840) / 128 = h; omega))
    (Fin.ext (by show ((z : ℕ) - 3840) % 128 = d; omega))

theorem vy (i : Fin 4096) (h : Fin 6) (d : Fin 128) (z : Fin 768) (hz : (z : ℕ) = h * 128 + d) :
    (V m c main_v3 : S4096x768.Idx → EReal) (ix2 i z) = a2 m c (ix3 i h d) := by
  show (StableHlo.after hostOps0_2 (StableHlo.after hostOps0_1 (StableHlo.after hostOps0 fun b => m (c, b))) (Proc.devRef .tc main_v3) : S4096x768.Idx → EReal) (ix2 i z) = _
  after_results_simp
  exact rdh _ _ i h d z hz

section
variable (t : Fin cfg0.N) (r : Fin 2048) (h : Fin 6) (i : Fin 4096) (d : Fin 128)
  (eh : (h : ℕ) = t.val / 2) (ei : (i : ℕ) = t.val % 2 * 2048 + r)
include eh ei

/-- The blocks of a grid point hold rows of the arguments. -/
theorem bx : br (iblk m c 0 t) r = rw (a0 m c) h i := by
  funext d
  refine Eq.trans ?_ (vx m c i h d ⟨(30 + h) * 128 + d, by omega⟩ rfl)
  obtain ⟨X, hV⟩ : ∃ X, V m c main_v1 = X := ⟨_, rfl⟩
  rw [hV]
  show (iblk m c 0 t : Vec Ideal S2048x128 .f32) (ix2 r d) = _
  blk_point [iblk, hV, idx t]

theorem by_ : br (iblk m c 2 t) r = rw (a2 m c) h i := by
  funext d
  refine Eq.trans ?_ (vy m c i h d ⟨h * 128 + d, by omega⟩ rfl)
  obtain ⟨X, hV⟩ : ∃ X, V m c main_v3 = X := ⟨_, rfl⟩
  rw [hV]
  show (iblk m c 2 t : Vec Ideal S2048x128 .f32) (ix2 r d) = _
  blk_point [iblk, hV, idx t]

end

theorem bg (t : Fin cfg0.N) : b1 (iblk m c 1 t) = gr (a1 m c) := by
  funext d
  refine Eq.trans ?_ (vg m c d)
  show (iblk m c 1 t : Vec Ideal S1x128 .f32) (ix2 0 d) = _
  blk_point [iblk, idx t]

/-- What one grid point adds to the gain's gradient. -/
def part (t : Fin cfg0.N) (d : Fin 128) : EReal := ∑ r : Fin 2048, br (iblk m c 2 t) r d * nx N E (br (iblk m c 0 t) r) d

/-- The gain's gradient after a grid point: the part of the first point of a sweep, the sum with the part after that. -/
theorem stepA (t : Fin cfg0.N) (h : t.val % 12 = 0) (y : S1x128.Idx) : (outsAt0 m c t.val t.isLt).2 y = 0 + part m c t (y 1) := by
  rw [outsAt0_A m c t h]
  frame_out
  pointwise [k0_pay1, k0_pay3, k0_pay5, k0_pay7, k0_pay4, k0_pay2]
  rfl

theorem stepB (t : Fin cfg0.N) (h : ¬ t.val % 12 = 0) (y : S1x128.Idx) :
    (outsAt0 m c t.val t.isLt).2 y = (outsAt0 m c (t.val - 1) (Nat.lt_of_le_of_lt (Nat.sub_le _ _) t.isLt)).2 y + part m c t (y 1) := by
  rw [outsAt0_B m c t h]
  frame_out
  pointwise [k0_pay1, k0_pay3, k0_pay5, k0_pay7, k0_pay4, k0_pay2]
  rfl

/-- The row's gradient a grid point leaves. -/
theorem stepD (t : Fin cfg0.N) (r : Fin 2048) (d : Fin 128) :
    (outsAt0 m c t.val t.isLt).1 (ix2 r d) = nd N E (br (iblk m c 0 t) r) (b1 (iblk m c 1 t)) (br (iblk m c 2 t) r) d := by
  by_cases h : t.val % 12 = 0
  · rw [outsAt0_A m c t h]
    frame_out
    pointwise [k0_pay6, k0_pay5, k0_pay4, k0_pay3, k0_pay2]
    rfl
  · rw [outsAt0_B m c t h]
    frame_out
    pointwise [k0_pay6, k0_pay5, k0_pay4, k0_pay3, k0_pay2]
    rfl

/-- The head and the place of a column. -/
abbrev hd (z : Fin 768) : Fin 6 := ⟨z / 128, by omega⟩
abbrev ln (z : Fin 768) : Fin 128 := ⟨z % 128, by omega⟩

/-- The row's gradient at a row and a column of the result. -/
def dx (i : Fin 4096) (z : Fin 768) : EReal :=
  nd N E (rw (a0 m c) (hd z) i) (gr (a1 m c)) (rw (a2 m c) (hd z) i) (ln z)

/-- The gain's gradient. -/
def dg (d : Fin 128) : EReal := ∑ h : Fin 6, ∑ i : Fin 4096, rw (a2 m c) h i d * nx N E (rw (a0 m c) h i) d

theorem dx_point (t : Fin cfg0.N) (r : Fin 2048) (d : Fin 128) (i : Fin 4096) (z : Fin 768) (ei : (i : ℕ) = t.val % 2 * 2048 + r)
    (ez : (z : ℕ) = t.val / 2 * 128 + d) :
    nd N E (br (iblk m c 0 t) r) (b1 (iblk m c 1 t)) (br (iblk m c 2 t) r) d = dx m c i z := by
  have hd' := d.isLt
  have eh : (hd z : ℕ) = t.val / 2 := by show (z : ℕ) / 128 = _; omega
  have el : d = ln z := Fin.ext (by show (d : ℕ) = (z : ℕ) % 128; omega)
  rw [dx, bx m c t r _ _ eh ei, by_ m c t r _ _ eh ei, bg, ← el]

theorem final_dx : (dats m 0 c).arrAt 3 cfg0.N = ((fun y => dx m c (y 0) (y 1)) : S4096x768.Idx → EReal) := by
  refine (dats m 0 c).arrAt_eq_of_covers 3 _ (by decide +kernel) fun t hf y => ?_
  blk_simp
  have e0 : (((win0_3.blk t).view.emb y 0 : Fin 4096) : ℕ) = t.val % 2 * 2048 + (y 0 : Fin 2048) := by blk_simp [idx t]
  have e1 : (((win0_3.blk t).view.emb y 1 : Fin 768) : ℕ) = t.val / 2 * 128 + (y 1 : Fin 128) := by blk_simp [idx t]
  rw [after0_3]
  refine (congrArg _ (ix2_eta (n0 := 2048) (n1 := 128) y).symm).trans ((stepD m c t (y 0) (y 1)).trans ?_)
  exact dx_point m c t (y 0) (y 1) _ _ e0 e1

/-- The points' parts add up to the sum over all rows. -/
theorem parts (p : Fin 12 → Fin cfg0.N) (hp : ∀ s, (p s).val = s) (d : Fin 128) : ∑ s, part m c (p s) d = dg m c d := by
  refine sum_rows 2 2048 rfl rfl _ (fun h i => rw (a2 m c) h i d * nx N E (rw (a0 m c) h i) d) fun s h i eh ei => ?_
  have hs := hp s
  refine Finset.sum_congr rfl fun r _ => ?_
  have er := ei r
  have eh' : (h : ℕ) = (p s).val / 2 := by omega
  have ei' : (i r : ℕ) = (p s).val % 2 * 2048 + r := by omega
  rw [bx m c (p s) r _ _ eh' ei', by_ m c (p s) r _ _ eh' ei']

theorem final_dg : (dats m 0 c).arrAt 4 cfg0.N = ((fun y => dg m c (y 1)) : S1x128.Idx → EReal) := by
  refine (dats m 0 c).arrAt_eq_of_covers 4 _ (by decide +kernel) fun t hf y => ?_
  blk_simp
  have hf' := (flush0_4 t).mp hf
  have e1 : ((win0_4.blk t).view.emb y 1 : Fin 128) = (y 1 : Fin 128) := Fin.ext (by blk_simp [idx t])
  rw [after0_4, Pipeline.eq_sum_fin_of_reset_step_apply_of_flush (fun n h => (outsAt0 m c n h).2) 12 (fun _ => 0) (fun t y => part m c t (y 1))
    (stepA m c) (stepB m c) t hf' _, zero_add]
  refine (parts m c _ (fun s => ?_) _).trans (congrArg (dg m c) e1.symm)
  have hN : t.val < 12 := t.isLt
  show 12 * (t.val / 12) + (s : ℕ) = s
  omega

end Cert.NormCQEq
end
-- ==== Proof.NormCQClaim.lean ====
/- The norm's gradient NormCQ: the reference at an index, and the claims. -/
module

public import proofs.«01_k».proof.Defs
public import proofs.«01_k».proof.Proof.NormCQValue
public import proofs.«01_k».proof.Proof.Gen.NormCQKIdeal.Value
public import proofs.«01_k».proof.Proof.Gen.NormCQRIdeal.Read
public import proofs.«01_k».proof.Proof.Gen.NormCQRIdeal.Run
public import proofs.«01_k».proof.Proof.Gen.Pre_normcq_finite

@[expose] public section

set_option maxRecDepth 16384

noncomputable section

namespace Cert.NormCQEq

open Idealize.ShloMosaic Idealize.ShloMosaic.TcCoe Idealize.SL.Sem
open Cert.NormCQKIdeal Cert.NormCQKIdeal.Gen Cert.Reals Cert.Norms Cert.Attn

/-- The length is a positive real number. -/
theorem len : N = ((128 : ℝ) : EReal) := by
  simp [N, Ideal.ofBits, Ideal.ieee, -EReal.coe_mul]
  norm_num

section
open Cert.NormCQRIdeal.Read
variable (x0 x2 : S4096x6x128.Idx → EReal) (x1 : S128.Idx → EReal) (i : Fin 4096) (z : Fin 768)

/-- The reference's gradient of a row. -/
theorem ref_dx : val_main_v37 (F := Ideal) x0 x1 x2 (ix2 i z) = rd N E (rw x0 (hd z) i) (gr x1) (rw x2 (hd z) i) (ln z) (Ideal.ofBits .f32 0xBF000000#32) := by
  pointwise [val_main_v0, val_main_cst, val_main_v1, val_main_v2, val_main_cst_0, val_main_v3, val_main_v4, val_main_cst_1, val_main_v5,
    val_main_v6, val_main_v7, val_main_v8, val_main_cst_2, val_main_v9, val_main_v10, val_main_v13, val_main_v19, val_main_v20,
    val_main_v22, val_main_cst_5, val_main_v23, val_main_v24, val_main_v25, val_main_v26, val_main_v27, val_main_cst_6,
    val_main_v28, val_main_v29, val_main_cst_7, val_main_v30, val_main_v31, val_main_v32, val_main_v33, val_main_v34,
    val_main_v35, val_main_v36, val_main_v37]
  simp only [Fin.sum_univ_one]
  rfl

/-- The reference's gradient of the gain. -/
theorem ref_dg (d : Fin 128) : val_main_v38 (F := Ideal) x0 x2 (ix2 0 d) = ∑ h : Fin 6, ∑ i : Fin 4096, nx N E (rw x0 h i) d * rw x2 h i d := by
  have e17 : val_main_v17 (F := Ideal) x0 x2 (ix1 d) = ∑ h : Fin 6, ∑ i : Fin 4096, nx N E (rw x0 h i) d * rw x2 h i d := by
    pointwise [val_main_v17]
    refine (sum_two _ _ _ d).trans ?_
    pointwise [val_main_v0, val_main_cst, val_main_v1, val_main_v2, val_main_cst_0, val_main_v3, val_main_v4, val_main_cst_1, val_main_v5,
    val_main_v6, val_main_v7, val_main_v11, val_main_v12, val_main_v16, val_main_cst_3]
    rfl
  have e0 (a : EReal) : Ideal.ofBits .f32 0#32 + a = a := by simp [Ideal.ofBits, Ideal.ieee]
  have e21 : val_main_v21 (F := Ideal) x0 x2 (ix1 d) = val_main_v17 (F := Ideal) x0 x2 (ix1 d) := by
    pointwise [val_main_v21]
    refine (sum_two (A := 1) (B := 1) (D := 128) _ _ _ d).trans ?_
    rw [Fin.sum_univ_one, Fin.sum_univ_one, val_main_cst_4_apply, val_main_v18_apply]
    refine (congrArg₂ (· + ·) rfl (congrArg _ ?_)).trans (e0 _)
    funext x
    fin_cases x
    exact Fin.ext (by show (0 * 1 + 0) * 128 + (d : ℕ) = d; omega)
  rw [val_main_v38_apply]
  refine (congrArg _ ?_).trans (e21.trans e17)
  funext x
  fin_cases x
  rfl

end

section
variable (m : (ℓ : Loc nD τ sig) → Buf (Elt Ideal) ℓ) (c : Dev nD)
  (h0 : ∀ i, IsReal (a0 m c i)) (h1 : ∀ i, IsReal (a1 m c i)) (h2 : ∀ i, IsReal (a2 m c i))
include h0 h1 h2

theorem dx_eq (i : Fin 4096) (z : Fin 768) : Cert.NormCQRIdeal.Read.val_main_v37 (F := Ideal) (a0 m c) (a1 m c) (a2 m c) (ix2 i z) = dx m c i z :=
  (ref_dx (a0 m c) (a2 m c) (a1 m c) i z).trans (nd_eq len (by norm_num) (fun t => h0 _) (fun t => h1 _) (fun t => h2 _) _)

theorem eq_dx : Cert.NormCQRIdeal.Read.val_main_v37 (F := Ideal) (a0 m c) (a1 m c) (a2 m c) = (dats m 0 c).arrAt 3 cfg0.N := by
  rw [final_dx]
  funext y
  exact (congrArg _ (ix2_eta (n0 := 4096) (n1 := 768) y).symm).trans (dx_eq m c h0 h1 h2 (y 0) (y 1))

omit h0 h1 h2 in
theorem eq_dg : Cert.NormCQRIdeal.Read.val_main_v38 (F := Ideal) (a0 m c) (a2 m c) = (dats m 0 c).arrAt 4 cfg0.N := by
  rw [final_dg]
  funext y
  have hy : y = ix2 0 (y 1) := by
    funext a
    fin_cases a
    · exact Subsingleton.elim (α := Fin 1) _ _
    · rfl
  exact (congrArg _ hy).trans <| (ref_dg (a0 m c) (a2 m c) (y 1)).trans (Finset.sum_congr rfl fun h _ => Finset.sum_congr rfl fun i _ => mul_comm _ _)

end

/-- The precondition says that the three arrays hold real numbers. -/
theorem reals (x0 : FVec Ideal ⟨3, ![4096, 6, 128]⟩ .f32) (x1 : FVec Ideal ⟨1, ![128]⟩ .f32) (x2 : FVec Ideal ⟨3, ![4096, 6, 128]⟩ .f32)
    (h : Cert.Pre_normcq_finite.fn (F := Ideal) x0 x1 x2 = fun _ => 1#1) : (∀ i, IsReal (x0 i)) ∧ (∀ i, IsReal (x1 i)) ∧ ∀ i, IsReal (x2 i) := by
  have e := congrFun h (fun a => a.elim0)
  unfold Cert.Pre_normcq_finite.fn at e
  obtain ⟨e, e2⟩ := IntOp.andi_eq_one.1 e
  obtain ⟨e0, e1⟩ := IntOp.andi_eq_one.1 e
  exact ⟨isReal_of_all _ _ _ _ _ _ e0, isReal_of_all _ _ _ _ _ _ e1, isReal_of_all _ _ _ _ _ _ e2⟩

/-- The reference runs; its arguments stay. -/
theorem frame_ref : Cert.quiescent_NormCQRIdeal := fun m ρ _ =>
  (θ_run Cert.NormCQRIdeal.defs _ _).mono (fun r h => ⟨fun c => (h c).2.2, sem_eq_zero_of_no_sems (by decide) r.2⟩)
    (Cert.NormCQRIdeal.Value.run (F := Ideal) m ρ)

theorem value : Cert.algebraic_NormCQKIdeal_NormCQRIdeal_pre_normcq_finite := by
  pair_intro
  · run_from Cert.NormCQKIdeal.Gen.run_main m g
    all_goals first | exact V_main_arg0 m c | exact V_main_arg1 m c | exact V_main_arg2 m c
  · run_from Cert.NormCQRIdeal.Value.run m' g'
    · obtain ⟨h0, h1, h2⟩ := reals _ _ _ (hpre c)
      obtain ⟨q0, q1, q2⟩ := hagree c
      rw [Cert.NormCQRIdeal.Read.val_main_v37_eq, q0, q1, q2]
      exact eq_dx m c h0 h1 h2
    · exact (Cert.NormCQRIdeal.Read.val_main_v38_eq _ _).trans (eq_dg m c)

end Cert.NormCQEq

end
-- ==== Proof.NormCKValue.lean ====
/- The norm's gradient kernel NormCK: what one grid point computes, and what its results hold. -/
module

public import proofs.«01_k».proof.Proof.Norms
public import proofs.«01_k».proof.Proof.Attn
public import proofs.«01_k».proof.Proof.Gen.NormCKKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormCKEq

open Cert.NormCKKIdeal Cert.NormCKKIdeal.Gen Cert.Reals Cert.Norms Cert.Attn

/-- The row's length, and the rows of the arguments. -/
abbrev N : EReal := Ideal.ofBits .f32 0x43000000#32
abbrev E : EReal := Ideal.ofBits .f32 0x358637BD#32
abbrev rw (X : S4096x2x128.Idx → EReal) (h : Fin 2) (i : Fin 4096) : Fin 128 → EReal := fun d => X (ix3 i h d)
abbrev gr (G : S128.Idx → EReal) : Fin 128 → EReal := fun d => G (ix1 d)
abbrev br (X : S2048x128.Idx → EReal) (r : Fin 2048) : Fin 128 → EReal := fun d => X (ix2 r d)
abbrev b1 (X : S1x128.Idx → EReal) : Fin 128 → EReal := fun d => X (ix2 0 d)

variable (m : (ℓ : Loc nD τ sig) → Buf (Elt Ideal) ℓ) (c : Dev nD)

abbrev a0 : S4096x2x128.Idx → EReal := m ((c : Thread nD τ).loc main_arg0)
abbrev a1 : S128.Idx → EReal := m ((c : Thread nD τ).loc main_arg1)
abbrev a2 : S4096x2x128.Idx → EReal := m ((c : Thread nD τ).loc main_arg2)

/-- The block indices of a grid point. -/
theorem idx : ∀ t : Fin cfg0.N, win0_0.index t = ![t.val % 2, 36 + t.val / 2]
    ∧ win0_1.index t = ![0, 0]
    ∧ win0_2.index t = ![t.val % 2, t.val / 2]
    ∧ win0_3.index t = ![t.val % 2, t.val / 2]
    ∧ win0_4.index t = ![0, 0] :=
  (by decide +kernel : ∀ t : Fin grid0.N, _)

/-- The gain's row. -/
theorem vg (d : Fin 128) : (V m c main_v2 : S1x128.Idx → EReal) (ix2 0 d) = a1 m c (ix1 d) := by
  show (StableHlo.after hostOps0_2 (StableHlo.after hostOps0_1 (StableHlo.after hostOps0 fun b => m (c, b))) (Proc.devRef .tc main_v2) : S1x128.Idx → EReal) (ix2 0 d) = _
  after_results_simp
  pointwise []

/-- The head's columns in the packed array, and of the cotangent. -/
theorem rdh (a : S4096x2x128.Idx → EReal) (hs : S4096x2x128.ShapeCasts S4096x256) (i : Fin 4096) (h : Fin 2) (d : Fin 128) (z : Fin 256) (hz : (z : ℕ) = h * 128 + d) :
    shapeCast S4096x256 a hs (ix2 i z) = a (ix3 i h d) := by
  refine shapeCast_apply _ _ _ (ix3 i h d) ?_
  rw [Shape.rowMajor_val_three, Shape.rowMajor_val_two]
  show ((i : ℕ) * 2 + (h : ℕ)) * 128 + (d : ℕ) = (i : ℕ) * 256 + (z : ℕ)
  omega

theorem vx (i : Fin 4096) (h : Fin 2) (d : Fin 128) (z : Fin 5120) (hz : (z : ℕ) = (36 + h) * 128 + d) :
    (V m c main_v1 : S4096x5120.Idx → EReal) (ix2 i z) = a0 m c (ix3 i h d) := by
  show (StableHlo.after hostOps0_2 (StableHlo.after hostOps0_1 (StableHlo.after hostOps0 fun b => m (c, b))) (Proc.devRef .tc main_v1) : S4096x5120.Idx → EReal) (ix2 i z) = _
  after_results_simp
  have hh := h.isLt
  have hd := d.isLt
  show pad S4096x5120 ![0, 4608] ![0, 256] ![0, 0] (shapeCast S4096x256 (a0 m c) shapeCasts_S4096x2x128_S4096x256)
    (sitofp (F := Ideal) .f32 (constantI S_ 32 0#32)) pads_S4096x256_S4096x5120_000_46082560 h_S_ (ix2 i z) = _
  pointwise []
  rw [dif_pos (by omega)]
  exact congrArg₂ (fun p q => a0 m c (ix3 i p q)) (Fin.ext (by show ((z : ℕ) - 4608) / 128 = h; omega))
    (Fin.ext (by show ((z : ℕ) - 4608) % 128 = d; omega))

theorem vy (i : Fin 4096) (h : Fin 2) (d : Fin 128) (z : Fin 256) (hz : (z : ℕ) = h * 128 + d) :
    (V m c main_v3 : S4096x256.Idx → EReal) (ix2 i z) = a2 m c (ix3 i h d) := by
  show (StableHlo.after hostOps0_2 (StableHlo.after hostOps0_1 (StableHlo.after hostOps0 fun b => m (c, b))) (Proc.devRef .tc main_v3) : S4096x256.Idx → EReal) (ix2 i z) = _
  after_results_simp
  exact rdh _ _ i h d z hz

section
variable (t : Fin cfg0.N) (r : Fin 2048) (h : Fin 2) (i : Fin 4096) (d : Fin 128)
  (eh : (h : ℕ) = t.val / 2) (ei : (i : ℕ) = t.val % 2 * 2048 + r)
include eh ei

/-- The blocks of a grid point hold rows of the arguments. -/
theorem bx : br (iblk m c 0 t) r = rw (a0 m c) h i := by
  funext d
  refine Eq.trans ?_ (vx m c i h d ⟨(36 + h) * 128 + d, by omega⟩ rfl)
  obtain ⟨X, hV⟩ : ∃ X, V m c main_v1 = X := ⟨_, rfl⟩
  rw [hV]
  show (iblk m c 0 t : Vec Ideal S2048x128 .f32) (ix2 r d) = _
  blk_point [iblk, hV, idx t]

theorem by_ : br (iblk m c 2 t) r = rw (a2 m c) h i := by
  funext d
  refine Eq.trans ?_ (vy m c i h d ⟨h * 128 + d, by omega⟩ rfl)
  obtain ⟨X, hV⟩ : ∃ X, V m c main_v3 = X := ⟨_, rfl⟩
  rw [hV]
  show (iblk m c 2 t : Vec Ideal S2048x128 .f32) (ix2 r d) = _
  blk_point [iblk, hV, idx t]

end

theorem bg (t : Fin cfg0.N) : b1 (iblk m c 1 t) = gr (a1 m c) := by
  funext d
  refine Eq.trans ?_ (vg m c d)
  show (iblk m c 1 t : Vec Ideal S1x128 .f32) (ix2 0 d) = _
  blk_point [iblk, idx t]

/-- What one grid point adds to the gain's gradient. -/
def part (t : Fin cfg0.N) (d : Fin 128) : EReal := ∑ r : Fin 2048, br (iblk m c 2 t) r d * nx N E (br (iblk m c 0 t) r) d

/-- The gain's gradient after a grid point: the part of the first point of a sweep, the sum with the part after that. -/
theorem stepA (t : Fin cfg0.N) (h : t.val % 4 = 0) (y : S1x128.Idx) : (outsAt0 m c t.val t.isLt).2 y = 0 + part m c t (y 1) := by
  rw [outsAt0_A m c t h]
  frame_out
  pointwise [k0_pay1, k0_pay3, k0_pay5, k0_pay7, k0_pay4, k0_pay2]
  rfl

theorem stepB (t : Fin cfg0.N) (h : ¬ t.val % 4 = 0) (y : S1x128.Idx) :
    (outsAt0 m c t.val t.isLt).2 y = (outsAt0 m c (t.val - 1) (Nat.lt_of_le_of_lt (Nat.sub_le _ _) t.isLt)).2 y + part m c t (y 1) := by
  rw [outsAt0_B m c t h]
  frame_out
  pointwise [k0_pay1, k0_pay3, k0_pay5, k0_pay7, k0_pay4, k0_pay2]
  rfl

/-- The row's gradient a grid point leaves. -/
theorem stepD (t : Fin cfg0.N) (r : Fin 2048) (d : Fin 128) :
    (outsAt0 m c t.val t.isLt).1 (ix2 r d) = nd N E (br (iblk m c 0 t) r) (b1 (iblk m c 1 t)) (br (iblk m c 2 t) r) d := by
  by_cases h : t.val % 4 = 0
  · rw [outsAt0_A m c t h]
    frame_out
    pointwise [k0_pay6, k0_pay5, k0_pay4, k0_pay3, k0_pay2]
    rfl
  · rw [outsAt0_B m c t h]
    frame_out
    pointwise [k0_pay6, k0_pay5, k0_pay4, k0_pay3, k0_pay2]
    rfl

/-- The head and the place of a column. -/
abbrev hd (z : Fin 256) : Fin 2 := ⟨z / 128, by omega⟩
abbrev ln (z : Fin 256) : Fin 128 := ⟨z % 128, by omega⟩

/-- The row's gradient at a row and a column of the result. -/
def dx (i : Fin 4096) (z : Fin 256) : EReal :=
  nd N E (rw (a0 m c) (hd z) i) (gr (a1 m c)) (rw (a2 m c) (hd z) i) (ln z)

/-- The gain's gradient. -/
def dg (d : Fin 128) : EReal := ∑ h : Fin 2, ∑ i : Fin 4096, rw (a2 m c) h i d * nx N E (rw (a0 m c) h i) d

theorem dx_point (t : Fin cfg0.N) (r : Fin 2048) (d : Fin 128) (i : Fin 4096) (z : Fin 256) (ei : (i : ℕ) = t.val % 2 * 2048 + r)
    (ez : (z : ℕ) = t.val / 2 * 128 + d) :
    nd N E (br (iblk m c 0 t) r) (b1 (iblk m c 1 t)) (br (iblk m c 2 t) r) d = dx m c i z := by
  have hd' := d.isLt
  have eh : (hd z : ℕ) = t.val / 2 := by show (z : ℕ) / 128 = _; omega
  have el : d = ln z := Fin.ext (by show (d : ℕ) = (z : ℕ) % 128; omega)
  rw [dx, bx m c t r _ _ eh ei, by_ m c t r _ _ eh ei, bg, ← el]

theorem final_dx : (dats m 0 c).arrAt 3 cfg0.N = ((fun y => dx m c (y 0) (y 1)) : S4096x256.Idx → EReal) := by
  refine (dats m 0 c).arrAt_eq_of_covers 3 _ (by decide +kernel) fun t hf y => ?_
  blk_simp
  have e0 : (((win0_3.blk t).view.emb y 0 : Fin 4096) : ℕ) = t.val % 2 * 2048 + (y 0 : Fin 2048) := by blk_simp [idx t]
  have e1 : (((win0_3.blk t).view.emb y 1 : Fin 256) : ℕ) = t.val / 2 * 128 + (y 1 : Fin 128) := by blk_simp [idx t]
  rw [after0_3]
  refine (congrArg _ (ix2_eta (n0 := 2048) (n1 := 128) y).symm).trans ((stepD m c t (y 0) (y 1)).trans ?_)
  exact dx_point m c t (y 0) (y 1) _ _ e0 e1

/-- The points' parts add up to the sum over all rows. -/
theorem parts (p : Fin 4 → Fin cfg0.N) (hp : ∀ s, (p s).val = s) (d : Fin 128) : ∑ s, part m c (p s) d = dg m c d := by
  refine sum_rows 2 2048 rfl rfl _ (fun h i => rw (a2 m c) h i d * nx N E (rw (a0 m c) h i) d) fun s h i eh ei => ?_
  have hs := hp s
  refine Finset.sum_congr rfl fun r _ => ?_
  have er := ei r
  have eh' : (h : ℕ) = (p s).val / 2 := by omega
  have ei' : (i r : ℕ) = (p s).val % 2 * 2048 + r := by omega
  rw [bx m c (p s) r _ _ eh' ei', by_ m c (p s) r _ _ eh' ei']

theorem final_dg : (dats m 0 c).arrAt 4 cfg0.N = ((fun y => dg m c (y 1)) : S1x128.Idx → EReal) := by
  refine (dats m 0 c).arrAt_eq_of_covers 4 _ (by decide +kernel) fun t hf y => ?_
  blk_simp
  have hf' := (flush0_4 t).mp hf
  have e1 : ((win0_4.blk t).view.emb y 1 : Fin 128) = (y 1 : Fin 128) := Fin.ext (by blk_simp [idx t])
  rw [after0_4, Pipeline.eq_sum_fin_of_reset_step_apply_of_flush (fun n h => (outsAt0 m c n h).2) 4 (fun _ => 0) (fun t y => part m c t (y 1))
    (stepA m c) (stepB m c) t hf' _, zero_add]
  refine (parts m c _ (fun s => ?_) _).trans (congrArg (dg m c) e1.symm)
  have hN : t.val < 4 := t.isLt
  show 4 * (t.val / 4) + (s : ℕ) = s
  omega

end Cert.NormCKEq
end
-- ==== Proof.NormCKClaim.lean ====
/- The norm's gradient NormCK: the reference at an index, and the claims. -/
module

public import proofs.«01_k».proof.Defs
public import proofs.«01_k».proof.Proof.NormCKValue
public import proofs.«01_k».proof.Proof.Gen.NormCKKIdeal.Value
public import proofs.«01_k».proof.Proof.Gen.NormCKRIdeal.Read
public import proofs.«01_k».proof.Proof.Gen.NormCKRIdeal.Run
public import proofs.«01_k».proof.Proof.Gen.Pre_normck_finite

@[expose] public section

set_option maxRecDepth 16384

noncomputable section

namespace Cert.NormCKEq

open Idealize.ShloMosaic Idealize.ShloMosaic.TcCoe Idealize.SL.Sem
open Cert.NormCKKIdeal Cert.NormCKKIdeal.Gen Cert.Reals Cert.Norms Cert.Attn

/-- The length is a positive real number. -/
theorem len : N = ((128 : ℝ) : EReal) := by
  simp [N, Ideal.ofBits, Ideal.ieee, -EReal.coe_mul]
  norm_num

section
open Cert.NormCKRIdeal.Read
variable (x0 x2 : S4096x2x128.Idx → EReal) (x1 : S128.Idx → EReal) (i : Fin 4096) (z : Fin 256)

/-- The reference's gradient of a row. -/
theorem ref_dx : val_main_v37 (F := Ideal) x0 x1 x2 (ix2 i z) = rd N E (rw x0 (hd z) i) (gr x1) (rw x2 (hd z) i) (ln z) (Ideal.ofBits .f32 0xBF000000#32) := by
  pointwise [val_main_v0, val_main_cst, val_main_v1, val_main_v2, val_main_cst_0, val_main_v3, val_main_v4, val_main_cst_1, val_main_v5,
    val_main_v6, val_main_v7, val_main_v8, val_main_cst_2, val_main_v9, val_main_v10, val_main_v13, val_main_v19, val_main_v20,
    val_main_v22, val_main_cst_5, val_main_v23, val_main_v24, val_main_v25, val_main_v26, val_main_v27, val_main_cst_6,
    val_main_v28, val_main_v29, val_main_cst_7, val_main_v30, val_main_v31, val_main_v32, val_main_v33, val_main_v34,
    val_main_v35, val_main_v36, val_main_v37]
  simp only [Fin.sum_univ_one]
  rfl

/-- The reference's gradient of the gain. -/
theorem ref_dg (d : Fin 128) : val_main_v38 (F := Ideal) x0 x2 (ix2 0 d) = ∑ h : Fin 2, ∑ i : Fin 4096, nx N E (rw x0 h i) d * rw x2 h i d := by
  have e17 : val_main_v17 (F := Ideal) x0 x2 (ix1 d) = ∑ h : Fin 2, ∑ i : Fin 4096, nx N E (rw x0 h i) d * rw x2 h i d := by
    pointwise [val_main_v17]
    refine (sum_two _ _ _ d).trans ?_
    pointwise [val_main_v0, val_main_cst, val_main_v1, val_main_v2, val_main_cst_0, val_main_v3, val_main_v4, val_main_cst_1, val_main_v5,
    val_main_v6, val_main_v7, val_main_v11, val_main_v12, val_main_v16, val_main_cst_3]
    rfl
  have e0 (a : EReal) : Ideal.ofBits .f32 0#32 + a = a := by simp [Ideal.ofBits, Ideal.ieee]
  have e21 : val_main_v21 (F := Ideal) x0 x2 (ix1 d) = val_main_v17 (F := Ideal) x0 x2 (ix1 d) := by
    pointwise [val_main_v21]
    refine (sum_two (A := 1) (B := 1) (D := 128) _ _ _ d).trans ?_
    rw [Fin.sum_univ_one, Fin.sum_univ_one, val_main_cst_4_apply, val_main_v18_apply]
    refine (congrArg₂ (· + ·) rfl (congrArg _ ?_)).trans (e0 _)
    funext x
    fin_cases x
    exact Fin.ext (by show (0 * 1 + 0) * 128 + (d : ℕ) = d; omega)
  rw [val_main_v38_apply]
  refine (congrArg _ ?_).trans (e21.trans e17)
  funext x
  fin_cases x
  rfl

end

section
variable (m : (ℓ : Loc nD τ sig) → Buf (Elt Ideal) ℓ) (c : Dev nD)
  (h0 : ∀ i, IsReal (a0 m c i)) (h1 : ∀ i, IsReal (a1 m c i)) (h2 : ∀ i, IsReal (a2 m c i))
include h0 h1 h2

theorem dx_eq (i : Fin 4096) (z : Fin 256) : Cert.NormCKRIdeal.Read.val_main_v37 (F := Ideal) (a0 m c) (a1 m c) (a2 m c) (ix2 i z) = dx m c i z :=
  (ref_dx (a0 m c) (a2 m c) (a1 m c) i z).trans (nd_eq len (by norm_num) (fun t => h0 _) (fun t => h1 _) (fun t => h2 _) _)

theorem eq_dx : Cert.NormCKRIdeal.Read.val_main_v37 (F := Ideal) (a0 m c) (a1 m c) (a2 m c) = (dats m 0 c).arrAt 3 cfg0.N := by
  rw [final_dx]
  funext y
  exact (congrArg _ (ix2_eta (n0 := 4096) (n1 := 256) y).symm).trans (dx_eq m c h0 h1 h2 (y 0) (y 1))

omit h0 h1 h2 in
theorem eq_dg : Cert.NormCKRIdeal.Read.val_main_v38 (F := Ideal) (a0 m c) (a2 m c) = (dats m 0 c).arrAt 4 cfg0.N := by
  rw [final_dg]
  funext y
  have hy : y = ix2 0 (y 1) := by
    funext a
    fin_cases a
    · exact Subsingleton.elim (α := Fin 1) _ _
    · rfl
  exact (congrArg _ hy).trans <| (ref_dg (a0 m c) (a2 m c) (y 1)).trans (Finset.sum_congr rfl fun h _ => Finset.sum_congr rfl fun i _ => mul_comm _ _)

end

/-- The precondition says that the three arrays hold real numbers. -/
theorem reals (x0 : FVec Ideal ⟨3, ![4096, 2, 128]⟩ .f32) (x1 : FVec Ideal ⟨1, ![128]⟩ .f32) (x2 : FVec Ideal ⟨3, ![4096, 2, 128]⟩ .f32)
    (h : Cert.Pre_normck_finite.fn (F := Ideal) x0 x1 x2 = fun _ => 1#1) : (∀ i, IsReal (x0 i)) ∧ (∀ i, IsReal (x1 i)) ∧ ∀ i, IsReal (x2 i) := by
  have e := congrFun h (fun a => a.elim0)
  unfold Cert.Pre_normck_finite.fn at e
  obtain ⟨e, e2⟩ := IntOp.andi_eq_one.1 e
  obtain ⟨e0, e1⟩ := IntOp.andi_eq_one.1 e
  exact ⟨isReal_of_all _ _ _ _ _ _ e0, isReal_of_all _ _ _ _ _ _ e1, isReal_of_all _ _ _ _ _ _ e2⟩

/-- The reference runs; its arguments stay. -/
theorem frame_ref : Cert.quiescent_NormCKRIdeal := fun m ρ _ =>
  (θ_run Cert.NormCKRIdeal.defs _ _).mono (fun r h => ⟨fun c => (h c).2.2, sem_eq_zero_of_no_sems (by decide) r.2⟩)
    (Cert.NormCKRIdeal.Value.run (F := Ideal) m ρ)

theorem value : Cert.algebraic_NormCKKIdeal_NormCKRIdeal_pre_normck_finite := by
  pair_intro
  · run_from Cert.NormCKKIdeal.Gen.run_main m g
    all_goals first | exact V_main_arg0 m c | exact V_main_arg1 m c | exact V_main_arg2 m c
  · run_from Cert.NormCKRIdeal.Value.run m' g'
    · obtain ⟨h0, h1, h2⟩ := reals _ _ _ (hpre c)
      obtain ⟨q0, q1, q2⟩ := hagree c
      rw [Cert.NormCKRIdeal.Read.val_main_v37_eq, q0, q1, q2]
      exact eq_dx m c h0 h1 h2
    · exact (Cert.NormCKRIdeal.Read.val_main_v38_eq _ _).trans (eq_dg m c)

end Cert.NormCKEq

end
-- ==== Proof.Ropes.lean ====
/- The rotation of pairs of columns by angles that grow with the position, run backwards: one row of the kernel, one row of
the reference, and their equality. -/
module

public import Idealize.ShloMosaic.Lib.Pipeline.ValueKit

@[expose] public section

noncomputable section

open Idealize.ShloMosaic

namespace Cert.Ropes

/-- The angle of pair `e` at position `p`, `D` the number of columns that are rotated together. -/
def ang (D : BitVec 32) (p e : ℕ) : EReal :=
  FloatOps.sitofp (F := Ideal) .f32 (BitVec.ofNat 32 p) * Ideal.pow (Ideal.ofBits .f32 0x461C4000#32)
    (Ideal.div (-(Ideal.ofBits .f32 0x40000000#32 * FloatOps.sitofp (F := Ideal) .f32 (BitVec.ofNat 32 e))) (Ideal.ofBits .f32 D))

/-- The kernel's word that tells the lower half of a group of 64 lanes from the upper one, and its choice of lane. -/
theorem lower : ∀ d : Fin 128, IntOp.cmpi .slt (IntOp.andi (BitVec.ofNat 32 d) 63#32) 32#32 = if (d : ℕ) % 64 < 32 then 1#1 else 0#1 := by
  decide +kernel

def sw (d : Fin 128) : Fin 128 := if (d : ℕ) % 64 < 32 then ⟨(d + 128 - 96) % 128, Nat.mod_lt _ (by decide)⟩ else ⟨(d + 128 - 32) % 128, Nat.mod_lt _ (by decide)⟩

theorem pick (X : Fin 128 → EReal) (d : Fin 128) (h h' : _) :
    Scalar.select (IntOp.cmpi .slt (IntOp.andi (BitVec.ofNat 32 d) 63#32) 32#32) (X ⟨(d + 128 - 96) % 128, h⟩) (X ⟨(d + 128 - 32) % 128, h'⟩) = X (sw d) := by
  rw [lower, sw]
  by_cases hd : (d : ℕ) % 64 < 32
  · rw [if_pos hd, if_pos hd]
    rfl
  · rw [if_neg hd, if_neg hd]
    rfl

theorem sw_lo {d : Fin 128} (h : (d : ℕ) % 64 < 32) : ((sw d : Fin 128) : ℕ) = d + 32 := by
  have := d.isLt
  rw [sw, if_pos h]
  show ((d : ℕ) + 128 - 96) % 128 = _
  omega

theorem sw_hi {d : Fin 128} (h : ¬ (d : ℕ) % 64 < 32) : ((sw d : Fin 128) : ℕ) = d - 32 := by
  have := d.isLt
  rw [sw, if_neg h]
  show ((d : ℕ) + 128 - 32) % 128 = _
  omega

/-- The integer zero read as a number is zero. -/
theorem zero_word : (FloatOps.sitofp (F := Ideal) FTy.f32 (0#32 : BitVec 32) : EReal) = 0 := by
  show ((((0#32 : BitVec 32).toInt : ℝ)) : EReal) = 0
  simp

/-- A rotated entry as the kernel writes it. -/
def rk (x x' C S : EReal) : EReal := x * C + x' * (0 - S)

/-- The lower and the upper entry of a pair. -/
theorem rk_lo (x x' C S : EReal) : rk x x' C (-S) = x' * S + x * C := by
  rw [rk, sub_eq_add_neg, neg_neg, zero_add, add_comm]

theorem rk_hi (x x' C S : EReal) : rk x x' C S = x * C + -x' * S := by
  rw [rk, sub_eq_add_neg, zero_add, mul_neg, neg_mul]

theorem rk_id (x x' : EReal) : rk x x' 1 0 = x := by
  rw [rk, sub_zero, mul_zero, add_zero, mul_one]

section whole
variable (a : ℕ → EReal)

/-- All 128 columns rotated together: the tables, and the pair's other column. -/
def bc (d : ℕ) : EReal := if d < 64 then Ideal.cos (a d) else Ideal.cos (a (d - 64))
def bs (d : ℕ) : EReal := if d < 64 then -Ideal.sin (a d) else Ideal.sin (a (d - 64))

theorem whole (X : Fin 128 → EReal) (l : ℕ) (hl : l < 128) (hr : (l + 128 - 64) % 128 < 128) :
    rk (X ⟨l, hl⟩) (X ⟨(l + 128 - 64) % 128, hr⟩) (bc a l) (bs a l)
      = if h : l < 64 then X ⟨64 + l, by omega⟩ * Ideal.sin (a l) + X ⟨l, hl⟩ * Ideal.cos (a l)
        else X ⟨64 + (l - 64), by omega⟩ * Ideal.cos (a (l - 64)) + -X ⟨l - 64, by omega⟩ * Ideal.sin (a (l - 64)) := by
  by_cases h : l < 64
  · rw [dif_pos h, bc, bs, if_pos h, if_pos h, rk_lo]
    have e : (⟨(l + 128 - 64) % 128, hr⟩ : Fin 128) = ⟨64 + l, by omega⟩ := Fin.ext (by show (l + 128 - 64) % 128 = 64 + l; omega)
    rw [e]
  · rw [dif_neg h, bc, bs, if_neg h, if_neg h, rk_hi]
    have e : (⟨(l + 128 - 64) % 128, hr⟩ : Fin 128) = ⟨l - 64, by omega⟩ := Fin.ext (by show (l + 128 - 64) % 128 = l - 64; omega)
    have e' : (⟨64 + (l - 64), by omega⟩ : Fin 128) = ⟨l, hl⟩ := Fin.ext (by show 64 + (l - 64) = l; omega)
    rw [e, e']
end whole

section axial
variable (u w : ℕ → EReal)

/-- The first 64 columns rotated by the row, the last 64 by the column. -/
def cc (d : ℕ) : EReal := if d < 32 then Ideal.cos (u d) else if d - 32 < 32 then Ideal.cos (u (d - 32))
  else if d - 32 - 32 < 32 then Ideal.cos (w (d - 32 - 32)) else Ideal.cos (w (d - 32 - 32 - 32))
def cs (d : ℕ) : EReal := if d < 32 then -Ideal.sin (u d) else if d - 32 < 32 then Ideal.sin (u (d - 32))
  else if d - 32 - 32 < 32 then -Ideal.sin (w (d - 32 - 32)) else Ideal.sin (w (d - 32 - 32 - 32))

theorem axial (X : Fin 128 → EReal) (P : Prop) [Decidable P] (hP : P) (l : ℕ) (hl : l < 128) :
    rk (X ⟨l, hl⟩) (X (sw ⟨l, hl⟩)) (cc u w l) (cs u w l)
      = (if h : P ∧ 64 ≤ l ∧ l - 64 < 64 then
          if h1 : l - 64 < 32 then X ⟨64 + (32 + (l - 64)), by omega⟩ * Ideal.sin (w (l - 64)) + X ⟨64 + (l - 64), by omega⟩ * Ideal.cos (w (l - 64))
          else X ⟨64 + (32 + (l - 64 - 32)), by omega⟩ * Ideal.cos (w (l - 64 - 32))
            + -X ⟨64 + (l - 64 - 32), by omega⟩ * Ideal.sin (w (l - 64 - 32))
        else 0) +
        if h : P ∧ l < 64 then
          if h1 : l < 32 then X ⟨32 + l, by omega⟩ * Ideal.sin (u l) + X ⟨l, hl⟩ * Ideal.cos (u l)
          else X ⟨32 + (l - 32), by omega⟩ * Ideal.cos (u (l - 32)) + -X ⟨l - 32, by omega⟩ * Ideal.sin (u (l - 32))
        else 0 := by
  have lo (h : l % 64 < 32) : (sw ⟨l, hl⟩ : ℕ) = l + 32 := sw_lo h
  have hi (h : ¬ l % 64 < 32) : (sw ⟨l, hl⟩ : ℕ) = l - 32 := sw_hi h
  have fx (s : Fin 128) (n : ℕ) (hn : n < 128) (h : (s : ℕ) = n) : X s = X ⟨n, hn⟩ := congrArg X (Fin.ext h)
  by_cases h : l < 64
  · rw [dif_neg (by omega), dif_pos ⟨hP, h⟩, zero_add]
    by_cases h1 : l < 32
    · rw [dif_pos h1, cc, cs, if_pos h1, if_pos h1, rk_lo, fx _ (32 + l) (by omega) ((lo (by omega)).trans (by omega))]
    · rw [dif_neg h1, cc, cs, if_neg h1, if_neg h1, if_pos (by omega), if_pos (by omega), rk_hi, fx _ (l - 32) (by omega) (hi (by omega)),
        fx ⟨l, hl⟩ (32 + (l - 32)) (by omega) (by show l = _; omega)]
  · have e2 : l - 32 - 32 = l - 64 := by omega
    have ec : cc u w l = if l - 64 < 32 then Ideal.cos (w (l - 64)) else Ideal.cos (w (l - 64 - 32)) := by
      rw [cc, if_neg (show ¬ l < 32 by omega), if_neg (show ¬ l - 32 < 32 by omega), e2]
    have es : cs u w l = if l - 64 < 32 then -Ideal.sin (w (l - 64)) else Ideal.sin (w (l - 64 - 32)) := by
      rw [cs, if_neg (show ¬ l < 32 by omega), if_neg (show ¬ l - 32 < 32 by omega), e2]
    rw [dif_pos ⟨hP, by omega, by omega⟩, dif_neg (show ¬ (P ∧ l < 64) from fun q => h q.2), add_zero, ec, es]
    by_cases h1 : l - 64 < 32
    · rw [dif_pos h1, if_pos h1, if_pos h1, rk_lo, fx _ (64 + (32 + (l - 64))) (by omega) ((lo (by omega)).trans (by omega)),
        fx ⟨l, hl⟩ (64 + (l - 64)) (by omega) (by show l = _; omega)]
    · rw [dif_neg h1, if_neg h1, if_neg h1, rk_hi, fx _ (64 + (l - 64 - 32)) (by omega) ((hi (by omega)).trans (by omega)),
        fx ⟨l, hl⟩ (64 + (32 + (l - 64 - 32))) (by omega) (by show l = _; omega)]
end axial

section part
variable (a : ℕ → EReal)

/-- The first 128 columns left alone, the next 64 rotated, the last 64 empty. -/
def ac (d : ℕ) : EReal := if d < 128 then 1 else if d - 128 < 32 then Ideal.cos (a (d - 128)) else if d - 128 - 32 < 32 then Ideal.cos (a (d - 128 - 32)) else 1
def az (d : ℕ) : EReal := if d < 128 then 0 else if d - 128 < 32 then -Ideal.sin (a (d - 128)) else if d - 128 - 32 < 32 then Ideal.sin (a (d - 128 - 32)) else 0

/-- A row of 192 columns filled up with zeros. -/
def fill (X : Fin 192 → EReal) (d : ℕ) : EReal := if h : d < 192 then X ⟨d, h⟩ else 0

/-- The pair's other column, inside its half of 128 lanes. -/
def asw (d : ℕ) : ℕ := d / 128 * 128 + sw ⟨d % 128, Nat.mod_lt _ (by decide)⟩

theorem asw_lo (d : Fin 128) : asw d = sw d := by
  have h := d.isLt
  have e : (⟨(d : ℕ) % 128, Nat.mod_lt _ (by decide)⟩ : Fin 128) = d := Fin.ext (by show (d : ℕ) % 128 = d; omega)
  rw [asw, e]
  omega

theorem asw_hi (d : Fin 128) : asw (128 + d) = 128 + sw d := by
  have h := d.isLt
  have e : (⟨(128 + (d : ℕ)) % 128, Nat.mod_lt _ (by decide)⟩ : Fin 128) = d := Fin.ext (by show (128 + (d : ℕ)) % 128 = d; omega)
  rw [asw, e]
  omega

theorem part (X : Fin 192 → EReal) (P : Prop) [Decidable P] (hP : P) (l : ℕ) (hl : l < 256) :
    rk (fill X l) (fill X (asw l)) (ac a l) (az a l)
      = if h : P ∧ l < 192 then
          if h1 : l < 128 then X ⟨l, by omega⟩
          else if h2 : l - 128 < 32 then X ⟨128 + (32 + (l - 128)), by omega⟩ * Ideal.sin (a (l - 128)) + X ⟨128 + (l - 128), by omega⟩ * Ideal.cos (a (l - 128))
          else X ⟨128 + (32 + (l - 128 - 32)), by omega⟩ * Ideal.cos (a (l - 128 - 32)) + -X ⟨128 + (l - 128 - 32), by omega⟩ * Ideal.sin (a (l - 128 - 32))
        else 0 := by
  have fx (n k : ℕ) (hk : k < 192) (h : n = k) : fill X n = X ⟨k, hk⟩ := by rw [h, fill, dif_pos hk]
  by_cases h : l < 192
  · rw [dif_pos ⟨hP, h⟩]
    by_cases h1 : l < 128
    · rw [dif_pos h1, ac, az, if_pos h1, if_pos h1, rk_id, fx l l h rfl]
    · have hm : l % 128 = l - 128 := by omega
      rw [dif_neg h1, ac, az, if_neg h1, if_neg h1]
      by_cases h2 : l - 128 < 32
      · have e := sw_lo (d := ⟨l % 128, Nat.mod_lt _ (by decide)⟩) (by show l % 128 % 64 < 32; omega)
        rw [dif_pos h2, if_pos h2, if_pos h2, rk_lo, fx (asw l) (128 + (32 + (l - 128))) (by omega) (by rw [asw, e]; show l / 128 * 128 + (l % 128 + 32) = _; omega),
          fx l (128 + (l - 128)) (by omega) (by omega)]
      · have e := sw_hi (d := ⟨l % 128, Nat.mod_lt _ (by decide)⟩) (by show ¬ l % 128 % 64 < 32; omega)
        rw [dif_neg h2, if_neg h2, if_neg h2, if_pos (by omega), if_pos (by omega), rk_hi,
          fx (asw l) (128 + (l - 128 - 32)) (by omega) (by rw [asw, e]; show l / 128 * 128 + (l % 128 - 32) = _; omega),
          fx l (128 + (32 + (l - 128 - 32))) (by omega) (by omega)]
  · rw [dif_neg (by omega), ac, az, if_neg (by omega), if_neg (by omega), if_neg (by omega), if_neg (by omega), if_neg (by omega), if_neg (by omega),
      rk_id, fill, dif_neg h]
end part

end Cert.Ropes
end
-- ==== Proof.RopeAClaim.lean ====
/- The rotation of the last 64 of 192 columns of each head, run backwards on heads filled up to 256 columns: what the
kernel's result holds, the reference at an index, and the claims. -/
module

public import proofs.«01_k».proof.Defs
public import proofs.«01_k».proof.Proof.Ropes
public import proofs.«01_k».proof.Proof.Attn
public import proofs.«01_k».proof.Proof.Gen.RopeAKIdeal.Value
public import proofs.«01_k».proof.Proof.Gen.RopeARIdeal.Read
public import proofs.«01_k».proof.Proof.Gen.RopeARIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RopeAEq

open Cert.RopeAKIdeal Cert.RopeAKIdeal.Gen Cert.Attn Cert.Ropes

variable (m : (ℓ : Loc nD τ sig) → Buf (Elt Ideal) ℓ) (c : Dev nD)

abbrev A4 : Shape := ⟨4, ![1, 4096, 4, 192]⟩
abbrev a0 : A4.Idx → EReal := m ((c : Thread nD τ).loc main_arg0)

/-- The rotated entry at a position, a head and a column. -/
abbrev ct (i : ℕ) : ℕ → EReal := ac (ang 0x42800000#32 i)
abbrev st (i : ℕ) : ℕ → EReal := az (ang 0x42800000#32 i)
theorem asw_lt {d : ℕ} (h : d < 256) : asw d < 256 := by
  have := (sw ⟨d % 128, Nat.mod_lt _ (by decide)⟩).isLt
  rw [asw]
  omega
abbrev ot (d : Fin 256) : Fin 256 := ⟨asw d, asw_lt d.isLt⟩
def dx (x : A4.Idx → EReal) (i : Fin 4096) (h : Fin 4) (d : ℕ) : EReal :=
  rk (fill (fun e => x (ix4 0 i h e)) d) (fill (fun e => x (ix4 0 i h e)) (asw d)) (ct i d) (st i d)

/-- The head of a column. -/
abbrev hd (z : Fin 1024) : Fin 4 := ⟨z / 256, by have := z.isLt; omega⟩
def dz (x : A4.Idx → EReal) (i : Fin 4096) (z : Fin 1024) : EReal := dx x i (hd z) (z % 256)

/-- What one grid point computes. -/
theorem pay (x k s : S2048x256.Idx → EReal) (y : S2048x256.Idx) :
    out0_3 (F := Ideal) x k s y = rk (x (ix2 (y 0) (y 1))) (x (ix2 (y 0) (ot (y 1)))) (k (ix2 (y 0) (y 1))) (s (ix2 (y 0) (y 1))) := by
  unfold out0_3
  canon_tiles j h
  all_goals
    have e0 : y 0 = j 0 := Fin.ext h0
    have e1 : y 1 = ⟨_, lt_of_eq_of_lt h1.symm (y 1).isLt⟩ := Fin.ext h1
    rw [e0, e1]
    open_payloads
    pointwise
  · have lt (e : Fin 128) : 128 + (e : ℕ) < 256 := by omega
    have eo : ot ⟨128 + (j 1 : Fin 128), lt _⟩ = ⟨128 + sw (j 1), lt _⟩ := Fin.ext (asw_hi _)
    refine Eq.trans ?_ (congrArg (fun o => rk (x (ix2 (j 0) ⟨128 + (j 1 : Fin 128), lt _⟩)) (x (ix2 (j 0) o)) (k (ix2 (j 0) ⟨128 + (j 1 : Fin 128), lt _⟩))
      (s (ix2 (j 0) ⟨128 + (j 1 : Fin 128), lt _⟩))) eo.symm)
    exact congrArg (fun u => x (ix2 (j 0) ⟨128 + (j 1 : Fin 128), lt _⟩) * k (ix2 (j 0) ⟨128 + (j 1 : Fin 128), lt _⟩)
      + u * (0 - s (ix2 (j 0) ⟨128 + (j 1 : Fin 128), lt _⟩))) (pick (fun e => x (ix2 (j 0) ⟨128 + e, lt e⟩)) (j 1) (Nat.mod_lt _ (by decide)) (Nat.mod_lt _ (by decide)))
  · have lt (e : Fin 128) : (e : ℕ) < 256 := by omega
    have eo : ot ⟨(j 1 : Fin 128), lt _⟩ = ⟨sw (j 1), lt _⟩ := Fin.ext (asw_lo _)
    refine Eq.trans ?_ (congrArg (fun o => rk (x (ix2 (j 0) ⟨(j 1 : Fin 128), lt _⟩)) (x (ix2 (j 0) o)) (k (ix2 (j 0) ⟨(j 1 : Fin 128), lt _⟩))
      (s (ix2 (j 0) ⟨(j 1 : Fin 128), lt _⟩))) eo.symm)
    exact congrArg (fun u => x (ix2 (j 0) ⟨(j 1 : Fin 128), lt _⟩) * k (ix2 (j 0) ⟨(j 1 : Fin 128), lt _⟩)
      + u * (0 - s (ix2 (j 0) ⟨(j 1 : Fin 128), lt _⟩))) (pick (fun e => x (ix2 (j 0) ⟨e, lt e⟩)) (j 1) (Nat.mod_lt _ (by decide)) (Nat.mod_lt _ (by decide)))

/-- The heads' rows, padded, as columns of a matrix. -/
abbrev padded (x : S4096x4x192.Idx → EReal) (z : IVec S_ 32) : S4096x1024.Idx → EReal :=
  shapeCast S4096x1024 (pad S4096x4x256 ![0, 0, 0] ![0, 0, 64] ![0, 0, 0] x (sitofp (F := Ideal) FTy.f32 z : S_.Idx → EReal)
    pads_S4096x4x192_S4096x4x256_000_000_0640 h_S_) shapeCasts_S4096x4x256_S4096x1024

theorem rd (x : S4096x4x192.Idx → EReal) (i : Fin 4096) (z : Fin 1024) :
    padded x (constantI S_ 32 0#32) (ix2 i z) = fill (fun e => x (ix3 i (hd z) e)) (z % 256) := by
  have hi := i.isLt
  have hz := z.isLt
  refine (shapeCast_apply _ _ _ (ix3 i (hd z) (⟨z % 256, Nat.mod_lt _ (by decide)⟩ : Fin 256)) ?_).trans ?_
  · rw [Shape.rowMajor_val_three, Shape.rowMajor_val_two]
    show ((i : ℕ) * 4 + (z : ℕ) / 256) * 256 + (z : ℕ) % 256 = (i : ℕ) * 1024 + (z : ℕ)
    omega
  · unfold fill
    pointwise []
    by_cases h : (z : ℕ) % 256 < 192
    · rw [dif_pos ⟨(hd z).isLt, h⟩, dif_pos h]
    · rw [dif_neg (fun q => h q.2), dif_neg h]
      exact zero_word

/-- The tables of cosines and sines, and the argument's heads side by side. -/
theorem vc (i : Fin 4096) (d : Fin 256) : (V m c main_v77 : S4096x256.Idx → EReal) (ix2 i d) = ct i d := by
  show (StableHlo.after hostOps0_2 (StableHlo.after hostOps0_1 (StableHlo.after hostOps0 fun b => m (c, b))) (Proc.devRef .tc main_v77) : S4096x256.Idx → EReal) (ix2 i d) = _
  after_results_simp
  pointwise []
  iterate 3 (try after_results_simp; pointwise [])
  rfl

theorem vs (i : Fin 4096) (d : Fin 256) : (V m c main_v82 : S4096x256.Idx → EReal) (ix2 i d) = st i d := by
  show (StableHlo.after hostOps0_2 (StableHlo.after hostOps0_1 (StableHlo.after hostOps0 fun b => m (c, b))) (Proc.devRef .tc main_v82) : S4096x256.Idx → EReal) (ix2 i d) = _
  after_results_simp
  pointwise []
  iterate 3 (try after_results_simp; pointwise [])
  rfl

theorem vx (i : Fin 4096) (z : Fin 1024) : (V m c main_v104 : S4096x1024.Idx → EReal) (ix2 i z) = fill (fun e => a0 m c (ix4 0 i (hd z) e)) (z % 256) := by
  have e (d : Fin 192) : shapeCast S4096x4x192 (a0 m c) shapeCasts_S1x4096x4x192_S4096x4x192 (ix3 i (hd z) d) = a0 m c (ix4 0 i (hd z) d) := by pointwise []
  refine Eq.trans ?_ ((rd (shapeCast S4096x4x192 (a0 m c) shapeCasts_S1x4096x4x192_S4096x4x192) i z).trans (congrArg (fun f => fill f _) (funext e)))
  show (StableHlo.after hostOps0_2 (StableHlo.after hostOps0_1 (StableHlo.after hostOps0 fun b => m (c, b))) (Proc.devRef .tc main_v104) : S4096x1024.Idx → EReal) (ix2 i z) = _
  after_results_simp
  rfl

/-- The block indices of a grid point. -/
theorem idx : ∀ t : Fin cfg0.N, win0_0.index t = ![t.val % 2, t.val / 2] ∧ win0_1.index t = ![t.val % 2, 0] ∧ win0_2.index t = ![t.val % 2, 0]
    ∧ win0_3.index t = ![t.val % 2, t.val / 2] :=
  (by decide +kernel : ∀ t : Fin grid0.N, _)

section
variable (t : Fin cfg0.N) (r : Fin 2048) (d : Fin 256) (i : Fin 4096) (ei : (i : ℕ) = t.val % 2 * 2048 + r)

include ei

theorem bx (h : Fin 4) (eh : (h : ℕ) = t.val / 2) : (iblk m c 0 t : Vec Ideal S2048x256 .f32) (ix2 r d) = fill (fun e => a0 m c (ix4 0 i h e)) d := by
  have hd' := d.isLt
  have hh := h.isLt
  have e0 : hd ⟨h * 256 + d, by omega⟩ = h := Fin.ext (by show ((h : ℕ) * 256 + d) / 256 = h; omega)
  have e1 : ((h : ℕ) * 256 + d) % 256 = d := by omega
  have e := vx m c i ⟨h * 256 + d, by omega⟩
  rw [e0, show ((⟨h * 256 + d, by omega⟩ : Fin 1024) : ℕ) % 256 = d from e1] at e
  refine Eq.trans ?_ e
  obtain ⟨X, hV⟩ : ∃ X, V m c main_v104 = X := ⟨_, rfl⟩
  rw [hV]
  show (iblk m c 0 t : Vec Ideal S2048x256 .f32) (ix2 r d) = _
  blk_point [iblk, hV, idx t]

theorem bc' : (iblk m c 1 t : Vec Ideal S2048x256 .f32) (ix2 r d) = ct i d := by
  refine Eq.trans ?_ (vc m c i d)
  obtain ⟨X, hV⟩ : ∃ X, V m c main_v77 = X := ⟨_, rfl⟩
  rw [hV]
  show (iblk m c 1 t : Vec Ideal S2048x256 .f32) (ix2 r d) = _
  blk_point [iblk, hV, idx t]

theorem bs' : (iblk m c 2 t : Vec Ideal S2048x256 .f32) (ix2 r d) = st i d := by
  refine Eq.trans ?_ (vs m c i d)
  obtain ⟨X, hV⟩ : ∃ X, V m c main_v82 = X := ⟨_, rfl⟩
  rw [hV]
  show (iblk m c 2 t : Vec Ideal S2048x256 .f32) (ix2 r d) = _
  blk_point [iblk, hV, idx t]

theorem point (z : Fin 1024) (ez : (z : ℕ) = t.val / 2 * 256 + d) :
    out0_3 (F := Ideal) (iblk m c 0 t) (iblk m c 1 t) (iblk m c 2 t) (ix2 r d) = dz (a0 m c) i z := by
  have hd' := d.isLt
  have eh : (hd z : ℕ) = t.val / 2 := by show (z : ℕ) / 256 = _; omega
  have el : (z : ℕ) % 256 = d := by omega
  refine (pay _ _ _ (ix2 r d)).trans ?_
  show rk (iblk m c 0 t (ix2 r d)) (iblk m c 0 t (ix2 r (ot d))) (iblk m c 1 t (ix2 r d)) (iblk m c 2 t (ix2 r d)) = _
  rw [bx m c t r d i ei _ eh, bx m c t r _ i ei _ eh, bc' m c t r d i ei, bs' m c t r d i ei, dz, dx, el]

end

/-- The kernel's result. -/
theorem final : (dats m 0 c).arrAt 3 cfg0.N = ((fun y => dz (a0 m c) (y 0) (y 1)) : S4096x1024.Idx → EReal) := by
  refine (dats m 0 c).arrAt_eq_of_covers 3 _ (by decide +kernel) fun t hf y => ?_
  blk_simp
  have e0 : (((win0_3.blk t).view.emb y 0 : Fin 4096) : ℕ) = t.val % 2 * 2048 + (y 0 : Fin 2048) := by blk_simp [idx t]
  have e1 : (((win0_3.blk t).view.emb y 1 : Fin 1024) : ℕ) = t.val / 2 * 256 + (y 1 : Fin 256) := by blk_simp [idx t]
  rw [after0_3]
  refine (congrArg _ (ix2_eta (n0 := 2048) (n1 := 256) y).symm).trans ?_
  exact point m c t (y 0) (y 1) _ e0 _ e1

open Cert.RopeARIdeal.Read in
/-- The reference at an index. -/
theorem ref (x : A4.Idx → EReal) (i : Fin 4096) (z : Fin 1024) : val_main_v61 (F := Ideal) x (ix2 i z) = dz x i z := by
  refine Eq.trans ?_ (Eq.symm (part (ang 0x42800000#32 i) (fun e => x (ix4 0 i (hd z) e)) ((z : ℕ) / 256 < 4) (hd z).isLt (z % 256) (Nat.mod_lt _ (by decide))))
  pointwise [val_main_v3, val_main_v4, val_main_cst_0, val_main_v5, val_main_v6, val_main_cst_1, val_main_v7, val_main_v8, val_main_v9,
    val_main_cst_2, val_main_v10, val_main_v11, val_main_cst_3, val_main_v12, val_main_v13, val_main_v14, val_main_v15,
    val_main_v16, val_main_v17, val_main_v18, val_main_v19, val_main_v20, val_main_v21, val_main_v22, val_main_v23,
    val_main_v26, val_main_v29, val_main_v33, val_main_v36, val_main_v42, val_main_v43, val_main_v44, val_main_v45,
    val_main_v46, val_main_v47, val_main_v48, val_main_v49, val_main_v50, val_main_v51, val_main_v52, val_main_v53,
    val_main_v54, val_main_v55, val_main_v56, val_main_v57, val_main_v58, val_main_c, val_main_call0_v0, val_main_v59,
    val_main_v60, val_main_v61]
  exact dite_congr rfl (fun h => rfl) (fun _ => zero_word)

theorem eq : Cert.RopeARIdeal.Read.val_main_v61 (F := Ideal) (a0 m c) = (dats m 0 c).arrAt 3 cfg0.N := by
  rw [final]
  funext y
  exact (congrArg _ (ix2_eta (n0 := 4096) (n1 := 1024) y).symm).trans (ref (a0 m c) (y 0) (y 1))

/-- The reference runs; its argument stays. -/
theorem frame_ref : Cert.quiescent_RopeARIdeal := fun m ρ _ =>
  (θ_run Cert.RopeARIdeal.defs _ _).mono (fun r h => ⟨fun c => (h c).2, sem_eq_zero_of_no_sems (by decide) r.2⟩)
    (Cert.RopeARIdeal.Value.run (F := Ideal) m ρ)

theorem value : Cert.algebraic_RopeAKIdeal_RopeARIdeal := by
  pair_intro
  · run_from Cert.RopeAKIdeal.Gen.run_main m g
    all_goals first | exact V_main_arg0 m c | skip
  · run_from Cert.RopeARIdeal.Value.run m' g'
    rw [Cert.RopeARIdeal.Read.val_main_v61_eq, hagree c]
    exact eq m c

end Cert.RopeAEq
end
-- ==== Proof.RopeBClaim.lean ====
/- The rotation RopeB, run backwards: what the kernel's result holds, the reference at an index, and the claims. -/
module

public import proofs.«01_k».proof.Defs
public import proofs.«01_k».proof.Proof.Ropes
public import proofs.«01_k».proof.Proof.Attn
public import proofs.«01_k».proof.Proof.Gen.RopeBKIdeal.Value
public import proofs.«01_k».proof.Proof.Gen.RopeBRIdeal.Read
public import proofs.«01_k».proof.Proof.Gen.RopeBRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RopeBEq

open Cert.RopeBKIdeal Cert.RopeBKIdeal.Gen Cert.Attn Cert.Ropes

variable (m : (ℓ : Loc nD τ sig) → Buf (Elt Ideal) ℓ) (c : Dev nD)

abbrev a0 : (⟨4, ![1, 4096, 6, 128]⟩ : Shape).Idx → EReal := m ((c : Thread nD τ).loc main_arg0)

/-- The head and the place of a column. -/
abbrev hd (z : Fin 768) : Fin 6 := ⟨z / 128, by have := z.isLt; omega⟩
abbrev ln (z : Fin 768) : Fin 128 := ⟨z % 128, Nat.mod_lt _ (by decide)⟩

/-- The rotated entry at a position, a head and a column. -/
abbrev ct (i : ℕ) : ℕ → EReal := bc (ang 0x43000000#32 i)
abbrev st (i : ℕ) : ℕ → EReal := bs (ang 0x43000000#32 i)
abbrev ot (d : Fin 128) : Fin 128 := ⟨(d + 128 - 64) % 128, Nat.mod_lt _ (by decide)⟩
def dx (x : (⟨4, ![1, 4096, 6, 128]⟩ : Shape).Idx → EReal) (i : Fin 4096) (h : Fin 6) (d : Fin 128) : EReal :=
  rk (x (ix4 0 i h d)) (x (ix4 0 i h (ot d))) (ct i d) (st i d)

/-- What one grid point computes. -/
theorem pay (x k s : S4096x128.Idx → EReal) (r : Fin 4096) (d : Fin 128) :
    out0_3 (F := Ideal) x k s (ix2 r d) = rk (x (ix2 r d)) (x (ix2 r (ot d))) (k (ix2 r d)) (s (ix2 r d)) := by
  frame_out
  pointwise [k0_pay1]
  rfl

/-- The tables of cosines and sines, and the argument's heads side by side. -/
theorem vc (i : Fin 4096) (d : Fin 128) : (V m c main_v85 : S4096x128.Idx → EReal) (ix2 i d) = ct i d := by
  show (StableHlo.after hostOps0 (fun b => m (c, b)) (Proc.devRef .tc main_v85) : S4096x128.Idx → EReal) (ix2 i d) = _
  after_results_simp
  pointwise []
  rfl

theorem vs (i : Fin 4096) (d : Fin 128) : (V m c main_v89 : S4096x128.Idx → EReal) (ix2 i d) = st i d := by
  show (StableHlo.after hostOps0 (fun b => m (c, b)) (Proc.devRef .tc main_v89) : S4096x128.Idx → EReal) (ix2 i d) = _
  after_results_simp
  pointwise []
  rfl

theorem vx (i : Fin 4096) (z : Fin 768) : (V m c main_v103 : S4096x768.Idx → EReal) (ix2 i z) = a0 m c (ix4 0 i (hd z) (ln z)) := by
  show (StableHlo.after hostOps0 (fun b => m (c, b)) (Proc.devRef .tc main_v103) : S4096x768.Idx → EReal) (ix2 i z) = _
  after_results_simp
  pointwise []

/-- The block indices of a grid point. -/
theorem idx : ∀ t : Fin cfg0.N, win0_0.index t = ![0, t.val] ∧ win0_1.index t = ![0, 0] ∧ win0_2.index t = ![0, 0] ∧ win0_3.index t = ![0, t.val] :=
  (by decide +kernel : ∀ t : Fin grid0.N, _)

section
variable (t : Fin cfg0.N) (r : Fin 4096) (d : Fin 128)

theorem bx (h : Fin 6) (eh : (h : ℕ) = t.val) : (iblk m c 0 t : Vec Ideal S4096x128 .f32) (ix2 r d) = a0 m c (ix4 0 r h d) := by
  have hd' := d.isLt
  have hh := h.isLt
  have e0 : hd ⟨h * 128 + d, by omega⟩ = h := Fin.ext (by show ((h : ℕ) * 128 + d) / 128 = h; omega)
  have e1 : ln ⟨h * 128 + d, by omega⟩ = d := Fin.ext (by show ((h : ℕ) * 128 + d) % 128 = d; omega)
  have e := vx m c r ⟨h * 128 + d, by omega⟩
  rw [e0, e1] at e
  refine Eq.trans ?_ e
  obtain ⟨X, hV⟩ : ∃ X, V m c main_v103 = X := ⟨_, rfl⟩
  rw [hV]
  show (iblk m c 0 t : Vec Ideal S4096x128 .f32) (ix2 r d) = _
  blk_point [iblk, hV, idx t]

theorem bc' : (iblk m c 1 t : Vec Ideal S4096x128 .f32) (ix2 r d) = ct r d := by
  refine Eq.trans ?_ (vc m c r d)
  obtain ⟨X, hV⟩ : ∃ X, V m c main_v85 = X := ⟨_, rfl⟩
  rw [hV]
  show (iblk m c 1 t : Vec Ideal S4096x128 .f32) (ix2 r d) = _
  blk_point [iblk, hV, idx t]

theorem bs' : (iblk m c 2 t : Vec Ideal S4096x128 .f32) (ix2 r d) = st r d := by
  refine Eq.trans ?_ (vs m c r d)
  obtain ⟨X, hV⟩ : ∃ X, V m c main_v89 = X := ⟨_, rfl⟩
  rw [hV]
  show (iblk m c 2 t : Vec Ideal S4096x128 .f32) (ix2 r d) = _
  blk_point [iblk, hV, idx t]

theorem point (i : Fin 4096) (z : Fin 768) (ei : (i : ℕ) = r) (ez : (z : ℕ) = t.val * 128 + d) :
    out0_3 (F := Ideal) (iblk m c 0 t) (iblk m c 1 t) (iblk m c 2 t) (ix2 r d) = dx (a0 m c) i (hd z) (ln z) := by
  have hd' := d.isLt
  have eh : (hd z : ℕ) = t.val := by show (z : ℕ) / 128 = _; omega
  have el : ln z = d := Fin.ext (by show (z : ℕ) % 128 = _; omega)
  obtain rfl : i = r := Fin.ext ei
  refine (pay _ _ _ i d).trans ?_
  rw [bx m c t i d _ eh, bx m c t i _ _ eh, bc', bs', dx, el]

end

/-- The kernel's result. -/
theorem final : (dats m 0 c).arrAt 3 cfg0.N = ((fun y => dx (a0 m c) (y 0) (hd (y 1)) (ln (y 1))) : S4096x768.Idx → EReal) := by
  refine (dats m 0 c).arrAt_eq_of_covers 3 _ (by decide +kernel) fun t hf y => ?_
  blk_simp
  have e0 : (((win0_3.blk t).view.emb y 0 : Fin 4096) : ℕ) = (y 0 : Fin 4096) := by blk_simp [idx t]
  have e1 : (((win0_3.blk t).view.emb y 1 : Fin 768) : ℕ) = t.val * 128 + (y 1 : Fin 128) := by blk_simp [idx t]
  rw [after0_3]
  refine (congrArg _ (ix2_eta (n0 := 4096) (n1 := 128) y).symm).trans ?_
  exact point m c t (y 0) (y 1) _ _ e0 e1

open Cert.RopeBRIdeal.Read in
/-- The reference at an index. -/
theorem ref (x : (⟨4, ![1, 4096, 6, 128]⟩ : Shape).Idx → EReal) (i : Fin 4096) (z : Fin 768) : val_main_v54 (F := Ideal) x (ix2 i z) = dx x i (hd z) (ln z) := by
  refine Eq.trans ?_ (Eq.symm (whole (ang 0x43000000#32 i) (fun e => x (ix4 0 i (hd z) e)) (z % 128) (Nat.mod_lt _ (by decide)) (Nat.mod_lt _ (by decide))))
  pointwise [val_main_v1, val_main_v2, val_main_cst_0, val_main_v3, val_main_v4, val_main_cst_1, val_main_v5, val_main_v6, val_main_v7,
    val_main_cst_2, val_main_v8, val_main_v9, val_main_cst_3, val_main_v10, val_main_v11, val_main_v12, val_main_v13,
    val_main_v14, val_main_v15, val_main_v16, val_main_v17, val_main_v18, val_main_v19, val_main_v20, val_main_v21,
    val_main_v24, val_main_v27, val_main_v31, val_main_v34, val_main_v39, val_main_v40, val_main_v41, val_main_v42,
    val_main_v43, val_main_v44, val_main_v45, val_main_v46, val_main_v47, val_main_v48, val_main_v49, val_main_v50,
    val_main_v51, val_main_v52, val_main_v53, val_main_v54]
  rfl

theorem eq : Cert.RopeBRIdeal.Read.val_main_v54 (F := Ideal) (a0 m c) = (dats m 0 c).arrAt 3 cfg0.N := by
  rw [final]
  funext y
  exact (congrArg _ (ix2_eta (n0 := 4096) (n1 := 768) y).symm).trans (ref (a0 m c) (y 0) (y 1))

/-- The reference runs; its argument stays. -/
theorem frame_ref : Cert.quiescent_RopeBRIdeal := fun m ρ _ =>
  (θ_run Cert.RopeBRIdeal.defs _ _).mono (fun r h => ⟨fun c => (h c).2, sem_eq_zero_of_no_sems (by decide) r.2⟩)
    (Cert.RopeBRIdeal.Value.run (F := Ideal) m ρ)

theorem value : Cert.algebraic_RopeBKIdeal_RopeBRIdeal := by
  pair_intro
  · run_from Cert.RopeBKIdeal.Gen.run_main m g
  · run_from Cert.RopeBRIdeal.Value.run m' g'
    rw [Cert.RopeBRIdeal.Read.val_main_v54_eq, hagree c]
    exact eq m c

end Cert.RopeBEq
end
-- ==== Proof.RopeCClaim.lean ====
/- The rotation RopeC, run backwards: what the kernel's result holds, the reference at an index, and the claims. -/
module

public import proofs.«01_k».proof.Defs
public import proofs.«01_k».proof.Proof.Ropes
public import proofs.«01_k».proof.Proof.Attn
public import proofs.«01_k».proof.Proof.Gen.RopeCKIdeal.Value
public import proofs.«01_k».proof.Proof.Gen.RopeCRIdeal.Read
public import proofs.«01_k».proof.Proof.Gen.RopeCRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RopeCEq

open Cert.RopeCKIdeal Cert.RopeCKIdeal.Gen Cert.Attn Cert.Ropes

variable (m : (ℓ : Loc nD τ sig) → Buf (Elt Ideal) ℓ) (c : Dev nD)

abbrev a0 : (⟨4, ![1, 4096, 6, 128]⟩ : Shape).Idx → EReal := m ((c : Thread nD τ).loc main_arg0)

/-- The head and the place of a column. -/
abbrev hd (z : Fin 768) : Fin 6 := ⟨z / 128, by have := z.isLt; omega⟩
abbrev ln (z : Fin 768) : Fin 128 := ⟨z % 128, Nat.mod_lt _ (by decide)⟩

/-- The rotated entry at a position, a head and a column. -/
abbrev ct (i : ℕ) : ℕ → EReal := cc (ang 0x42800000#32 (i / 64)) (ang 0x42800000#32 (i % 64))
abbrev st (i : ℕ) : ℕ → EReal := cs (ang 0x42800000#32 (i / 64)) (ang 0x42800000#32 (i % 64))
abbrev ot (d : Fin 128) : Fin 128 := sw d
def dx (x : (⟨4, ![1, 4096, 6, 128]⟩ : Shape).Idx → EReal) (i : Fin 4096) (h : Fin 6) (d : Fin 128) : EReal :=
  rk (x (ix4 0 i h d)) (x (ix4 0 i h (ot d))) (ct i d) (st i d)

/-- What one grid point computes. -/
theorem pay (x k s : S4096x128.Idx → EReal) (r : Fin 4096) (d : Fin 128) :
    out0_3 (F := Ideal) x k s (ix2 r d) = rk (x (ix2 r d)) (x (ix2 r (ot d))) (k (ix2 r d)) (s (ix2 r d)) := by
  frame_out
  pointwise [k0_pay1]
  exact congrArg (fun u => x (ix2 r d) * k (ix2 r d) + u * (0 - s (ix2 r d))) (pick (fun e => x (ix2 r e)) d _ _)

/-- The tables of cosines and sines, and the argument's heads side by side. -/
theorem vc (i : Fin 4096) (d : Fin 128) : (V m c main_v94 : S4096x128.Idx → EReal) (ix2 i d) = ct i d := by
  show (StableHlo.after hostOps0 (fun b => m (c, b)) (Proc.devRef .tc main_v94) : S4096x128.Idx → EReal) (ix2 i d) = _
  after_results_simp
  pointwise []
  try after_results_simp
  pointwise []
  rfl

theorem vs (i : Fin 4096) (d : Fin 128) : (V m c main_v101 : S4096x128.Idx → EReal) (ix2 i d) = st i d := by
  show (StableHlo.after hostOps0 (fun b => m (c, b)) (Proc.devRef .tc main_v101) : S4096x128.Idx → EReal) (ix2 i d) = _
  after_results_simp
  pointwise []
  try after_results_simp
  pointwise []
  rfl

theorem vx (i : Fin 4096) (z : Fin 768) : (V m c main_v103 : S4096x768.Idx → EReal) (ix2 i z) = a0 m c (ix4 0 i (hd z) (ln z)) := by
  show (StableHlo.after hostOps0 (fun b => m (c, b)) (Proc.devRef .tc main_v103) : S4096x768.Idx → EReal) (ix2 i z) = _
  after_results_simp
  pointwise []

/-- The block indices of a grid point. -/
theorem idx : ∀ t : Fin cfg0.N, win0_0.index t = ![0, t.val] ∧ win0_1.index t = ![0, 0] ∧ win0_2.index t = ![0, 0] ∧ win0_3.index t = ![0, t.val] :=
  (by decide +kernel : ∀ t : Fin grid0.N, _)

section
variable (t : Fin cfg0.N) (r : Fin 4096) (d : Fin 128)

theorem bx (h : Fin 6) (eh : (h : ℕ) = t.val) : (iblk m c 0 t : Vec Ideal S4096x128 .f32) (ix2 r d) = a0 m c (ix4 0 r h d) := by
  have hd' := d.isLt
  have hh := h.isLt
  have e0 : hd ⟨h * 128 + d, by omega⟩ = h := Fin.ext (by show ((h : ℕ) * 128 + d) / 128 = h; omega)
  have e1 : ln ⟨h * 128 + d, by omega⟩ = d := Fin.ext (by show ((h : ℕ) * 128 + d) % 128 = d; omega)
  have e := vx m c r ⟨h * 128 + d, by omega⟩
  rw [e0, e1] at e
  refine Eq.trans ?_ e
  obtain ⟨X, hV⟩ : ∃ X, V m c main_v103 = X := ⟨_, rfl⟩
  rw [hV]
  show (iblk m c 0 t : Vec Ideal S4096x128 .f32) (ix2 r d) = _
  blk_point [iblk, hV, idx t]

theorem bc' : (iblk m c 1 t : Vec Ideal S4096x128 .f32) (ix2 r d) = ct r d := by
  refine Eq.trans ?_ (vc m c r d)
  obtain ⟨X, hV⟩ : ∃ X, V m c main_v94 = X := ⟨_, rfl⟩
  rw [hV]
  show (iblk m c 1 t : Vec Ideal S4096x128 .f32) (ix2 r d) = _
  blk_point [iblk, hV, idx t]

theorem bs' : (iblk m c 2 t : Vec Ideal S4096x128 .f32) (ix2 r d) = st r d := by
  refine Eq.trans ?_ (vs m c r d)
  obtain ⟨X, hV⟩ : ∃ X, V m c main_v101 = X := ⟨_, rfl⟩
  rw [hV]
  show (iblk m c 2 t : Vec Ideal S4096x128 .f32) (ix2 r d) = _
  blk_point [iblk, hV, idx t]

theorem point (i : Fin 4096) (z : Fin 768) (ei : (i : ℕ) = r) (ez : (z : ℕ) = t.val * 128 + d) :
    out0_3 (F := Ideal) (iblk m c 0 t) (iblk m c 1 t) (iblk m c 2 t) (ix2 r d) = dx (a0 m c) i (hd z) (ln z) := by
  have hd' := d.isLt
  have eh : (hd z : ℕ) = t.val := by show (z : ℕ) / 128 = _; omega
  have el : ln z = d := Fin.ext (by show (z : ℕ) % 128 = _; omega)
  obtain rfl : i = r := Fin.ext ei
  refine (pay _ _ _ i d).trans ?_
  rw [bx m c t i d _ eh, bx m c t i _ _ eh, bc', bs', dx, el]

end

/-- The kernel's result. -/
theorem final : (dats m 0 c).arrAt 3 cfg0.N = ((fun y => dx (a0 m c) (y 0) (hd (y 1)) (ln (y 1))) : S4096x768.Idx → EReal) := by
  refine (dats m 0 c).arrAt_eq_of_covers 3 _ (by decide +kernel) fun t hf y => ?_
  blk_simp
  have e0 : (((win0_3.blk t).view.emb y 0 : Fin 4096) : ℕ) = (y 0 : Fin 4096) := by blk_simp [idx t]
  have e1 : (((win0_3.blk t).view.emb y 1 : Fin 768) : ℕ) = t.val * 128 + (y 1 : Fin 128) := by blk_simp [idx t]
  rw [after0_3]
  refine (congrArg _ (ix2_eta (n0 := 4096) (n1 := 128) y).symm).trans ?_
  exact point m c t (y 0) (y 1) _ _ e0 e1

open Cert.RopeCRIdeal.Read in
/-- The reference at an index. -/
theorem ref (x : (⟨4, ![1, 4096, 6, 128]⟩ : Shape).Idx → EReal) (i : Fin 4096) (z : Fin 768) : val_main_v118 (F := Ideal) x (ix2 i z) = dx x i (hd z) (ln z) := by
  refine Eq.trans ?_ (Eq.symm (axial (ang 0x42800000#32 (i / 64)) (ang 0x42800000#32 (i % 64)) (fun e => x (ix4 0 i (hd z) e)) ((z : ℕ) / 128 < 6) (hd z).isLt (z % 128) (Nat.mod_lt _ (by decide))))
  pointwise [val_main_v1, val_main_v2, val_main_v3, val_main_v4, val_main_v5, val_main_v6, val_main_v7, val_main_v8, val_main_cst_0,
    val_main_v9, val_main_v10, val_main_cst_1, val_main_v11, val_main_v12, val_main_v13, val_main_cst_2, val_main_v14,
    val_main_v15, val_main_cst_3, val_main_v16, val_main_v17, val_main_v18, val_main_v19, val_main_v20, val_main_v21,
    val_main_v22, val_main_v23, val_main_v24, val_main_cst_4, val_main_v25, val_main_v26, val_main_cst_5, val_main_v27,
    val_main_v28, val_main_v29, val_main_cst_6, val_main_v30, val_main_v31, val_main_cst_7, val_main_v32, val_main_v33,
    val_main_v34, val_main_v35, val_main_v36, val_main_v37, val_main_v38, val_main_v39, val_main_v41, val_main_v42,
    val_main_v43, val_main_v44, val_main_v47, val_main_v50, val_main_v54, val_main_v57, val_main_v63, val_main_v64,
    val_main_v65, val_main_v66, val_main_v69, val_main_v72, val_main_v76, val_main_v79, val_main_v85, val_main_v86,
    val_main_v87, val_main_v88, val_main_v89, val_main_v90, val_main_v91, val_main_v92, val_main_v93, val_main_v94,
    val_main_v95, val_main_v96, val_main_v97, val_main_v98, val_main_v99, val_main_v100, val_main_cst_8, val_main_v101,
    val_main_v102, val_main_v103, val_main_v104, val_main_v105, val_main_v106, val_main_v107, val_main_v108, val_main_v109,
    val_main_v110, val_main_v111, val_main_v112, val_main_v113, val_main_v114, val_main_v115, val_main_cst_9, val_main_v116,
    val_main_v117, val_main_v118]
  rfl

theorem eq : Cert.RopeCRIdeal.Read.val_main_v118 (F := Ideal) (a0 m c) = (dats m 0 c).arrAt 3 cfg0.N := by
  rw [final]
  funext y
  exact (congrArg _ (ix2_eta (n0 := 4096) (n1 := 768) y).symm).trans (ref (a0 m c) (y 0) (y 1))

/-- The reference runs; its argument stays. -/
theorem frame_ref : Cert.quiescent_RopeCRIdeal := fun m ρ _ =>
  (θ_run Cert.RopeCRIdeal.defs _ _).mono (fun r h => ⟨fun c => (h c).2, sem_eq_zero_of_no_sems (by decide) r.2⟩)
    (Cert.RopeCRIdeal.Value.run (F := Ideal) m ρ)

theorem value : Cert.algebraic_RopeCKIdeal_RopeCRIdeal := by
  pair_intro
  · run_from Cert.RopeCKIdeal.Gen.run_main m g
  · run_from Cert.RopeCRIdeal.Value.run m' g'
    rw [Cert.RopeCRIdeal.Read.val_main_v118_eq, hagree c]
    exact eq m c

end Cert.RopeCEq
end
-- ==== Proof.RopeCKClaim.lean ====
/- The rotation RopeCK, run backwards: what the kernel's result holds, the reference at an index, and the claims. -/
module

public import proofs.«01_k».proof.Defs
public import proofs.«01_k».proof.Proof.Ropes
public import proofs.«01_k».proof.Proof.Attn
public import proofs.«01_k».proof.Proof.Gen.RopeCKKIdeal.Value
public import proofs.«01_k».proof.Proof.Gen.RopeCKRIdeal.Read
public import proofs.«01_k».proof.Proof.Gen.RopeCKRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RopeCKEq

open Cert.RopeCKKIdeal Cert.RopeCKKIdeal.Gen Cert.Attn Cert.Ropes

variable (m : (ℓ : Loc nD τ sig) → Buf (Elt Ideal) ℓ) (c : Dev nD)

abbrev a0 : (⟨4, ![1, 4096, 2, 128]⟩ : Shape).Idx → EReal := m ((c : Thread nD τ).loc main_arg0)

/-- The head and the place of a column. -/
abbrev hd (z : Fin 256) : Fin 2 := ⟨z / 128, by have := z.isLt; omega⟩
abbrev ln (z : Fin 256) : Fin 128 := ⟨z % 128, Nat.mod_lt _ (by decide)⟩

/-- The rotated entry at a position, a head and a column. -/
abbrev ct (i : ℕ) : ℕ → EReal := cc (ang 0x42800000#32 (i / 64)) (ang 0x42800000#32 (i % 64))
abbrev st (i : ℕ) : ℕ → EReal := cs (ang 0x42800000#32 (i / 64)) (ang 0x42800000#32 (i % 64))
abbrev ot (d : Fin 128) : Fin 128 := sw d
def dx (x : (⟨4, ![1, 4096, 2, 128]⟩ : Shape).Idx → EReal) (i : Fin 4096) (h : Fin 2) (d : Fin 128) : EReal :=
  rk (x (ix4 0 i h d)) (x (ix4 0 i h (ot d))) (ct i d) (st i d)

/-- What one grid point computes. -/
theorem pay (x k s : S4096x128.Idx → EReal) (r : Fin 4096) (d : Fin 128) :
    out0_3 (F := Ideal) x k s (ix2 r d) = rk (x (ix2 r d)) (x (ix2 r (ot d))) (k (ix2 r d)) (s (ix2 r d)) := by
  frame_out
  pointwise [k0_pay1]
  exact congrArg (fun u => x (ix2 r d) * k (ix2 r d) + u * (0 - s (ix2 r d))) (pick (fun e => x (ix2 r e)) d _ _)

/-- The tables of cosines and sines, and the argument's heads side by side. -/
theorem vc (i : Fin 4096) (d : Fin 128) : (V m c main_v94 : S4096x128.Idx → EReal) (ix2 i d) = ct i d := by
  show (StableHlo.after hostOps0 (fun b => m (c, b)) (Proc.devRef .tc main_v94) : S4096x128.Idx → EReal) (ix2 i d) = _
  after_results_simp
  pointwise []
  try after_results_simp
  pointwise []
  rfl

theorem vs (i : Fin 4096) (d : Fin 128) : (V m c main_v101 : S4096x128.Idx → EReal) (ix2 i d) = st i d := by
  show (StableHlo.after hostOps0 (fun b => m (c, b)) (Proc.devRef .tc main_v101) : S4096x128.Idx → EReal) (ix2 i d) = _
  after_results_simp
  pointwise []
  try after_results_simp
  pointwise []
  rfl

theorem vx (i : Fin 4096) (z : Fin 256) : (V m c main_v103 : S4096x256.Idx → EReal) (ix2 i z) = a0 m c (ix4 0 i (hd z) (ln z)) := by
  show (StableHlo.after hostOps0 (fun b => m (c, b)) (Proc.devRef .tc main_v103) : S4096x256.Idx → EReal) (ix2 i z) = _
  after_results_simp
  pointwise []

/-- The block indices of a grid point. -/
theorem idx : ∀ t : Fin cfg0.N, win0_0.index t = ![0, t.val] ∧ win0_1.index t = ![0, 0] ∧ win0_2.index t = ![0, 0] ∧ win0_3.index t = ![0, t.val] :=
  (by decide +kernel : ∀ t : Fin grid0.N, _)

section
variable (t : Fin cfg0.N) (r : Fin 4096) (d : Fin 128)

theorem bx (h : Fin 2) (eh : (h : ℕ) = t.val) : (iblk m c 0 t : Vec Ideal S4096x128 .f32) (ix2 r d) = a0 m c (ix4 0 r h d) := by
  have hd' := d.isLt
  have hh := h.isLt
  have e0 : hd ⟨h * 128 + d, by omega⟩ = h := Fin.ext (by show ((h : ℕ) * 128 + d) / 128 = h; omega)
  have e1 : ln ⟨h * 128 + d, by omega⟩ = d := Fin.ext (by show ((h : ℕ) * 128 + d) % 128 = d; omega)
  have e := vx m c r ⟨h * 128 + d, by omega⟩
  rw [e0, e1] at e
  refine Eq.trans ?_ e
  obtain ⟨X, hV⟩ : ∃ X, V m c main_v103 = X := ⟨_, rfl⟩
  rw [hV]
  show (iblk m c 0 t : Vec Ideal S4096x128 .f32) (ix2 r d) = _
  blk_point [iblk, hV, idx t]

theorem bc' : (iblk m c 1 t : Vec Ideal S4096x128 .f32) (ix2 r d) = ct r d := by
  refine Eq.trans ?_ (vc m c r d)
  obtain ⟨X, hV⟩ : ∃ X, V m c main_v94 = X := ⟨_, rfl⟩
  rw [hV]
  show (iblk m c 1 t : Vec Ideal S4096x128 .f32) (ix2 r d) = _
  blk_point [iblk, hV, idx t]

theorem bs' : (iblk m c 2 t : Vec Ideal S4096x128 .f32) (ix2 r d) = st r d := by
  refine Eq.trans ?_ (vs m c r d)
  obtain ⟨X, hV⟩ : ∃ X, V m c main_v101 = X := ⟨_, rfl⟩
  rw [hV]
  show (iblk m c 2 t : Vec Ideal S4096x128 .f32) (ix2 r d) = _
  blk_point [iblk, hV, idx t]

theorem point (i : Fin 4096) (z : Fin 256) (ei : (i : ℕ) = r) (ez : (z : ℕ) = t.val * 128 + d) :
    out0_3 (F := Ideal) (iblk m c 0 t) (iblk m c 1 t) (iblk m c 2 t) (ix2 r d) = dx (a0 m c) i (hd z) (ln z) := by
  have hd' := d.isLt
  have eh : (hd z : ℕ) = t.val := by show (z : ℕ) / 128 = _; omega
  have el : ln z = d := Fin.ext (by show (z : ℕ) % 128 = _; omega)
  obtain rfl : i = r := Fin.ext ei
  refine (pay _ _ _ i d).trans ?_
  rw [bx m c t i d _ eh, bx m c t i _ _ eh, bc', bs', dx, el]

end

/-- The kernel's result. -/
theorem final : (dats m 0 c).arrAt 3 cfg0.N = ((fun y => dx (a0 m c) (y 0) (hd (y 1)) (ln (y 1))) : S4096x256.Idx → EReal) := by
  refine (dats m 0 c).arrAt_eq_of_covers 3 _ (by decide +kernel) fun t hf y => ?_
  blk_simp
  have e0 : (((win0_3.blk t).view.emb y 0 : Fin 4096) : ℕ) = (y 0 : Fin 4096) := by blk_simp [idx t]
  have e1 : (((win0_3.blk t).view.emb y 1 : Fin 256) : ℕ) = t.val * 128 + (y 1 : Fin 128) := by blk_simp [idx t]
  rw [after0_3]
  refine (congrArg _ (ix2_eta (n0 := 4096) (n1 := 128) y).symm).trans ?_
  exact point m c t (y 0) (y 1) _ _ e0 e1

open Cert.RopeCKRIdeal.Read in
/-- The reference at an index. -/
theorem ref (x : (⟨4, ![1, 4096, 2, 128]⟩ : Shape).Idx → EReal) (i : Fin 4096) (z : Fin 256) : val_main_v118 (F := Ideal) x (ix2 i z) = dx x i (hd z) (ln z) := by
  refine Eq.trans ?_ (Eq.symm (axial (ang 0x42800000#32 (i / 64)) (ang 0x42800000#32 (i % 64)) (fun e => x (ix4 0 i (hd z) e)) ((z : ℕ) / 128 < 2) (hd z).isLt (z % 128) (Nat.mod_lt _ (by decide))))
  pointwise [val_main_v1, val_main_v2, val_main_v3, val_main_v4, val_main_v5, val_main_v6, val_main_v7, val_main_v8, val_main_cst_0,
    val_main_v9, val_main_v10, val_main_cst_1, val_main_v11, val_main_v12, val_main_v13, val_main_cst_2, val_main_v14,
    val_main_v15, val_main_cst_3, val_main_v16, val_main_v17, val_main_v18, val_main_v19, val_main_v20, val_main_v21,
    val_main_v22, val_main_v23, val_main_v24, val_main_cst_4, val_main_v25, val_main_v26, val_main_cst_5, val_main_v27,
    val_main_v28, val_main_v29, val_main_cst_6, val_main_v30, val_main_v31, val_main_cst_7, val_main_v32, val_main_v33,
    val_main_v34, val_main_v35, val_main_v36, val_main_v37, val_main_v38, val_main_v39, val_main_v41, val_main_v42,
    val_main_v43, val_main_v44, val_main_v47, val_main_v50, val_main_v54, val_main_v57, val_main_v63, val_main_v64,
    val_main_v65, val_main_v66, val_main_v69, val_main_v72, val_main_v76, val_main_v79, val_main_v85, val_main_v86,
    val_main_v87, val_main_v88, val_main_v89, val_main_v90, val_main_v91, val_main_v92, val_main_v93, val_main_v94,
    val_main_v95, val_main_v96, val_main_v97, val_main_v98, val_main_v99, val_main_v100, val_main_cst_8, val_main_v101,
    val_main_v102, val_main_v103, val_main_v104, val_main_v105, val_main_v106, val_main_v107, val_main_v108, val_main_v109,
    val_main_v110, val_main_v111, val_main_v112, val_main_v113, val_main_v114, val_main_v115, val_main_cst_9, val_main_v116,
    val_main_v117, val_main_v118]
  rfl

theorem eq : Cert.RopeCKRIdeal.Read.val_main_v118 (F := Ideal) (a0 m c) = (dats m 0 c).arrAt 3 cfg0.N := by
  rw [final]
  funext y
  exact (congrArg _ (ix2_eta (n0 := 4096) (n1 := 256) y).symm).trans (ref (a0 m c) (y 0) (y 1))

/-- The reference runs; its argument stays. -/
theorem frame_ref : Cert.quiescent_RopeCKRIdeal := fun m ρ _ =>
  (θ_run Cert.RopeCKRIdeal.defs _ _).mono (fun r h => ⟨fun c => (h c).2, sem_eq_zero_of_no_sems (by decide) r.2⟩)
    (Cert.RopeCKRIdeal.Value.run (F := Ideal) m ρ)

theorem value : Cert.algebraic_RopeCKKIdeal_RopeCKRIdeal := by
  pair_intro
  · run_from Cert.RopeCKKIdeal.Gen.run_main m g
  · run_from Cert.RopeCKRIdeal.Value.run m' g'
    rw [Cert.RopeCKRIdeal.Read.val_main_v118_eq, hagree c]
    exact eq m c

end Cert.RopeCKEq
end
-- ==== Proof.LossValue.lean ====
/- The loss and its gradient: what one grid point computes, and what its results hold. -/
module

public import proofs.«01_k».proof.Proof.Norms
public import proofs.«01_k».proof.Proof.Attn
public import proofs.«01_k».proof.Proof.Gen.LossKIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossEq

open Cert.LossKIdeal Cert.LossKIdeal.Gen Cert.Reals Cert.Norms Cert.Attn

/-- The row's length, and the rows of the arguments. -/
abbrev N : EReal := Ideal.ofBits .f32 0x45000000#32
abbrev E : EReal := Ideal.ofBits .f32 0x358637BD#32
abbrev rw (X : S4096x2048.Idx → EReal) (h : Fin 1) (i : Fin 4096) : Fin 2048 → EReal := fun d => X (ix2 i d)
abbrev gr (G : S2048.Idx → EReal) : Fin 2048 → EReal := fun d => G (ix1 d)
abbrev br (X : S128x2048.Idx → EReal) (r : Fin 128) : Fin 2048 → EReal := fun d => X (ix2 r d)
abbrev b1 (X : S1x2048.Idx → EReal) : Fin 2048 → EReal := fun d => X (ix2 0 d)

/-- The error of a row, the cotangent of its norm, and the row's mean square error. -/
def er (x g t : Fin 2048 → EReal) (d : Fin 2048) : EReal := nx N E x d * g d - t d
def yk (x g t : Fin 2048 → EReal) (d : Fin 2048) : EReal := Ideal.div (er x g t d) N
def sq (x g t : Fin 2048 → EReal) : EReal := Ideal.div (∑ d, er x g t d * er x g t d) N
abbrev H : EReal := Ideal.ofBits .f32 0x3F000000#32

variable (m : (ℓ : Loc nD τ sig) → Buf (Elt Ideal) ℓ) (c : Dev nD)

abbrev a0 : S4096x2048.Idx → EReal := m ((c : Thread nD τ).loc main_arg0)
abbrev a1 : S2048.Idx → EReal := m ((c : Thread nD τ).loc main_arg1)
abbrev a2 : S4096x2048.Idx → EReal := m ((c : Thread nD τ).loc main_arg2)

/-- The block indices of a grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![0, 0]
    ∧ win0_6.index t = ![t.val, 0] :=
  (by decide +kernel : ∀ t : Fin grid0.N, _)

/-- The gain's row. -/
theorem vg (d : Fin 2048) : (V m c main_v0 : S1x2048.Idx → EReal) (ix2 0 d) = a1 m c (ix1 d) := by
  show (StableHlo.after hostOps0 (fun b => m (c, b)) (Proc.devRef .tc main_v0) : S1x2048.Idx → EReal) (ix2 0 d) = _
  after_results_simp
  pointwise []

section
variable (t : Fin cfg0.N) (r : Fin 128) (h : Fin 1) (i : Fin 4096) (d : Fin 2048)
  (eh : (h : ℕ) = 0) (ei : (i : ℕ) = t.val * 128 + r)
include eh ei

/-- The blocks of a grid point hold rows of the arguments. -/
theorem bx : br (iblk m c 0 t) r = rw (a0 m c) h i := by
  funext d
  blk_point [br, iblk, V, idx t]

theorem by_ : br (iblk m c 2 t) r = rw (a2 m c) h i := by
  funext d
  blk_point [br, iblk, V, idx t]

end

theorem bg (t : Fin cfg0.N) : b1 (iblk m c 1 t) = gr (a1 m c) := by
  funext d
  refine Eq.trans ?_ (vg m c d)
  show (iblk m c 1 t : Vec Ideal S1x2048 .f32) (ix2 0 d) = _
  blk_point [iblk, idx t]

/-- The three blocks of a grid point, one row. -/
abbrev kx (t : Fin cfg0.N) (r : Fin 128) : Fin 2048 → EReal := br (iblk m c 0 t) r
abbrev ky (t : Fin cfg0.N) (r : Fin 128) : Fin 2048 → EReal := yk (kx m c t r) (b1 (iblk m c 1 t)) (br (iblk m c 2 t) r)

/-- What one grid point adds to the gain's gradient and to the loss. -/
def part (t : Fin cfg0.N) (d : Fin 2048) : EReal := ∑ r : Fin 128, ky m c t r d * nx N E (kx m c t r) d
def lpart (t : Fin cfg0.N) : EReal := H * ∑ r : Fin 128, sq (kx m c t r) (b1 (iblk m c 1 t)) (br (iblk m c 2 t) r)

/-- The gain's gradient after a grid point: the part of the first point, the sum with the part after that. -/
theorem stepA (t : Fin cfg0.N) (h : t.val % 32 = 0) (y : S1x2048.Idx) : (outsAt0 m c t.val t.isLt).2.1 y = 0 + part m c t (y 1) := by
  rw [outsAt0_A m c t h]
  frame_out
  pointwise [k0_pay1, k0_pay3, k0_pay5, k0_pay6, k0_pay7, k0_pay8, k0_pay9]
  rfl

theorem stepB (t : Fin cfg0.N) (h : ¬ t.val % 32 = 0) (y : S1x2048.Idx) :
    (outsAt0 m c t.val t.isLt).2.1 y = (outsAt0 m c (t.val - 1) (Nat.lt_of_le_of_lt (Nat.sub_le _ _) t.isLt)).2.1 y + part m c t (y 1) := by
  rw [outsAt0_B m c t h]
  frame_out
  pointwise [k0_pay1, k0_pay3, k0_pay5, k0_pay6, k0_pay7, k0_pay8, k0_pay9]
  rfl

/-- The loss after a grid point, the same in every lane. -/
theorem lossA (t : Fin cfg0.N) (h : t.val % 32 = 0) (y : S1x128.Idx) : (outsAt0 m c t.val t.isLt).2.2.1 y = 0 + lpart m c t := by
  rw [outsAt0_A m c t h]
  frame_out
  pointwise [k0_pay2, k0_pay4, k0_pay5, k0_pay6, k0_pay7, k0_pay8]
  rfl

theorem lossB (t : Fin cfg0.N) (h : ¬ t.val % 32 = 0) (y : S1x128.Idx) :
    (outsAt0 m c t.val t.isLt).2.2.1 y = (outsAt0 m c (t.val - 1) (Nat.lt_of_le_of_lt (Nat.sub_le _ _) t.isLt)).2.2.1 y + lpart m c t := by
  rw [outsAt0_B m c t h]
  frame_out
  pointwise [k0_pay2, k0_pay4, k0_pay5, k0_pay6, k0_pay7, k0_pay8]
  rfl

/-- The row's gradient a grid point leaves, in both precisions. -/
theorem stepD (t : Fin cfg0.N) (r : Fin 128) (d : Fin 2048) :
    (outsAt0 m c t.val t.isLt).1 (ix2 r d) = nd N E (kx m c t r) (b1 (iblk m c 1 t)) (ky m c t r) d := by
  by_cases h : t.val % 32 = 0
  · rw [outsAt0_A m c t h]
    frame_out
    pointwise [k0_pay11, k0_pay10, k0_pay9, k0_pay8, k0_pay7, k0_pay6, k0_pay5]
    rfl
  · rw [outsAt0_B m c t h]
    frame_out
    pointwise [k0_pay11, k0_pay10, k0_pay9, k0_pay8, k0_pay7, k0_pay6, k0_pay5]
    rfl

theorem stepF (t : Fin cfg0.N) (r : Fin 128) (d : Fin 2048) :
    (outsAt0 m c t.val t.isLt).2.2.2 (ix2 r d) = nd N E (kx m c t r) (b1 (iblk m c 1 t)) (ky m c t r) d := by
  by_cases h : t.val % 32 = 0
  · rw [outsAt0_A m c t h]
    frame_out
    pointwise [k0_pay12, k0_pay10, k0_pay9, k0_pay8, k0_pay7, k0_pay6, k0_pay5]
    rfl
  · rw [outsAt0_B m c t h]
    frame_out
    pointwise [k0_pay12, k0_pay10, k0_pay9, k0_pay8, k0_pay7, k0_pay6, k0_pay5]
    rfl

/-- The same of the arguments' rows: the cotangent, the row's gradient, the gain's gradient, the loss. -/
abbrev cy (i : Fin 4096) : Fin 2048 → EReal := yk (rw (a0 m c) 0 i) (gr (a1 m c)) (rw (a2 m c) 0 i)
def dx (i : Fin 4096) (z : Fin 2048) : EReal := nd N E (rw (a0 m c) 0 i) (gr (a1 m c)) (cy m c i) z
def dg (d : Fin 2048) : EReal := ∑ h : Fin 1, ∑ i : Fin 4096, cy m c i d * nx N E (rw (a0 m c) h i) d
def ls (i : Fin 4096) : EReal := sq (rw (a0 m c) 0 i) (gr (a1 m c)) (rw (a2 m c) 0 i)

theorem dx_point (t : Fin cfg0.N) (r : Fin 128) (d : Fin 2048) (i : Fin 4096) (z : Fin 2048) (ei : (i : ℕ) = t.val * 128 + r)
    (ez : (z : ℕ) = d) : nd N E (kx m c t r) (b1 (iblk m c 1 t)) (ky m c t r) d = dx m c i z := by
  obtain rfl : z = d := Fin.ext ez
  rw [dx, cy, ky, kx, bx m c t r 0 _ rfl ei, by_ m c t r 0 _ rfl ei, bg]

theorem final_dx : (dats m 0 c).arrAt 3 cfg0.N = ((fun y => dx m c (y 0) (y 1)) : S4096x2048.Idx → EReal) := by
  refine (dats m 0 c).arrAt_eq_of_covers 3 _ (by decide +kernel) fun t hf y => ?_
  blk_simp
  have e0 : (((win0_3.blk t).view.emb y 0 : Fin 4096) : ℕ) = t.val * 128 + (y 0 : Fin 128) := by blk_simp [idx t]
  have e1 : (((win0_3.blk t).view.emb y 1 : Fin 2048) : ℕ) = (y 1 : Fin 2048) := by blk_simp [idx t]
  rw [after0_3]
  refine (congrArg _ (ix2_eta (n0 := 128) (n1 := 2048) y).symm).trans ((stepD m c t (y 0) (y 1)).trans ?_)
  exact dx_point m c t (y 0) (y 1) _ _ e0 e1

theorem final_bf : (dats m 0 c).arrAt 6 cfg0.N = ((fun y => dx m c (y 0) (y 1)) : S4096x2048.Idx → EReal) := by
  refine (dats m 0 c).arrAt_eq_of_covers 6 _ (by decide +kernel) fun t hf y => ?_
  blk_simp
  have e0 : (((win0_6.blk t).view.emb y 0 : Fin 4096) : ℕ) = t.val * 128 + (y 0 : Fin 128) := by blk_simp [idx t]
  have e1 : (((win0_6.blk t).view.emb y 1 : Fin 2048) : ℕ) = (y 1 : Fin 2048) := by blk_simp [idx t]
  rw [after0_6]
  refine (congrArg _ (ix2_eta (n0 := 128) (n1 := 2048) y).symm).trans ((stepF m c t (y 0) (y 1)).trans ?_)
  exact dx_point m c t (y 0) (y 1) _ _ e0 e1

/-- The points' parts add up to the sum over all rows. -/
theorem parts (p : Fin 32 → Fin cfg0.N) (hp : ∀ s, (p s).val = s) (d : Fin 2048) : ∑ s, part m c (p s) d = dg m c d := by
  refine sum_rows 32 128 rfl rfl _ (fun h i => cy m c i d * nx N E (rw (a0 m c) h i) d) fun s h i eh ei => ?_
  have hs := hp s
  refine Finset.sum_congr rfl fun r _ => ?_
  have er := ei r
  have eh' : (h : ℕ) = 0 := by omega
  have ei' : (i r : ℕ) = (p s).val * 128 + r := by omega
  obtain rfl : h = 0 := Fin.ext eh'
  rw [ky, kx, bx m c (p s) r 0 _ rfl ei', by_ m c (p s) r 0 _ rfl ei', bg]

theorem final_dg : (dats m 0 c).arrAt 4 cfg0.N = ((fun y => dg m c (y 1)) : S1x2048.Idx → EReal) := by
  refine (dats m 0 c).arrAt_eq_of_covers 4 _ (by decide +kernel) fun t hf y => ?_
  blk_simp
  have hf' := (flush0_4 t).mp hf
  have e1 : ((win0_4.blk t).view.emb y 1 : Fin 2048) = (y 1 : Fin 2048) := Fin.ext (by blk_simp [idx t])
  rw [after0_4, Pipeline.eq_sum_fin_of_reset_step_apply_of_flush (fun n h => (outsAt0 m c n h).2.1) 32 (fun _ => 0) (fun t y => part m c t (y 1))
    (stepA m c) (stepB m c) t hf' _, zero_add]
  refine (parts m c _ (fun s => ?_) _).trans (congrArg (dg m c) e1.symm)
  have hN : t.val < 32 := t.isLt
  show 32 * (t.val / 32) + (s : ℕ) = s
  omega

theorem half_pos : H = ((1 / 2 : ℝ) : EReal) := by
  simp [H, Ideal.ofBits, Ideal.ieee, -EReal.coe_mul]
  norm_num

/-- One half of a sum of real numbers. -/
theorem half_sum {n : ℕ} {f : Fin n → EReal} (hf : ∀ i, IsReal (f i)) : H * ∑ i, f i = ∑ i, H * f i := by
  obtain ⟨f, rfl⟩ := choose_real hf
  simp only [half_pos, coe_sum, ← EReal.coe_mul, Finset.mul_sum]

theorem lparts (hl : ∀ i, IsReal (ls m c i)) (p : Fin 32 → Fin cfg0.N) (hp : ∀ s, (p s).val = s) : ∑ s, lpart m c (p s) = H * ∑ i, ls m c i := by
  rw [half_sum hl]
  refine (sum_rows (a := 1) 32 128 rfl rfl _ (fun h i => H * ls m c i) fun s h i eh ei => ?_).trans (Fin.sum_univ_one _)
  have hs := hp s
  rw [← half_sum fun r => hl (i r)]
  refine congrArg (H * ·) (Finset.sum_congr rfl fun r _ => ?_)
  have er := ei r
  have ei' : (i r : ℕ) = (p s).val * 128 + r := by omega
  rw [ls, kx, bx m c (p s) r 0 _ rfl ei', by_ m c (p s) r 0 _ rfl ei', bg]

theorem final_loss (hl : ∀ i, IsReal (ls m c i)) : (dats m 0 c).arrAt 5 cfg0.N = ((fun y => H * ∑ i, ls m c i) : S1x128.Idx → EReal) := by
  refine (dats m 0 c).arrAt_eq_of_covers 5 _ (by decide +kernel) fun t hf y => ?_
  blk_simp
  have hf' := (flush0_5 t).mp hf
  rw [after0_5, Pipeline.eq_sum_fin_of_reset_step_apply_of_flush (fun n h => (outsAt0 m c n h).2.2.1) 32 (fun _ => 0) (fun t y => lpart m c t)
    (lossA m c) (lossB m c) t hf' _, zero_add]
  refine lparts m c hl _ (fun s => ?_)
  have hN : t.val < 32 := t.isLt
  show 32 * (t.val / 32) + (s : ℕ) = s
  omega

end Cert.LossEq
end
-- ==== Proof.LossClaim.lean ====
/- The loss and its gradient: the reference at an index, and the claims. -/
module

public import proofs.«01_k».proof.Defs
public import proofs.«01_k».proof.Proof.LossValue
public import proofs.«01_k».proof.Proof.Gen.LossKIdeal.Value
public import proofs.«01_k».proof.Proof.Gen.LossRIdeal.Read
public import proofs.«01_k».proof.Proof.Gen.LossRIdeal.Run
public import proofs.«01_k».proof.Proof.Gen.Pre_loss_finite

@[expose] public section

set_option maxRecDepth 16384

noncomputable section

namespace Cert.LossEq

open Idealize.ShloMosaic Idealize.ShloMosaic.TcCoe Idealize.SL.Sem
open Cert.LossKIdeal Cert.LossKIdeal.Gen Cert.Reals Cert.Norms Cert.Attn

/-- The length is a positive real number. -/
theorem len : N = ((2048 : ℝ) : EReal) := by
  simp [N, Ideal.ofBits, Ideal.ieee, -EReal.coe_mul]
  norm_num

/-- The reference's cotangent of the norm, its factor two of the square still there, is the kernel's. -/
def yr (x g t : Fin 2048 → EReal) (d : Fin 2048) : EReal :=
  Ideal.div H N * (Ideal.ofBits .f32 0x40000000#32 * er x g t d)

section
variable {x g t : Fin 2048 → EReal} (hx : ∀ d, IsReal (x d)) (hg : ∀ d, IsReal (g d)) (ht : ∀ d, IsReal (t d))
include hx hg ht

theorem er_real (d : Fin 2048) : IsReal (er x g t d) := by
  obtain ⟨e, he, hE⟩ := eps
  obtain ⟨x, rfl⟩ := choose_real hx
  obtain ⟨g, rfl⟩ := choose_real hg
  obtain ⟨t, rfl⟩ := choose_real ht
  rw [er, len, show E = _ from hE, nx_real (by norm_num) he, ← EReal.coe_mul, ← EReal.coe_sub]
  exact ⟨_, rfl⟩

theorem yk_real (d : Fin 2048) : IsReal (yk x g t d) := by
  obtain ⟨e, he⟩ := er_real hx hg ht d
  rw [yk, he, len, div_real _ (by norm_num)]
  exact ⟨_, rfl⟩

theorem yr_eq (d : Fin 2048) : yr x g t d = yk x g t d := by
  obtain ⟨e, he⟩ := er_real hx hg ht d
  have h2 : Ideal.ofBits .f32 0x40000000#32 = ((2 : ℝ) : EReal) := by
    simp [Ideal.ofBits, Ideal.ieee, -EReal.coe_mul]
    norm_num
  rw [yr, yk, he, len, half_pos, h2, ← EReal.coe_mul, div_real _ (by norm_num), div_real _ (by norm_num), ← EReal.coe_mul]
  congr 1
  ring

theorem sq_real : IsReal (sq x g t) := by
  obtain ⟨e, he⟩ := choose_real (er_real hx hg ht)
  have h : ∀ d, er x g t d = (e d : EReal) := fun d => congrFun he d
  simp only [sq, h, ← EReal.coe_mul, coe_sum]
  rw [len, div_real _ (by norm_num)]
  exact ⟨_, rfl⟩
end

section
open Cert.LossRIdeal.Read
variable (x0 x2 : S4096x2048.Idx → EReal) (x1 : S2048.Idx → EReal) (i : Fin 4096) (z : Fin 2048)

/-- The reference's gradient of a row. -/
theorem ref_dx : val_main_v50 (F := Ideal) x0 x1 x2 (ix2 i z)
    = rd N E (rw x0 0 i) (gr x1) (yr (rw x0 0 i) (gr x1) (rw x2 0 i)) z (Ideal.ofBits .f32 0xBF000000#32) := by
  pointwise [val_main_v0, val_main_cst, val_main_v1, val_main_v2, val_main_cst_0, val_main_v3, val_main_v4, val_main_cst_1, val_main_v5,
    val_main_v6, val_main_v7, val_main_v8, val_main_cst_2, val_main_v9, val_main_v10, val_main_v11, val_main_v12, val_main_v13,
    val_main_v14, val_main_v15, val_main_v16, val_main_cst_3, val_main_v18, val_main_v19, val_main_cst_8, val_main_cst_9,
    val_main_v25, val_main_v26, val_main_cst_10, val_main_v27, val_main_v28, val_main_v29, val_main_v30, val_main_v34,
    val_main_v35, val_main_v37, val_main_cst_13, val_main_v38, val_main_v39, val_main_v40, val_main_v41, val_main_v42,
    val_main_cst_14, val_main_v43, val_main_v44, val_main_cst_15, val_main_v45, val_main_v46, val_main_v47, val_main_v48,
    val_main_v49, val_main_v50]
  simp only [Fin.sum_univ_one]
  rfl

/-- The reference's gradient of the gain. -/
theorem ref_dg (d : Fin 2048) : val_main_v51 (F := Ideal) x0 x1 x2 (ix2 0 d)
    = ∑ h : Fin 1, ∑ i : Fin 4096, nx N E (rw x0 h i) d * yr (rw x0 h i) (gr x1) (rw x2 h i) d := by
  pointwise [val_main_v0, val_main_cst, val_main_v1, val_main_v2, val_main_cst_0, val_main_v3, val_main_v4, val_main_cst_1, val_main_v5,
    val_main_v6, val_main_v7, val_main_v11, val_main_v12, val_main_v13, val_main_v14, val_main_v15, val_main_v16,
    val_main_cst_3, val_main_v18, val_main_v19, val_main_cst_8, val_main_cst_9, val_main_v25, val_main_v26, val_main_cst_10,
    val_main_v27, val_main_v28, val_main_v29, val_main_v30, val_main_v31, val_main_cst_11, val_main_v32, val_main_v33,
    val_main_cst_12, val_main_v36, val_main_v51]
  simp only [Fin.sum_univ_one]
  rfl

/-- The reference's loss. -/
theorem ref_loss (y : S1x128.Idx) : val_main_v52 (F := Ideal) x0 x1 x2 y = H * ∑ i, sq (rw x0 0 i) (gr x1) (rw x2 0 i) := by
  pointwise [val_main_v0, val_main_cst, val_main_v1, val_main_v2, val_main_cst_0, val_main_v3, val_main_v4, val_main_cst_1, val_main_v5,
    val_main_v6, val_main_v7, val_main_v11, val_main_v12, val_main_v13, val_main_v14, val_main_v15, val_main_v16, val_main_v17,
    val_main_cst_4, val_main_v20, val_main_cst_5, val_main_v21, val_main_v22, val_main_cst_6, val_main_v23, val_main_cst_7,
    val_main_v24, val_main_v52]
  rfl

end

section
variable (m : (ℓ : Loc nD τ sig) → Buf (Elt Ideal) ℓ) (c : Dev nD)
  (h0 : ∀ i, IsReal (a0 m c i)) (h1 : ∀ i, IsReal (a1 m c i)) (h2 : ∀ i, IsReal (a2 m c i))
include h0 h1 h2

theorem cy_eq (i : Fin 4096) : yr (rw (a0 m c) 0 i) (gr (a1 m c)) (rw (a2 m c) 0 i) = cy m c i :=
  funext fun d => yr_eq (fun _ => h0 _) (fun _ => h1 _) (fun _ => h2 _) d

theorem dx_eq (i : Fin 4096) (z : Fin 2048) : Cert.LossRIdeal.Read.val_main_v50 (F := Ideal) (a0 m c) (a1 m c) (a2 m c) (ix2 i z) = dx m c i z := by
  refine (ref_dx (a0 m c) (a2 m c) (a1 m c) i z).trans ?_
  rw [cy_eq m c h0 h1 h2]
  exact nd_eq len (by norm_num) (fun t => h0 _) (fun t => h1 _) (fun t => yk_real (fun _ => h0 _) (fun _ => h1 _) (fun _ => h2 _) t) z

theorem eq_dx : Cert.LossRIdeal.Read.val_main_v50 (F := Ideal) (a0 m c) (a1 m c) (a2 m c) = (dats m 0 c).arrAt 3 cfg0.N := by
  rw [final_dx]
  funext y
  exact (congrArg _ (ix2_eta (n0 := 4096) (n1 := 2048) y).symm).trans (dx_eq m c h0 h1 h2 (y 0) (y 1))

theorem eq_bf : Cert.LossRIdeal.Read.val_main_v53 (F := Ideal) (a0 m c) (a1 m c) (a2 m c) = (dats m 0 c).arrAt 6 cfg0.N := by
  rw [final_bf]
  funext y
  refine (congrArg _ (ix2_eta (n0 := 4096) (n1 := 2048) y).symm).trans (Eq.trans ?_ (dx_eq m c h0 h1 h2 (y 0) (y 1)))
  rw [Cert.LossRIdeal.Read.val_main_v53_apply]
  rfl

theorem eq_dg : Cert.LossRIdeal.Read.val_main_v51 (F := Ideal) (a0 m c) (a1 m c) (a2 m c) = (dats m 0 c).arrAt 4 cfg0.N := by
  rw [final_dg]
  funext y
  have hy : y = ix2 0 (y 1) := by
    funext a
    fin_cases a
    · exact Subsingleton.elim (α := Fin 1) _ _
    · rfl
  refine (congrArg _ hy).trans <| (ref_dg (a0 m c) (a2 m c) (a1 m c) (y 1)).trans (Finset.sum_congr rfl fun h _ => Finset.sum_congr rfl fun i _ => ?_)
  exact (congrArg _ (yr_eq (fun _ => h0 _) (fun _ => h1 _) (fun _ => h2 _) _)).trans (mul_comm _ _)

theorem eq_loss : Cert.LossRIdeal.Read.val_main_v52 (F := Ideal) (a0 m c) (a1 m c) (a2 m c) = (dats m 0 c).arrAt 5 cfg0.N := by
  rw [final_loss m c fun i => sq_real (fun _ => h0 _) (fun _ => h1 _) (fun _ => h2 _)]
  funext y
  exact ref_loss _ _ _ y

end

/-- The precondition says that the three arrays hold real numbers. -/
theorem reals (x0 : FVec Ideal ⟨2, ![4096, 2048]⟩ .f32) (x1 : FVec Ideal ⟨1, ![2048]⟩ .f32) (x2 : FVec Ideal ⟨2, ![4096, 2048]⟩ .f32)
    (h : Cert.Pre_loss_finite.fn (F := Ideal) x0 x1 x2 = fun _ => 1#1) : (∀ i, IsReal (x0 i)) ∧ (∀ i, IsReal (x1 i)) ∧ ∀ i, IsReal (x2 i) := by
  have e := congrFun h (fun a => a.elim0)
  unfold Cert.Pre_loss_finite.fn at e
  obtain ⟨e, e2⟩ := IntOp.andi_eq_one.1 e
  obtain ⟨e0, e1⟩ := IntOp.andi_eq_one.1 e
  exact ⟨isReal_of_all _ _ _ _ _ _ e0, isReal_of_all _ _ _ _ _ _ e1, isReal_of_all _ _ _ _ _ _ e2⟩

/-- The reference runs; its arguments stay. -/
theorem frame_ref : Cert.quiescent_LossRIdeal := fun m ρ _ =>
  (θ_run Cert.LossRIdeal.defs _ _).mono (fun r h => ⟨fun c => (h c).2.2.2.2, sem_eq_zero_of_no_sems (by decide) r.2⟩)
    (Cert.LossRIdeal.Value.run (F := Ideal) m ρ)

theorem value : Cert.algebraic_LossKIdeal_LossRIdeal_pre_loss_finite := by
  pair_intro
  · run_from Cert.LossKIdeal.Gen.run_main m g
  · run_from Cert.LossRIdeal.Value.run m' g'
    all_goals obtain ⟨h0, h1, h2⟩ := reals _ _ _ (hpre c)
    all_goals obtain ⟨q0, q1, q2⟩ := hagree c
    · rw [Cert.LossRIdeal.Read.val_main_v50_eq, q0, q1, q2]
      exact eq_dx m c h0 h1 h2
    · exact (Cert.LossRIdeal.Read.val_main_v51_eq _ _ _).trans (eq_dg m c h0 h1 h2)
    · exact (Cert.LossRIdeal.Read.val_main_v52_eq _ _ _).trans (eq_loss m c h0 h1 h2)
    · rw [Cert.LossRIdeal.Read.val_main_v53_eq, q0, q1, q2]
      exact eq_bf m c h0 h1 h2

end Cert.LossEq

end
-- ==== Proof.Flf.lean ====
/- One query row of softmax attention, run forwards: the logarithmic sum that the kernels save and the one that the reference
computes are the same real number. -/
module

public import proofs.«01_k».proof.Proof.Attn

@[expose] public section

noncomputable section

namespace Cert.Attn

open Idealize.ShloMosaic Cert.Reals

variable {n d : ℕ} [NeZero n] (s : ℝ) (q : Fin d → ℝ) (K : Fin n → Fin d → ℝ)

/-- The kernel's logarithmic sum of a real row. -/
theorem lse_real {c l : ℝ} (hc : c = s * l) (hl : l = (Real.log 2)⁻¹) :
    lse (c : EReal) (l : EReal) (fun x => (q x : EReal)) (fun j x => (K j x : EReal))
      = ((Real.log (∑ j, Real.exp (scores s q K j)) / Real.log 2 : ℝ) : EReal) := by
  obtain ⟨M, hM⟩ := mx_real (n := n) s q K hc hl
  have hp := exp_pos_sum fun j => scores s q K j - Real.log 2 * M
  have h0 := exp_pos_sum (scores s q K)
  have h2 : Real.log 2 ≠ 0 := (Real.log_pos (by norm_num)).ne'
  simp only [lse, hM, tot, wt_real s q K hc hl hM, coe_sum, Ideal.log_coe, if_neg (not_le.mpr hp)]
  rw [← EReal.coe_mul, ← EReal.coe_add]
  congr 1
  simp only [Real.exp_sub, ← Finset.sum_div]
  rw [Real.log_div h0.ne' (Real.exp_pos _).ne', Real.log_exp, hl]
  field_simp
  ring

/-- The reference's logarithmic sum of a real row. -/
theorem rlse_real (x : Fin n → ℝ) :
    Ideal.div (Ideal.log (∑ j, Ideal.exp (x j : EReal))) (Ideal.log (Ideal.ofBits .f32 0x40000000#32))
      = ((Real.log (∑ j, Real.exp (x j)) / Real.log 2 : ℝ) : EReal) := by
  have h : Ideal.ofBits .f32 0x40000000#32 = ((2 : ℝ) : EReal) := by
    simp [Ideal.ofBits, Ideal.ieee, -EReal.coe_mul]
    norm_num
  have h2 : Real.log 2 ≠ 0 := (Real.log_pos (by norm_num)).ne'
  simp only [Ideal.exp_coe, coe_sum, h, Ideal.log_coe, if_neg (not_le.mpr (exp_pos_sum x)), if_neg (show ¬ (2 : ℝ) ≤ 0 by norm_num)]
  exact div_real _ h2

end Cert.Attn
end
-- ==== Proof.FlfCRef.lean ====
/- Attention C's reference, run forwards, at an index: the softmax's product with the values, and the logarithmic sum. -/
module

public import proofs.«01_k».proof.Proof.FlaCRef
public import proofs.«01_k».proof.Proof.Gen.FlfCRIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FlfCEq.Ref

open Cert.FlfCRIdeal Cert.FlfCRIdeal.Read Cert.Reals Cert.Attn
open Cert.FlaCEq (hd ln)
open Cert.FlaCEq.Ref (X S hq hr)

/-- The quotient of the logarithms of a row's sum and of two. -/
def rlse (x : Fin 4096 → EReal) : EReal := Ideal.div (Ideal.log (∑ j, Ideal.exp (x j))) (Ideal.log (Ideal.ofBits .f32 0x40000000#32))

variable (x0 : FVec Ideal S1x4096x2x3x128 .f32) (x1 x2 : FVec Ideal S1x4096x2x128 .f32)
variable (b : Fin 2) (g : Fin 3) (i : Fin 4096)

theorem v5 (j : Fin 4096) : val_main_v5 (F := Ideal) x0 x1 (ix5 0 b g i j) = X x0 x1 b g i j := by
  simp only [val_main_v5_apply, val_main_v4_apply, val_main_v3_apply, val_main_v2_apply, val_main_v1_apply, val_main_v0_apply,
    val_main_cst_apply, val_main_cst_0_apply]
  pointwise []
  exact congrArg (· * S) (Finset.sum_congr rfl fun d _ => congrArg₂ (· * ·) (congrArg x1 (ix4_of _ rfl rfl rfl rfl))
    (congrArg x0 (ix5_of _ rfl rfl rfl rfl rfl)))

theorem v8 : val_main_v8 (F := Ideal) x0 x1 (ix4 0 b g i) = rmx (X x0 x1 b g i) := by
  have h : val_main_v7 (F := Ideal) (ix4 0 b g i) = Ideal.ofBits .f32 0xFF800000#32 := by
    rw [val_main_v7_apply]
    pointwise [val_main_cst_2]
  have h6 : val_main_v6 (F := Ideal) x0 x1 (ix4 0 b g i)
      = Finset.fold max (Ideal.ofBits .f32 0xFF800000#32) (fun j => val_main_v5 (F := Ideal) x0 x1 (ix5 0 b g i j)) Finset.univ := by
    pointwise [val_main_v6, val_main_cst_1]
  rw [val_main_v8_apply, h, h6]
  simp only [v5]
  unfold rmx
  generalize Finset.fold (max : EReal → EReal → EReal) _ _ _ = z
  exact congrFun (congrFun Ideal.maximumf_eq_max _) _

theorem v12 (j : Fin 4096) : val_main_v12 (F := Ideal) x0 x1 (ix5 0 b g i j) = rw' (X x0 x1 b g i) j := by
  simp only [val_main_v12_apply, val_main_v11_apply, val_main_v10_apply, val_main_v9_apply, v5]
  rw [show idx_main_v9 (idx_main_v10 (ix5 0 b g i j)) = ix4 0 b g i from ix4_of _ rfl rfl rfl rfl, v8]
  rfl

theorem v13 : val_main_v13 (F := Ideal) x0 x1 (ix4 0 b g i) = ∑ j, rw' (X x0 x1 b g i) j := by
  simp only [val_main_v13_apply, val_main_cst_3_apply]
  pointwise []
  exact Finset.sum_congr rfl fun j _ => (congrArg (val_main_v12 (F := Ideal) x0 x1) (ix5_of _ rfl rfl rfl rfl rfl)).trans (v12 x0 x1 b g i j)

theorem v16 (j : Fin 4096) : val_main_v16 (F := Ideal) x0 x1 (ix5 0 b g i j) = rp (X x0 x1 b g i) j := by
  rw [val_main_v16_apply, val_main_v15_apply, val_main_v14_apply, v12,
    show idx_main_v14 (idx_main_v15 (ix5 0 b g i j)) = ix4 0 b g i from ix4_of _ rfl rfl rfl rfl, v13]
  rfl

/-- The output. -/
theorem v18 (d : Fin 128) : val_main_v18 (F := Ideal) x0 x1 x2 (ix5 0 i b g d) = ∑ j, x2 (ix4 0 j b d) * rp (X x0 x1 b g i) j := by
  simp only [val_main_v18_apply, val_main_v17_apply]
  exact Finset.sum_congr rfl fun j _ => congrArg₂ (· * ·) (congrArg x2 (ix4_of _ rfl rfl rfl rfl))
    ((congrArg (val_main_v16 (F := Ideal) x0 x1) (ix5_of _ rfl rfl rfl rfl rfl)).trans (v16 x0 x1 b g i j))

/-- The logarithmic sum. -/
theorem v29 : val_main_v29 (F := Ideal) x0 x1 (ix4 0 b g i) = rlse (X x0 x1 b g i) := by
  have h24 (j : Fin 4096) : val_main_v24 (F := Ideal) x0 x1 (ix5 0 b g i j) = Ideal.exp (X x0 x1 b g i j) := by
    rw [val_main_v24_apply, show val_main_v23 (F := Ideal) x0 x1 = val_main_v5 (F := Ideal) x0 x1 from rfl, v5]
    rfl
  have h25 : val_main_v25 (F := Ideal) x0 x1 (ix4 0 b g i) = ∑ j, Ideal.exp (X x0 x1 b g i j) := by
    simp only [val_main_v25_apply, val_main_cst_4_apply]
    pointwise []
    exact Finset.sum_congr rfl fun j _ => (congrArg (val_main_v24 (F := Ideal) x0 x1) (ix5_of _ rfl rfl rfl rfl rfl)).trans (h24 j)
  rw [val_main_v29_apply, val_main_v28_apply, val_main_v27_apply, val_main_v26_apply, val_main_cst_5_apply, h25]
  rfl

theorem res_out (y : S4096x768.Idx) : val_main_v19 (F := Ideal) x0 x1 x2 y
    = ∑ j, x2 (ix4 0 j (hq (hd (y 1))) (ln (y 1))) * rp (X x0 x1 (hq (hd (y 1))) (hr (hd (y 1))) (y 0)) j := by
  have h0 : ((y 0 : Fin 4096) : ℕ) < 4096 := (y 0 : Fin 4096).isLt
  have h1 : ((y 1 : Fin 768) : ℕ) < 768 := (y 1 : Fin 768).isLt
  rw [val_main_v19_apply]
  refine (congrArg (val_main_v18 (F := Ideal) x0 x1 x2) (ix5_of _ rfl ?_ ?_ ?_ ?_)).trans (v18 x0 x1 x2 _ _ _ _)
  · refine Fin.ext ?_
    show (((y 0 : Fin 4096) : ℕ) * 768 + ((y 1 : Fin 768) : ℕ)) / 768 % 4096 = ((y 0 : Fin 4096) : ℕ)
    omega
  · refine Fin.ext ?_
    show (((y 0 : Fin 4096) : ℕ) * 768 + ((y 1 : Fin 768) : ℕ)) / 384 % 2 = ((y 1 : Fin 768) : ℕ) / 128 / 3
    omega
  · refine Fin.ext ?_
    show (((y 0 : Fin 4096) : ℕ) * 768 + ((y 1 : Fin 768) : ℕ)) / 128 % 3 = ((y 1 : Fin 768) : ℕ) / 128 % 3
    omega
  · refine Fin.ext ?_
    show (((y 0 : Fin 4096) : ℕ) * 768 + ((y 1 : Fin 768) : ℕ)) % 128 = ((y 1 : Fin 768) : ℕ) % 128
    omega

theorem res_lse (y : S6x4096x128.Idx) : val_main_v31 (F := Ideal) x0 x1 y = rlse (X x0 x1 (hq (y 0)) (hr (y 0)) (y 1)) := by
  have h0 : ((y 0 : Fin 6) : ℕ) < 6 := (y 0 : Fin 6).isLt
  have h1 : ((y 1 : Fin 4096) : ℕ) < 4096 := (y 1 : Fin 4096).isLt
  rw [val_main_v31_apply, val_main_v30_apply]
  refine (congrArg (val_main_v29 (F := Ideal) x0 x1) (ix4_of _ rfl ?_ ?_ ?_)).trans (v29 x0 x1 _ _ _)
  · refine Fin.ext ?_
    show (((y 0 : Fin 6) : ℕ) * 4096 + ((y 1 : Fin 4096) : ℕ)) * 1 / 12288 % 2 = ((y 0 : Fin 6) : ℕ) / 3
    omega
  · refine Fin.ext ?_
    show (((y 0 : Fin 6) : ℕ) * 4096 + ((y 1 : Fin 4096) : ℕ)) * 1 / 4096 % 3 = ((y 0 : Fin 6) : ℕ) % 3
    omega
  · refine Fin.ext ?_
    show (((y 0 : Fin 6) : ℕ) * 4096 + ((y 1 : Fin 4096) : ℕ)) * 1 % 4096 = ((y 1 : Fin 4096) : ℕ)
    omega

end Cert.FlfCEq.Ref
end
-- ==== Proof.FlfCClaim.lean ====
/- Attention C, run forwards: what the kernel's two results hold, the reference at an index, and the claims. -/
module

public import proofs.«01_k».proof.Defs
public import proofs.«01_k».proof.Proof.Flf
public import proofs.«01_k».proof.Proof.FlaCClaim
public import proofs.«01_k».proof.Proof.FlfCRef
public import proofs.«01_k».proof.Proof.Gen.FlfCKIdeal.Value
public import proofs.«01_k».proof.Proof.Gen.FlfCRIdeal.Read
public import proofs.«01_k».proof.Proof.Gen.FlfCRIdeal.Run
public import proofs.«01_k».proof.Proof.Gen.Pre_flfc_finite
public import Idealize.ShloMosaic.Lib.Pipeline.ValueKit
public import Idealize.ShloMosaic.Lib.Pointwise
public import Idealize.ShloMosaic.Adequacy
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.FlfCEq

open Cert.Reals Cert.Attn Cert.FlfCKIdeal Cert.FlfCKIdeal.Gen
open Cert.FlaCEq (kc kl row qh kh hd ln hd_of ln_of hQ hK hq hr cq ck)

variable (m : (ℓ : Loc nD τ sig) → Buf (Elt Ideal) ℓ) (c : Dev nD)

abbrev b0 : S1x4096x2x3x128.Idx → EReal := m ((c : Thread nD τ).loc main_arg0)
abbrev b1 : S1x4096x2x128.Idx → EReal := m ((c : Thread nD τ).loc main_arg1)
abbrev b2 : S1x4096x2x128.Idx → EReal := m ((c : Thread nD τ).loc main_arg2)

/-- What a step stores: the forward call's payloads, as the backward program runs them. -/
theorem out3 (x0 : Vec Ideal S1024x128 .bf16) (x1 x2 : Vec Ideal S4096x128 .bf16) (y : S1024x128.Idx) :
    out0_3 (F := Ideal) x0 x1 x2 y = out kc (row x0 (y 0)) (row x1) (row x2) (y 1) := Cert.FlaCEq.out3 x0 x1 x2 y

theorem out4 (x0 : Vec Ideal S1024x128 .bf16) (x1 x2 : Vec Ideal S4096x128 .bf16) (y : S1x1024x128.Idx) :
    out0_4 (F := Ideal) x0 x1 x2 y = lse kc kl (row x0 (y 1)) (row x1) := Cert.FlaCEq.out4 x0 x1 x2 y

/-- The block indices. -/
theorem idx0 : ∀ t : Fin cfg0.N,
    win0_0.index t = ![t.val % 4, t.val / 4] ∧ win0_1.index t = ![0, t.val / 12] ∧ win0_2.index t = ![0, t.val / 12]
      ∧ win0_3.index t = ![t.val % 4, t.val / 4] ∧ win0_4.index t = ![t.val / 4, t.val % 4, 0] :=
  (by decide +kernel : ∀ t : Fin grid0.N, _)

/-- The blocks' rows, by head. -/
theorem blk_q (t : Fin cfg0.N) (r : Fin 1024) (h : Fin 6) (i : Fin 4096) (eh : (h : ℕ) = t.val / 4) (ei : (i : ℕ) = t.val % 4 * 1024 + r) :
    row (iblk m c 0 t : Vec Ideal S1024x128 .bf16) r = hQ (b0 m c) h i := by
  obtain ⟨X, hV⟩ : ∃ X, V m c main_v1 = X := ⟨_, rfl⟩
  have e : X = shapeCast S4096x768 (b0 m c) shapeCasts_S1x4096x2x3x128_S4096x768 := by
    rw [← hV]
    show StableHlo.after hostOps0 (fun b => m (c, b)) (Proc.devRef .tc main_v1) = _
    after_results_simp
    rfl
  funext x
  refine Eq.trans ?_ ((congrFun e _).trans (Cert.FlaCEq.rd_q _ _ h i x ⟨h * 128 + x, by have := h.isLt; have := x.isLt; omega⟩ rfl))
  simp only [row]
  blk_point [iblk, hV, idx0 t]

theorem blk_k (t : Fin cfg0.N) (h : Fin 6) (eh : (h : ℕ) = t.val / 4) :
    row (iblk m c 1 t : Vec Ideal S4096x128 .bf16) = hK (b1 m c) h := by
  obtain ⟨X, hV⟩ : ∃ X, V m c main_v3 = X := ⟨_, rfl⟩
  have e : X = shapeCast S4096x256 (b1 m c) shapeCasts_S1x4096x2x128_S4096x256 := by
    rw [← hV]
    show StableHlo.after hostOps0 (fun b => m (c, b)) (Proc.devRef .tc main_v3) = _
    after_results_simp
    rfl
  funext j x
  refine Eq.trans ?_ ((congrFun e _).trans (Cert.FlaCEq.rd_k _ _ h j x ⟨h / 3 * 128 + x, by have := h.isLt; have := x.isLt; omega⟩ rfl))
  simp only [row]
  blk_point [iblk, hV, idx0 t]

theorem blk_v (t : Fin cfg0.N) (h : Fin 6) (eh : (h : ℕ) = t.val / 4) :
    row (iblk m c 2 t : Vec Ideal S4096x128 .bf16) = hK (b2 m c) h := by
  obtain ⟨X, hV⟩ : ∃ X, V m c main_v5 = X := ⟨_, rfl⟩
  have e : X = shapeCast S4096x256 (b2 m c) shapeCasts_S1x4096x2x128_S4096x256 := by
    rw [← hV]
    show StableHlo.after hostOps0 (fun b => m (c, b)) (Proc.devRef .tc main_v5) = _
    after_results_simp
    rfl
  funext j x
  refine Eq.trans ?_ ((congrFun e _).trans (Cert.FlaCEq.rd_k _ _ h j x ⟨h / 3 * 128 + x, by have := h.isLt; have := x.isLt; omega⟩ rfl))
  simp only [row]
  blk_point [iblk, hV, idx0 t]

/-- The output. -/
theorem fwd_out : (dats m 0 c).arrAt 3 cfg0.N
    = ((fun i => out kc (hQ (b0 m c) (hd (i 1)) (i 0)) (hK (b1 m c) (hd (i 1))) (hK (b2 m c) (hd (i 1))) (ln (i 1))) : S4096x768.Idx → EReal) := by
  refine (dats m 0 c).arrAt_eq_of_covers 3 _ (by decide +kernel) fun t _ y => ?_
  blk_simp
  have e0 : (((win0_3.blk t).view.emb y 0 : Fin 4096) : ℕ) = t.val % 4 * 1024 + (y 0 : Fin 1024) := by blk_simp [idx0 t]
  have e1 : (((win0_3.blk t).view.emb y 1 : Fin 768) : ℕ) = t.val / 4 * 128 + (y 1 : Fin 128) := by blk_simp [idx0 t]
  rw [after0_3, out3, blk_q m c t _ _ _ (hd_of e1) e0, blk_k m c t _ (hd_of e1), blk_v m c t _ (hd_of e1), ln_of e1]

/-- The rows' logarithmic sums. -/
theorem fwd_lse : (dats m 0 c).arrAt 4 cfg0.N
    = ((fun i => lse kc kl (hQ (b0 m c) (i 0) (i 1)) (hK (b1 m c) (i 0))) : S6x4096x128.Idx → EReal) := by
  refine (dats m 0 c).arrAt_eq_of_covers 4 _ (by decide +kernel) fun t _ y => ?_
  blk_simp
  have e0 : (((win0_4.blk t).view.emb y 0 : Fin 6) : ℕ) = t.val / 4 + (y 0 : Fin 1) := by blk_simp [idx0 t]
  have e1 : (((win0_4.blk t).view.emb y 1 : Fin 4096) : ℕ) = t.val % 4 * 1024 + (y 1 : Fin 1024) := by blk_simp [idx0 t]
  rw [after0_4, out4, blk_q m c t _ _ _ (add_zero_of e0) e1, blk_k m c t _ (add_zero_of e0)]

/-- The precondition: every element of the three arrays is a real number. -/
theorem reals (x0 : FVec Ideal Cert.Pre_flfc_finite.S1x4096x2x3x128 .f32) (x1 x2 : FVec Ideal Cert.Pre_flfc_finite.S1x4096x2x128 .f32)
    [Cert.Pre_flfc_finite.Facts] (h : Cert.Pre_flfc_finite.fn (F := Ideal) x0 x1 x2 = fun _ => 1#1) :
    (∀ i, IsReal (x0 i)) ∧ (∀ i, IsReal (x1 i)) ∧ ∀ i, IsReal (x2 i) := by
  have e := congrFun h (fun a => a.elim0)
  unfold Cert.Pre_flfc_finite.fn at e
  obtain ⟨e, e2⟩ := IntOp.andi_eq_one.1 e
  obtain ⟨e0, e1⟩ := IntOp.andi_eq_one.1 e
  exact ⟨isReal_of_all _ _ _ _ _ _ e0, isReal_of_all _ _ _ _ _ _ e1, isReal_of_all _ _ _ _ _ _ e2⟩

/-- The reference runs; its arguments stay. -/
theorem frame_ref : Cert.quiescent_FlfCRIdeal := fun m ρ _ =>
  (θ_run Cert.FlfCRIdeal.defs _ _).mono (fun r h => ⟨fun c => (h c).2.2, sem_eq_zero_of_no_sems (by decide) r.2⟩)
    (Cert.FlfCRIdeal.Value.run (F := Ideal) m ρ)

section
variable (q : S1x4096x2x3x128.Idx → ℝ) (k w : S1x4096x2x128.Idx → ℝ) (h : Fin 6) (i : Fin 4096)

/-- One head's row of the output is the softmax's product with the values. -/
theorem out_pt (x : Fin 128) : (∑ j, ck w (ix4 0 j (hq h) x) * rp (Cert.FlaCEq.Ref.X (cq q) (ck k) (hq h) (hr h) i) j)
    = out kc (hQ (cq q) h i) (hK (ck k) h) (hK (ck w) h) x := by
  have e : (∑ j, ((hK w h j x : ℝ) : EReal) * ((prob (scores (Real.sqrt 128)⁻¹ (hQ q h i) (hK k h)) j : ℝ) : EReal))
      = ((∑ j, prob (scores (Real.sqrt 128)⁻¹ (hQ q h i) (hK k h)) j * hK w h j x : ℝ) : EReal) := by
    simp only [← EReal.coe_mul, coe_sum]
    simp only [mul_comm]
  rw [Cert.FlaCEq.ref_X]
  simp only [rp_real]
  exact e.trans (out_real (Real.sqrt 128)⁻¹ (hQ q h i) (hK k h) (hK w h) rfl rfl x).symm

/-- The two logarithmic sums of one head's row. -/
theorem lse_pt : Ref.rlse (Cert.FlaCEq.Ref.X (cq q) (ck k) (hq h) (hr h) i) = lse kc kl (hQ (cq q) h i) (hK (ck k) h) := by
  rw [Cert.FlaCEq.ref_X]
  exact (rlse_real _).trans (lse_real (Real.sqrt 128)⁻¹ (hQ q h i) (hK k h) rfl rfl).symm

end

section
variable (h0 : ∀ i, IsReal (b0 m c i)) (h1 : ∀ i, IsReal (b1 m c i)) (h2 : ∀ i, IsReal (b2 m c i))

include h0 h1 h2 in
theorem final_out : Cert.FlfCRIdeal.Read.val_main_v19 (F := Ideal) (b0 m c) (b1 m c) (b2 m c) = (dats m 0 c).arrAt 3 cfg0.N := by
  obtain ⟨q, hq0⟩ := choose_real h0
  obtain ⟨k, hk0⟩ := choose_real h1
  obtain ⟨w, hw0⟩ := choose_real h2
  rw [fwd_out, hq0, hk0, hw0]
  funext y
  exact (Ref.res_out _ _ _ y).trans (out_pt q k w (hd (y 1)) (y 0) (ln (y 1)))

include h0 h1 in
theorem final_lse : Cert.FlfCRIdeal.Read.val_main_v31 (F := Ideal) (b0 m c) (b1 m c) = (dats m 0 c).arrAt 4 cfg0.N := by
  obtain ⟨q, hq0⟩ := choose_real h0
  obtain ⟨k, hk0⟩ := choose_real h1
  rw [fwd_lse, hq0, hk0]
  funext y
  exact (Ref.res_lse _ _ y).trans (lse_pt q k (y 0) (y 1))

end

theorem value : Cert.algebraic_FlfCKIdeal_FlfCRIdeal_pre_flfc_finite := by
  pair_intro
  · run_from Cert.FlfCKIdeal.Value.run_blocks m g
  · run_from Cert.FlfCRIdeal.Value.run m' g'
    · obtain ⟨h0, h1, h2⟩ := reals _ _ _ (hpre c)
      rw [Cert.FlfCRIdeal.Read.val_main_v19_eq]
      exact final_out m c h0 h1 h2
    · obtain ⟨h0, h1, h2⟩ := reals _ _ _ (hpre c)
      rw [Cert.FlfCRIdeal.Read.val_main_v31_eq]
      exact final_lse m c h0 h1

end Cert.FlfCEq
end
-- ==== Proof.FlfARef.lean ====
/- Attention A's reference, run forwards, at an index: the softmax's product with the values, and the logarithmic sum. -/
module

public import proofs.«01_k».proof.Proof.FlaARef
public import proofs.«01_k».proof.Proof.Gen.FlfARIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FlfAEq.Ref

open Cert.FlfARIdeal Cert.FlfARIdeal.Read Cert.Reals Cert.Attn
open Cert.FlaAEq (hd ln)
open Cert.FlaAEq.Ref (X S)

/-- The quotient of the logarithms of a row's sum and of two. -/
def rlse (x : Fin 4096 → EReal) : EReal := Ideal.div (Ideal.log (∑ j, Ideal.exp (x j))) (Ideal.log (Ideal.ofBits .f32 0x40000000#32))

variable (x0 : FVec Ideal S1x4096x4x1x192 .f32) (x1 : FVec Ideal S1x4096x4x192 .f32) (x2 : FVec Ideal S1x4096x4x128 .f32)
variable (b : Fin 4) (i : Fin 4096)

theorem v5 (j : Fin 4096) : val_main_v5 (F := Ideal) x0 x1 (ix5 0 b 0 i j) = X x0 x1 b i j := by
  simp only [val_main_v5_apply, val_main_v4_apply, val_main_v3_apply, val_main_v2_apply, val_main_v1_apply, val_main_v0_apply,
    val_main_cst_apply, val_main_cst_0_apply]
  pointwise []
  exact congrArg (· * S) (Finset.sum_congr rfl fun d _ => congrArg₂ (· * ·) (congrArg x1 (ix4_of _ rfl rfl rfl rfl))
    (congrArg x0 (ix5_of _ rfl rfl rfl rfl rfl)))

theorem v8 : val_main_v8 (F := Ideal) x0 x1 (ix4 0 b 0 i) = rmx (X x0 x1 b i) := by
  have h : val_main_v7 (F := Ideal) (ix4 0 b 0 i) = Ideal.ofBits .f32 0xFF800000#32 := by
    rw [val_main_v7_apply]
    pointwise [val_main_cst_2]
  have h6 : val_main_v6 (F := Ideal) x0 x1 (ix4 0 b 0 i)
      = Finset.fold max (Ideal.ofBits .f32 0xFF800000#32) (fun j => val_main_v5 (F := Ideal) x0 x1 (ix5 0 b 0 i j)) Finset.univ := by
    pointwise [val_main_v6, val_main_cst_1]
  rw [val_main_v8_apply, h, h6]
  simp only [v5]
  unfold rmx
  generalize Finset.fold (max : EReal → EReal → EReal) _ _ _ = z
  exact congrFun (congrFun Ideal.maximumf_eq_max _) _

theorem v12 (j : Fin 4096) : val_main_v12 (F := Ideal) x0 x1 (ix5 0 b 0 i j) = rw' (X x0 x1 b i) j := by
  simp only [val_main_v12_apply, val_main_v11_apply, val_main_v10_apply, val_main_v9_apply, v5]
  rw [show idx_main_v9 (idx_main_v10 (ix5 0 b 0 i j)) = ix4 0 b 0 i from ix4_of _ rfl rfl rfl rfl, v8]
  rfl

theorem v13 : val_main_v13 (F := Ideal) x0 x1 (ix4 0 b 0 i) = ∑ j, rw' (X x0 x1 b i) j := by
  simp only [val_main_v13_apply, val_main_cst_3_apply]
  pointwise []
  exact Finset.sum_congr rfl fun j _ => (congrArg (val_main_v12 (F := Ideal) x0 x1) (ix5_of _ rfl rfl rfl rfl rfl)).trans (v12 x0 x1 b i j)

theorem v16 (j : Fin 4096) : val_main_v16 (F := Ideal) x0 x1 (ix5 0 b 0 i j) = rp (X x0 x1 b i) j := by
  rw [val_main_v16_apply, val_main_v15_apply, val_main_v14_apply, v12,
    show idx_main_v14 (idx_main_v15 (ix5 0 b 0 i j)) = ix4 0 b 0 i from ix4_of _ rfl rfl rfl rfl, v13]
  rfl

/-- The output. -/
theorem v18 (d : Fin 128) : val_main_v18 (F := Ideal) x0 x1 x2 (ix5 0 i b 0 d) = ∑ j, x2 (ix4 0 j b d) * rp (X x0 x1 b i) j := by
  simp only [val_main_v18_apply, val_main_v17_apply]
  exact Finset.sum_congr rfl fun j _ => congrArg₂ (· * ·) (congrArg x2 (ix4_of _ rfl rfl rfl rfl))
    ((congrArg (val_main_v16 (F := Ideal) x0 x1) (ix5_of _ rfl rfl rfl rfl rfl)).trans (v16 x0 x1 b i j))

/-- The logarithmic sum. -/
theorem v29 : val_main_v29 (F := Ideal) x0 x1 (ix4 0 b 0 i) = rlse (X x0 x1 b i) := by
  have h24 (j : Fin 4096) : val_main_v24 (F := Ideal) x0 x1 (ix5 0 b 0 i j) = Ideal.exp (X x0 x1 b i j) := by
    rw [val_main_v24_apply, show val_main_v23 (F := Ideal) x0 x1 = val_main_v5 (F := Ideal) x0 x1 from rfl, v5]
    rfl
  have h25 : val_main_v25 (F := Ideal) x0 x1 (ix4 0 b 0 i) = ∑ j, Ideal.exp (X x0 x1 b i j) := by
    simp only [val_main_v25_apply, val_main_cst_4_apply]
    pointwise []
    exact Finset.sum_congr rfl fun j _ => (congrArg (val_main_v24 (F := Ideal) x0 x1) (ix5_of _ rfl rfl rfl rfl rfl)).trans (h24 j)
  rw [val_main_v29_apply, val_main_v28_apply, val_main_v27_apply, val_main_v26_apply, val_main_cst_5_apply, h25]
  rfl

theorem res_out (y : S4096x512.Idx) : val_main_v19 (F := Ideal) x0 x1 x2 y
    = ∑ j, x2 (ix4 0 j (hd (y 1)) (ln (y 1))) * rp (X x0 x1 (hd (y 1)) (y 0)) j := by
  have h0 : ((y 0 : Fin 4096) : ℕ) < 4096 := (y 0 : Fin 4096).isLt
  have h1 : ((y 1 : Fin 512) : ℕ) < 512 := (y 1 : Fin 512).isLt
  rw [val_main_v19_apply]
  refine (congrArg (val_main_v18 (F := Ideal) x0 x1 x2) (ix5_of _ rfl ?_ ?_ (Subsingleton.elim (α := Fin 1) _ _) ?_)).trans (v18 x0 x1 x2 _ _ _)
  · refine Fin.ext ?_
    show (((y 0 : Fin 4096) : ℕ) * 512 + ((y 1 : Fin 512) : ℕ)) / 512 % 4096 = ((y 0 : Fin 4096) : ℕ)
    omega
  · refine Fin.ext ?_
    show (((y 0 : Fin 4096) : ℕ) * 512 + ((y 1 : Fin 512) : ℕ)) / 128 % 4 = ((y 1 : Fin 512) : ℕ) / 128
    omega
  · refine Fin.ext ?_
    show (((y 0 : Fin 4096) : ℕ) * 512 + ((y 1 : Fin 512) : ℕ)) % 128 = ((y 1 : Fin 512) : ℕ) % 128
    omega

theorem res_lse (y : S4x4096x128.Idx) : val_main_v31 (F := Ideal) x0 x1 y = rlse (X x0 x1 (y 0) (y 1)) := by
  have h0 : ((y 0 : Fin 4) : ℕ) < 4 := (y 0 : Fin 4).isLt
  have h1 : ((y 1 : Fin 4096) : ℕ) < 4096 := (y 1 : Fin 4096).isLt
  rw [val_main_v31_apply, val_main_v30_apply]
  refine (congrArg (val_main_v29 (F := Ideal) x0 x1) (ix4_of _ rfl ?_ (Subsingleton.elim (α := Fin 1) _ _) ?_)).trans (v29 x0 x1 _ _)
  · refine Fin.ext ?_
    show (((y 0 : Fin 4) : ℕ) * 4096 + ((y 1 : Fin 4096) : ℕ)) * 1 / 4096 % 4 = ((y 0 : Fin 4) : ℕ)
    omega
  · refine Fin.ext ?_
    show (((y 0 : Fin 4) : ℕ) * 4096 + ((y 1 : Fin 4096) : ℕ)) * 1 % 4096 = ((y 1 : Fin 4096) : ℕ)
    omega

end Cert.FlfAEq.Ref
end
-- ==== Proof.FlfAClaim.lean ====
/- Attention A, run forwards: what the kernel's two results hold, the reference at an index, and the claims. -/
module

public import proofs.«01_k».proof.Defs
public import proofs.«01_k».proof.Proof.Flf
public import proofs.«01_k».proof.Proof.FlaAClaim
public import proofs.«01_k».proof.Proof.FlfARef
public import proofs.«01_k».proof.Proof.Gen.FlfAKIdeal.Value
public import proofs.«01_k».proof.Proof.Gen.FlfARIdeal.Read
public import proofs.«01_k».proof.Proof.Gen.FlfARIdeal.Run
public import proofs.«01_k».proof.Proof.Gen.Pre_flfa_finite
public import Idealize.ShloMosaic.Lib.Pipeline.ValueKit
public import Idealize.ShloMosaic.Lib.Pointwise
public import Idealize.ShloMosaic.Adequacy
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.FlfAEq

open Cert.Reals Cert.Attn Cert.FlfAKIdeal Cert.FlfAKIdeal.Gen
open Cert.FlaAEq (kc kl row qh vh hd ln hd_of ln_of hQ hK hW cq ck cw hQ_coe hK_coe)

variable (m : (ℓ : Loc nD τ sig) → Buf (Elt Ideal) ℓ) (c : Dev nD)

abbrev b0 : S1x4096x4x1x192.Idx → EReal := m ((c : Thread nD τ).loc main_arg0)
abbrev b1 : S1x4096x4x192.Idx → EReal := m ((c : Thread nD τ).loc main_arg1)
abbrev b2 : S1x4096x4x128.Idx → EReal := m ((c : Thread nD τ).loc main_arg2)

/-- What a step stores: the forward call's payloads, as the backward program runs them. -/
theorem out3 (x0 : Vec Ideal S1024x256 .bf16) (x1 : Vec Ideal S4096x256 .bf16) (x2 : Vec Ideal S4096x128 .bf16) (y : S1024x128.Idx) :
    out0_3 (F := Ideal) x0 x1 x2 y = out kc (row x0 (y 0)) (row x1) (row x2) (y 1) := Cert.FlaAEq.out3 x0 x1 x2 y

theorem out4 (x0 : Vec Ideal S1024x256 .bf16) (x1 : Vec Ideal S4096x256 .bf16) (x2 : Vec Ideal S4096x128 .bf16) (y : S1x1024x128.Idx) :
    out0_4 (F := Ideal) x0 x1 x2 y = lse kc kl (row x0 (y 1)) (row x1) := Cert.FlaAEq.out4 x0 x1 x2 y

/-- The block indices. -/
theorem idx0 : ∀ t : Fin cfg0.N,
    win0_0.index t = ![t.val % 4, t.val / 4] ∧ win0_1.index t = ![0, t.val / 4] ∧ win0_2.index t = ![0, 2 * (t.val / 4) + 1]
      ∧ win0_3.index t = ![t.val % 4, t.val / 4] ∧ win0_4.index t = ![t.val / 4, t.val % 4, 0] :=
  (by decide +kernel : ∀ t : Fin grid0.N, _)

/-- The arrays the call reads, from the arguments. -/
abbrev QA : Cert.FlaAKIdeal.S4096x1024.Idx → EReal :=
  Cert.FlaAEq.padded (shapeCast S4096x4x192 (b0 m c) shapeCasts_S1x4096x4x1x192_S4096x4x192) (constantI S_ 32 0#32)
abbrev KA : Cert.FlaAKIdeal.S4096x1024.Idx → EReal :=
  Cert.FlaAEq.padded (shapeCast S4096x4x192 (b1 m c) shapeCasts_S1x4096x4x192_S4096x4x192) (constantI S_ 32 0#32)
abbrev WA : Cert.FlaAKIdeal.S4096x1024.Idx → EReal := Cert.FlaAEq.behind (b2 m c)

theorem v_q : V m c main_v3 = QA m c := by
  show StableHlo.after hostOps0_4 (StableHlo.after hostOps0_3 (StableHlo.after hostOps0_2 (StableHlo.after hostOps0_1
    (StableHlo.after hostOps0 fun b => m (c, b))))) (Proc.devRef .tc main_v3) = _
  after_results_simp
  rfl

theorem v_k : V m c main_v7 = KA m c := by
  show StableHlo.after hostOps0_4 (StableHlo.after hostOps0_3 (StableHlo.after hostOps0_2 (StableHlo.after hostOps0_1
    (StableHlo.after hostOps0 fun b => m (c, b))))) (Proc.devRef .tc main_v7) = _
  after_results_simp
  rfl

theorem v_w : V m c main_v12 = WA m c := by
  show StableHlo.after hostOps0_4 (StableHlo.after hostOps0_3 (StableHlo.after hostOps0_2 (StableHlo.after hostOps0_1
    (StableHlo.after hostOps0 fun b => m (c, b))))) (Proc.devRef .tc main_v12) = _
  after_results_simp
  rfl

/-- The blocks' rows, by head. -/
theorem blk_q (t : Fin cfg0.N) (r : Fin 1024) (h : Fin 4) (i : Fin 4096) (eh : (h : ℕ) = t.val / 4) (ei : (i : ℕ) = t.val % 4 * 1024 + r) :
    row (iblk m c 0 t : Vec Ideal S1024x256 .bf16) r = hQ (b0 m c) h i := by
  have e : qh (QA m c) h i = hQ (b0 m c) h i :=
    funext fun x => (Cert.FlaAEq.rd_p _ h i x _ rfl).trans (congrArg (fun f => Cert.FlaAEq.pd f x) (funext fun d => Cert.FlaAEq.rd_q _ i h d))
  rw [← e]
  obtain ⟨X, hX⟩ : ∃ X, QA m c = X := ⟨_, rfl⟩
  have hV : V m c main_v3 = X := (v_q m c).trans hX
  rw [hX]
  funext x
  simp only [row]
  blk_point [iblk, hV, idx0 t]

theorem blk_k (t : Fin cfg0.N) (h : Fin 4) (eh : (h : ℕ) = t.val / 4) :
    row (iblk m c 1 t : Vec Ideal S4096x256 .bf16) = hK (b1 m c) h := by
  have e : qh (KA m c) h = hK (b1 m c) h := funext fun j =>
    funext fun x => (Cert.FlaAEq.rd_p _ h j x _ rfl).trans (congrArg (fun f => Cert.FlaAEq.pd f x) (funext fun d => Cert.FlaAEq.rd_k _ j h d))
  rw [← e]
  obtain ⟨X, hX⟩ : ∃ X, KA m c = X := ⟨_, rfl⟩
  have hV : V m c main_v7 = X := (v_k m c).trans hX
  rw [hX]
  funext j x
  simp only [row]
  blk_point [iblk, hV, idx0 t]

theorem blk_v (t : Fin cfg0.N) (h : Fin 4) (eh : (h : ℕ) = t.val / 4) :
    row (iblk m c 2 t : Vec Ideal S4096x128 .bf16) = hW (b2 m c) h := by
  have e : vh (WA m c) h = hW (b2 m c) h := funext fun j => funext fun x => Cert.FlaAEq.rd_w _ h j x _ rfl
  rw [← e]
  obtain ⟨X, hX⟩ : ∃ X, WA m c = X := ⟨_, rfl⟩
  have hV : V m c main_v12 = X := (v_w m c).trans hX
  rw [hX]
  funext j x
  simp only [row]
  blk_point [iblk, hV, idx0 t]

/-- The output. -/
theorem fwd_out : (dats m 0 c).arrAt 3 cfg0.N
    = ((fun i => out kc (hQ (b0 m c) (hd (i 1)) (i 0)) (hK (b1 m c) (hd (i 1))) (hW (b2 m c) (hd (i 1))) (ln (i 1))) : S4096x512.Idx → EReal) := by
  refine (dats m 0 c).arrAt_eq_of_covers 3 _ (by decide +kernel) fun t _ y => ?_
  blk_simp
  have e0 : (((win0_3.blk t).view.emb y 0 : Fin 4096) : ℕ) = t.val % 4 * 1024 + (y 0 : Fin 1024) := by blk_simp [idx0 t]
  have e1 : (((win0_3.blk t).view.emb y 1 : Fin 512) : ℕ) = t.val / 4 * 128 + (y 1 : Fin 128) := by blk_simp [idx0 t]
  rw [after0_3, out3, blk_q m c t _ _ _ (hd_of e1) e0, blk_k m c t _ (hd_of e1), blk_v m c t _ (hd_of e1), ln_of e1]

/-- The rows' logarithmic sums. -/
theorem fwd_lse : (dats m 0 c).arrAt 4 cfg0.N
    = ((fun i => lse kc kl (hQ (b0 m c) (i 0) (i 1)) (hK (b1 m c) (i 0))) : S4x4096x128.Idx → EReal) := by
  refine (dats m 0 c).arrAt_eq_of_covers 4 _ (by decide +kernel) fun t _ y => ?_
  blk_simp
  have e0 : (((win0_4.blk t).view.emb y 0 : Fin 4) : ℕ) = t.val / 4 + (y 0 : Fin 1) := by blk_simp [idx0 t]
  have e1 : (((win0_4.blk t).view.emb y 1 : Fin 4096) : ℕ) = t.val % 4 * 1024 + (y 1 : Fin 1024) := by blk_simp [idx0 t]
  rw [after0_4, out4, blk_q m c t _ _ _ (add_zero_of e0) e1, blk_k m c t _ (add_zero_of e0)]

/-- The precondition: every element of the three arrays is a real number. -/
theorem reals (x0 : FVec Ideal Cert.Pre_flfa_finite.S1x4096x4x1x192 .f32) (x1 : FVec Ideal Cert.Pre_flfa_finite.S1x4096x4x192 .f32)
    (x2 : FVec Ideal Cert.Pre_flfa_finite.S1x4096x4x128 .f32)
    [Cert.Pre_flfa_finite.Facts] (h : Cert.Pre_flfa_finite.fn (F := Ideal) x0 x1 x2 = fun _ => 1#1) :
    (∀ i, IsReal (x0 i)) ∧ (∀ i, IsReal (x1 i)) ∧ ∀ i, IsReal (x2 i) := by
  have e := congrFun h (fun a => a.elim0)
  unfold Cert.Pre_flfa_finite.fn at e
  obtain ⟨e, e2⟩ := IntOp.andi_eq_one.1 e
  obtain ⟨e0, e1⟩ := IntOp.andi_eq_one.1 e
  exact ⟨isReal_of_all _ _ _ _ _ _ e0, isReal_of_all _ _ _ _ _ _ e1, isReal_of_all _ _ _ _ _ _ e2⟩

/-- The reference runs; its arguments stay. -/
theorem frame_ref : Cert.quiescent_FlfARIdeal := fun m ρ _ =>
  (θ_run Cert.FlfARIdeal.defs _ _).mono (fun r h => ⟨fun c => (h c).2.2, sem_eq_zero_of_no_sems (by decide) r.2⟩)
    (Cert.FlfARIdeal.Value.run (F := Ideal) m ρ)

section
variable (q : S1x4096x4x1x192.Idx → ℝ) (k : S1x4096x4x192.Idx → ℝ) (w : S1x4096x4x128.Idx → ℝ) (h : Fin 4) (i : Fin 4096)

/-- One head's row of the output is the softmax's product with the values. -/
theorem out_pt (x : Fin 128) : (∑ j, cw w (ix4 0 j h x) * rp (Cert.FlaAEq.Ref.X (cq q) (ck k) h i) j)
    = out kc (hQ (cq q) h i) (hK (ck k) h) (hW (cw w) h) x := by
  have e : (∑ j, ((hW w h j x : ℝ) : EReal) * ((prob (scores (Real.sqrt 192)⁻¹ (hQ q h i) (hK k h)) j : ℝ) : EReal))
      = ((∑ j, prob (scores (Real.sqrt 192)⁻¹ (hQ q h i) (hK k h)) j * hW w h j x : ℝ) : EReal) := by
    simp only [← EReal.coe_mul, coe_sum]
    simp only [mul_comm]
  rw [Cert.FlaAEq.ref_X, hQ_coe, hK_coe]
  simp only [rp_real]
  exact e.trans (out_real (Real.sqrt 192)⁻¹ (hQ q h i) (hK k h) (hW w h) rfl rfl x).symm

/-- The two logarithmic sums of one head's row. -/
theorem lse_pt : Ref.rlse (Cert.FlaAEq.Ref.X (cq q) (ck k) h i) = lse kc kl (hQ (cq q) h i) (hK (ck k) h) := by
  rw [Cert.FlaAEq.ref_X, hQ_coe, hK_coe]
  exact (rlse_real _).trans (lse_real (Real.sqrt 192)⁻¹ (hQ q h i) (hK k h) rfl rfl).symm

end

section
variable (h0 : ∀ i, IsReal (b0 m c i)) (h1 : ∀ i, IsReal (b1 m c i)) (h2 : ∀ i, IsReal (b2 m c i))

include h0 h1 h2 in
theorem final_out : Cert.FlfARIdeal.Read.val_main_v19 (F := Ideal) (b0 m c) (b1 m c) (b2 m c) = (dats m 0 c).arrAt 3 cfg0.N := by
  obtain ⟨q, hq0⟩ := choose_real h0
  obtain ⟨k, hk0⟩ := choose_real h1
  obtain ⟨w, hw0⟩ := choose_real h2
  rw [fwd_out, hq0, hk0, hw0]
  funext y
  exact (Ref.res_out _ _ _ y).trans (out_pt q k w (hd (y 1)) (y 0) (ln (y 1)))

include h0 h1 in
theorem final_lse : Cert.FlfARIdeal.Read.val_main_v31 (F := Ideal) (b0 m c) (b1 m c) = (dats m 0 c).arrAt 4 cfg0.N := by
  obtain ⟨q, hq0⟩ := choose_real h0
  obtain ⟨k, hk0⟩ := choose_real h1
  rw [fwd_lse, hq0, hk0]
  funext y
  exact (Ref.res_lse _ _ y).trans (lse_pt q k (y 0) (y 1))

end

theorem value : Cert.algebraic_FlfAKIdeal_FlfARIdeal_pre_flfa_finite := by
  pair_intro
  · run_from Cert.FlfAKIdeal.Value.run_blocks m g
  · run_from Cert.FlfARIdeal.Value.run m' g'
    · obtain ⟨h0, h1, h2⟩ := reals _ _ _ (hpre c)
      rw [Cert.FlfARIdeal.Read.val_main_v19_eq]
      exact final_out m c h0 h1 h2
    · obtain ⟨h0, h1, h2⟩ := reals _ _ _ (hpre c)
      rw [Cert.FlfARIdeal.Read.val_main_v31_eq]
      exact final_lse m c h0 h1

end Cert.FlfAEq
end
-- ==== Proof.RopeSum.lean ====
/- The sum over the heads of rotated rows is the rotation of the heads' sum, for real rows. -/
module

public import proofs.«01_k».proof.Proof.Ropes
public import proofs.«01_k».proof.Proof.Reals

@[expose] public section

noncomputable section

open Idealize.ShloMosaic

namespace Cert.Ropes

open Cert.Reals

/-- The angles are real numbers. -/
theorem ang_real (p e : ℕ) : IsReal (ang 0x42800000#32 p e) := by
  have h0 : Ideal.ofBits .f32 0x461C4000#32 = ((10000 : ℝ) : EReal) := by
    simp [Ideal.ofBits, Ideal.ieee, -EReal.coe_mul]
    norm_num
  have h1 : Ideal.ofBits .f32 0x40000000#32 = ((2 : ℝ) : EReal) := by
    simp [Ideal.ofBits, Ideal.ieee, -EReal.coe_mul]
    norm_num
  have h2 : Ideal.ofBits .f32 0x42800000#32 = ((64 : ℝ) : EReal) := by
    simp [Ideal.ofBits, Ideal.ieee, -EReal.coe_mul]
    norm_num
  have hi (n : ℕ) : FloatOps.sitofp (F := Ideal) .f32 (BitVec.ofNat 32 n) = (((BitVec.ofNat 32 n).toInt : ℝ) : EReal) := rfl
  refine ⟨((BitVec.ofNat 32 p).toInt : ℝ) * Real.rpow 10000 (-(2 * ((BitVec.ofNat 32 e).toInt : ℝ)) / 64), ?_⟩
  rw [ang, h0, h1, h2, hi, hi, ← EReal.coe_mul, ← EReal.coe_neg, div_real _ (by norm_num : (64 : ℝ) ≠ 0), Ideal.pow_coe_coe, ← EReal.coe_mul]

variable (a : ℕ → EReal) (ha : ∀ e, IsReal (a e))

include ha in
theorem ac_real (d : ℕ) : IsReal (ac a d) := by
  have h (e : ℕ) : IsReal (Ideal.cos (a e)) := by
    obtain ⟨r, hr⟩ := ha e
    exact ⟨Real.cos r, by rw [hr, Ideal.cos_coe]⟩
  unfold ac
  split_ifs
  exacts [⟨1, rfl⟩, h _, h _, ⟨1, rfl⟩]

include ha in
theorem az_real (d : ℕ) : IsReal (az a d) := by
  have h (e : ℕ) : IsReal (Ideal.sin (a e)) := by
    obtain ⟨r, hr⟩ := ha e
    exact ⟨Real.sin r, by rw [hr, Ideal.sin_coe]⟩
  have hn (e : ℕ) : IsReal (-Ideal.sin (a e)) := by
    obtain ⟨r, hr⟩ := h e
    exact ⟨-r, by rw [hr, EReal.coe_neg]⟩
  unfold az
  split_ifs
  exacts [⟨0, rfl⟩, hn _, h _, ⟨0, rfl⟩]

/-- One head's rotated entry, as the kernel that gathers the heads writes it. -/
def kt (x x' C S : EReal) : EReal := x * C - x' * S

/-- The heads' rotated entries added up from the first. -/
def keys (X : Fin 4 → Fin 192 → EReal) (d : ℕ) : EReal :=
  kt (fill (X 0) d) (fill (X 0) (asw d)) (ac a d) (az a d) + kt (fill (X 1) d) (fill (X 1) (asw d)) (ac a d) (az a d)
    + kt (fill (X 2) d) (fill (X 2) (asw d)) (ac a d) (az a d) + kt (fill (X 3) d) (fill (X 3) (asw d)) (ac a d) (az a d)

include ha in
theorem keys_sum (X : Fin 4 → Fin 192 → ℝ) (d : ℕ) :
    keys a (fun h e => (X h e : EReal)) d
      = rk (fill (fun e => ∑ h, (X h e : EReal)) d) (fill (fun e => ∑ h, (X h e : EReal)) (asw d)) (ac a d) (az a d) := by
  have hf (Y : Fin 192 → ℝ) (k : ℕ) : fill (fun e => (Y e : EReal)) k = ((if h : k < 192 then Y ⟨k, h⟩ else 0 : ℝ) : EReal) := by
    unfold fill
    split <;> rfl
  obtain ⟨C, hC⟩ := ac_real a ha d
  obtain ⟨S, hS⟩ := az_real a ha d
  simp only [coe_sum, keys, kt, rk, hf, hC, hS, ← EReal.coe_mul, ← EReal.coe_sub, ← EReal.coe_add, ← EReal.coe_zero, Fin.sum_univ_four]
  congr 1
  split <;> split <;> ring

/-- The last 128 of the 256 columns. -/
theorem tail (Y : Fin 192 → EReal) (l : ℕ) (hl : l < 128) :
    rk (fill Y (128 + l)) (fill Y (asw (128 + l))) (ac a (128 + l)) (az a (128 + l))
      = if h : l < 64 then
          if h2 : l < 32 then Y ⟨128 + (32 + l), by omega⟩ * Ideal.sin (a l) + Y ⟨128 + l, by omega⟩ * Ideal.cos (a l)
          else Y ⟨128 + (32 + (l - 32)), by omega⟩ * Ideal.cos (a (l - 32)) + -Y ⟨128 + (l - 32), by omega⟩ * Ideal.sin (a (l - 32))
        else 0 := by
  rw [part a Y (0 < 1) (by decide) (128 + l) (by omega)]
  by_cases h : l < 64
  · rw [dif_pos ⟨by decide, by omega⟩, dif_neg (by omega), dif_pos h]
    simp only [Nat.add_sub_cancel_left]
  · rw [dif_neg (by omega), dif_neg h]

end Cert.Ropes
end
-- ==== Proof.LatClaim.lean ====
/- The gradients of the latent keys and values gathered from the heads: what the kernel's two results hold, the reference
at an index, and the claims. -/
module

public import proofs.«01_k».proof.Defs
public import proofs.«01_k».proof.Proof.RopeSum
public import proofs.«01_k».proof.Proof.RopeAClaim
public import proofs.«01_k».proof.Proof.Gen.LatKIdeal.Value
public import proofs.«01_k».proof.Proof.Gen.LatRIdeal.Read
public import proofs.«01_k».proof.Proof.Gen.LatRIdeal.Run
public import proofs.«01_k».proof.Proof.Gen.Pre_lat_finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.LatEq

open Cert.Reals Cert.LatKIdeal Cert.LatKIdeal.Gen Cert.Attn Cert.Ropes
open Cert.RopeAEq (A4 ct st hd rd padded)

variable (m : (ℓ : Loc nD τ sig) → Buf (Elt Ideal) ℓ) (c : Dev nD)

abbrev B4 : Shape := ⟨4, ![1, 4096, 4, 128]⟩
abbrev a0 : A4.Idx → EReal := m ((c : Thread nD τ).loc main_arg0)
abbrev a1 : B4.Idx → EReal := m ((c : Thread nD τ).loc main_arg1)

/-- The gradient of kv at a position and a column: the head's key part, then its value. -/
def wz (x : A4.Idx → EReal) (y : B4.Idx → EReal) (i : Fin 4096) (z : Fin 1024) : EReal :=
  if h : (z : ℕ) % 256 < 128 then x (ix4 0 i (hd z) ⟨z % 256, by omega⟩) else y (ix4 0 i (hd z) ⟨z % 256 - 128, by omega⟩)

/-- The gradient of the shared rotary row, filled up to 128 columns. -/
def kz (x : A4.Idx → EReal) (i : Fin 4096) (d : Fin 128) : EReal :=
  keys (ang 0x42800000#32 i) (fun h e => x (ix4 0 i h e)) (128 + d)

/-- The block's column of the first result: from the keys' block or from the values'. -/
def side (x : S512x1024.Idx → EReal) (v : S512x512.Idx → EReal) (r : Fin 512) (z : Fin 1024) : EReal :=
  if (z : ℕ) % 256 < 128 then x (ix2 r z) else v (ix2 r ⟨z / 256 * 128 + z % 128, by have := z.isLt; omega⟩)

theorem side_lo (x : S512x1024.Idx → EReal) (v : S512x512.Idx → EReal) (r : Fin 512) (z : Fin 1024) (h : (z : ℕ) % 256 < 128) :
    x (ix2 r z) = side x v r z := (if_pos h).symm

theorem side_hi (x : S512x1024.Idx → EReal) (v : S512x512.Idx → EReal) (r : Fin 512) (z : Fin 1024) (u : Fin 512)
    (h : ¬ (z : ℕ) % 256 < 128) (hu : (u : ℕ) = z / 256 * 128 + z % 128) : v (ix2 r u) = side x v r z := by
  rw [side, if_neg h]
  exact congrArg (fun k => v (ix2 r k)) (Fin.ext hu)

theorem pay4 (x : S512x1024.Idx → EReal) (v : S512x512.Idx → EReal) (k s : S512x256.Idx → EReal) (y : S512x1024.Idx) :
    out0_4 (F := Ideal) x v k s y = side x v (y 0) (y 1) := by
  unfold out0_4
  canon_tiles j h
  all_goals
    have e0 : y 0 = j 0 := Fin.ext h0
    have e1 : y 1 = ⟨_, lt_of_eq_of_lt h1.symm (y 1).isLt⟩ := Fin.ext h1
    have hj : ((j 1 : Fin 128) : ℕ) < 128 := (j 1 : Fin 128).isLt
    rw [e0, e1]
    open_payloads
    pointwise
    first
    | exact side_lo x v (j 0) _ (by dsimp only; omega)
    | exact side_hi x v (j 0) _ _ (by dsimp only; omega) (by dsimp only; omega)

theorem tile (X : Fin 128 → EReal) (d : Fin 128) (C S : EReal) (h h' : _) :
    X d * C - Scalar.select (IntOp.cmpi .slt (IntOp.andi (BitVec.ofNat 32 d) 63#32) 32#32) (X ⟨(d + 128 - 96) % 128, h⟩) (X ⟨(d + 128 - 32) % 128, h'⟩) * S
      = kt (X d) (X (sw d)) C S := by
  rw [pick]
  rfl

theorem pay5 (x : S512x1024.Idx → EReal) (v : S512x512.Idx → EReal) (k s : S512x256.Idx → EReal) (r : Fin 512) (d : Fin 128) :
    out0_5 (F := Ideal) x v k s (ix2 r d)
      = kt (x (ix2 r ⟨128 + d, by omega⟩)) (x (ix2 r ⟨128 + sw d, by omega⟩)) (k (ix2 r ⟨128 + d, by omega⟩)) (s (ix2 r ⟨128 + d, by omega⟩))
        + kt (x (ix2 r ⟨384 + d, by omega⟩)) (x (ix2 r ⟨384 + sw d, by omega⟩)) (k (ix2 r ⟨128 + d, by omega⟩)) (s (ix2 r ⟨128 + d, by omega⟩))
        + kt (x (ix2 r ⟨640 + d, by omega⟩)) (x (ix2 r ⟨640 + sw d, by omega⟩)) (k (ix2 r ⟨128 + d, by omega⟩)) (s (ix2 r ⟨128 + d, by omega⟩))
        + kt (x (ix2 r ⟨896 + d, by omega⟩)) (x (ix2 r ⟨896 + sw d, by omega⟩)) (k (ix2 r ⟨128 + d, by omega⟩)) (s (ix2 r ⟨128 + d, by omega⟩)) := by
  frame_out
  pointwise [k0_pay1, k0_pay12, k0_pay8, k0_pay4, k0_pay15]
  have T (b : ℕ) (hb : b + 128 ≤ 1024) (C S : EReal) := tile (fun e => x (ix2 r ⟨b + e, by omega⟩)) d C S (Nat.mod_lt _ (by decide)) (Nat.mod_lt _ (by decide))
  exact congrArg₂ (· + ·) (congrArg₂ (· + ·) (congrArg₂ (· + ·) (T 128 (by decide) _ _) (T 384 (by decide) _ _)) (T 640 (by decide) _ _)) (T 896 (by decide) _ _)

/-- The tables of cosines and sines, the keys' gradient filled up to 256 columns a head, and the values' gradient. -/
theorem vc (i : Fin 4096) (d : Fin 256) : (V m c main_v77 : S4096x256.Idx → EReal) (ix2 i d) = ct i d := by
  show (StableHlo.after hostOps0_2 (StableHlo.after hostOps0_1 (StableHlo.after hostOps0 fun b => m (c, b))) (Proc.devRef .tc main_v77) : S4096x256.Idx → EReal) (ix2 i d) = _
  after_results_simp
  pointwise []
  iterate 3 (try after_results_simp; pointwise [])
  rfl

theorem vs (i : Fin 4096) (d : Fin 256) : (V m c main_v82 : S4096x256.Idx → EReal) (ix2 i d) = st i d := by
  show (StableHlo.after hostOps0_2 (StableHlo.after hostOps0_1 (StableHlo.after hostOps0 fun b => m (c, b))) (Proc.devRef .tc main_v82) : S4096x256.Idx → EReal) (ix2 i d) = _
  after_results_simp
  pointwise []
  iterate 3 (try after_results_simp; pointwise [])
  rfl

theorem vx (i : Fin 4096) (z : Fin 1024) : (V m c main_v104 : S4096x1024.Idx → EReal) (ix2 i z) = fill (fun e => a0 m c (ix4 0 i (hd z) e)) (z % 256) := by
  have e (d : Fin 192) : shapeCast S4096x4x192 (a0 m c) shapeCasts_S1x4096x4x192_S4096x4x192 (ix3 i (hd z) d) = a0 m c (ix4 0 i (hd z) d) := by pointwise []
  refine Eq.trans ?_ ((rd (shapeCast S4096x4x192 (a0 m c) shapeCasts_S1x4096x4x192_S4096x4x192) i z).trans (congrArg (fun f => fill f _) (funext e)))
  show (StableHlo.after hostOps0_2 (StableHlo.after hostOps0_1 (StableHlo.after hostOps0 fun b => m (c, b))) (Proc.devRef .tc main_v104) : S4096x1024.Idx → EReal) (ix2 i z) = _
  after_results_simp
  rfl

theorem vv (i : Fin 4096) (u : Fin 512) : (V m c main_v106 : S4096x512.Idx → EReal) (ix2 i u)
    = a1 m c (ix4 0 i ⟨u / 128, by omega⟩ ⟨u % 128, Nat.mod_lt _ (by decide)⟩) := by
  show (StableHlo.after hostOps0_2 (StableHlo.after hostOps0_1 (StableHlo.after hostOps0 fun b => m (c, b))) (Proc.devRef .tc main_v106) : S4096x512.Idx → EReal) (ix2 i u) = _
  after_results_simp
  pointwise []

/-- The block indices of a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] :=
  (by decide +kernel : ∀ t : Fin grid0.N, _)

section
variable (t : Fin cfg0.N) (r : Fin 512) (i : Fin 4096) (ei : (i : ℕ) = t.val * 512 + r)

include ei

theorem bx (z : Fin 1024) : (iblk m c 0 t : Vec Ideal S512x1024 .f32) (ix2 r z) = fill (fun e => a0 m c (ix4 0 i (hd z) e)) (z % 256) := by
  refine Eq.trans ?_ (vx m c i z)
  obtain ⟨X, hV⟩ : ∃ X, V m c main_v104 = X := ⟨_, rfl⟩
  rw [hV]
  show (iblk m c 0 t : Vec Ideal S512x1024 .f32) (ix2 r z) = _
  blk_point [iblk, hV, idx t]

theorem bv (u : Fin 512) : (iblk m c 1 t : Vec Ideal S512x512 .f32) (ix2 r u) = a1 m c (ix4 0 i ⟨u / 128, by omega⟩ ⟨u % 128, Nat.mod_lt _ (by decide)⟩) := by
  refine Eq.trans ?_ (vv m c i u)
  obtain ⟨X, hV⟩ : ∃ X, V m c main_v106 = X := ⟨_, rfl⟩
  rw [hV]
  show (iblk m c 1 t : Vec Ideal S512x512 .f32) (ix2 r u) = _
  blk_point [iblk, hV, idx t]

theorem bc' (d : Fin 256) : (iblk m c 2 t : Vec Ideal S512x256 .f32) (ix2 r d) = ct i d := by
  refine Eq.trans ?_ (vc m c i d)
  obtain ⟨X, hV⟩ : ∃ X, V m c main_v77 = X := ⟨_, rfl⟩
  rw [hV]
  show (iblk m c 2 t : Vec Ideal S512x256 .f32) (ix2 r d) = _
  blk_point [iblk, hV, idx t]

theorem bs' (d : Fin 256) : (iblk m c 3 t : Vec Ideal S512x256 .f32) (ix2 r d) = st i d := by
  refine Eq.trans ?_ (vs m c i d)
  obtain ⟨X, hV⟩ : ∃ X, V m c main_v82 = X := ⟨_, rfl⟩
  rw [hV]
  show (iblk m c 3 t : Vec Ideal S512x256 .f32) (ix2 r d) = _
  blk_point [iblk, hV, idx t]

theorem point4 (z : Fin 1024) :
    out0_4 (F := Ideal) (iblk m c 0 t) (iblk m c 1 t) (iblk m c 2 t) (iblk m c 3 t) (ix2 r z) = wz (a0 m c) (a1 m c) i z := by
  refine (pay4 _ _ _ _ (ix2 r z)).trans ?_
  show side (iblk m c 0 t) (iblk m c 1 t) r z = _
  have hz := z.isLt
  by_cases h : (z : ℕ) % 256 < 128
  · rw [side, if_pos h, bx m c t r i ei, wz, dif_pos h, fill, dif_pos (by omega)]
  · rw [side, if_neg h, bv m c t r i ei, wz, dif_neg h]
    refine congrArg (a1 m c) (ix4_of _ rfl rfl (Fin.ext ?_) (Fin.ext ?_)).symm
    · show (z : ℕ) / 256 = ((z : ℕ) / 256 * 128 + (z : ℕ) % 128) / 128
      omega
    · show (z : ℕ) % 256 - 128 = ((z : ℕ) / 256 * 128 + (z : ℕ) % 128) % 128
      omega

theorem head (d : Fin 128) (h : Fin 4) (u u' : Fin 1024) (hu : (u : ℕ) = h * 256 + (128 + d)) (hu' : (u' : ℕ) = h * 256 + (128 + sw d)) :
    kt ((iblk m c 0 t : Vec Ideal S512x1024 .f32) (ix2 r u)) ((iblk m c 0 t : Vec Ideal S512x1024 .f32) (ix2 r u'))
        ((iblk m c 2 t : Vec Ideal S512x256 .f32) (ix2 r ⟨128 + d, by omega⟩)) ((iblk m c 3 t : Vec Ideal S512x256 .f32) (ix2 r ⟨128 + d, by omega⟩))
      = kt (fill (fun e => a0 m c (ix4 0 i h e)) (128 + d)) (fill (fun e => a0 m c (ix4 0 i h e)) (asw (128 + d))) (ct i (128 + d)) (st i (128 + d)) := by
  have hd' := d.isLt
  have hs := (sw d).isLt
  have e0 : hd u = h := Fin.ext (by show (u : ℕ) / 256 = h; omega)
  have e1 : hd u' = h := Fin.ext (by show (u' : ℕ) / 256 = h; omega)
  have e2 : (u : ℕ) % 256 = 128 + d := by omega
  have e3 : (u' : ℕ) % 256 = 128 + sw d := by omega
  rw [bx m c t r i ei, bx m c t r i ei, bc' m c t r i ei, bs' m c t r i ei, e0, e1, e2, e3, asw_hi]

theorem point5 (d : Fin 128) :
    out0_5 (F := Ideal) (iblk m c 0 t) (iblk m c 1 t) (iblk m c 2 t) (iblk m c 3 t) (ix2 r d) = kz (a0 m c) i d := by
  refine (pay5 _ _ _ _ r d).trans ?_
  unfold kz keys
  have H := head m c t r i ei d
  exact congrArg₂ (· + ·) (congrArg₂ (· + ·) (congrArg₂ (· + ·)
    (H 0 _ _ (by show 128 + (d : ℕ) = 0 * 256 + _; omega) (by show 128 + (sw d : ℕ) = 0 * 256 + _; omega))
    (H 1 _ _ (by show 384 + (d : ℕ) = 1 * 256 + _; omega) (by show 384 + (sw d : ℕ) = 1 * 256 + _; omega)))
    (H 2 _ _ (by show 640 + (d : ℕ) = 2 * 256 + _; omega) (by show 640 + (sw d : ℕ) = 2 * 256 + _; omega)))
    (H 3 _ _ (by show 896 + (d : ℕ) = 3 * 256 + _; omega) (by show 896 + (sw d : ℕ) = 3 * 256 + _; omega))

end

/-- The kernel's two results. -/
theorem final4 : (dats m 0 c).arrAt 4 cfg0.N = ((fun y => wz (a0 m c) (a1 m c) (y 0) (y 1)) : S4096x1024.Idx → EReal) := by
  refine (dats m 0 c).arrAt_eq_of_covers 4 _ (by decide +kernel) fun t hf y => ?_
  blk_simp
  have e0 : (((win0_4.blk t).view.emb y 0 : Fin 4096) : ℕ) = t.val * 512 + (y 0 : Fin 512) := by blk_simp [idx t]
  have e1 : ((win0_4.blk t).view.emb y 1 : Fin 1024) = (y 1 : Fin 1024) := Fin.ext (by blk_simp [idx t])
  rw [after0_4]
  refine (congrArg _ (ix2_eta (n0 := 512) (n1 := 1024) y).symm).trans ?_
  exact (point4 m c t (y 0) _ e0 (y 1)).trans (congrArg (wz (a0 m c) (a1 m c) _) e1.symm)

theorem final5 : (dats m 0 c).arrAt 5 cfg0.N = ((fun y => kz (a0 m c) (y 0) (y 1)) : S4096x128.Idx → EReal) := by
  refine (dats m 0 c).arrAt_eq_of_covers 5 _ (by decide +kernel) fun t hf y => ?_
  blk_simp
  have e0 : (((win0_5.blk t).view.emb y 0 : Fin 4096) : ℕ) = t.val * 512 + (y 0 : Fin 512) := by blk_simp [idx t]
  have e1 : ((win0_5.blk t).view.emb y 1 : Fin 128) = (y 1 : Fin 128) := Fin.ext (by blk_simp [idx t])
  rw [after0_5]
  refine (congrArg _ (ix2_eta (n0 := 512) (n1 := 128) y).symm).trans ?_
  exact (point5 m c t (y 0) _ e0 (y 1)).trans (congrArg (kz (a0 m c) _) e1.symm)

/-- Sums over the axes of the heads, one of size one among them. -/
theorem sum_heads {n : ℕ} (h : (⟨4, ![1, 4096, n, 64]⟩ : Shape).ReducesTo [0, 2] ⟨2, ![4096, 64]⟩) (v : (⟨4, ![1, 4096, n, 64]⟩ : Shape).Idx → EReal)
    (a : EReal) (i : Fin 4096) (d : Fin 64) : Ideal.hostReduceAdd h v a (ix2 i d) = a + ∑ g : Fin n, v (ix4 0 i g d) := by
  unfold Ideal.hostReduceAdd
  have : Finset.univ.filter (fun z => h.drop z = ix2 i d) = Finset.univ.image (fun g : Fin n => (ix4 0 i g d : (⟨4, ![1, 4096, n, 64]⟩ : Shape).Idx)) := by
    ext z
    simp only [Finset.mem_filter, Finset.mem_univ, true_and, Finset.mem_image]
    constructor
    · intro e
      refine ⟨z 2, (ix4_of z (Subsingleton.elim (α := Fin 1) _ _) ?_ rfl ?_).symm⟩
      · exact Fin.ext (congrArg Fin.val (congrFun e 0))
      · exact Fin.ext (congrArg Fin.val (congrFun e 1))
    · rintro ⟨g, rfl⟩
      funext x
      fin_cases x <;> rfl
  rw [this, Finset.sum_image fun g _ g' _ e => congrFun e 2]

section
variable (x : A4.Idx → EReal) (y : B4.Idx → EReal) (i : Fin 4096)

open Cert.LatRIdeal.Read

/-- The reference's first result at an index. -/
theorem ref4 (z : Fin 1024) : val_main_v62 (F := Ideal) x y (ix2 i z) = wz x y i z := by
  unfold wz
  pointwise [val_main_v42, val_main_v46, val_main_v47, val_main_v61, val_main_v62]

/-- The heads' sum of a column. -/
abbrev hs (e : Fin 192) : EReal := ∑ h : Fin 4, x (ix4 0 i h e)

theorem v44 (e : Fin 64) : val_main_v44 (F := Ideal) x (ix2 i e) = hs x i ⟨128 + e, by omega⟩ := by
  pointwise [val_main_v44]
  refine (sum_heads _ _ _ i e).trans ?_
  simp only [val_main_cst_5_apply]
  pointwise [val_main_v43]

theorem v58 (e : Fin 64) : val_main_v58 (F := Ideal) x (ix2 i e) = val_main_v57 (F := Ideal) x (ix4 0 i 0 e) := by
  pointwise [val_main_v58]
  refine (sum_heads _ _ _ i e).trans ?_
  simp only [val_main_cst_6_apply, Fin.sum_univ_one]
  pointwise []

theorem v57 (e : Fin 64) : val_main_v57 (F := Ideal) x (ix4 0 i 0 e)
    = if h2 : (e : ℕ) < 32 then hs x i ⟨128 + (32 + e), by omega⟩ * Ideal.sin (ang 0x42800000#32 i e) + hs x i ⟨128 + e, by omega⟩ * Ideal.cos (ang 0x42800000#32 i e)
      else hs x i ⟨128 + (32 + (e - 32)), by omega⟩ * Ideal.cos (ang 0x42800000#32 i (e - 32)) + -hs x i ⟨128 + (e - 32), by omega⟩ * Ideal.sin (ang 0x42800000#32 i (e - 32)) := by
  pointwise [val_main_v3, val_main_v4, val_main_cst_1, val_main_v5, val_main_v6, val_main_cst_2, val_main_v7, val_main_v8,
    val_main_v9, val_main_cst_3, val_main_v10, val_main_v11, val_main_cst_4, val_main_v12, val_main_v13, val_main_v14,
    val_main_v15, val_main_v16, val_main_v17, val_main_v18, val_main_v19, val_main_v20, val_main_v21, val_main_v22,
    val_main_v23, val_main_v26, val_main_v28, val_main_v31, val_main_v33, val_main_v45, val_main_v48, val_main_v49, val_main_v50, val_main_v51, val_main_v52,
    val_main_v53, val_main_v54, val_main_v55, val_main_v56, val_main_v57]
  simp only [v44]
  rfl

/-- The reference's second result at an index. -/
theorem ref5 (d : Fin 128) (hx : ∀ j, IsReal (x j)) : val_main_v64 (F := Ideal) x (ix2 i d) = kz x i d := by
  obtain ⟨X, hX⟩ := choose_real hx
  have hk := keys_sum (ang 0x42800000#32 i) (ang_real i) (fun h e => X (ix4 0 i h e)) (128 + d)
  have hk' : kz x i d = _ := (show kz x i d = _ by rw [hX]; rfl : kz x i d = keys (ang 0x42800000#32 i) (fun h e => ((X (ix4 0 i h e) : ℝ) : EReal)) (128 + d)).trans hk
  refine Eq.trans ?_ (hk'.trans (tail (ang 0x42800000#32 i) _ d d.isLt)).symm
  have hY (e : Fin 192) : (∑ h : Fin 4, ((X (ix4 0 i h e) : ℝ) : EReal)) = hs x i e := by rw [hX]
  simp only [hY]
  pointwise [val_main_v59, val_main_c, val_main_call0_v0, val_main_v60, val_main_v63, val_main_v64]
  exact dite_congr rfl (fun h => (v58 x i _).trans (v57 x i _)) (fun _ => zero_word)

end

/-- The precondition: every element of the first array is a real number. -/
theorem reals (x0 : FVec Ideal Cert.Pre_lat_finite.S1x4096x4x192 .f32) (x1 : FVec Ideal Cert.Pre_lat_finite.S1x4096x4x128 .f32)
    [Cert.Pre_lat_finite.Facts] (h : Cert.Pre_lat_finite.fn (F := Ideal) x0 x1 = fun _ => 1#1) : ∀ i, IsReal (x0 i) := by
  have e := congrFun h (fun a => a.elim0)
  unfold Cert.Pre_lat_finite.fn at e
  exact isReal_of_all _ _ _ _ _ _ e

theorem eq4 : Cert.LatRIdeal.Read.val_main_v62 (F := Ideal) (a0 m c) (a1 m c) = (dats m 0 c).arrAt 4 cfg0.N := by
  rw [final4]
  funext y
  exact (congrArg _ (ix2_eta (n0 := 4096) (n1 := 1024) y).symm).trans (ref4 (a0 m c) (a1 m c) (y 0) (y 1))

theorem eq5 (h : ∀ i, IsReal (a0 m c i)) : Cert.LatRIdeal.Read.val_main_v64 (F := Ideal) (a0 m c) = (dats m 0 c).arrAt 5 cfg0.N := by
  rw [final5]
  funext y
  exact (congrArg _ (ix2_eta (n0 := 4096) (n1 := 128) y).symm).trans (ref5 (a0 m c) (y 0) (y 1) h)

/-- The reference runs; its arguments stay. -/
theorem frame_ref : Cert.quiescent_LatRIdeal := fun m ρ _ =>
  (θ_run Cert.LatRIdeal.defs _ _).mono (fun r h => ⟨fun c => (h c).2.2, sem_eq_zero_of_no_sems (by decide) r.2⟩)
    (Cert.LatRIdeal.Value.run (F := Ideal) m ρ)

theorem value : Cert.algebraic_LatKIdeal_LatRIdeal_pre_lat_finite := by
  pair_intro
  · run_from Cert.LatKIdeal.Value.run_blocks m g
  · run_from Cert.LatRIdeal.Value.run m' g'
    · rw [Cert.LatRIdeal.Read.val_main_v62_eq]
      exact eq4 m c
    · rw [Cert.LatRIdeal.Read.val_main_v64_eq, (hagree c).1]
      exact eq5 m c (reals _ _ (hpre c))

end Cert.LatEq
end
-- ==== Proof.NfAClaim.lean ====
/- The norm of the query latents, forwards: what the kernel's result holds, the reference at an index, and the claims. -/
module

public import proofs.«01_k».proof.Defs
public import proofs.«01_k».proof.Proof.Norms
public import proofs.«01_k».proof.Proof.Attn
public import proofs.«01_k».proof.Proof.Gen.NfAKIdeal.Value
public import proofs.«01_k».proof.Proof.Gen.NfARIdeal.Read
public import proofs.«01_k».proof.Proof.Gen.NfARIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NfAEq

open Cert.NfAKIdeal Cert.NfAKIdeal.Gen Cert.Norms Cert.Attn

/-- The row's length, the small constant, and the rows of the arguments. -/
abbrev N : EReal := Ideal.ofBits .f32 0x44000000#32
abbrev E : EReal := Ideal.ofBits .f32 0x358637BD#32
abbrev rx (X : S4096x512.Idx → EReal) (h : Fin 1) (i : Fin 4096) : Fin 512 → EReal := fun d => X (ix2 i d)
abbrev gr (G : S512.Idx → EReal) : Fin 512 → EReal := fun d => G (ix1 d)
abbrev br (X : S1024x512.Idx → EReal) (r : Fin 1024) : Fin 512 → EReal := fun d => X (ix2 r d)
abbrev b1 (X : S1x512.Idx → EReal) : Fin 512 → EReal := fun d => X (ix2 0 d)

variable (m : (ℓ : Loc nD τ sig) → Buf (Elt Ideal) ℓ) (c : Dev nD)

abbrev a0 : S4096x512.Idx → EReal := m ((c : Thread nD τ).loc main_arg0)
abbrev a1 : S512.Idx → EReal := m ((c : Thread nD τ).loc main_arg1)

/-- The head and the place of a column, and the result there. -/
abbrev hd (z : Fin 512) : Fin 1 := 0
abbrev ln (z : Fin 512) : Fin 512 := z
def ny (x : S4096x512.Idx → EReal) (g : S512.Idx → EReal) (i : Fin 4096) (z : Fin 512) : EReal := nx N E (rx x (hd z) i) (ln z) * gr g (ln z)

/-- What one grid point computes. -/
theorem pay (x : S1024x512.Idx → EReal) (g : S1x512.Idx → EReal) (r : Fin 1024) (d : Fin 512) :
    out0_2 (F := Ideal) x g (ix2 r d) = nx N E (br x r) d * b1 g d := by
  frame_out
  pointwise [k0_pay1]
  rfl

/-- The block indices of a grid point. -/
theorem idx : ∀ t : Fin cfg0.N, win0_0.index t = ![t.val, 0] ∧ win0_1.index t = ![0, 0] ∧ win0_2.index t = ![t.val, 0] :=
  (by decide +kernel : ∀ t : Fin grid0.N, _)

/-- The gain's row. -/
theorem vg (d : Fin 512) : (V m c main_v0 : S1x512.Idx → EReal) (ix2 0 d) = a1 m c (ix1 d) := by
  show (StableHlo.after hostOps0 (fun b => m (c, b)) (Proc.devRef .tc main_v0) : S1x512.Idx → EReal) (ix2 0 d) = _
  after_results_simp
  pointwise []

section
variable (t : Fin cfg0.N) (r : Fin 1024) (h : Fin 1) (i : Fin 4096) (eh : (h : ℕ) = 0) (ei : (i : ℕ) = t.val * 1024 + r)
include eh ei

/-- The blocks of a grid point hold rows of the arguments. -/
theorem bx : br (iblk m c 0 t) r = rx (a0 m c) h i := by
  funext d
  blk_point [br, iblk, V, idx t]

end

theorem bg (t : Fin cfg0.N) : b1 (iblk m c 1 t) = gr (a1 m c) := by
  funext d
  refine Eq.trans ?_ (vg m c d)
  obtain ⟨X, hV⟩ : ∃ X, V m c main_v0 = X := ⟨_, rfl⟩
  rw [hV]
  show (iblk m c 1 t : Vec Ideal S1x512 .f32) (ix2 0 d) = _
  blk_point [iblk, hV, idx t]

theorem point (t : Fin cfg0.N) (r : Fin 1024) (d : Fin 512) (i : Fin 4096) (z : Fin 512) (ei : (i : ℕ) = t.val * 1024 + r) (ez : (z : ℕ) = d) :
    out0_2 (F := Ideal) (iblk m c 0 t) (iblk m c 1 t) (ix2 r d) = ny (a0 m c) (a1 m c) i z := by
  have hd' := d.isLt
  have eh : (hd z : ℕ) = 0 := rfl
  have el : d = ln z := Fin.ext (ez.symm)
  exact (pay _ _ r d).trans (by rw [ny, bx m c t r _ _ eh ei, bg, ← el])

/-- The kernel's result. -/
theorem final : (dats m 0 c).arrAt 2 cfg0.N = ((fun y => ny (a0 m c) (a1 m c) (y 0) (y 1)) : S4096x512.Idx → EReal) := by
  refine (dats m 0 c).arrAt_eq_of_covers 2 _ (by decide +kernel) fun t hf y => ?_
  blk_simp
  have e0 : (((win0_2.blk t).view.emb y 0 : Fin 4096) : ℕ) = t.val * 1024 + (y 0 : Fin 1024) := by blk_simp [idx t]
  have e1 : (((win0_2.blk t).view.emb y 1 : Fin 512) : ℕ) = (y 1 : Fin 512) := by blk_simp [idx t]
  rw [after0_2]
  refine (congrArg _ (ix2_eta (n0 := 1024) (n1 := 512) y).symm).trans ?_
  exact point m c t (y 0) (y 1) _ _ e0 e1

open Cert.NfARIdeal.Read in
/-- The reference at an index. -/
theorem ref (x : S4096x512.Idx → EReal) (g : S512.Idx → EReal) (i : Fin 4096) (z : Fin 512) : val_main_v13 (F := Ideal) x g (ix2 i z) = ny x g i z := by
  pointwise [val_main_v0, val_main_cst, val_main_v1, val_main_v2, val_main_cst_0, val_main_v3, val_main_v4, val_main_cst_1, val_main_v5,
    val_main_v6, val_main_v7, val_main_v8, val_main_v9, val_main_v10, val_main_v11, val_main_v12, val_main_v13]
  rfl

theorem eq : Cert.NfARIdeal.Read.val_main_v13 (F := Ideal) (a0 m c) (a1 m c) = (dats m 0 c).arrAt 2 cfg0.N := by
  rw [final]
  funext y
  exact (congrArg _ (ix2_eta (n0 := 4096) (n1 := 512) y).symm).trans (ref (a0 m c) (a1 m c) (y 0) (y 1))

/-- The reference runs; its arguments stay. -/
theorem frame_ref : Cert.quiescent_NfARIdeal := fun m ρ _ =>
  (θ_run Cert.NfARIdeal.defs _ _).mono (fun r h => ⟨fun c => (h c).2, sem_eq_zero_of_no_sems (by decide) r.2⟩)
    (Cert.NfARIdeal.Value.run (F := Ideal) m ρ)

theorem value : Cert.algebraic_NfAKIdeal_NfARIdeal := by
  pair_intro
  · run_from Cert.NfAKIdeal.Gen.run_main m g
    all_goals first | exact V_main_arg0 m c | exact V_main_arg1 m c | skip
  · run_from Cert.NfARIdeal.Value.run m' g'
    rw [Cert.NfARIdeal.Read.val_main_v13_eq]
    exact eq m c

end Cert.NfAEq
end
-- ==== Proof.NfBClaim.lean ====
/- The norm of the rows of 768 columns, forwards: what the kernel's result holds, the reference at an index, and the claims. -/
module

public import proofs.«01_k».proof.Defs
public import proofs.«01_k».proof.Proof.Norms
public import proofs.«01_k».proof.Proof.Attn
public import proofs.«01_k».proof.Proof.Gen.NfBKIdeal.Value
public import proofs.«01_k».proof.Proof.Gen.NfBRIdeal.Read
public import proofs.«01_k».proof.Proof.Gen.NfBRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NfBEq

open Cert.NfBKIdeal Cert.NfBKIdeal.Gen Cert.Norms Cert.Attn

/-- The row's length, the small constant, and the rows of the arguments. -/
abbrev N : EReal := Ideal.ofBits .f32 0x44400000#32
abbrev E : EReal := Ideal.ofBits .f32 0x358637BD#32
abbrev rx (X : S4096x768.Idx → EReal) (h : Fin 1) (i : Fin 4096) : Fin 768 → EReal := fun d => X (ix2 i d)
abbrev gr (G : S768.Idx → EReal) : Fin 768 → EReal := fun d => G (ix1 d)
abbrev br (X : S512x768.Idx → EReal) (r : Fin 512) : Fin 768 → EReal := fun d => X (ix2 r d)
abbrev b1 (X : S1x768.Idx → EReal) : Fin 768 → EReal := fun d => X (ix2 0 d)

variable (m : (ℓ : Loc nD τ sig) → Buf (Elt Ideal) ℓ) (c : Dev nD)

abbrev a0 : S4096x768.Idx → EReal := m ((c : Thread nD τ).loc main_arg0)
abbrev a1 : S768.Idx → EReal := m ((c : Thread nD τ).loc main_arg1)

/-- The head and the place of a column, and the result there. -/
abbrev hd (z : Fin 768) : Fin 1 := 0
abbrev ln (z : Fin 768) : Fin 768 := z
def ny (x : S4096x768.Idx → EReal) (g : S768.Idx → EReal) (i : Fin 4096) (z : Fin 768) : EReal := nx N E (rx x (hd z) i) (ln z) * gr g (ln z)

/-- What one grid point computes. -/
theorem pay (x : S512x768.Idx → EReal) (g : S1x768.Idx → EReal) (r : Fin 512) (d : Fin 768) :
    out0_2 (F := Ideal) x g (ix2 r d) = nx N E (br x r) d * b1 g d := by
  frame_out
  pointwise [k0_pay1]
  rfl

/-- The block indices of a grid point. -/
theorem idx : ∀ t : Fin cfg0.N, win0_0.index t = ![t.val, 0] ∧ win0_1.index t = ![0, 0] ∧ win0_2.index t = ![t.val, 0] :=
  (by decide +kernel : ∀ t : Fin grid0.N, _)

/-- The gain's row. -/
theorem vg (d : Fin 768) : (V m c main_v0 : S1x768.Idx → EReal) (ix2 0 d) = a1 m c (ix1 d) := by
  show (StableHlo.after hostOps0 (fun b => m (c, b)) (Proc.devRef .tc main_v0) : S1x768.Idx → EReal) (ix2 0 d) = _
  after_results_simp
  pointwise []

section
variable (t : Fin cfg0.N) (r : Fin 512) (h : Fin 1) (i : Fin 4096) (eh : (h : ℕ) = 0) (ei : (i : ℕ) = t.val * 512 + r)
include eh ei

/-- The blocks of a grid point hold rows of the arguments. -/
theorem bx : br (iblk m c 0 t) r = rx (a0 m c) h i := by
  funext d
  blk_point [br, iblk, V, idx t]

end

theorem bg (t : Fin cfg0.N) : b1 (iblk m c 1 t) = gr (a1 m c) := by
  funext d
  refine Eq.trans ?_ (vg m c d)
  obtain ⟨X, hV⟩ : ∃ X, V m c main_v0 = X := ⟨_, rfl⟩
  rw [hV]
  show (iblk m c 1 t : Vec Ideal S1x768 .f32) (ix2 0 d) = _
  blk_point [iblk, hV, idx t]

theorem point (t : Fin cfg0.N) (r : Fin 512) (d : Fin 768) (i : Fin 4096) (z : Fin 768) (ei : (i : ℕ) = t.val * 512 + r) (ez : (z : ℕ) = d) :
    out0_2 (F := Ideal) (iblk m c 0 t) (iblk m c 1 t) (ix2 r d) = ny (a0 m c) (a1 m c) i z := by
  have hd' := d.isLt
  have eh : (hd z : ℕ) = 0 := rfl
  have el : d = ln z := Fin.ext (ez.symm)
  exact (pay _ _ r d).trans (by rw [ny, bx m c t r _ _ eh ei, bg, ← el])

/-- The kernel's result. -/
theorem final : (dats m 0 c).arrAt 2 cfg0.N = ((fun y => ny (a0 m c) (a1 m c) (y 0) (y 1)) : S4096x768.Idx → EReal) := by
  refine (dats m 0 c).arrAt_eq_of_covers 2 _ (by decide +kernel) fun t hf y => ?_
  blk_simp
  have e0 : (((win0_2.blk t).view.emb y 0 : Fin 4096) : ℕ) = t.val * 512 + (y 0 : Fin 512) := by blk_simp [idx t]
  have e1 : (((win0_2.blk t).view.emb y 1 : Fin 768) : ℕ) = (y 1 : Fin 768) := by blk_simp [idx t]
  rw [after0_2]
  refine (congrArg _ (ix2_eta (n0 := 512) (n1 := 768) y).symm).trans ?_
  exact point m c t (y 0) (y 1) _ _ e0 e1

open Cert.NfBRIdeal.Read in
/-- The reference at an index. -/
theorem ref (x : S4096x768.Idx → EReal) (g : S768.Idx → EReal) (i : Fin 4096) (z : Fin 768) : val_main_v13 (F := Ideal) x g (ix2 i z) = ny x g i z := by
  pointwise [val_main_v0, val_main_cst, val_main_v1, val_main_v2, val_main_cst_0, val_main_v3, val_main_v4, val_main_cst_1, val_main_v5,
    val_main_v6, val_main_v7, val_main_v8, val_main_v9, val_main_v10, val_main_v11, val_main_v12, val_main_v13]
  rfl

theorem eq : Cert.NfBRIdeal.Read.val_main_v13 (F := Ideal) (a0 m c) (a1 m c) = (dats m 0 c).arrAt 2 cfg0.N := by
  rw [final]
  funext y
  exact (congrArg _ (ix2_eta (n0 := 4096) (n1 := 768) y).symm).trans (ref (a0 m c) (a1 m c) (y 0) (y 1))

/-- The reference runs; its arguments stay. -/
theorem frame_ref : Cert.quiescent_NfBRIdeal := fun m ρ _ =>
  (θ_run Cert.NfBRIdeal.defs _ _).mono (fun r h => ⟨fun c => (h c).2, sem_eq_zero_of_no_sems (by decide) r.2⟩)
    (Cert.NfBRIdeal.Value.run (F := Ideal) m ρ)

theorem value : Cert.algebraic_NfBKIdeal_NfBRIdeal := by
  pair_intro
  · run_from Cert.NfBKIdeal.Gen.run_main m g
    all_goals first | exact V_main_arg0 m c | exact V_main_arg1 m c | skip
  · run_from Cert.NfBRIdeal.Value.run m' g'
    rw [Cert.NfBRIdeal.Read.val_main_v13_eq]
    exact eq m c

end Cert.NfBEq
end
-- ==== Proof.NfDClaim.lean ====
/- The norm of the model's rows, forwards: what the kernel's result holds, the reference at an index, and the claims. -/
module

public import proofs.«01_k».proof.Defs
public import proofs.«01_k».proof.Proof.Norms
public import proofs.«01_k».proof.Proof.Attn
public import proofs.«01_k».proof.Proof.Gen.NfDKIdeal.Value
public import proofs.«01_k».proof.Proof.Gen.NfDRIdeal.Read
public import proofs.«01_k».proof.Proof.Gen.NfDRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NfDEq

open Cert.NfDKIdeal Cert.NfDKIdeal.Gen Cert.Norms Cert.Attn

/-- The row's length, the small constant, and the rows of the arguments. -/
abbrev N : EReal := Ideal.ofBits .f32 0x45000000#32
abbrev E : EReal := Ideal.ofBits .f32 0x358637BD#32
abbrev rx (X : S4096x2048.Idx → EReal) (h : Fin 1) (i : Fin 4096) : Fin 2048 → EReal := fun d => X (ix2 i d)
abbrev gr (G : S2048.Idx → EReal) : Fin 2048 → EReal := fun d => G (ix1 d)
abbrev br (X : S256x2048.Idx → EReal) (r : Fin 256) : Fin 2048 → EReal := fun d => X (ix2 r d)
abbrev b1 (X : S1x2048.Idx → EReal) : Fin 2048 → EReal := fun d => X (ix2 0 d)

variable (m : (ℓ : Loc nD τ sig) → Buf (Elt Ideal) ℓ) (c : Dev nD)

abbrev a0 : S4096x2048.Idx → EReal := m ((c : Thread nD τ).loc main_arg0)
abbrev a1 : S2048.Idx → EReal := m ((c : Thread nD τ).loc main_arg1)

/-- The head and the place of a column, and the result there. -/
abbrev hd (z : Fin 2048) : Fin 1 := 0
abbrev ln (z : Fin 2048) : Fin 2048 := z
def ny (x : S4096x2048.Idx → EReal) (g : S2048.Idx → EReal) (i : Fin 4096) (z : Fin 2048) : EReal := nx N E (rx x (hd z) i) (ln z) * gr g (ln z)

/-- What one grid point computes. -/
theorem pay (x : S256x2048.Idx → EReal) (g : S1x2048.Idx → EReal) (r : Fin 256) (d : Fin 2048) :
    out0_2 (F := Ideal) x g (ix2 r d) = nx N E (br x r) d * b1 g d := by
  frame_out
  pointwise [k0_pay1]
  rfl

/-- The block indices of a grid point. -/
theorem idx : ∀ t : Fin cfg0.N, win0_0.index t = ![t.val, 0] ∧ win0_1.index t = ![0, 0] ∧ win0_2.index t = ![t.val, 0] :=
  (by decide +kernel : ∀ t : Fin grid0.N, _)

/-- The gain's row. -/
theorem vg (d : Fin 2048) : (V m c main_v0 : S1x2048.Idx → EReal) (ix2 0 d) = a1 m c (ix1 d) := by
  show (StableHlo.after hostOps0 (fun b => m (c, b)) (Proc.devRef .tc main_v0) : S1x2048.Idx → EReal) (ix2 0 d) = _
  after_results_simp
  pointwise []

section
variable (t : Fin cfg0.N) (r : Fin 256) (h : Fin 1) (i : Fin 4096) (eh : (h : ℕ) = 0) (ei : (i : ℕ) = t.val * 256 + r)
include eh ei

/-- The blocks of a grid point hold rows of the arguments. -/
theorem bx : br (iblk m c 0 t) r = rx (a0 m c) h i := by
  funext d
  blk_point [br, iblk, V, idx t]

end

theorem bg (t : Fin cfg0.N) : b1 (iblk m c 1 t) = gr (a1 m c) := by
  funext d
  refine Eq.trans ?_ (vg m c d)
  obtain ⟨X, hV⟩ : ∃ X, V m c main_v0 = X := ⟨_, rfl⟩
  rw [hV]
  show (iblk m c 1 t : Vec Ideal S1x2048 .f32) (ix2 0 d) = _
  blk_point [iblk, hV, idx t]

theorem point (t : Fin cfg0.N) (r : Fin 256) (d : Fin 2048) (i : Fin 4096) (z : Fin 2048) (ei : (i : ℕ) = t.val * 256 + r) (ez : (z : ℕ) = d) :
    out0_2 (F := Ideal) (iblk m c 0 t) (iblk m c 1 t) (ix2 r d) = ny (a0 m c) (a1 m c) i z := by
  have hd' := d.isLt
  have eh : (hd z : ℕ) = 0 := rfl
  have el : d = ln z := Fin.ext (ez.symm)
  exact (pay _ _ r d).trans (by rw [ny, bx m c t r _ _ eh ei, bg, ← el])

/-- The kernel's result. -/
theorem final : (dats m 0 c).arrAt 2 cfg0.N = ((fun y => ny (a0 m c) (a1 m c) (y 0) (y 1)) : S4096x2048.Idx → EReal) := by
  refine (dats m 0 c).arrAt_eq_of_covers 2 _ (by decide +kernel) fun t hf y => ?_
  blk_simp
  have e0 : (((win0_2.blk t).view.emb y 0 : Fin 4096) : ℕ) = t.val * 256 + (y 0 : Fin 256) := by blk_simp [idx t]
  have e1 : (((win0_2.blk t).view.emb y 1 : Fin 2048) : ℕ) = (y 1 : Fin 2048) := by blk_simp [idx t]
  rw [after0_2]
  refine (congrArg _ (ix2_eta (n0 := 256) (n1 := 2048) y).symm).trans ?_
  exact point m c t (y 0) (y 1) _ _ e0 e1

open Cert.NfDRIdeal.Read in
/-- The reference at an index. -/
theorem ref (x : S4096x2048.Idx → EReal) (g : S2048.Idx → EReal) (i : Fin 4096) (z : Fin 2048) : val_main_v13 (F := Ideal) x g (ix2 i z) = ny x g i z := by
  pointwise [val_main_v0, val_main_cst, val_main_v1, val_main_v2, val_main_cst_0, val_main_v3, val_main_v4, val_main_cst_1, val_main_v5,
    val_main_v6, val_main_v7, val_main_v8, val_main_v9, val_main_v10, val_main_v11, val_main_v12, val_main_v13]
  rfl

theorem eq : Cert.NfDRIdeal.Read.val_main_v13 (F := Ideal) (a0 m c) (a1 m c) = (dats m 0 c).arrAt 2 cfg0.N := by
  rw [final]
  funext y
  exact (congrArg _ (ix2_eta (n0 := 4096) (n1 := 2048) y).symm).trans (ref (a0 m c) (a1 m c) (y 0) (y 1))

/-- The reference runs; its arguments stay. -/
theorem frame_ref : Cert.quiescent_NfDRIdeal := fun m ρ _ =>
  (θ_run Cert.NfDRIdeal.defs _ _).mono (fun r h => ⟨fun c => (h c).2, sem_eq_zero_of_no_sems (by decide) r.2⟩)
    (Cert.NfDRIdeal.Value.run (F := Ideal) m ρ)

theorem value : Cert.algebraic_NfDKIdeal_NfDRIdeal := by
  pair_intro
  · run_from Cert.NfDKIdeal.Gen.run_main m g
    all_goals first | exact V_main_arg0 m c | exact V_main_arg1 m c | skip
  · run_from Cert.NfDRIdeal.Value.run m' g'
    rw [Cert.NfDRIdeal.Read.val_main_v13_eq]
    exact eq m c

end Cert.NfDEq
end
-- ==== Proof.NfLClaim.lean ====
/- The norm of the latent columns, forwards: what the kernel's result holds, the reference at an index, and the claims. -/
module

public import proofs.«01_k».proof.Defs
public import proofs.«01_k».proof.Proof.Norms
public import proofs.«01_k».proof.Proof.Attn
public import proofs.«01_k».proof.Proof.Gen.NfLKIdeal.Value
public import proofs.«01_k».proof.Proof.Gen.NfLRIdeal.Read
public import proofs.«01_k».proof.Proof.Gen.NfLRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NfLEq

open Cert.NfLKIdeal Cert.NfLKIdeal.Gen Cert.Norms Cert.Attn

/-- The row's length, the small constant, and the rows of the arguments. -/
abbrev N : EReal := Ideal.ofBits .f32 0x44000000#32
abbrev E : EReal := Ideal.ofBits .f32 0x358637BD#32
abbrev rx (X : S4096x512.Idx → EReal) (h : Fin 1) (i : Fin 4096) : Fin 512 → EReal := fun d => X (ix2 i d)
abbrev gr (G : S512.Idx → EReal) : Fin 512 → EReal := fun d => G (ix1 d)
abbrev br (X : S1024x512.Idx → EReal) (r : Fin 1024) : Fin 512 → EReal := fun d => X (ix2 r d)
abbrev b1 (X : S1x512.Idx → EReal) : Fin 512 → EReal := fun d => X (ix2 0 d)

variable (m : (ℓ : Loc nD τ sig) → Buf (Elt Ideal) ℓ) (c : Dev nD)

abbrev a0 : S4096x512.Idx → EReal := m ((c : Thread nD τ).loc main_arg0)
abbrev a1 : S512.Idx → EReal := m ((c : Thread nD τ).loc main_arg1)

/-- The head and the place of a column, and the result there. -/
abbrev hd (z : Fin 512) : Fin 1 := 0
abbrev ln (z : Fin 512) : Fin 512 := z
def ny (x : S4096x512.Idx → EReal) (g : S512.Idx → EReal) (i : Fin 4096) (z : Fin 512) : EReal := nx N E (rx x (hd z) i) (ln z) * gr g (ln z)

/-- What one grid point computes. -/
theorem pay (x : S1024x512.Idx → EReal) (g : S1x512.Idx → EReal) (r : Fin 1024) (d : Fin 512) :
    out0_2 (F := Ideal) x g (ix2 r d) = nx N E (br x r) d * b1 g d := by
  frame_out
  pointwise [k0_pay1]
  rfl

/-- The block indices of a grid point. -/
theorem idx : ∀ t : Fin cfg0.N, win0_0.index t = ![t.val, 1] ∧ win0_1.index t = ![0, 0] ∧ win0_2.index t = ![t.val, 0] :=
  (by decide +kernel : ∀ t : Fin grid0.N, _)

/-- The gain's row. -/
theorem vg (d : Fin 512) : (V m c main_v1 : S1x512.Idx → EReal) (ix2 0 d) = a1 m c (ix1 d) := by
  show (StableHlo.after hostOps0_2 (StableHlo.after hostOps0_1 (StableHlo.after hostOps0 fun b => m (c, b))) (Proc.devRef .tc main_v1) : S1x512.Idx → EReal) (ix2 0 d) = _
  after_results_simp
  pointwise []

/-- The latent columns in the packed array. -/
theorem vx (i : Fin 4096) (h : Fin 1) (d : Fin 512) (z : Fin 5120) (hz : (z : ℕ) = 512 + d) : (V m c main_v0 : S4096x5120.Idx → EReal) (ix2 i z) = a0 m c (ix2 i d) := by
  show (StableHlo.after hostOps0_2 (StableHlo.after hostOps0_1 (StableHlo.after hostOps0 fun b => m (c, b))) (Proc.devRef .tc main_v0) : S4096x5120.Idx → EReal) (ix2 i z) = _
  after_results_simp
  have hd := d.isLt
  show pad S4096x5120 ![0, 512] ![0, 4096] ![0, 0] (a0 m c) (sitofp (F := Ideal) .f32 (constantI S_ 32 0#32)) pads_S4096x512_S4096x5120_000_51240960 h_S_ (ix2 i z) = _
  pointwise []
  rw [dif_pos (by omega)]
  exact congrArg (fun q => a0 m c (ix2 i q)) (Fin.ext (by show (z : ℕ) - 512 = d; omega))

section
variable (t : Fin cfg0.N) (r : Fin 1024) (h : Fin 1) (i : Fin 4096) (eh : (h : ℕ) = 0) (ei : (i : ℕ) = t.val * 1024 + r)
include eh ei

/-- The blocks of a grid point hold rows of the arguments. -/
theorem bx : br (iblk m c 0 t) r = rx (a0 m c) h i := by
  funext d
  refine Eq.trans ?_ (vx m c i h d ⟨512 + d, by omega⟩ rfl)
  obtain ⟨X, hV⟩ : ∃ X, V m c main_v0 = X := ⟨_, rfl⟩
  rw [hV]
  show (iblk m c 0 t : Vec Ideal S1024x512 .f32) (ix2 r d) = _
  blk_point [iblk, hV, idx t]

end

theorem bg (t : Fin cfg0.N) : b1 (iblk m c 1 t) = gr (a1 m c) := by
  funext d
  refine Eq.trans ?_ (vg m c d)
  obtain ⟨X, hV⟩ : ∃ X, V m c main_v1 = X := ⟨_, rfl⟩
  rw [hV]
  show (iblk m c 1 t : Vec Ideal S1x512 .f32) (ix2 0 d) = _
  blk_point [iblk, hV, idx t]

theorem point (t : Fin cfg0.N) (r : Fin 1024) (d : Fin 512) (i : Fin 4096) (z : Fin 512) (ei : (i : ℕ) = t.val * 1024 + r) (ez : (z : ℕ) = d) :
    out0_2 (F := Ideal) (iblk m c 0 t) (iblk m c 1 t) (ix2 r d) = ny (a0 m c) (a1 m c) i z := by
  have hd' := d.isLt
  have eh : (hd z : ℕ) = 0 := rfl
  have el : d = ln z := Fin.ext (ez.symm)
  exact (pay _ _ r d).trans (by rw [ny, bx m c t r _ _ eh ei, bg, ← el])

/-- The kernel's result. -/
theorem final : (dats m 0 c).arrAt 2 cfg0.N = ((fun y => ny (a0 m c) (a1 m c) (y 0) (y 1)) : S4096x512.Idx → EReal) := by
  refine (dats m 0 c).arrAt_eq_of_covers 2 _ (by decide +kernel) fun t hf y => ?_
  blk_simp
  have e0 : (((win0_2.blk t).view.emb y 0 : Fin 4096) : ℕ) = t.val * 1024 + (y 0 : Fin 1024) := by blk_simp [idx t]
  have e1 : (((win0_2.blk t).view.emb y 1 : Fin 512) : ℕ) = (y 1 : Fin 512) := by blk_simp [idx t]
  rw [after0_2]
  refine (congrArg _ (ix2_eta (n0 := 1024) (n1 := 512) y).symm).trans ?_
  exact point m c t (y 0) (y 1) _ _ e0 e1

open Cert.NfLRIdeal.Read in
/-- The reference at an index. -/
theorem ref (x : S4096x512.Idx → EReal) (g : S512.Idx → EReal) (i : Fin 4096) (z : Fin 512) : val_main_v13 (F := Ideal) x g (ix2 i z) = ny x g i z := by
  pointwise [val_main_v0, val_main_cst, val_main_v1, val_main_v2, val_main_cst_0, val_main_v3, val_main_v4, val_main_cst_1, val_main_v5,
    val_main_v6, val_main_v7, val_main_v8, val_main_v9, val_main_v10, val_main_v11, val_main_v12, val_main_v13]
  rfl

theorem eq : Cert.NfLRIdeal.Read.val_main_v13 (F := Ideal) (a0 m c) (a1 m c) = (dats m 0 c).arrAt 2 cfg0.N := by
  rw [final]
  funext y
  exact (congrArg _ (ix2_eta (n0 := 4096) (n1 := 512) y).symm).trans (ref (a0 m c) (a1 m c) (y 0) (y 1))

/-- The reference runs; its arguments stay. -/
theorem frame_ref : Cert.quiescent_NfLRIdeal := fun m ρ _ =>
  (θ_run Cert.NfLRIdeal.defs _ _).mono (fun r h => ⟨fun c => (h c).2, sem_eq_zero_of_no_sems (by decide) r.2⟩)
    (Cert.NfLRIdeal.Value.run (F := Ideal) m ρ)

theorem value : Cert.algebraic_NfLKIdeal_NfLRIdeal := by
  pair_intro
  · run_from Cert.NfLKIdeal.Gen.run_main m g
    all_goals first | exact V_main_arg0 m c | exact V_main_arg1 m c | skip
  · run_from Cert.NfLRIdeal.Value.run m' g'
    rw [Cert.NfLRIdeal.Read.val_main_v13_eq]
    exact eq m c

end Cert.NfLEq
end
-- ==== Proof.NfQClaim.lean ====
/- The norm of C's queries, forwards: what the kernel's result holds, the reference at an index, and the claims. -/
module

public import proofs.«01_k».proof.Defs
public import proofs.«01_k».proof.Proof.Norms
public import proofs.«01_k».proof.Proof.Attn
public import proofs.«01_k».proof.Proof.Gen.NfQKIdeal.Value
public import proofs.«01_k».proof.Proof.Gen.NfQRIdeal.Read
public import proofs.«01_k».proof.Proof.Gen.NfQRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NfQEq

open Cert.NfQKIdeal Cert.NfQKIdeal.Gen Cert.Norms Cert.Attn

/-- The row's length, the small constant, and the rows of the arguments. -/
abbrev N : EReal := Ideal.ofBits .f32 0x43000000#32
abbrev E : EReal := Ideal.ofBits .f32 0x358637BD#32
abbrev rx (X : S4096x6x128.Idx → EReal) (h : Fin 6) (i : Fin 4096) : Fin 128 → EReal := fun d => X (ix3 i h d)
abbrev gr (G : S128.Idx → EReal) : Fin 128 → EReal := fun d => G (ix1 d)
abbrev br (X : S4096x128.Idx → EReal) (r : Fin 4096) : Fin 128 → EReal := fun d => X (ix2 r d)
abbrev b1 (X : S1x128.Idx → EReal) : Fin 128 → EReal := fun d => X (ix2 0 d)

variable (m : (ℓ : Loc nD τ sig) → Buf (Elt Ideal) ℓ) (c : Dev nD)

abbrev a0 : S4096x6x128.Idx → EReal := m ((c : Thread nD τ).loc main_arg0)
abbrev a1 : S128.Idx → EReal := m ((c : Thread nD τ).loc main_arg1)

/-- The head and the place of a column, and the result there. -/
abbrev hd (z : Fin 768) : Fin 6 := ⟨z / 128, by have := z.isLt; omega⟩
abbrev ln (z : Fin 768) : Fin 128 := ⟨z % 128, Nat.mod_lt _ (by decide)⟩
def ny (x : S4096x6x128.Idx → EReal) (g : S128.Idx → EReal) (i : Fin 4096) (z : Fin 768) : EReal := nx N E (rx x (hd z) i) (ln z) * gr g (ln z)

/-- What one grid point computes. -/
theorem pay (x : S4096x128.Idx → EReal) (g : S1x128.Idx → EReal) (r : Fin 4096) (d : Fin 128) :
    out0_2 (F := Ideal) x g (ix2 r d) = nx N E (br x r) d * b1 g d := by
  frame_out
  pointwise [k0_pay1]
  rfl

/-- The block indices of a grid point. -/
theorem idx : ∀ t : Fin cfg0.N, win0_0.index t = ![0, 30 + t.val] ∧ win0_1.index t = ![0, 0] ∧ win0_2.index t = ![0, t.val] :=
  (by decide +kernel : ∀ t : Fin grid0.N, _)

/-- The gain's row. -/
theorem vg (d : Fin 128) : (V m c main_v2 : S1x128.Idx → EReal) (ix2 0 d) = a1 m c (ix1 d) := by
  show (StableHlo.after hostOps0_2 (StableHlo.after hostOps0_1 (StableHlo.after hostOps0 fun b => m (c, b))) (Proc.devRef .tc main_v2) : S1x128.Idx → EReal) (ix2 0 d) = _
  after_results_simp
  pointwise []

/-- The head's columns in the packed array. -/
theorem vx (i : Fin 4096) (h : Fin 6) (d : Fin 128) (z : Fin 5120) (hz : (z : ℕ) = (30 + h) * 128 + d) :
    (V m c main_v1 : S4096x5120.Idx → EReal) (ix2 i z) = a0 m c (ix3 i h d) := by
  show (StableHlo.after hostOps0_2 (StableHlo.after hostOps0_1 (StableHlo.after hostOps0 fun b => m (c, b))) (Proc.devRef .tc main_v1) : S4096x5120.Idx → EReal) (ix2 i z) = _
  after_results_simp
  have hh := h.isLt
  have hd := d.isLt
  show pad S4096x5120 ![0, 3840] ![0, 512] ![0, 0] (shapeCast S4096x768 (a0 m c) shapeCasts_S4096x6x128_S4096x768)
    (sitofp (F := Ideal) .f32 (constantI S_ 32 0#32)) pads_S4096x768_S4096x5120_000_38405120 h_S_ (ix2 i z) = _
  pointwise []
  rw [dif_pos (by omega)]
  exact congrArg₂ (fun p q => a0 m c (ix3 i p q)) (Fin.ext (by show ((z : ℕ) - 3840) / 128 = h; omega))
    (Fin.ext (by show ((z : ℕ) - 3840) % 128 = d; omega))

section
variable (t : Fin cfg0.N) (r : Fin 4096) (h : Fin 6) (i : Fin 4096) (eh : (h : ℕ) = t.val) (ei : (i : ℕ) = r)
include eh ei

/-- The blocks of a grid point hold rows of the arguments. -/
theorem bx : br (iblk m c 0 t) r = rx (a0 m c) h i := by
  funext d
  refine Eq.trans ?_ (vx m c i h d ⟨(30 + h) * 128 + d, by omega⟩ rfl)
  obtain ⟨X, hV⟩ : ∃ X, V m c main_v1 = X := ⟨_, rfl⟩
  rw [hV]
  show (iblk m c 0 t : Vec Ideal S4096x128 .f32) (ix2 r d) = _
  blk_point [iblk, hV, idx t]

end

theorem bg (t : Fin cfg0.N) : b1 (iblk m c 1 t) = gr (a1 m c) := by
  funext d
  refine Eq.trans ?_ (vg m c d)
  obtain ⟨X, hV⟩ : ∃ X, V m c main_v2 = X := ⟨_, rfl⟩
  rw [hV]
  show (iblk m c 1 t : Vec Ideal S1x128 .f32) (ix2 0 d) = _
  blk_point [iblk, hV, idx t]

theorem point (t : Fin cfg0.N) (r : Fin 4096) (d : Fin 128) (i : Fin 4096) (z : Fin 768) (ei : (i : ℕ) = r) (ez : (z : ℕ) = t.val * 128 + d) :
    out0_2 (F := Ideal) (iblk m c 0 t) (iblk m c 1 t) (ix2 r d) = ny (a0 m c) (a1 m c) i z := by
  have hd' := d.isLt
  have eh : (hd z : ℕ) = t.val := by show (z : ℕ) / 128 = _; omega
  have el : d = ln z := Fin.ext (by show (d : ℕ) = (z : ℕ) % 128; omega)
  exact (pay _ _ r d).trans (by rw [ny, bx m c t r _ _ eh ei, bg, ← el])

/-- The kernel's result. -/
theorem final : (dats m 0 c).arrAt 2 cfg0.N = ((fun y => ny (a0 m c) (a1 m c) (y 0) (y 1)) : S4096x768.Idx → EReal) := by
  refine (dats m 0 c).arrAt_eq_of_covers 2 _ (by decide +kernel) fun t hf y => ?_
  blk_simp
  have e0 : (((win0_2.blk t).view.emb y 0 : Fin 4096) : ℕ) = (y 0 : Fin 4096) := by blk_simp [idx t]
  have e1 : (((win0_2.blk t).view.emb y 1 : Fin 768) : ℕ) = t.val * 128 + (y 1 : Fin 128) := by blk_simp [idx t]
  rw [after0_2]
  refine (congrArg _ (ix2_eta (n0 := 4096) (n1 := 128) y).symm).trans ?_
  exact point m c t (y 0) (y 1) _ _ e0 e1

open Cert.NfQRIdeal.Read in
/-- The reference at an index. -/
theorem ref (x : S4096x6x128.Idx → EReal) (g : S128.Idx → EReal) (i : Fin 4096) (z : Fin 768) : val_main_v13 (F := Ideal) x g (ix2 i z) = ny x g i z := by
  pointwise [val_main_v0, val_main_cst, val_main_v1, val_main_v2, val_main_cst_0, val_main_v3, val_main_v4, val_main_cst_1, val_main_v5,
    val_main_v6, val_main_v7, val_main_v8, val_main_v9, val_main_v10, val_main_v11, val_main_v12, val_main_v13]
  rfl

theorem eq : Cert.NfQRIdeal.Read.val_main_v13 (F := Ideal) (a0 m c) (a1 m c) = (dats m 0 c).arrAt 2 cfg0.N := by
  rw [final]
  funext y
  exact (congrArg _ (ix2_eta (n0 := 4096) (n1 := 768) y).symm).trans (ref (a0 m c) (a1 m c) (y 0) (y 1))

/-- The reference runs; its arguments stay. -/
theorem frame_ref : Cert.quiescent_NfQRIdeal := fun m ρ _ =>
  (θ_run Cert.NfQRIdeal.defs _ _).mono (fun r h => ⟨fun c => (h c).2, sem_eq_zero_of_no_sems (by decide) r.2⟩)
    (Cert.NfQRIdeal.Value.run (F := Ideal) m ρ)

theorem value : Cert.algebraic_NfQKIdeal_NfQRIdeal := by
  pair_intro
  · run_from Cert.NfQKIdeal.Gen.run_main m g
    all_goals first | exact V_main_arg0 m c | exact V_main_arg1 m c | skip
  · run_from Cert.NfQRIdeal.Value.run m' g'
    rw [Cert.NfQRIdeal.Read.val_main_v13_eq]
    exact eq m c

end Cert.NfQEq
end
-- ==== Proof.NfKClaim.lean ====
/- The norm of C's keys, forwards: what the kernel's result holds, the reference at an index, and the claims. -/
module

public import proofs.«01_k».proof.Defs
public import proofs.«01_k».proof.Proof.Norms
public import proofs.«01_k».proof.Proof.Attn
public import proofs.«01_k».proof.Proof.Gen.NfKKIdeal.Value
public import proofs.«01_k».proof.Proof.Gen.NfKRIdeal.Read
public import proofs.«01_k».proof.Proof.Gen.NfKRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NfKEq

open Cert.NfKKIdeal Cert.NfKKIdeal.Gen Cert.Norms Cert.Attn

/-- The row's length, the small constant, and the rows of the arguments. -/
abbrev N : EReal := Ideal.ofBits .f32 0x43000000#32
abbrev E : EReal := Ideal.ofBits .f32 0x358637BD#32
abbrev rx (X : S4096x2x128.Idx → EReal) (h : Fin 2) (i : Fin 4096) : Fin 128 → EReal := fun d => X (ix3 i h d)
abbrev gr (G : S128.Idx → EReal) : Fin 128 → EReal := fun d => G (ix1 d)
abbrev br (X : S4096x128.Idx → EReal) (r : Fin 4096) : Fin 128 → EReal := fun d => X (ix2 r d)
abbrev b1 (X : S1x128.Idx → EReal) : Fin 128 → EReal := fun d => X (ix2 0 d)

variable (m : (ℓ : Loc nD τ sig) → Buf (Elt Ideal) ℓ) (c : Dev nD)

abbrev a0 : S4096x2x128.Idx → EReal := m ((c : Thread nD τ).loc main_arg0)
abbrev a1 : S128.Idx → EReal := m ((c : Thread nD τ).loc main_arg1)

/-- The head and the place of a column, and the result there. -/
abbrev hd (z : Fin 256) : Fin 2 := ⟨z / 128, by have := z.isLt; omega⟩
abbrev ln (z : Fin 256) : Fin 128 := ⟨z % 128, Nat.mod_lt _ (by decide)⟩
def ny (x : S4096x2x128.Idx → EReal) (g : S128.Idx → EReal) (i : Fin 4096) (z : Fin 256) : EReal := nx N E (rx x (hd z) i) (ln z) * gr g (ln z)

/-- What one grid point computes. -/
theorem pay (x : S4096x128.Idx → EReal) (g : S1x128.Idx → EReal) (r : Fin 4096) (d : Fin 128) :
    out0_2 (F := Ideal) x g (ix2 r d) = nx N E (br x r) d * b1 g d := by
  frame_out
  pointwise [k0_pay1]
  rfl

/-- The block indices of a grid point. -/
theorem idx : ∀ t : Fin cfg0.N, win0_0.index t = ![0, 36 + t.val] ∧ win0_1.index t = ![0, 0] ∧ win0_2.index t = ![0, t.val] :=
  (by decide +kernel : ∀ t : Fin grid0.N, _)

/-- The gain's row. -/
theorem vg (d : Fin 128) : (V m c main_v2 : S1x128.Idx → EReal) (ix2 0 d) = a1 m c (ix1 d) := by
  show (StableHlo.after hostOps0_2 (StableHlo.after hostOps0_1 (StableHlo.after hostOps0 fun b => m (c, b))) (Proc.devRef .tc main_v2) : S1x128.Idx → EReal) (ix2 0 d) = _
  after_results_simp
  pointwise []

/-- The head's columns in the packed array. -/
theorem vx (i : Fin 4096) (h : Fin 2) (d : Fin 128) (z : Fin 5120) (hz : (z : ℕ) = (36 + h) * 128 + d) :
    (V m c main_v1 : S4096x5120.Idx → EReal) (ix2 i z) = a0 m c (ix3 i h d) := by
  show (StableHlo.after hostOps0_2 (StableHlo.after hostOps0_1 (StableHlo.after hostOps0 fun b => m (c, b))) (Proc.devRef .tc main_v1) : S4096x5120.Idx → EReal) (ix2 i z) = _
  after_results_simp
  have hh := h.isLt
  have hd := d.isLt
  show pad S4096x5120 ![0, 4608] ![0, 256] ![0, 0] (shapeCast S4096x256 (a0 m c) shapeCasts_S4096x2x128_S4096x256)
    (sitofp (F := Ideal) .f32 (constantI S_ 32 0#32)) pads_S4096x256_S4096x5120_000_46082560 h_S_ (ix2 i z) = _
  pointwise []
  rw [dif_pos (by omega)]
  exact congrArg₂ (fun p q => a0 m c (ix3 i p q)) (Fin.ext (by show ((z : ℕ) - 4608) / 128 = h; omega))
    (Fin.ext (by show ((z : ℕ) - 4608) % 128 = d; omega))

section
variable (t : Fin cfg0.N) (r : Fin 4096) (h : Fin 2) (i : Fin 4096) (eh : (h : ℕ) = t.val) (ei : (i : ℕ) = r)
include eh ei

/-- The blocks of a grid point hold rows of the arguments. -/
theorem bx : br (iblk m c 0 t) r = rx (a0 m c) h i := by
  funext d
  refine Eq.trans ?_ (vx m c i h d ⟨(36 + h) * 128 + d, by omega⟩ rfl)
  obtain ⟨X, hV⟩ : ∃ X, V m c main_v1 = X := ⟨_, rfl⟩
  rw [hV]
  show (iblk m c 0 t : Vec Ideal S4096x128 .f32) (ix2 r d) = _
  blk_point [iblk, hV, idx t]

end

theorem bg (t : Fin cfg0.N) : b1 (iblk m c 1 t) = gr (a1 m c) := by
  funext d
  refine Eq.trans ?_ (vg m c d)
  obtain ⟨X, hV⟩ : ∃ X, V m c main_v2 = X := ⟨_, rfl⟩
  rw [hV]
  show (iblk m c 1 t : Vec Ideal S1x128 .f32) (ix2 0 d) = _
  blk_point [iblk, hV, idx t]

theorem point (t : Fin cfg0.N) (r : Fin 4096) (d : Fin 128) (i : Fin 4096) (z : Fin 256) (ei : (i : ℕ) = r) (ez : (z : ℕ) = t.val * 128 + d) :
    out0_2 (F := Ideal) (iblk m c 0 t) (iblk m c 1 t) (ix2 r d) = ny (a0 m c) (a1 m c) i z := by
  have hd' := d.isLt
  have eh : (hd z : ℕ) = t.val := by show (z : ℕ) / 128 = _; omega
  have el : d = ln z := Fin.ext (by show (d : ℕ) = (z : ℕ) % 128; omega)
  exact (pay _ _ r d).trans (by rw [ny, bx m c t r _ _ eh ei, bg, ← el])

/-- The kernel's result. -/
theorem final : (dats m 0 c).arrAt 2 cfg0.N = ((fun y => ny (a0 m c) (a1 m c) (y 0) (y 1)) : S4096x256.Idx → EReal) := by
  refine (dats m 0 c).arrAt_eq_of_covers 2 _ (by decide +kernel) fun t hf y => ?_
  blk_simp
  have e0 : (((win0_2.blk t).view.emb y 0 : Fin 4096) : ℕ) = (y 0 : Fin 4096) := by blk_simp [idx t]
  have e1 : (((win0_2.blk t).view.emb y 1 : Fin 256) : ℕ) = t.val * 128 + (y 1 : Fin 128) := by blk_simp [idx t]
  rw [after0_2]
  refine (congrArg _ (ix2_eta (n0 := 4096) (n1 := 128) y).symm).trans ?_
  exact point m c t (y 0) (y 1) _ _ e0 e1

open Cert.NfKRIdeal.Read in
/-- The reference at an index. -/
theorem ref (x : S4096x2x128.Idx → EReal) (g : S128.Idx → EReal) (i : Fin 4096) (z : Fin 256) : val_main_v13 (F := Ideal) x g (ix2 i z) = ny x g i z := by
  pointwise [val_main_v0, val_main_cst, val_main_v1, val_main_v2, val_main_cst_0, val_main_v3, val_main_v4, val_main_cst_1, val_main_v5,
    val_main_v6, val_main_v7, val_main_v8, val_main_v9, val_main_v10, val_main_v11, val_main_v12, val_main_v13]
  rfl

theorem eq : Cert.NfKRIdeal.Read.val_main_v13 (F := Ideal) (a0 m c) (a1 m c) = (dats m 0 c).arrAt 2 cfg0.N := by
  rw [final]
  funext y
  exact (congrArg _ (ix2_eta (n0 := 4096) (n1 := 256) y).symm).trans (ref (a0 m c) (a1 m c) (y 0) (y 1))

/-- The reference runs; its arguments stay. -/
theorem frame_ref : Cert.quiescent_NfKRIdeal := fun m ρ _ =>
  (θ_run Cert.NfKRIdeal.defs _ _).mono (fun r h => ⟨fun c => (h c).2, sem_eq_zero_of_no_sems (by decide) r.2⟩)
    (Cert.NfKRIdeal.Value.run (F := Ideal) m ρ)

theorem value : Cert.algebraic_NfKKIdeal_NfKRIdeal := by
  pair_intro
  · run_from Cert.NfKKIdeal.Gen.run_main m g
    all_goals first | exact V_main_arg0 m c | exact V_main_arg1 m c | skip
  · run_from Cert.NfKRIdeal.Value.run m' g'
    rw [Cert.NfKRIdeal.Read.val_main_v13_eq]
    exact eq m c

end Cert.NfKEq
end
-- ==== Proof.RopesFwd.lean ====
/- The rotation of pairs of columns by angles that grow with the position, forwards: one row of the kernel, one row of
the reference, and their equality. -/
module

public import proofs.«01_k».proof.Proof.Ropes

@[expose] public section

noncomputable section

open Idealize.ShloMosaic

namespace Cert.Ropes

/-- A rotated entry as the kernel writes it, and the lower entry of a pair. -/
def rf (x x' C S : EReal) : EReal := x * C + x' * S

theorem rf_lo (x x' C S : EReal) : rf x x' C (-S) = x * C - x' * S := by
  rw [rf, mul_neg, sub_eq_add_neg]

theorem rf_id (x x' : EReal) : rf x x' 1 0 = x := by
  rw [rf, mul_zero, add_zero, mul_one]

theorem whole_fwd (a : ℕ → EReal) (X : Fin 128 → EReal) (l : ℕ) (hl : l < 128) (hr : (l + 128 - 64) % 128 < 128) :
    rf (X ⟨l, hl⟩) (X ⟨(l + 128 - 64) % 128, hr⟩) (bc a l) (bs a l)
      = if h : l < 64 then X ⟨l, hl⟩ * Ideal.cos (a l) - X ⟨64 + l, by omega⟩ * Ideal.sin (a l)
        else X ⟨64 + (l - 64), by omega⟩ * Ideal.cos (a (l - 64)) + X ⟨l - 64, by omega⟩ * Ideal.sin (a (l - 64)) := by
  have fx (n k : ℕ) (hn : n < 128) (hk : k < 128) (e : n = k) : X ⟨n, hn⟩ = X ⟨k, hk⟩ := congrArg X (Fin.ext e)
  by_cases h : l < 64
  · rw [dif_pos h, bc, bs, if_pos h, if_pos h, rf_lo, fx _ (64 + l) hr (by omega) (by omega)]
  · rw [dif_neg h, bc, bs, if_neg h, if_neg h, fx _ (l - 64) hr (by omega) (by omega), fx (64 + (l - 64)) l (by omega) hl (by omega)]
    rfl

theorem axial_fwd (u w : ℕ → EReal) (X : Fin 128 → EReal) (l : ℕ) (hl : l < 128) :
    rf (X ⟨l, hl⟩) (X (sw ⟨l, hl⟩)) (cc u w l) (cs u w l)
      = if h : l < 64 then
          if h1 : l < 32 then X ⟨l, hl⟩ * Ideal.cos (u l) - X ⟨32 + l, by omega⟩ * Ideal.sin (u l)
          else X ⟨32 + (l - 32), by omega⟩ * Ideal.cos (u (l - 32)) + X ⟨l - 32, by omega⟩ * Ideal.sin (u (l - 32))
        else
          if h1 : l - 64 < 32 then X ⟨64 + (l - 64), by omega⟩ * Ideal.cos (w (l - 64)) - X ⟨64 + (32 + (l - 64)), by omega⟩ * Ideal.sin (w (l - 64))
          else X ⟨64 + (32 + (l - 64 - 32)), by omega⟩ * Ideal.cos (w (l - 64 - 32)) + X ⟨64 + (l - 64 - 32), by omega⟩ * Ideal.sin (w (l - 64 - 32)) := by
  have lo (h : l % 64 < 32) : (sw ⟨l, hl⟩ : ℕ) = l + 32 := sw_lo h
  have hi (h : ¬ l % 64 < 32) : (sw ⟨l, hl⟩ : ℕ) = l - 32 := sw_hi h
  have fx (s : Fin 128) (n : ℕ) (hn : n < 128) (h : (s : ℕ) = n) : X s = X ⟨n, hn⟩ := congrArg X (Fin.ext h)
  by_cases h : l < 64
  · rw [dif_pos h]
    by_cases h1 : l < 32
    · rw [dif_pos h1, cc, cs, if_pos h1, if_pos h1, rf_lo, fx _ (32 + l) (by omega) ((lo (by omega)).trans (by omega))]
    · rw [dif_neg h1, cc, cs, if_neg h1, if_neg h1, if_pos (by omega), if_pos (by omega), rf, fx _ (l - 32) (by omega) (hi (by omega)),
        fx ⟨l, hl⟩ (32 + (l - 32)) (by omega) (by show l = _; omega)]
  · have e2 : l - 32 - 32 = l - 64 := by omega
    have ec : cc u w l = if l - 64 < 32 then Ideal.cos (w (l - 64)) else Ideal.cos (w (l - 64 - 32)) := by
      rw [cc, if_neg (show ¬ l < 32 by omega), if_neg (show ¬ l - 32 < 32 by omega), e2]
    have es : cs u w l = if l - 64 < 32 then -Ideal.sin (w (l - 64)) else Ideal.sin (w (l - 64 - 32)) := by
      rw [cs, if_neg (show ¬ l < 32 by omega), if_neg (show ¬ l - 32 < 32 by omega), e2]
    rw [dif_neg h, ec, es]
    by_cases h1 : l - 64 < 32
    · rw [dif_pos h1, if_pos h1, if_pos h1, rf_lo, fx _ (64 + (32 + (l - 64))) (by omega) ((lo (by omega)).trans (by omega)),
        fx ⟨l, hl⟩ (64 + (l - 64)) (by omega) (by show l = _; omega)]
    · rw [dif_neg h1, if_neg h1, if_neg h1, rf, fx _ (64 + (l - 64 - 32)) (by omega) ((hi (by omega)).trans (by omega)),
        fx ⟨l, hl⟩ (64 + (32 + (l - 64 - 32))) (by omega) (by show l = _; omega)]

theorem part_fwd (a : ℕ → EReal) (X : Fin 192 → EReal) (P : Prop) [Decidable P] (hP : P) (l : ℕ) (hl : l < 256) :
    rf (fill X l) (fill X (asw l)) (ac a l) (az a l)
      = if h : P ∧ l < 192 then
          if h1 : l < 128 then X ⟨l, by omega⟩
          else if h2 : l - 128 < 32 then X ⟨128 + (l - 128), by omega⟩ * Ideal.cos (a (l - 128)) - X ⟨128 + (32 + (l - 128)), by omega⟩ * Ideal.sin (a (l - 128))
          else X ⟨128 + (32 + (l - 128 - 32)), by omega⟩ * Ideal.cos (a (l - 128 - 32)) + X ⟨128 + (l - 128 - 32), by omega⟩ * Ideal.sin (a (l - 128 - 32))
        else 0 := by
  have fx (n k : ℕ) (hk : k < 192) (h : n = k) : fill X n = X ⟨k, hk⟩ := by rw [h, fill, dif_pos hk]
  by_cases h : l < 192
  · rw [dif_pos ⟨hP, h⟩]
    by_cases h1 : l < 128
    · rw [dif_pos h1, ac, az, if_pos h1, if_pos h1, rf_id, fx l l h rfl]
    · have hm : l % 128 = l - 128 := by omega
      rw [dif_neg h1, ac, az, if_neg h1, if_neg h1]
      by_cases h2 : l - 128 < 32
      · have e := sw_lo (d := ⟨l % 128, Nat.mod_lt _ (by decide)⟩) (by show l % 128 % 64 < 32; omega)
        rw [dif_pos h2, if_pos h2, if_pos h2, rf_lo, fx (asw l) (128 + (32 + (l - 128))) (by omega) (by rw [asw, e]; show l / 128 * 128 + (l % 128 + 32) = _; omega),
          fx l (128 + (l - 128)) (by omega) (by omega)]
      · have e := sw_hi (d := ⟨l % 128, Nat.mod_lt _ (by decide)⟩) (by show ¬ l % 128 % 64 < 32; omega)
        rw [dif_neg h2, if_neg h2, if_neg h2, if_pos (by omega), if_pos (by omega), rf,
          fx (asw l) (128 + (l - 128 - 32)) (by omega) (by rw [asw, e]; show l / 128 * 128 + (l % 128 - 32) = _; omega),
          fx l (128 + (32 + (l - 128 - 32))) (by omega) (by omega)]
  · rw [dif_neg (by omega), ac, az, if_neg (by omega), if_neg (by omega), if_neg (by omega), if_neg (by omega), if_neg (by omega), if_neg (by omega),
      rf_id, fill, dif_neg h]

end Cert.Ropes
end
-- ==== Proof.RfAClaim.lean ====
/- The rotation of the last 64 of 192 columns of each head, forwards on heads filled up to 256 columns: what the
kernel's result holds, the reference at an index, and the claims. -/
module

public import proofs.«01_k».proof.Defs
public import proofs.«01_k».proof.Proof.RopesFwd
public import proofs.«01_k».proof.Proof.Attn
public import proofs.«01_k».proof.Proof.Gen.RfAKIdeal.Value
public import proofs.«01_k».proof.Proof.Gen.RfARIdeal.Read
public import proofs.«01_k».proof.Proof.Gen.RfARIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RfAEq

open Cert.RfAKIdeal Cert.RfAKIdeal.Gen Cert.Attn Cert.Ropes

variable (m : (ℓ : Loc nD τ sig) → Buf (Elt Ideal) ℓ) (c : Dev nD)

abbrev A4 : Shape := ⟨4, ![1, 4096, 4, 192]⟩
abbrev a0 : A4.Idx → EReal := m ((c : Thread nD τ).loc main_arg0)

/-- The rotated entry at a position, a head and a column. -/
abbrev ct (i : ℕ) : ℕ → EReal := ac (ang 0x42800000#32 i)
abbrev st (i : ℕ) : ℕ → EReal := az (ang 0x42800000#32 i)
theorem asw_lt {d : ℕ} (h : d < 256) : asw d < 256 := by
  have := (sw ⟨d % 128, Nat.mod_lt _ (by decide)⟩).isLt
  rw [asw]
  omega
abbrev ot (d : Fin 256) : Fin 256 := ⟨asw d, asw_lt d.isLt⟩
def dx (x : A4.Idx → EReal) (i : Fin 4096) (h : Fin 4) (d : ℕ) : EReal :=
  rf (fill (fun e => x (ix4 0 i h e)) d) (fill (fun e => x (ix4 0 i h e)) (asw d)) (ct i d) (st i d)

/-- The head of a column. -/
abbrev hd (z : Fin 1024) : Fin 4 := ⟨z / 256, by have := z.isLt; omega⟩
def dz (x : A4.Idx → EReal) (i : Fin 4096) (z : Fin 1024) : EReal := dx x i (hd z) (z % 256)

/-- What one grid point computes. -/
theorem pay (x k s : S2048x256.Idx → EReal) (y : S2048x256.Idx) :
    out0_3 (F := Ideal) x k s y = rf (x (ix2 (y 0) (y 1))) (x (ix2 (y 0) (ot (y 1)))) (k (ix2 (y 0) (y 1))) (s (ix2 (y 0) (y 1))) := by
  unfold out0_3
  canon_tiles j h
  all_goals
    have e0 : y 0 = j 0 := Fin.ext h0
    have e1 : y 1 = ⟨_, lt_of_eq_of_lt h1.symm (y 1).isLt⟩ := Fin.ext h1
    rw [e0, e1]
    open_payloads
    pointwise
  · have lt (e : Fin 128) : 128 + (e : ℕ) < 256 := by omega
    have eo : ot ⟨128 + (j 1 : Fin 128), lt _⟩ = ⟨128 + sw (j 1), lt _⟩ := Fin.ext (asw_hi _)
    refine Eq.trans ?_ (congrArg (fun o => rf (x (ix2 (j 0) ⟨128 + (j 1 : Fin 128), lt _⟩)) (x (ix2 (j 0) o)) (k (ix2 (j 0) ⟨128 + (j 1 : Fin 128), lt _⟩))
      (s (ix2 (j 0) ⟨128 + (j 1 : Fin 128), lt _⟩))) eo.symm)
    exact congrArg (fun u => x (ix2 (j 0) ⟨128 + (j 1 : Fin 128), lt _⟩) * k (ix2 (j 0) ⟨128 + (j 1 : Fin 128), lt _⟩)
      + u * s (ix2 (j 0) ⟨128 + (j 1 : Fin 128), lt _⟩)) (pick (fun e => x (ix2 (j 0) ⟨128 + e, lt e⟩)) (j 1) (Nat.mod_lt _ (by decide)) (Nat.mod_lt _ (by decide)))
  · have lt (e : Fin 128) : (e : ℕ) < 256 := by omega
    have eo : ot ⟨(j 1 : Fin 128), lt _⟩ = ⟨sw (j 1), lt _⟩ := Fin.ext (asw_lo _)
    refine Eq.trans ?_ (congrArg (fun o => rf (x (ix2 (j 0) ⟨(j 1 : Fin 128), lt _⟩)) (x (ix2 (j 0) o)) (k (ix2 (j 0) ⟨(j 1 : Fin 128), lt _⟩))
      (s (ix2 (j 0) ⟨(j 1 : Fin 128), lt _⟩))) eo.symm)
    exact congrArg (fun u => x (ix2 (j 0) ⟨(j 1 : Fin 128), lt _⟩) * k (ix2 (j 0) ⟨(j 1 : Fin 128), lt _⟩)
      + u * s (ix2 (j 0) ⟨(j 1 : Fin 128), lt _⟩)) (pick (fun e => x (ix2 (j 0) ⟨e, lt e⟩)) (j 1) (Nat.mod_lt _ (by decide)) (Nat.mod_lt _ (by decide)))

/-- The heads' rows, padded, as columns of a matrix. -/
abbrev padded (x : S4096x4x192.Idx → EReal) (z : IVec S_ 32) : S4096x1024.Idx → EReal :=
  shapeCast S4096x1024 (pad S4096x4x256 ![0, 0, 0] ![0, 0, 64] ![0, 0, 0] x (sitofp (F := Ideal) FTy.f32 z : S_.Idx → EReal)
    pads_S4096x4x192_S4096x4x256_000_000_0640 h_S_) shapeCasts_S4096x4x256_S4096x1024

theorem rd (x : S4096x4x192.Idx → EReal) (i : Fin 4096) (z : Fin 1024) :
    padded x (constantI S_ 32 0#32) (ix2 i z) = fill (fun e => x (ix3 i (hd z) e)) (z % 256) := by
  have hi := i.isLt
  have hz := z.isLt
  refine (shapeCast_apply _ _ _ (ix3 i (hd z) (⟨z % 256, Nat.mod_lt _ (by decide)⟩ : Fin 256)) ?_).trans ?_
  · rw [Shape.rowMajor_val_three, Shape.rowMajor_val_two]
    show ((i : ℕ) * 4 + (z : ℕ) / 256) * 256 + (z : ℕ) % 256 = (i : ℕ) * 1024 + (z : ℕ)
    omega
  · unfold fill
    pointwise []
    by_cases h : (z : ℕ) % 256 < 192
    · rw [dif_pos ⟨(hd z).isLt, h⟩, dif_pos h]
    · rw [dif_neg (fun q => h q.2), dif_neg h]
      exact zero_word

/-- The tables of cosines and sines, and the argument's heads side by side. -/
theorem vc (i : Fin 4096) (d : Fin 256) : (V m c main_v77 : S4096x256.Idx → EReal) (ix2 i d) = ct i d := by
  show (StableHlo.after hostOps0_2 (StableHlo.after hostOps0_1 (StableHlo.after hostOps0 fun b => m (c, b))) (Proc.devRef .tc main_v77) : S4096x256.Idx → EReal) (ix2 i d) = _
  after_results_simp
  pointwise []
  iterate 3 (try after_results_simp; pointwise [])
  rfl

theorem vs (i : Fin 4096) (d : Fin 256) : (V m c main_v82 : S4096x256.Idx → EReal) (ix2 i d) = st i d := by
  show (StableHlo.after hostOps0_2 (StableHlo.after hostOps0_1 (StableHlo.after hostOps0 fun b => m (c, b))) (Proc.devRef .tc main_v82) : S4096x256.Idx → EReal) (ix2 i d) = _
  after_results_simp
  pointwise []
  iterate 3 (try after_results_simp; pointwise [])
  rfl

theorem vx (i : Fin 4096) (z : Fin 1024) : (V m c main_v104 : S4096x1024.Idx → EReal) (ix2 i z) = fill (fun e => a0 m c (ix4 0 i (hd z) e)) (z % 256) := by
  have e (d : Fin 192) : shapeCast S4096x4x192 (a0 m c) shapeCasts_S1x4096x4x192_S4096x4x192 (ix3 i (hd z) d) = a0 m c (ix4 0 i (hd z) d) := by pointwise []
  refine Eq.trans ?_ ((rd (shapeCast S4096x4x192 (a0 m c) shapeCasts_S1x4096x4x192_S4096x4x192) i z).trans (congrArg (fun f => fill f _) (funext e)))
  show (StableHlo.after hostOps0_2 (StableHlo.after hostOps0_1 (StableHlo.after hostOps0 fun b => m (c, b))) (Proc.devRef .tc main_v104) : S4096x1024.Idx → EReal) (ix2 i z) = _
  after_results_simp
  rfl

/-- The block indices of a grid point. -/
theorem idx : ∀ t : Fin cfg0.N, win0_0.index t = ![t.val % 2, t.val / 2] ∧ win0_1.index t = ![t.val % 2, 0] ∧ win0_2.index t = ![t.val % 2, 0]
    ∧ win0_3.index t = ![t.val % 2, t.val / 2] :=
  (by decide +kernel : ∀ t : Fin grid0.N, _)

section
variable (t : Fin cfg0.N) (r : Fin 2048) (d : Fin 256) (i : Fin 4096) (ei : (i : ℕ) = t.val % 2 * 2048 + r)

include ei

theorem bx (h : Fin 4) (eh : (h : ℕ) = t.val / 2) : (iblk m c 0 t : Vec Ideal S2048x256 .f32) (ix2 r d) = fill (fun e => a0 m c (ix4 0 i h e)) d := by
  have hd' := d.isLt
  have hh := h.isLt
  have e0 : hd ⟨h * 256 + d, by omega⟩ = h := Fin.ext (by show ((h : ℕ) * 256 + d) / 256 = h; omega)
  have e1 : ((h : ℕ) * 256 + d) % 256 = d := by omega
  have e := vx m c i ⟨h * 256 + d, by omega⟩
  rw [e0, show ((⟨h * 256 + d, by omega⟩ : Fin 1024) : ℕ) % 256 = d from e1] at e
  refine Eq.trans ?_ e
  obtain ⟨X, hV⟩ : ∃ X, V m c main_v104 = X := ⟨_, rfl⟩
  rw [hV]
  show (iblk m c 0 t : Vec Ideal S2048x256 .f32) (ix2 r d) = _
  blk_point [iblk, hV, idx t]

theorem bc' : (iblk m c 1 t : Vec Ideal S2048x256 .f32) (ix2 r d) = ct i d := by
  refine Eq.trans ?_ (vc m c i d)
  obtain ⟨X, hV⟩ : ∃ X, V m c main_v77 = X := ⟨_, rfl⟩
  rw [hV]
  show (iblk m c 1 t : Vec Ideal S2048x256 .f32) (ix2 r d) = _
  blk_point [iblk, hV, idx t]

theorem bs' : (iblk m c 2 t : Vec Ideal S2048x256 .f32) (ix2 r d) = st i d := by
  refine Eq.trans ?_ (vs m c i d)
  obtain ⟨X, hV⟩ : ∃ X, V m c main_v82 = X := ⟨_, rfl⟩
  rw [hV]
  show (iblk m c 2 t : Vec Ideal S2048x256 .f32) (ix2 r d) = _
  blk_point [iblk, hV, idx t]

theorem point (z : Fin 1024) (ez : (z : ℕ) = t.val / 2 * 256 + d) :
    out0_3 (F := Ideal) (iblk m c 0 t) (iblk m c 1 t) (iblk m c 2 t) (ix2 r d) = dz (a0 m c) i z := by
  have hd' := d.isLt
  have eh : (hd z : ℕ) = t.val / 2 := by show (z : ℕ) / 256 = _; omega
  have el : (z : ℕ) % 256 = d := by omega
  refine (pay _ _ _ (ix2 r d)).trans ?_
  show rf (iblk m c 0 t (ix2 r d)) (iblk m c 0 t (ix2 r (ot d))) (iblk m c 1 t (ix2 r d)) (iblk m c 2 t (ix2 r d)) = _
  rw [bx m c t r d i ei _ eh, bx m c t r _ i ei _ eh, bc' m c t r d i ei, bs' m c t r d i ei, dz, dx, el]

end

/-- The kernel's result. -/
theorem final : (dats m 0 c).arrAt 3 cfg0.N = ((fun y => dz (a0 m c) (y 0) (y 1)) : S4096x1024.Idx → EReal) := by
  refine (dats m 0 c).arrAt_eq_of_covers 3 _ (by decide +kernel) fun t hf y => ?_
  blk_simp
  have e0 : (((win0_3.blk t).view.emb y 0 : Fin 4096) : ℕ) = t.val % 2 * 2048 + (y 0 : Fin 2048) := by blk_simp [idx t]
  have e1 : (((win0_3.blk t).view.emb y 1 : Fin 1024) : ℕ) = t.val / 2 * 256 + (y 1 : Fin 256) := by blk_simp [idx t]
  rw [after0_3]
  refine (congrArg _ (ix2_eta (n0 := 2048) (n1 := 256) y).symm).trans ?_
  exact point m c t (y 0) (y 1) _ e0 _ e1

open Cert.RfARIdeal.Read in
/-- The reference at an index. -/
theorem ref (x : A4.Idx → EReal) (i : Fin 4096) (z : Fin 1024) : val_main_v43 (F := Ideal) x (ix2 i z) = dz x i z := by
  refine Eq.trans ?_ (Eq.symm (part_fwd (ang 0x42800000#32 i) (fun e => x (ix4 0 i (hd z) e)) ((z : ℕ) / 256 < 4) (hd z).isLt (z % 256) (Nat.mod_lt _ (by decide))))
  pointwise [val_main_v0, val_main_v1, val_main_v2, val_main_v3, val_main_cst, val_main_v4, val_main_v5, val_main_cst_0, val_main_v6,
    val_main_v7, val_main_v8, val_main_cst_1, val_main_v9, val_main_v10, val_main_cst_2, val_main_v11, val_main_v12,
    val_main_v13, val_main_v14, val_main_v15, val_main_v16, val_main_v17, val_main_v18, val_main_v19, val_main_v20,
    val_main_v21, val_main_v22, val_main_v23, val_main_v24, val_main_v25, val_main_v26, val_main_v27, val_main_v28,
    val_main_v29, val_main_v30, val_main_v31, val_main_v32, val_main_v33, val_main_v34, val_main_v35, val_main_v36,
    val_main_v37, val_main_v38, val_main_v39, val_main_v40, val_main_c, val_main_call0_v0, val_main_v41, val_main_v42,
    val_main_v43]
  exact dite_congr rfl (fun h => rfl) (fun _ => zero_word)

theorem eq : Cert.RfARIdeal.Read.val_main_v43 (F := Ideal) (a0 m c) = (dats m 0 c).arrAt 3 cfg0.N := by
  rw [final]
  funext y
  exact (congrArg _ (ix2_eta (n0 := 4096) (n1 := 1024) y).symm).trans (ref (a0 m c) (y 0) (y 1))

/-- The reference runs; its argument stays. -/
theorem frame_ref : Cert.quiescent_RfARIdeal := fun m ρ _ =>
  (θ_run Cert.RfARIdeal.defs _ _).mono (fun r h => ⟨fun c => (h c).2, sem_eq_zero_of_no_sems (by decide) r.2⟩)
    (Cert.RfARIdeal.Value.run (F := Ideal) m ρ)

theorem value : Cert.algebraic_RfAKIdeal_RfARIdeal := by
  pair_intro
  · run_from Cert.RfAKIdeal.Gen.run_main m g
    all_goals first | exact V_main_arg0 m c | skip
  · run_from Cert.RfARIdeal.Value.run m' g'
    rw [Cert.RfARIdeal.Read.val_main_v43_eq, hagree c]
    exact eq m c

end Cert.RfAEq
end
-- ==== Proof.RfBClaim.lean ====
/- The rotation RfB, forwards: what the kernel's result holds, the reference at an index, and the claims. -/
module

public import proofs.«01_k».proof.Defs
public import proofs.«01_k».proof.Proof.RopesFwd
public import proofs.«01_k».proof.Proof.Attn
public import proofs.«01_k».proof.Proof.Gen.RfBKIdeal.Value
public import proofs.«01_k».proof.Proof.Gen.RfBRIdeal.Read
public import proofs.«01_k».proof.Proof.Gen.RfBRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RfBEq

open Cert.RfBKIdeal Cert.RfBKIdeal.Gen Cert.Attn Cert.Ropes

variable (m : (ℓ : Loc nD τ sig) → Buf (Elt Ideal) ℓ) (c : Dev nD)

abbrev a0 : (⟨4, ![1, 4096, 6, 128]⟩ : Shape).Idx → EReal := m ((c : Thread nD τ).loc main_arg0)

/-- The head and the place of a column. -/
abbrev hd (z : Fin 768) : Fin 6 := ⟨z / 128, by have := z.isLt; omega⟩
abbrev ln (z : Fin 768) : Fin 128 := ⟨z % 128, Nat.mod_lt _ (by decide)⟩

/-- The rotated entry at a position, a head and a column. -/
abbrev ct (i : ℕ) : ℕ → EReal := bc (ang 0x43000000#32 i)
abbrev st (i : ℕ) : ℕ → EReal := bs (ang 0x43000000#32 i)
abbrev ot (d : Fin 128) : Fin 128 := ⟨(d + 128 - 64) % 128, Nat.mod_lt _ (by decide)⟩
def dx (x : (⟨4, ![1, 4096, 6, 128]⟩ : Shape).Idx → EReal) (i : Fin 4096) (h : Fin 6) (d : Fin 128) : EReal :=
  rf (x (ix4 0 i h d)) (x (ix4 0 i h (ot d))) (ct i d) (st i d)

/-- What one grid point computes. -/
theorem pay (x k s : S4096x128.Idx → EReal) (r : Fin 4096) (d : Fin 128) :
    out0_3 (F := Ideal) x k s (ix2 r d) = rf (x (ix2 r d)) (x (ix2 r (ot d))) (k (ix2 r d)) (s (ix2 r d)) := by
  frame_out
  pointwise [k0_pay1]
  rfl

/-- The tables of cosines and sines, and the argument's heads side by side. -/
theorem vc (i : Fin 4096) (d : Fin 128) : (V m c main_v85 : S4096x128.Idx → EReal) (ix2 i d) = ct i d := by
  show (StableHlo.after hostOps0_1 (StableHlo.after hostOps0 fun b => m (c, b)) (Proc.devRef .tc main_v85) : S4096x128.Idx → EReal) (ix2 i d) = _
  after_results_simp
  pointwise []
  rfl

theorem vs (i : Fin 4096) (d : Fin 128) : (V m c main_v89 : S4096x128.Idx → EReal) (ix2 i d) = st i d := by
  show (StableHlo.after hostOps0_1 (StableHlo.after hostOps0 fun b => m (c, b)) (Proc.devRef .tc main_v89) : S4096x128.Idx → EReal) (ix2 i d) = _
  after_results_simp
  pointwise []
  rfl

theorem vx (i : Fin 4096) (h : Fin 6) (d : Fin 128) (z : Fin 5120) (hz : (z : ℕ) = (12 + h) * 128 + d) :
    (V m c main_v103 : S4096x5120.Idx → EReal) (ix2 i z) = a0 m c (ix4 0 i h d) := by
  show (StableHlo.after hostOps0_1 (StableHlo.after hostOps0 fun b => m (c, b)) (Proc.devRef .tc main_v103) : S4096x5120.Idx → EReal) (ix2 i z) = _
  after_results_simp
  have hh := h.isLt
  have hd := d.isLt
  show pad S4096x5120 ![0, 1536] ![0, 2816] ![0, 0] (shapeCast S4096x768 (a0 m c) shapeCasts_S1x4096x6x128_S4096x768)
    (sitofp (F := Ideal) .f32 (constantI S_ 32 0#32)) pads_S4096x768_S4096x5120_000_153628160 h_S_ (ix2 i z) = _
  pointwise []
  rw [dif_pos (by omega)]
  exact congrArg₂ (fun p q => a0 m c (ix4 0 i p q)) (Fin.ext (by show ((z : ℕ) - 1536) / 128 = h; omega))
    (Fin.ext (by show ((z : ℕ) - 1536) % 128 = d; omega))

/-- The block indices of a grid point. -/
theorem idx : ∀ t : Fin cfg0.N, win0_0.index t = ![0, 12 + t.val] ∧ win0_1.index t = ![0, 0] ∧ win0_2.index t = ![0, 0] ∧ win0_3.index t = ![0, t.val] :=
  (by decide +kernel : ∀ t : Fin grid0.N, _)

section
variable (t : Fin cfg0.N) (r : Fin 4096) (d : Fin 128)

theorem bx (h : Fin 6) (eh : (h : ℕ) = t.val) : (iblk m c 0 t : Vec Ideal S4096x128 .f32) (ix2 r d) = a0 m c (ix4 0 r h d) := by
  have hd' := d.isLt
  have hh := h.isLt
  refine Eq.trans ?_ (vx m c r h d ⟨(12 + h) * 128 + d, by omega⟩ rfl)
  obtain ⟨X, hV⟩ : ∃ X, V m c main_v103 = X := ⟨_, rfl⟩
  rw [hV]
  show (iblk m c 0 t : Vec Ideal S4096x128 .f32) (ix2 r d) = _
  blk_point [iblk, hV, idx t]

theorem bc' : (iblk m c 1 t : Vec Ideal S4096x128 .f32) (ix2 r d) = ct r d := by
  refine Eq.trans ?_ (vc m c r d)
  obtain ⟨X, hV⟩ : ∃ X, V m c main_v85 = X := ⟨_, rfl⟩
  rw [hV]
  show (iblk m c 1 t : Vec Ideal S4096x128 .f32) (ix2 r d) = _
  blk_point [iblk, hV, idx t]

theorem bs' : (iblk m c 2 t : Vec Ideal S4096x128 .f32) (ix2 r d) = st r d := by
  refine Eq.trans ?_ (vs m c r d)
  obtain ⟨X, hV⟩ : ∃ X, V m c main_v89 = X := ⟨_, rfl⟩
  rw [hV]
  show (iblk m c 2 t : Vec Ideal S4096x128 .f32) (ix2 r d) = _
  blk_point [iblk, hV, idx t]

theorem point (i : Fin 4096) (z : Fin 768) (ei : (i : ℕ) = r) (ez : (z : ℕ) = t.val * 128 + d) :
    out0_3 (F := Ideal) (iblk m c 0 t) (iblk m c 1 t) (iblk m c 2 t) (ix2 r d) = dx (a0 m c) i (hd z) (ln z) := by
  have hd' := d.isLt
  have eh : (hd z : ℕ) = t.val := by show (z : ℕ) / 128 = _; omega
  have el : ln z = d := Fin.ext (by show (z : ℕ) % 128 = _; omega)
  obtain rfl : i = r := Fin.ext ei
  refine (pay _ _ _ i d).trans ?_
  rw [bx m c t i d _ eh, bx m c t i _ _ eh, bc', bs', dx, el]

end

/-- The kernel's result. -/
theorem final : (dats m 0 c).arrAt 3 cfg0.N = ((fun y => dx (a0 m c) (y 0) (hd (y 1)) (ln (y 1))) : S4096x768.Idx → EReal) := by
  refine (dats m 0 c).arrAt_eq_of_covers 3 _ (by decide +kernel) fun t hf y => ?_
  blk_simp
  have e0 : (((win0_3.blk t).view.emb y 0 : Fin 4096) : ℕ) = (y 0 : Fin 4096) := by blk_simp [idx t]
  have e1 : (((win0_3.blk t).view.emb y 1 : Fin 768) : ℕ) = t.val * 128 + (y 1 : Fin 128) := by blk_simp [idx t]
  rw [after0_3]
  refine (congrArg _ (ix2_eta (n0 := 4096) (n1 := 128) y).symm).trans ?_
  exact point m c t (y 0) (y 1) _ _ e0 e1

open Cert.RfBRIdeal.Read in
/-- The reference at an index. -/
theorem ref (x : (⟨4, ![1, 4096, 6, 128]⟩ : Shape).Idx → EReal) (i : Fin 4096) (z : Fin 768) : val_main_v39 (F := Ideal) x (ix2 i z) = dx x i (hd z) (ln z) := by
  refine Eq.trans ?_ (Eq.symm (whole_fwd (ang 0x43000000#32 i) (fun e => x (ix4 0 i (hd z) e)) (z % 128) (Nat.mod_lt _ (by decide)) (Nat.mod_lt _ (by decide))))
  pointwise [val_main_v0, val_main_v1, val_main_cst, val_main_v2, val_main_v3, val_main_cst_0, val_main_v4, val_main_v5, val_main_v6,
    val_main_cst_1, val_main_v7, val_main_v8, val_main_cst_2, val_main_v9, val_main_v10, val_main_v11, val_main_v12,
    val_main_v13, val_main_v14, val_main_v15, val_main_v16, val_main_v17, val_main_v18, val_main_v19, val_main_v20,
    val_main_v21, val_main_v22, val_main_v23, val_main_v24, val_main_v25, val_main_v26, val_main_v27, val_main_v28,
    val_main_v29, val_main_v30, val_main_v31, val_main_v32, val_main_v33, val_main_v34, val_main_v35, val_main_v36,
    val_main_v37, val_main_v38, val_main_v39]
  rfl

theorem eq : Cert.RfBRIdeal.Read.val_main_v39 (F := Ideal) (a0 m c) = (dats m 0 c).arrAt 3 cfg0.N := by
  rw [final]
  funext y
  exact (congrArg _ (ix2_eta (n0 := 4096) (n1 := 768) y).symm).trans (ref (a0 m c) (y 0) (y 1))

/-- The reference runs; its argument stays. -/
theorem frame_ref : Cert.quiescent_RfBRIdeal := fun m ρ _ =>
  (θ_run Cert.RfBRIdeal.defs _ _).mono (fun r h => ⟨fun c => (h c).2, sem_eq_zero_of_no_sems (by decide) r.2⟩)
    (Cert.RfBRIdeal.Value.run (F := Ideal) m ρ)

theorem value : Cert.algebraic_RfBKIdeal_RfBRIdeal := by
  pair_intro
  · run_from Cert.RfBKIdeal.Gen.run_main m g
    all_goals first | exact V_main_arg0 m c | skip
  · run_from Cert.RfBRIdeal.Value.run m' g'
    rw [Cert.RfBRIdeal.Read.val_main_v39_eq, hagree c]
    exact eq m c

end Cert.RfBEq
end
-- ==== Proof.RfCClaim.lean ====
/- The rotation RfC, forwards: what the kernel's result holds, the reference at an index, and the claims. -/
module

public import proofs.«01_k».proof.Defs
public import proofs.«01_k».proof.Proof.RopesFwd
public import proofs.«01_k».proof.Proof.Attn
public import proofs.«01_k».proof.Proof.Gen.RfCKIdeal.Value
public import proofs.«01_k».proof.Proof.Gen.RfCRIdeal.Read
public import proofs.«01_k».proof.Proof.Gen.RfCRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RfCEq

open Cert.RfCKIdeal Cert.RfCKIdeal.Gen Cert.Attn Cert.Ropes

variable (m : (ℓ : Loc nD τ sig) → Buf (Elt Ideal) ℓ) (c : Dev nD)

abbrev a0 : (⟨4, ![1, 4096, 6, 128]⟩ : Shape).Idx → EReal := m ((c : Thread nD τ).loc main_arg0)

/-- The head and the place of a column. -/
abbrev hd (z : Fin 768) : Fin 6 := ⟨z / 128, by have := z.isLt; omega⟩
abbrev ln (z : Fin 768) : Fin 128 := ⟨z % 128, Nat.mod_lt _ (by decide)⟩

/-- The rotated entry at a position, a head and a column. -/
abbrev ct (i : ℕ) : ℕ → EReal := cc (ang 0x42800000#32 (i / 64)) (ang 0x42800000#32 (i % 64))
abbrev st (i : ℕ) : ℕ → EReal := cs (ang 0x42800000#32 (i / 64)) (ang 0x42800000#32 (i % 64))
abbrev ot (d : Fin 128) : Fin 128 := sw d
def dx (x : (⟨4, ![1, 4096, 6, 128]⟩ : Shape).Idx → EReal) (i : Fin 4096) (h : Fin 6) (d : Fin 128) : EReal :=
  rf (x (ix4 0 i h d)) (x (ix4 0 i h (ot d))) (ct i d) (st i d)

/-- What one grid point computes. -/
theorem pay (x k s : S4096x128.Idx → EReal) (r : Fin 4096) (d : Fin 128) :
    out0_3 (F := Ideal) x k s (ix2 r d) = rf (x (ix2 r d)) (x (ix2 r (ot d))) (k (ix2 r d)) (s (ix2 r d)) := by
  frame_out
  pointwise [k0_pay1]
  exact congrArg (fun u => x (ix2 r d) * k (ix2 r d) + u * s (ix2 r d)) (pick (fun e => x (ix2 r e)) d _ _)

/-- The tables of cosines and sines, and the argument's heads side by side. -/
theorem vc (i : Fin 4096) (d : Fin 128) : (V m c main_v94 : S4096x128.Idx → EReal) (ix2 i d) = ct i d := by
  show (StableHlo.after hostOps0 (fun b => m (c, b)) (Proc.devRef .tc main_v94) : S4096x128.Idx → EReal) (ix2 i d) = _
  after_results_simp
  pointwise []
  try after_results_simp
  pointwise []
  rfl

theorem vs (i : Fin 4096) (d : Fin 128) : (V m c main_v101 : S4096x128.Idx → EReal) (ix2 i d) = st i d := by
  show (StableHlo.after hostOps0 (fun b => m (c, b)) (Proc.devRef .tc main_v101) : S4096x128.Idx → EReal) (ix2 i d) = _
  after_results_simp
  pointwise []
  try after_results_simp
  pointwise []
  rfl

theorem vx (i : Fin 4096) (z : Fin 768) : (V m c main_v102 : S4096x768.Idx → EReal) (ix2 i z) = a0 m c (ix4 0 i (hd z) (ln z)) := by
  show (StableHlo.after hostOps0 (fun b => m (c, b)) (Proc.devRef .tc main_v102) : S4096x768.Idx → EReal) (ix2 i z) = _
  after_results_simp
  pointwise []

/-- The block indices of a grid point. -/
theorem idx : ∀ t : Fin cfg0.N, win0_0.index t = ![0, t.val] ∧ win0_1.index t = ![0, 0] ∧ win0_2.index t = ![0, 0] ∧ win0_3.index t = ![0, t.val] :=
  (by decide +kernel : ∀ t : Fin grid0.N, _)

section
variable (t : Fin cfg0.N) (r : Fin 4096) (d : Fin 128)

theorem bx (h : Fin 6) (eh : (h : ℕ) = t.val) : (iblk m c 0 t : Vec Ideal S4096x128 .f32) (ix2 r d) = a0 m c (ix4 0 r h d) := by
  have hd' := d.isLt
  have hh := h.isLt
  have e0 : hd ⟨h * 128 + d, by omega⟩ = h := Fin.ext (by show ((h : ℕ) * 128 + d) / 128 = h; omega)
  have e1 : ln ⟨h * 128 + d, by omega⟩ = d := Fin.ext (by show ((h : ℕ) * 128 + d) % 128 = d; omega)
  have e := vx m c r ⟨h * 128 + d, by omega⟩
  rw [e0, e1] at e
  refine Eq.trans ?_ e
  obtain ⟨X, hV⟩ : ∃ X, V m c main_v102 = X := ⟨_, rfl⟩
  rw [hV]
  show (iblk m c 0 t : Vec Ideal S4096x128 .f32) (ix2 r d) = _
  blk_point [iblk, hV, idx t]

theorem bc' : (iblk m c 1 t : Vec Ideal S4096x128 .f32) (ix2 r d) = ct r d := by
  refine Eq.trans ?_ (vc m c r d)
  obtain ⟨X, hV⟩ : ∃ X, V m c main_v94 = X := ⟨_, rfl⟩
  rw [hV]
  show (iblk m c 1 t : Vec Ideal S4096x128 .f32) (ix2 r d) = _
  blk_point [iblk, hV, idx t]

theorem bs' : (iblk m c 2 t : Vec Ideal S4096x128 .f32) (ix2 r d) = st r d := by
  refine Eq.trans ?_ (vs m c r d)
  obtain ⟨X, hV⟩ : ∃ X, V m c main_v101 = X := ⟨_, rfl⟩
  rw [hV]
  show (iblk m c 2 t : Vec Ideal S4096x128 .f32) (ix2 r d) = _
  blk_point [iblk, hV, idx t]

theorem point (i : Fin 4096) (z : Fin 768) (ei : (i : ℕ) = r) (ez : (z : ℕ) = t.val * 128 + d) :
    out0_3 (F := Ideal) (iblk m c 0 t) (iblk m c 1 t) (iblk m c 2 t) (ix2 r d) = dx (a0 m c) i (hd z) (ln z) := by
  have hd' := d.isLt
  have eh : (hd z : ℕ) = t.val := by show (z : ℕ) / 128 = _; omega
  have el : ln z = d := Fin.ext (by show (z : ℕ) % 128 = _; omega)
  obtain rfl : i = r := Fin.ext ei
  refine (pay _ _ _ i d).trans ?_
  rw [bx m c t i d _ eh, bx m c t i _ _ eh, bc', bs', dx, el]

end

/-- The kernel's result. -/
theorem final : (dats m 0 c).arrAt 3 cfg0.N = ((fun y => dx (a0 m c) (y 0) (hd (y 1)) (ln (y 1))) : S4096x768.Idx → EReal) := by
  refine (dats m 0 c).arrAt_eq_of_covers 3 _ (by decide +kernel) fun t hf y => ?_
  blk_simp
  have e0 : (((win0_3.blk t).view.emb y 0 : Fin 4096) : ℕ) = (y 0 : Fin 4096) := by blk_simp [idx t]
  have e1 : (((win0_3.blk t).view.emb y 1 : Fin 768) : ℕ) = t.val * 128 + (y 1 : Fin 128) := by blk_simp [idx t]
  rw [after0_3]
  refine (congrArg _ (ix2_eta (n0 := 4096) (n1 := 128) y).symm).trans ?_
  exact point m c t (y 0) (y 1) _ _ e0 e1

open Cert.RfCRIdeal.Read in
/-- The reference at an index. -/
theorem ref (x : (⟨4, ![1, 4096, 6, 128]⟩ : Shape).Idx → EReal) (i : Fin 4096) (z : Fin 768) : val_main_v85 (F := Ideal) x (ix2 i z) = dx x i (hd z) (ln z) := by
  refine Eq.trans ?_ (Eq.symm (axial_fwd (ang 0x42800000#32 (i / 64)) (ang 0x42800000#32 (i % 64)) (fun e => x (ix4 0 i (hd z) e)) (z % 128) (Nat.mod_lt _ (by decide))))
  pointwise [val_main_v0, val_main_v1, val_main_v2, val_main_v3, val_main_v4, val_main_v5, val_main_v6, val_main_v7, val_main_cst,
    val_main_v8, val_main_v9, val_main_cst_0, val_main_v10, val_main_v11, val_main_v12, val_main_cst_1, val_main_v13,
    val_main_v14, val_main_cst_2, val_main_v15, val_main_v16, val_main_v17, val_main_v18, val_main_v19, val_main_v20,
    val_main_v21, val_main_v22, val_main_v23, val_main_cst_3, val_main_v24, val_main_v25, val_main_cst_4, val_main_v26,
    val_main_v27, val_main_v28, val_main_cst_5, val_main_v29, val_main_v30, val_main_cst_6, val_main_v31, val_main_v32,
    val_main_v33, val_main_v34, val_main_v35, val_main_v36, val_main_v37, val_main_v38, val_main_v39, val_main_v40,
    val_main_v41, val_main_v42, val_main_v43, val_main_v44, val_main_v45, val_main_v46, val_main_v47, val_main_v48,
    val_main_v49, val_main_v50, val_main_v51, val_main_v52, val_main_v53, val_main_v54, val_main_v55, val_main_v56,
    val_main_v57, val_main_v58, val_main_v59, val_main_v60, val_main_v61, val_main_v62, val_main_v63, val_main_v64,
    val_main_v65, val_main_v66, val_main_v67, val_main_v68, val_main_v69, val_main_v70, val_main_v71, val_main_v72,
    val_main_v73, val_main_v74, val_main_v75, val_main_v76, val_main_v77, val_main_v78, val_main_v79, val_main_v80,
    val_main_v81, val_main_v82, val_main_v83, val_main_v84, val_main_v85]
  rfl

theorem eq : Cert.RfCRIdeal.Read.val_main_v85 (F := Ideal) (a0 m c) = (dats m 0 c).arrAt 3 cfg0.N := by
  rw [final]
  funext y
  exact (congrArg _ (ix2_eta (n0 := 4096) (n1 := 768) y).symm).trans (ref (a0 m c) (y 0) (y 1))

/-- The reference runs; its argument stays. -/
theorem frame_ref : Cert.quiescent_RfCRIdeal := fun m ρ _ =>
  (θ_run Cert.RfCRIdeal.defs _ _).mono (fun r h => ⟨fun c => (h c).2, sem_eq_zero_of_no_sems (by decide) r.2⟩)
    (Cert.RfCRIdeal.Value.run (F := Ideal) m ρ)

theorem value : Cert.algebraic_RfCKIdeal_RfCRIdeal := by
  pair_intro
  · run_from Cert.RfCKIdeal.Gen.run_main m g
  · run_from Cert.RfCRIdeal.Value.run m' g'
    rw [Cert.RfCRIdeal.Read.val_main_v85_eq, hagree c]
    exact eq m c

end Cert.RfCEq
end
-- ==== Proof.RfKClaim.lean ====
/- The rotation RfK, forwards: what the kernel's result holds, the reference at an index, and the claims. -/
module

public import proofs.«01_k».proof.Defs
public import proofs.«01_k».proof.Proof.RopesFwd
public import proofs.«01_k».proof.Proof.Attn
public import proofs.«01_k».proof.Proof.Gen.RfKKIdeal.Value
public import proofs.«01_k».proof.Proof.Gen.RfKRIdeal.Read
public import proofs.«01_k».proof.Proof.Gen.RfKRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RfKEq

open Cert.RfKKIdeal Cert.RfKKIdeal.Gen Cert.Attn Cert.Ropes

variable (m : (ℓ : Loc nD τ sig) → Buf (Elt Ideal) ℓ) (c : Dev nD)

abbrev a0 : (⟨4, ![1, 4096, 2, 128]⟩ : Shape).Idx → EReal := m ((c : Thread nD τ).loc main_arg0)

/-- The head and the place of a column. -/
abbrev hd (z : Fin 256) : Fin 2 := ⟨z / 128, by have := z.isLt; omega⟩
abbrev ln (z : Fin 256) : Fin 128 := ⟨z % 128, Nat.mod_lt _ (by decide)⟩

/-- The rotated entry at a position, a head and a column. -/
abbrev ct (i : ℕ) : ℕ → EReal := cc (ang 0x42800000#32 (i / 64)) (ang 0x42800000#32 (i % 64))
abbrev st (i : ℕ) : ℕ → EReal := cs (ang 0x42800000#32 (i / 64)) (ang 0x42800000#32 (i % 64))
abbrev ot (d : Fin 128) : Fin 128 := sw d
def dx (x : (⟨4, ![1, 4096, 2, 128]⟩ : Shape).Idx → EReal) (i : Fin 4096) (h : Fin 2) (d : Fin 128) : EReal :=
  rf (x (ix4 0 i h d)) (x (ix4 0 i h (ot d))) (ct i d) (st i d)

/-- What one grid point computes. -/
theorem pay (x k s : S4096x128.Idx → EReal) (r : Fin 4096) (d : Fin 128) :
    out0_3 (F := Ideal) x k s (ix2 r d) = rf (x (ix2 r d)) (x (ix2 r (ot d))) (k (ix2 r d)) (s (ix2 r d)) := by
  frame_out
  pointwise [k0_pay1]
  exact congrArg (fun u => x (ix2 r d) * k (ix2 r d) + u * s (ix2 r d)) (pick (fun e => x (ix2 r e)) d _ _)

/-- The tables of cosines and sines, and the argument's heads side by side. -/
theorem vc (i : Fin 4096) (d : Fin 128) : (V m c main_v94 : S4096x128.Idx → EReal) (ix2 i d) = ct i d := by
  show (StableHlo.after hostOps0 (fun b => m (c, b)) (Proc.devRef .tc main_v94) : S4096x128.Idx → EReal) (ix2 i d) = _
  after_results_simp
  pointwise []
  try after_results_simp
  pointwise []
  rfl

theorem vs (i : Fin 4096) (d : Fin 128) : (V m c main_v101 : S4096x128.Idx → EReal) (ix2 i d) = st i d := by
  show (StableHlo.after hostOps0 (fun b => m (c, b)) (Proc.devRef .tc main_v101) : S4096x128.Idx → EReal) (ix2 i d) = _
  after_results_simp
  pointwise []
  try after_results_simp
  pointwise []
  rfl

theorem vx (i : Fin 4096) (z : Fin 256) : (V m c main_v102 : S4096x256.Idx → EReal) (ix2 i z) = a0 m c (ix4 0 i (hd z) (ln z)) := by
  show (StableHlo.after hostOps0 (fun b => m (c, b)) (Proc.devRef .tc main_v102) : S4096x256.Idx → EReal) (ix2 i z) = _
  after_results_simp
  pointwise []

/-- The block indices of a grid point. -/
theorem idx : ∀ t : Fin cfg0.N, win0_0.index t = ![0, t.val] ∧ win0_1.index t = ![0, 0] ∧ win0_2.index t = ![0, 0] ∧ win0_3.index t = ![0, t.val] :=
  (by decide +kernel : ∀ t : Fin grid0.N, _)

section
variable (t : Fin cfg0.N) (r : Fin 4096) (d : Fin 128)

theorem bx (h : Fin 2) (eh : (h : ℕ) = t.val) : (iblk m c 0 t : Vec Ideal S4096x128 .f32) (ix2 r d) = a0 m c (ix4 0 r h d) := by
  have hd' := d.isLt
  have hh := h.isLt
  have e0 : hd ⟨h * 128 + d, by omega⟩ = h := Fin.ext (by show ((h : ℕ) * 128 + d) / 128 = h; omega)
  have e1 : ln ⟨h * 128 + d, by omega⟩ = d := Fin.ext (by show ((h : ℕ) * 128 + d) % 128 = d; omega)
  have e := vx m c r ⟨h * 128 + d, by omega⟩
  rw [e0, e1] at e
  refine Eq.trans ?_ e
  obtain ⟨X, hV⟩ : ∃ X, V m c main_v102 = X := ⟨_, rfl⟩
  rw [hV]
  show (iblk m c 0 t : Vec Ideal S4096x128 .f32) (ix2 r d) = _
  blk_point [iblk, hV, idx t]

theorem bc' : (iblk m c 1 t : Vec Ideal S4096x128 .f32) (ix2 r d) = ct r d := by
  refine Eq.trans ?_ (vc m c r d)
  obtain ⟨X, hV⟩ : ∃ X, V m c main_v94 = X := ⟨_, rfl⟩
  rw [hV]
  show (iblk m c 1 t : Vec Ideal S4096x128 .f32) (ix2 r d) = _
  blk_point [iblk, hV, idx t]

theorem bs' : (iblk m c 2 t : Vec Ideal S4096x128 .f32) (ix2 r d) = st r d := by
  refine Eq.trans ?_ (vs m c r d)
  obtain ⟨X, hV⟩ : ∃ X, V m c main_v101 = X := ⟨_, rfl⟩
  rw [hV]
  show (iblk m c 2 t : Vec Ideal S4096x128 .f32) (ix2 r d) = _
  blk_point [iblk, hV, idx t]

theorem point (i : Fin 4096) (z : Fin 256) (ei : (i : ℕ) = r) (ez : (z : ℕ) = t.val * 128 + d) :
    out0_3 (F := Ideal) (iblk m c 0 t) (iblk m c 1 t) (iblk m c 2 t) (ix2 r d) = dx (a0 m c) i (hd z) (ln z) := by
  have hd' := d.isLt
  have eh : (hd z : ℕ) = t.val := by show (z : ℕ) / 128 = _; omega
  have el : ln z = d := Fin.ext (by show (z : ℕ) % 128 = _; omega)
  obtain rfl : i = r := Fin.ext ei
  refine (pay _ _ _ i d).trans ?_
  rw [bx m c t i d _ eh, bx m c t i _ _ eh, bc', bs', dx, el]

end

/-- The kernel's result. -/
theorem final : (dats m 0 c).arrAt 3 cfg0.N = ((fun y => dx (a0 m c) (y 0) (hd (y 1)) (ln (y 1))) : S4096x256.Idx → EReal) := by
  refine (dats m 0 c).arrAt_eq_of_covers 3 _ (by decide +kernel) fun t hf y => ?_
  blk_simp
  have e0 : (((win0_3.blk t).view.emb y 0 : Fin 4096) : ℕ) = (y 0 : Fin 4096) := by blk_simp [idx t]
  have e1 : (((win0_3.blk t).view.emb y 1 : Fin 256) : ℕ) = t.val * 128 + (y 1 : Fin 128) := by blk_simp [idx t]
  rw [after0_3]
  refine (congrArg _ (ix2_eta (n0 := 4096) (n1 := 128) y).symm).trans ?_
  exact point m c t (y 0) (y 1) _ _ e0 e1

open Cert.RfKRIdeal.Read in
/-- The reference at an index. -/
theorem ref (x : (⟨4, ![1, 4096, 2, 128]⟩ : Shape).Idx → EReal) (i : Fin 4096) (z : Fin 256) : val_main_v85 (F := Ideal) x (ix2 i z) = dx x i (hd z) (ln z) := by
  refine Eq.trans ?_ (Eq.symm (axial_fwd (ang 0x42800000#32 (i / 64)) (ang 0x42800000#32 (i % 64)) (fun e => x (ix4 0 i (hd z) e)) (z % 128) (Nat.mod_lt _ (by decide))))
  pointwise [val_main_v0, val_main_v1, val_main_v2, val_main_v3, val_main_v4, val_main_v5, val_main_v6, val_main_v7, val_main_cst,
    val_main_v8, val_main_v9, val_main_cst_0, val_main_v10, val_main_v11, val_main_v12, val_main_cst_1, val_main_v13,
    val_main_v14, val_main_cst_2, val_main_v15, val_main_v16, val_main_v17, val_main_v18, val_main_v19, val_main_v20,
    val_main_v21, val_main_v22, val_main_v23, val_main_cst_3, val_main_v24, val_main_v25, val_main_cst_4, val_main_v26,
    val_main_v27, val_main_v28, val_main_cst_5, val_main_v29, val_main_v30, val_main_cst_6, val_main_v31, val_main_v32,
    val_main_v33, val_main_v34, val_main_v35, val_main_v36, val_main_v37, val_main_v38, val_main_v39, val_main_v40,
    val_main_v41, val_main_v42, val_main_v43, val_main_v44, val_main_v45, val_main_v46, val_main_v47, val_main_v48,
    val_main_v49, val_main_v50, val_main_v51, val_main_v52, val_main_v53, val_main_v54, val_main_v55, val_main_v56,
    val_main_v57, val_main_v58, val_main_v59, val_main_v60, val_main_v61, val_main_v62, val_main_v63, val_main_v64,
    val_main_v65, val_main_v66, val_main_v67, val_main_v68, val_main_v69, val_main_v70, val_main_v71, val_main_v72,
    val_main_v73, val_main_v74, val_main_v75, val_main_v76, val_main_v77, val_main_v78, val_main_v79, val_main_v80,
    val_main_v81, val_main_v82, val_main_v83, val_main_v84, val_main_v85]
  rfl

theorem eq : Cert.RfKRIdeal.Read.val_main_v85 (F := Ideal) (a0 m c) = (dats m 0 c).arrAt 3 cfg0.N := by
  rw [final]
  funext y
  exact (congrArg _ (ix2_eta (n0 := 4096) (n1 := 256) y).symm).trans (ref (a0 m c) (y 0) (y 1))

/-- The reference runs; its argument stays. -/
theorem frame_ref : Cert.quiescent_RfKRIdeal := fun m ρ _ =>
  (θ_run Cert.RfKRIdeal.defs _ _).mono (fun r h => ⟨fun c => (h c).2, sem_eq_zero_of_no_sems (by decide) r.2⟩)
    (Cert.RfKRIdeal.Value.run (F := Ideal) m ρ)

theorem value : Cert.algebraic_RfKKIdeal_RfKRIdeal := by
  pair_intro
  · run_from Cert.RfKKIdeal.Gen.run_main m g
  · run_from Cert.RfKRIdeal.Value.run m' g'
    rw [Cert.RfKRIdeal.Read.val_main_v85_eq, hagree c]
    exact eq m c

end Cert.RfKEq
end
-- ==== Proof.LkFClaim.lean ====
/- The rotation of the last 64 of 192 columns of each head, forwards on heads filled up to 256 columns: what the
kernel's result holds, the reference at an index, and the claims. -/
module

public import proofs.«01_k».proof.Defs
public import proofs.«01_k».proof.Proof.RfAClaim
public import proofs.«01_k».proof.Proof.Attn
public import proofs.«01_k».proof.Proof.Gen.LkFKIdeal.Value
public import proofs.«01_k».proof.Proof.Gen.LkFRIdeal.Read
public import proofs.«01_k».proof.Proof.Gen.LkFRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.LkFEq

open Cert.LkFKIdeal Cert.LkFKIdeal.Gen Cert.Attn Cert.Ropes
open Cert.RfAEq (ct st hd)

abbrev P3 : Shape := ⟨3, ![1, 4096, 1024]⟩
abbrev R3 : Shape := ⟨3, ![1, 4096, 64]⟩

variable (m : (ℓ : Loc nD τ sig) → Buf (Elt Ideal) ℓ) (c : Dev nD)

abbrev a0 : P3.Idx → EReal := m ((c : Thread nD τ).loc main_arg0)
abbrev a1 : R3.Idx → EReal := m ((c : Thread nD τ).loc main_arg1)

/-- A head's key before the rotation: its own 128 columns, then the shared 64. -/
def key (x : P3.Idx → EReal) (k : R3.Idx → EReal) (i : Fin 4096) (h : Fin 4) (e : Fin 192) : EReal :=
  if he : (e : ℕ) < 128 then x (ix3 0 i ⟨h * 256 + e, by omega⟩) else k (ix3 0 i ⟨e - 128, by omega⟩)
def dz (x : P3.Idx → EReal) (k : R3.Idx → EReal) (i : Fin 4096) (z : Fin 1024) : EReal :=
  rf (fill (key x k i (hd z)) (z % 256)) (fill (key x k i (hd z)) (asw (z % 256))) (ct i (z % 256)) (st i (z % 256))

/-- The shared row filled up to 128 columns. -/
def kr (k : R3.Idx → EReal) (i : Fin 4096) (d : ℕ) : EReal := if h : d < 64 then k (ix3 0 i ⟨d, h⟩) else 0

theorem key_lo (x : P3.Idx → EReal) (k : R3.Idx → EReal) (i : Fin 4096) (h : Fin 4) (n : ℕ) (hn : n < 128) :
    fill (key x k i h) n = x (ix3 0 i ⟨h * 256 + n, by omega⟩) := by
  rw [fill, dif_pos (by omega), key, dif_pos hn]

theorem key_hi (x : P3.Idx → EReal) (k : R3.Idx → EReal) (i : Fin 4096) (h : Fin 4) (n d : ℕ) (hn : n = 128 + d) :
    fill (key x k i h) n = kr k i d := by
  subst hn
  by_cases hd : d < 64
  · rw [fill, dif_pos (by omega), key, dif_neg (by dsimp only; omega), kr, dif_pos hd]
    exact congrArg (fun e => k (ix3 0 i e)) (Fin.ext (by show 128 + d - 128 = d; omega))
  · rw [fill, dif_neg (by omega), kr, dif_neg hd]

/-- What one grid point computes. -/
def side (a b : S2048x128.Idx → EReal) (k s : S2048x256.Idx → EReal) (r : Fin 2048) (z : Fin 256) : EReal :=
  if h : (z : ℕ) < 128 then a (ix2 r ⟨z, h⟩)
  else rf (b (ix2 r ⟨z - 128, by omega⟩)) (b (ix2 r (sw ⟨z - 128, by omega⟩))) (k (ix2 r z)) (s (ix2 r z))

theorem side_lo (a b : S2048x128.Idx → EReal) (k s : S2048x256.Idx → EReal) (r : Fin 2048) (z : Fin 256) (d : Fin 128) (h : (z : ℕ) = d) :
    a (ix2 r d) = side a b k s r z := by
  have hd := d.isLt
  rw [side, dif_pos (by omega)]
  exact congrArg (fun e => a (ix2 r e)) (Fin.ext h.symm)

theorem side_hi (a b : S2048x128.Idx → EReal) (k s : S2048x256.Idx → EReal) (r : Fin 2048) (z : Fin 256) (d : Fin 128) (h : (z : ℕ) = 128 + d) :
    rf (b (ix2 r d)) (b (ix2 r (sw d))) (k (ix2 r z)) (s (ix2 r z)) = side a b k s r z := by
  have e : (⟨(z : ℕ) - 128, by omega⟩ : Fin 128) = d := Fin.ext (by show (z : ℕ) - 128 = d; omega)
  rw [side, dif_neg (by omega), e]

theorem pay (a b : S2048x128.Idx → EReal) (k s : S2048x256.Idx → EReal) (y : S2048x256.Idx) :
    out0_4 (F := Ideal) a b k s y = side a b k s (y 0) (y 1) := by
  unfold out0_4
  canon_tiles j h
  all_goals
    have e0 : y 0 = j 0 := Fin.ext h0
    have e1 : y 1 = ⟨_, lt_of_eq_of_lt h1.symm (y 1).isLt⟩ := Fin.ext h1
    rw [e0, e1]
    open_payloads
    pointwise
  · refine Eq.trans ?_ (side_hi a b k s (j 0) _ (j 1) rfl)
    have e : b j = b (ix2 (j 0) (j 1)) := congrArg b (ix2_eta (n0 := 2048) (n1 := 128) j).symm
    rw [e]
    exact congrArg (fun u => b (ix2 (j 0) (j 1)) * k (ix2 (j 0) ⟨128 + (j 1 : Fin 128), _⟩)
      + u * s (ix2 (j 0) ⟨128 + (j 1 : Fin 128), _⟩)) (pick (fun e => b (ix2 (j 0) e)) (j 1) (Nat.mod_lt _ (by decide)) (Nat.mod_lt _ (by decide)))
  · have lt (e : Fin 128) : (e : ℕ) < 256 := by omega
    exact (congrArg a (ix2_eta (n0 := 2048) (n1 := 128) j).symm).trans (side_lo a b k s (j 0) ⟨(j 1 : Fin 128), lt _⟩ (j 1) rfl)

/-- The tables of cosines and sines, and the arguments' columns. -/
theorem vc (i : Fin 4096) (d : Fin 256) : (V m c main_v77 : S4096x256.Idx → EReal) (ix2 i d) = ct i d := by
  show (StableHlo.after hostOps0_2 (StableHlo.after hostOps0_1 (StableHlo.after hostOps0 fun b => m (c, b))) (Proc.devRef .tc main_v77) : S4096x256.Idx → EReal) (ix2 i d) = _
  after_results_simp
  pointwise []
  iterate 3 (try after_results_simp; pointwise [])
  rfl

theorem vs (i : Fin 4096) (d : Fin 256) : (V m c main_v82 : S4096x256.Idx → EReal) (ix2 i d) = st i d := by
  show (StableHlo.after hostOps0_2 (StableHlo.after hostOps0_1 (StableHlo.after hostOps0 fun b => m (c, b))) (Proc.devRef .tc main_v82) : S4096x256.Idx → EReal) (ix2 i d) = _
  after_results_simp
  pointwise []
  iterate 3 (try after_results_simp; pointwise [])
  rfl

theorem vx (i : Fin 4096) (z : Fin 1024) : (V m c main_v105 : S4096x1024.Idx → EReal) (ix2 i z) = a0 m c (ix3 0 i z) := by
  show (StableHlo.after hostOps0_2 (StableHlo.after hostOps0_1 (StableHlo.after hostOps0 fun b => m (c, b))) (Proc.devRef .tc main_v105) : S4096x1024.Idx → EReal) (ix2 i z) = _
  after_results_simp
  pointwise []

theorem vk (i : Fin 4096) (d : Fin 128) (z : Fin 5120) (hz : (z : ℕ) = 1024 + d) : (V m c main_v103 : S4096x5120.Idx → EReal) (ix2 i z) = kr (a1 m c) i d := by
  show (StableHlo.after hostOps0_2 (StableHlo.after hostOps0_1 (StableHlo.after hostOps0 fun b => m (c, b))) (Proc.devRef .tc main_v103) : S4096x5120.Idx → EReal) (ix2 i z) = _
  after_results_simp
  have hd := d.isLt
  show pad S4096x5120 ![0, 1024] ![0, 4032] ![0, 0] (shapeCast S4096x64 (a1 m c) shapeCasts_S1x4096x64_S4096x64)
    (sitofp (F := Ideal) .f32 (constantI S_ 32 0#32)) pads_S4096x64_S4096x5120_000_102440320 h_S_ (ix2 i z) = _
  pointwise []
  unfold kr
  by_cases h : (d : ℕ) < 64
  · rw [dif_pos (by omega), dif_pos h]
    exact congrArg (fun q => a1 m c (ix3 0 i q)) (Fin.ext (by show (z : ℕ) - 1024 = d; omega))
  · rw [dif_neg (by omega), dif_neg h]
    exact zero_word

/-- The block indices of a grid point. -/
theorem idx : ∀ t : Fin cfg0.N, win0_0.index t = ![t.val % 2, 2 * (t.val / 2)] ∧ win0_1.index t = ![t.val % 2, 8] ∧ win0_2.index t = ![t.val % 2, 0]
    ∧ win0_3.index t = ![t.val % 2, 0] ∧ win0_4.index t = ![t.val % 2, t.val / 2] :=
  (by decide +kernel : ∀ t : Fin grid0.N, _)

section
variable (t : Fin cfg0.N) (r : Fin 2048) (i : Fin 4096) (ei : (i : ℕ) = t.val % 2 * 2048 + r)

include ei

theorem bx (d : Fin 128) (z : Fin 1024) (ez : (z : ℕ) = t.val / 2 * 256 + d) : (iblk m c 0 t : Vec Ideal S2048x128 .f32) (ix2 r d) = a0 m c (ix3 0 i z) := by
  refine Eq.trans ?_ (vx m c i z)
  obtain ⟨X, hV⟩ : ∃ X, V m c main_v105 = X := ⟨_, rfl⟩
  rw [hV]
  show (iblk m c 0 t : Vec Ideal S2048x128 .f32) (ix2 r d) = _
  blk_point [iblk, hV, idx t]

theorem bk (d : Fin 128) : (iblk m c 1 t : Vec Ideal S2048x128 .f32) (ix2 r d) = kr (a1 m c) i d := by
  have hd := d.isLt
  refine Eq.trans ?_ (vk m c i d ⟨1024 + d, by omega⟩ rfl)
  obtain ⟨X, hV⟩ : ∃ X, V m c main_v103 = X := ⟨_, rfl⟩
  rw [hV]
  show (iblk m c 1 t : Vec Ideal S2048x128 .f32) (ix2 r d) = _
  blk_point [iblk, hV, idx t]

theorem bc' (d : Fin 256) : (iblk m c 2 t : Vec Ideal S2048x256 .f32) (ix2 r d) = ct i d := by
  refine Eq.trans ?_ (vc m c i d)
  obtain ⟨X, hV⟩ : ∃ X, V m c main_v77 = X := ⟨_, rfl⟩
  rw [hV]
  show (iblk m c 2 t : Vec Ideal S2048x256 .f32) (ix2 r d) = _
  blk_point [iblk, hV, idx t]

theorem bs' (d : Fin 256) : (iblk m c 3 t : Vec Ideal S2048x256 .f32) (ix2 r d) = st i d := by
  refine Eq.trans ?_ (vs m c i d)
  obtain ⟨X, hV⟩ : ∃ X, V m c main_v82 = X := ⟨_, rfl⟩
  rw [hV]
  show (iblk m c 3 t : Vec Ideal S2048x256 .f32) (ix2 r d) = _
  blk_point [iblk, hV, idx t]

theorem point (d : Fin 256) (z : Fin 1024) (ez : (z : ℕ) = t.val / 2 * 256 + d) :
    out0_4 (F := Ideal) (iblk m c 0 t) (iblk m c 1 t) (iblk m c 2 t) (iblk m c 3 t) (ix2 r d) = dz (a0 m c) (a1 m c) i z := by
  have hd' := d.isLt
  have eh : (hd z : ℕ) = t.val / 2 := by show (z : ℕ) / 256 = _; omega
  have el : (z : ℕ) % 256 = d := by omega
  refine (pay _ _ _ _ (ix2 r d)).trans ?_
  show side (iblk m c 0 t) (iblk m c 1 t) (iblk m c 2 t) (iblk m c 3 t) r d = _
  rw [dz, el]
  by_cases h : (d : ℕ) < 128
  · refine (side_lo _ _ _ _ r d ⟨d, h⟩ rfl).symm.trans ?_
    rw [ct, st, ac, az, if_pos h, if_pos h, rf_id, key_lo _ _ _ _ _ h]
    exact bx m c t r i ei ⟨d, h⟩ ⟨hd z * 256 + d, by omega⟩ (by show (hd z : ℕ) * 256 + d = t.val / 2 * 256 + d; omega)
  · have e : (d : ℕ) = 128 + (⟨d - 128, by omega⟩ : Fin 128) := by show (d : ℕ) = 128 + (d - 128); omega
    refine (side_hi _ _ _ _ r d ⟨d - 128, by omega⟩ e).symm.trans ?_
    rw [bk m c t r i ei, bk m c t r i ei, bc' m c t r i ei, bs' m c t r i ei, key_hi _ _ _ _ _ _ e,
      key_hi _ _ _ _ (asw d) (sw ⟨d - 128, by omega⟩) ((congrArg asw e).trans (asw_hi _))]

end

/-- The kernel's result. -/
theorem final : (dats m 0 c).arrAt 4 cfg0.N = ((fun y => dz (a0 m c) (a1 m c) (y 0) (y 1)) : S4096x1024.Idx → EReal) := by
  refine (dats m 0 c).arrAt_eq_of_covers 4 _ (by decide +kernel) fun t hf y => ?_
  blk_simp
  have e0 : (((win0_4.blk t).view.emb y 0 : Fin 4096) : ℕ) = t.val % 2 * 2048 + (y 0 : Fin 2048) := by blk_simp [idx t]
  have e1 : (((win0_4.blk t).view.emb y 1 : Fin 1024) : ℕ) = t.val / 2 * 256 + (y 1 : Fin 256) := by blk_simp [idx t]
  rw [after0_4]
  refine (congrArg _ (ix2_eta (n0 := 2048) (n1 := 256) y).symm).trans ?_
  exact point m c t (y 0) _ e0 (y 1) _ e1

section
variable (K : Fin 192 → EReal) (k : Fin 64 → EReal) (hK : ∀ (e : ℕ) (he : 128 + e < 192) (he' : e < 64), K ⟨128 + e, he⟩ = k ⟨e, he'⟩)
  (n : ℕ) (hn : n < 32) (C S : EReal)
include hK

/-- A pair's two rotated entries, read in the shared row. -/
theorem pair_lo : k ⟨n, by omega⟩ * C - k ⟨32 + n, by omega⟩ * S = K ⟨128 + n, by omega⟩ * C - K ⟨128 + (32 + n), by omega⟩ * S := by
  rw [hK n (by omega) (by omega), hK (32 + n) (by omega) (by omega)]

theorem pair_hi : k ⟨32 + n, by omega⟩ * C + k ⟨n, by omega⟩ * S = K ⟨128 + (32 + n), by omega⟩ * C + K ⟨128 + n, by omega⟩ * S := by
  rw [hK n (by omega) (by omega), hK (32 + n) (by omega) (by omega)]
end

open Cert.LkFRIdeal.Read in
/-- The reference at an index. -/
theorem ref (x : P3.Idx → EReal) (k : R3.Idx → EReal) (i : Fin 4096) (z : Fin 1024) : val_main_v42 (F := Ideal) x k (ix2 i z) = dz x k i z := by
  have hz := z.isLt
  refine Eq.trans ?_ (Eq.symm (part_fwd (ang 0x42800000#32 i) (key x k i (hd z)) ((z : ℕ) / 256 < 4) (hd z).isLt (z % 256) (Nat.mod_lt _ (by decide))))
  pointwise [val_main_v0, val_main_v1, val_main_v2, val_main_cst, val_main_v3, val_main_v4, val_main_cst_0, val_main_v5, val_main_v6,
    val_main_v7, val_main_cst_1, val_main_v8, val_main_v9, val_main_cst_2, val_main_v10, val_main_v11, val_main_v12,
    val_main_v13, val_main_v14, val_main_v15, val_main_v16, val_main_v17, val_main_v18, val_main_v19, val_main_v20,
    val_main_v21, val_main_v22, val_main_v23, val_main_v24, val_main_v25, val_main_v26, val_main_v27, val_main_v28,
    val_main_v29, val_main_v30, val_main_v31, val_main_v32, val_main_v33, val_main_v34, val_main_v35, val_main_v36,
    val_main_v38, val_main_v39, val_main_c, val_main_call0_v0, val_main_v40, val_main_v41, val_main_v42]
  have hi (e : ℕ) (he : 128 + e < 192) (he' : e < 64) : key x k i (hd z) ⟨128 + e, he⟩ = k (ix3 0 i ⟨e, he'⟩) := by
    rw [key, dif_neg (by dsimp only; omega)]
    exact congrArg (fun q => k (ix3 0 i q)) (Fin.ext (by show 128 + e - 128 = e; omega))
  refine dite_congr rfl (fun h => ?_) (fun _ => zero_word)
  have h' := h.2
  refine dite_congr rfl (fun h1 => ?_) (fun h1 => ?_)
  · refine Eq.trans ?_ (dif_pos h1).symm
    exact congrArg (fun q => x (ix3 0 i q)) (Fin.ext (by show (z : ℕ) = (z : ℕ) / 256 * 256 + (z : ℕ) % 256; omega))
  · refine dite_congr rfl (fun h2 => ?_) (fun h2 => ?_)
    · exact pair_lo (key x k i (hd z)) (fun e => k (ix3 0 i e)) hi ((z : ℕ) % 256 - 128) (by omega) _ _
    · exact pair_hi (key x k i (hd z)) (fun e => k (ix3 0 i e)) hi ((z : ℕ) % 256 - 128 - 32) (by omega) _ _

theorem eq : Cert.LkFRIdeal.Read.val_main_v42 (F := Ideal) (a0 m c) (a1 m c) = (dats m 0 c).arrAt 4 cfg0.N := by
  rw [final]
  funext y
  exact (congrArg _ (ix2_eta (n0 := 4096) (n1 := 1024) y).symm).trans (ref (a0 m c) (a1 m c) (y 0) (y 1))

/-- The reference runs; its arguments stay. -/
theorem frame_ref : Cert.quiescent_LkFRIdeal := fun m ρ _ =>
  (θ_run Cert.LkFRIdeal.defs _ _).mono (fun r h => ⟨fun c => (h c).2, sem_eq_zero_of_no_sems (by decide) r.2⟩)
    (Cert.LkFRIdeal.Value.run (F := Ideal) m ρ)

theorem value : Cert.algebraic_LkFKIdeal_LkFRIdeal := by
  pair_intro
  · run_from Cert.LkFKIdeal.Gen.run_main m g
    all_goals first | exact V_main_arg0 m c | exact V_main_arg1 m c | skip
  · run_from Cert.LkFRIdeal.Value.run m' g'
    rw [Cert.LkFRIdeal.Read.val_main_v42_eq, (hagree c).1, (hagree c).2]
    exact eq m c

end Cert.LkFEq
end
-- ==== Proof.FfUClaim.lean ====
/- The feed-forward's gate and up projections and their product, forwards: what the kernel writes at each index, beside the
reference's stages, and the claims. -/
module

public import proofs.«01_k».proof.Defs
public import proofs.«01_k».proof.Proof.GateValue
public import proofs.«01_k».proof.Proof.Gen.FfUKIdeal.Value
public import proofs.«01_k».proof.Proof.Gen.FfURIdeal.Read
public import proofs.«01_k».proof.Proof.Gen.FfURIdeal.Run
public import proofs.«01_k».proof.Proof.Gen.Pre_ffu_finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfUEq

open Cert.FfUKIdeal Cert.FfUKIdeal.Gen Cert.Reals
open Cert.GateEq (lgst lgst_real)

variable (m : (ℓ : Loc nD τ sig) → Buf (Elt Ideal) ℓ) (c : Dev nD)

abbrev a0 : S4096x2048.Idx → EReal := m ((c : Thread nD τ).loc main_arg0)
abbrev a1 : S2048x5632.Idx → EReal := m ((c : Thread nD τ).loc main_arg1)
abbrev a2 : S2048x5632.Idx → EReal := m ((c : Thread nD τ).loc main_arg2)

/-- A projection at an index, and the product of the two through the gate's function. -/
def pr (h : S4096x2048.Idx → EReal) (w : S2048x5632.Idx → EReal) (i : Fin 4096) (z : Fin 5632) : EReal := ∑ k : Fin 2048, h (ix2 i k) * w (ix2 k z)
def act (g u : EReal) : EReal := Ideal.div g (1 + Ideal.exp (0 - g)) * u

theorem act_real {g u : EReal} (hg : IsReal g) : act g u = g * lgst (-g) * u := by
  obtain ⟨r, rfl⟩ := hg
  have h : (1 + Real.exp (-r)) ≠ 0 := by positivity
  rw [act, zero_sub, ← EReal.coe_neg, lgst_real, Ideal.exp_coe, show (1 : EReal) + ((Real.exp (-r) : ℝ) : EReal) = ((1 + Real.exp (-r) : ℝ) : EReal) by norm_cast,
    div_real r h]
  congr 1
  norm_cast
  ring

/-- What one grid point computes. -/
def bp (x : S512x2048.Idx → EReal) (w : S1x2048x1408.Idx → EReal) (r : Fin 512) (d : Fin 1408) : EReal := ∑ k : Fin 2048, x (ix2 r k) * w (ix3 0 k d)

theorem mm2 (x : S512x2048.Idx → EReal) (w : S1x2048x1408.Idx → EReal) (r : Fin 512) (d : Fin 1408) : k0_pay2 (F := Ideal) x w (ix2 r d) = bp x w r d := by
  pointwise [k0_pay2, k0_pay1]
  rfl

theorem mm3 (x : S512x2048.Idx → EReal) (w : S1x2048x1408.Idx → EReal) (r : Fin 512) (d : Fin 1408) : k0_pay3 (F := Ideal) x w (ix2 r d) = bp x w r d := by
  pointwise [k0_pay3, k0_pay1]
  rfl

section
variable (x : S512x2048.Idx → EReal) (w v : S1x2048x1408.Idx → EReal) (r : Fin 512) (d : Fin 1408)

theorem pay3 : out0_3 (F := Ideal) x w v (ix2 r d) = bp x w r d := by
  frame_out
  refine Eq.trans ?_ (mm2 x w r d)
  pointwise [k0_pay4]

theorem pay4 : out0_4 (F := Ideal) x w v (ix2 r d) = bp x v r d := by
  frame_out
  refine Eq.trans ?_ (mm3 x v r d)
  pointwise [k0_pay5]

theorem pay5 : out0_5 (F := Ideal) x w v (ix2 r d) = act (bp x w r d) (bp x v r d) := by
  frame_out
  rw [← mm2, ← mm3]
  pointwise [k0_pay6, act]
end

/-- The block indices of grid point `t = 8 j + i`. -/
theorem idx : ∀ t : Fin cfg0.N, win0_0.index t = ![t.val % 8, 0] ∧ win0_1.index t = ![t.val / 8, 0, 0] ∧ win0_2.index t = ![t.val / 8, 0, 0]
    ∧ win0_3.index t = ![t.val % 8, t.val / 8] ∧ win0_4.index t = ![t.val % 8, t.val / 8] ∧ win0_5.index t = ![t.val % 8, t.val / 8] :=
  (by decide +kernel : ∀ t : Fin grid0.N, _)

/-- The arguments as the call receives them: the weights cut into four parts of columns. -/
theorem vh (i : Fin 4096) (k : Fin 2048) : (V m c main_v0 : S4096x2048.Idx → EReal) (ix2 i k) = a0 m c (ix2 i k) := by
  show (StableHlo.after hostOps0 (fun b => m (c, b)) (Proc.devRef .tc main_v0) : S4096x2048.Idx → EReal) (ix2 i k) = _
  after_results_simp
  pointwise []

theorem vg (j : Fin 4) (k : Fin 2048) (d : Fin 1408) (z : Fin 5632) (hz : (z : ℕ) = j * 1408 + d) :
    (V m c main_v3 : S4x2048x1408.Idx → EReal) (ix3 j k d) = a1 m c (ix2 k z) := by
  show (StableHlo.after hostOps0 (fun b => m (c, b)) (Proc.devRef .tc main_v3) : S4x2048x1408.Idx → EReal) (ix3 j k d) = _
  after_results_simp
  pointwise []
  exact congrArg (fun q => a1 m c (ix2 k q)) (Fin.ext hz.symm)

theorem vu (j : Fin 4) (k : Fin 2048) (d : Fin 1408) (z : Fin 5632) (hz : (z : ℕ) = j * 1408 + d) :
    (V m c main_v6 : S4x2048x1408.Idx → EReal) (ix3 j k d) = a2 m c (ix2 k z) := by
  show (StableHlo.after hostOps0 (fun b => m (c, b)) (Proc.devRef .tc main_v6) : S4x2048x1408.Idx → EReal) (ix3 j k d) = _
  after_results_simp
  pointwise []
  exact congrArg (fun q => a2 m c (ix2 k q)) (Fin.ext hz.symm)

section
variable (t : Fin cfg0.N) (r : Fin 512) (d : Fin 1408) (i : Fin 4096) (z : Fin 5632) (ei : (i : ℕ) = t.val % 8 * 512 + r)
  (ez : (z : ℕ) = t.val / 8 * 1408 + d)

include ei in
theorem bh (k : Fin 2048) : (iblk m c 0 t : Vec Ideal S512x2048 .f32) (ix2 r k) = a0 m c (ix2 i k) := by
  refine Eq.trans ?_ (vh m c i k)
  obtain ⟨X, hV⟩ : ∃ X, V m c main_v0 = X := ⟨_, rfl⟩
  rw [hV]
  show (iblk m c 0 t : Vec Ideal S512x2048 .f32) (ix2 r k) = _
  blk_point [iblk, hV, idx t]

include ez in
theorem bg (k : Fin 2048) : (iblk m c 1 t : Vec Ideal S1x2048x1408 .f32) (ix3 0 k d) = a1 m c (ix2 k z) := by
  have hz := z.isLt
  have hj : t.val / 8 < 4 := by omega
  refine Eq.trans ?_ (vg m c ⟨t.val / 8, hj⟩ k d z ez)
  obtain ⟨X, hV⟩ : ∃ X, V m c main_v3 = X := ⟨_, rfl⟩
  rw [hV]
  show (iblk m c 1 t : Vec Ideal S1x2048x1408 .f32) (ix3 0 k d) = _
  blk_point [iblk, hV, idx t]

include ez in
theorem bu (k : Fin 2048) : (iblk m c 2 t : Vec Ideal S1x2048x1408 .f32) (ix3 0 k d) = a2 m c (ix2 k z) := by
  have hz := z.isLt
  have hj : t.val / 8 < 4 := by omega
  refine Eq.trans ?_ (vu m c ⟨t.val / 8, hj⟩ k d z ez)
  obtain ⟨X, hV⟩ : ∃ X, V m c main_v6 = X := ⟨_, rfl⟩
  rw [hV]
  show (iblk m c 2 t : Vec Ideal S1x2048x1408 .f32) (ix3 0 k d) = _
  blk_point [iblk, hV, idx t]

include ei ez

theorem bpg : bp (iblk m c 0 t) (iblk m c 1 t) r d = pr (a0 m c) (a1 m c) i z :=
  Finset.sum_congr rfl fun k _ => congrArg₂ (· * ·) (bh m c t r i ei k) (bg m c t d z ez k)

theorem bpu : bp (iblk m c 0 t) (iblk m c 2 t) r d = pr (a0 m c) (a2 m c) i z :=
  Finset.sum_congr rfl fun k _ => congrArg₂ (· * ·) (bh m c t r i ei k) (bu m c t d z ez k)

end

/-- The kernel's three results. -/
def yg (y : S4096x5632.Idx) : EReal := pr (a0 m c) (a1 m c) (y 0) (y 1)
def yu (y : S4096x5632.Idx) : EReal := pr (a0 m c) (a2 m c) (y 0) (y 1)
def ya (y : S4096x5632.Idx) : EReal := act (pr (a0 m c) (a1 m c) (y 0) (y 1)) (pr (a0 m c) (a2 m c) (y 0) (y 1))

theorem final3 : (dats m 0 c).arrAt 3 cfg0.N = yg m c := by
  refine (dats m 0 c).arrAt_eq_of_covers 3 _ (by decide +kernel) fun t hf y => ?_
  blk_simp
  have e0 : (((win0_3.blk t).view.emb y 0 : Fin 4096) : ℕ) = t.val % 8 * 512 + (y 0 : Fin 512) := by blk_simp [idx t]
  have e1 : (((win0_3.blk t).view.emb y 1 : Fin 5632) : ℕ) = t.val / 8 * 1408 + (y 1 : Fin 1408) := by blk_simp [idx t]
  rw [after0_3]
  refine (congrArg _ (ix2_eta (n0 := 512) (n1 := 1408) y).symm).trans ?_
  exact (pay3 _ _ _ (y 0) (y 1)).trans (bpg m c t (y 0) (y 1) _ _ e0 e1)

theorem final4 : (dats m 0 c).arrAt 4 cfg0.N = yu m c := by
  refine (dats m 0 c).arrAt_eq_of_covers 4 _ (by decide +kernel) fun t hf y => ?_
  blk_simp
  have e0 : (((win0_4.blk t).view.emb y 0 : Fin 4096) : ℕ) = t.val % 8 * 512 + (y 0 : Fin 512) := by blk_simp [idx t]
  have e1 : (((win0_4.blk t).view.emb y 1 : Fin 5632) : ℕ) = t.val / 8 * 1408 + (y 1 : Fin 1408) := by blk_simp [idx t]
  rw [after0_4]
  refine (congrArg _ (ix2_eta (n0 := 512) (n1 := 1408) y).symm).trans ?_
  exact (pay4 _ _ _ (y 0) (y 1)).trans (bpu m c t (y 0) (y 1) _ _ e0 e1)

theorem final5 : (dats m 0 c).arrAt 5 cfg0.N = ya m c := by
  refine (dats m 0 c).arrAt_eq_of_covers 5 _ (by decide +kernel) fun t hf y => ?_
  blk_simp
  have e0 : (((win0_5.blk t).view.emb y 0 : Fin 4096) : ℕ) = t.val % 8 * 512 + (y 0 : Fin 512) := by blk_simp [idx t]
  have e1 : (((win0_5.blk t).view.emb y 1 : Fin 5632) : ℕ) = t.val / 8 * 1408 + (y 1 : Fin 1408) := by blk_simp [idx t]
  rw [after0_5]
  refine (congrArg _ (ix2_eta (n0 := 512) (n1 := 1408) y).symm).trans ?_
  exact (pay5 _ _ _ (y 0) (y 1)).trans (congrArg₂ act (bpg m c t (y 0) (y 1) _ _ e0 e1) (bpu m c t (y 0) (y 1) _ _ e0 e1))

section
open Cert.FfURIdeal.Read

/-- The reference's results at an index. -/
theorem ref0 (h : S4096x2048.Idx → EReal) (w : S2048x5632.Idx → EReal) (i : Fin 4096) (z : Fin 5632) : val_main_v0 (F := Ideal) h w (ix2 i z) = pr h w i z := by
  pointwise [val_main_v0]
  rfl

theorem ref1 (h : S4096x2048.Idx → EReal) (w : S2048x5632.Idx → EReal) (i : Fin 4096) (z : Fin 5632) : val_main_v1 (F := Ideal) h w (ix2 i z) = pr h w i z := by
  pointwise [val_main_v1]
  rfl

theorem ref6 (h : S4096x2048.Idx → EReal) (w v : S2048x5632.Idx → EReal) (i : S4096x5632.Idx) :
    val_main_v6 (F := Ideal) h w v i = val_main_v0 (F := Ideal) h w i * lgst (-(val_main_v0 (F := Ideal) h w i)) * val_main_v1 (F := Ideal) h v i := by
  simp only [val_main_v6_apply, val_main_v5_apply, val_main_v4_apply, val_main_call0_v5_apply, val_main_call0_v4_apply, val_main_call0_v3_apply,
    val_main_call0_v2_apply, val_main_call0_v1_apply, val_main_call0_v0_apply, val_main_call0_cst_apply, val_main_call0_cst_0_apply]
  pointwise [lgst]

theorem ref6' (h : S4096x2048.Idx → EReal) (w v : S2048x5632.Idx → EReal) (i : Fin 4096) (z : Fin 5632) :
    val_main_v6 (F := Ideal) h w v (ix2 i z) = pr h w i z * lgst (-(pr h w i z)) * pr h v i z := by
  rw [ref6, ref0, ref1]
end

theorem eq2 : Cert.FfURIdeal.Read.val_main_v2 (F := Ideal) (a0 m c) (a1 m c) = (dats m 0 c).arrAt 3 cfg0.N := by
  rw [final3]
  funext y
  exact (congrArg _ (ix2_eta (n0 := 4096) (n1 := 5632) y).symm).trans (ref0 (a0 m c) (a1 m c) (y 0) (y 1))

theorem eq3 : Cert.FfURIdeal.Read.val_main_v3 (F := Ideal) (a0 m c) (a2 m c) = (dats m 0 c).arrAt 4 cfg0.N := by
  rw [final4]
  funext y
  exact (congrArg _ (ix2_eta (n0 := 4096) (n1 := 5632) y).symm).trans (ref1 (a0 m c) (a2 m c) (y 0) (y 1))

theorem eq6 (h0 : ∀ i, IsReal (a0 m c i)) (h1 : ∀ i, IsReal (a1 m c i)) :
    Cert.FfURIdeal.Read.val_main_v6 (F := Ideal) (a0 m c) (a1 m c) (a2 m c) = (dats m 0 c).arrAt 5 cfg0.N := by
  rw [final5]
  funext y
  refine (congrArg _ (ix2_eta (n0 := 4096) (n1 := 5632) y).symm).trans ?_
  refine (ref6' (a0 m c) (a1 m c) (a2 m c) (y 0) (y 1)).trans ?_
  exact (act_real (IsReal.sum _ fun k => (h0 _).mul (h1 _))).symm

/-- The precondition says that the three arrays hold real numbers. -/
theorem reals (x0 : FVec Ideal ⟨2, ![4096, 2048]⟩ .f32) (x1 x2 : FVec Ideal ⟨2, ![2048, 5632]⟩ .f32)
    (h : Cert.Pre_ffu_finite.fn (F := Ideal) x0 x1 x2 = fun _ => 1#1) : (∀ i, IsReal (x0 i)) ∧ ∀ i, IsReal (x1 i) := by
  have e := congrFun h (fun a => a.elim0)
  unfold Cert.Pre_ffu_finite.fn at e
  obtain ⟨e, e2⟩ := IntOp.andi_eq_one.1 e
  obtain ⟨e0, e1⟩ := IntOp.andi_eq_one.1 e
  exact ⟨isReal_of_all _ _ _ _ _ _ e0, isReal_of_all _ _ _ _ _ _ e1⟩

/-- The reference runs; its arguments stay. -/
theorem frame_ref : Cert.quiescent_FfURIdeal := fun m ρ _ =>
  (θ_run Cert.FfURIdeal.defs _ _).mono (fun r h => ⟨fun c => (h c).2.2.2, sem_eq_zero_of_no_sems (by decide) r.2⟩)
    (Cert.FfURIdeal.Value.run (F := Ideal) m ρ)

theorem value : Cert.algebraic_FfUKIdeal_FfURIdeal_pre_ffu_finite := by
  pair_intro
  · run_from Cert.FfUKIdeal.Gen.run_main m g
    all_goals first | exact V_main_arg0 m c | exact V_main_arg1 m c | exact V_main_arg2 m c | skip
  · run_from Cert.FfURIdeal.Value.run m' g'
    · exact (Cert.FfURIdeal.Read.val_main_v2_eq _ _).trans (eq2 m c)
    · exact (Cert.FfURIdeal.Read.val_main_v3_eq _ _).trans (eq3 m c)
    · obtain ⟨h0, h1⟩ := reals _ _ _ (hpre c)
      exact (Cert.FfURIdeal.Read.val_main_v6_eq _ _ _).trans (eq6 m c h0 h1)

end Cert.FfUEq
end
-- ==== Proof.MmClaim.lean ====
/- The feed-forward's down projection with the residual: what the kernel writes at each index, beside the reference's stages,
and the claims. -/
module

public import proofs.«01_k».proof.Defs
public import proofs.«01_k».proof.Proof.Gen.MmKIdeal.Value
public import proofs.«01_k».proof.Proof.Gen.MmRIdeal.Read
public import proofs.«01_k».proof.Proof.Gen.MmRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MmEq

open Cert.MmKIdeal Cert.MmKIdeal.Gen

variable (m : (ℓ : Loc nD τ sig) → Buf (Elt Ideal) ℓ) (c : Dev nD)

abbrev a0 : S4096x5632.Idx → EReal := m ((c : Thread nD τ).loc main_arg0)
abbrev a1 : S5632x2048.Idx → EReal := m ((c : Thread nD τ).loc main_arg1)
abbrev a2 : S4096x2048.Idx → EReal := m ((c : Thread nD τ).loc main_arg2)

/-- What one grid point computes. -/
theorem pay (x : S1024x5632.Idx → EReal) (w : S5632x512.Idx → EReal) (y : S1024x512.Idx → EReal) (r : Fin 1024) (d : Fin 512) :
    out0_3 (F := Ideal) x w y (ix2 r d) = (∑ k : Fin 5632, x (ix2 r k) * w (ix2 k d)) + y (ix2 r d) := by
  frame_out
  pointwise [k0_pay1]

/-- The block indices of grid point `t = 4 i + j`. -/
theorem idx : ∀ t : Fin cfg0.N, win0_0.index t = ![t.val / 4, 0] ∧ win0_1.index t = ![0, t.val % 4] ∧ win0_2.index t = ![t.val / 4, t.val % 4]
    ∧ win0_3.index t = ![t.val / 4, t.val % 4] :=
  (by decide +kernel : ∀ t : Fin grid0.N, _)

theorem va (i : Fin 4096) (k : Fin 5632) : (V m c main_v0 : S4096x5632.Idx → EReal) (ix2 i k) = a0 m c (ix2 i k) := by
  show (StableHlo.after hostOps0 (fun b => m (c, b)) (Proc.devRef .tc main_v0) : S4096x5632.Idx → EReal) (ix2 i k) = _
  after_results_simp
  pointwise []

theorem vw (k : Fin 5632) (z : Fin 2048) : (V m c main_v1 : S5632x2048.Idx → EReal) (ix2 k z) = a1 m c (ix2 k z) := by
  show (StableHlo.after hostOps0 (fun b => m (c, b)) (Proc.devRef .tc main_v1) : S5632x2048.Idx → EReal) (ix2 k z) = _
  after_results_simp
  pointwise []

section
variable (t : Fin cfg0.N) (r : Fin 1024) (d : Fin 512) (i : Fin 4096) (z : Fin 2048) (ei : (i : ℕ) = t.val / 4 * 1024 + r)
  (ez : (z : ℕ) = t.val % 4 * 512 + d)

include ei in
theorem ba (k : Fin 5632) : (iblk m c 0 t : Vec Ideal S1024x5632 .f32) (ix2 r k) = a0 m c (ix2 i k) := by
  refine Eq.trans ?_ (va m c i k)
  obtain ⟨X, hV⟩ : ∃ X, V m c main_v0 = X := ⟨_, rfl⟩
  rw [hV]
  show (iblk m c 0 t : Vec Ideal S1024x5632 .f32) (ix2 r k) = _
  blk_point [iblk, hV, idx t]

include ez in
theorem bw (k : Fin 5632) : (iblk m c 1 t : Vec Ideal S5632x512 .f32) (ix2 k d) = a1 m c (ix2 k z) := by
  refine Eq.trans ?_ (vw m c k z)
  obtain ⟨X, hV⟩ : ∃ X, V m c main_v1 = X := ⟨_, rfl⟩
  rw [hV]
  show (iblk m c 1 t : Vec Ideal S5632x512 .f32) (ix2 k d) = _
  blk_point [iblk, hV, idx t]

include ei ez in
theorem br : (iblk m c 2 t : Vec Ideal S1024x512 .f32) (ix2 r d) = a2 m c (ix2 i z) := by
  refine Eq.trans ?_ (congrFun (V_main_arg2 m c) (ix2 i z))
  obtain ⟨X, hV⟩ : ∃ X, V m c main_arg2 = X := ⟨_, rfl⟩
  rw [hV]
  show (iblk m c 2 t : Vec Ideal S1024x512 .f32) (ix2 r d) = _
  blk_point [iblk, hV, idx t]

end

/-- The kernel's result at an index. -/
def out (i : Fin 4096) (z : Fin 2048) : EReal := (∑ k : Fin 5632, a0 m c (ix2 i k) * a1 m c (ix2 k z)) + a2 m c (ix2 i z)

theorem final : (dats m 0 c).arrAt 3 cfg0.N = fun y : S4096x2048.Idx => out m c (y 0) (y 1) := by
  refine (dats m 0 c).arrAt_eq_of_covers 3 _ (by decide +kernel) fun t hf y => ?_
  blk_simp
  have e0 : (((win0_3.blk t).view.emb y 0 : Fin 4096) : ℕ) = t.val / 4 * 1024 + (y 0 : Fin 1024) := by blk_simp [idx t]
  have e1 : (((win0_3.blk t).view.emb y 1 : Fin 2048) : ℕ) = t.val % 4 * 512 + (y 1 : Fin 512) := by blk_simp [idx t]
  rw [after0_3]
  refine (congrArg _ (ix2_eta (n0 := 1024) (n1 := 512) y).symm).trans ?_
  refine (pay _ _ _ (y 0) (y 1)).trans (congrArg₂ (· + ·) (Finset.sum_congr rfl fun k _ => congrArg₂ (· * ·) (ba m c t (y 0) _ e0 k) (bw m c t (y 1) _ e1 k)) ?_)
  exact br m c t (y 0) (y 1) _ _ e0 e1

theorem ref (x : S4096x5632.Idx → EReal) (w : S5632x2048.Idx → EReal) (r : S4096x2048.Idx → EReal) (i : Fin 4096) (z : Fin 2048) :
    Cert.MmRIdeal.Read.val_main_v1 (F := Ideal) x w r (ix2 i z) = r (ix2 i z) + ∑ k : Fin 5632, x (ix2 i k) * w (ix2 k z) := by
  pointwise [Cert.MmRIdeal.Read.val_main_v1, Cert.MmRIdeal.Read.val_main_v0]

theorem eq : Cert.MmRIdeal.Read.val_main_v1 (F := Ideal) (a0 m c) (a1 m c) (a2 m c) = (dats m 0 c).arrAt 3 cfg0.N := by
  rw [final]
  funext y
  exact (congrArg _ (ix2_eta (n0 := 4096) (n1 := 2048) y).symm).trans ((ref _ _ _ (y 0) (y 1)).trans (add_comm _ _))

/-- The reference runs; its arguments stay. -/
theorem frame_ref : Cert.quiescent_MmRIdeal := fun m ρ _ =>
  (θ_run Cert.MmRIdeal.defs _ _).mono (fun r h => ⟨fun c => (h c).2, sem_eq_zero_of_no_sems (by decide) r.2⟩)
    (Cert.MmRIdeal.Value.run (F := Ideal) m ρ)

theorem value : Cert.algebraic_MmKIdeal_MmRIdeal := by
  pair_intro
  · run_from Cert.MmKIdeal.Gen.run_main m g
    all_goals first | exact V_main_arg0 m c | exact V_main_arg1 m c | exact V_main_arg2 m c | skip
  · run_from Cert.MmRIdeal.Value.run m' g'
    exact (Cert.MmRIdeal.Read.val_main_v1_eq _ _ _).trans (eq m c)

end Cert.MmEq
end
-- ==== Proof.FudClaim.lean ====
/- The gradient of the feed-forward's input through both projections: what the kernel's eight steps add up to at each index,
beside the reference's stages, and the claims. -/
module

public import proofs.«01_k».proof.Defs
public import proofs.«01_k».proof.Proof.Gen.FudKIdeal.Value
public import proofs.«01_k».proof.Proof.Gen.FudRIdeal.Read
public import proofs.«01_k».proof.Proof.Gen.FudRIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FudEq

open Cert.FudKIdeal Cert.FudKIdeal.Gen

variable (m : (ℓ : Loc nD τ sig) → Buf (Elt Ideal) ℓ) (c : Dev nD)

abbrev a0 : S4096x5632.Idx → EReal := m ((c : Thread nD τ).loc main_arg0)
abbrev a1 : S4096x5632.Idx → EReal := m ((c : Thread nD τ).loc main_arg1)
abbrev a2 : S2048x5632.Idx → EReal := m ((c : Thread nD τ).loc main_arg2)
abbrev a3 : S2048x5632.Idx → EReal := m ((c : Thread nD τ).loc main_arg3)

/-- What one step adds: the product of a block of rows with a block of a weight's rows. -/
def bp (x : S1024x1408.Idx → EReal) (w : S1x1024x1408.Idx → EReal) (r d : Fin 1024) : EReal := ∑ k : Fin 1408, x (ix2 r k) * w (ix3 0 d k)

theorem pay1 (j : S1024x1024.Idx) : k0_pay1 (F := Ideal) j = 0 := by
  pointwise [k0_pay1]

theorem pay2' (a : S1024x1024.Idx → EReal) (x : S1024x1408.Idx → EReal) (w : S1x1024x1408.Idx → EReal) (r d : Fin 1024) :
    k0_pay2 (F := Ideal) a x w (ix2 r d) = a (ix2 r d) + bp x w r d := by
  pointwise [k0_pay2, bp]

theorem pay2 (a : S1024x1024.Idx → EReal) (x : S1024x1408.Idx → EReal) (w : S1x1024x1408.Idx → EReal) (j : S1024x1024.Idx) :
    k0_pay2 (F := Ideal) a x w j = a j + bp x w (j 0) (j 1) :=
  (congrArg _ (ix2_eta (n0 := 1024) (n1 := 1024) j).symm).trans
    ((pay2' a x w (j 0) (j 1)).trans (congrArg (a · + bp x w (j 0) (j 1)) (ix2_eta (n0 := 1024) (n1 := 1024) j)))

theorem pay3' (a : S1024x1024.Idx → EReal) (x : S1024x1408.Idx → EReal) (w : S1x1024x1408.Idx → EReal) (r d : Fin 1024) :
    k0_pay3 (F := Ideal) a x w (ix2 r d) = a (ix2 r d) + bp x w r d := by
  pointwise [k0_pay3, bp]

theorem pay3 (a : S1024x1024.Idx → EReal) (x : S1024x1408.Idx → EReal) (w : S1x1024x1408.Idx → EReal) (j : S1024x1024.Idx) :
    k0_pay3 (F := Ideal) a x w j = a j + bp x w (j 0) (j 1) :=
  (congrArg _ (ix2_eta (n0 := 1024) (n1 := 1024) j).symm).trans
    ((pay3' a x w (j 0) (j 1)).trans (congrArg (a · + bp x w (j 0) (j 1)) (ix2_eta (n0 := 1024) (n1 := 1024) j)))

theorem pay4 (a : S1024x1024.Idx → EReal) (j : S1024x1024.Idx) : k0_pay4 (F := Ideal) a j = a j := by
  pointwise [k0_pay4]

/-- The step at a point, and what the accumulator holds after it. -/
def term (t : Fin cfg0.N) (j : S1024x1024.Idx) : EReal :=
  if t.val % 8 ≤ 3 then bp (iblk m c 0 t) (iblk m c 2 t) (j 0) (j 1) else bp (iblk m c 1 t) (iblk m c 3 t) (j 0) (j 1)

theorem reset (t : Fin cfg0.N) (h : t.val % 8 = 0) (j : S1024x1024.Idx) : (outsAt0 m c t.val t.isLt).2 j = 0 + term m c t j := by
  rw [outsAt0_A m c t h (by omega) (by omega) (by omega), term, if_pos (by omega)]
  frame_out
  rw [pay2, pay1]

theorem step (t : Fin cfg0.N) (h : ¬t.val % 8 = 0) (j : S1024x1024.Idx) :
    (outsAt0 m c t.val t.isLt).2 j = (outsAt0 m c (t.val - 1) (Nat.lt_of_le_of_lt (Nat.sub_le _ _) t.isLt)).2 j + term m c t j := by
  rw [term]
  split_ifs with h1
  · rw [outsAt0_B m c t h h1 (by omega) (by omega)]
    frame_out
    simp only [read_unread_whole]
    rw [pay2]
  · by_cases h7 : t.val % 8 = 7
    · rw [outsAt0_D m c t h h1 (by omega) h7]
      frame_out
      simp only [read_unread_whole]
      rw [pay3]
    · rw [outsAt0_C m c t h h1 (by omega) h7]
      frame_out
      simp only [read_unread_whole]
      rw [pay3]

theorem last (t : Fin cfg0.N) (h : t.val % 8 = 7) (j : S1024x1024.Idx) : (outsAt0 m c t.val t.isLt).1 j = (outsAt0 m c t.val t.isLt).2 j := by
  rw [outsAt0_D m c t (by omega) (by omega) (by omega) h]
  dsimp only
  frame_out
  rw [pay4]

theorem acc (t : Fin cfg0.N) (h : t.val % 8 = 7) (j : S1024x1024.Idx) :
    (outsAt0 m c t.val t.isLt).2 j = 0 + ∑ s : Fin 8, term m c ⟨8 * (t.val / 8) + s.val, Pipeline.run_point_lt_of_flush t h s⟩ j :=
  Pipeline.eq_sum_fin_of_reset_step_apply_of_flush (fun n h => (outsAt0 m c n h).2) 8 (fun _ => 0) (term m c) (reset m c) (step m c) t h j

/-- The block indices of grid point `t = 16 i + 8 j + k`. -/
theorem idx : ∀ t : Fin cfg0.N, win0_0.index t = ![t.val / 16, min (t.val % 8) 3] ∧ win0_1.index t = ![t.val / 16, t.val % 8 - 4]
    ∧ win0_2.index t = ![min (t.val % 8) 3, t.val / 8 % 2, 0] ∧ win0_3.index t = ![t.val % 8 - 4, t.val / 8 % 2, 0]
    ∧ win0_4.index t = ![t.val / 16, t.val / 8 % 2] :=
  (by decide +kernel : ∀ t : Fin grid0.N, _)

/-- The arguments as the call receives them: the weights cut into four parts of columns. -/
theorem v0 (i : Fin 4096) (k : Fin 5632) : (V m c main_v0 : S4096x5632.Idx → EReal) (ix2 i k) = a0 m c (ix2 i k) := by
  show (StableHlo.after hostOps0 (fun b => m (c, b)) (Proc.devRef .tc main_v0) : S4096x5632.Idx → EReal) (ix2 i k) = _
  after_results_simp
  pointwise []

theorem v1 (i : Fin 4096) (k : Fin 5632) : (V m c main_v1 : S4096x5632.Idx → EReal) (ix2 i k) = a1 m c (ix2 i k) := by
  show (StableHlo.after hostOps0 (fun b => m (c, b)) (Proc.devRef .tc main_v1) : S4096x5632.Idx → EReal) (ix2 i k) = _
  after_results_simp
  pointwise []

theorem v4 (j : Fin 4) (k : Fin 2048) (d : Fin 1408) (z : Fin 5632) (hz : (z : ℕ) = j * 1408 + d) :
    (V m c main_v4 : S4x2048x1408.Idx → EReal) (ix3 j k d) = a2 m c (ix2 k z) := by
  show (StableHlo.after hostOps0 (fun b => m (c, b)) (Proc.devRef .tc main_v4) : S4x2048x1408.Idx → EReal) (ix3 j k d) = _
  after_results_simp
  pointwise []
  exact congrArg (fun q => a2 m c (ix2 k q)) (Fin.ext hz.symm)

theorem v7 (j : Fin 4) (k : Fin 2048) (d : Fin 1408) (z : Fin 5632) (hz : (z : ℕ) = j * 1408 + d) :
    (V m c main_v7 : S4x2048x1408.Idx → EReal) (ix3 j k d) = a3 m c (ix2 k z) := by
  show (StableHlo.after hostOps0 (fun b => m (c, b)) (Proc.devRef .tc main_v7) : S4x2048x1408.Idx → EReal) (ix3 j k d) = _
  after_results_simp
  pointwise []
  exact congrArg (fun q => a3 m c (ix2 k q)) (Fin.ext hz.symm)

section
variable (t : Fin cfg0.N) (r d : Fin 1024) (k : Fin 1408) (q : Fin 4) (i : Fin 4096) (n : Fin 2048) (z : Fin 5632)
  (ei : (i : ℕ) = t.val / 16 * 1024 + r) (en : (n : ℕ) = t.val / 8 % 2 * 1024 + d) (ez : (z : ℕ) = q * 1408 + k)

include ei ez in
theorem b0 (hq : t.val % 8 = q) : (iblk m c 0 t : Vec Ideal S1024x1408 .f32) (ix2 r k) = a0 m c (ix2 i z) := by
  refine Eq.trans ?_ (v0 m c i z)
  obtain ⟨X, hV⟩ : ∃ X, V m c main_v0 = X := ⟨_, rfl⟩
  rw [hV]
  show (iblk m c 0 t : Vec Ideal S1024x1408 .f32) (ix2 r k) = _
  have hm : min (t.val % 8) 3 = q := by omega
  blk_point [iblk, hV, idx t]

include ei ez in
theorem b1 (hq : t.val % 8 = 4 + q) : (iblk m c 1 t : Vec Ideal S1024x1408 .f32) (ix2 r k) = a1 m c (ix2 i z) := by
  refine Eq.trans ?_ (v1 m c i z)
  obtain ⟨X, hV⟩ : ∃ X, V m c main_v1 = X := ⟨_, rfl⟩
  rw [hV]
  show (iblk m c 1 t : Vec Ideal S1024x1408 .f32) (ix2 r k) = _
  have hm : t.val % 8 - 4 = q := by omega
  blk_point [iblk, hV, idx t]

include en ez in
theorem b2 (hq : t.val % 8 = q) : (iblk m c 2 t : Vec Ideal S1x1024x1408 .f32) (ix3 0 d k) = a2 m c (ix2 n z) := by
  refine Eq.trans ?_ (v4 m c q n k z ez)
  obtain ⟨X, hV⟩ : ∃ X, V m c main_v4 = X := ⟨_, rfl⟩
  rw [hV]
  show (iblk m c 2 t : Vec Ideal S1x1024x1408 .f32) (ix3 0 d k) = _
  have hm : min (t.val % 8) 3 = q := by omega
  blk_point [iblk, hV, idx t]

include en ez in
theorem b3 (hq : t.val % 8 = 4 + q) : (iblk m c 3 t : Vec Ideal S1x1024x1408 .f32) (ix3 0 d k) = a3 m c (ix2 n z) := by
  refine Eq.trans ?_ (v7 m c q n k z ez)
  obtain ⟨X, hV⟩ : ∃ X, V m c main_v7 = X := ⟨_, rfl⟩
  rw [hV]
  show (iblk m c 3 t : Vec Ideal S1x1024x1408 .f32) (ix3 0 d k) = _
  have hm : t.val % 8 - 4 = q := by omega
  blk_point [iblk, hV, idx t]

end

/-- A product of a row of gradients with a row of a weight. -/
def pr (x : S4096x5632.Idx → EReal) (w : S2048x5632.Idx → EReal) (i : Fin 4096) (n : Fin 2048) : EReal := ∑ z : Fin 5632, x (ix2 i z) * w (ix2 n z)

/-- A weight's column in its four parts. -/
def col (q : Fin 4) (k : Fin 1408) : Fin 5632 := ⟨(q : ℕ) * 1408 + k, by omega⟩

theorem tiles (x : S4096x5632.Idx → EReal) (w : S2048x5632.Idx → EReal) (i : Fin 4096) (n : Fin 2048) :
    pr x w i n = ∑ q : Fin 4, ∑ k : Fin 1408, x (ix2 i (col q k)) * w (ix2 n (col q k)) :=
  Fin.sum_univ_tiles 4 1408 (show 4 * 1408 = 5632 from rfl) (fun z => x (ix2 i z) * w (ix2 n z))

section
variable (t : Fin cfg0.N) (j : S1024x1024.Idx) (i : Fin 4096) (n : Fin 2048) (q : Fin 4) (ei : (i : ℕ) = t.val / 16 * 1024 + (j 0 : Fin 1024))
  (en : (n : ℕ) = t.val / 8 % 2 * 1024 + (j 1 : Fin 1024))
include ei en

theorem term_lo (hq : t.val % 8 = q) : term m c t j = ∑ k : Fin 1408, a0 m c (ix2 i (col q k)) * a2 m c (ix2 n (col q k)) := by
  have hlt := q.isLt
  rw [term, if_pos (by omega)]
  exact Finset.sum_congr rfl fun k _ => congrArg₂ (· * ·) (b0 m c t (j 0) k q i _ ei rfl hq) (b2 m c t (j 1) k q n _ en rfl hq)

theorem term_hi (hq : t.val % 8 = 4 + q) : term m c t j = ∑ k : Fin 1408, a1 m c (ix2 i (col q k)) * a3 m c (ix2 n (col q k)) := by
  rw [term, if_neg (by omega)]
  exact Finset.sum_congr rfl fun k _ => congrArg₂ (· * ·) (b1 m c t (j 0) k q i _ ei rfl hq) (b3 m c t (j 1) k q n _ en rfl hq)
end

/-- What the accumulator holds at the last step: both products. -/
theorem total (t : Fin cfg0.N) (h : t.val % 8 = 7) (j : S1024x1024.Idx) (i : Fin 4096) (n : Fin 2048)
    (ei : (i : ℕ) = t.val / 16 * 1024 + (j 0 : Fin 1024)) (en : (n : ℕ) = t.val / 8 % 2 * 1024 + (j 1 : Fin 1024)) :
    (outsAt0 m c t.val t.isLt).1 j = pr (a1 m c) (a3 m c) i n + pr (a0 m c) (a2 m c) i n := by
  have hs (s : Fin 8) : (8 * (t.val / 8) + s.val) / 16 = t.val / 16 ∧ (8 * (t.val / 8) + s.val) / 8 % 2 = t.val / 8 % 2
      ∧ (8 * (t.val / 8) + s.val) % 8 = s := by omega
  rw [last m c t h, acc m c t h, zero_add, add_comm (pr (a1 m c) (a3 m c) i n), tiles, tiles]
  refine (Fin.sum_univ_add (a := 4) (b := 4) (fun s : Fin 8 => term m c ⟨8 * (t.val / 8) + s.val, Pipeline.run_point_lt_of_flush t h s⟩ j)).trans ?_
  refine congrArg₂ (· + ·) (Finset.sum_congr rfl fun q _ => ?_) (Finset.sum_congr rfl fun q _ => ?_)
  · obtain ⟨h0, h1, h2⟩ := hs (Fin.castAdd 4 q)
    exact term_lo m c _ j i n q (ei.trans (congrArg (· * 1024 + _) h0.symm)) (en.trans (congrArg (· * 1024 + _) h1.symm)) h2
  · obtain ⟨h0, h1, h2⟩ := hs (Fin.natAdd 4 q)
    exact term_hi m c _ j i n q (ei.trans (congrArg (· * 1024 + _) h0.symm)) (en.trans (congrArg (· * 1024 + _) h1.symm)) h2

/-- The kernel's result at an index. -/
def out (i : Fin 4096) (n : Fin 2048) : EReal := pr (a1 m c) (a3 m c) i n + pr (a0 m c) (a2 m c) i n

theorem final : (dats m 0 c).arrAt 4 cfg0.N = fun y : S4096x2048.Idx => out m c (y 0) (y 1) := by
  refine (dats m 0 c).arrAt_eq_of_covers 4 _ (by decide +kernel) fun t hf y => ?_
  have h7 := (flush0_4 t).mp hf
  blk_simp
  have e0 : (((win0_4.blk t).view.emb y 0 : Fin 4096) : ℕ) = t.val / 16 * 1024 + (y 0 : Fin 1024) := by blk_simp [idx t]
  have e1 : (((win0_4.blk t).view.emb y 1 : Fin 2048) : ℕ) = t.val / 8 % 2 * 1024 + (y 1 : Fin 1024) := by blk_simp [idx t]
  rw [after0_4]
  exact total m c t h7 y _ _ e0 e1

theorem ref (x y : S4096x5632.Idx → EReal) (u w : S2048x5632.Idx → EReal) (i : Fin 4096) (n : Fin 2048) :
    Cert.FudRIdeal.Read.val_main_v5 (F := Ideal) x y u w (ix2 i n) = pr y w i n + pr x u i n := by
  pointwise [Cert.FudRIdeal.Read.val_main_v5, Cert.FudRIdeal.Read.val_main_v4, Cert.FudRIdeal.Read.val_main_v3, pr]

theorem eq : Cert.FudRIdeal.Read.val_main_v5 (F := Ideal) (a0 m c) (a1 m c) (a2 m c) (a3 m c) = (dats m 0 c).arrAt 4 cfg0.N := by
  rw [final]
  funext y
  exact (congrArg _ (ix2_eta (n0 := 4096) (n1 := 2048) y).symm).trans (ref _ _ _ _ (y 0) (y 1))

/-- The reference runs; its arguments stay. -/
theorem frame_ref : Cert.quiescent_FudRIdeal := fun m ρ _ =>
  (θ_run Cert.FudRIdeal.defs _ _).mono (fun r h => ⟨fun c => (h c).2, sem_eq_zero_of_no_sems (by decide) r.2⟩)
    (Cert.FudRIdeal.Value.run (F := Ideal) m ρ)

theorem value : Cert.algebraic_FudKIdeal_FudRIdeal := by
  pair_intro
  · run_from Cert.FudKIdeal.Gen.run_main m g
    all_goals first | exact V_main_arg0 m c | exact V_main_arg1 m c | exact V_main_arg2 m c | exact V_main_arg3 m c | skip
  · run_from Cert.FudRIdeal.Value.run m' g'
    exact (Cert.FudRIdeal.Read.val_main_v5_eq _ _ _ _).trans (eq m c)

end Cert.FudEq
end
-- ==== Proof.AdwClaim.lean ====
/- The optimiser's step of a weight on the sum of the two cores' gradients: what the kernel writes at each index, beside the
reference's stages, and the claims. -/
module

public import proofs.«01_k».proof.Defs
public import proofs.«01_k».proof.Proof.Gen.AdwKIdeal.Value
public import proofs.«01_k».proof.Proof.Gen.AdwRIdeal.Read
public import proofs.«01_k».proof.Proof.Gen.AdwRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdwEq

open Cert.AdwKIdeal Cert.AdwKIdeal.Gen

variable (m : (ℓ : Loc nD τ sig) → Buf (Elt Ideal) ℓ) (c : Dev nD)

abbrev a0 : S4096x1408.Idx → EReal := m ((c : Thread nD τ).loc main_arg0)
abbrev a1 : S4096x1408.Idx → EReal := m ((c : Thread nD τ).loc main_arg1)
abbrev a2 : S2x2048x1408.Idx → EReal := m ((c : Thread nD τ).loc main_arg2)
abbrev a3 : S2x2048x1408.Idx → EReal := m ((c : Thread nD τ).loc main_arg3)
abbrev a4 : S2x2048x1408.Idx → EReal := m ((c : Thread nD τ).loc main_arg4)

/-- A constant of the optimiser, from its bits. -/
abbrev K (b : BitVec 32) : EReal := (Scalar.ofBits .f32 b : Ideal .f32)

/-- The two moments and the step, from the gradient `g`, the weight `w` and the old moments `p`, `q`. -/
def fm (g p : EReal) : EReal := K 0x3F666666#32 * p + K 0x3DCCCCCD#32 * g
def fv (g q : EReal) : EReal := K 0x3F7FBE77#32 * q + K 0x3A83126F#32 * (g * g)
def fd (g w p q : EReal) : EReal :=
  K 0xBA83126F#32 * (Ideal.div (Ideal.div (fm g p) (K 0x3F26BD02#32)) (Ideal.sqrt (Ideal.div (fv g q) (K 0x3C231ACC#32)) + K 0x322BCC77#32)
    + K 0x3C23D70A#32 * w)

section
variable (x y : S128x1408.Idx → EReal) (w p q : S1x128x1408.Idx → EReal) (o : Fin 1) (r : Fin 128) (d : Fin 1408)

/-- What one grid point computes. -/
theorem st5 : k0_pay5 (F := Ideal) x y (ix2 r d) = x (ix2 r d) + y (ix2 r d) := by
  pointwise [k0_pay5]

theorem st6 : k0_pay6 (F := Ideal) x y p (ix2 r d) = fm (x (ix2 r d) + y (ix2 r d)) (p (ix3 0 r d)) := by
  rw [← st5]
  pointwise [k0_pay6, fm]

theorem st7 : k0_pay7 (F := Ideal) x y q (ix2 r d) = fv (x (ix2 r d) + y (ix2 r d)) (q (ix3 0 r d)) := by
  rw [← st5]
  pointwise [k0_pay7, fv]

theorem st8 : k0_pay8 (F := Ideal) x y w p q (ix2 r d) = fd (x (ix2 r d) + y (ix2 r d)) (w (ix3 0 r d)) (p (ix3 0 r d)) (q (ix3 0 r d)) := by
  rw [fd, ← st6, ← st7]
  pointwise [k0_pay8]

theorem pay5 : out0_5 (F := Ideal) x y w p q (ix3 o r d) = x (ix2 r d) + y (ix2 r d) := by
  obtain rfl : o = 0 := Subsingleton.elim _ _
  frame_out
  refine Eq.trans ?_ (st5 x y r d)
  pointwise [k0_pay1]

theorem pay6 : out0_6 (F := Ideal) x y w p q (ix3 o r d) = fd (x (ix2 r d) + y (ix2 r d)) (w (ix3 0 r d)) (p (ix3 0 r d)) (q (ix3 0 r d)) := by
  obtain rfl : o = 0 := Subsingleton.elim _ _
  frame_out
  refine Eq.trans ?_ (st8 x y w p q r d)
  pointwise [k0_pay2]

theorem pay7 : out0_7 (F := Ideal) x y w p q (ix3 o r d) = fm (x (ix2 r d) + y (ix2 r d)) (p (ix3 0 r d)) := by
  obtain rfl : o = 0 := Subsingleton.elim _ _
  frame_out
  refine Eq.trans ?_ (st6 x y p r d)
  pointwise [k0_pay3]

theorem pay8 : out0_8 (F := Ideal) x y w p q (ix3 o r d) = fv (x (ix2 r d) + y (ix2 r d)) (q (ix3 0 r d)) := by
  obtain rfl : o = 0 := Subsingleton.elim _ _
  frame_out
  refine Eq.trans ?_ (st7 x y q r d)
  pointwise [k0_pay4]
end

/-- The block indices of grid point `t = 16 l + j`. -/
theorem idx : ∀ t : Fin cfg0.N, win0_0.index t = ![t.val, 0] ∧ win0_1.index t = ![t.val, 0] ∧ win0_2.index t = ![t.val / 16, t.val % 16, 0]
    ∧ win0_3.index t = ![t.val / 16, t.val % 16, 0] ∧ win0_4.index t = ![t.val / 16, t.val % 16, 0] ∧ win0_5.index t = ![t.val / 16, t.val % 16, 0]
    ∧ win0_6.index t = ![t.val / 16, t.val % 16, 0] ∧ win0_7.index t = ![t.val / 16, t.val % 16, 0] ∧ win0_8.index t = ![t.val / 16, t.val % 16, 0] :=
  (by decide +kernel : ∀ t : Fin grid0.N, _)

/-- Row `i` of layer `l` in a gradient's rows. -/
def row (l : Fin 2) (i : Fin 2048) : Fin 4096 := ⟨(l : ℕ) * 2048 + i, by omega⟩

section
variable (t : Fin cfg0.N) (r : Fin 128) (d : Fin 1408) (l : Fin 2) (i : Fin 2048) (z : Fin 1408) (el : (l : ℕ) = t.val / 16)
  (ei : (i : ℕ) = t.val % 16 * 128 + r) (ez : (z : ℕ) = d)

include el ei ez

theorem b0 : (iblk m c 0 t : Vec Ideal S128x1408 .f32) (ix2 r d) = a0 m c (ix2 (row l i) z) := by
  obtain rfl : z = d := Fin.ext ez
  have er : ((row l i : Fin 4096) : ℕ) = t.val * 128 + r := by
    show (l : ℕ) * 2048 + i = _
    omega
  generalize row l i = k at er ⊢
  refine Eq.trans ?_ (congrFun (V_main_arg0 m c) (ix2 k z))
  obtain ⟨X, hV⟩ : ∃ X, V m c main_arg0 = X := ⟨_, rfl⟩
  rw [hV]
  show (iblk m c 0 t : Vec Ideal S128x1408 .f32) (ix2 r z) = _
  blk_point [iblk, hV, idx t]

theorem b1 : (iblk m c 1 t : Vec Ideal S128x1408 .f32) (ix2 r d) = a1 m c (ix2 (row l i) z) := by
  obtain rfl : z = d := Fin.ext ez
  have er : ((row l i : Fin 4096) : ℕ) = t.val * 128 + r := by
    show (l : ℕ) * 2048 + i = _
    omega
  generalize row l i = k at er ⊢
  refine Eq.trans ?_ (congrFun (V_main_arg1 m c) (ix2 k z))
  obtain ⟨X, hV⟩ : ∃ X, V m c main_arg1 = X := ⟨_, rfl⟩
  rw [hV]
  show (iblk m c 1 t : Vec Ideal S128x1408 .f32) (ix2 r z) = _
  blk_point [iblk, hV, idx t]

theorem b2 : (iblk m c 2 t : Vec Ideal S1x128x1408 .f32) (ix3 0 r d) = a2 m c (ix3 l i z) := by
  obtain rfl : z = d := Fin.ext ez
  refine Eq.trans ?_ (congrFun (V_main_arg2 m c) (ix3 l i z))
  obtain ⟨X, hV⟩ : ∃ X, V m c main_arg2 = X := ⟨_, rfl⟩
  rw [hV]
  show (iblk m c 2 t : Vec Ideal S1x128x1408 .f32) (ix3 0 r z) = _
  blk_point [iblk, hV, idx t]

theorem b3 : (iblk m c 3 t : Vec Ideal S1x128x1408 .f32) (ix3 0 r d) = a3 m c (ix3 l i z) := by
  obtain rfl : z = d := Fin.ext ez
  refine Eq.trans ?_ (congrFun (V_main_arg3 m c) (ix3 l i z))
  obtain ⟨X, hV⟩ : ∃ X, V m c main_arg3 = X := ⟨_, rfl⟩
  rw [hV]
  show (iblk m c 3 t : Vec Ideal S1x128x1408 .f32) (ix3 0 r z) = _
  blk_point [iblk, hV, idx t]

theorem b4 : (iblk m c 4 t : Vec Ideal S1x128x1408 .f32) (ix3 0 r d) = a4 m c (ix3 l i z) := by
  obtain rfl : z = d := Fin.ext ez
  refine Eq.trans ?_ (congrFun (V_main_arg4 m c) (ix3 l i z))
  obtain ⟨X, hV⟩ : ∃ X, V m c main_arg4 = X := ⟨_, rfl⟩
  rw [hV]
  show (iblk m c 4 t : Vec Ideal S1x128x1408 .f32) (ix3 0 r z) = _
  blk_point [iblk, hV, idx t]

end

/-- The kernel's results at an index: the gradient's sum, the step, the two moments. -/
def og (l : Fin 2) (i : Fin 2048) (z : Fin 1408) : EReal := a0 m c (ix2 (row l i) z) + a1 m c (ix2 (row l i) z)
def od (l : Fin 2) (i : Fin 2048) (z : Fin 1408) : EReal := fd (og m c l i z) (a2 m c (ix3 l i z)) (a3 m c (ix3 l i z)) (a4 m c (ix3 l i z))
def om (l : Fin 2) (i : Fin 2048) (z : Fin 1408) : EReal := fm (og m c l i z) (a3 m c (ix3 l i z))
def ov (l : Fin 2) (i : Fin 2048) (z : Fin 1408) : EReal := fv (og m c l i z) (a4 m c (ix3 l i z))

theorem final5 : (dats m 0 c).arrAt 5 cfg0.N = fun y : S2x2048x1408.Idx => og m c (y 0) (y 1) (y 2) := by
  refine (dats m 0 c).arrAt_eq_of_covers 5 _ (by decide +kernel) fun t hf y => ?_
  blk_simp
  have e0 : (((win0_5.blk t).view.emb y 0 : Fin 2) : ℕ) = t.val / 16 := by
    have := (y 0 : Fin 1).isLt
    blk_simp [idx t]
    try omega
  have e1 : (((win0_5.blk t).view.emb y 1 : Fin 2048) : ℕ) = t.val % 16 * 128 + (y 1 : Fin 128) := by blk_simp [idx t]
  have e2 : (((win0_5.blk t).view.emb y 2 : Fin 1408) : ℕ) = (y 2 : Fin 1408) := by blk_simp [idx t]
  rw [after0_5]
  refine (congrArg _ (ix3_eta (n0 := 1) (n1 := 128) (n2 := 1408) y).symm).trans ?_
  refine (pay5 _ _ _ _ _ (y 0) (y 1) (y 2)).trans ?_
  rw [b0 m c t (y 1) (y 2) _ _ _ e0 e1 e2, b1 m c t (y 1) (y 2) _ _ _ e0 e1 e2]
  rfl

theorem final6 : (dats m 0 c).arrAt 6 cfg0.N = fun y : S2x2048x1408.Idx => od m c (y 0) (y 1) (y 2) := by
  refine (dats m 0 c).arrAt_eq_of_covers 6 _ (by decide +kernel) fun t hf y => ?_
  blk_simp
  have e0 : (((win0_6.blk t).view.emb y 0 : Fin 2) : ℕ) = t.val / 16 := by
    have := (y 0 : Fin 1).isLt
    blk_simp [idx t]
    try omega
  have e1 : (((win0_6.blk t).view.emb y 1 : Fin 2048) : ℕ) = t.val % 16 * 128 + (y 1 : Fin 128) := by blk_simp [idx t]
  have e2 : (((win0_6.blk t).view.emb y 2 : Fin 1408) : ℕ) = (y 2 : Fin 1408) := by blk_simp [idx t]
  rw [after0_6]
  refine (congrArg _ (ix3_eta (n0 := 1) (n1 := 128) (n2 := 1408) y).symm).trans ?_
  refine (pay6 _ _ _ _ _ (y 0) (y 1) (y 2)).trans ?_
  rw [b0 m c t (y 1) (y 2) _ _ _ e0 e1 e2, b1 m c t (y 1) (y 2) _ _ _ e0 e1 e2, b2 m c t (y 1) (y 2) _ _ _ e0 e1 e2, b3 m c t (y 1) (y 2) _ _ _ e0 e1 e2, b4 m c t (y 1) (y 2) _ _ _ e0 e1 e2]
  rfl

theorem final7 : (dats m 0 c).arrAt 7 cfg0.N = fun y : S2x2048x1408.Idx => om m c (y 0) (y 1) (y 2) := by
  refine (dats m 0 c).arrAt_eq_of_covers 7 _ (by decide +kernel) fun t hf y => ?_
  blk_simp
  have e0 : (((win0_7.blk t).view.emb y 0 : Fin 2) : ℕ) = t.val / 16 := by
    have := (y 0 : Fin 1).isLt
    blk_simp [idx t]
    try omega
  have e1 : (((win0_7.blk t).view.emb y 1 : Fin 2048) : ℕ) = t.val % 16 * 128 + (y 1 : Fin 128) := by blk_simp [idx t]
  have e2 : (((win0_7.blk t).view.emb y 2 : Fin 1408) : ℕ) = (y 2 : Fin 1408) := by blk_simp [idx t]
  rw [after0_7]
  refine (congrArg _ (ix3_eta (n0 := 1) (n1 := 128) (n2 := 1408) y).symm).trans ?_
  refine (pay7 _ _ _ _ _ (y 0) (y 1) (y 2)).trans ?_
  rw [b0 m c t (y 1) (y 2) _ _ _ e0 e1 e2, b1 m c t (y 1) (y 2) _ _ _ e0 e1 e2, b3 m c t (y 1) (y 2) _ _ _ e0 e1 e2]
  rfl

theorem final8 : (dats m 0 c).arrAt 8 cfg0.N = fun y : S2x2048x1408.Idx => ov m c (y 0) (y 1) (y 2) := by
  refine (dats m 0 c).arrAt_eq_of_covers 8 _ (by decide +kernel) fun t hf y => ?_
  blk_simp
  have e0 : (((win0_8.blk t).view.emb y 0 : Fin 2) : ℕ) = t.val / 16 := by
    have := (y 0 : Fin 1).isLt
    blk_simp [idx t]
    try omega
  have e1 : (((win0_8.blk t).view.emb y 1 : Fin 2048) : ℕ) = t.val % 16 * 128 + (y 1 : Fin 128) := by blk_simp [idx t]
  have e2 : (((win0_8.blk t).view.emb y 2 : Fin 1408) : ℕ) = (y 2 : Fin 1408) := by blk_simp [idx t]
  rw [after0_8]
  refine (congrArg _ (ix3_eta (n0 := 1) (n1 := 128) (n2 := 1408) y).symm).trans ?_
  refine (pay8 _ _ _ _ _ (y 0) (y 1) (y 2)).trans ?_
  rw [b0 m c t (y 1) (y 2) _ _ _ e0 e1 e2, b1 m c t (y 1) (y 2) _ _ _ e0 e1 e2, b4 m c t (y 1) (y 2) _ _ _ e0 e1 e2]
  rfl

section
open Cert.AdwRIdeal.Read

variable (x y : S4096x1408.Idx → EReal) (w p q : S2x2048x1408.Idx → EReal) (l : Fin 2) (i : Fin 2048) (z : Fin 1408)

/-- The reference's results at an index. -/
theorem ref1 : val_main_v1 (F := Ideal) x y (ix3 l i z) = x (ix2 (row l i) z) + y (ix2 (row l i) z) := by
  pointwise [val_main_v1, val_main_v0]
  rfl

theorem ref6 : val_main_v6 (F := Ideal) x y p (ix3 l i z) = fm (x (ix2 (row l i) z) + y (ix2 (row l i) z)) (p (ix3 l i z)) := by
  rw [← ref1]
  pointwise [val_main_v6, val_main_v5, val_main_v4, val_main_v3, val_main_v2, val_main_cst, val_main_cst_0, fm]

theorem ref12 : val_main_v12 (F := Ideal) x y q (ix3 l i z) = fv (x (ix2 (row l i) z) + y (ix2 (row l i) z)) (q (ix3 l i z)) := by
  rw [← ref1]
  pointwise [val_main_v12, val_main_v11, val_main_v10, val_main_v9, val_main_v8, val_main_v7, val_main_cst_1, val_main_cst_2, fv]

theorem ref25 : val_main_v25 (F := Ideal) x y w p q (ix3 l i z)
    = fd (x (ix2 (row l i) z) + y (ix2 (row l i) z)) (w (ix3 l i z)) (p (ix3 l i z)) (q (ix3 l i z)) := by
  rw [fd, ← ref6, ← ref12]
  pointwise [val_main_v25, val_main_v24, val_main_v23, val_main_v22, val_main_v21, val_main_v20, val_main_v19, val_main_v18, val_main_v17, val_main_v16,
    val_main_v15, val_main_v14, val_main_v13, val_main_cst_3, val_main_cst_4, val_main_cst_5, val_main_cst_6, val_main_cst_7]
end

theorem eq1 : Cert.AdwRIdeal.Read.val_main_v1 (F := Ideal) (a0 m c) (a1 m c) = (dats m 0 c).arrAt 5 cfg0.N := by
  rw [final5]
  funext y
  exact (congrArg _ (ix3_eta (n0 := 2) (n1 := 2048) (n2 := 1408) y).symm).trans (ref1 _ _ (y 0) (y 1) (y 2))

theorem eq25 : Cert.AdwRIdeal.Read.val_main_v25 (F := Ideal) (a0 m c) (a1 m c) (a2 m c) (a3 m c) (a4 m c) = (dats m 0 c).arrAt 6 cfg0.N := by
  rw [final6]
  funext y
  exact (congrArg _ (ix3_eta (n0 := 2) (n1 := 2048) (n2 := 1408) y).symm).trans (ref25 _ _ _ _ _ (y 0) (y 1) (y 2))

theorem eq6 : Cert.AdwRIdeal.Read.val_main_v6 (F := Ideal) (a0 m c) (a1 m c) (a3 m c) = (dats m 0 c).arrAt 7 cfg0.N := by
  rw [final7]
  funext y
  exact (congrArg _ (ix3_eta (n0 := 2) (n1 := 2048) (n2 := 1408) y).symm).trans (ref6 _ _ _ (y 0) (y 1) (y 2))

theorem eq12 : Cert.AdwRIdeal.Read.val_main_v12 (F := Ideal) (a0 m c) (a1 m c) (a4 m c) = (dats m 0 c).arrAt 8 cfg0.N := by
  rw [final8]
  funext y
  exact (congrArg _ (ix3_eta (n0 := 2) (n1 := 2048) (n2 := 1408) y).symm).trans (ref12 _ _ _ (y 0) (y 1) (y 2))

/-- The reference runs; its arguments stay. -/
theorem frame_ref : Cert.quiescent_AdwRIdeal := fun m ρ _ =>
  (θ_run Cert.AdwRIdeal.defs _ _).mono (fun r h => ⟨fun c => (h c).2.2.2.2, sem_eq_zero_of_no_sems (by decide) r.2⟩)
    (Cert.AdwRIdeal.Value.run (F := Ideal) m ρ)

theorem value : Cert.algebraic_AdwKIdeal_AdwRIdeal := by
  pair_intro
  · run_from Cert.AdwKIdeal.Gen.run_main m g
    all_goals first | exact V_main_arg0 m c | exact V_main_arg1 m c | exact V_main_arg2 m c | exact V_main_arg3 m c | exact V_main_arg4 m c | skip
  · run_from Cert.AdwRIdeal.Value.run m' g'
    · exact (Cert.AdwRIdeal.Read.val_main_v1_eq _ _).trans (eq1 m c)
    · exact (Cert.AdwRIdeal.Read.val_main_v25_eq _ _ _ _ _).trans (eq25 m c)
    · exact (Cert.AdwRIdeal.Read.val_main_v6_eq _ _ _).trans (eq6 m c)
    · exact (Cert.AdwRIdeal.Read.val_main_v12_eq _ _ _).trans (eq12 m c)

end Cert.AdwEq
end
-- ==== Proof.AdwDClaim.lean ====
/- The optimiser's step of w_down on the sum of the two cores' gradients: what the kernel writes at each index, beside the
reference's stages, and the claims. -/
module

public import proofs.«01_k».proof.Defs
public import proofs.«01_k».proof.Proof.AdwClaim
public import proofs.«01_k».proof.Proof.Gen.AdwDKIdeal.Value
public import proofs.«01_k».proof.Proof.Gen.AdwDRIdeal.Read
public import proofs.«01_k».proof.Proof.Gen.AdwDRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdwDEq

open Cert.AdwDKIdeal Cert.AdwDKIdeal.Gen
open Cert.AdwEq (K fm fv fd)

variable (m : (ℓ : Loc nD τ sig) → Buf (Elt Ideal) ℓ) (c : Dev nD)

abbrev a0 : S2816x2048.Idx → EReal := m ((c : Thread nD τ).loc main_arg0)
abbrev a1 : S2816x2048.Idx → EReal := m ((c : Thread nD τ).loc main_arg1)
abbrev a2 : S2x1408x2048.Idx → EReal := m ((c : Thread nD τ).loc main_arg2)
abbrev a3 : S2x1408x2048.Idx → EReal := m ((c : Thread nD τ).loc main_arg3)
abbrev a4 : S2x1408x2048.Idx → EReal := m ((c : Thread nD τ).loc main_arg4)

section
variable (x y : S352x512.Idx → EReal) (w p q : S1x352x512.Idx → EReal) (o : Fin 1) (r : Fin 352) (d : Fin 512)

/-- What one grid point computes. -/
theorem st5 : k0_pay5 (F := Ideal) x y (ix2 r d) = x (ix2 r d) + y (ix2 r d) := by
  pointwise [k0_pay5]

theorem st6 : k0_pay6 (F := Ideal) x y p (ix2 r d) = fm (x (ix2 r d) + y (ix2 r d)) (p (ix3 0 r d)) := by
  rw [← st5]
  pointwise [k0_pay6, fm]

theorem st7 : k0_pay7 (F := Ideal) x y q (ix2 r d) = fv (x (ix2 r d) + y (ix2 r d)) (q (ix3 0 r d)) := by
  rw [← st5]
  pointwise [k0_pay7, fv]

theorem st8 : k0_pay8 (F := Ideal) x y w p q (ix2 r d) = fd (x (ix2 r d) + y (ix2 r d)) (w (ix3 0 r d)) (p (ix3 0 r d)) (q (ix3 0 r d)) := by
  rw [fd, ← st6, ← st7]
  pointwise [k0_pay8]

theorem pay5 : out0_5 (F := Ideal) x y w p q (ix3 o r d) = x (ix2 r d) + y (ix2 r d) := by
  obtain rfl : o = 0 := Subsingleton.elim _ _
  frame_out
  refine Eq.trans ?_ (st5 x y r d)
  pointwise [k0_pay1]

theorem pay6 : out0_6 (F := Ideal) x y w p q (ix3 o r d) = fd (x (ix2 r d) + y (ix2 r d)) (w (ix3 0 r d)) (p (ix3 0 r d)) (q (ix3 0 r d)) := by
  obtain rfl : o = 0 := Subsingleton.elim _ _
  frame_out
  refine Eq.trans ?_ (st8 x y w p q r d)
  pointwise [k0_pay2]

theorem pay7 : out0_7 (F := Ideal) x y w p q (ix3 o r d) = fm (x (ix2 r d) + y (ix2 r d)) (p (ix3 0 r d)) := by
  obtain rfl : o = 0 := Subsingleton.elim _ _
  frame_out
  refine Eq.trans ?_ (st6 x y p r d)
  pointwise [k0_pay3]

theorem pay8 : out0_8 (F := Ideal) x y w p q (ix3 o r d) = fv (x (ix2 r d) + y (ix2 r d)) (q (ix3 0 r d)) := by
  obtain rfl : o = 0 := Subsingleton.elim _ _
  frame_out
  refine Eq.trans ?_ (st7 x y q r d)
  pointwise [k0_pay4]
end

/-- The block indices of grid point `t = 16 l + 4 i + j`. -/
theorem idx : ∀ t : Fin cfg0.N, win0_0.index t = ![t.val / 4, t.val % 4] ∧ win0_1.index t = ![t.val / 4, t.val % 4] ∧ win0_2.index t = ![t.val / 16, t.val / 4 % 4, t.val % 4]
    ∧ win0_3.index t = ![t.val / 16, t.val / 4 % 4, t.val % 4] ∧ win0_4.index t = ![t.val / 16, t.val / 4 % 4, t.val % 4] ∧ win0_5.index t = ![t.val / 16, t.val / 4 % 4, t.val % 4]
    ∧ win0_6.index t = ![t.val / 16, t.val / 4 % 4, t.val % 4] ∧ win0_7.index t = ![t.val / 16, t.val / 4 % 4, t.val % 4] ∧ win0_8.index t = ![t.val / 16, t.val / 4 % 4, t.val % 4] :=
  (by decide +kernel : ∀ t : Fin grid0.N, _)

/-- Where row `i` of layer `l` stands in a gradient's rows. -/
def row (l : Fin 2) (i : Fin 1408) : Fin 2816 := ⟨(l : ℕ) * 1408 + i, by omega⟩

section
variable (t : Fin cfg0.N) (r : Fin 352) (d : Fin 512) (l : Fin 2) (i : Fin 1408) (z : Fin 2048) (el : (l : ℕ) = t.val / 16)
  (ei : (i : ℕ) = t.val / 4 % 4 * 352 + r) (ez : (z : ℕ) = t.val % 4 * 512 + d)

include el ei ez

theorem b0 : (iblk m c 0 t : Vec Ideal S352x512 .f32) (ix2 r d) = a0 m c (ix2 (row l i) z) := by
  have er : ((row l i : Fin 2816) : ℕ) = t.val / 4 * 352 + r := by
    show (l : ℕ) * 1408 + i = _
    omega
  generalize row l i = k at er ⊢
  refine Eq.trans ?_ (congrFun (V_main_arg0 m c) (ix2 k z))
  obtain ⟨X, hV⟩ : ∃ X, V m c main_arg0 = X := ⟨_, rfl⟩
  rw [hV]
  show (iblk m c 0 t : Vec Ideal S352x512 .f32) (ix2 r d) = _
  blk_point [iblk, hV, idx t]

theorem b1 : (iblk m c 1 t : Vec Ideal S352x512 .f32) (ix2 r d) = a1 m c (ix2 (row l i) z) := by
  have er : ((row l i : Fin 2816) : ℕ) = t.val / 4 * 352 + r := by
    show (l : ℕ) * 1408 + i = _
    omega
  generalize row l i = k at er ⊢
  refine Eq.trans ?_ (congrFun (V_main_arg1 m c) (ix2 k z))
  obtain ⟨X, hV⟩ : ∃ X, V m c main_arg1 = X := ⟨_, rfl⟩
  rw [hV]
  show (iblk m c 1 t : Vec Ideal S352x512 .f32) (ix2 r d) = _
  blk_point [iblk, hV, idx t]

theorem b2 : (iblk m c 2 t : Vec Ideal S1x352x512 .f32) (ix3 0 r d) = a2 m c (ix3 l i z) := by
  refine Eq.trans ?_ (congrFun (V_main_arg2 m c) (ix3 l i z))
  obtain ⟨X, hV⟩ : ∃ X, V m c main_arg2 = X := ⟨_, rfl⟩
  rw [hV]
  show (iblk m c 2 t : Vec Ideal S1x352x512 .f32) (ix3 0 r d) = _
  blk_point [iblk, hV, idx t]

theorem b3 : (iblk m c 3 t : Vec Ideal S1x352x512 .f32) (ix3 0 r d) = a3 m c (ix3 l i z) := by
  refine Eq.trans ?_ (congrFun (V_main_arg3 m c) (ix3 l i z))
  obtain ⟨X, hV⟩ : ∃ X, V m c main_arg3 = X := ⟨_, rfl⟩
  rw [hV]
  show (iblk m c 3 t : Vec Ideal S1x352x512 .f32) (ix3 0 r d) = _
  blk_point [iblk, hV, idx t]

theorem b4 : (iblk m c 4 t : Vec Ideal S1x352x512 .f32) (ix3 0 r d) = a4 m c (ix3 l i z) := by
  refine Eq.trans ?_ (congrFun (V_main_arg4 m c) (ix3 l i z))
  obtain ⟨X, hV⟩ : ∃ X, V m c main_arg4 = X := ⟨_, rfl⟩
  rw [hV]
  show (iblk m c 4 t : Vec Ideal S1x352x512 .f32) (ix3 0 r d) = _
  blk_point [iblk, hV, idx t]

end

/-- The kernel's results at an index: the gradient's sum, the step, the two moments. -/
def og (l : Fin 2) (i : Fin 1408) (z : Fin 2048) : EReal := a0 m c (ix2 (row l i) z) + a1 m c (ix2 (row l i) z)
def od (l : Fin 2) (i : Fin 1408) (z : Fin 2048) : EReal := fd (og m c l i z) (a2 m c (ix3 l i z)) (a3 m c (ix3 l i z)) (a4 m c (ix3 l i z))
def om (l : Fin 2) (i : Fin 1408) (z : Fin 2048) : EReal := fm (og m c l i z) (a3 m c (ix3 l i z))
def ov (l : Fin 2) (i : Fin 1408) (z : Fin 2048) : EReal := fv (og m c l i z) (a4 m c (ix3 l i z))

theorem final5 : (dats m 0 c).arrAt 5 cfg0.N = fun y : S2x1408x2048.Idx => og m c (y 0) (y 1) (y 2) := by
  refine (dats m 0 c).arrAt_eq_of_covers 5 _ (by decide +kernel) fun t hf y => ?_
  blk_simp
  have e0 : (((win0_5.blk t).view.emb y 0 : Fin 2) : ℕ) = t.val / 16 := by
    have := (y 0 : Fin 1).isLt
    blk_simp [idx t]
    try omega
  have e1 : (((win0_5.blk t).view.emb y 1 : Fin 1408) : ℕ) = t.val / 4 % 4 * 352 + (y 1 : Fin 352) := by blk_simp [idx t]
  have e2 : (((win0_5.blk t).view.emb y 2 : Fin 2048) : ℕ) = t.val % 4 * 512 + (y 2 : Fin 512) := by blk_simp [idx t]
  rw [after0_5]
  refine (congrArg _ (ix3_eta (n0 := 1) (n1 := 352) (n2 := 512) y).symm).trans ?_
  refine (pay5 _ _ _ _ _ (y 0) (y 1) (y 2)).trans ?_
  rw [b0 m c t (y 1) (y 2) _ _ _ e0 e1 e2, b1 m c t (y 1) (y 2) _ _ _ e0 e1 e2]
  rfl

theorem final6 : (dats m 0 c).arrAt 6 cfg0.N = fun y : S2x1408x2048.Idx => od m c (y 0) (y 1) (y 2) := by
  refine (dats m 0 c).arrAt_eq_of_covers 6 _ (by decide +kernel) fun t hf y => ?_
  blk_simp
  have e0 : (((win0_6.blk t).view.emb y 0 : Fin 2) : ℕ) = t.val / 16 := by
    have := (y 0 : Fin 1).isLt
    blk_simp [idx t]
    try omega
  have e1 : (((win0_6.blk t).view.emb y 1 : Fin 1408) : ℕ) = t.val / 4 % 4 * 352 + (y 1 : Fin 352) := by blk_simp [idx t]
  have e2 : (((win0_6.blk t).view.emb y 2 : Fin 2048) : ℕ) = t.val % 4 * 512 + (y 2 : Fin 512) := by blk_simp [idx t]
  rw [after0_6]
  refine (congrArg _ (ix3_eta (n0 := 1) (n1 := 352) (n2 := 512) y).symm).trans ?_
  refine (pay6 _ _ _ _ _ (y 0) (y 1) (y 2)).trans ?_
  rw [b0 m c t (y 1) (y 2) _ _ _ e0 e1 e2, b1 m c t (y 1) (y 2) _ _ _ e0 e1 e2, b2 m c t (y 1) (y 2) _ _ _ e0 e1 e2, b3 m c t (y 1) (y 2) _ _ _ e0 e1 e2, b4 m c t (y 1) (y 2) _ _ _ e0 e1 e2]
  rfl

theorem final7 : (dats m 0 c).arrAt 7 cfg0.N = fun y : S2x1408x2048.Idx => om m c (y 0) (y 1) (y 2) := by
  refine (dats m 0 c).arrAt_eq_of_covers 7 _ (by decide +kernel) fun t hf y => ?_
  blk_simp
  have e0 : (((win0_7.blk t).view.emb y 0 : Fin 2) : ℕ) = t.val / 16 := by
    have := (y 0 : Fin 1).isLt
    blk_simp [idx t]
    try omega
  have e1 : (((win0_7.blk t).view.emb y 1 : Fin 1408) : ℕ) = t.val / 4 % 4 * 352 + (y 1 : Fin 352) := by blk_simp [idx t]
  have e2 : (((win0_7.blk t).view.emb y 2 : Fin 2048) : ℕ) = t.val % 4 * 512 + (y 2 : Fin 512) := by blk_simp [idx t]
  rw [after0_7]
  refine (congrArg _ (ix3_eta (n0 := 1) (n1 := 352) (n2 := 512) y).symm).trans ?_
  refine (pay7 _ _ _ _ _ (y 0) (y 1) (y 2)).trans ?_
  rw [b0 m c t (y 1) (y 2) _ _ _ e0 e1 e2, b1 m c t (y 1) (y 2) _ _ _ e0 e1 e2, b3 m c t (y 1) (y 2) _ _ _ e0 e1 e2]
  rfl

theorem final8 : (dats m 0 c).arrAt 8 cfg0.N = fun y : S2x1408x2048.Idx => ov m c (y 0) (y 1) (y 2) := by
  refine (dats m 0 c).arrAt_eq_of_covers 8 _ (by decide +kernel) fun t hf y => ?_
  blk_simp
  have e0 : (((win0_8.blk t).view.emb y 0 : Fin 2) : ℕ) = t.val / 16 := by
    have := (y 0 : Fin 1).isLt
    blk_simp [idx t]
    try omega
  have e1 : (((win0_8.blk t).view.emb y 1 : Fin 1408) : ℕ) = t.val / 4 % 4 * 352 + (y 1 : Fin 352) := by blk_simp [idx t]
  have e2 : (((win0_8.blk t).view.emb y 2 : Fin 2048) : ℕ) = t.val % 4 * 512 + (y 2 : Fin 512) := by blk_simp [idx t]
  rw [after0_8]
  refine (congrArg _ (ix3_eta (n0 := 1) (n1 := 352) (n2 := 512) y).symm).trans ?_
  refine (pay8 _ _ _ _ _ (y 0) (y 1) (y 2)).trans ?_
  rw [b0 m c t (y 1) (y 2) _ _ _ e0 e1 e2, b1 m c t (y 1) (y 2) _ _ _ e0 e1 e2, b4 m c t (y 1) (y 2) _ _ _ e0 e1 e2]
  rfl

section
open Cert.AdwDRIdeal.Read

variable (x y : S2816x2048.Idx → EReal) (w p q : S2x1408x2048.Idx → EReal) (l : Fin 2) (i : Fin 1408) (z : Fin 2048)

/-- The reference's results at an index. -/
theorem ref1 : val_main_v1 (F := Ideal) x y (ix3 l i z) = x (ix2 (row l i) z) + y (ix2 (row l i) z) := by
  pointwise [val_main_v1, val_main_v0]
  rfl

theorem ref6 : val_main_v6 (F := Ideal) x y p (ix3 l i z) = fm (x (ix2 (row l i) z) + y (ix2 (row l i) z)) (p (ix3 l i z)) := by
  rw [← ref1]
  pointwise [val_main_v6, val_main_v5, val_main_v4, val_main_v3, val_main_v2, val_main_cst, val_main_cst_0, fm]

theorem ref12 : val_main_v12 (F := Ideal) x y q (ix3 l i z) = fv (x (ix2 (row l i) z) + y (ix2 (row l i) z)) (q (ix3 l i z)) := by
  rw [← ref1]
  pointwise [val_main_v12, val_main_v11, val_main_v10, val_main_v9, val_main_v8, val_main_v7, val_main_cst_1, val_main_cst_2, fv]

theorem ref25 : val_main_v25 (F := Ideal) x y w p q (ix3 l i z)
    = fd (x (ix2 (row l i) z) + y (ix2 (row l i) z)) (w (ix3 l i z)) (p (ix3 l i z)) (q (ix3 l i z)) := by
  rw [fd, ← ref6, ← ref12]
  pointwise [val_main_v25, val_main_v24, val_main_v23, val_main_v22, val_main_v21, val_main_v20, val_main_v19, val_main_v18, val_main_v17, val_main_v16,
    val_main_v15, val_main_v14, val_main_v13, val_main_cst_3, val_main_cst_4, val_main_cst_5, val_main_cst_6, val_main_cst_7]
end

theorem eq1 : Cert.AdwDRIdeal.Read.val_main_v1 (F := Ideal) (a0 m c) (a1 m c) = (dats m 0 c).arrAt 5 cfg0.N := by
  rw [final5]
  funext y
  exact (congrArg _ (ix3_eta (n0 := 2) (n1 := 1408) (n2 := 2048) y).symm).trans (ref1 _ _ (y 0) (y 1) (y 2))

theorem eq25 : Cert.AdwDRIdeal.Read.val_main_v25 (F := Ideal) (a0 m c) (a1 m c) (a2 m c) (a3 m c) (a4 m c) = (dats m 0 c).arrAt 6 cfg0.N := by
  rw [final6]
  funext y
  exact (congrArg _ (ix3_eta (n0 := 2) (n1 := 1408) (n2 := 2048) y).symm).trans (ref25 _ _ _ _ _ (y 0) (y 1) (y 2))

theorem eq6 : Cert.AdwDRIdeal.Read.val_main_v6 (F := Ideal) (a0 m c) (a1 m c) (a3 m c) = (dats m 0 c).arrAt 7 cfg0.N := by
  rw [final7]
  funext y
  exact (congrArg _ (ix3_eta (n0 := 2) (n1 := 1408) (n2 := 2048) y).symm).trans (ref6 _ _ _ (y 0) (y 1) (y 2))

theorem eq12 : Cert.AdwDRIdeal.Read.val_main_v12 (F := Ideal) (a0 m c) (a1 m c) (a4 m c) = (dats m 0 c).arrAt 8 cfg0.N := by
  rw [final8]
  funext y
  exact (congrArg _ (ix3_eta (n0 := 2) (n1 := 1408) (n2 := 2048) y).symm).trans (ref12 _ _ _ (y 0) (y 1) (y 2))

/-- The reference runs; its arguments stay. -/
theorem frame_ref : Cert.quiescent_AdwDRIdeal := fun m ρ _ =>
  (θ_run Cert.AdwDRIdeal.defs _ _).mono (fun r h => ⟨fun c => (h c).2.2.2.2, sem_eq_zero_of_no_sems (by decide) r.2⟩)
    (Cert.AdwDRIdeal.Value.run (F := Ideal) m ρ)

theorem value : Cert.algebraic_AdwDKIdeal_AdwDRIdeal := by
  pair_intro
  · run_from Cert.AdwDKIdeal.Gen.run_main m g
    all_goals first | exact V_main_arg0 m c | exact V_main_arg1 m c | exact V_main_arg2 m c | exact V_main_arg3 m c | exact V_main_arg4 m c | skip
  · run_from Cert.AdwDRIdeal.Value.run m' g'
    · exact (Cert.AdwDRIdeal.Read.val_main_v1_eq _ _).trans (eq1 m c)
    · exact (Cert.AdwDRIdeal.Read.val_main_v25_eq _ _ _ _ _).trans (eq25 m c)
    · exact (Cert.AdwDRIdeal.Read.val_main_v6_eq _ _ _).trans (eq6 m c)
    · exact (Cert.AdwDRIdeal.Read.val_main_v12_eq _ _ _).trans (eq12 m c)

end Cert.AdwDEq
end
-- ==== Proof.SadClaim.lean ====
/- The optimiser's step of the packed gains on the sum of the eight devices' gradients: what the kernel writes at each index,
beside the reference's stages, and the claims. -/
module

public import proofs.«01_k».proof.Defs
public import proofs.«01_k».proof.Proof.AdwClaim
public import proofs.«01_k».proof.Proof.Gen.SadKIdeal.Value
public import proofs.«01_k».proof.Proof.Gen.SadRIdeal.Read
public import proofs.«01_k».proof.Proof.Gen.SadRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SadEq

open Cert.SadKIdeal Cert.SadKIdeal.Gen
open Cert.AdwEq (K fm fv fd)

variable (m : (ℓ : Loc nD τ sig) → Buf (Elt Ideal) ℓ) (c : Dev nD)

abbrev a0 : S8x136x128.Idx → EReal := m ((c : Thread nD τ).loc main_arg0)
abbrev a1 : S136x128.Idx → EReal := m ((c : Thread nD τ).loc main_arg1)
abbrev a2 : S136x128.Idx → EReal := m ((c : Thread nD τ).loc main_arg2)
abbrev a3 : S136x128.Idx → EReal := m ((c : Thread nD τ).loc main_arg3)

/-- The devices' gradients added up at an index. -/
def tot (x : S8x136x128.Idx → EReal) (r : Fin 136) (d : Fin 128) : EReal := ∑ k : Fin 8, x (ix3 k r d)

section
variable (x : S8x136x128.Idx → EReal) (w p q : S136x128.Idx → EReal) (r : Fin 136) (d : Fin 128)

/-- What the kernel computes: its sum takes the devices one after another. -/
theorem st6 : k0_pay6 (F := Ideal) x w p q (ix2 r d) = tot x r d := by
  rw [tot, Fin.sum_univ_eight]
  unfold k0_pay6
  pointwise [k0_pay4]

theorem st1 : k0_pay1 (F := Ideal) (k0_pay6 x w p q) (k0_pay7 x w p q) (K 0x3DCCCCCD#32) (ix2 r d) = fm (tot x r d) (p (ix2 r d)) := by
  rw [← st6 x w p q]
  unfold k0_pay7
  pointwise [k0_pay1, k0_pay5, fm]

theorem st2 : k0_pay2 (F := Ideal) (k0_pay6 x w p q) q (ix2 r d) = fv (tot x r d) (q (ix2 r d)) := by
  rw [← st6 x w p q]
  pointwise [k0_pay2, fv]

theorem st3 : k0_pay3 (F := Ideal) (k0_pay6 x w p q) w q (k0_pay7 x w p q) (K 0x3DCCCCCD#32) (ix2 r d)
    = fd (tot x r d) (w (ix2 r d)) (p (ix2 r d)) (q (ix2 r d)) := by
  rw [fd, ← st1 x w p q, ← st2 x w p q]
  pointwise [k0_pay3]

theorem pay4 : out0_4 (F := Ideal) x w p q (ix2 r d) = tot x r d := by
  refine Eq.trans ?_ (st6 x w p q r d)
  unfold out0_4
  generalize k0_pay6 (F := Ideal) x w p q = X
  frame_out

theorem pay5 : out0_5 (F := Ideal) x w p q (ix2 r d) = fd (tot x r d) (w (ix2 r d)) (p (ix2 r d)) (q (ix2 r d)) := by
  refine Eq.trans ?_ (st3 x w p q r d)
  unfold out0_5
  generalize k0_pay6 (F := Ideal) x w p q = X
  generalize k0_pay7 (F := Ideal) x w p q = Y
  frame_out

theorem pay6 : out0_6 (F := Ideal) x w p q (ix2 r d) = fm (tot x r d) (p (ix2 r d)) := by
  refine Eq.trans ?_ (st1 x w p q r d)
  unfold out0_6
  generalize k0_pay6 (F := Ideal) x w p q = X
  generalize k0_pay7 (F := Ideal) x w p q = Y
  frame_out

theorem pay7 : out0_7 (F := Ideal) x w p q (ix2 r d) = fv (tot x r d) (q (ix2 r d)) := by
  refine Eq.trans ?_ (st2 x w p q r d)
  unfold out0_7
  generalize k0_pay6 (F := Ideal) x w p q = X
  frame_out
end

/-- The one grid point's blocks are the whole arrays. -/
theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

section
variable (t : Fin cfg0.N) (r : Fin 136) (d : Fin 128) (i : Fin 136) (z : Fin 128) (ei : (i : ℕ) = r) (ez : (z : ℕ) = d)

include ei ez

theorem b0 : tot (iblk m c 0 t) r d = tot (a0 m c) i z := by
  obtain rfl : i = r := Fin.ext ei
  obtain rfl : z = d := Fin.ext ez
  refine Finset.sum_congr rfl fun k _ => ?_
  refine Eq.trans ?_ (congrFun (V_main_arg0 m c) (ix3 k i z))
  obtain ⟨X, hV⟩ : ∃ X, V m c main_arg0 = X := ⟨_, rfl⟩
  rw [hV]
  show (iblk m c 0 t : Vec Ideal S8x136x128 .f32) (ix3 k i z) = _
  blk_point [iblk, hV, idx t]

theorem b1 : (iblk m c 1 t : Vec Ideal S136x128 .f32) (ix2 r d) = a1 m c (ix2 i z) := by
  obtain rfl : i = r := Fin.ext ei
  obtain rfl : z = d := Fin.ext ez
  refine Eq.trans ?_ (congrFun (V_main_arg1 m c) (ix2 i z))
  obtain ⟨X, hV⟩ : ∃ X, V m c main_arg1 = X := ⟨_, rfl⟩
  rw [hV]
  show (iblk m c 1 t : Vec Ideal S136x128 .f32) (ix2 i z) = _
  blk_point [iblk, hV, idx t]

theorem b2 : (iblk m c 2 t : Vec Ideal S136x128 .f32) (ix2 r d) = a2 m c (ix2 i z) := by
  obtain rfl : i = r := Fin.ext ei
  obtain rfl : z = d := Fin.ext ez
  refine Eq.trans ?_ (congrFun (V_main_arg2 m c) (ix2 i z))
  obtain ⟨X, hV⟩ : ∃ X, V m c main_arg2 = X := ⟨_, rfl⟩
  rw [hV]
  show (iblk m c 2 t : Vec Ideal S136x128 .f32) (ix2 i z) = _
  blk_point [iblk, hV, idx t]

theorem b3 : (iblk m c 3 t : Vec Ideal S136x128 .f32) (ix2 r d) = a3 m c (ix2 i z) := by
  obtain rfl : i = r := Fin.ext ei
  obtain rfl : z = d := Fin.ext ez
  refine Eq.trans ?_ (congrFun (V_main_arg3 m c) (ix2 i z))
  obtain ⟨X, hV⟩ : ∃ X, V m c main_arg3 = X := ⟨_, rfl⟩
  rw [hV]
  show (iblk m c 3 t : Vec Ideal S136x128 .f32) (ix2 i z) = _
  blk_point [iblk, hV, idx t]

end

/-- The kernel's results at an index: the gradient's sum, the step, the two moments. -/
def og (i : Fin 136) (z : Fin 128) : EReal := tot (a0 m c) i z
def od (i : Fin 136) (z : Fin 128) : EReal := fd (og m c i z) (a1 m c (ix2 i z)) (a2 m c (ix2 i z)) (a3 m c (ix2 i z))
def om (i : Fin 136) (z : Fin 128) : EReal := fm (og m c i z) (a2 m c (ix2 i z))
def ov (i : Fin 136) (z : Fin 128) : EReal := fv (og m c i z) (a3 m c (ix2 i z))

theorem final4 : (dats m 0 c).arrAt 4 cfg0.N = fun y : S136x128.Idx => og m c (y 0) (y 1) := by
  refine (dats m 0 c).arrAt_eq_of_covers 4 _ (by decide +kernel) fun t hf y => ?_
  blk_simp
  have e0 : (((win0_4.blk t).view.emb y 0 : Fin 136) : ℕ) = (y 0 : Fin 136) := by blk_simp [idx t]
  have e1 : (((win0_4.blk t).view.emb y 1 : Fin 128) : ℕ) = (y 1 : Fin 128) := by blk_simp [idx t]
  rw [after0_4]
  refine (congrArg _ (ix2_eta (n0 := 136) (n1 := 128) y).symm).trans ?_
  refine (pay4 _ _ _ _ (y 0) (y 1)).trans ?_
  rw [b0 m c t (y 0) (y 1) _ _ e0 e1]
  rfl

theorem final5 : (dats m 0 c).arrAt 5 cfg0.N = fun y : S136x128.Idx => od m c (y 0) (y 1) := by
  refine (dats m 0 c).arrAt_eq_of_covers 5 _ (by decide +kernel) fun t hf y => ?_
  blk_simp
  have e0 : (((win0_5.blk t).view.emb y 0 : Fin 136) : ℕ) = (y 0 : Fin 136) := by blk_simp [idx t]
  have e1 : (((win0_5.blk t).view.emb y 1 : Fin 128) : ℕ) = (y 1 : Fin 128) := by blk_simp [idx t]
  rw [after0_5]
  refine (congrArg _ (ix2_eta (n0 := 136) (n1 := 128) y).symm).trans ?_
  refine (pay5 _ _ _ _ (y 0) (y 1)).trans ?_
  rw [b0 m c t (y 0) (y 1) _ _ e0 e1, b1 m c t (y 0) (y 1) _ _ e0 e1, b2 m c t (y 0) (y 1) _ _ e0 e1, b3 m c t (y 0) (y 1) _ _ e0 e1]
  rfl

theorem final6 : (dats m 0 c).arrAt 6 cfg0.N = fun y : S136x128.Idx => om m c (y 0) (y 1) := by
  refine (dats m 0 c).arrAt_eq_of_covers 6 _ (by decide +kernel) fun t hf y => ?_
  blk_simp
  have e0 : (((win0_6.blk t).view.emb y 0 : Fin 136) : ℕ) = (y 0 : Fin 136) := by blk_simp [idx t]
  have e1 : (((win0_6.blk t).view.emb y 1 : Fin 128) : ℕ) = (y 1 : Fin 128) := by blk_simp [idx t]
  rw [after0_6]
  refine (congrArg _ (ix2_eta (n0 := 136) (n1 := 128) y).symm).trans ?_
  refine (pay6 _ _ _ _ (y 0) (y 1)).trans ?_
  rw [b0 m c t (y 0) (y 1) _ _ e0 e1, b2 m c t (y 0) (y 1) _ _ e0 e1]
  rfl

theorem final7 : (dats m 0 c).arrAt 7 cfg0.N = fun y : S136x128.Idx => ov m c (y 0) (y 1) := by
  refine (dats m 0 c).arrAt_eq_of_covers 7 _ (by decide +kernel) fun t hf y => ?_
  blk_simp
  have e0 : (((win0_7.blk t).view.emb y 0 : Fin 136) : ℕ) = (y 0 : Fin 136) := by blk_simp [idx t]
  have e1 : (((win0_7.blk t).view.emb y 1 : Fin 128) : ℕ) = (y 1 : Fin 128) := by blk_simp [idx t]
  rw [after0_7]
  refine (congrArg _ (ix2_eta (n0 := 136) (n1 := 128) y).symm).trans ?_
  refine (pay7 _ _ _ _ (y 0) (y 1)).trans ?_
  rw [b0 m c t (y 0) (y 1) _ _ e0 e1, b3 m c t (y 0) (y 1) _ _ e0 e1]
  rfl

section
open Cert.SadRIdeal.Read

variable (x : S8x136x128.Idx → EReal) (w p q : S136x128.Idx → EReal) (i : Fin 136) (z : Fin 128)

/-- The reference's results at an index. -/
theorem ref0 : val_main_v0 (F := Ideal) x (ix2 i z) = tot x i z := by
  pointwise [val_main_v0, val_main_cst]
  rfl

theorem ref5 : val_main_v5 (F := Ideal) x p (ix2 i z) = fm (tot x i z) (p (ix2 i z)) := by
  rw [← ref0]
  pointwise [val_main_v5, val_main_v4, val_main_v3, val_main_v2, val_main_v1, val_main_cst_0, val_main_cst_1, fm]

theorem ref11 : val_main_v11 (F := Ideal) x q (ix2 i z) = fv (tot x i z) (q (ix2 i z)) := by
  rw [← ref0]
  pointwise [val_main_v11, val_main_v10, val_main_v9, val_main_v8, val_main_v7, val_main_v6, val_main_cst_2, val_main_cst_3, fv]

theorem ref24 : val_main_v24 (F := Ideal) x w p q (ix2 i z) = fd (tot x i z) (w (ix2 i z)) (p (ix2 i z)) (q (ix2 i z)) := by
  rw [fd, ← ref5, ← ref11]
  pointwise [val_main_v24, val_main_v23, val_main_v22, val_main_v21, val_main_v20, val_main_v19, val_main_v18, val_main_v17, val_main_v16, val_main_v15,
    val_main_v14, val_main_v13, val_main_v12, val_main_cst_4, val_main_cst_5, val_main_cst_6, val_main_cst_7, val_main_cst_8]
end

theorem eq0 : Cert.SadRIdeal.Read.val_main_v0 (F := Ideal) (a0 m c) = (dats m 0 c).arrAt 4 cfg0.N := by
  rw [final4]
  funext y
  exact (congrArg _ (ix2_eta (n0 := 136) (n1 := 128) y).symm).trans (ref0 _ (y 0) (y 1))

theorem eq24 : Cert.SadRIdeal.Read.val_main_v24 (F := Ideal) (a0 m c) (a1 m c) (a2 m c) (a3 m c) = (dats m 0 c).arrAt 5 cfg0.N := by
  rw [final5]
  funext y
  exact (congrArg _ (ix2_eta (n0 := 136) (n1 := 128) y).symm).trans (ref24 _ _ _ _ (y 0) (y 1))

theorem eq5 : Cert.SadRIdeal.Read.val_main_v5 (F := Ideal) (a0 m c) (a2 m c) = (dats m 0 c).arrAt 6 cfg0.N := by
  rw [final6]
  funext y
  exact (congrArg _ (ix2_eta (n0 := 136) (n1 := 128) y).symm).trans (ref5 _ _ (y 0) (y 1))

theorem eq11 : Cert.SadRIdeal.Read.val_main_v11 (F := Ideal) (a0 m c) (a3 m c) = (dats m 0 c).arrAt 7 cfg0.N := by
  rw [final7]
  funext y
  exact (congrArg _ (ix2_eta (n0 := 136) (n1 := 128) y).symm).trans (ref11 _ _ (y 0) (y 1))

/-- The reference runs; its arguments stay. -/
theorem frame_ref : Cert.quiescent_SadRIdeal := fun m ρ _ =>
  (θ_run Cert.SadRIdeal.defs _ _).mono (fun r h => ⟨fun c => (h c).2.2.2.2, sem_eq_zero_of_no_sems (by decide) r.2⟩)
    (Cert.SadRIdeal.Value.run (F := Ideal) m ρ)

theorem value : Cert.algebraic_SadKIdeal_SadRIdeal := by
  pair_intro
  · run_from Cert.SadKIdeal.Gen.run_main m g
    all_goals first | exact V_main_arg0 m c | exact V_main_arg1 m c | exact V_main_arg2 m c | exact V_main_arg3 m c | skip
  · run_from Cert.SadRIdeal.Value.run m' g'
    · exact (Cert.SadRIdeal.Read.val_main_v0_eq _).trans (eq0 m c)
    · exact (Cert.SadRIdeal.Read.val_main_v24_eq _ _ _ _).trans (eq24 m c)
    · exact (Cert.SadRIdeal.Read.val_main_v5_eq _ _).trans (eq5 m c)
    · exact (Cert.SadRIdeal.Read.val_main_v11_eq _ _).trans (eq11 m c)

end Cert.SadEq
end
-- ==== Proof.CcBClaim.lean ====
/- Attention B's values out of the padded projection: what the kernel writes at each index, beside the reference's stages,
and the claims. -/
module

public import proofs.«01_k».proof.Defs
public import proofs.«01_k».proof.Proof.Gen.CcBKIdeal.Value
public import proofs.«01_k».proof.Proof.Gen.CcBRIdeal.Read
public import proofs.«01_k».proof.Proof.Gen.CcBRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CcBEq

open Cert.CcBKIdeal Cert.CcBKIdeal.Gen

variable (m : (ℓ : Loc nD τ sig) → Buf (Elt Ideal) ℓ) (c : Dev nD)

abbrev a0 : S4096x5120.Idx → EReal := m ((c : Thread nD τ).loc main_arg0)

theorem pay (x : S4096x128.Idx → EReal) (r : Fin 4096) (d : Fin 128) : out0_1 (F := Ideal) x (ix2 r d) = x (ix2 r d) := by
  frame_out
  pointwise [k0_pay1]

/-- The block indices of grid point `t`, a head: block 24 + `t` of the projection's columns. -/
theorem idx : ∀ t : Fin cfg0.N, win0_0.index t = ![0, 24 + t.val] ∧ win0_1.index t = ![0, t.val] :=
  (by decide +kernel : ∀ t : Fin grid0.N, _)

/-- The column of the projection that column `z` of the values is. -/
def col (z : Fin 768) : Fin 5120 := ⟨3072 + z, by omega⟩

theorem blk (t : Fin cfg0.N) (r : Fin 4096) (d : Fin 128) (i : Fin 4096) (z : Fin 768) (ei : (i : ℕ) = r) (ez : (z : ℕ) = t.val * 128 + d) :
    (iblk m c 0 t : Vec Ideal S4096x128 .f32) (ix2 r d) = a0 m c (ix2 i (col z)) := by
  obtain rfl : i = r := Fin.ext ei
  have ek : ((col z : Fin 5120) : ℕ) = (24 + t.val) * 128 + d := by
    show 3072 + (z : ℕ) = _
    omega
  generalize col z = k at ek ⊢
  refine Eq.trans ?_ (congrFun (V_main_arg0 m c) (ix2 i k))
  obtain ⟨X, hV⟩ : ∃ X, V m c main_arg0 = X := ⟨_, rfl⟩
  rw [hV]
  show (iblk m c 0 t : Vec Ideal S4096x128 .f32) (ix2 i d) = _
  blk_point [iblk, hV, idx t]

theorem final : (dats m 0 c).arrAt 1 cfg0.N = fun y : S4096x768.Idx => a0 m c (ix2 (y 0) (col (y 1))) := by
  refine (dats m 0 c).arrAt_eq_of_covers 1 _ (by decide +kernel) fun t hf y => ?_
  blk_simp
  have e0 : (((win0_1.blk t).view.emb y 0 : Fin 4096) : ℕ) = (y 0 : Fin 4096) := by blk_simp [idx t]
  have e1 : (((win0_1.blk t).view.emb y 1 : Fin 768) : ℕ) = t.val * 128 + (y 1 : Fin 128) := by blk_simp [idx t]
  rw [after0_1]
  refine (congrArg _ (ix2_eta (n0 := 4096) (n1 := 128) y).symm).trans ?_
  exact (pay _ (y 0) (y 1)).trans (blk m c t (y 0) (y 1) _ _ e0 e1)

theorem ref (x : S4096x5120.Idx → EReal) (i : Fin 4096) (z : Fin 768) : Cert.CcBRIdeal.Read.val_main_v4 (F := Ideal) x (ix2 i z) = x (ix2 i (col z)) := by
  pointwise [Cert.CcBRIdeal.Read.val_main_v4, Cert.CcBRIdeal.Read.val_main_v3, Cert.CcBRIdeal.Read.val_main_v0]
  exact congrArg (fun k => x (ix2 i k)) (Fin.ext (by show _ = 3072 + (z : ℕ); simp only []; omega))

theorem eq : Cert.CcBRIdeal.Read.val_main_v4 (F := Ideal) (a0 m c) = (dats m 0 c).arrAt 1 cfg0.N := by
  rw [final]
  funext y
  exact (congrArg _ (ix2_eta (n0 := 4096) (n1 := 768) y).symm).trans (ref _ (y 0) (y 1))

/-- The reference runs; its arguments stay. -/
theorem frame_ref : Cert.quiescent_CcBRIdeal := fun m ρ _ =>
  (θ_run Cert.CcBRIdeal.defs _ _).mono (fun r h => ⟨fun c => (h c).2, sem_eq_zero_of_no_sems (by decide) r.2⟩)
    (Cert.CcBRIdeal.Value.run (F := Ideal) m ρ)

theorem value : Cert.algebraic_CcBKIdeal_CcBRIdeal := by
  pair_intro
  · run_from Cert.CcBKIdeal.Gen.run_main m g
    all_goals first | exact V_main_arg0 m c | skip
  · run_from Cert.CcBRIdeal.Value.run m' g'
    exact (Cert.CcBRIdeal.Read.val_main_v4_eq _).trans (eq m c)

end Cert.CcBEq
end
-- ==== Proof.CcBBits.lean ====
/- Attention B's values out of the padded projection, word for word: what the kernel writes, beside the reference's stages, with
the rounding to bf16 an unknown function of the word. -/
module

public import proofs.«01_k».proof.Defs
public import proofs.«01_k».proof.Proof.CcBClaim
public import proofs.«01_k».proof.Proof.Gen.CcBK.Frame
public import proofs.«01_k».proof.Proof.Gen.CcBR.Run
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CcBBits

open Cert.CcBK Cert.CcBK.Gen

open Cert.CcBEq (col)

variable (m : (ℓ : Loc nD τ sig) → Buf (Elt Bits) ℓ) (c : Dev nD)

abbrev a0 : Vec Bits S4096x5120 .f32 := m ((c : Thread nD τ).loc main_arg0)

/-- A word rounded to bf16. -/
abbrev rd (x : Bits .f32) : Bits .bf16 := FloatOps.truncf .bf16 bitsLt_bf16_f32 x

theorem piece (x : Vec Bits S4096x128 .f32) (y : S4096x128.Idx) : k0_pay1 (F := Bits) x y = rd (x y) := by
  show (shapeCast S4096x128 (truncf (F := Bits) (φ := .f32) .bf16 x bitsLt_bf16_f32) shapeCasts_S4096x128_S4096x128) y = _
  exact shapeCast_apply _ _ y y rfl

theorem pay (x : Vec Bits S4096x128 .f32) (y : S4096x128.Idx) : out0_1 (F := Bits) x y = rd (x y) := by
  unfold out0_1
  refine View.canon_apply_of_pieces (show Vec Bits S4096x128 .bf16 from fun y => rd (x y)) _ ?_ y (cover0_1 _ y)
  intro pc hpc
  rcases List.mem_cons.mp hpc with rfl | hpc
  · exact fun z => (piece _ z).trans rfl
  nomatch hpc

/-- The block indices of grid point `t`, a head. -/
theorem idx : ∀ t : Fin cfg0.N, win0_0.index t = ![0, 24 + t.val] ∧ win0_1.index t = ![0, t.val] :=
  (by decide +kernel : ∀ t : Fin grid0.N, _)

theorem blk (t : Fin cfg0.N) (r : Fin 4096) (d : Fin 128) (i : Fin 4096) (z : Fin 768) (ei : (i : ℕ) = r) (ez : (z : ℕ) = t.val * 128 + d) :
    (iblk m c 0 t : Vec Bits S4096x128 .f32) (ix2 r d) = a0 m c (ix2 i (col z)) := by
  obtain rfl : i = r := Fin.ext ei
  have ek : ((col z : Fin 5120) : ℕ) = (24 + t.val) * 128 + d := by
    show 3072 + (z : ℕ) = _
    omega
  generalize col z = k at ek ⊢
  refine Eq.trans ?_ (congrFun (V_main_arg0 m c) (ix2 i k))
  obtain ⟨X, hV⟩ : ∃ X, V m c main_arg0 = X := ⟨_, rfl⟩
  rw [hV]
  show (iblk m c 0 t : Vec Bits S4096x128 .f32) (ix2 i d) = _
  blk_point [iblk, hV, idx t]

theorem final : (dats m 0 c).arrAt 1 cfg0.N = fun y : S4096x768.Idx => rd (a0 m c (ix2 (y 0) (col (y 1)))) := by
  refine (dats m 0 c).arrAt_eq_of_covers 1 _ (by decide +kernel) fun t hf y => ?_
  blk_simp
  have e0 : (((win0_1.blk t).view.emb y 0 : Fin 4096) : ℕ) = (y 0 : Fin 4096) := by blk_simp [idx t]
  have e1 : (((win0_1.blk t).view.emb y 1 : Fin 768) : ℕ) = t.val * 128 + (y 1 : Fin 128) := by blk_simp [idx t]
  rw [after0_1]
  refine (pay _ y).trans (congrArg rd ?_)
  refine (congrArg _ (ix2_eta (n0 := 4096) (n1 := 128) y).symm).trans ?_
  exact blk m c t (y 0) (y 1) _ _ e0 e1

/-- The reference's result: two slices and the rounding. -/
def out (x : Vec Bits S4096x5120 .f32) : Vec Bits S4096x768 .bf16 :=
  truncf (F := Bits) (φ := .f32) .bf16 (extractStridedSlice Cert.CcBR.S4096x768 ![0, 1536]
    (extractStridedSlice Cert.CcBR.S4096x2304 ![0, 1536] x Cert.CcBR.Gen.slices_S4096x5120_S4096x2304_0_1536)
    Cert.CcBR.Gen.slices_S4096x2304_S4096x768_0_1536) Cert.CcBR.Gen.bitsLt_bf16_f32

theorem ref (x : Vec Bits S4096x5120 .f32) (y : S4096x768.Idx) : out x y = rd (x (ix2 (y 0) (col (y 1)))) := by
  have h1 : (y 1).val < 768 := (y 1).isLt
  refine congrArg rd ((extractStridedSlice_apply ![0, 1536] _ Cert.CcBR.Gen.slices_S4096x2304_S4096x768_0_1536 y
    (ix2 (y 0) (⟨1536 + (y 1).val, by omega⟩ : Fin 2304)) (fun a => ?_)).trans
    (extractStridedSlice_apply ![0, 1536] x Cert.CcBR.Gen.slices_S4096x5120_S4096x2304_0_1536 _ (ix2 (y 0) (col (y 1))) (fun a => ?_)))
  · match a with
    | ⟨0, _⟩ => show (y 0).val = 0 + (y 0).val; omega
    | ⟨1, _⟩ => rfl
  · match a with
    | ⟨0, _⟩ => show (y 0).val = 0 + (y 0).val; omega
    | ⟨1, _⟩ => show 3072 + (y 1).val = 1536 + (1536 + (y 1).val); omega

theorem eq : out (a0 m c) = (dats m 0 c).arrAt 1 cfg0.N := by
  rw [final]
  funext y
  exact ref _ y

/-- The reference runs; its argument stays. -/
theorem frame_ref : Cert.quiescent_CcBR := fun m ρ _ =>
  (θ_run Cert.CcBR.defs _ _).mono (fun r h => ⟨fun c => (h c).2, sem_eq_zero_of_no_sems (by decide) r.2⟩)
    (Cert.CcBR.Value.run (F := Bits) m ρ)

theorem value : Cert.bitexact_CcBK_CcBR := by
  pair_intro
  · run_from Cert.CcBK.Gen.run_main m g
    all_goals first | exact V_main_arg0 m c | skip
  · run_from Cert.CcBR.Value.run m' g'
    exact eq m c

end Cert.CcBBits
end
-- ==== Proof.CcCClaim.lean ====
/- Attention C's values out of the padded projection: what the kernel writes at each index, beside the reference's stages,
and the claims. -/
module

public import proofs.«01_k».proof.Defs
public import proofs.«01_k».proof.Proof.Gen.CcCKIdeal.Value
public import proofs.«01_k».proof.Proof.Gen.CcCRIdeal.Read
public import proofs.«01_k».proof.Proof.Gen.CcCRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CcCEq

open Cert.CcCKIdeal Cert.CcCKIdeal.Gen

variable (m : (ℓ : Loc nD τ sig) → Buf (Elt Ideal) ℓ) (c : Dev nD)

abbrev a0 : S4096x5120.Idx → EReal := m ((c : Thread nD τ).loc main_arg0)

theorem pay (x : S4096x128.Idx → EReal) (r : Fin 4096) (d : Fin 128) : out0_1 (F := Ideal) x (ix2 r d) = x (ix2 r d) := by
  frame_out
  pointwise [k0_pay1]

/-- The block indices of grid point `t`, a head: block 38 + `t` of the projection's columns. -/
theorem idx : ∀ t : Fin cfg0.N, win0_0.index t = ![0, 38 + t.val] ∧ win0_1.index t = ![0, t.val] :=
  (by decide +kernel : ∀ t : Fin grid0.N, _)

/-- The column of the projection that column `z` of the values is. -/
def col (z : Fin 256) : Fin 5120 := ⟨4864 + z, by omega⟩

theorem blk (t : Fin cfg0.N) (r : Fin 4096) (d : Fin 128) (i : Fin 4096) (z : Fin 256) (ei : (i : ℕ) = r) (ez : (z : ℕ) = t.val * 128 + d) :
    (iblk m c 0 t : Vec Ideal S4096x128 .f32) (ix2 r d) = a0 m c (ix2 i (col z)) := by
  obtain rfl : i = r := Fin.ext ei
  have ek : ((col z : Fin 5120) : ℕ) = (38 + t.val) * 128 + d := by
    show 4864 + (z : ℕ) = _
    omega
  generalize col z = k at ek ⊢
  refine Eq.trans ?_ (congrFun (V_main_arg0 m c) (ix2 i k))
  obtain ⟨X, hV⟩ : ∃ X, V m c main_arg0 = X := ⟨_, rfl⟩
  rw [hV]
  show (iblk m c 0 t : Vec Ideal S4096x128 .f32) (ix2 i d) = _
  blk_point [iblk, hV, idx t]

theorem final : (dats m 0 c).arrAt 1 cfg0.N = fun y : S4096x256.Idx => a0 m c (ix2 (y 0) (col (y 1))) := by
  refine (dats m 0 c).arrAt_eq_of_covers 1 _ (by decide +kernel) fun t hf y => ?_
  blk_simp
  have e0 : (((win0_1.blk t).view.emb y 0 : Fin 4096) : ℕ) = (y 0 : Fin 4096) := by blk_simp [idx t]
  have e1 : (((win0_1.blk t).view.emb y 1 : Fin 256) : ℕ) = t.val * 128 + (y 1 : Fin 128) := by blk_simp [idx t]
  rw [after0_1]
  refine (congrArg _ (ix2_eta (n0 := 4096) (n1 := 128) y).symm).trans ?_
  exact (pay _ (y 0) (y 1)).trans (blk m c t (y 0) (y 1) _ _ e0 e1)

theorem ref (x : S4096x5120.Idx → EReal) (i : Fin 4096) (z : Fin 256) : Cert.CcCRIdeal.Read.val_main_v4 (F := Ideal) x (ix2 i z) = x (ix2 i (col z)) := by
  pointwise [Cert.CcCRIdeal.Read.val_main_v4, Cert.CcCRIdeal.Read.val_main_v3, Cert.CcCRIdeal.Read.val_main_v0]
  exact congrArg (fun k => x (ix2 i k)) (Fin.ext (by show _ = 4864 + (z : ℕ); simp only []; omega))

theorem eq : Cert.CcCRIdeal.Read.val_main_v4 (F := Ideal) (a0 m c) = (dats m 0 c).arrAt 1 cfg0.N := by
  rw [final]
  funext y
  exact (congrArg _ (ix2_eta (n0 := 4096) (n1 := 256) y).symm).trans (ref _ (y 0) (y 1))

/-- The reference runs; its arguments stay. -/
theorem frame_ref : Cert.quiescent_CcCRIdeal := fun m ρ _ =>
  (θ_run Cert.CcCRIdeal.defs _ _).mono (fun r h => ⟨fun c => (h c).2, sem_eq_zero_of_no_sems (by decide) r.2⟩)
    (Cert.CcCRIdeal.Value.run (F := Ideal) m ρ)

theorem value : Cert.algebraic_CcCKIdeal_CcCRIdeal := by
  pair_intro
  · run_from Cert.CcCKIdeal.Gen.run_main m g
    all_goals first | exact V_main_arg0 m c | skip
  · run_from Cert.CcCRIdeal.Value.run m' g'
    exact (Cert.CcCRIdeal.Read.val_main_v4_eq _).trans (eq m c)

end Cert.CcCEq
end
-- ==== Proof.CcCBits.lean ====
/- Attention C's values out of the padded projection, word for word: what the kernel writes, beside the reference's stages, with
the rounding to bf16 an unknown function of the word. -/
module

public import proofs.«01_k».proof.Defs
public import proofs.«01_k».proof.Proof.CcCClaim
public import proofs.«01_k».proof.Proof.Gen.CcCK.Frame
public import proofs.«01_k».proof.Proof.Gen.CcCR.Run
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CcCBits

open Cert.CcCK Cert.CcCK.Gen

open Cert.CcCEq (col)

variable (m : (ℓ : Loc nD τ sig) → Buf (Elt Bits) ℓ) (c : Dev nD)

abbrev a0 : Vec Bits S4096x5120 .f32 := m ((c : Thread nD τ).loc main_arg0)

/-- A word rounded to bf16. -/
abbrev rd (x : Bits .f32) : Bits .bf16 := FloatOps.truncf .bf16 bitsLt_bf16_f32 x

theorem piece (x : Vec Bits S4096x128 .f32) (y : S4096x128.Idx) : k0_pay1 (F := Bits) x y = rd (x y) := by
  show (shapeCast S4096x128 (truncf (F := Bits) (φ := .f32) .bf16 x bitsLt_bf16_f32) shapeCasts_S4096x128_S4096x128) y = _
  exact shapeCast_apply _ _ y y rfl

theorem pay (x : Vec Bits S4096x128 .f32) (y : S4096x128.Idx) : out0_1 (F := Bits) x y = rd (x y) := by
  unfold out0_1
  refine View.canon_apply_of_pieces (show Vec Bits S4096x128 .bf16 from fun y => rd (x y)) _ ?_ y (cover0_1 _ y)
  intro pc hpc
  rcases List.mem_cons.mp hpc with rfl | hpc
  · exact fun z => (piece _ z).trans rfl
  nomatch hpc

/-- The block indices of grid point `t`, a head. -/
theorem idx : ∀ t : Fin cfg0.N, win0_0.index t = ![0, 38 + t.val] ∧ win0_1.index t = ![0, t.val] :=
  (by decide +kernel : ∀ t : Fin grid0.N, _)

theorem blk (t : Fin cfg0.N) (r : Fin 4096) (d : Fin 128) (i : Fin 4096) (z : Fin 256) (ei : (i : ℕ) = r) (ez : (z : ℕ) = t.val * 128 + d) :
    (iblk m c 0 t : Vec Bits S4096x128 .f32) (ix2 r d) = a0 m c (ix2 i (col z)) := by
  obtain rfl : i = r := Fin.ext ei
  have ek : ((col z : Fin 5120) : ℕ) = (38 + t.val) * 128 + d := by
    show 4864 + (z : ℕ) = _
    omega
  generalize col z = k at ek ⊢
  refine Eq.trans ?_ (congrFun (V_main_arg0 m c) (ix2 i k))
  obtain ⟨X, hV⟩ : ∃ X, V m c main_arg0 = X := ⟨_, rfl⟩
  rw [hV]
  show (iblk m c 0 t : Vec Bits S4096x128 .f32) (ix2 i d) = _
  blk_point [iblk, hV, idx t]

theorem final : (dats m 0 c).arrAt 1 cfg0.N = fun y : S4096x256.Idx => rd (a0 m c (ix2 (y 0) (col (y 1)))) := by
  refine (dats m 0 c).arrAt_eq_of_covers 1 _ (by decide +kernel) fun t hf y => ?_
  blk_simp
  have e0 : (((win0_1.blk t).view.emb y 0 : Fin 4096) : ℕ) = (y 0 : Fin 4096) := by blk_simp [idx t]
  have e1 : (((win0_1.blk t).view.emb y 1 : Fin 256) : ℕ) = t.val * 128 + (y 1 : Fin 128) := by blk_simp [idx t]
  rw [after0_1]
  refine (pay _ y).trans (congrArg rd ?_)
  refine (congrArg _ (ix2_eta (n0 := 4096) (n1 := 128) y).symm).trans ?_
  exact blk m c t (y 0) (y 1) _ _ e0 e1

/-- The reference's result: two slices and the rounding. -/
def out (x : Vec Bits S4096x5120 .f32) : Vec Bits S4096x256 .bf16 :=
  truncf (F := Bits) (φ := .f32) .bf16 (extractStridedSlice Cert.CcCR.S4096x256 ![0, 1024]
    (extractStridedSlice Cert.CcCR.S4096x1280 ![0, 3840] x Cert.CcCR.Gen.slices_S4096x5120_S4096x1280_0_3840)
    Cert.CcCR.Gen.slices_S4096x1280_S4096x256_0_1024) Cert.CcCR.Gen.bitsLt_bf16_f32

theorem ref (x : Vec Bits S4096x5120 .f32) (y : S4096x256.Idx) : out x y = rd (x (ix2 (y 0) (col (y 1)))) := by
  have h1 : (y 1).val < 256 := (y 1).isLt
  refine congrArg rd ((extractStridedSlice_apply ![0, 1024] _ Cert.CcCR.Gen.slices_S4096x1280_S4096x256_0_1024 y
    (ix2 (y 0) (⟨1024 + (y 1).val, by omega⟩ : Fin 1280)) (fun a => ?_)).trans
    (extractStridedSlice_apply ![0, 3840] x Cert.CcCR.Gen.slices_S4096x5120_S4096x1280_0_3840 _ (ix2 (y 0) (col (y 1))) (fun a => ?_)))
  · match a with
    | ⟨0, _⟩ => show (y 0).val = 0 + (y 0).val; omega
    | ⟨1, _⟩ => rfl
  · match a with
    | ⟨0, _⟩ => show (y 0).val = 0 + (y 0).val; omega
    | ⟨1, _⟩ => show 4864 + (y 1).val = 3840 + (1024 + (y 1).val); omega

theorem eq : out (a0 m c) = (dats m 0 c).arrAt 1 cfg0.N := by
  rw [final]
  funext y
  exact ref _ y

/-- The reference runs; its argument stays. -/
theorem frame_ref : Cert.quiescent_CcCR := fun m ρ _ =>
  (θ_run Cert.CcCR.defs _ _).mono (fun r h => ⟨fun c => (h c).2, sem_eq_zero_of_no_sems (by decide) r.2⟩)
    (Cert.CcCR.Value.run (F := Bits) m ρ)

theorem value : Cert.bitexact_CcCK_CcCR := by
  pair_intro
  · run_from Cert.CcCK.Gen.run_main m g
    all_goals first | exact V_main_arg0 m c | skip
  · run_from Cert.CcCR.Value.run m' g'
    exact eq m c

end Cert.CcCBits
end
-- ==== Proof.lean ====
/- The assembly: the claims about every call, each from its own module. -/
module

public import proofs.«01_k».proof.Defs
public import proofs.«01_k».proof.Proof.Gen.GateK
public import proofs.«01_k».proof.Proof.Gen.GateKIdeal
public import proofs.«01_k».proof.Proof.Gen.GateRIdeal
public import proofs.«01_k».proof.Proof.Gen.FlaCK
public import proofs.«01_k».proof.Proof.Gen.FlaCKIdeal
public import proofs.«01_k».proof.Proof.Gen.FlaCRIdeal
public import proofs.«01_k».proof.Proof.Gen.FlaAK
public import proofs.«01_k».proof.Proof.Gen.FlaAKIdeal
public import proofs.«01_k».proof.Proof.Gen.FlaARIdeal
public import proofs.«01_k».proof.Proof.Gen.NormK
public import proofs.«01_k».proof.Proof.Gen.NormKIdeal
public import proofs.«01_k».proof.Proof.Gen.NormRIdeal
public import proofs.«01_k».proof.Proof.Gen.NormAK
public import proofs.«01_k».proof.Proof.Gen.NormAKIdeal
public import proofs.«01_k».proof.Proof.Gen.NormARIdeal
public import proofs.«01_k».proof.Proof.Gen.NormBK
public import proofs.«01_k».proof.Proof.Gen.NormBKIdeal
public import proofs.«01_k».proof.Proof.Gen.NormBRIdeal
public import proofs.«01_k».proof.Proof.Gen.NormQK
public import proofs.«01_k».proof.Proof.Gen.NormQKIdeal
public import proofs.«01_k».proof.Proof.Gen.NormQRIdeal
public import proofs.«01_k».proof.Proof.Gen.NormCQK
public import proofs.«01_k».proof.Proof.Gen.NormCQKIdeal
public import proofs.«01_k».proof.Proof.Gen.NormCQRIdeal
public import proofs.«01_k».proof.Proof.Gen.NormCKK
public import proofs.«01_k».proof.Proof.Gen.NormCKKIdeal
public import proofs.«01_k».proof.Proof.Gen.NormCKRIdeal
public import proofs.«01_k».proof.Proof.Gen.RopeAK
public import proofs.«01_k».proof.Proof.Gen.RopeAKIdeal
public import proofs.«01_k».proof.Proof.Gen.RopeARIdeal
public import proofs.«01_k».proof.Proof.Gen.RopeBK
public import proofs.«01_k».proof.Proof.Gen.RopeBKIdeal
public import proofs.«01_k».proof.Proof.Gen.RopeBRIdeal
public import proofs.«01_k».proof.Proof.Gen.RopeCK
public import proofs.«01_k».proof.Proof.Gen.RopeCKIdeal
public import proofs.«01_k».proof.Proof.Gen.RopeCRIdeal
public import proofs.«01_k».proof.Proof.Gen.RopeCKK
public import proofs.«01_k».proof.Proof.Gen.RopeCKKIdeal
public import proofs.«01_k».proof.Proof.Gen.RopeCKRIdeal
public import proofs.«01_k».proof.Proof.Gen.LossK
public import proofs.«01_k».proof.Proof.Gen.LossKIdeal
public import proofs.«01_k».proof.Proof.Gen.LossRIdeal
public import proofs.«01_k».proof.Proof.Gen.FlfCK
public import proofs.«01_k».proof.Proof.Gen.FlfCKIdeal
public import proofs.«01_k».proof.Proof.Gen.FlfCRIdeal
public import proofs.«01_k».proof.Proof.Gen.FlfAK
public import proofs.«01_k».proof.Proof.Gen.FlfAKIdeal
public import proofs.«01_k».proof.Proof.Gen.FlfARIdeal
public import proofs.«01_k».proof.Proof.Gen.LatK
public import proofs.«01_k».proof.Proof.Gen.LatKIdeal
public import proofs.«01_k».proof.Proof.Gen.LatRIdeal
public import proofs.«01_k».proof.Proof.Gen.NfAK
public import proofs.«01_k».proof.Proof.Gen.NfAKIdeal
public import proofs.«01_k».proof.Proof.Gen.NfARIdeal
public import proofs.«01_k».proof.Proof.Gen.NfBK
public import proofs.«01_k».proof.Proof.Gen.NfBKIdeal
public import proofs.«01_k».proof.Proof.Gen.NfBRIdeal
public import proofs.«01_k».proof.Proof.Gen.NfDK
public import proofs.«01_k».proof.Proof.Gen.NfDKIdeal
public import proofs.«01_k».proof.Proof.Gen.NfDRIdeal
public import proofs.«01_k».proof.Proof.Gen.NfLK
public import proofs.«01_k».proof.Proof.Gen.NfLKIdeal
public import proofs.«01_k».proof.Proof.Gen.NfLRIdeal
public import proofs.«01_k».proof.Proof.Gen.NfQK
public import proofs.«01_k».proof.Proof.Gen.NfQKIdeal
public import proofs.«01_k».proof.Proof.Gen.NfQRIdeal
public import proofs.«01_k».proof.Proof.Gen.NfKK
public import proofs.«01_k».proof.Proof.Gen.NfKKIdeal
public import proofs.«01_k».proof.Proof.Gen.NfKRIdeal
public import proofs.«01_k».proof.Proof.Gen.RfAK
public import proofs.«01_k».proof.Proof.Gen.RfAKIdeal
public import proofs.«01_k».proof.Proof.Gen.RfARIdeal
public import proofs.«01_k».proof.Proof.Gen.RfBK
public import proofs.«01_k».proof.Proof.Gen.RfBKIdeal
public import proofs.«01_k».proof.Proof.Gen.RfBRIdeal
public import proofs.«01_k».proof.Proof.Gen.RfCK
public import proofs.«01_k».proof.Proof.Gen.RfCKIdeal
public import proofs.«01_k».proof.Proof.Gen.RfCRIdeal
public import proofs.«01_k».proof.Proof.Gen.RfKK
public import proofs.«01_k».proof.Proof.Gen.RfKKIdeal
public import proofs.«01_k».proof.Proof.Gen.RfKRIdeal
public import proofs.«01_k».proof.Proof.Gen.LkFK
public import proofs.«01_k».proof.Proof.Gen.LkFKIdeal
public import proofs.«01_k».proof.Proof.Gen.LkFRIdeal
public import proofs.«01_k».proof.Proof.Gen.FfUK
public import proofs.«01_k».proof.Proof.Gen.FfUKIdeal
public import proofs.«01_k».proof.Proof.Gen.FfURIdeal
public import proofs.«01_k».proof.Proof.Gen.CcBK
public import proofs.«01_k».proof.Proof.Gen.CcBKIdeal
public import proofs.«01_k».proof.Proof.Gen.CcBRIdeal
public import proofs.«01_k».proof.Proof.Gen.CcBR
public import proofs.«01_k».proof.Proof.Gen.CcCK
public import proofs.«01_k».proof.Proof.Gen.CcCKIdeal
public import proofs.«01_k».proof.Proof.Gen.CcCRIdeal
public import proofs.«01_k».proof.Proof.Gen.CcCR
public import proofs.«01_k».proof.Proof.Gen.MmK
public import proofs.«01_k».proof.Proof.Gen.MmKIdeal
public import proofs.«01_k».proof.Proof.Gen.MmRIdeal
public import proofs.«01_k».proof.Proof.Gen.FudK
public import proofs.«01_k».proof.Proof.Gen.FudKIdeal
public import proofs.«01_k».proof.Proof.Gen.FudRIdeal
public import proofs.«01_k».proof.Proof.Gen.AdwK
public import proofs.«01_k».proof.Proof.Gen.AdwKIdeal
public import proofs.«01_k».proof.Proof.Gen.AdwRIdeal
public import proofs.«01_k».proof.Proof.Gen.AdwDK
public import proofs.«01_k».proof.Proof.Gen.AdwDKIdeal
public import proofs.«01_k».proof.Proof.Gen.AdwDRIdeal
public import proofs.«01_k».proof.Proof.Gen.SadK
public import proofs.«01_k».proof.Proof.Gen.SadKIdeal
public import proofs.«01_k».proof.Proof.Gen.SadRIdeal
public import proofs.«01_k».proof.Proof.Gen.Pre_gate_finite
public import proofs.«01_k».proof.Proof.Gen.Pre_flac_finite
public import proofs.«01_k».proof.Proof.Gen.Pre_flaa_finite
public import proofs.«01_k».proof.Proof.Gen.Pre_norm_finite
public import proofs.«01_k».proof.Proof.Gen.Pre_norma_finite
public import proofs.«01_k».proof.Proof.Gen.Pre_normb_finite
public import proofs.«01_k».proof.Proof.Gen.Pre_normq_finite
public import proofs.«01_k».proof.Proof.Gen.Pre_normcq_finite
public import proofs.«01_k».proof.Proof.Gen.Pre_normck_finite
public import proofs.«01_k».proof.Proof.Gen.Pre_loss_finite
public import proofs.«01_k».proof.Proof.Gen.Pre_flfc_finite
public import proofs.«01_k».proof.Proof.Gen.Pre_flfa_finite
public import proofs.«01_k».proof.Proof.Gen.Pre_lat_finite
public import proofs.«01_k».proof.Proof.Gen.Pre_ffu_finite
public import proofs.«01_k».proof.Proof.Gen.GateK.Frame
public import proofs.«01_k».proof.Proof.Gen.GateKIdeal.Frame
public import proofs.«01_k».proof.Proof.Gen.FlaCK.Frame
public import proofs.«01_k».proof.Proof.Gen.FlaCKIdeal.Frame
public import proofs.«01_k».proof.Proof.Gen.FlaAK.Frame
public import proofs.«01_k».proof.Proof.Gen.FlaAKIdeal.Frame
public import proofs.«01_k».proof.Proof.Gen.NormK.Frame
public import proofs.«01_k».proof.Proof.Gen.NormKIdeal.Frame
public import proofs.«01_k».proof.Proof.Gen.NormAK.Frame
public import proofs.«01_k».proof.Proof.Gen.NormAKIdeal.Frame
public import proofs.«01_k».proof.Proof.Gen.NormBK.Frame
public import proofs.«01_k».proof.Proof.Gen.NormBKIdeal.Frame
public import proofs.«01_k».proof.Proof.Gen.NormQK.Frame
public import proofs.«01_k».proof.Proof.Gen.NormQKIdeal.Frame
public import proofs.«01_k».proof.Proof.Gen.NormCQK.Frame
public import proofs.«01_k».proof.Proof.Gen.NormCQKIdeal.Frame
public import proofs.«01_k».proof.Proof.Gen.NormCKK.Frame
public import proofs.«01_k».proof.Proof.Gen.NormCKKIdeal.Frame
public import proofs.«01_k».proof.Proof.Gen.RopeAK.Frame
public import proofs.«01_k».proof.Proof.Gen.RopeAKIdeal.Frame
public import proofs.«01_k».proof.Proof.Gen.RopeBK.Frame
public import proofs.«01_k».proof.Proof.Gen.RopeBKIdeal.Frame
public import proofs.«01_k».proof.Proof.Gen.RopeCK.Frame
public import proofs.«01_k».proof.Proof.Gen.RopeCKIdeal.Frame
public import proofs.«01_k».proof.Proof.Gen.RopeCKK.Frame
public import proofs.«01_k».proof.Proof.Gen.RopeCKKIdeal.Frame
public import proofs.«01_k».proof.Proof.Gen.LossK.Frame
public import proofs.«01_k».proof.Proof.Gen.LossKIdeal.Frame
public import proofs.«01_k».proof.Proof.Gen.FlfCK.Frame
public import proofs.«01_k».proof.Proof.Gen.FlfCKIdeal.Frame
public import proofs.«01_k».proof.Proof.Gen.FlfAK.Frame
public import proofs.«01_k».proof.Proof.Gen.FlfAKIdeal.Frame
public import proofs.«01_k».proof.Proof.Gen.LatK.Frame
public import proofs.«01_k».proof.Proof.Gen.LatKIdeal.Frame
public import proofs.«01_k».proof.Proof.Gen.NfAK.Frame
public import proofs.«01_k».proof.Proof.Gen.NfAKIdeal.Frame
public import proofs.«01_k».proof.Proof.Gen.NfBK.Frame
public import proofs.«01_k».proof.Proof.Gen.NfBKIdeal.Frame
public import proofs.«01_k».proof.Proof.Gen.NfDK.Frame
public import proofs.«01_k».proof.Proof.Gen.NfDKIdeal.Frame
public import proofs.«01_k».proof.Proof.Gen.NfLK.Frame
public import proofs.«01_k».proof.Proof.Gen.NfLKIdeal.Frame
public import proofs.«01_k».proof.Proof.Gen.NfQK.Frame
public import proofs.«01_k».proof.Proof.Gen.NfQKIdeal.Frame
public import proofs.«01_k».proof.Proof.Gen.NfKK.Frame
public import proofs.«01_k».proof.Proof.Gen.NfKKIdeal.Frame
public import proofs.«01_k».proof.Proof.Gen.RfAK.Frame
public import proofs.«01_k».proof.Proof.Gen.RfAKIdeal.Frame
public import proofs.«01_k».proof.Proof.Gen.RfBK.Frame
public import proofs.«01_k».proof.Proof.Gen.RfBKIdeal.Frame
public import proofs.«01_k».proof.Proof.Gen.RfCK.Frame
public import proofs.«01_k».proof.Proof.Gen.RfCKIdeal.Frame
public import proofs.«01_k».proof.Proof.Gen.RfKK.Frame
public import proofs.«01_k».proof.Proof.Gen.RfKKIdeal.Frame
public import proofs.«01_k».proof.Proof.Gen.LkFK.Frame
public import proofs.«01_k».proof.Proof.Gen.LkFKIdeal.Frame
public import proofs.«01_k».proof.Proof.Gen.FfUK.Frame
public import proofs.«01_k».proof.Proof.Gen.FfUKIdeal.Frame
public import proofs.«01_k».proof.Proof.Gen.CcBK.Frame
public import proofs.«01_k».proof.Proof.Gen.CcBKIdeal.Frame
public import proofs.«01_k».proof.Proof.Gen.CcCK.Frame
public import proofs.«01_k».proof.Proof.Gen.CcCKIdeal.Frame
public import proofs.«01_k».proof.Proof.Gen.MmK.Frame
public import proofs.«01_k».proof.Proof.Gen.MmKIdeal.Frame
public import proofs.«01_k».proof.Proof.Gen.FudK.Frame
public import proofs.«01_k».proof.Proof.Gen.FudKIdeal.Frame
public import proofs.«01_k».proof.Proof.Gen.AdwK.Frame
public import proofs.«01_k».proof.Proof.Gen.AdwKIdeal.Frame
public import proofs.«01_k».proof.Proof.Gen.AdwDK.Frame
public import proofs.«01_k».proof.Proof.Gen.AdwDKIdeal.Frame
public import proofs.«01_k».proof.Proof.Gen.SadK.Frame
public import proofs.«01_k».proof.Proof.Gen.SadKIdeal.Frame
public import proofs.«01_k».proof.Proof.Gen.AdwDKIdeal.Value
public import proofs.«01_k».proof.Proof.Gen.AdwDRIdeal.Read
public import proofs.«01_k».proof.Proof.Gen.AdwDRIdeal.Run
public import proofs.«01_k».proof.Proof.Gen.AdwKIdeal.Value
public import proofs.«01_k».proof.Proof.Gen.AdwRIdeal.Read
public import proofs.«01_k».proof.Proof.Gen.AdwRIdeal.Run
public import proofs.«01_k».proof.Proof.Gen.CcBKIdeal.Value
public import proofs.«01_k».proof.Proof.Gen.CcBR.Run
public import proofs.«01_k».proof.Proof.Gen.CcBRIdeal.Read
public import proofs.«01_k».proof.Proof.Gen.CcBRIdeal.Run
public import proofs.«01_k».proof.Proof.Gen.CcCKIdeal.Value
public import proofs.«01_k».proof.Proof.Gen.CcCR.Run
public import proofs.«01_k».proof.Proof.Gen.CcCRIdeal.Read
public import proofs.«01_k».proof.Proof.Gen.CcCRIdeal.Run
public import proofs.«01_k».proof.Proof.Gen.FfUKIdeal.Value
public import proofs.«01_k».proof.Proof.Gen.FfURIdeal.Read
public import proofs.«01_k».proof.Proof.Gen.FfURIdeal.Run
public import proofs.«01_k».proof.Proof.Gen.FlaARIdeal.Read
public import proofs.«01_k».proof.Proof.Gen.FlaARIdeal.Run
public import proofs.«01_k».proof.Proof.Gen.FlaCRIdeal.Read
public import proofs.«01_k».proof.Proof.Gen.FlaCRIdeal.Run
public import proofs.«01_k».proof.Proof.Gen.FlfAKIdeal.Value
public import proofs.«01_k».proof.Proof.Gen.FlfARIdeal.Read
public import proofs.«01_k».proof.Proof.Gen.FlfARIdeal.Run
public import proofs.«01_k».proof.Proof.Gen.FlfCKIdeal.Value
public import proofs.«01_k».proof.Proof.Gen.FlfCRIdeal.Read
public import proofs.«01_k».proof.Proof.Gen.FlfCRIdeal.Run
public import proofs.«01_k».proof.Proof.Gen.FudKIdeal.Value
public import proofs.«01_k».proof.Proof.Gen.FudRIdeal.Read
public import proofs.«01_k».proof.Proof.Gen.FudRIdeal.Run
public import proofs.«01_k».proof.Proof.Gen.GateKIdeal.Value
public import proofs.«01_k».proof.Proof.Gen.GateRIdeal.Read
public import proofs.«01_k».proof.Proof.Gen.GateRIdeal.Run
public import proofs.«01_k».proof.Proof.Gen.LatKIdeal.Value
public import proofs.«01_k».proof.Proof.Gen.LatRIdeal.Read
public import proofs.«01_k».proof.Proof.Gen.LatRIdeal.Run
public import proofs.«01_k».proof.Proof.Gen.LkFKIdeal.Value
public import proofs.«01_k».proof.Proof.Gen.LkFRIdeal.Read
public import proofs.«01_k».proof.Proof.Gen.LkFRIdeal.Run
public import proofs.«01_k».proof.Proof.Gen.LossKIdeal.Value
public import proofs.«01_k».proof.Proof.Gen.LossRIdeal.Read
public import proofs.«01_k».proof.Proof.Gen.LossRIdeal.Run
public import proofs.«01_k».proof.Proof.Gen.MmKIdeal.Value
public import proofs.«01_k».proof.Proof.Gen.MmRIdeal.Read
public import proofs.«01_k».proof.Proof.Gen.MmRIdeal.Run
public import proofs.«01_k».proof.Proof.Gen.NfAKIdeal.Value
public import proofs.«01_k».proof.Proof.Gen.NfARIdeal.Read
public import proofs.«01_k».proof.Proof.Gen.NfARIdeal.Run
public import proofs.«01_k».proof.Proof.Gen.NfBKIdeal.Value
public import proofs.«01_k».proof.Proof.Gen.NfBRIdeal.Read
public import proofs.«01_k».proof.Proof.Gen.NfBRIdeal.Run
public import proofs.«01_k».proof.Proof.Gen.NfDKIdeal.Value
public import proofs.«01_k».proof.Proof.Gen.NfDRIdeal.Read
public import proofs.«01_k».proof.Proof.Gen.NfDRIdeal.Run
public import proofs.«01_k».proof.Proof.Gen.NfKKIdeal.Value
public import proofs.«01_k».proof.Proof.Gen.NfKRIdeal.Read
public import proofs.«01_k».proof.Proof.Gen.NfKRIdeal.Run
public import proofs.«01_k».proof.Proof.Gen.NfLKIdeal.Value
public import proofs.«01_k».proof.Proof.Gen.NfLRIdeal.Read
public import proofs.«01_k».proof.Proof.Gen.NfLRIdeal.Run
public import proofs.«01_k».proof.Proof.Gen.NfQKIdeal.Value
public import proofs.«01_k».proof.Proof.Gen.NfQRIdeal.Read
public import proofs.«01_k».proof.Proof.Gen.NfQRIdeal.Run
public import proofs.«01_k».proof.Proof.Gen.NormAKIdeal.Value
public import proofs.«01_k».proof.Proof.Gen.NormARIdeal.Read
public import proofs.«01_k».proof.Proof.Gen.NormARIdeal.Run
public import proofs.«01_k».proof.Proof.Gen.NormBKIdeal.Value
public import proofs.«01_k».proof.Proof.Gen.NormBRIdeal.Read
public import proofs.«01_k».proof.Proof.Gen.NormBRIdeal.Run
public import proofs.«01_k».proof.Proof.Gen.NormCKKIdeal.Value
public import proofs.«01_k».proof.Proof.Gen.NormCKRIdeal.Read
public import proofs.«01_k».proof.Proof.Gen.NormCKRIdeal.Run
public import proofs.«01_k».proof.Proof.Gen.NormCQKIdeal.Value
public import proofs.«01_k».proof.Proof.Gen.NormCQRIdeal.Read
public import proofs.«01_k».proof.Proof.Gen.NormCQRIdeal.Run
public import proofs.«01_k».proof.Proof.Gen.NormKIdeal.Value
public import proofs.«01_k».proof.Proof.Gen.NormQKIdeal.Value
public import proofs.«01_k».proof.Proof.Gen.NormQRIdeal.Read
public import proofs.«01_k».proof.Proof.Gen.NormQRIdeal.Run
public import proofs.«01_k».proof.Proof.Gen.NormRIdeal.Read
public import proofs.«01_k».proof.Proof.Gen.NormRIdeal.Run
public import proofs.«01_k».proof.Proof.Gen.RfAKIdeal.Value
public import proofs.«01_k».proof.Proof.Gen.RfARIdeal.Read
public import proofs.«01_k».proof.Proof.Gen.RfARIdeal.Run
public import proofs.«01_k».proof.Proof.Gen.RfBKIdeal.Value
public import proofs.«01_k».proof.Proof.Gen.RfBRIdeal.Read
public import proofs.«01_k».proof.Proof.Gen.RfBRIdeal.Run
public import proofs.«01_k».proof.Proof.Gen.RfCKIdeal.Value
public import proofs.«01_k».proof.Proof.Gen.RfCRIdeal.Read
public import proofs.«01_k».proof.Proof.Gen.RfCRIdeal.Run
public import proofs.«01_k».proof.Proof.Gen.RfKKIdeal.Value
public import proofs.«01_k».proof.Proof.Gen.RfKRIdeal.Read
public import proofs.«01_k».proof.Proof.Gen.RfKRIdeal.Run
public import proofs.«01_k».proof.Proof.Gen.RopeAKIdeal.Value
public import proofs.«01_k».proof.Proof.Gen.RopeARIdeal.Read
public import proofs.«01_k».proof.Proof.Gen.RopeARIdeal.Run
public import proofs.«01_k».proof.Proof.Gen.RopeBKIdeal.Value
public import proofs.«01_k».proof.Proof.Gen.RopeBRIdeal.Read
public import proofs.«01_k».proof.Proof.Gen.RopeBRIdeal.Run
public import proofs.«01_k».proof.Proof.Gen.RopeCKIdeal.Value
public import proofs.«01_k».proof.Proof.Gen.RopeCKKIdeal.Value
public import proofs.«01_k».proof.Proof.Gen.RopeCKRIdeal.Read
public import proofs.«01_k».proof.Proof.Gen.RopeCKRIdeal.Run
public import proofs.«01_k».proof.Proof.Gen.RopeCRIdeal.Read
public import proofs.«01_k».proof.Proof.Gen.RopeCRIdeal.Run
public import proofs.«01_k».proof.Proof.Gen.SadKIdeal.Value
public import proofs.«01_k».proof.Proof.Gen.SadRIdeal.Read
public import proofs.«01_k».proof.Proof.Gen.SadRIdeal.Run
public import proofs.«01_k».proof.Proof.GateClaim
public import proofs.«01_k».proof.Proof.FlaCClaim
public import proofs.«01_k».proof.Proof.FlaAClaim
public import proofs.«01_k».proof.Proof.NormClaim
public import proofs.«01_k».proof.Proof.NormAClaim
public import proofs.«01_k».proof.Proof.NormBClaim
public import proofs.«01_k».proof.Proof.NormQClaim
public import proofs.«01_k».proof.Proof.NormCQClaim
public import proofs.«01_k».proof.Proof.NormCKClaim
public import proofs.«01_k».proof.Proof.RopeAClaim
public import proofs.«01_k».proof.Proof.RopeBClaim
public import proofs.«01_k».proof.Proof.RopeCClaim
public import proofs.«01_k».proof.Proof.RopeCKClaim
public import proofs.«01_k».proof.Proof.LossClaim
public import proofs.«01_k».proof.Proof.FlfCClaim
public import proofs.«01_k».proof.Proof.FlfAClaim
public import proofs.«01_k».proof.Proof.LatClaim
public import proofs.«01_k».proof.Proof.NfAClaim
public import proofs.«01_k».proof.Proof.NfBClaim
public import proofs.«01_k».proof.Proof.NfDClaim
public import proofs.«01_k».proof.Proof.NfLClaim
public import proofs.«01_k».proof.Proof.NfQClaim
public import proofs.«01_k».proof.Proof.NfKClaim
public import proofs.«01_k».proof.Proof.RfAClaim
public import proofs.«01_k».proof.Proof.RfBClaim
public import proofs.«01_k».proof.Proof.RfCClaim
public import proofs.«01_k».proof.Proof.RfKClaim
public import proofs.«01_k».proof.Proof.LkFClaim
public import proofs.«01_k».proof.Proof.FfUClaim
public import proofs.«01_k».proof.Proof.MmClaim
public import proofs.«01_k».proof.Proof.FudClaim
public import proofs.«01_k».proof.Proof.AdwClaim
public import proofs.«01_k».proof.Proof.AdwDClaim
public import proofs.«01_k».proof.Proof.SadClaim
public import proofs.«01_k».proof.Proof.CcBClaim
public import proofs.«01_k».proof.Proof.CcBBits
public import proofs.«01_k».proof.Proof.CcCClaim
public import proofs.«01_k».proof.Proof.CcCBits
public import Idealize.ShloMosaic.Adequacy
public import Idealize.ShloMosaic.Init

@[expose] public section

noncomputable section

namespace Cert.Proof

open Idealize.ShloMosaic Idealize.SL.Sem

theorem claim : Cert.Claim := by
  refine ⟨Cert.GateK.Gen.facts, Cert.GateKIdeal.Gen.facts, Cert.GateRIdeal.Gen.facts, Cert.FlaCK.Gen.facts, Cert.FlaCKIdeal.Gen.facts,
    Cert.FlaCRIdeal.Gen.facts, Cert.FlaAK.Gen.facts, Cert.FlaAKIdeal.Gen.facts, Cert.FlaARIdeal.Gen.facts, Cert.NormK.Gen.facts,
    Cert.NormKIdeal.Gen.facts, Cert.NormRIdeal.Gen.facts, Cert.NormAK.Gen.facts, Cert.NormAKIdeal.Gen.facts,
    Cert.NormARIdeal.Gen.facts, Cert.NormBK.Gen.facts, Cert.NormBKIdeal.Gen.facts, Cert.NormBRIdeal.Gen.facts,
    Cert.NormQK.Gen.facts, Cert.NormQKIdeal.Gen.facts, Cert.NormQRIdeal.Gen.facts, Cert.NormCQK.Gen.facts,
    Cert.NormCQKIdeal.Gen.facts, Cert.NormCQRIdeal.Gen.facts, Cert.NormCKK.Gen.facts, Cert.NormCKKIdeal.Gen.facts,
    Cert.NormCKRIdeal.Gen.facts, Cert.RopeAK.Gen.facts, Cert.RopeAKIdeal.Gen.facts, Cert.RopeARIdeal.Gen.facts,
    Cert.RopeBK.Gen.facts, Cert.RopeBKIdeal.Gen.facts, Cert.RopeBRIdeal.Gen.facts, Cert.RopeCK.Gen.facts,
    Cert.RopeCKIdeal.Gen.facts, Cert.RopeCRIdeal.Gen.facts, Cert.RopeCKK.Gen.facts, Cert.RopeCKKIdeal.Gen.facts,
    Cert.RopeCKRIdeal.Gen.facts, Cert.LossK.Gen.facts, Cert.LossKIdeal.Gen.facts, Cert.LossRIdeal.Gen.facts, Cert.FlfCK.Gen.facts,
    Cert.FlfCKIdeal.Gen.facts, Cert.FlfCRIdeal.Gen.facts, Cert.FlfAK.Gen.facts, Cert.FlfAKIdeal.Gen.facts,
    Cert.FlfARIdeal.Gen.facts, Cert.LatK.Gen.facts, Cert.LatKIdeal.Gen.facts, Cert.LatRIdeal.Gen.facts, Cert.NfAK.Gen.facts,
    Cert.NfAKIdeal.Gen.facts, Cert.NfARIdeal.Gen.facts, Cert.NfBK.Gen.facts, Cert.NfBKIdeal.Gen.facts, Cert.NfBRIdeal.Gen.facts,
    Cert.NfDK.Gen.facts, Cert.NfDKIdeal.Gen.facts, Cert.NfDRIdeal.Gen.facts, Cert.NfLK.Gen.facts, Cert.NfLKIdeal.Gen.facts,
    Cert.NfLRIdeal.Gen.facts, Cert.NfQK.Gen.facts, Cert.NfQKIdeal.Gen.facts, Cert.NfQRIdeal.Gen.facts, Cert.NfKK.Gen.facts,
    Cert.NfKKIdeal.Gen.facts, Cert.NfKRIdeal.Gen.facts, Cert.RfAK.Gen.facts, Cert.RfAKIdeal.Gen.facts, Cert.RfARIdeal.Gen.facts,
    Cert.RfBK.Gen.facts, Cert.RfBKIdeal.Gen.facts, Cert.RfBRIdeal.Gen.facts, Cert.RfCK.Gen.facts, Cert.RfCKIdeal.Gen.facts,
    Cert.RfCRIdeal.Gen.facts, Cert.RfKK.Gen.facts, Cert.RfKKIdeal.Gen.facts, Cert.RfKRIdeal.Gen.facts, Cert.LkFK.Gen.facts,
    Cert.LkFKIdeal.Gen.facts, Cert.LkFRIdeal.Gen.facts, Cert.FfUK.Gen.facts, Cert.FfUKIdeal.Gen.facts, Cert.FfURIdeal.Gen.facts,
    Cert.CcBK.Gen.facts, Cert.CcBKIdeal.Gen.facts, Cert.CcBRIdeal.Gen.facts, Cert.CcBR.Gen.facts, Cert.CcCK.Gen.facts,
    Cert.CcCKIdeal.Gen.facts, Cert.CcCRIdeal.Gen.facts, Cert.CcCR.Gen.facts, Cert.MmK.Gen.facts, Cert.MmKIdeal.Gen.facts,
    Cert.MmRIdeal.Gen.facts, Cert.FudK.Gen.facts, Cert.FudKIdeal.Gen.facts, Cert.FudRIdeal.Gen.facts, Cert.AdwK.Gen.facts,
    Cert.AdwKIdeal.Gen.facts, Cert.AdwRIdeal.Gen.facts, Cert.AdwDK.Gen.facts, Cert.AdwDKIdeal.Gen.facts,
    Cert.AdwDRIdeal.Gen.facts, Cert.SadK.Gen.facts, Cert.SadKIdeal.Gen.facts, Cert.SadRIdeal.Gen.facts,
    Cert.Pre_gate_finite.Gen.facts, Cert.Pre_flac_finite.Gen.facts, Cert.Pre_flaa_finite.Gen.facts,
    Cert.Pre_norm_finite.Gen.facts, Cert.Pre_norma_finite.Gen.facts, Cert.Pre_normb_finite.Gen.facts,
    Cert.Pre_normq_finite.Gen.facts, Cert.Pre_normcq_finite.Gen.facts, Cert.Pre_normck_finite.Gen.facts,
    Cert.Pre_loss_finite.Gen.facts, Cert.Pre_flfc_finite.Gen.facts, Cert.Pre_flfa_finite.Gen.facts, Cert.Pre_lat_finite.Gen.facts,
    Cert.Pre_ffu_finite.Gen.facts, ?_⟩
  exact ⟨fun m ρ _ => Cert.GateK.Gen.frame m ρ,
    fun m ρ _ => Cert.GateKIdeal.Gen.frame m ρ,
    fun m ρ _ => Cert.GateKIdeal.Gen.frame m ρ,
    Cert.GateEq.frame_ref,
    fun m ρ _ => Cert.GateEq.frame_ref m ρ trivial,
    fun m ρ _ => Cert.FlaCK.Gen.frame m ρ,
    fun m ρ _ => Cert.FlaCKIdeal.Gen.frame m ρ,
    fun m ρ _ => Cert.FlaCKIdeal.Gen.frame m ρ,
    Cert.FlaCEq.frame_ref,
    fun m ρ _ => Cert.FlaCEq.frame_ref m ρ trivial,
    fun m ρ _ => Cert.FlaAK.Gen.frame m ρ,
    fun m ρ _ => Cert.FlaAKIdeal.Gen.frame m ρ,
    fun m ρ _ => Cert.FlaAKIdeal.Gen.frame m ρ,
    Cert.FlaAEq.frame_ref,
    fun m ρ _ => Cert.FlaAEq.frame_ref m ρ trivial,
    fun m ρ _ => Cert.NormK.Gen.frame m ρ,
    fun m ρ _ => Cert.NormKIdeal.Gen.frame m ρ,
    fun m ρ _ => Cert.NormKIdeal.Gen.frame m ρ,
    Cert.NormEq.frame_ref,
    fun m ρ _ => Cert.NormEq.frame_ref m ρ trivial,
    fun m ρ _ => Cert.NormAK.Gen.frame m ρ,
    fun m ρ _ => Cert.NormAKIdeal.Gen.frame m ρ,
    fun m ρ _ => Cert.NormAKIdeal.Gen.frame m ρ,
    Cert.NormAEq.frame_ref,
    fun m ρ _ => Cert.NormAEq.frame_ref m ρ trivial,
    fun m ρ _ => Cert.NormBK.Gen.frame m ρ,
    fun m ρ _ => Cert.NormBKIdeal.Gen.frame m ρ,
    fun m ρ _ => Cert.NormBKIdeal.Gen.frame m ρ,
    Cert.NormBEq.frame_ref,
    fun m ρ _ => Cert.NormBEq.frame_ref m ρ trivial,
    fun m ρ _ => Cert.NormQK.Gen.frame m ρ,
    fun m ρ _ => Cert.NormQKIdeal.Gen.frame m ρ,
    fun m ρ _ => Cert.NormQKIdeal.Gen.frame m ρ,
    Cert.NormQEq.frame_ref,
    fun m ρ _ => Cert.NormQEq.frame_ref m ρ trivial,
    fun m ρ _ => Cert.NormCQK.Gen.frame m ρ,
    fun m ρ _ => Cert.NormCQKIdeal.Gen.frame m ρ,
    fun m ρ _ => Cert.NormCQKIdeal.Gen.frame m ρ,
    Cert.NormCQEq.frame_ref,
    fun m ρ _ => Cert.NormCQEq.frame_ref m ρ trivial,
    fun m ρ _ => Cert.NormCKK.Gen.frame m ρ,
    fun m ρ _ => Cert.NormCKKIdeal.Gen.frame m ρ,
    fun m ρ _ => Cert.NormCKKIdeal.Gen.frame m ρ,
    Cert.NormCKEq.frame_ref,
    fun m ρ _ => Cert.NormCKEq.frame_ref m ρ trivial,
    fun m ρ _ => Cert.RopeAK.Gen.frame m ρ,
    fun m ρ _ => Cert.RopeAKIdeal.Gen.frame m ρ,
    Cert.RopeAEq.frame_ref,
    fun m ρ _ => Cert.RopeBK.Gen.frame m ρ,
    fun m ρ _ => Cert.RopeBKIdeal.Gen.frame m ρ,
    Cert.RopeBEq.frame_ref,
    fun m ρ _ => Cert.RopeCK.Gen.frame m ρ,
    fun m ρ _ => Cert.RopeCKIdeal.Gen.frame m ρ,
    Cert.RopeCEq.frame_ref,
    fun m ρ _ => Cert.RopeCKK.Gen.frame m ρ,
    fun m ρ _ => Cert.RopeCKKIdeal.Gen.frame m ρ,
    Cert.RopeCKEq.frame_ref,
    fun m ρ _ => Cert.LossK.Gen.frame m ρ,
    fun m ρ _ => Cert.LossKIdeal.Gen.frame m ρ,
    fun m ρ _ => Cert.LossKIdeal.Gen.frame m ρ,
    Cert.LossEq.frame_ref,
    fun m ρ _ => Cert.LossEq.frame_ref m ρ trivial,
    fun m ρ _ => Cert.FlfCK.Gen.frame m ρ,
    fun m ρ _ => Cert.FlfCKIdeal.Gen.frame m ρ,
    fun m ρ _ => Cert.FlfCKIdeal.Gen.frame m ρ,
    Cert.FlfCEq.frame_ref,
    fun m ρ _ => Cert.FlfCEq.frame_ref m ρ trivial,
    fun m ρ _ => Cert.FlfAK.Gen.frame m ρ,
    fun m ρ _ => Cert.FlfAKIdeal.Gen.frame m ρ,
    fun m ρ _ => Cert.FlfAKIdeal.Gen.frame m ρ,
    Cert.FlfAEq.frame_ref,
    fun m ρ _ => Cert.FlfAEq.frame_ref m ρ trivial,
    fun m ρ _ => Cert.LatK.Gen.frame m ρ,
    fun m ρ _ => Cert.LatKIdeal.Gen.frame m ρ,
    fun m ρ _ => Cert.LatKIdeal.Gen.frame m ρ,
    Cert.LatEq.frame_ref,
    fun m ρ _ => Cert.LatEq.frame_ref m ρ trivial,
    fun m ρ _ => Cert.NfAK.Gen.frame m ρ,
    fun m ρ _ => Cert.NfAKIdeal.Gen.frame m ρ,
    Cert.NfAEq.frame_ref,
    fun m ρ _ => Cert.NfBK.Gen.frame m ρ,
    fun m ρ _ => Cert.NfBKIdeal.Gen.frame m ρ,
    Cert.NfBEq.frame_ref,
    fun m ρ _ => Cert.NfDK.Gen.frame m ρ,
    fun m ρ _ => Cert.NfDKIdeal.Gen.frame m ρ,
    Cert.NfDEq.frame_ref,
    fun m ρ _ => Cert.NfLK.Gen.frame m ρ,
    fun m ρ _ => Cert.NfLKIdeal.Gen.frame m ρ,
    Cert.NfLEq.frame_ref,
    fun m ρ _ => Cert.NfQK.Gen.frame m ρ,
    fun m ρ _ => Cert.NfQKIdeal.Gen.frame m ρ,
    Cert.NfQEq.frame_ref,
    fun m ρ _ => Cert.NfKK.Gen.frame m ρ,
    fun m ρ _ => Cert.NfKKIdeal.Gen.frame m ρ,
    Cert.NfKEq.frame_ref,
    fun m ρ _ => Cert.RfAK.Gen.frame m ρ,
    fun m ρ _ => Cert.RfAKIdeal.Gen.frame m ρ,
    Cert.RfAEq.frame_ref,
    fun m ρ _ => Cert.RfBK.Gen.frame m ρ,
    fun m ρ _ => Cert.RfBKIdeal.Gen.frame m ρ,
    Cert.RfBEq.frame_ref,
    fun m ρ _ => Cert.RfCK.Gen.frame m ρ,
    fun m ρ _ => Cert.RfCKIdeal.Gen.frame m ρ,
    Cert.RfCEq.frame_ref,
    fun m ρ _ => Cert.RfKK.Gen.frame m ρ,
    fun m ρ _ => Cert.RfKKIdeal.Gen.frame m ρ,
    Cert.RfKEq.frame_ref,
    fun m ρ _ => Cert.LkFK.Gen.frame m ρ,
    fun m ρ _ => Cert.LkFKIdeal.Gen.frame m ρ,
    Cert.LkFEq.frame_ref,
    fun m ρ _ => Cert.FfUK.Gen.frame m ρ,
    fun m ρ _ => Cert.FfUKIdeal.Gen.frame m ρ,
    fun m ρ _ => Cert.FfUKIdeal.Gen.frame m ρ,
    Cert.FfUEq.frame_ref,
    fun m ρ _ => Cert.FfUEq.frame_ref m ρ trivial,
    fun m ρ _ => Cert.CcBK.Gen.frame m ρ,
    fun m ρ _ => Cert.CcBKIdeal.Gen.frame m ρ,
    Cert.CcBEq.frame_ref,
    Cert.CcBBits.frame_ref,
    fun m ρ _ => Cert.CcCK.Gen.frame m ρ,
    fun m ρ _ => Cert.CcCKIdeal.Gen.frame m ρ,
    Cert.CcCEq.frame_ref,
    Cert.CcCBits.frame_ref,
    fun m ρ _ => Cert.MmK.Gen.frame m ρ,
    fun m ρ _ => Cert.MmKIdeal.Gen.frame m ρ,
    Cert.MmEq.frame_ref,
    fun m ρ _ => Cert.FudK.Gen.frame m ρ,
    fun m ρ _ => Cert.FudKIdeal.Gen.frame m ρ,
    Cert.FudEq.frame_ref,
    fun m ρ _ => Cert.AdwK.Gen.frame m ρ,
    fun m ρ _ => Cert.AdwKIdeal.Gen.frame m ρ,
    Cert.AdwEq.frame_ref,
    fun m ρ _ => Cert.AdwDK.Gen.frame m ρ,
    fun m ρ _ => Cert.AdwDKIdeal.Gen.frame m ρ,
    Cert.AdwDEq.frame_ref,
    fun m ρ _ => Cert.SadK.Gen.frame m ρ,
    fun m ρ _ => Cert.SadKIdeal.Gen.frame m ρ,
    Cert.SadEq.frame_ref,
    trivial,
    Cert.GateEq.value,
    ⟨IdealRules.named_const.statement _ _ _ _ _ rfl, IdealRules.named_const.statement _ _ _ _ _ rfl, IdealRules.named_const.statement _ _ _ _ _ rfl⟩,
    Cert.FlaCEq.value,
    ⟨IdealRules.named_const.statement _ _ _ _ _ rfl, IdealRules.named_const.statement _ _ _ _ _ rfl, IdealRules.named_const.statement _ _ _ _ _ rfl⟩,
    Cert.FlaAEq.value,
    trivial,
    Cert.NormEq.value,
    trivial,
    Cert.NormAEq.value,
    trivial,
    Cert.NormBEq.value,
    trivial,
    Cert.NormQEq.value,
    trivial,
    Cert.NormCQEq.value,
    trivial,
    Cert.NormCKEq.value,
    trivial,
    Cert.RopeAEq.value,
    trivial,
    Cert.RopeBEq.value,
    trivial,
    Cert.RopeCEq.value,
    trivial,
    Cert.RopeCKEq.value,
    trivial,
    Cert.LossEq.value,
    ⟨IdealRules.named_const.statement _ _ _ _ _ rfl, IdealRules.named_const.statement _ _ _ _ _ rfl⟩,
    Cert.FlfCEq.value,
    ⟨IdealRules.named_const.statement _ _ _ _ _ rfl, IdealRules.named_const.statement _ _ _ _ _ rfl⟩,
    Cert.FlfAEq.value,
    trivial,
    Cert.LatEq.value,
    trivial,
    Cert.NfAEq.value,
    trivial,
    Cert.NfBEq.value,
    trivial,
    Cert.NfDEq.value,
    trivial,
    Cert.NfLEq.value,
    trivial,
    Cert.NfQEq.value,
    trivial,
    Cert.NfKEq.value,
    trivial,
    Cert.RfAEq.value,
    trivial,
    Cert.RfBEq.value,
    trivial,
    Cert.RfCEq.value,
    trivial,
    Cert.RfKEq.value,
    trivial,
    Cert.LkFEq.value,
    trivial,
    Cert.FfUEq.value,
    trivial,
    Cert.CcBEq.value,
    Cert.CcBBits.value,
    trivial,
    Cert.CcCEq.value,
    Cert.CcCBits.value,
    trivial,
    Cert.MmEq.value,
    trivial,
    Cert.FudEq.value,
    trivial,
    Cert.AdwEq.value,
    trivial,
    Cert.AdwDEq.value,
    trivial,
    Cert.SadEq.value⟩

end Cert.Proof

end
